-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQReferenceIdeal (m : (ℓ : Loc Cert.CrossQReferenceIdeal.nD Cert.CrossQReferenceIdeal.τ Cert.CrossQReferenceIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutReferenceIdeal (m : (ℓ : Loc Cert.CrossOutReferenceIdeal.nD Cert.CrossOutReferenceIdeal.τ Cert.CrossOutReferenceIdeal.sig) → Buf (Elt Ideal) ℓ) : Prop :=
  True

def Pre_SharedExpert (m : (ℓ : Loc Cert.SharedExpert.nD Cert.SharedExpert.τ Cert.SharedExpert.sig) → Buf (Elt Bits) ℓ) : Prop :=
  True

def Pre_SharedExpertIdeal (m : (ℓ : Loc Cert.SharedExpertIdeal.nD Cert.SharedExpertIdeal.τ Cert.SharedExpertIdeal.sig) → Buf (Elt Ideal) ℓ) : Prop :=
  True

def Pre_SharedExpertReferenceIdeal (m : (ℓ : Loc Cert.SharedExpertReferenceIdeal.nD Cert.SharedExpertReferenceIdeal.τ Cert.SharedExpertReferenceIdeal.sig) → Buf (Elt Ideal) ℓ) : Prop :=
  True

def Pre_SharedExpertSample (m : (ℓ : Loc Cert.SharedExpertSample.nD Cert.SharedExpertSample.τ Cert.SharedExpertSample.sig) → Buf (Elt Bits) ℓ) : Prop :=
  True

def Pre_SharedExpertSampleIdeal (m : (ℓ : Loc Cert.SharedExpertSampleIdeal.nD Cert.SharedExpertSampleIdeal.τ Cert.SharedExpertSampleIdeal.sig) → Buf (Elt Ideal) ℓ) : Prop :=
  True

def Pre_SharedExpertSampleReferenceIdeal (m : (ℓ : Loc Cert.SharedExpertSampleReferenceIdeal.nD Cert.SharedExpertSampleReferenceIdeal.τ Cert.SharedExpertSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_experts_named [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQReferenceIdeal [hCrossQReferenceIdeal : Cert.CrossQReferenceIdeal.Facts] : Prop :=
  ∀ (m : (ℓ : Loc Cert.CrossQReferenceIdeal.nD Cert.CrossQReferenceIdeal.τ Cert.CrossQReferenceIdeal.sig) → Buf (Elt Ideal) ℓ) (g : Dev Cert.CrossQReferenceIdeal.nD → PrngReg), Pre_CrossQReferenceIdeal m →
    θ_run (Cert.CrossQReferenceIdeal.defs (F := Ideal)) (onTc (τ := Cert.CrossQReferenceIdeal.τ) (Cert.CrossQReferenceIdeal.main (F := Ideal))) ⟨m, fun _ => 0, g⟩ (fun r => (∀ c : Dev Cert.CrossQReferenceIdeal.nD,
      r.2.mem ((c.tc : Thread Cert.CrossQReferenceIdeal.nD Cert.CrossQReferenceIdeal.τ).loc Cert.CrossQReferenceIdeal.main_arg0) = m ((c.tc : Thread Cert.CrossQReferenceIdeal.nD Cert.CrossQReferenceIdeal.τ).loc Cert.CrossQReferenceIdeal.main_arg0)
      ∧ r.2.mem ((c.tc : Thread Cert.CrossQReferenceIdeal.nD Cert.CrossQReferenceIdeal.τ).loc Cert.CrossQReferenceIdeal.main_arg1) = m ((c.tc : Thread Cert.CrossQReferenceIdeal.nD Cert.CrossQReferenceIdeal.τ).loc Cert.CrossQReferenceIdeal.main_arg1))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2)
      ∧ r.2.mem ((c.tc : Thread Cert.CrossOut.nD Cert.CrossOut.τ).loc Cert.CrossOut.main_arg3) = m ((c.tc : Thread Cert.CrossOut.nD Cert.CrossOut.τ).loc Cert.CrossOut.main_arg3)
      ∧ r.2.mem ((c.tc : Thread Cert.CrossOut.nD Cert.CrossOut.τ).loc Cert.CrossOut.main_arg4) = m ((c.tc : Thread Cert.CrossOut.nD Cert.CrossOut.τ).loc Cert.CrossOut.main_arg4)
      ∧ r.2.mem ((c.tc : Thread Cert.CrossOut.nD Cert.CrossOut.τ).loc Cert.CrossOut.main_arg5) = m ((c.tc : Thread Cert.CrossOut.nD Cert.CrossOut.τ).loc Cert.CrossOut.main_arg5))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
      ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3)
      ∧ r.2.mem ((c.tc : Thread Cert.CrossOutIdeal.nD Cert.CrossOutIdeal.τ).loc Cert.CrossOutIdeal.main_arg4) = m ((c.tc : Thread Cert.CrossOutIdeal.nD Cert.CrossOutIdeal.τ).loc Cert.CrossOutIdeal.main_arg4)
      ∧ r.2.mem ((c.tc : Thread Cert.CrossOutIdeal.nD Cert.CrossOutIdeal.τ).loc Cert.CrossOutIdeal.main_arg5) = m ((c.tc : Thread Cert.CrossOutIdeal.nD Cert.CrossOutIdeal.τ).loc Cert.CrossOutIdeal.main_arg5))
      ∧ r.2.sem = fun _ => 0)

def quiescent_CrossOutReferenceIdeal [hCrossOutReferenceIdeal : Cert.CrossOutReferenceIdeal.Facts] : Prop :=
  ∀ (m : (ℓ : Loc Cert.CrossOutReferenceIdeal.nD Cert.CrossOutReferenceIdeal.τ Cert.CrossOutReferenceIdeal.sig) → Buf (Elt Ideal) ℓ) (g : Dev Cert.CrossOutReferenceIdeal.nD → PrngReg), Pre_CrossOutReferenceIdeal m →
    θ_run (Cert.CrossOutReferenceIdeal.defs (F := Ideal)) (onTc (τ := Cert.CrossOutReferenceIdeal.τ) (Cert.CrossOutReferenceIdeal.main (F := Ideal))) ⟨m, fun _ => 0, g⟩ (fun r => (∀ c : Dev Cert.CrossOutReferenceIdeal.nD,
      r.2.mem ((c.tc : Thread Cert.CrossOutReferenceIdeal.nD Cert.CrossOutReferenceIdeal.τ).loc Cert.CrossOutReferenceIdeal.main_arg0) = m ((c.tc : Thread Cert.CrossOutReferenceIdeal.nD Cert.CrossOutReferenceIdeal.τ).loc Cert.CrossOutReferenceIdeal.main_arg0)
      ∧ r.2.mem ((c.tc : Thread Cert.CrossOutReferenceIdeal.nD Cert.CrossOutReferenceIdeal.τ).loc Cert.CrossOutReferenceIdeal.main_arg1) = m ((c.tc : Thread Cert.CrossOutReferenceIdeal.nD Cert.CrossOutReferenceIdeal.τ).loc Cert.CrossOutReferenceIdeal.main_arg1)
      ∧ r.2.mem ((c.tc : Thread Cert.CrossOutReferenceIdeal.nD Cert.CrossOutReferenceIdeal.τ).loc Cert.CrossOutReferenceIdeal.main_arg2) = m ((c.tc : Thread Cert.CrossOutReferenceIdeal.nD Cert.CrossOutReferenceIdeal.τ).loc Cert.CrossOutReferenceIdeal.main_arg2)
      ∧ r.2.mem ((c.tc : Thread Cert.CrossOutReferenceIdeal.nD Cert.CrossOutReferenceIdeal.τ).loc Cert.CrossOutReferenceIdeal.main_arg3) = m ((c.tc : Thread Cert.CrossOutReferenceIdeal.nD Cert.CrossOutReferenceIdeal.τ).loc Cert.CrossOutReferenceIdeal.main_arg3)
      ∧ r.2.mem ((c.tc : Thread Cert.CrossOutReferenceIdeal.nD Cert.CrossOutReferenceIdeal.τ).loc Cert.CrossOutReferenceIdeal.main_arg4) = m ((c.tc : Thread Cert.CrossOutReferenceIdeal.nD Cert.CrossOutReferenceIdeal.τ).loc Cert.CrossOutReferenceIdeal.main_arg4)
      ∧ r.2.mem ((c.tc : Thread Cert.CrossOutReferenceIdeal.nD Cert.CrossOutReferenceIdeal.τ).loc Cert.CrossOutReferenceIdeal.main_arg5) = m ((c.tc : Thread Cert.CrossOutReferenceIdeal.nD Cert.CrossOutReferenceIdeal.τ).loc Cert.CrossOutReferenceIdeal.main_arg5))
      ∧ r.2.sem = fun _ => 0)

def quiescent_SharedExpert [hSharedExpert : Cert.SharedExpert.Facts] : Prop :=
  ∀ (m : (ℓ : Loc Cert.SharedExpert.nD Cert.SharedExpert.τ Cert.SharedExpert.sig) → Buf (Elt Bits) ℓ) (g : Dev Cert.SharedExpert.nD → PrngReg), Pre_SharedExpert m →
    θ_run (Cert.SharedExpert.defs (F := Bits)) (onTc (τ := Cert.SharedExpert.τ) (Cert.SharedExpert.main (F := Bits))) ⟨m, fun _ => 0, g⟩ (fun r => (∀ c : Dev Cert.SharedExpert.nD,
      r.2.mem ((c.tc : Thread Cert.SharedExpert.nD Cert.SharedExpert.τ).loc Cert.SharedExpert.main_arg0) = m ((c.tc : Thread Cert.SharedExpert.nD Cert.SharedExpert.τ).loc Cert.SharedExpert.main_arg0)
      ∧ r.2.mem ((c.tc : Thread Cert.SharedExpert.nD Cert.SharedExpert.τ).loc Cert.SharedExpert.main_arg1) = m ((c.tc : Thread Cert.SharedExpert.nD Cert.SharedExpert.τ).loc Cert.SharedExpert.main_arg1)
      ∧ r.2.mem ((c.tc : Thread Cert.SharedExpert.nD Cert.SharedExpert.τ).loc Cert.SharedExpert.main_arg2) = m ((c.tc : Thread Cert.SharedExpert.nD Cert.SharedExpert.τ).loc Cert.SharedExpert.main_arg2)
      ∧ r.2.mem ((c.tc : Thread Cert.SharedExpert.nD Cert.SharedExpert.τ).loc Cert.SharedExpert.main_arg3) = m ((c.tc : Thread Cert.SharedExpert.nD Cert.SharedExpert.τ).loc Cert.SharedExpert.main_arg3)
      ∧ r.2.mem ((c.tc : Thread Cert.SharedExpert.nD Cert.SharedExpert.τ).loc Cert.SharedExpert.main_arg4) = m ((c.tc : Thread Cert.SharedExpert.nD Cert.SharedExpert.τ).loc Cert.SharedExpert.main_arg4)
      ∧ r.2.mem ((c.tc : Thread Cert.SharedExpert.nD Cert.SharedExpert.τ).loc Cert.SharedExpert.main_arg5) = m ((c.tc : Thread Cert.SharedExpert.nD Cert.SharedExpert.τ).loc Cert.SharedExpert.main_arg5))
      ∧ r.2.sem = fun _ => 0)

def quiescent_SharedExpertIdeal [hSharedExpertIdeal : Cert.SharedExpertIdeal.Facts] : Prop :=
  ∀ (m : (ℓ : Loc Cert.SharedExpertIdeal.nD Cert.SharedExpertIdeal.τ Cert.SharedExpertIdeal.sig) → Buf (Elt Ideal) ℓ) (g : Dev Cert.SharedExpertIdeal.nD → PrngReg), Pre_SharedExpertIdeal m →
    θ_run (Cert.SharedExpertIdeal.defs (F := Ideal)) (onTc (τ := Cert.SharedExpertIdeal.τ) (Cert.SharedExpertIdeal.main (F := Ideal))) ⟨m, fun _ => 0, g⟩ (fun r => (∀ c : Dev Cert.SharedExpertIdeal.nD,
      r.2.mem ((c.tc : Thread Cert.SharedExpertIdeal.nD Cert.SharedExpertIdeal.τ).loc Cert.SharedExpertIdeal.main_arg0) = m ((c.tc : Thread Cert.SharedExpertIdeal.nD Cert.SharedExpertIdeal.τ).loc Cert.SharedExpertIdeal.main_arg0)
      ∧ r.2.mem ((c.tc : Thread Cert.SharedExpertIdeal.nD Cert.SharedExpertIdeal.τ).loc Cert.SharedExpertIdeal.main_arg1) = m ((c.tc : Thread Cert.SharedExpertIdeal.nD Cert.SharedExpertIdeal.τ).loc Cert.SharedExpertIdeal.main_arg1)
      ∧ r.2.mem ((c.tc : Thread Cert.SharedExpertIdeal.nD Cert.SharedExpertIdeal.τ).loc Cert.SharedExpertIdeal.main_arg2) = m ((c.tc : Thread Cert.SharedExpertIdeal.nD Cert.SharedExpertIdeal.τ).loc Cert.SharedExpertIdeal.main_arg2)
      ∧ r.2.mem ((c.tc : Thread Cert.SharedExpertIdeal.nD Cert.SharedExpertIdeal.τ).loc Cert.SharedExpertIdeal.main_arg3) = m ((c.tc : Thread Cert.SharedExpertIdeal.nD Cert.SharedExpertIdeal.τ).loc Cert.SharedExpertIdeal.main_arg3)
      ∧ r.2.mem ((c.tc : Thread Cert.SharedExpertIdeal.nD Cert.SharedExpertIdeal.τ).loc Cert.SharedExpertIdeal.main_arg4) = m ((c.tc : Thread Cert.SharedExpertIdeal.nD Cert.SharedExpertIdeal.τ).loc Cert.SharedExpertIdeal.main_arg4)
      ∧ r.2.mem ((c.tc : Thread Cert.SharedExpertIdeal.nD Cert.SharedExpertIdeal.τ).loc Cert.SharedExpertIdeal.main_arg5) = m ((c.tc : Thread Cert.SharedExpertIdeal.nD Cert.SharedExpertIdeal.τ).loc Cert.SharedExpertIdeal.main_arg5))
      ∧ r.2.sem = fun _ => 0)

def quiescent_SharedExpertReferenceIdeal [hSharedExpertReferenceIdeal : Cert.SharedExpertReferenceIdeal.Facts] : Prop :=
  ∀ (m : (ℓ : Loc Cert.SharedExpertReferenceIdeal.nD Cert.SharedExpertReferenceIdeal.τ Cert.SharedExpertReferenceIdeal.sig) → Buf (Elt Ideal) ℓ) (g : Dev Cert.SharedExpertReferenceIdeal.nD → PrngReg), Pre_SharedExpertReferenceIdeal m →
    θ_run (Cert.SharedExpertReferenceIdeal.defs (F := Ideal)) (onTc (τ := Cert.SharedExpertReferenceIdeal.τ) (Cert.SharedExpertReferenceIdeal.main (F := Ideal))) ⟨m, fun _ => 0, g⟩ (fun r => (∀ c : Dev Cert.SharedExpertReferenceIdeal.nD,
      r.2.mem ((c.tc : Thread Cert.SharedExpertReferenceIdeal.nD Cert.SharedExpertReferenceIdeal.τ).loc Cert.SharedExpertReferenceIdeal.main_arg0) = m ((c.tc : Thread Cert.SharedExpertReferenceIdeal.nD Cert.SharedExpertReferenceIdeal.τ).loc Cert.SharedExpertReferenceIdeal.main_arg0)
      ∧ r.2.mem ((c.tc : Thread Cert.SharedExpertReferenceIdeal.nD Cert.SharedExpertReferenceIdeal.τ).loc Cert.SharedExpertReferenceIdeal.main_arg1) = m ((c.tc : Thread Cert.SharedExpertReferenceIdeal.nD Cert.SharedExpertReferenceIdeal.τ).loc Cert.SharedExpertReferenceIdeal.main_arg1)
      ∧ r.2.mem ((c.tc : Thread Cert.SharedExpertReferenceIdeal.nD Cert.SharedExpertReferenceIdeal.τ).loc Cert.SharedExpertReferenceIdeal.main_arg2) = m ((c.tc : Thread Cert.SharedExpertReferenceIdeal.nD Cert.SharedExpertReferenceIdeal.τ).loc Cert.SharedExpertReferenceIdeal.main_arg2)
      ∧ r.2.mem ((c.tc : Thread Cert.SharedExpertReferenceIdeal.nD Cert.SharedExpertReferenceIdeal.τ).loc Cert.SharedExpertReferenceIdeal.main_arg3) = m ((c.tc : Thread Cert.SharedExpertReferenceIdeal.nD Cert.SharedExpertReferenceIdeal.τ).loc Cert.SharedExpertReferenceIdeal.main_arg3)
      ∧ r.2.mem ((c.tc : Thread Cert.SharedExpertReferenceIdeal.nD Cert.SharedExpertReferenceIdeal.τ).loc Cert.SharedExpertReferenceIdeal.main_arg4) = m ((c.tc : Thread Cert.SharedExpertReferenceIdeal.nD Cert.SharedExpertReferenceIdeal.τ).loc Cert.SharedExpertReferenceIdeal.main_arg4)
      ∧ r.2.mem ((c.tc : Thread Cert.SharedExpertReferenceIdeal.nD Cert.SharedExpertReferenceIdeal.τ).loc Cert.SharedExpertReferenceIdeal.main_arg5) = m ((c.tc : Thread Cert.SharedExpertReferenceIdeal.nD Cert.SharedExpertReferenceIdeal.τ).loc Cert.SharedExpertReferenceIdeal.main_arg5))
      ∧ r.2.sem = fun _ => 0)

def quiescent_SharedExpertSample [hSharedExpertSample : Cert.SharedExpertSample.Facts] : Prop :=
  ∀ (m : (ℓ : Loc Cert.SharedExpertSample.nD Cert.SharedExpertSample.τ Cert.SharedExpertSample.sig) → Buf (Elt Bits) ℓ) (g : Dev Cert.SharedExpertSample.nD → PrngReg), Pre_SharedExpertSample m →
    θ_run (Cert.SharedExpertSample.defs (F := Bits)) (onTc (τ := Cert.SharedExpertSample.τ) (Cert.SharedExpertSample.main (F := Bits))) ⟨m, fun _ => 0, g⟩ (fun r => (∀ c : Dev Cert.SharedExpertSample.nD,
      r.2.mem ((c.tc : Thread Cert.SharedExpertSample.nD Cert.SharedExpertSample.τ).loc Cert.SharedExpertSample.main_arg0) = m ((c.tc : Thread Cert.SharedExpertSample.nD Cert.SharedExpertSample.τ).loc Cert.SharedExpertSample.main_arg0)
      ∧ r.2.mem ((c.tc : Thread Cert.SharedExpertSample.nD Cert.SharedExpertSample.τ).loc Cert.SharedExpertSample.main_arg1) = m ((c.tc : Thread Cert.SharedExpertSample.nD Cert.SharedExpertSample.τ).loc Cert.SharedExpertSample.main_arg1)
      ∧ r.2.mem ((c.tc : Thread Cert.SharedExpertSample.nD Cert.SharedExpertSample.τ).loc Cert.SharedExpertSample.main_arg2) = m ((c.tc : Thread Cert.SharedExpertSample.nD Cert.SharedExpertSample.τ).loc Cert.SharedExpertSample.main_arg2)
      ∧ r.2.mem ((c.tc : Thread Cert.SharedExpertSample.nD Cert.SharedExpertSample.τ).loc Cert.SharedExpertSample.main_arg3) = m ((c.tc : Thread Cert.SharedExpertSample.nD Cert.SharedExpertSample.τ).loc Cert.SharedExpertSample.main_arg3)
      ∧ r.2.mem ((c.tc : Thread Cert.SharedExpertSample.nD Cert.SharedExpertSample.τ).loc Cert.SharedExpertSample.main_arg4) = m ((c.tc : Thread Cert.SharedExpertSample.nD Cert.SharedExpertSample.τ).loc Cert.SharedExpertSample.main_arg4)
      ∧ r.2.mem ((c.tc : Thread Cert.SharedExpertSample.nD Cert.SharedExpertSample.τ).loc Cert.SharedExpertSample.main_arg5) = m ((c.tc : Thread Cert.SharedExpertSample.nD Cert.SharedExpertSample.τ).loc Cert.SharedExpertSample.main_arg5))
      ∧ r.2.sem = fun _ => 0)

def quiescent_SharedExpertSampleIdeal [hSharedExpertSampleIdeal : Cert.SharedExpertSampleIdeal.Facts] : Prop :=
  ∀ (m : (ℓ : Loc Cert.SharedExpertSampleIdeal.nD Cert.SharedExpertSampleIdeal.τ Cert.SharedExpertSampleIdeal.sig) → Buf (Elt Ideal) ℓ) (g : Dev Cert.SharedExpertSampleIdeal.nD → PrngReg), Pre_SharedExpertSampleIdeal m →
    θ_run (Cert.SharedExpertSampleIdeal.defs (F := Ideal)) (onTc (τ := Cert.SharedExpertSampleIdeal.τ) (Cert.SharedExpertSampleIdeal.main (F := Ideal))) ⟨m, fun _ => 0, g⟩ (fun r => (∀ c : Dev Cert.SharedExpertSampleIdeal.nD,
      r.2.mem ((c.tc : Thread Cert.SharedExpertSampleIdeal.nD Cert.SharedExpertSampleIdeal.τ).loc Cert.SharedExpertSampleIdeal.main_arg0) = m ((c.tc : Thread Cert.SharedExpertSampleIdeal.nD Cert.SharedExpertSampleIdeal.τ).loc Cert.SharedExpertSampleIdeal.main_arg0)
      ∧ r.2.mem ((c.tc : Thread Cert.SharedExpertSampleIdeal.nD Cert.SharedExpertSampleIdeal.τ).loc Cert.SharedExpertSampleIdeal.main_arg1) = m ((c.tc : Thread Cert.SharedExpertSampleIdeal.nD Cert.SharedExpertSampleIdeal.τ).loc Cert.SharedExpertSampleIdeal.main_arg1)
      ∧ r.2.mem ((c.tc : Thread Cert.SharedExpertSampleIdeal.nD Cert.SharedExpertSampleIdeal.τ).loc Cert.SharedExpertSampleIdeal.main_arg2) = m ((c.tc : Thread Cert.SharedExpertSampleIdeal.nD Cert.SharedExpertSampleIdeal.τ).loc Cert.SharedExpertSampleIdeal.main_arg2)
      ∧ r.2.mem ((c.tc : Thread Cert.SharedExpertSampleIdeal.nD Cert.SharedExpertSampleIdeal.τ).loc Cert.SharedExpertSampleIdeal.main_arg3) = m ((c.tc : Thread Cert.SharedExpertSampleIdeal.nD Cert.SharedExpertSampleIdeal.τ).loc Cert.SharedExpertSampleIdeal.main_arg3)
      ∧ r.2.mem ((c.tc : Thread Cert.SharedExpertSampleIdeal.nD Cert.SharedExpertSampleIdeal.τ).loc Cert.SharedExpertSampleIdeal.main_arg4) = m ((c.tc : Thread Cert.SharedExpertSampleIdeal.nD Cert.SharedExpertSampleIdeal.τ).loc Cert.SharedExpertSampleIdeal.main_arg4)
      ∧ r.2.mem ((c.tc : Thread Cert.SharedExpertSampleIdeal.nD Cert.SharedExpertSampleIdeal.τ).loc Cert.SharedExpertSampleIdeal.main_arg5) = m ((c.tc : Thread Cert.SharedExpertSampleIdeal.nD Cert.SharedExpertSampleIdeal.τ).loc Cert.SharedExpertSampleIdeal.main_arg5))
      ∧ r.2.sem = fun _ => 0)

def quiescent_SharedExpertSampleReferenceIdeal [hSharedExpertSampleReferenceIdeal : Cert.SharedExpertSampleReferenceIdeal.Facts] : Prop :=
  ∀ (m : (ℓ : Loc Cert.SharedExpertSampleReferenceIdeal.nD Cert.SharedExpertSampleReferenceIdeal.τ Cert.SharedExpertSampleReferenceIdeal.sig) → Buf (Elt Ideal) ℓ) (g : Dev Cert.SharedExpertSampleReferenceIdeal.nD → PrngReg), Pre_SharedExpertSampleReferenceIdeal m →
    θ_run (Cert.SharedExpertSampleReferenceIdeal.defs (F := Ideal)) (onTc (τ := Cert.SharedExpertSampleReferenceIdeal.τ) (Cert.SharedExpertSampleReferenceIdeal.main (F := Ideal))) ⟨m, fun _ => 0, g⟩ (fun r => (∀ c : Dev Cert.SharedExpertSampleReferenceIdeal.nD,
      r.2.mem ((c.tc : Thread Cert.SharedExpertSampleReferenceIdeal.nD Cert.SharedExpertSampleReferenceIdeal.τ).loc Cert.SharedExpertSampleReferenceIdeal.main_arg0) = m ((c.tc : Thread Cert.SharedExpertSampleReferenceIdeal.nD Cert.SharedExpertSampleReferenceIdeal.τ).loc Cert.SharedExpertSampleReferenceIdeal.main_arg0)
      ∧ r.2.mem ((c.tc : Thread Cert.SharedExpertSampleReferenceIdeal.nD Cert.SharedExpertSampleReferenceIdeal.τ).loc Cert.SharedExpertSampleReferenceIdeal.main_arg1) = m ((c.tc : Thread Cert.SharedExpertSampleReferenceIdeal.nD Cert.SharedExpertSampleReferenceIdeal.τ).loc Cert.SharedExpertSampleReferenceIdeal.main_arg1)
      ∧ r.2.mem ((c.tc : Thread Cert.SharedExpertSampleReferenceIdeal.nD Cert.SharedExpertSampleReferenceIdeal.τ).loc Cert.SharedExpertSampleReferenceIdeal.main_arg2) = m ((c.tc : Thread Cert.SharedExpertSampleReferenceIdeal.nD Cert.SharedExpertSampleReferenceIdeal.τ).loc Cert.SharedExpertSampleReferenceIdeal.main_arg2)
      ∧ r.2.mem ((c.tc : Thread Cert.SharedExpertSampleReferenceIdeal.nD Cert.SharedExpertSampleReferenceIdeal.τ).loc Cert.SharedExpertSampleReferenceIdeal.main_arg3) = m ((c.tc : Thread Cert.SharedExpertSampleReferenceIdeal.nD Cert.SharedExpertSampleReferenceIdeal.τ).loc Cert.SharedExpertSampleReferenceIdeal.main_arg3)
      ∧ r.2.mem ((c.tc : Thread Cert.SharedExpertSampleReferenceIdeal.nD Cert.SharedExpertSampleReferenceIdeal.τ).loc Cert.SharedExpertSampleReferenceIdeal.main_arg4) = m ((c.tc : Thread Cert.SharedExpertSampleReferenceIdeal.nD Cert.SharedExpertSampleReferenceIdeal.τ).loc Cert.SharedExpertSampleReferenceIdeal.main_arg4)
      ∧ r.2.mem ((c.tc : Thread Cert.SharedExpertSampleReferenceIdeal.nD Cert.SharedExpertSampleReferenceIdeal.τ).loc Cert.SharedExpertSampleReferenceIdeal.main_arg5) = m ((c.tc : Thread Cert.SharedExpertSampleReferenceIdeal.nD Cert.SharedExpertSampleReferenceIdeal.τ).loc Cert.SharedExpertSampleReferenceIdeal.main_arg5))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsIdeal_pre_experts_named [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_experts_named m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v36_0)) (v1 : (c : Dev Cert.InProjIdeal.nD) → Buf (Elt Ideal) ((c.tc : Thread Cert.InProjIdeal.nD Cert.InProjIdeal.τ).loc Cert.InProjIdeal.main_v36_1)) (v2 : (c : Dev Cert.InProjIdeal.nD) → Buf (Elt Ideal) ((c.tc : Thread Cert.InProjIdeal.nD Cert.InProjIdeal.τ).loc Cert.InProjIdeal.main_v36_2)) (v3 : (c : Dev Cert.InProjIdeal.nD) → Buf (Elt Ideal) ((c.tc : Thread Cert.InProjIdeal.nD Cert.InProjIdeal.τ).loc Cert.InProjIdeal.main_v36_3)) (v4 : (c : Dev Cert.InProjIdeal.nD) → Buf (Elt Ideal) ((c.tc : Thread Cert.InProjIdeal.nD Cert.InProjIdeal.τ).loc Cert.InProjIdeal.main_v36_4)) (v5 : (c : Dev Cert.InProjIdeal.nD) → Buf (Elt Ideal) ((c.tc : Thread Cert.InProjIdeal.nD Cert.InProjIdeal.τ).loc Cert.InProjIdeal.main_v36_5)) (v6 : (c : Dev Cert.InProjIdeal.nD) → Buf (Elt Ideal) ((c.tc : Thread Cert.InProjIdeal.nD Cert.InProjIdeal.τ).loc Cert.InProjIdeal.main_v36_6)) (v7 : (c : Dev Cert.InProjIdeal.nD) → Buf (Elt Ideal) ((c.tc : Thread Cert.InProjIdeal.nD Cert.InProjIdeal.τ).loc Cert.InProjIdeal.main_v36_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v36_0) = v0 c
          ∧ r.2.mem ((c.tc : Thread Cert.InProjIdeal.nD Cert.InProjIdeal.τ).loc Cert.InProjIdeal.main_v36_1) = v1 c
          ∧ r.2.mem ((c.tc : Thread Cert.InProjIdeal.nD Cert.InProjIdeal.τ).loc Cert.InProjIdeal.main_v36_2) = v2 c
          ∧ r.2.mem ((c.tc : Thread Cert.InProjIdeal.nD Cert.InProjIdeal.τ).loc Cert.InProjIdeal.main_v36_3) = v3 c
          ∧ r.2.mem ((c.tc : Thread Cert.InProjIdeal.nD Cert.InProjIdeal.τ).loc Cert.InProjIdeal.main_v36_4) = v4 c
          ∧ r.2.mem ((c.tc : Thread Cert.InProjIdeal.nD Cert.InProjIdeal.τ).loc Cert.InProjIdeal.main_v36_5) = v5 c
          ∧ r.2.mem ((c.tc : Thread Cert.InProjIdeal.nD Cert.InProjIdeal.τ).loc Cert.InProjIdeal.main_v36_6) = v6 c
          ∧ r.2.mem ((c.tc : Thread Cert.InProjIdeal.nD Cert.InProjIdeal.τ).loc Cert.InProjIdeal.main_v36_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v96) = v0 c
          ∧ r.2.mem ((c.tc : Thread Cert.InProjReferenceIdeal.nD Cert.InProjReferenceIdeal.τ).loc Cert.InProjReferenceIdeal.main_v97) = v1 c
          ∧ r.2.mem ((c.tc : Thread Cert.InProjReferenceIdeal.nD Cert.InProjReferenceIdeal.τ).loc Cert.InProjReferenceIdeal.main_v98) = v2 c
          ∧ r.2.mem ((c.tc : Thread Cert.InProjReferenceIdeal.nD Cert.InProjReferenceIdeal.τ).loc Cert.InProjReferenceIdeal.main_v100) = v3 c
          ∧ r.2.mem ((c.tc : Thread Cert.InProjReferenceIdeal.nD Cert.InProjReferenceIdeal.τ).loc Cert.InProjReferenceIdeal.main_v102) = v4 c
          ∧ r.2.mem ((c.tc : Thread Cert.InProjReferenceIdeal.nD Cert.InProjReferenceIdeal.τ).loc Cert.InProjReferenceIdeal.main_v103) = v5 c
          ∧ r.2.mem ((c.tc : Thread Cert.InProjReferenceIdeal.nD Cert.InProjReferenceIdeal.τ).loc Cert.InProjReferenceIdeal.main_v104) = v6 c
          ∧ r.2.mem ((c.tc : Thread Cert.InProjReferenceIdeal.nD Cert.InProjReferenceIdeal.τ).loc Cert.InProjReferenceIdeal.main_v92) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v1) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_v30) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_CrossQ_CrossQIdeal : Prop :=
  True

def algebraic_CrossQIdeal_CrossQReferenceIdeal [hCrossQIdeal : Cert.CrossQIdeal.Facts] [hCrossQReferenceIdeal : Cert.CrossQReferenceIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQReferenceIdeal.nD Cert.CrossQReferenceIdeal.τ Cert.CrossQReferenceIdeal.sig) → Buf (Elt Ideal) ℓ) (g' : Dev Cert.CrossQReferenceIdeal.nD → PrngReg), Pre_CrossQIdeal m →
    (∀ c : Dev Cert.CrossQIdeal.nD,
      m' ((c.tc : Thread Cert.CrossQReferenceIdeal.nD Cert.CrossQReferenceIdeal.τ).loc Cert.CrossQReferenceIdeal.main_arg0) = m ((c.tc : Thread Cert.CrossQIdeal.nD Cert.CrossQIdeal.τ).loc Cert.CrossQIdeal.main_arg0)
      ∧ m' ((c.tc : Thread Cert.CrossQReferenceIdeal.nD Cert.CrossQReferenceIdeal.τ).loc Cert.CrossQReferenceIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v3)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v3) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQReferenceIdeal.defs (F := Ideal)) (onTc (τ := Cert.CrossQReferenceIdeal.τ) (Cert.CrossQReferenceIdeal.main (F := Ideal))) ⟨m', fun _ => 0, g'⟩ (fun r => ∀ c : Dev Cert.CrossQReferenceIdeal.nD,
          r.2.mem ((c.tc : Thread Cert.CrossQReferenceIdeal.nD Cert.CrossQReferenceIdeal.τ).loc Cert.CrossQReferenceIdeal.main_v1) = v0 c
          ∧ r.2.mem ((c.tc : Thread Cert.CrossQReferenceIdeal.nD Cert.CrossQReferenceIdeal.τ).loc Cert.CrossQReferenceIdeal.main_arg0) = m' ((c.tc : Thread Cert.CrossQReferenceIdeal.nD Cert.CrossQReferenceIdeal.τ).loc Cert.CrossQReferenceIdeal.main_arg0)
          ∧ r.2.mem ((c.tc : Thread Cert.CrossQReferenceIdeal.nD Cert.CrossQReferenceIdeal.τ).loc Cert.CrossQReferenceIdeal.main_arg1) = m' ((c.tc : Thread Cert.CrossQReferenceIdeal.nD Cert.CrossQReferenceIdeal.τ).loc Cert.CrossQReferenceIdeal.main_arg1))

def preserves_CrossOut_CrossOutIdeal : Prop :=
  True

def algebraic_CrossOutIdeal_CrossOutReferenceIdeal [hCrossOutIdeal : Cert.CrossOutIdeal.Facts] [hCrossOutReferenceIdeal : Cert.CrossOutReferenceIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutReferenceIdeal.nD Cert.CrossOutReferenceIdeal.τ Cert.CrossOutReferenceIdeal.sig) → Buf (Elt Ideal) ℓ) (g' : Dev Cert.CrossOutReferenceIdeal.nD → PrngReg), Pre_CrossOutIdeal m →
    (∀ c : Dev Cert.CrossOutIdeal.nD,
      m' ((c.tc : Thread Cert.CrossOutReferenceIdeal.nD Cert.CrossOutReferenceIdeal.τ).loc Cert.CrossOutReferenceIdeal.main_arg0) = m ((c.tc : Thread Cert.CrossOutIdeal.nD Cert.CrossOutIdeal.τ).loc Cert.CrossOutIdeal.main_arg0)
      ∧ m' ((c.tc : Thread Cert.CrossOutReferenceIdeal.nD Cert.CrossOutReferenceIdeal.τ).loc Cert.CrossOutReferenceIdeal.main_arg1) = m ((c.tc : Thread Cert.CrossOutIdeal.nD Cert.CrossOutIdeal.τ).loc Cert.CrossOutIdeal.main_arg1)
      ∧ m' ((c.tc : Thread Cert.CrossOutReferenceIdeal.nD Cert.CrossOutReferenceIdeal.τ).loc Cert.CrossOutReferenceIdeal.main_arg2) = m ((c.tc : Thread Cert.CrossOutIdeal.nD Cert.CrossOutIdeal.τ).loc Cert.CrossOutIdeal.main_arg2)
      ∧ m' ((c.tc : Thread Cert.CrossOutReferenceIdeal.nD Cert.CrossOutReferenceIdeal.τ).loc Cert.CrossOutReferenceIdeal.main_arg3) = m ((c.tc : Thread Cert.CrossOutIdeal.nD Cert.CrossOutIdeal.τ).loc Cert.CrossOutIdeal.main_arg3)
      ∧ m' ((c.tc : Thread Cert.CrossOutReferenceIdeal.nD Cert.CrossOutReferenceIdeal.τ).loc Cert.CrossOutReferenceIdeal.main_arg4) = m ((c.tc : Thread Cert.CrossOutIdeal.nD Cert.CrossOutIdeal.τ).loc Cert.CrossOutIdeal.main_arg4)
      ∧ m' ((c.tc : Thread Cert.CrossOutReferenceIdeal.nD Cert.CrossOutReferenceIdeal.τ).loc Cert.CrossOutReferenceIdeal.main_arg5) = m ((c.tc : Thread Cert.CrossOutIdeal.nD Cert.CrossOutIdeal.τ).loc Cert.CrossOutIdeal.main_arg5)) →
    ∃ (v0 : (c : Dev Cert.CrossOutIdeal.nD) → Buf (Elt Ideal) ((c.tc : Thread Cert.CrossOutIdeal.nD Cert.CrossOutIdeal.τ).loc Cert.CrossOutIdeal.main_v7_0)) (v1 : (c : Dev Cert.CrossOutIdeal.nD) → Buf (Elt Ideal) ((c.tc : Thread Cert.CrossOutIdeal.nD Cert.CrossOutIdeal.τ).loc Cert.CrossOutIdeal.main_v7_1)) (v2 : (c : Dev Cert.CrossOutIdeal.nD) → Buf (Elt Ideal) ((c.tc : Thread Cert.CrossOutIdeal.nD Cert.CrossOutIdeal.τ).loc Cert.CrossOutIdeal.main_v7_2)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v7_0) = v0 c
          ∧ r.2.mem ((c.tc : Thread Cert.CrossOutIdeal.nD Cert.CrossOutIdeal.τ).loc Cert.CrossOutIdeal.main_v7_1) = v1 c
          ∧ r.2.mem ((c.tc : Thread Cert.CrossOutIdeal.nD Cert.CrossOutIdeal.τ).loc Cert.CrossOutIdeal.main_v7_2) = v2 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
          ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3)
          ∧ r.2.mem ((c.tc : Thread Cert.CrossOutIdeal.nD Cert.CrossOutIdeal.τ).loc Cert.CrossOutIdeal.main_arg4) = m ((c.tc : Thread Cert.CrossOutIdeal.nD Cert.CrossOutIdeal.τ).loc Cert.CrossOutIdeal.main_arg4)
          ∧ r.2.mem ((c.tc : Thread Cert.CrossOutIdeal.nD Cert.CrossOutIdeal.τ).loc Cert.CrossOutIdeal.main_arg5) = m ((c.tc : Thread Cert.CrossOutIdeal.nD Cert.CrossOutIdeal.τ).loc Cert.CrossOutIdeal.main_arg5))
      ∧ θ_run (Cert.CrossOutReferenceIdeal.defs (F := Ideal)) (onTc (τ := Cert.CrossOutReferenceIdeal.τ) (Cert.CrossOutReferenceIdeal.main (F := Ideal))) ⟨m', fun _ => 0, g'⟩ (fun r => ∀ c : Dev Cert.CrossOutReferenceIdeal.nD,
          r.2.mem ((c.tc : Thread Cert.CrossOutReferenceIdeal.nD Cert.CrossOutReferenceIdeal.τ).loc Cert.CrossOutReferenceIdeal.main_v28) = v0 c
          ∧ r.2.mem ((c.tc : Thread Cert.CrossOutReferenceIdeal.nD Cert.CrossOutReferenceIdeal.τ).loc Cert.CrossOutReferenceIdeal.main_v29) = v1 c
          ∧ r.2.mem ((c.tc : Thread Cert.CrossOutReferenceIdeal.nD Cert.CrossOutReferenceIdeal.τ).loc Cert.CrossOutReferenceIdeal.main_v30) = v2 c
          ∧ r.2.mem ((c.tc : Thread Cert.CrossOutReferenceIdeal.nD Cert.CrossOutReferenceIdeal.τ).loc Cert.CrossOutReferenceIdeal.main_arg0) = m' ((c.tc : Thread Cert.CrossOutReferenceIdeal.nD Cert.CrossOutReferenceIdeal.τ).loc Cert.CrossOutReferenceIdeal.main_arg0)
          ∧ r.2.mem ((c.tc : Thread Cert.CrossOutReferenceIdeal.nD Cert.CrossOutReferenceIdeal.τ).loc Cert.CrossOutReferenceIdeal.main_arg1) = m' ((c.tc : Thread Cert.CrossOutReferenceIdeal.nD Cert.CrossOutReferenceIdeal.τ).loc Cert.CrossOutReferenceIdeal.main_arg1)
          ∧ r.2.mem ((c.tc : Thread Cert.CrossOutReferenceIdeal.nD Cert.CrossOutReferenceIdeal.τ).loc Cert.CrossOutReferenceIdeal.main_arg2) = m' ((c.tc : Thread Cert.CrossOutReferenceIdeal.nD Cert.CrossOutReferenceIdeal.τ).loc Cert.CrossOutReferenceIdeal.main_arg2)
          ∧ r.2.mem ((c.tc : Thread Cert.CrossOutReferenceIdeal.nD Cert.CrossOutReferenceIdeal.τ).loc Cert.CrossOutReferenceIdeal.main_arg3) = m' ((c.tc : Thread Cert.CrossOutReferenceIdeal.nD Cert.CrossOutReferenceIdeal.τ).loc Cert.CrossOutReferenceIdeal.main_arg3)
          ∧ r.2.mem ((c.tc : Thread Cert.CrossOutReferenceIdeal.nD Cert.CrossOutReferenceIdeal.τ).loc Cert.CrossOutReferenceIdeal.main_arg4) = m' ((c.tc : Thread Cert.CrossOutReferenceIdeal.nD Cert.CrossOutReferenceIdeal.τ).loc Cert.CrossOutReferenceIdeal.main_arg4)
          ∧ r.2.mem ((c.tc : Thread Cert.CrossOutReferenceIdeal.nD Cert.CrossOutReferenceIdeal.τ).loc Cert.CrossOutReferenceIdeal.main_arg5) = m' ((c.tc : Thread Cert.CrossOutReferenceIdeal.nD Cert.CrossOutReferenceIdeal.τ).loc Cert.CrossOutReferenceIdeal.main_arg5))

def preserves_SharedExpert_SharedExpertIdeal : Prop :=
  True

def algebraic_SharedExpertIdeal_SharedExpertReferenceIdeal [hSharedExpertIdeal : Cert.SharedExpertIdeal.Facts] [hSharedExpertReferenceIdeal : Cert.SharedExpertReferenceIdeal.Facts] : Prop :=
  ∀ (m : (ℓ : Loc Cert.SharedExpertIdeal.nD Cert.SharedExpertIdeal.τ Cert.SharedExpertIdeal.sig) → Buf (Elt Ideal) ℓ) (g : Dev Cert.SharedExpertIdeal.nD → PrngReg)
    (m' : (ℓ : Loc Cert.SharedExpertReferenceIdeal.nD Cert.SharedExpertReferenceIdeal.τ Cert.SharedExpertReferenceIdeal.sig) → Buf (Elt Ideal) ℓ) (g' : Dev Cert.SharedExpertReferenceIdeal.nD → PrngReg), Pre_SharedExpertIdeal m →
    (∀ c : Dev Cert.SharedExpertIdeal.nD,
      m' ((c.tc : Thread Cert.SharedExpertReferenceIdeal.nD Cert.SharedExpertReferenceIdeal.τ).loc Cert.SharedExpertReferenceIdeal.main_arg0) = m ((c.tc : Thread Cert.SharedExpertIdeal.nD Cert.SharedExpertIdeal.τ).loc Cert.SharedExpertIdeal.main_arg0)
      ∧ m' ((c.tc : Thread Cert.SharedExpertReferenceIdeal.nD Cert.SharedExpertReferenceIdeal.τ).loc Cert.SharedExpertReferenceIdeal.main_arg1) = m ((c.tc : Thread Cert.SharedExpertIdeal.nD Cert.SharedExpertIdeal.τ).loc Cert.SharedExpertIdeal.main_arg1)
      ∧ m' ((c.tc : Thread Cert.SharedExpertReferenceIdeal.nD Cert.SharedExpertReferenceIdeal.τ).loc Cert.SharedExpertReferenceIdeal.main_arg2) = m ((c.tc : Thread Cert.SharedExpertIdeal.nD Cert.SharedExpertIdeal.τ).loc Cert.SharedExpertIdeal.main_arg2)
      ∧ m' ((c.tc : Thread Cert.SharedExpertReferenceIdeal.nD Cert.SharedExpertReferenceIdeal.τ).loc Cert.SharedExpertReferenceIdeal.main_arg3) = m ((c.tc : Thread Cert.SharedExpertIdeal.nD Cert.SharedExpertIdeal.τ).loc Cert.SharedExpertIdeal.main_arg3)
      ∧ m' ((c.tc : Thread Cert.SharedExpertReferenceIdeal.nD Cert.SharedExpertReferenceIdeal.τ).loc Cert.SharedExpertReferenceIdeal.main_arg4) = m ((c.tc : Thread Cert.SharedExpertIdeal.nD Cert.SharedExpertIdeal.τ).loc Cert.SharedExpertIdeal.main_arg4)
      ∧ m' ((c.tc : Thread Cert.SharedExpertReferenceIdeal.nD Cert.SharedExpertReferenceIdeal.τ).loc Cert.SharedExpertReferenceIdeal.main_arg5) = m ((c.tc : Thread Cert.SharedExpertIdeal.nD Cert.SharedExpertIdeal.τ).loc Cert.SharedExpertIdeal.main_arg5)) →
    ∃ (v0 : (c : Dev Cert.SharedExpertIdeal.nD) → Buf (Elt Ideal) ((c.tc : Thread Cert.SharedExpertIdeal.nD Cert.SharedExpertIdeal.τ).loc Cert.SharedExpertIdeal.main_v6)),
      θ_run (Cert.SharedExpertIdeal.defs (F := Ideal)) (onTc (τ := Cert.SharedExpertIdeal.τ) (Cert.SharedExpertIdeal.main (F := Ideal))) ⟨m, fun _ => 0, g⟩ (fun r => ∀ c : Dev Cert.SharedExpertIdeal.nD,
          r.2.mem ((c.tc : Thread Cert.SharedExpertIdeal.nD Cert.SharedExpertIdeal.τ).loc Cert.SharedExpertIdeal.main_v6) = v0 c
          ∧ r.2.mem ((c.tc : Thread Cert.SharedExpertIdeal.nD Cert.SharedExpertIdeal.τ).loc Cert.SharedExpertIdeal.main_arg0) = m ((c.tc : Thread Cert.SharedExpertIdeal.nD Cert.SharedExpertIdeal.τ).loc Cert.SharedExpertIdeal.main_arg0)
          ∧ r.2.mem ((c.tc : Thread Cert.SharedExpertIdeal.nD Cert.SharedExpertIdeal.τ).loc Cert.SharedExpertIdeal.main_arg1) = m ((c.tc : Thread Cert.SharedExpertIdeal.nD Cert.SharedExpertIdeal.τ).loc Cert.SharedExpertIdeal.main_arg1)
          ∧ r.2.mem ((c.tc : Thread Cert.SharedExpertIdeal.nD Cert.SharedExpertIdeal.τ).loc Cert.SharedExpertIdeal.main_arg2) = m ((c.tc : Thread Cert.SharedExpertIdeal.nD Cert.SharedExpertIdeal.τ).loc Cert.SharedExpertIdeal.main_arg2)
          ∧ r.2.mem ((c.tc : Thread Cert.SharedExpertIdeal.nD Cert.SharedExpertIdeal.τ).loc Cert.SharedExpertIdeal.main_arg3) = m ((c.tc : Thread Cert.SharedExpertIdeal.nD Cert.SharedExpertIdeal.τ).loc Cert.SharedExpertIdeal.main_arg3)
          ∧ r.2.mem ((c.tc : Thread Cert.SharedExpertIdeal.nD Cert.SharedExpertIdeal.τ).loc Cert.SharedExpertIdeal.main_arg4) = m ((c.tc : Thread Cert.SharedExpertIdeal.nD Cert.SharedExpertIdeal.τ).loc Cert.SharedExpertIdeal.main_arg4)
          ∧ r.2.mem ((c.tc : Thread Cert.SharedExpertIdeal.nD Cert.SharedExpertIdeal.τ).loc Cert.SharedExpertIdeal.main_arg5) = m ((c.tc : Thread Cert.SharedExpertIdeal.nD Cert.SharedExpertIdeal.τ).loc Cert.SharedExpertIdeal.main_arg5))
      ∧ θ_run (Cert.SharedExpertReferenceIdeal.defs (F := Ideal)) (onTc (τ := Cert.SharedExpertReferenceIdeal.τ) (Cert.SharedExpertReferenceIdeal.main (F := Ideal))) ⟨m', fun _ => 0, g'⟩ (fun r => ∀ c : Dev Cert.SharedExpertReferenceIdeal.nD,
          r.2.mem ((c.tc : Thread Cert.SharedExpertReferenceIdeal.nD Cert.SharedExpertReferenceIdeal.τ).loc Cert.SharedExpertReferenceIdeal.main_v34) = v0 c
          ∧ r.2.mem ((c.tc : Thread Cert.SharedExpertReferenceIdeal.nD Cert.SharedExpertReferenceIdeal.τ).loc Cert.SharedExpertReferenceIdeal.main_arg0) = m' ((c.tc : Thread Cert.SharedExpertReferenceIdeal.nD Cert.SharedExpertReferenceIdeal.τ).loc Cert.SharedExpertReferenceIdeal.main_arg0)
          ∧ r.2.mem ((c.tc : Thread Cert.SharedExpertReferenceIdeal.nD Cert.SharedExpertReferenceIdeal.τ).loc Cert.SharedExpertReferenceIdeal.main_arg1) = m' ((c.tc : Thread Cert.SharedExpertReferenceIdeal.nD Cert.SharedExpertReferenceIdeal.τ).loc Cert.SharedExpertReferenceIdeal.main_arg1)
          ∧ r.2.mem ((c.tc : Thread Cert.SharedExpertReferenceIdeal.nD Cert.SharedExpertReferenceIdeal.τ).loc Cert.SharedExpertReferenceIdeal.main_arg2) = m' ((c.tc : Thread Cert.SharedExpertReferenceIdeal.nD Cert.SharedExpertReferenceIdeal.τ).loc Cert.SharedExpertReferenceIdeal.main_arg2)
          ∧ r.2.mem ((c.tc : Thread Cert.SharedExpertReferenceIdeal.nD Cert.SharedExpertReferenceIdeal.τ).loc Cert.SharedExpertReferenceIdeal.main_arg3) = m' ((c.tc : Thread Cert.SharedExpertReferenceIdeal.nD Cert.SharedExpertReferenceIdeal.τ).loc Cert.SharedExpertReferenceIdeal.main_arg3)
          ∧ r.2.mem ((c.tc : Thread Cert.SharedExpertReferenceIdeal.nD Cert.SharedExpertReferenceIdeal.τ).loc Cert.SharedExpertReferenceIdeal.main_arg4) = m' ((c.tc : Thread Cert.SharedExpertReferenceIdeal.nD Cert.SharedExpertReferenceIdeal.τ).loc Cert.SharedExpertReferenceIdeal.main_arg4)
          ∧ r.2.mem ((c.tc : Thread Cert.SharedExpertReferenceIdeal.nD Cert.SharedExpertReferenceIdeal.τ).loc Cert.SharedExpertReferenceIdeal.main_arg5) = m' ((c.tc : Thread Cert.SharedExpertReferenceIdeal.nD Cert.SharedExpertReferenceIdeal.τ).loc Cert.SharedExpertReferenceIdeal.main_arg5))

def preserves_SharedExpertSample_SharedExpertSampleIdeal : Prop :=
  True

def algebraic_SharedExpertSampleIdeal_SharedExpertSampleReferenceIdeal [hSharedExpertSampleIdeal : Cert.SharedExpertSampleIdeal.Facts] [hSharedExpertSampleReferenceIdeal : Cert.SharedExpertSampleReferenceIdeal.Facts] : Prop :=
  ∀ (m : (ℓ : Loc Cert.SharedExpertSampleIdeal.nD Cert.SharedExpertSampleIdeal.τ Cert.SharedExpertSampleIdeal.sig) → Buf (Elt Ideal) ℓ) (g : Dev Cert.SharedExpertSampleIdeal.nD → PrngReg)
    (m' : (ℓ : Loc Cert.SharedExpertSampleReferenceIdeal.nD Cert.SharedExpertSampleReferenceIdeal.τ Cert.SharedExpertSampleReferenceIdeal.sig) → Buf (Elt Ideal) ℓ) (g' : Dev Cert.SharedExpertSampleReferenceIdeal.nD → PrngReg), Pre_SharedExpertSampleIdeal m →
    (∀ c : Dev Cert.SharedExpertSampleIdeal.nD,
      m' ((c.tc : Thread Cert.SharedExpertSampleReferenceIdeal.nD Cert.SharedExpertSampleReferenceIdeal.τ).loc Cert.SharedExpertSampleReferenceIdeal.main_arg0) = m ((c.tc : Thread Cert.SharedExpertSampleIdeal.nD Cert.SharedExpertSampleIdeal.τ).loc Cert.SharedExpertSampleIdeal.main_arg0)
      ∧ m' ((c.tc : Thread Cert.SharedExpertSampleReferenceIdeal.nD Cert.SharedExpertSampleReferenceIdeal.τ).loc Cert.SharedExpertSampleReferenceIdeal.main_arg1) = m ((c.tc : Thread Cert.SharedExpertSampleIdeal.nD Cert.SharedExpertSampleIdeal.τ).loc Cert.SharedExpertSampleIdeal.main_arg1)
      ∧ m' ((c.tc : Thread Cert.SharedExpertSampleReferenceIdeal.nD Cert.SharedExpertSampleReferenceIdeal.τ).loc Cert.SharedExpertSampleReferenceIdeal.main_arg2) = m ((c.tc : Thread Cert.SharedExpertSampleIdeal.nD Cert.SharedExpertSampleIdeal.τ).loc Cert.SharedExpertSampleIdeal.main_arg2)
      ∧ m' ((c.tc : Thread Cert.SharedExpertSampleReferenceIdeal.nD Cert.SharedExpertSampleReferenceIdeal.τ).loc Cert.SharedExpertSampleReferenceIdeal.main_arg3) = m ((c.tc : Thread Cert.SharedExpertSampleIdeal.nD Cert.SharedExpertSampleIdeal.τ).loc Cert.SharedExpertSampleIdeal.main_arg3)
      ∧ m' ((c.tc : Thread Cert.SharedExpertSampleReferenceIdeal.nD Cert.SharedExpertSampleReferenceIdeal.τ).loc Cert.SharedExpertSampleReferenceIdeal.main_arg4) = m ((c.tc : Thread Cert.SharedExpertSampleIdeal.nD Cert.SharedExpertSampleIdeal.τ).loc Cert.SharedExpertSampleIdeal.main_arg4)
      ∧ m' ((c.tc : Thread Cert.SharedExpertSampleReferenceIdeal.nD Cert.SharedExpertSampleReferenceIdeal.τ).loc Cert.SharedExpertSampleReferenceIdeal.main_arg5) = m ((c.tc : Thread Cert.SharedExpertSampleIdeal.nD Cert.SharedExpertSampleIdeal.τ).loc Cert.SharedExpertSampleIdeal.main_arg5)) →
    ∃ (v0 : (c : Dev Cert.SharedExpertSampleIdeal.nD) → Buf (Elt Ideal) ((c.tc : Thread Cert.SharedExpertSampleIdeal.nD Cert.SharedExpertSampleIdeal.τ).loc Cert.SharedExpertSampleIdeal.main_v6)),
      θ_run (Cert.SharedExpertSampleIdeal.defs (F := Ideal)) (onTc (τ := Cert.SharedExpertSampleIdeal.τ) (Cert.SharedExpertSampleIdeal.main (F := Ideal))) ⟨m, fun _ => 0, g⟩ (fun r => ∀ c : Dev Cert.SharedExpertSampleIdeal.nD,
          r.2.mem ((c.tc : Thread Cert.SharedExpertSampleIdeal.nD Cert.SharedExpertSampleIdeal.τ).loc Cert.SharedExpertSampleIdeal.main_v6) = v0 c
          ∧ r.2.mem ((c.tc : Thread Cert.SharedExpertSampleIdeal.nD Cert.SharedExpertSampleIdeal.τ).loc Cert.SharedExpertSampleIdeal.main_arg0) = m ((c.tc : Thread Cert.SharedExpertSampleIdeal.nD Cert.SharedExpertSampleIdeal.τ).loc Cert.SharedExpertSampleIdeal.main_arg0)
          ∧ r.2.mem ((c.tc : Thread Cert.SharedExpertSampleIdeal.nD Cert.SharedExpertSampleIdeal.τ).loc Cert.SharedExpertSampleIdeal.main_arg1) = m ((c.tc : Thread Cert.SharedExpertSampleIdeal.nD Cert.SharedExpertSampleIdeal.τ).loc Cert.SharedExpertSampleIdeal.main_arg1)
          ∧ r.2.mem ((c.tc : Thread Cert.SharedExpertSampleIdeal.nD Cert.SharedExpertSampleIdeal.τ).loc Cert.SharedExpertSampleIdeal.main_arg2) = m ((c.tc : Thread Cert.SharedExpertSampleIdeal.nD Cert.SharedExpertSampleIdeal.τ).loc Cert.SharedExpertSampleIdeal.main_arg2)
          ∧ r.2.mem ((c.tc : Thread Cert.SharedExpertSampleIdeal.nD Cert.SharedExpertSampleIdeal.τ).loc Cert.SharedExpertSampleIdeal.main_arg3) = m ((c.tc : Thread Cert.SharedExpertSampleIdeal.nD Cert.SharedExpertSampleIdeal.τ).loc Cert.SharedExpertSampleIdeal.main_arg3)
          ∧ r.2.mem ((c.tc : Thread Cert.SharedExpertSampleIdeal.nD Cert.SharedExpertSampleIdeal.τ).loc Cert.SharedExpertSampleIdeal.main_arg4) = m ((c.tc : Thread Cert.SharedExpertSampleIdeal.nD Cert.SharedExpertSampleIdeal.τ).loc Cert.SharedExpertSampleIdeal.main_arg4)
          ∧ r.2.mem ((c.tc : Thread Cert.SharedExpertSampleIdeal.nD Cert.SharedExpertSampleIdeal.τ).loc Cert.SharedExpertSampleIdeal.main_arg5) = m ((c.tc : Thread Cert.SharedExpertSampleIdeal.nD Cert.SharedExpertSampleIdeal.τ).loc Cert.SharedExpertSampleIdeal.main_arg5))
      ∧ θ_run (Cert.SharedExpertSampleReferenceIdeal.defs (F := Ideal)) (onTc (τ := Cert.SharedExpertSampleReferenceIdeal.τ) (Cert.SharedExpertSampleReferenceIdeal.main (F := Ideal))) ⟨m', fun _ => 0, g'⟩ (fun r => ∀ c : Dev Cert.SharedExpertSampleReferenceIdeal.nD,
          r.2.mem ((c.tc : Thread Cert.SharedExpertSampleReferenceIdeal.nD Cert.SharedExpertSampleReferenceIdeal.τ).loc Cert.SharedExpertSampleReferenceIdeal.main_v34) = v0 c
          ∧ r.2.mem ((c.tc : Thread Cert.SharedExpertSampleReferenceIdeal.nD Cert.SharedExpertSampleReferenceIdeal.τ).loc Cert.SharedExpertSampleReferenceIdeal.main_arg0) = m' ((c.tc : Thread Cert.SharedExpertSampleReferenceIdeal.nD Cert.SharedExpertSampleReferenceIdeal.τ).loc Cert.SharedExpertSampleReferenceIdeal.main_arg0)
          ∧ r.2.mem ((c.tc : Thread Cert.SharedExpertSampleReferenceIdeal.nD Cert.SharedExpertSampleReferenceIdeal.τ).loc Cert.SharedExpertSampleReferenceIdeal.main_arg1) = m' ((c.tc : Thread Cert.SharedExpertSampleReferenceIdeal.nD Cert.SharedExpertSampleReferenceIdeal.τ).loc Cert.SharedExpertSampleReferenceIdeal.main_arg1)
          ∧ r.2.mem ((c.tc : Thread Cert.SharedExpertSampleReferenceIdeal.nD Cert.SharedExpertSampleReferenceIdeal.τ).loc Cert.SharedExpertSampleReferenceIdeal.main_arg2) = m' ((c.tc : Thread Cert.SharedExpertSampleReferenceIdeal.nD Cert.SharedExpertSampleReferenceIdeal.τ).loc Cert.SharedExpertSampleReferenceIdeal.main_arg2)
          ∧ r.2.mem ((c.tc : Thread Cert.SharedExpertSampleReferenceIdeal.nD Cert.SharedExpertSampleReferenceIdeal.τ).loc Cert.SharedExpertSampleReferenceIdeal.main_arg3) = m' ((c.tc : Thread Cert.SharedExpertSampleReferenceIdeal.nD Cert.SharedExpertSampleReferenceIdeal.τ).loc Cert.SharedExpertSampleReferenceIdeal.main_arg3)
          ∧ r.2.mem ((c.tc : Thread Cert.SharedExpertSampleReferenceIdeal.nD Cert.SharedExpertSampleReferenceIdeal.τ).loc Cert.SharedExpertSampleReferenceIdeal.main_arg4) = m' ((c.tc : Thread Cert.SharedExpertSampleReferenceIdeal.nD Cert.SharedExpertSampleReferenceIdeal.τ).loc Cert.SharedExpertSampleReferenceIdeal.main_arg4)
          ∧ r.2.mem ((c.tc : Thread Cert.SharedExpertSampleReferenceIdeal.nD Cert.SharedExpertSampleReferenceIdeal.τ).loc Cert.SharedExpertSampleReferenceIdeal.main_arg5) = m' ((c.tc : Thread Cert.SharedExpertSampleReferenceIdeal.nD Cert.SharedExpertSampleReferenceIdeal.τ).loc Cert.SharedExpertSampleReferenceIdeal.main_arg5))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)) →
    ∃ (v0 : (c : Dev Cert.InProjSampleIdeal.nD) → Buf (Elt Ideal) ((c.tc : Thread Cert.InProjSampleIdeal.nD Cert.InProjSampleIdeal.τ).loc Cert.InProjSampleIdeal.main_v41_0)) (v1 : (c : Dev Cert.InProjSampleIdeal.nD) → Buf (Elt Ideal) ((c.tc : Thread Cert.InProjSampleIdeal.nD Cert.InProjSampleIdeal.τ).loc Cert.InProjSampleIdeal.main_v41_1)) (v2 : (c : Dev Cert.InProjSampleIdeal.nD) → Buf (Elt Ideal) ((c.tc : Thread Cert.InProjSampleIdeal.nD Cert.InProjSampleIdeal.τ).loc Cert.InProjSampleIdeal.main_v41_2)) (v3 : (c : Dev Cert.InProjSampleIdeal.nD) → Buf (Elt Ideal) ((c.tc : Thread Cert.InProjSampleIdeal.nD Cert.InProjSampleIdeal.τ).loc Cert.InProjSampleIdeal.main_v41_3)) (v4 : (c : Dev Cert.InProjSampleIdeal.nD) → Buf (Elt Ideal) ((c.tc : Thread Cert.InProjSampleIdeal.nD Cert.InProjSampleIdeal.τ).loc Cert.InProjSampleIdeal.main_v41_4)) (v5 : (c : Dev Cert.InProjSampleIdeal.nD) → Buf (Elt Ideal) ((c.tc : Thread Cert.InProjSampleIdeal.nD Cert.InProjSampleIdeal.τ).loc Cert.InProjSampleIdeal.main_v41_5)) (v6 : (c : Dev Cert.InProjSampleIdeal.nD) → Buf (Elt Ideal) ((c.tc : Thread Cert.InProjSampleIdeal.nD Cert.InProjSampleIdeal.τ).loc Cert.InProjSampleIdeal.main_v41_6)) (v7 : (c : Dev Cert.InProjSampleIdeal.nD) → Buf (Elt Ideal) ((c.tc : Thread Cert.InProjSampleIdeal.nD Cert.InProjSampleIdeal.τ).loc Cert.InProjSampleIdeal.main_v41_7)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v41_0) = v0 c
          ∧ r.2.mem ((c.tc : Thread Cert.InProjSampleIdeal.nD Cert.InProjSampleIdeal.τ).loc Cert.InProjSampleIdeal.main_v41_1) = v1 c
          ∧ r.2.mem ((c.tc : Thread Cert.InProjSampleIdeal.nD Cert.InProjSampleIdeal.τ).loc Cert.InProjSampleIdeal.main_v41_2) = v2 c
          ∧ r.2.mem ((c.tc : Thread Cert.InProjSampleIdeal.nD Cert.InProjSampleIdeal.τ).loc Cert.InProjSampleIdeal.main_v41_3) = v3 c
          ∧ r.2.mem ((c.tc : Thread Cert.InProjSampleIdeal.nD Cert.InProjSampleIdeal.τ).loc Cert.InProjSampleIdeal.main_v41_4) = v4 c
          ∧ r.2.mem ((c.tc : Thread Cert.InProjSampleIdeal.nD Cert.InProjSampleIdeal.τ).loc Cert.InProjSampleIdeal.main_v41_5) = v5 c
          ∧ r.2.mem ((c.tc : Thread Cert.InProjSampleIdeal.nD Cert.InProjSampleIdeal.τ).loc Cert.InProjSampleIdeal.main_v41_6) = v6 c
          ∧ r.2.mem ((c.tc : Thread Cert.InProjSampleIdeal.nD Cert.InProjSampleIdeal.τ).loc Cert.InProjSampleIdeal.main_v41_7) = v7 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v98) = v0 c
          ∧ r.2.mem ((c.tc : Thread Cert.InProjSampleReferenceIdeal.nD Cert.InProjSampleReferenceIdeal.τ).loc Cert.InProjSampleReferenceIdeal.main_v99) = v1 c
          ∧ r.2.mem ((c.tc : Thread Cert.InProjSampleReferenceIdeal.nD Cert.InProjSampleReferenceIdeal.τ).loc Cert.InProjSampleReferenceIdeal.main_v100) = v2 c
          ∧ r.2.mem ((c.tc : Thread Cert.InProjSampleReferenceIdeal.nD Cert.InProjSampleReferenceIdeal.τ).loc Cert.InProjSampleReferenceIdeal.main_v102) = v3 c
          ∧ r.2.mem ((c.tc : Thread Cert.InProjSampleReferenceIdeal.nD Cert.InProjSampleReferenceIdeal.τ).loc Cert.InProjSampleReferenceIdeal.main_v104) = v4 c
          ∧ r.2.mem ((c.tc : Thread Cert.InProjSampleReferenceIdeal.nD Cert.InProjSampleReferenceIdeal.τ).loc Cert.InProjSampleReferenceIdeal.main_v105) = v5 c
          ∧ r.2.mem ((c.tc : Thread Cert.InProjSampleReferenceIdeal.nD Cert.InProjSampleReferenceIdeal.τ).loc Cert.InProjSampleReferenceIdeal.main_v106) = v6 c
          ∧ r.2.mem ((c.tc : Thread Cert.InProjSampleReferenceIdeal.nD Cert.InProjSampleReferenceIdeal.τ).loc Cert.InProjSampleReferenceIdeal.main_v94) = v7 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1))

def preserves_Experts_ExpertsIdeal : Prop :=
  True

def algebraic_ExpertsIdeal_ExpertsReferenceIdeal_pre_experts_named [hExpertsIdeal : Cert.ExpertsIdeal.Facts] [hExpertsReferenceIdeal : Cert.ExpertsReferenceIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_experts_named m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v110)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v110) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hOutProj : Cert.OutProj.Facts) (hOutProjIdeal : Cert.OutProjIdeal.Facts) (hOutProjReferenceIdeal : Cert.OutProjReferenceIdeal.Facts) (hCrossQ : Cert.CrossQ.Facts) (hCrossQIdeal : Cert.CrossQIdeal.Facts) (hCrossQReferenceIdeal : Cert.CrossQReferenceIdeal.Facts) (hCrossOut : Cert.CrossOut.Facts) (hCrossOutIdeal : Cert.CrossOutIdeal.Facts) (hCrossOutReferenceIdeal : Cert.CrossOutReferenceIdeal.Facts) (hSharedExpert : Cert.SharedExpert.Facts) (hSharedExpertIdeal : Cert.SharedExpertIdeal.Facts) (hSharedExpertReferenceIdeal : Cert.SharedExpertReferenceIdeal.Facts) (hSharedExpertSample : Cert.SharedExpertSample.Facts) (hSharedExpertSampleIdeal : Cert.SharedExpertSampleIdeal.Facts) (hSharedExpertSampleReferenceIdeal : Cert.SharedExpertSampleReferenceIdeal.Facts) (hInProjSample : Cert.InProjSample.Facts) (hInProjSampleIdeal : Cert.InProjSampleIdeal.Facts) (hInProjSampleReferenceIdeal : Cert.InProjSampleReferenceIdeal.Facts) (hExperts : Cert.Experts.Facts) (hExpertsIdeal : Cert.ExpertsIdeal.Facts) (hExpertsReferenceIdeal : Cert.ExpertsReferenceIdeal.Facts) (hPre_all_finite : Cert.Pre_all_finite.Facts) (hPre_experts_named : Cert.Pre_experts_named.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_CrossQ (hCrossQ := hCrossQ)
    ∧ quiescent_CrossQIdeal (hCrossQIdeal := hCrossQIdeal)
    ∧ quiescent_CrossQReferenceIdeal (hCrossQReferenceIdeal := hCrossQReferenceIdeal)
    ∧ quiescent_CrossOut (hCrossOut := hCrossOut)
    ∧ quiescent_CrossOutIdeal (hCrossOutIdeal := hCrossOutIdeal)
    ∧ quiescent_CrossOutReferenceIdeal (hCrossOutReferenceIdeal := hCrossOutReferenceIdeal)
    ∧ quiescent_SharedExpert (hSharedExpert := hSharedExpert)
    ∧ quiescent_SharedExpertIdeal (hSharedExpertIdeal := hSharedExpertIdeal)
    ∧ quiescent_SharedExpertReferenceIdeal (hSharedExpertReferenceIdeal := hSharedExpertReferenceIdeal)
    ∧ quiescent_SharedExpertSample (hSharedExpertSample := hSharedExpertSample)
    ∧ quiescent_SharedExpertSampleIdeal (hSharedExpertSampleIdeal := hSharedExpertSampleIdeal)
    ∧ quiescent_SharedExpertSampleReferenceIdeal (hSharedExpertSampleReferenceIdeal := hSharedExpertSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ quiescent_Experts (hExperts := hExperts)
    ∧ quiescent_ExpertsIdeal (hExpertsIdeal := hExpertsIdeal)
    ∧ quiescent_ExpertsIdeal_pre_experts_named (hExpertsIdeal := hExpertsIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_OutProj_OutProjIdeal
    ∧ algebraic_OutProjIdeal_OutProjReferenceIdeal (hOutProjIdeal := hOutProjIdeal) (hOutProjReferenceIdeal := hOutProjReferenceIdeal)
    ∧ preserves_CrossQ_CrossQIdeal
    ∧ algebraic_CrossQIdeal_CrossQReferenceIdeal (hCrossQIdeal := hCrossQIdeal) (hCrossQReferenceIdeal := hCrossQReferenceIdeal)
    ∧ preserves_CrossOut_CrossOutIdeal
    ∧ algebraic_CrossOutIdeal_CrossOutReferenceIdeal (hCrossOutIdeal := hCrossOutIdeal) (hCrossOutReferenceIdeal := hCrossOutReferenceIdeal)
    ∧ preserves_SharedExpert_SharedExpertIdeal
    ∧ algebraic_SharedExpertIdeal_SharedExpertReferenceIdeal (hSharedExpertIdeal := hSharedExpertIdeal) (hSharedExpertReferenceIdeal := hSharedExpertReferenceIdeal)
    ∧ preserves_SharedExpertSample_SharedExpertSampleIdeal
    ∧ algebraic_SharedExpertSampleIdeal_SharedExpertSampleReferenceIdeal (hSharedExpertSampleIdeal := hSharedExpertSampleIdeal) (hSharedExpertSampleReferenceIdeal := hSharedExpertSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
    ∧ preserves_Experts_ExpertsIdeal
    ∧ algebraic_ExpertsIdeal_ExpertsReferenceIdeal_pre_experts_named (hExpertsIdeal := hExpertsIdeal) (hExpertsReferenceIdeal := hExpertsReferenceIdeal) (hPre_experts_named := hPre_experts_named)
-- ==== Pre_all_finite.lean ====
abbrev S16x4096x4x2x64 : Shape := ⟨5, ![16, 4096, 4, 2, 64]⟩
abbrev S16x4096x4x128 : Shape := ⟨4, ![16, 4096, 4, 128]⟩
abbrev S64 : Shape := ⟨1, ![64]⟩
abbrev S128 : Shape := ⟨1, ![128]⟩
abbrev S_ : Shape := ⟨0, ![]⟩

class Facts : Prop where
  bcast_S_S16x4096x4x2x64 : S_.BroadcastsInDim S16x4096x4x2x64 (![] : Fin 0 → Fin S16x4096x4x2x64.rank)
  bcast_S_S16x4096x4x128 : S_.BroadcastsInDim S16x4096x4x128 (![] : Fin 0 → Fin S16x4096x4x128.rank)
  bcast_S_S64 : S_.BroadcastsInDim S64 (![] : Fin 0 → Fin S64.rank)

variable [Facts]

def fn_part1 {F : FTy → Type} [FloatOps F] (main_arg6 : FVec F S64 .f32) (main_v2 : IVec S16x4096x4x2x64 1) (main_v5 : IVec S16x4096x4x2x64 1) (main_v8 : IVec S16x4096x4x128 1) (main_v11 : IVec S64 1) (main_v14 : IVec S64 1) (main_v17 : IVec S64 1) : IVec S16x4096x4x2x64 1 × IVec S16x4096x4x2x64 1 × IVec S16x4096x4x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S16x4096x4x2x64 .f32) (main_arg1 : FVec F S16x4096x4x2x64 .f32) (main_arg2 : FVec F S16x4096x4x128 .f32) (main_arg3 : FVec F S64 .f32) (main_arg4 : FVec F S64 .f32) (main_arg5 : FVec F S64 .f32) (main_arg6 : FVec F S64 .f32) (main_arg7 : FVec F S128 .f32) : IVec S16x4096x4x2x64 1 × IVec S16x4096x4x2x64 1 × IVec S16x4096x4x128 1 × IVec S64 1 × IVec S64 1 × IVec S64 1 × IVec S64 1 :=
  let main_v0 : FVec F S16x4096x4x2x64 .f32 := Host.absf main_arg0
  let main_cst : FVec F S_ .f32 := constant S_ .f32 0x7F800000#32
  let main_v1 : FVec F S16x4096x4x2x64 .f32 := broadcastInDim S16x4096x4x2x64 ![] bcast_S_S16x4096x4x2x64 main_cst
  let main_v2 : IVec S16x4096x4x2x64 1 := cmpf .olt main_v0 main_v1
  let main_v3 : FVec F S16x4096x4x2x64 .f32 := Host.absf main_arg1
  let main_cst_0 : FVec F S_ .f32 := constant S_ .f32 0x7F800000#32
  let main_v4 : FVec F S16x4096x4x2x64 .f32 := broadcastInDim S16x4096x4x2x64 ![] bcast_S_S16x4096x4x2x64 main_cst_0
  let main_v5 : IVec S16x4096x4x2x64 1 := cmpf .olt main_v3 main_v4
  let main_v6 : FVec F S16x4096x4x128 .f32 := Host.absf main_arg2
  let main_cst_1 : FVec F S_ .f32 := constant S_ .f32 0x7F800000#32
  let main_v7 : FVec F S16x4096x4x128 .f32 := broadcastInDim S16x4096x4x128 ![] bcast_S_S16x4096x4x128 main_cst_1
  let main_v8 : IVec S16x4096x4x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_experts_named.lean ====
abbrev S66048x1024 : Shape := ⟨2, ![66048, 1024]⟩
abbrev S66048x8 : Shape := ⟨2, ![66048, 8]⟩
abbrev S256x1024x512 : Shape := ⟨3, ![256, 1024, 512]⟩
abbrev S256x256x1024 : Shape := ⟨3, ![256, 256, 1024]⟩
abbrev S_ : Shape := ⟨0, ![]⟩

class Facts : Prop where
  bcast_S_S66048x8 : S_.BroadcastsInDim S66048x8 (![] : Fin 0 → Fin S66048x8.rank)

variable [Facts]

def fn {F : FTy → Type} [FloatOps F] (main_arg0 : FVec F S66048x1024 .f32) (main_arg1 : IVec S66048x8 32) (main_arg2 : FVec F S256x1024x512 .f32) (main_arg3 : FVec F S256x256x1024 .f32) : IVec S66048x8 1 :=
  let main_c : IVec S_ 32 := constantI S_ 32 0#32
  let main_v0 : IVec S66048x8 32 := broadcastInDim S66048x8 ![] bcast_S_S66048x8 main_c
  let main_v1 : IVec S66048x8 1 := cmpi .sge main_arg1 main_v0
  let main_c_0 : IVec S_ 32 := constantI S_ 32 256#32
  let main_v2 : IVec S66048x8 32 := broadcastInDim S66048x8 ![] bcast_S_S66048x8 main_c_0
  let main_v3 : IVec S66048x8 1 := cmpi .slt main_arg1 main_v2
  let main_v4 : IVec S66048x8 1 := andi main_v1 main_v3
  main_v4
-- ==== Kernel.lean ====
abbrev S16x4096x4x2x64 : Shape := ⟨5, ![16, 4096, 4, 2, 64]⟩
abbrev S16x4096x4x128 : Shape := ⟨4, ![16, 4096, 4, 128]⟩
abbrev S64 : Shape := ⟨1, ![64]⟩
abbrev S128 : Shape := ⟨1, ![128]⟩
abbrev S_ : Shape := ⟨0, ![]⟩
abbrev S16x4096x512 : Shape := ⟨3, ![16, 4096, 512]⟩
abbrev S1 : Shape := ⟨1, ![1]⟩
abbrev S1x128 : Shape := ⟨2, ![1, 128]⟩
abbrev S1x512x128 : Shape := ⟨3, ![1, 512, 128]⟩
abbrev S1x4096x128 : Shape := ⟨3, ![1, 4096, 128]⟩
abbrev S512x128 : Shape := ⟨2, ![512, 128]⟩
abbrev S1024x128 : Shape := ⟨2, ![1024, 128]⟩
abbrev S1024x1 : Shape := ⟨2, ![1024, 1]⟩
abbrev S1024x512 : Shape := ⟨2, ![1024, 512]⟩
abbrev S1024 : Shape := ⟨1, ![1024]⟩
abbrev S512 : Shape := ⟨1, ![512]⟩
abbrev S512x1 : Shape := ⟨2, ![512, 1]⟩

abbrev nBuf : Space → Nat
  | .hbm => 31
  | .vmem => 9
  | .smem => 1
  | _ => 0

abbrev bufTy : (tb : Table) → Fin (tcTables nBuf tb) → BufTy
  | .hbm, ⟨0, _⟩ => ⟨S16x4096x4x2x64, .f32⟩
  | .hbm, ⟨1, _⟩ => ⟨S16x4096x4x2x64, .f32⟩
  | .hbm, ⟨2, _⟩ => ⟨S16x4096x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x4096x512, .f32⟩
  | .hbm, ⟨20, _⟩ => ⟨S_, .f32⟩
  | .hbm, ⟨21, _⟩ => ⟨S16x4096x512, .f32⟩
  | .hbm, ⟨22, _⟩ => ⟨S16x4096x512, .f32⟩
  | .hbm, ⟨23, _⟩ => ⟨S16x4096x512, .bf16⟩
  | .hbm, ⟨24, _⟩ => ⟨S16x4096x512, .f32⟩
  | .hbm, ⟨25, _⟩ => ⟨S16x4096x512, .bf16⟩
  | .hbm, ⟨26, _⟩ => ⟨S16x4096x512, .f32⟩
  | .hbm, ⟨27, _⟩ => ⟨S16x4096x512, .bf16⟩
  | .hbm, ⟨28, _⟩ => ⟨S1, .f32⟩
  | .hbm, ⟨29, _⟩ => ⟨S1x128, .f32⟩
  | .hbm, ⟨30, _⟩ => ⟨S16x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .smem, ⟨0, _⟩ => ⟨S1, .f32⟩
  | _, _ => ⟨S16x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_6 : BitVec 32 := 1#32
  ⟨c0_i32, v18, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c512_i32_29 : BitVec 32 := 512#32
  let v85 : BitVec 32 := Scalar.muli arg9 c512_i32_29
  v85
def k0_off1 (i : grid0.Coords) (k0_t1 : Fin (k0_t1_loop i).trips) : Fin 3 → Nat :=
  let c0_30 : Index := 0#32
  let c0_i32 : BitVec 32 := 0#32
  let c1_i32_6 : BitVec 32 := 1#32
  let arg9 : BitVec 32 := Scf.iv c0_i32 c1_i32_6 k0_t1
  let c512_i32_29 : BitVec 32 := 512#32
  let v85 : BitVec 32 := Scalar.muli arg9 c512_i32_29
  let v86 : BitVec 32 := v85
  let v87 : Index := Scalar.indexCast v86
  let c0_31 : Index := 0#32
  ![0, v87.toNat, 0]
@[reducible] def k0_t2_loop (i : grid0.Coords) : Scf.Loop 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_7 : BitVec 32 := 1#32
  ⟨v18, v15, c1_i32_7⟩
def k0_mult2 (i : grid0.Coords) (k0_t2 : Fin (k0_t2_loop i).trips) : BitVec 32 :=
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_7 : BitVec 32 := 1#32
  let arg9 : BitVec 32 := Scf.iv v18 c1_i32_7 k0_t2
  let c512_i32_29 : BitVec 32 := 512#32
  let v85 : BitVec 32 := Scalar.muli arg9 c512_i32_29
  v85
def k0_off2 (i : grid0.Coords) (k0_t2 : Fin (k0_t2_loop i).trips) : Fin 3 → Nat :=
  let c0_30 : Index := 0#32
  let c0_i32 : BitVec 32 := 0#32
  let arg2 : BitVec 32 := BitVec.ofNat 32 (i 2).val
  let v14 : BitVec 32 := Scalar.subi arg2 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_7 : BitVec 32 := 1#32
  let arg9 : BitVec 32 := Scf.iv v18 c1_i32_7 k0_t2
  let c512_i32_29 : BitVec 32 := 512#32
  let v85 : BitVec 32 := Scalar.muli arg9 c512_i32_29
  let v86 : BitVec 32 := v85
  let v87 : Index := Scalar.indexCast v86
  let c0_31 : Index := 0#32
  ![0, v87.toNat, 0]
def k0_mult3 (i : grid0.Coords) : BitVec 32 :=
  let arg2 : BitVec 32 := BitVec.ofNat 32 (i 2).val
  let c512_i32 : BitVec 32 := 512#32
  let v21 : BitVec 32 := Scalar.muli arg2 c512_i32
  v21
def k0_off3 (i : grid0.Coords) : Fin 3 → Nat :=
  let c0_8 : Index := 0#32
  let arg2 : BitVec 32 := BitVec.ofNat 32 (i 2).val
  let c512_i32 : BitVec 32 := 512#32
  let v21 : BitVec 32 := Scalar.muli arg2 c512_i32
  let v22 : BitVec 32 := v21
  let v23 : Index := Scalar.indexCast v22
  let c0_9 : Index := 0#32
  ![0, v23.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x4x2x64 : Shape := ⟨5, ![16, 4096, 4, 2, 64]⟩
abbrev S16x4096x4x128 : Shape := ⟨4, ![16, 4096, 4, 128]⟩
abbrev S64 : Shape := ⟨1, ![64]⟩
abbrev S128 : Shape := ⟨1, ![128]⟩
abbrev S_ : Shape := ⟨0, ![]⟩
abbrev S16x4x2x4096x4096 : Shape := ⟨5, ![16, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩
abbrev S16x4096x512 : Shape := ⟨3, ![16, 4096, 512]⟩

abbrev nBuf : Space → Nat
  | .hbm => 78
  | .vmem => 0
  | .smem => 0
  | _ => 0

abbrev bufTy : (tb : Table) → Fin (tcTables nBuf tb) → BufTy
  | .hbm, ⟨0, _⟩ => ⟨S16x4096x4x2x64, .f32⟩
  | .hbm, ⟨1, _⟩ => ⟨S16x4096x4x2x64, .f32⟩
  | .hbm, ⟨2, _⟩ => ⟨S16x4096x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x4x2x4096x4096, .f32⟩
  | .hbm, ⟨20, _⟩ => ⟨S_, .f32⟩
  | .hbm, ⟨21, _⟩ => ⟨S16x4x2x4096x4096, .f32⟩
  | .hbm, ⟨22, _⟩ => ⟨S16x4x2x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S16x4x2x4096x4096, .i1⟩
  | .hbm, ⟨32, _⟩ => ⟨S16x4x2x4096x4096, .f32⟩
  | .hbm, ⟨33, _⟩ => ⟨S16x4x2x4096x4096, .f32⟩
  | .hbm, ⟨34, _⟩ => ⟨S_, .f32⟩
  | .hbm, ⟨35, _⟩ => ⟨S16x4x2x4096, .f32⟩
  | .hbm, ⟨36, _⟩ => ⟨S_, .f32⟩
  | .hbm, ⟨37, _⟩ => ⟨S16x4x2x4096, .f32⟩
  | .hbm, ⟨38, _⟩ => ⟨S16x4x2x4096, .f32⟩
  | .hbm, ⟨39, _⟩ => ⟨S16x4x2x4096x1, .f32⟩
  | .hbm, ⟨40, _⟩ => ⟨S16x4x2x4096x4096, .f32⟩
  | .hbm, ⟨41, _⟩ => ⟨S16x4x2x4096x4096, .f32⟩
  | .hbm, ⟨42, _⟩ => ⟨S16x4x2x4096x4096, .f32⟩
  | .hbm, ⟨43, _⟩ => ⟨S_, .f32⟩
  | .hbm, ⟨44, _⟩ => ⟨S16x4x2x4096, .f32⟩
  | .hbm, ⟨45, _⟩ => ⟨S16x4x2x4096x1, .f32⟩
  | .hbm, ⟨46, _⟩ => ⟨S16x4x2x4096x4096, .f32⟩
  | .hbm, ⟨47, _⟩ => ⟨S16x4x2x4096x4096, .f32⟩
  | .hbm, ⟨48, _⟩ => ⟨S16x4x1x4096x4096, .f32⟩
  | .hbm, ⟨49, _⟩ => ⟨S16x4x4096x4096, .f32⟩
  | .hbm, ⟨50, _⟩ => ⟨S16x4x1x4096x4096, .f32⟩
  | .hbm, ⟨51, _⟩ => ⟨S16x4x4096x4096, .f32⟩
  | .hbm, ⟨52, _⟩ => ⟨S16x4x4096x4096, .f32⟩
  | .hbm, ⟨53, _⟩ => ⟨S16x4x4096x4096, .f32⟩
  | .hbm, ⟨54, _⟩ => ⟨S16x4x4096x4096, .f32⟩
  | .hbm, ⟨55, _⟩ => ⟨S16x4x128x4096, .f32⟩
  | .hbm, ⟨56, _⟩ => ⟨S16x4096x4x128, .f32⟩
  | .hbm, ⟨57, _⟩ => ⟨S16x4096x4x128, .f32⟩
  | .hbm, ⟨58, _⟩ => ⟨S_, .f32⟩
  | .hbm, ⟨59, _⟩ => ⟨S16x4096x4, .f32⟩
  | .hbm, ⟨60, _⟩ => ⟨S16x4096x4x1, .f32⟩
  | .hbm, ⟨61, _⟩ => ⟨S_, .f32⟩
  | .hbm, ⟨62, _⟩ => ⟨S16x4096x4x1, .f32⟩
  | .hbm, ⟨63, _⟩ => ⟨S16x4096x4x1, .f32⟩
  | .hbm, ⟨64, _⟩ => ⟨S_, .f32⟩
  | .hbm, ⟨65, _⟩ => ⟨S16x4096x4x1, .f32⟩
  | .hbm, ⟨66, _⟩ => ⟨S16x4096x4x1, .f32⟩
  | .hbm, ⟨67, _⟩ => ⟨S16x4096x4x1, .f32⟩
  | .hbm, ⟨68, _⟩ => ⟨S16x4096x4x128, .f32⟩
  | .hbm, ⟨69, _⟩ => ⟨S16x4096x4x128, .f32⟩
  | .hbm, ⟨70, _⟩ => ⟨S1x1x1x128, .f32⟩
  | .hbm, ⟨71, _⟩ => ⟨S16x4096x4x128, .f32⟩
  | .hbm, ⟨72, _⟩ => ⟨S16x4096x4x128, .f32⟩
  | .hbm, ⟨73, _⟩ => ⟨S_, .f32⟩
  | .hbm, ⟨74, _⟩ => ⟨S16x4096x4x128, .f32⟩
  | .hbm, ⟨75, _⟩ => ⟨S16x4096x4x128, .f32⟩
  | .hbm, ⟨76, _⟩ => ⟨S16x4096x4x128, .bf16⟩
  | .hbm, ⟨77, _⟩ => ⟨S16x4096x512, .bf16⟩
  | _, _ => ⟨S16x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== InProj.lean ====
abbrev S16x4096x1024 : Shape := ⟨3, ![16, 4096, 1024]⟩
abbrev S1024x3592 : Shape := ⟨2, ![1024, 3592]⟩
abbrev S1024x3072 : Shape := ⟨2, ![1024, 3072]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S65536x1024 : Shape := ⟨2, ![65536, 1024]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S65536x512 : Shape := ⟨2, ![65536, 512]⟩
abbrev S65536x1536 : Shape := ⟨2, ![65536, 1536]⟩
abbrev S65536x128 : Shape := ⟨2, ![65536, 128]⟩
abbrev S512x1024 : Shape := ⟨2, ![512, 1024]⟩
abbrev S512x128 : Shape := ⟨2, ![512, 128]⟩
abbrev S512x512 : Shape := ⟨2, ![512, 512]⟩
abbrev S512x1536 : Shape := ⟨2, ![512, 1536]⟩
abbrev S512x3712 : Shape := ⟨2, ![512, 3712]⟩

abbrev nBuf : Space → Nat
  | .hbm => 54
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S1024x3592, .f32⟩
  | .hbm, ⟨2, _⟩ => ⟨S1024x3072, .f32⟩
  | .hbm, ⟨3, _⟩ => ⟨S1024x512, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x3712, .f32⟩
  | .hbm, ⟨8, _⟩ => ⟨S1024x3712, .bf16⟩
  | .hbm, ⟨9, _⟩ => ⟨S65536x1024, .f32⟩
  | .hbm, ⟨10, _⟩ => ⟨S4096, .i32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4096, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S_, .f32⟩
  | .hbm, ⟨36, _⟩ => ⟨S4096x48, .f32⟩
  | .hbm, ⟨37, _⟩ => ⟨S_, .f32⟩
  | .hbm, ⟨38, _⟩ => ⟨S4096x8, .f32⟩
  | .hbm, ⟨39, _⟩ => ⟨S4096x64, .f32⟩
  | .hbm, ⟨40, _⟩ => ⟨S4096x8, .f32⟩
  | .hbm, ⟨41, _⟩ => ⟨S4096x64, .f32⟩
  | .hbm, ⟨42, _⟩ => ⟨S4096x64, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S65536x512, .bf16⟩
  | .hbm, ⟨47, _⟩ => ⟨S65536x512, .f32⟩
  | .hbm, ⟨48, _⟩ => ⟨S65536x512, .f32⟩
  | .hbm, ⟨49, _⟩ => ⟨S65536x512, .bf16⟩
  | .hbm, ⟨50, _⟩ => ⟨S65536x512, .bf16⟩
  | .hbm, ⟨51, _⟩ => ⟨S65536x1536, .f32⟩
  | .hbm, ⟨52, _⟩ => ⟨S65536x512, .f32⟩
  | .hbm, ⟨53, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1024x3712, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1536, .f32⟩
  | .local _ .vmem, ⟨20, _⟩ => ⟨S512x1536, .f32⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev main_v36_3 : Ref sig .tc := ⟨.hbm, 49, rfl⟩
abbrev main_v36_4 : Ref sig .tc := ⟨.hbm, 50, rfl⟩
abbrev main_v36_5 : Ref sig .tc := ⟨.hbm, 51, rfl⟩
abbrev main_v36_6 : Ref sig .tc := ⟨.hbm, 52, rfl⟩
abbrev main_v36_7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjReferenceIdeal.lean ====
abbrev S16x4096x1024 : Shape := ⟨3, ![16, 4096, 1024]⟩
abbrev S1024x3592 : Shape := ⟨2, ![1024, 3592]⟩
abbrev S4096 : Shape := ⟨1, ![4096]⟩
abbrev S16x4096x3592 : Shape := ⟨3, ![16, 4096, 3592]⟩
abbrev S16x4096x512 : Shape := ⟨3, ![16, 4096, 512]⟩
abbrev S16x4096x1536 : Shape := ⟨3, ![16, 4096, 1536]⟩
abbrev S16x4096x4 : Shape := ⟨3, ![16, 4096, 4]⟩
abbrev S16x4096x4x2x64 : Shape := ⟨5, ![16, 4096, 4, 2, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x1x8 : Shape := ⟨4, ![4096, 1, 1, 8]⟩
abbrev S16x4096x4x2x8 : Shape := ⟨5, ![16, 4096, 4, 2, 8]⟩
abbrev S1x4096x1x1x8 : Shape := ⟨5, ![1, 4096, 1, 1, 8]⟩
abbrev S16x4096x4x2x16 : Shape := ⟨5, ![16, 4096, 4, 2, 16]⟩
abbrev S16x4096x4x2x48 : Shape := ⟨5, ![16, 4096, 4, 2, 48]⟩
abbrev S65536x4 : Shape := ⟨2, ![65536, 4]⟩
abbrev S65536x120 : Shape := ⟨2, ![65536, 120]⟩
abbrev S65536x128 : Shape := ⟨2, ![65536, 128]⟩
abbrev S65536x512 : Shape := ⟨2, ![65536, 512]⟩
abbrev S65536x1536 : Shape := ⟨2, ![65536, 1536]⟩

abbrev nBuf : Space → Nat
  | .hbm => 117
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x3592, .f32⟩
  | .hbm, ⟨2, _⟩ => ⟨S4096, .i32⟩
  | .hbm, ⟨3, _⟩ => ⟨S16x4096x3592, .f32⟩
  | .hbm, ⟨4, _⟩ => ⟨S16x4096x512, .f32⟩
  | .hbm, ⟨5, _⟩ => ⟨S16x4096x512, .f32⟩
  | .hbm, ⟨6, _⟩ => ⟨S16x4096x512, .f32⟩
  | .hbm, ⟨7, _⟩ => ⟨S16x4096x1536, .f32⟩
  | .hbm, ⟨8, _⟩ => ⟨S16x4096x4, .f32⟩
  | .hbm, ⟨9, _⟩ => ⟨S16x4096x4, .f32⟩
  | .hbm, ⟨10, _⟩ => ⟨S16x4096x512, .f32⟩
  | .hbm, ⟨11, _⟩ => ⟨S16x4096x4x2x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S4096, .f32⟩
  | .hbm, ⟨27, _⟩ => ⟨S4096x1, .f32⟩
  | .hbm, ⟨28, _⟩ => ⟨S1x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x1x1x8, .f32⟩
  | .hbm, ⟨34, _⟩ => ⟨S4096x8, .f32⟩
  | .hbm, ⟨35, _⟩ => ⟨S4096x1x1x8, .f32⟩
  | .hbm, ⟨36, _⟩ => ⟨S16x4096x4x2x8, .f32⟩
  | .hbm, ⟨37, _⟩ => ⟨S16x4096x4x2x8, .f32⟩
  | .hbm, ⟨38, _⟩ => ⟨S1x4096x1x1x8, .f32⟩
  | .hbm, ⟨39, _⟩ => ⟨S16x4096x4x2x8, .f32⟩
  | .hbm, ⟨40, _⟩ => ⟨S16x4096x4x2x8, .f32⟩
  | .hbm, ⟨41, _⟩ => ⟨S1x4096x1x1x8, .f32⟩
  | .hbm, ⟨42, _⟩ => ⟨S16x4096x4x2x8, .f32⟩
  | .hbm, ⟨43, _⟩ => ⟨S16x4096x4x2x8, .f32⟩
  | .hbm, ⟨44, _⟩ => ⟨S16x4096x4x2x8, .f32⟩
  | .hbm, ⟨45, _⟩ => ⟨S1x4096x1x1x8, .f32⟩
  | .hbm, ⟨46, _⟩ => ⟨S16x4096x4x2x8, .f32⟩
  | .hbm, ⟨47, _⟩ => ⟨S16x4096x4x2x8, .f32⟩
  | .hbm, ⟨48, _⟩ => ⟨S1x4096x1x1x8, .f32⟩
  | .hbm, ⟨49, _⟩ => ⟨S16x4096x4x2x8, .f32⟩
  | .hbm, ⟨50, _⟩ => ⟨S16x4096x4x2x8, .f32⟩
  | .hbm, ⟨51, _⟩ => ⟨S16x4096x4x2x8, .f32⟩
  | .hbm, ⟨52, _⟩ => ⟨S16x4096x4x2x16, .f32⟩
  | .hbm, ⟨53, _⟩ => ⟨S16x4096x4x2x48, .f32⟩
  | .hbm, ⟨54, _⟩ => ⟨S16x4096x4x2x64, .f32⟩
  | .hbm, ⟨55, _⟩ => ⟨S16x4096x4x2x64, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S4096, .f32⟩
  | .hbm, ⟨71, _⟩ => ⟨S4096x1, .f32⟩
  | .hbm, ⟨72, _⟩ => ⟨S1x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x1x1x8, .f32⟩
  | .hbm, ⟨78, _⟩ => ⟨S4096x8, .f32⟩
  | .hbm, ⟨79, _⟩ => ⟨S4096x1x1x8, .f32⟩
  | .hbm, ⟨80, _⟩ => ⟨S16x4096x4x2x8, .f32⟩
  | .hbm, ⟨81, _⟩ => ⟨S16x4096x4x2x8, .f32⟩
  | .hbm, ⟨82, _⟩ => ⟨S1x4096x1x1x8, .f32⟩
  | .hbm, ⟨83, _⟩ => ⟨S16x4096x4x2x8, .f32⟩
  | .hbm, ⟨84, _⟩ => ⟨S16x4096x4x2x8, .f32⟩
  | .hbm, ⟨85, _⟩ => ⟨S1x4096x1x1x8, .f32⟩
  | .hbm, ⟨86, _⟩ => ⟨S16x4096x4x2x8, .f32⟩
  | .hbm, ⟨87, _⟩ => ⟨S16x4096x4x2x8, .f32⟩
  | .hbm, ⟨88, _⟩ => ⟨S16x4096x4x2x8, .f32⟩
  | .hbm, ⟨89, _⟩ => ⟨S1x4096x1x1x8, .f32⟩
  | .hbm, ⟨90, _⟩ => ⟨S16x4096x4x2x8, .f32⟩
  | .hbm, ⟨91, _⟩ => ⟨S16x4096x4x2x8, .f32⟩
  | .hbm, ⟨92, _⟩ => ⟨S1x4096x1x1x8, .f32⟩
  | .hbm, ⟨93, _⟩ => ⟨S16x4096x4x2x8, .f32⟩
  | .hbm, ⟨94, _⟩ => ⟨S16x4096x4x2x8, .f32⟩
  | .hbm, ⟨95, _⟩ => ⟨S16x4096x4x2x8, .f32⟩
  | .hbm, ⟨96, _⟩ => ⟨S16x4096x4x2x16, .f32⟩
  | .hbm, ⟨97, _⟩ => ⟨S16x4096x4x2x48, .f32⟩
  | .hbm, ⟨98, _⟩ => ⟨S16x4096x4x2x64, .f32⟩
  | .hbm, ⟨99, _⟩ => ⟨S65536x4, .f32⟩
  | .hbm, ⟨100, _⟩ => ⟨S65536x4, .f32⟩
  | .hbm, ⟨101, _⟩ => ⟨S_, .f32⟩
  | .hbm, ⟨102, _⟩ => ⟨S65536x120, .f32⟩
  | .hbm, ⟨103, _⟩ => ⟨S65536x128, .f32⟩
  | .hbm, ⟨104, _⟩ => ⟨S_, .f32⟩
  | .hbm, ⟨105, _⟩ => ⟨S16x4096x4x2x64, .f32⟩
  | .hbm, ⟨106, _⟩ => ⟨S16x4096x4x2x64, .f32⟩
  | .hbm, ⟨107, _⟩ => ⟨S16x4096x4x2x64, .bf16⟩
  | .hbm, ⟨108, _⟩ => ⟨S65536x512, .bf16⟩
  | .hbm, ⟨109, _⟩ => ⟨S65536x512, .f32⟩
  | .hbm, ⟨110, _⟩ => ⟨S65536x512, .f32⟩
  | .hbm, ⟨111, _⟩ => ⟨S16x4096x4x2x64, .bf16⟩
  | .hbm, ⟨112, _⟩ => ⟨S65536x512, .bf16⟩
  | .hbm, ⟨113, _⟩ => ⟨S16x4096x512, .bf16⟩
  | .hbm, ⟨114, _⟩ => ⟨S65536x512, .bf16⟩
  | .hbm, ⟨115, _⟩ => ⟨S65536x1536, .f32⟩
  | .hbm, ⟨116, _⟩ => ⟨S65536x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_5 : Ref sig .tc := ⟨.hbm, 64, rfl⟩
abbrev main_v56 : Ref sig .tc := ⟨.hbm, 65, rfl⟩
abbrev main_v57 : Ref sig .tc := ⟨.hbm, 66, rfl⟩
abbrev main_cst_6 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_7 : Ref sig .tc := ⟨.hbm, 101, rfl⟩
abbrev main_v91 : Ref sig .tc := ⟨.hbm, 102, rfl⟩
abbrev main_v92 : Ref sig .tc := ⟨.hbm, 103, rfl⟩
abbrev main_cst_8 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩

abbrev nD : Nat := 1
abbrev τ : Topo := Topo.v7x

variable {F : FTy → Type} [FloatOps F]
-- ==== MemKv.lean ====
abbrev S16x256x1024 : Shape := ⟨3, ![16, 256, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvReferenceIdeal.lean ====
abbrev S16x256x1024 : Shape := ⟨3, ![16, 256, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x1024, .f32⟩
  | .hbm, ⟨2, _⟩ => ⟨S16x256x1024, .f32⟩
  | .hbm, ⟨3, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S16x4096x512 : Shape := ⟨3, ![16, 4096, 512]⟩
abbrev S16x4096x1024 : Shape := ⟨3, ![16, 4096, 1024]⟩
abbrev S1024x1024 : Shape := ⟨2, ![1024, 1024]⟩
abbrev S1024 : Shape := ⟨1, ![1024]⟩
abbrev S65536x512 : Shape := ⟨2, ![65536, 512]⟩
abbrev S512x1024 : Shape := ⟨2, ![512, 1024]⟩
abbrev S65536x1024 : Shape := ⟨2, ![65536, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 14
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x512, .f32⟩
  | .hbm, ⟨7, _⟩ => ⟨S65536x512, .bf16⟩
  | .hbm, ⟨8, _⟩ => ⟨S65536x512, .f32⟩
  | .hbm, ⟨9, _⟩ => ⟨S65536x512, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S65536x1024, .f32⟩
  | .hbm, ⟨15, _⟩ => ⟨S1x1024, .f32⟩
  | .hbm, ⟨16, _⟩ => ⟨S1x1024, .f32⟩
  | .hbm, ⟨17, _⟩ => ⟨S65536x1024, .f32⟩
  | .hbm, ⟨18, _⟩ => ⟨S65536x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S16x4096x512 : Shape := ⟨3, ![16, 4096, 512]⟩
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S1x1x1024, .f32⟩
  | .hbm, ⟨36, _⟩ => ⟨S16x4096x1024, .f32⟩
  | .hbm, ⟨37, _⟩ => ⟨S16x4096x1024, .f32⟩
  | .hbm, ⟨38, _⟩ => ⟨S1x1x1024, .f32⟩
  | .hbm, ⟨39, _⟩ => ⟨S16x4096x1024, .f32⟩
  | .hbm, ⟨40, _⟩ => ⟨S16x4096x1024, .f32⟩
  | .hbm, ⟨41, _⟩ => ⟨S65536x1024, .f32⟩
  | .hbm, ⟨42, _⟩ => ⟨S65536x1024, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== CrossQ.lean ====
abbrev S16x4096x1024 : Shape := ⟨3, ![16, 4096, 1024]⟩
abbrev S1024x512 : Shape := ⟨2, ![1024, 512]⟩
abbrev S65536x1024 : Shape := ⟨2, ![65536, 1024]⟩
abbrev S65536x512 : Shape := ⟨2, ![65536, 512]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S1024x512, .f32⟩
  | .hbm, ⟨2, _⟩ => ⟨S65536x1024, .f32⟩
  | .hbm, ⟨3, _⟩ => ⟨S65536x1024, .bf16⟩
  | .hbm, ⟨4, _⟩ => ⟨S1024x512, .bf16⟩
  | .hbm, ⟨5, _⟩ => ⟨S65536x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CrossQReferenceIdeal.lean ====
abbrev S16x4096x1024 : Shape := ⟨3, ![16, 4096, 1024]⟩
abbrev S1024x512 : Shape := ⟨2, ![1024, 512]⟩
abbrev S16x4096x512 : Shape := ⟨3, ![16, 4096, 512]⟩
abbrev S65536x512 : Shape := ⟨2, ![65536, 512]⟩

abbrev nBuf : Space → Nat
  | .hbm => 4
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x512, .f32⟩
  | .hbm, ⟨2, _⟩ => ⟨S16x4096x512, .f32⟩
  | .hbm, ⟨3, _⟩ => ⟨S65536x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CrossOut.lean ====
abbrev S16x4096x512 : Shape := ⟨3, ![16, 4096, 512]⟩
abbrev S16x4096x1024 : Shape := ⟨3, ![16, 4096, 1024]⟩
abbrev S512x1024 : Shape := ⟨2, ![512, 1024]⟩
abbrev S1024 : Shape := ⟨1, ![1024]⟩
abbrev S1024x256 : Shape := ⟨2, ![1024, 256]⟩
abbrev S65536x512 : Shape := ⟨2, ![65536, 512]⟩
abbrev S65536x1024 : Shape := ⟨2, ![65536, 1024]⟩
abbrev S1x1024 : Shape := ⟨2, ![1, 1024]⟩
abbrev S65536x256 : Shape := ⟨2, ![65536, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S16x4096x512, .f32⟩
  | .hbm, ⟨1, _⟩ => ⟨S16x4096x1024, .f32⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S65536x512, .f32⟩
  | .hbm, ⟨7, _⟩ => ⟨S65536x512, .bf16⟩
  | .hbm, ⟨8, _⟩ => ⟨S512x1024, .bf16⟩
  | .hbm, ⟨9, _⟩ => ⟨S65536x1024, .f32⟩
  | .hbm, ⟨10, _⟩ => ⟨S1024x256, .bf16⟩
  | .hbm, ⟨11, _⟩ => ⟨S1x1024, .f32⟩
  | .hbm, ⟨12, _⟩ => ⟨S1x1024, .f32⟩
  | .hbm, ⟨13, _⟩ => ⟨S65536x1024, .f32⟩
  | .hbm, ⟨14, _⟩ => ⟨S65536x1024, .bf16⟩
  | .hbm, ⟨15, _⟩ => ⟨S65536x256, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CrossOutReferenceIdeal.lean ====
abbrev S16x4096x512 : Shape := ⟨3, ![16, 4096, 512]⟩
abbrev S16x4096x1024 : Shape := ⟨3, ![16, 4096, 1024]⟩
abbrev S512x1024 : Shape := ⟨2, ![512, 1024]⟩
abbrev S1024 : Shape := ⟨1, ![1024]⟩
abbrev S1024x256 : Shape := ⟨2, ![1024, 256]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩
abbrev S65536x256 : Shape := ⟨2, ![65536, 256]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x1024, .f32⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S_, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1, .f32⟩
  | .hbm, ⟨30, _⟩ => ⟨S16x4096x1, .f32⟩
  | .hbm, ⟨31, _⟩ => ⟨S16x4096x1, .f32⟩
  | .hbm, ⟨32, _⟩ => ⟨S16x4096x1024, .f32⟩
  | .hbm, ⟨33, _⟩ => ⟨S16x4096x1024, .f32⟩
  | .hbm, ⟨34, _⟩ => ⟨S1x1x1024, .f32⟩
  | .hbm, ⟨35, _⟩ => ⟨S16x4096x1024, .f32⟩
  | .hbm, ⟨36, _⟩ => ⟨S16x4096x1024, .f32⟩
  | .hbm, ⟨37, _⟩ => ⟨S1x1x1024, .f32⟩
  | .hbm, ⟨38, _⟩ => ⟨S16x4096x1024, .f32⟩
  | .hbm, ⟨39, _⟩ => ⟨S16x4096x1024, .f32⟩
  | .hbm, ⟨40, _⟩ => ⟨S65536x1024, .f32⟩
  | .hbm, ⟨41, _⟩ => ⟨S65536x1024, .bf16⟩
  | .hbm, ⟨42, _⟩ => ⟨S65536x256, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== SharedExpert.lean ====
abbrev S16x4096x1024 : Shape := ⟨3, ![16, 4096, 1024]⟩
abbrev S1024x512 : Shape := ⟨2, ![1024, 512]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x512, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S1024x512, .bf16⟩
  | .hbm, ⟨9, _⟩ => ⟨S256x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SharedExpertIdeal.lean ====
abbrev S16x4096x1024 : Shape := ⟨3, ![16, 4096, 1024]⟩
abbrev S1024x512 : Shape := ⟨2, ![1024, 512]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x512, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S1024x512, .bf16⟩
  | .hbm, ⟨9, _⟩ => ⟨S256x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SharedExpertReferenceIdeal.lean ====
abbrev S16x4096x1024 : Shape := ⟨3, ![16, 4096, 1024]⟩
abbrev S1024x512 : Shape := ⟨2, ![1024, 512]⟩
abbrev S256x1024 : Shape := ⟨2, ![256, 1024]⟩
abbrev S1024 : Shape := ⟨1, ![1024]⟩
abbrev S16x4096x512 : Shape := ⟨3, ![16, 4096, 512]⟩
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x512, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S16x4096x512, .f32⟩
  | .hbm, ⟨7, _⟩ => ⟨S16x4096x256, .f32⟩
  | .hbm, ⟨8, _⟩ => ⟨S16x4096x256, .f32⟩
  | .hbm, ⟨9, _⟩ => ⟨S16x4096x256, .f32⟩
  | .hbm, ⟨10, _⟩ => ⟨S16x4096x256, .f32⟩
  | .hbm, ⟨11, _⟩ => ⟨S_, .f32⟩
  | .hbm, ⟨12, _⟩ => ⟨S16x4096x256, .f32⟩
  | .hbm, ⟨13, _⟩ => ⟨S16x4096x256, .f32⟩
  | .hbm, ⟨14, _⟩ => ⟨S_, .f32⟩
  | .hbm, ⟨15, _⟩ => ⟨S16x4096x256, .f32⟩
  | .hbm, ⟨16, _⟩ => ⟨S16x4096x256, .f32⟩
  | .hbm, ⟨17, _⟩ => ⟨S16x4096x256, .f32⟩
  | .hbm, ⟨18, _⟩ => ⟨S16x4096x256, .f32⟩
  | .hbm, ⟨19, _⟩ => ⟨S16x4096x1024, .f32⟩
  | .hbm, ⟨20, _⟩ => ⟨S_, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S_, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x1, .f32⟩
  | .hbm, ⟨46, _⟩ => ⟨S16x4096x1024, .f32⟩
  | .hbm, ⟨47, _⟩ => ⟨S16x4096x1024, .f32⟩
  | .hbm, ⟨48, _⟩ => ⟨S1x1x1024, .f32⟩
  | .hbm, ⟨49, _⟩ => ⟨S16x4096x1024, .f32⟩
  | .hbm, ⟨50, _⟩ => ⟨S16x4096x1024, .f32⟩
  | .hbm, ⟨51, _⟩ => ⟨S1x1x1024, .f32⟩
  | .hbm, ⟨52, _⟩ => ⟨S16x4096x1024, .f32⟩
  | .hbm, ⟨53, _⟩ => ⟨S16x4096x1024, .f32⟩
  | .hbm, ⟨54, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== SharedExpertSample.lean ====
abbrev S128x4x1024 : Shape := ⟨3, ![128, 4, 1024]⟩
abbrev S1024x512 : Shape := ⟨2, ![1024, 512]⟩
abbrev S256x1024 : Shape := ⟨2, ![256, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S1024x512, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S1024x512, .bf16⟩
  | .hbm, ⟨9, _⟩ => ⟨S256x1024, .bf16⟩
  | .hbm, ⟨10, _⟩ => ⟨S1x1024, .f32⟩
  | .hbm, ⟨11, _⟩ => ⟨S1x1024, .f32⟩
  | .hbm, ⟨12, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SharedExpertSampleReferenceIdeal.lean ====
abbrev S128x4x1024 : Shape := ⟨3, ![128, 4, 1024]⟩
abbrev S1024x512 : Shape := ⟨2, ![1024, 512]⟩
abbrev S256x1024 : Shape := ⟨2, ![256, 1024]⟩
abbrev S1024 : Shape := ⟨1, ![1024]⟩
abbrev S128x4x512 : Shape := ⟨3, ![128, 4, 512]⟩
abbrev S128x4x256 : Shape := ⟨3, ![128, 4, 256]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 55
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S1024x512, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S128x4x512, .f32⟩
  | .hbm, ⟨7, _⟩ => ⟨S128x4x256, .f32⟩
  | .hbm, ⟨8, _⟩ => ⟨S128x4x256, .f32⟩
  | .hbm, ⟨9, _⟩ => ⟨S128x4x256, .f32⟩
  | .hbm, ⟨10, _⟩ => ⟨S128x4x256, .f32⟩
  | .hbm, ⟨11, _⟩ => ⟨S_, .f32⟩
  | .hbm, ⟨12, _⟩ => ⟨S128x4x256, .f32⟩
  | .hbm, ⟨13, _⟩ => ⟨S128x4x256, .f32⟩
  | .hbm, ⟨14, _⟩ => ⟨S_, .f32⟩
  | .hbm, ⟨15, _⟩ => ⟨S128x4x256, .f32⟩
  | .hbm, ⟨16, _⟩ => ⟨S128x4x256, .f32⟩
  | .hbm, ⟨17, _⟩ => ⟨S128x4x256, .f32⟩
  | .hbm, ⟨18, _⟩ => ⟨S128x4x256, .f32⟩
  | .hbm, ⟨19, _⟩ => ⟨S128x4x1024, .f32⟩
  | .hbm, ⟨20, _⟩ => ⟨S_, .f32⟩
  | .hbm, ⟨21, _⟩ => ⟨S128x4x1024, .f32⟩
  | .hbm, ⟨22, _⟩ => ⟨S128x4x1024, .f32⟩
  | .hbm, ⟨23, _⟩ => ⟨S128x4x1024, .f32⟩
  | .hbm, ⟨24, _⟩ => ⟨S128x4x1024, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S_, .f32⟩
  | .hbm, ⟨35, _⟩ => ⟨S128x4, .f32⟩
  | .hbm, ⟨36, _⟩ => ⟨S128x4x1, .f32⟩
  | .hbm, ⟨37, _⟩ => ⟨S_, .f32⟩
  | .hbm, ⟨38, _⟩ => ⟨S128x4x1, .f32⟩
  | .hbm, ⟨39, _⟩ => ⟨S128x4x1, .f32⟩
  | .hbm, ⟨40, _⟩ => ⟨S128x4x1024, .f32⟩
  | .hbm, ⟨41, _⟩ => ⟨S128x4x1024, .f32⟩
  | .hbm, ⟨42, _⟩ => ⟨S_, .f32⟩
  | .hbm, ⟨43, _⟩ => ⟨S128x4x1, .f32⟩
  | .hbm, ⟨44, _⟩ => ⟨S128x4x1, .f32⟩
  | .hbm, ⟨45, _⟩ => ⟨S128x4x1, .f32⟩
  | .hbm, ⟨46, _⟩ => ⟨S128x4x1024, .f32⟩
  | .hbm, ⟨47, _⟩ => ⟨S128x4x1024, .f32⟩
  | .hbm, ⟨48, _⟩ => ⟨S1x1x1024, .f32⟩
  | .hbm, ⟨49, _⟩ => ⟨S128x4x1024, .f32⟩
  | .hbm, ⟨50, _⟩ => ⟨S128x4x1024, .f32⟩
  | .hbm, ⟨51, _⟩ => ⟨S1x1x1024, .f32⟩
  | .hbm, ⟨52, _⟩ => ⟨S128x4x1024, .f32⟩
  | .hbm, ⟨53, _⟩ => ⟨S128x4x1024, .f32⟩
  | .hbm, ⟨54, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== InProjSample.lean ====
abbrev S128x4x1024 : Shape := ⟨3, ![128, 4, 1024]⟩
abbrev S1024x3592 : Shape := ⟨2, ![1024, 3592]⟩
abbrev S1024x3072 : Shape := ⟨2, ![1024, 3072]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S512x1024 : Shape := ⟨2, ![512, 1024]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S512x128 : Shape := ⟨2, ![512, 128]⟩
abbrev S512x512 : Shape := ⟨2, ![512, 512]⟩
abbrev S512x1536 : Shape := ⟨2, ![512, 1536]⟩
abbrev S512x3712 : Shape := ⟨2, ![512, 3712]⟩

abbrev nBuf : Space → Nat
  | .hbm => 60
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S1024x3592, .f32⟩
  | .hbm, ⟨2, _⟩ => ⟨S1024x3072, .f32⟩
  | .hbm, ⟨3, _⟩ => ⟨S1024x512, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x3712, .f32⟩
  | .hbm, ⟨8, _⟩ => ⟨S1024x3712, .bf16⟩
  | .hbm, ⟨9, _⟩ => ⟨S512x1024, .f32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S1x4, .i32⟩
  | .hbm, ⟨15, _⟩ => ⟨S128x4, .i32⟩
  | .hbm, ⟨16, _⟩ => ⟨S512, .i32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S512, .f32⟩
  | .hbm, ⟨32, _⟩ => ⟨S512x1, .f32⟩
  | .hbm, ⟨33, _⟩ => ⟨S1x8, .f32⟩
  | .hbm, ⟨34, _⟩ => ⟨S512x8, .f32⟩
  | .hbm, ⟨35, _⟩ => ⟨S512x8, .f32⟩
  | .hbm, ⟨36, _⟩ => ⟨S512x8, .f32⟩
  | .hbm, ⟨37, _⟩ => ⟨S512x8, .f32⟩
  | .hbm, ⟨38, _⟩ => ⟨S512x8, .f32⟩
  | .hbm, ⟨39, _⟩ => ⟨S_, .f32⟩
  | .hbm, ⟨40, _⟩ => ⟨S512x48, .f32⟩
  | .hbm, ⟨41, _⟩ => ⟨S_, .f32⟩
  | .hbm, ⟨42, _⟩ => ⟨S512x48, .f32⟩
  | .hbm, ⟨43, _⟩ => ⟨S_, .f32⟩
  | .hbm, ⟨44, _⟩ => ⟨S512x8, .f32⟩
  | .hbm, ⟨45, _⟩ => ⟨S512x64, .f32⟩
  | .hbm, ⟨46, _⟩ => ⟨S512x8, .f32⟩
  | .hbm, ⟨47, _⟩ => ⟨S512x64, .f32⟩
  | .hbm, ⟨48, _⟩ => ⟨S512x64, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S512x512, .bf16⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512x512, .bf16⟩
  | .hbm, ⟨57, _⟩ => ⟨S512x1536, .f32⟩
  | .hbm, ⟨58, _⟩ => ⟨S512x512, .f32⟩
  | .hbm, ⟨59, _⟩ => ⟨S512x128, .f32⟩
  | .local _ .vmem, ⟨0, _⟩ => ⟨S512x1024, .f32⟩
  | .local _ .vmem, ⟨1, _⟩ => ⟨S1024x3712, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1536, .f32⟩
  | .local _ .vmem, ⟨11, _⟩ => ⟨S512x512, .f32⟩
  | .local _ .vmem, ⟨12, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev main_v41_3 : Ref sig .tc := ⟨.hbm, 55, rfl⟩
abbrev main_v41_4 : Ref sig .tc := ⟨.hbm, 56, rfl⟩
abbrev main_v41_5 : Ref sig .tc := ⟨.hbm, 57, rfl⟩
abbrev main_v41_6 : Ref sig .tc := ⟨.hbm, 58, rfl⟩
abbrev main_v41_7 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== InProjSampleReferenceIdeal.lean ====
abbrev S128x4x1024 : Shape := ⟨3, ![128, 4, 1024]⟩
abbrev S1024x3592 : Shape := ⟨2, ![1024, 3592]⟩
abbrev S4 : Shape := ⟨1, ![4]⟩
abbrev S_ : Shape := ⟨0, ![]⟩
abbrev S128x4x3592 : Shape := ⟨3, ![128, 4, 3592]⟩
abbrev S128x4x512 : Shape := ⟨3, ![128, 4, 512]⟩
abbrev S128x4x1536 : Shape := ⟨3, ![128, 4, 1536]⟩
abbrev S128x4x4 : Shape := ⟨3, ![128, 4, 4]⟩
abbrev S128x4x4x2x64 : Shape := ⟨5, ![128, 4, 4, 2, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x1x8 : Shape := ⟨4, ![4, 1, 1, 8]⟩
abbrev S128x4x4x2x8 : Shape := ⟨5, ![128, 4, 4, 2, 8]⟩
abbrev S1x4x1x1x8 : Shape := ⟨5, ![1, 4, 1, 1, 8]⟩
abbrev S128x4x4x2x16 : Shape := ⟨5, ![128, 4, 4, 2, 16]⟩
abbrev S128x4x4x2x48 : Shape := ⟨5, ![128, 4, 4, 2, 48]⟩
abbrev S512x4 : Shape := ⟨2, ![512, 4]⟩
abbrev S512x120 : Shape := ⟨2, ![512, 120]⟩
abbrev S512x128 : Shape := ⟨2, ![512, 128]⟩
abbrev S512x512 : Shape := ⟨2, ![512, 512]⟩
abbrev S512x1536 : Shape := ⟨2, ![512, 1536]⟩

abbrev nBuf : Space → Nat
  | .hbm => 120
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024x3592, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S128x4x3592, .f32⟩
  | .hbm, ⟨7, _⟩ => ⟨S128x4x512, .f32⟩
  | .hbm, ⟨8, _⟩ => ⟨S128x4x512, .f32⟩
  | .hbm, ⟨9, _⟩ => ⟨S128x4x512, .f32⟩
  | .hbm, ⟨10, _⟩ => ⟨S128x4x1536, .f32⟩
  | .hbm, ⟨11, _⟩ => ⟨S128x4x4, .f32⟩
  | .hbm, ⟨12, _⟩ => ⟨S128x4x4, .f32⟩
  | .hbm, ⟨13, _⟩ => ⟨S128x4x512, .f32⟩
  | .hbm, ⟨14, _⟩ => ⟨S128x4x4x2x64, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S4, .f32⟩
  | .hbm, ⟨30, _⟩ => ⟨S4x1, .f32⟩
  | .hbm, ⟨31, _⟩ => ⟨S1x8, .f32⟩
  | .hbm, ⟨32, _⟩ => ⟨S4x8, .f32⟩
  | .hbm, ⟨33, _⟩ => ⟨S4x8, .f32⟩
  | .hbm, ⟨34, _⟩ => ⟨S4x8, .f32⟩
  | .hbm, ⟨35, _⟩ => ⟨S4x8, .f32⟩
  | .hbm, ⟨36, _⟩ => ⟨S4x1x1x8, .f32⟩
  | .hbm, ⟨37, _⟩ => ⟨S4x8, .f32⟩
  | .hbm, ⟨38, _⟩ => ⟨S4x1x1x8, .f32⟩
  | .hbm, ⟨39, _⟩ => ⟨S128x4x4x2x8, .f32⟩
  | .hbm, ⟨40, _⟩ => ⟨S128x4x4x2x8, .f32⟩
  | .hbm, ⟨41, _⟩ => ⟨S1x4x1x1x8, .f32⟩
  | .hbm, ⟨42, _⟩ => ⟨S128x4x4x2x8, .f32⟩
  | .hbm, ⟨43, _⟩ => ⟨S128x4x4x2x8, .f32⟩
  | .hbm, ⟨44, _⟩ => ⟨S1x4x1x1x8, .f32⟩
  | .hbm, ⟨45, _⟩ => ⟨S128x4x4x2x8, .f32⟩
  | .hbm, ⟨46, _⟩ => ⟨S128x4x4x2x8, .f32⟩
  | .hbm, ⟨47, _⟩ => ⟨S128x4x4x2x8, .f32⟩
  | .hbm, ⟨48, _⟩ => ⟨S1x4x1x1x8, .f32⟩
  | .hbm, ⟨49, _⟩ => ⟨S128x4x4x2x8, .f32⟩
  | .hbm, ⟨50, _⟩ => ⟨S128x4x4x2x8, .f32⟩
  | .hbm, ⟨51, _⟩ => ⟨S1x4x1x1x8, .f32⟩
  | .hbm, ⟨52, _⟩ => ⟨S128x4x4x2x8, .f32⟩
  | .hbm, ⟨53, _⟩ => ⟨S128x4x4x2x8, .f32⟩
  | .hbm, ⟨54, _⟩ => ⟨S128x4x4x2x8, .f32⟩
  | .hbm, ⟨55, _⟩ => ⟨S128x4x4x2x16, .f32⟩
  | .hbm, ⟨56, _⟩ => ⟨S128x4x4x2x48, .f32⟩
  | .hbm, ⟨57, _⟩ => ⟨S128x4x4x2x64, .f32⟩
  | .hbm, ⟨58, _⟩ => ⟨S128x4x4x2x64, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S4, .f32⟩
  | .hbm, ⟨74, _⟩ => ⟨S4x1, .f32⟩
  | .hbm, ⟨75, _⟩ => ⟨S1x8, .f32⟩
  | .hbm, ⟨76, _⟩ => ⟨S4x8, .f32⟩
  | .hbm, ⟨77, _⟩ => ⟨S4x8, .f32⟩
  | .hbm, ⟨78, _⟩ => ⟨S4x8, .f32⟩
  | .hbm, ⟨79, _⟩ => ⟨S4x8, .f32⟩
  | .hbm, ⟨80, _⟩ => ⟨S4x1x1x8, .f32⟩
  | .hbm, ⟨81, _⟩ => ⟨S4x8, .f32⟩
  | .hbm, ⟨82, _⟩ => ⟨S4x1x1x8, .f32⟩
  | .hbm, ⟨83, _⟩ => ⟨S128x4x4x2x8, .f32⟩
  | .hbm, ⟨84, _⟩ => ⟨S128x4x4x2x8, .f32⟩
  | .hbm, ⟨85, _⟩ => ⟨S1x4x1x1x8, .f32⟩
  | .hbm, ⟨86, _⟩ => ⟨S128x4x4x2x8, .f32⟩
  | .hbm, ⟨87, _⟩ => ⟨S128x4x4x2x8, .f32⟩
  | .hbm, ⟨88, _⟩ => ⟨S1x4x1x1x8, .f32⟩
  | .hbm, ⟨89, _⟩ => ⟨S128x4x4x2x8, .f32⟩
  | .hbm, ⟨90, _⟩ => ⟨S128x4x4x2x8, .f32⟩
  | .hbm, ⟨91, _⟩ => ⟨S128x4x4x2x8, .f32⟩
  | .hbm, ⟨92, _⟩ => ⟨S1x4x1x1x8, .f32⟩
  | .hbm, ⟨93, _⟩ => ⟨S128x4x4x2x8, .f32⟩
  | .hbm, ⟨94, _⟩ => ⟨S128x4x4x2x8, .f32⟩
  | .hbm, ⟨95, _⟩ => ⟨S1x4x1x1x8, .f32⟩
  | .hbm, ⟨96, _⟩ => ⟨S128x4x4x2x8, .f32⟩
  | .hbm, ⟨97, _⟩ => ⟨S128x4x4x2x8, .f32⟩
  | .hbm, ⟨98, _⟩ => ⟨S128x4x4x2x8, .f32⟩
  | .hbm, ⟨99, _⟩ => ⟨S128x4x4x2x16, .f32⟩
  | .hbm, ⟨100, _⟩ => ⟨S128x4x4x2x48, .f32⟩
  | .hbm, ⟨101, _⟩ => ⟨S128x4x4x2x64, .f32⟩
  | .hbm, ⟨102, _⟩ => ⟨S512x4, .f32⟩
  | .hbm, ⟨103, _⟩ => ⟨S512x4, .f32⟩
  | .hbm, ⟨104, _⟩ => ⟨S_, .f32⟩
  | .hbm, ⟨105, _⟩ => ⟨S512x120, .f32⟩
  | .hbm, ⟨106, _⟩ => ⟨S512x128, .f32⟩
  | .hbm, ⟨107, _⟩ => ⟨S_, .f32⟩
  | .hbm, ⟨108, _⟩ => ⟨S128x4x4x2x64, .f32⟩
  | .hbm, ⟨109, _⟩ => ⟨S128x4x4x2x64, .f32⟩
  | .hbm, ⟨110, _⟩ => ⟨S128x4x4x2x64, .bf16⟩
  | .hbm, ⟨111, _⟩ => ⟨S512x512, .bf16⟩
  | .hbm, ⟨112, _⟩ => ⟨S512x512, .f32⟩
  | .hbm, ⟨113, _⟩ => ⟨S512x512, .f32⟩
  | .hbm, ⟨114, _⟩ => ⟨S128x4x4x2x64, .bf16⟩
  | .hbm, ⟨115, _⟩ => ⟨S512x512, .bf16⟩
  | .hbm, ⟨116, _⟩ => ⟨S128x4x512, .bf16⟩
  | .hbm, ⟨117, _⟩ => ⟨S512x512, .bf16⟩
  | .hbm, ⟨118, _⟩ => ⟨S512x1536, .f32⟩
  | .hbm, ⟨119, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_cst_8 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩

abbrev nD : Nat := 1
abbrev τ : Topo := Topo.v7x

variable {F : FTy → Type} [FloatOps F]
-- ==== Experts.lean ====
abbrev S66048x1024 : Shape := ⟨2, ![66048, 1024]⟩
abbrev S66048x8 : Shape := ⟨2, ![66048, 8]⟩
abbrev S256x1024x512 : Shape := ⟨3, ![256, 1024, 512]⟩
abbrev S256x256x1024 : Shape := ⟨3, ![256, 256, 1024]⟩
abbrev S528384 : Shape := ⟨1, ![528384]⟩
abbrev S257 : Shape := ⟨1, ![257]⟩
abbrev S1x528384 : Shape := ⟨2, ![1, 528384]⟩
abbrev S257x1 : Shape := ⟨2, ![257, 1]⟩
abbrev S257x528384 : Shape := ⟨2, ![257, 528384]⟩
abbrev S_ : Shape := ⟨0, ![]⟩
abbrev S256 : Shape := ⟨1, ![256]⟩
abbrev S1287 : Shape := ⟨1, ![1287]⟩
abbrev S1x256 : Shape := ⟨2, ![1, 256]⟩
abbrev S1287x1 : Shape := ⟨2, ![1287, 1]⟩
abbrev S1287x256 : Shape := ⟨2, ![1287, 256]⟩
abbrev S1 : Shape := ⟨1, ![1]⟩
abbrev S1286 : Shape := ⟨1, ![1286]⟩
abbrev S1x1024 : Shape := ⟨2, ![1, 1024]⟩
abbrev S66049x1024 : Shape := ⟨2, ![66049, 1024]⟩
abbrev S528384x1 : Shape := ⟨2, ![528384, 1]⟩
abbrev S528384x1024 : Shape := ⟨2, ![528384, 1024]⟩
abbrev S512x1024 : Shape := ⟨2, ![512, 1024]⟩
abbrev S1x1024x512 : Shape := ⟨3, ![1, 1024, 512]⟩
abbrev S1x256x1024 : Shape := ⟨3, ![1, 256, 1024]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩

abbrev nBuf : Space → Nat
  | .hbm => 198
  | .vmem => 8
  | .smem => 5
  | _ => 0

abbrev hbmTy0_0 (i : Nat) : BufTy := match i % 128 with
  | 0 => ⟨S66048x1024, .f32⟩
  | 1 => ⟨S66048x8, .i32⟩
  | 2 => ⟨S256x1024x512, .f32⟩
  | 3 => ⟨S256x256x1024, .f32⟩
  | 4 => ⟨S528384, .i32⟩
  | 5 => ⟨S528384, .i32⟩
  | 6 => ⟨S528384, .i32⟩
  | 7 => ⟨S528384, .i32⟩
  | 8 => ⟨S257, .i32⟩
  | 9 => ⟨S1x528384, .i32⟩
  | 10 => ⟨S257x1, .i32⟩
  | 11 => ⟨S257x528384, .i32⟩
  | 12 => ⟨S257x528384, .i32⟩
  | 13 => ⟨S257x528384, .i1⟩
  | 14 => ⟨S257x528384, .i32⟩
  | 15 => ⟨S_, .i32⟩
  | 16 => ⟨S257, .i32⟩
  | 17 => ⟨S256, .i32⟩
  | 18 => ⟨S256, .i32⟩
  | 19 => ⟨S256, .i32⟩
  | 20 => ⟨S256, .i32⟩
  | 21 => ⟨S_, .i32⟩
  | 22 => ⟨S_, .i32⟩
  | 23 => ⟨S256, .i32⟩
  | 24 => ⟨S256, .i32⟩
  | 25 => ⟨S256, .i32⟩
  | 26 => ⟨S_, .i32⟩
  | 27 => ⟨S256, .i32⟩
  | 28 => ⟨S256, .i1⟩
  | 29 => ⟨S256, .i32⟩
  | 30 => ⟨S256, .i32⟩
  | 31 => ⟨S_, .i32⟩
  | 32 => ⟨S256, .i32⟩
  | 33 => ⟨S256, .i1⟩
  | 34 => ⟨S256, .i1⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i1⟩
  | 42 => ⟨S256, .i32⟩
  | 43 => ⟨S_, .i32⟩
  | 44 => ⟨S256, .i32⟩
  | 45 => ⟨S256, .i32⟩
  | 46 => ⟨S_, .i32⟩
  | 47 => ⟨S_, .i32⟩
  | 48 => ⟨S256, .i32⟩
  | 49 => ⟨S256, .i32⟩
  | 50 => ⟨S256, .i32⟩
  | 51 => ⟨S_, .i32⟩
  | 52 => ⟨S256, .i32⟩
  | 53 => ⟨S256, .i1⟩
  | 54 => ⟨S256, .i32⟩
  | 55 => ⟨S256, .i32⟩
  | 56 => ⟨S_, .i32⟩
  | 57 => ⟨S256, .i32⟩
  | 58 => ⟨S256, .i1⟩
  | 59 => ⟨S256, .i1⟩
  | 60 => ⟨S_, .i32⟩
  | 61 => ⟨S256, .i32⟩
  | 62 => ⟨S256, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S_, .i32⟩
  | 70 => ⟨S256, .i32⟩
  | 71 => ⟨S256, .i32⟩
  | 72 => ⟨S_, .i32⟩
  | 73 => ⟨S_, .i32⟩
  | 74 => ⟨S256, .i32⟩
  | 75 => ⟨S256, .i32⟩
  | 76 => ⟨S1287, .i32⟩
  | 77 => ⟨S1x256, .i32⟩
  | 78 => ⟨S1287x1, .i32⟩
  | 79 => ⟨S1287x256, .i32⟩
  | 80 => ⟨S1287x256, .i32⟩
  | 81 => ⟨S1287x256, .i1⟩
  | 82 => ⟨S1287x256, .i32⟩
  | 83 => ⟨S_, .i32⟩
  | 84 => ⟨S1287, .i32⟩
  | 85 => ⟨S_, .i32⟩
  | 86 => ⟨S1287, .i32⟩
  | 87 => ⟨S1, .i32⟩
  | 88 => ⟨S_, .i32⟩
  | 89 => ⟨S1287, .i32⟩
  | 90 => ⟨S1287, .i1⟩
  | 91 => ⟨S_, .i32⟩
  | 92 => ⟨S1287, .i32⟩
  | 93 => ⟨S1287, .i1⟩
  | 94 => ⟨S_, .i32⟩
  | 95 => ⟨S1287, .i32⟩
  | 96 => ⟨S1287, .i32⟩
  | 97 => ⟨S1287, .i32⟩
  | 98 => ⟨S1287x1, .i32⟩
  | 99 => ⟨S1287, .i32⟩
  | 100 => ⟨S1287, .i32⟩
  | 101 => ⟨S_, .i32⟩
  | 102 => ⟨S1287, .i32⟩
  | 103 => ⟨S1287, .i1⟩
  | 104 => ⟨S_, .i32⟩
  | 105 => ⟨S1287, .i32⟩
  | 106 => ⟨S1287, .i32⟩
  | 107 => ⟨S1287, .i32⟩
  | 108 => ⟨S1287x1, .i32⟩
  | 109 => ⟨S1287, .i32⟩
  | 110 => ⟨S1287, .i32⟩
  | 111 => ⟨S_, .i32⟩
  | 112 => ⟨S_, .i32⟩
  | 113 => ⟨S1287, .i32⟩
  | 114 => ⟨S_, .i32⟩
  | 115 => ⟨S1287, .i32⟩
  | 116 => ⟨S1287, .i32⟩
  | 117 => ⟨S_, .i32⟩
  | 118 => ⟨S1287, .i32⟩
  | 119 => ⟨S1287, .i1⟩
  | 120 => ⟨S_, .i32⟩
  | 121 => ⟨S1287, .i32⟩
  | 122 => ⟨S1287, .i32⟩
  | 123 => ⟨S1287, .i32⟩
  | 124 => ⟨S1287x1, .i32⟩
  | 125 => ⟨S1287, .i32⟩
  | 126 => ⟨S1287, .i32⟩
  | 127 => ⟨S1287, .i32⟩
  | _ => ⟨S66048x1024, .f32⟩

abbrev hbmTy0_1 (i : Nat) : BufTy := match i % 128 with
  | 0 => ⟨S_, .i32⟩
  | 1 => ⟨S_, .i32⟩
  | 2 => ⟨S1287, .i32⟩
  | 3 => ⟨S_, .i32⟩
  | 4 => ⟨S1287, .i32⟩
  | 5 => ⟨S1287, .i1⟩
  | 6 => ⟨S_, .i32⟩
  | 7 => ⟨S1287, .i32⟩
  | 8 => ⟨S1287, .i32⟩
  | 9 => ⟨S1287, .i32⟩
  | 10 => ⟨S1287x1, .i32⟩
  | 11 => ⟨S1287, .i32⟩
  | 12 => ⟨S_, .i32⟩
  | 13 => ⟨S1287, .i32⟩
  | 14 => ⟨S1287, .i1⟩
  | 15 => ⟨S_, .i32⟩
  | 16 => ⟨S1287, .i32⟩
  | 17 => ⟨S1287, .i32⟩
  | 18 => ⟨S1287, .i32⟩
  | 19 => ⟨S1287x1, .i32⟩
  | 20 => ⟨S1287, .i32⟩
  | 21 => ⟨S1287, .i32⟩
  | 22 => ⟨S_, .i32⟩
  | 23 => ⟨S1287, .i32⟩
  | 24 => ⟨S1287, .i32⟩
  | 25 => ⟨S1287, .i32⟩
  | 26 => ⟨S1287, .i32⟩
  | 27 => ⟨S_, .i32⟩
  | 28 => ⟨S_, .i32⟩
  | 29 => ⟨S1287, .i32⟩
  | 30 => ⟨S_, .i32⟩
  | 31 => ⟨S1, .i32⟩
  | 32 => ⟨S1286, .i32⟩
  | 33 => ⟨S1286, .i32⟩
  | 34 => ⟨S1286, .i1⟩
  | 35 => ⟨S1286, .i32⟩
  | 36 => ⟨S66048x1024, .bf16⟩
  | 37 => ⟨S_, .bf16⟩
  | 38 => ⟨S1x1024, .bf16⟩
  | 39 => ⟨S66049x1024, .bf16⟩
  | 40 => ⟨S_, .i32⟩
  | 41 => ⟨S_, .i32⟩
  | 42 => ⟨S528384, .i32⟩
  | 43 => ⟨S528384, .i32⟩
  | 44 => ⟨S528384, .i32⟩
  | 45 => ⟨S_, .i32⟩
  | 46 => ⟨S528384, .i32⟩
  | 47 => ⟨S528384, .i1⟩
  | 48 => ⟨S528384, .i32⟩
  | 49 => ⟨S528384, .i32⟩
  | 50 => ⟨S_, .i32⟩
  | 51 => ⟨S528384, .i32⟩
  | 52 => ⟨S528384, .i1⟩
  | 53 => ⟨S528384, .i1⟩
  | 54 => ⟨S_, .i32⟩
  | 55 => ⟨S528384, .i32⟩
  | 56 => ⟨S528384, .i32⟩
  | 57 => ⟨S528384, .i32⟩
  | 58 => ⟨S_, .i32⟩
  | 59 => ⟨S528384, .i32⟩
  | 60 => ⟨S528384, .i1⟩
  | 61 => ⟨S_, .i32⟩
  | 62 => ⟨S528384, .i32⟩
  | 63 => ⟨S528384, .i32⟩
  | 64 => ⟨S528384, .i32⟩
  | 65 => ⟨S528384x1, .i32⟩
  | 66 => ⟨S528384x1024, .bf16⟩
  | 67 => ⟨S256x1024x512, .bf16⟩
  | 68 => ⟨S256x256x1024, .bf16⟩
  | 69 => ⟨S528384x1024, .bf16⟩
  | _ => ⟨S66048x1024, .f32⟩

abbrev hbmTy (i : Nat) : BufTy := match i / 128 with
  | 0 => hbmTy0_0 i
  | 1 => hbmTy0_1 i
  | _ => ⟨S66048x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x1024, .bf16⟩
  | .local _ .vmem, ⟨7, _⟩ => ⟨S512x1024, .bf16⟩
  | .local _ .smem, ⟨0, _⟩ => ⟨S1287, .i32⟩
  | .local _ .smem, ⟨1, _⟩ => ⟨S1287, .i32⟩
  | .local _ .smem, ⟨2, _⟩ => ⟨S1287, .i32⟩
  | .local _ .smem, ⟨3, _⟩ => ⟨S1287, .i32⟩
  | .local _ .smem, ⟨4, _⟩ => ⟨S1287, .i32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_c_5 : Ref sig .tc := ⟨.hbm, 68, rfl⟩
abbrev main_call2_v0 : Ref sig .tc := ⟨.hbm, 69, rfl⟩
abbrev main_call2_v1 : Ref sig .tc := ⟨.hbm, 70, rfl⟩
abbrev main_v25 : Ref sig .tc := ⟨.hbm, 71, rfl⟩
abbrev main_call3_call0_c : Ref sig .tc := ⟨.hbm, 72, rfl⟩
abbrev main_call3_call0_v0 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_6 : Ref sig .tc := ⟨.hbm, 83, rfl⟩
abbrev main_v35 : Ref sig .tc := ⟨.hbm, 84, rfl⟩
abbrev main_c_7 : Ref sig .tc := ⟨.hbm, 85, rfl⟩
abbrev main_v36 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_8 : Ref sig .tc := ⟨.hbm, 91, rfl⟩
abbrev main_v42 : Ref sig .tc := ⟨.hbm, 92, rfl⟩
abbrev main_v43 : Ref sig .tc := ⟨.hbm, 93, rfl⟩
abbrev main_c_9 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_10 : Ref sig .tc := ⟨.hbm, 101, rfl⟩
abbrev main_v50 : Ref sig .tc := ⟨.hbm, 102, rfl⟩
abbrev main_v51 : Ref sig .tc := ⟨.hbm, 103, rfl⟩
abbrev main_c_11 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_12 : Ref sig .tc := ⟨.hbm, 111, rfl⟩
abbrev main_call4_v0 : Ref sig .tc := ⟨.hbm, 112, rfl⟩
abbrev main_call4_v1 : Ref sig .tc := ⟨.hbm, 113, rfl⟩
abbrev main_c_13 : Ref sig .tc := ⟨.hbm, 114, rfl⟩
abbrev main_v59 : Ref sig .tc := ⟨.hbm, 115, rfl⟩
abbrev main_v60 : Ref sig .tc := ⟨.hbm, 116, rfl⟩
abbrev main_c_14 : Ref sig .tc := ⟨.hbm, 117, rfl⟩
abbrev main_v61 : Ref sig .tc := ⟨.hbm, 118, rfl⟩
abbrev main_v62 : Ref sig .tc := ⟨.hbm, 119, rfl⟩
abbrev main_c_15 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_c_16 : Ref sig .tc := ⟨.hbm, 128, rfl⟩
abbrev main_call5_v0 : Ref sig .tc := ⟨.hbm, 129, rfl⟩
abbrev main_call5_v1 : Ref sig .tc := ⟨.hbm, 130, rfl⟩
abbrev main_c_17 : Ref sig .tc := ⟨.hbm, 131, rfl⟩
abbrev main_v71 : Ref sig .tc := ⟨.hbm, 132, rfl⟩
abbrev main_v72 : Ref sig .tc := ⟨.hbm, 133, rfl⟩
abbrev main_c_18 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_c_19 : Ref sig .tc := ⟨.hbm, 140, rfl⟩
abbrev main_v78 : Ref sig .tc := ⟨.hbm, 141, rfl⟩
abbrev main_v79 : Ref sig .tc := ⟨.hbm, 142, rfl⟩
abbrev main_c_20 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_c_21 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_c_22 : Ref sig .tc := ⟨.hbm, 155, rfl⟩
abbrev main_call6_v0 : Ref sig .tc := ⟨.hbm, 156, rfl⟩
abbrev main_call6_v1 : Ref sig .tc := ⟨.hbm, 157, rfl⟩
abbrev main_c_23 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v97 : Ref sig .tc := ⟨.hbm, 164, rfl⟩
abbrev main_cst : Ref sig .tc := ⟨.hbm, 165, rfl⟩
abbrev main_v98 : Ref sig .tc := ⟨.hbm, 166, rfl⟩
abbrev main_v99 : Ref sig .tc := ⟨.hbm, 167, rfl⟩
abbrev main_c_24 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_call7_v5 : Ref sig .tc := ⟨.hbm, 174, rfl⟩
abbrev main_call7_v6 : Ref sig .tc := ⟨.hbm, 175, rfl⟩
abbrev main_call7_v7 : Ref sig .tc := ⟨.hbm, 176, rfl⟩
abbrev main_call7_v8 : Ref sig .tc := ⟨.hbm, 177, rfl⟩
abbrev main_call7_c : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_call7_c_0 : Ref sig .tc := ⟨.hbm, 182, rfl⟩
abbrev main_call7_v12 : Ref sig .tc := ⟨.hbm, 183, rfl⟩
abbrev main_call7_v13 : Ref sig .tc := ⟨.hbm, 184, rfl⟩
abbrev main_v100 : Ref sig .tc := ⟨.hbm, 185, rfl⟩
abbrev main_c_25 : Ref sig .tc := ⟨.hbm, 186, rfl⟩
abbrev main_v101 : Ref sig .tc := ⟨.hbm, 187, rfl⟩
abbrev main_v102 : Ref sig .tc := ⟨.hbm, 188, rfl⟩
abbrev main_c_26 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v37 : Ref sig .tc := ⟨.smem, 0, rfl⟩
abbrev main_v58 : Ref sig .tc := ⟨.smem, 1, rfl⟩
abbrev main_v70 : Ref sig .tc := ⟨.smem, 2, rfl⟩
abbrev main_v90 : Ref sig .tc := ⟨.smem, 3, rfl⟩
abbrev main_v96 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1287], ![false]⟩

abbrev pre0 : Pipeline.Prefetch sig := ⟨5, ![main_v37.idx, main_v58.idx, main_v70.idx, main_v90.idx, main_v96.idx], fun | 0 => main_v37.names | 1 => main_v58.names | 2 => main_v70.names | 3 => main_v90.names | 4 => main_v96.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v12 : Index := Scalar.indexCast arg0
  ![v12.toNat]
def k0_cond1 (v1 : BitVec 32) (v3 : BitVec 32) (v6 : BitVec 32) : BitVec 1 :=
  let v4 : BitVec 1 := Scalar.cmpi .sgt v3 v1
  let c1_i32 : BitVec 32 := 1#32
  let v7 : BitVec 1 := Scalar.cmpi .eq v6 c1_i32
  let v8 : BitVec 1 := Scalar.andi v4 v7
  let v9 : BitVec 32 := Scalar.extui v8
  let c0_i32 : BitVec 32 := 0#32
  let v10 : BitVec 1 := Scalar.cmpi .ne v9 c0_i32
  v10

def k0_cond2 (v1 : BitVec 32) (v3 : BitVec 32) (v13 : BitVec 32) : BitVec 1 :=
  let v11 : BitVec 1 := Scalar.cmpi .sgt v3 v1
  let c0_i32_0 : BitVec 32 := 0#32
  let v14 : BitVec 1 := Scalar.cmpi .eq v13 c0_i32_0
  let v15 : BitVec 1 := Scalar.andi v11 v14
  let v16 : BitVec 32 := Scalar.extui v15
  let c0_i32_1 : BitVec 32 := 0#32
  let v17 : BitVec 1 := Scalar.cmpi .ne v16 c0_i32_1
  v17

def cc0_transform_0 (k0_off1_inb : ∀ i : grid0.Coords, ∀ a, (k0_off1 i) a + S1.size a ≤ S1287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S1287) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S1287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S1287) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S66048x1024 : Shape := ⟨2, ![66048, 1024]⟩
abbrev S66048x8 : Shape := ⟨2, ![66048, 8]⟩
abbrev S256x1024x512 : Shape := ⟨3, ![256, 1024, 512]⟩
abbrev S256x256x1024 : Shape := ⟨3, ![256, 256, 1024]⟩
abbrev S528384 : Shape := ⟨1, ![528384]⟩
abbrev S_ : Shape := ⟨0, ![]⟩
abbrev S528384x1 : Shape := ⟨2, ![528384, 1]⟩
abbrev S528384x1024 : Shape := ⟨2, ![528384, 1024]⟩
abbrev S528384x1024x512 : Shape := ⟨3, ![528384, 1024, 512]⟩
abbrev S528384x512 : Shape := ⟨2, ![528384, 512]⟩
abbrev S528384x256 : Shape := ⟨2, ![528384, 256]⟩
abbrev S528384x256x1024 : Shape := ⟨3, ![528384, 256, 1024]⟩

abbrev nBuf : Space → Nat
  | .hbm => 77
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S66048x8, .i32⟩
  | .hbm, ⟨2, _⟩ => ⟨S256x1024x512, .f32⟩
  | .hbm, ⟨3, _⟩ => ⟨S256x256x1024, .f32⟩
  | .hbm, ⟨4, _⟩ => ⟨S528384, .i32⟩
  | .hbm, ⟨5, _⟩ => ⟨S528384, .i32⟩
  | .hbm, ⟨6, _⟩ => ⟨S528384, .i32⟩
  | .hbm, ⟨7, _⟩ => ⟨S528384, .i32⟩
  | .hbm, ⟨8, _⟩ => ⟨S_, .i32⟩
  | .hbm, ⟨9, _⟩ => ⟨S528384, .i32⟩
  | .hbm, ⟨10, _⟩ => ⟨S528384, .i1⟩
  | .hbm, ⟨11, _⟩ => ⟨S_, .i32⟩
  | .hbm, ⟨12, _⟩ => ⟨S528384, .i32⟩
  | .hbm, ⟨13, _⟩ => ⟨S528384, .i32⟩
  | .hbm, ⟨14, _⟩ => ⟨S528384, .i32⟩
  | .hbm, ⟨15, _⟩ => ⟨S528384x1, .i32⟩
  | .hbm, ⟨16, _⟩ => ⟨S528384, .i32⟩
  | .hbm, ⟨17, _⟩ => ⟨S_, .i32⟩
  | .hbm, ⟨18, _⟩ => ⟨S_, .i32⟩
  | .hbm, ⟨19, _⟩ => ⟨S528384, .i32⟩
  | .hbm, ⟨20, _⟩ => ⟨S528384, .i32⟩
  | .hbm, ⟨21, _⟩ => ⟨S528384, .i32⟩
  | .hbm, ⟨22, _⟩ => ⟨S_, .i32⟩
  | .hbm, ⟨23, _⟩ => ⟨S528384, .i32⟩
  | .hbm, ⟨24, _⟩ => ⟨S528384, .i1⟩
  | .hbm, ⟨25, _⟩ => ⟨S528384, .i32⟩
  | .hbm, ⟨26, _⟩ => ⟨S528384, .i32⟩
  | .hbm, ⟨27, _⟩ => ⟨S_, .i32⟩
  | .hbm, ⟨28, _⟩ => ⟨S528384, .i32⟩
  | .hbm, ⟨29, _⟩ => ⟨S528384, .i1⟩
  | .hbm, ⟨30, _⟩ => ⟨S528384, .i1⟩
  | .hbm, ⟨31, _⟩ => ⟨S_, .i32⟩
  | .hbm, ⟨32, _⟩ => ⟨S528384, .i32⟩
  | .hbm, ⟨33, _⟩ => ⟨S528384, .i32⟩
  | .hbm, ⟨34, _⟩ => ⟨S528384, .i32⟩
  | .hbm, ⟨35, _⟩ => ⟨S_, .i32⟩
  | .hbm, ⟨36, _⟩ => ⟨S528384, .i32⟩
  | .hbm, ⟨37, _⟩ => ⟨S528384, .i1⟩
  | .hbm, ⟨38, _⟩ => ⟨S_, .i32⟩
  | .hbm, ⟨39, _⟩ => ⟨S528384, .i32⟩
  | .hbm, ⟨40, _⟩ => ⟨S528384, .i32⟩
  | .hbm, ⟨41, _⟩ => ⟨S528384, .i32⟩
  | .hbm, ⟨42, _⟩ => ⟨S528384x1, .i32⟩
  | .hbm, ⟨43, _⟩ => ⟨S528384x1024, .f32⟩
  | .hbm, ⟨44, _⟩ => ⟨S_, .i32⟩
  | .hbm, ⟨45, _⟩ => ⟨S528384, .i32⟩
  | .hbm, ⟨46, _⟩ => ⟨S528384, .i1⟩
  | .hbm, ⟨47, _⟩ => ⟨S_, .i32⟩
  | .hbm, ⟨48, _⟩ => ⟨S528384, .i32⟩
  | .hbm, ⟨49, _⟩ => ⟨S528384, .i32⟩
  | .hbm, ⟨50, _⟩ => ⟨S528384, .i32⟩
  | .hbm, ⟨51, _⟩ => ⟨S528384x1, .i32⟩
  | .hbm, ⟨52, _⟩ => ⟨S528384x1024x512, .f32⟩
  | .hbm, ⟨53, _⟩ => ⟨S528384x512, .f32⟩
  | .hbm, ⟨54, _⟩ => ⟨S528384x256, .f32⟩
  | .hbm, ⟨55, _⟩ => ⟨S528384x256, .f32⟩
  | .hbm, ⟨56, _⟩ => ⟨S528384x256, .f32⟩
  | .hbm, ⟨57, _⟩ => ⟨S528384x256, .f32⟩
  | .hbm, ⟨58, _⟩ => ⟨S_, .f32⟩
  | .hbm, ⟨59, _⟩ => ⟨S528384x256, .f32⟩
  | .hbm, ⟨60, _⟩ => ⟨S528384x256, .f32⟩
  | .hbm, ⟨61, _⟩ => ⟨S_, .f32⟩
  | .hbm, ⟨62, _⟩ => ⟨S528384x256, .f32⟩
  | .hbm, ⟨63, _⟩ => ⟨S528384x256, .f32⟩
  | .hbm, ⟨64, _⟩ => ⟨S528384x256, .f32⟩
  | .hbm, ⟨65, _⟩ => ⟨S528384x256, .f32⟩
  | .hbm, ⟨66, _⟩ => ⟨S_, .i32⟩
  | .hbm, ⟨67, _⟩ => ⟨S528384, .i32⟩
  | .hbm, ⟨68, _⟩ => ⟨S528384, .i1⟩
  | .hbm, ⟨69, _⟩ => ⟨S_, .i32⟩
  | .hbm, ⟨70, _⟩ => ⟨S528384, .i32⟩
  | .hbm, ⟨71, _⟩ => ⟨S528384, .i32⟩
  | .hbm, ⟨72, _⟩ => ⟨S528384, .i32⟩
  | .hbm, ⟨73, _⟩ => ⟨S528384x1, .i32⟩
  | .hbm, ⟨74, _⟩ => ⟨S528384x256x1024, .f32⟩
  | .hbm, ⟨75, _⟩ => ⟨S528384x1024, .f32⟩
  | .hbm, ⟨76, _⟩ => ⟨S528384x1024, .bf16⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v27 : Ref sig .tc := ⟨.hbm, 64, rfl⟩
abbrev main_v28 : Ref sig .tc := ⟨.hbm, 65, rfl⟩
abbrev main_c_6 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩

abbrev nD : Nat := 1
abbrev τ : Topo := Topo.v7x

variable {F : FTy → Type} [FloatOps F]
-- ==== Proof.Attn.Softmax.lean ====
module
public import Idealize.ShloMosaic.PureOps.Ideal.Laws
public import Idealize.ShloMosaic.Lib.ValueIdx
/-!
# Softmax by blocks, on one row

The arithmetic of one row of attention, over the extended reals and apart from any program.  A row has real scores
`s 0, s 1, …` and real values `v k d`.  The kernel reads the keys in blocks of 512 and keeps a running maximum, a running
denominator and a running numerator; the reference takes the softmax of the whole row at once.  Here both are brought to
one quotient: the sum of `exp (s k) * v k d` over the sum of `exp (s k)`, over the keys the row sees.
-/
@[expose] public section
noncomputable section
namespace Cert.Attn
open Idealize.ShloMosaic Finset

/-- A sum of reals, taken among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [sum_insert ha, sum_insert ha, EReal.coe_add, ih]

/-- The bit pattern a maximum starts from is minus infinity. -/
theorem negInf : (FloatOps.ofBits (F := Ideal) .f32 0xFF800000#32 : EReal) = ⊥ := by
  show Ideal.ofBits .f32 0xFF800000#32 = ⊥
  simp [Ideal.ofBits, Ideal.ieee]

/-- The maximum of finitely many numbers below plus infinity, one of them real, is real. -/
theorem fold_real {n : Nat} (t : Fin n → EReal) (ht : ∀ k, t k ≠ ⊤) (k₀ : Fin n) (r : ℝ) (hk : t k₀ = r) :
    ∃ M : ℝ, (univ : Finset (Fin n)).fold max (⊥ : EReal) t = M := by
  have h1 : (univ : Finset (Fin n)).fold max (⊥ : EReal) t < ⊤ :=
    (Finset.fold_max_lt _).2 ⟨bot_lt_top, fun k _ => lt_top_iff_ne_top.2 (ht k)⟩
  have h2 : ⊥ < (univ : Finset (Fin n)).fold max (⊥ : EReal) t :=
    (Finset.lt_fold_max _).2 (.inr ⟨k₀, mem_univ _, hk ▸ EReal.bot_lt_coe r⟩)
  exact ⟨_, (EReal.coe_toReal h1.ne h2.ne').symm⟩

/-- The exponential of a score less a real, the score masked where `p` fails. -/
theorem exp_masked (p : Prop) [Decidable p] (x M : ℝ) :
    Ideal.exp ((if p then (x : EReal) else ⊥) - (M : EReal)) = ((if p then Real.exp (x - M) else 0 : ℝ) : EReal) := by
  split
  · rw [← EReal.coe_sub, Ideal.exp_coe]
  · rw [EReal.bot_sub, Ideal.exp_bot]; rfl

/-- A sum over the first `n` places of which only the first `c` count. -/
theorem sum_masked (n c : Nat) (hc : c ≤ n) (f : ℕ → ℝ) :
    (∑ k : Fin n, if k.val < c then f k.val else 0) = ∑ k ∈ range c, f k := by
  rw [Fin.sum_univ_eq_sum_range (fun k => if k < c then f k else 0) n, ← sum_filter]
  congr 1
  ext k
  simp only [mem_filter, mem_range]
  omega

/-- What the kernel keeps of one row after its first `n` keys: nothing yet, or a real reference point `M` with the
    denominator and the numerators of the softmax taken against it. -/
def Inv (s : ℕ → ℝ) (v : ℕ → Fin 128 → ℝ) (n : ℕ) (m l : EReal) (a : Fin 128 → EReal) : Prop :=
  (n = 0 ∧ m = ⊥ ∧ l = 0 ∧ ∀ d, a d = 0) ∨
  (0 < n ∧ ∃ M : ℝ, m = M ∧ l = ((∑ k ∈ range n, Real.exp (s k - M) : ℝ) : EReal)
    ∧ ∀ d, a d = ((∑ k ∈ range n, Real.exp (s k - M) * v k d : ℝ) : EReal))

theorem rescale (f : ℕ → ℝ) (s : ℕ → ℝ) (n : ℕ) (M M' : ℝ) :
    (∑ k ∈ range n, Real.exp (s k - M) * f k) * Real.exp (M - M') = ∑ k ∈ range n, Real.exp (s k - M') * f k := by
  rw [sum_mul]
  refine sum_congr rfl fun k _ => ?_
  rw [mul_right_comm, ← Real.exp_add]
  congr 2; ring

/-- One block of keys: the state moves on by the `c` keys of the block that the row sees. -/
theorem Inv.step {s : ℕ → ℝ} {v : ℕ → Fin 128 → ℝ} {n c : ℕ} {m l : EReal} {a : Fin 128 → EReal} (h : Inv s v n m l a)
    (hc : 0 < c) (hc' : c ≤ 512) (t : Fin 512 → EReal) (w : Fin 512 → Fin 128 → EReal)
    (ht : ∀ k : Fin 512, t k = if k.val < c then (s (n + k.val) : EReal) else ⊥)
    (hw : ∀ (k : Fin 512) d, w k d = (v (n + k.val) d : EReal)) :
    Inv s v (n + c) (max m (univ.fold max (⊥ : EReal) t))
      (l * Ideal.exp (m - max m (univ.fold max (⊥ : EReal) t)) + ∑ k : Fin 512, Ideal.exp (t k - max m (univ.fold max (⊥ : EReal) t)))
      (fun d => a d * Ideal.exp (m - max m (univ.fold max (⊥ : EReal) t))
        + ∑ k : Fin 512, Ideal.exp (t k - max m (univ.fold max (⊥ : EReal) t)) * w k d) := by
  obtain ⟨M₁, hM₁⟩ := fold_real t (fun k => by rw [ht]; split <;> simp) ⟨0, by omega⟩ (s (n + 0)) (by rw [ht, if_pos hc])
  have hM : ∃ M' : ℝ, max m (univ.fold max (⊥ : EReal) t) = M' := by
    rw [hM₁]
    rcases h with ⟨_, hm, _⟩ | ⟨_, M, hm, _⟩
    · exact ⟨M₁, by rw [hm]; exact max_eq_right bot_le⟩
    · exact ⟨max M M₁, by rw [hm]; exact (EReal.coe_strictMono.monotone.map_max).symm⟩
  obtain ⟨M', hM'⟩ := hM
  rw [hM']
  refine .inr ⟨by omega, M', rfl, ?_, fun d => ?_⟩
  · have e : ∑ k : Fin 512, Ideal.exp (t k - (M' : EReal)) = ((∑ k ∈ range c, Real.exp (s (n + k) - M') : ℝ) : EReal) := by
      rw [← sum_masked 512 c hc' (fun k => Real.exp (s (n + k) - M')), coe_sum]
      exact sum_congr rfl fun k _ => by rw [ht, exp_masked]
    beta_reduce
    rw [e, sum_range_add]
    rcases h with ⟨hn, hm, hl, _⟩ | ⟨_, M, hm, hl, _⟩
    · subst hn; rw [hl]; simp
    · rw [hl, hm, ← EReal.coe_sub, Ideal.exp_coe, ← EReal.coe_mul, ← EReal.coe_add]
      have := rescale (fun _ => 1) s n M M'
      simp only [mul_one] at this
      rw [this]
  · have e : ∑ k : Fin 512, Ideal.exp (t k - (M' : EReal)) * w k d
        = ((∑ k ∈ range c, Real.exp (s (n + k) - M') * v (n + k) d : ℝ) : EReal) := by
      rw [← sum_masked 512 c hc' (fun k => Real.exp (s (n + k) - M') * v (n + k) d), coe_sum]
      refine sum_congr rfl fun k _ => ?_
      rw [ht, exp_masked, hw, ← EReal.coe_mul, ite_mul, zero_mul]
    beta_reduce
    rw [e, sum_range_add]
    rcases h with ⟨hn, hm, _, ha⟩ | ⟨_, M, hm, _, ha⟩
    · subst hn; rw [ha]; simp
    · rw [ha, hm, ← EReal.coe_sub, Ideal.exp_coe, ← EReal.coe_mul, ← EReal.coe_add, rescale]

/-- The softmax average of the values over a row's first `n` keys. -/
def avg (s : ℕ → ℝ) (v : ℕ → Fin 128 → ℝ) (n : ℕ) (d : Fin 128) : ℝ :=
  (∑ k ∈ range n, Real.exp (s k) * v k d) / ∑ k ∈ range n, Real.exp (s k)

theorem sum_exp_pos (s : ℕ → ℝ) {n : ℕ} (hn : 0 < n) (M : ℝ) : 0 < ∑ k ∈ range n, Real.exp (s k - M) :=
  sum_pos (fun _ _ => Real.exp_pos _) ⟨0, mem_range.2 hn⟩

theorem avg_shift (s : ℕ → ℝ) (v : ℕ → Fin 128 → ℝ) {n : ℕ} (hn : 0 < n) (M : ℝ) (d : Fin 128) :
    (∑ k ∈ range n, Real.exp (s k - M) * v k d) / (∑ k ∈ range n, Real.exp (s k - M)) = avg s v n d := by
  have h1 := rescale (fun k => v k d) s n M 0
  have h2 := rescale (fun _ => 1) s n M 0
  simp only [mul_one, sub_zero] at h1 h2
  rw [avg, ← h1, ← h2, mul_div_mul_right _ _ (Real.exp_pos _).ne']

/-- The numerator over the denominator that the kernel ends with is the softmax average. -/
theorem Inv.div {s : ℕ → ℝ} {v : ℕ → Fin 128 → ℝ} {n : ℕ} {m l : EReal} {a : Fin 128 → EReal} (h : Inv s v n m l a)
    (hn : 0 < n) (d : Fin 128) : Ideal.div (a d) l = (avg s v n d : EReal) := by
  rcases h with ⟨h, _⟩ | ⟨_, M, _, hl, ha⟩
  · omega
  · rw [hl, ha, Ideal.div_coe (sum_exp_pos s hn M).ne', ← EReal.coe_mul, mul_one_div, avg_shift s v hn]

/-- The whole softmax map of a masked row of `N` scores, of which the first `c` count: real weights. -/
theorem softmax_row {N c : ℕ} (s : ℕ → ℝ) (hc : 0 < c) (hN : c ≤ N) (f : Fin N → EReal)
    (hf : ∀ k : Fin N, f k = if k.val < c then (s k.val : EReal) else ⊥) (k : Fin N) :
    Ideal.div (Ideal.exp (f k - univ.fold max (⊥ : EReal) f)) (∑ j : Fin N, Ideal.exp (f j - univ.fold max (⊥ : EReal) f))
      = ((if k.val < c then Real.exp (s k.val) / ∑ j ∈ range c, Real.exp (s j) else 0 : ℝ) : EReal) := by
  obtain ⟨M, hM⟩ := fold_real f (fun k => by rw [hf]; split <;> simp) ⟨0, by omega⟩ (s 0) (by rw [hf, if_pos hc])
  have e : ∑ j : Fin N, Ideal.exp (f j - (M : EReal)) = ((∑ j ∈ range c, Real.exp (s j - M) : ℝ) : EReal) := by
    rw [← sum_masked N c hN (fun j => Real.exp (s j - M)), coe_sum]
    exact sum_congr rfl fun k _ => by rw [hf, exp_masked]
  rw [hM, e, hf, exp_masked, Ideal.div_coe (sum_exp_pos s hc M).ne', ← EReal.coe_mul]
  congr 1
  split
  · have h2 := rescale (fun _ => 1) s c M 0
    simp only [mul_one, sub_zero] at h2
    rw [← h2, ← sub_add_cancel (s k.val) M, Real.exp_add, mul_one_div, sub_add_cancel,
      mul_div_mul_right _ _ (Real.exp_pos _).ne']
  · rw [zero_mul]

/-- The values weighted by the difference of two softmax maps are the difference of the two averages. -/
theorem weighted {N c : ℕ} (s₀ s₁ : ℕ → ℝ) (v : ℕ → Fin 128 → ℝ) (lam : ℝ) (hN : c ≤ N) (d : Fin 128)
    (p₀ p₁ w : Fin N → EReal)
    (h₀ : ∀ k : Fin N, p₀ k = ((if k.val < c then Real.exp (s₀ k.val) / ∑ j ∈ range c, Real.exp (s₀ j) else 0 : ℝ) : EReal))
    (h₁ : ∀ k : Fin N, p₁ k = ((if k.val < c then Real.exp (s₁ k.val) / ∑ j ∈ range c, Real.exp (s₁ j) else 0 : ℝ) : EReal))
    (hw : ∀ k : Fin N, w k = (v k.val d : EReal)) :
    ∑ k : Fin N, w k * (p₀ k - (lam : EReal) * p₁ k)
      = ((avg s₀ v c d : ℝ) : EReal) - (lam : EReal) * ((avg s₁ v c d : ℝ) : EReal) := by
  have e : ∀ k : Fin N, w k * (p₀ k - (lam : EReal) * p₁ k)
      = ((if k.val < c then v k.val d * (Real.exp (s₀ k.val) / ∑ j ∈ range c, Real.exp (s₀ j)
          - lam * (Real.exp (s₁ k.val) / ∑ j ∈ range c, Real.exp (s₁ j))) else 0 : ℝ) : EReal) := by
    intro k
    rw [hw, h₀, h₁, ← EReal.coe_mul, ← EReal.coe_sub, ← EReal.coe_mul]
    congr 1
    split <;> ring
  rw [sum_congr rfl fun k _ => e k, ← coe_sum,
    sum_masked N c hN (fun k => v k d * (Real.exp (s₀ k) / ∑ j ∈ range c, Real.exp (s₀ j)
          - lam * (Real.exp (s₁ k) / ∑ j ∈ range c, Real.exp (s₁ j)))), ← EReal.coe_mul, ← EReal.coe_sub]
  congr 1
  rw [avg, avg, sum_div, sum_div, mul_sum, ← sum_sub_distrib]
  exact sum_congr rfl fun k _ => by ring

end Cert.Attn
end
-- ==== Proof.Attn.Rows.lean ====
module
public import Idealize.ShloMosaic.Lib.Pipeline.Value
public import Idealize.ShloMosaic.Lib.ValueIdx
public import Idealize.ShloMosaic.Lib.ValueLayout
public import Idealize.ShloMosaic.PureOps.Ideal.Laws
public import proofs.«01_k».proof.Proof.Attn.Softmax
/-!
# Row operations read at an index

A column vector spread over a row, a vector seen as a column, and the maximum and the sum along a row, each read at one
index; sizes are general.
-/
@[expose] public section
noncomputable section
namespace Cert.Attn
open Idealize.ShloMosaic Idealize.ShloMosaic.ValueIdx Finset

theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    omega)

theorem bcast_col {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => by
    match c with
    | ⟨0, _⟩ =>
      show i.val = if a = 1 then 0 else i.val
      have := i.isLt
      split <;> omega
    | ⟨1, _⟩ => rfl

theorem row_max {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (i : Fin a) :
    multiReduction .maximumf [1] ⟨1, ![a]⟩ x 0xFF800000#32 h hφ hacc (ix1 i)
      = (univ : Finset (Fin b)).fold max (⊥ : EReal) (fun k => x (ix2 i k)) := by
  rw [Ideal.multiReduction_maximumf_single, negInf]
  congr 1
  funext k
  show x _ = x _
  congr 1
  funext c
  apply Fin.ext
  match c with
  | ⟨0, _⟩ => rfl
  | ⟨1, _⟩ => rfl

theorem row_add {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ x 0x00000000#32 h hφ hacc (ix1 i) = ∑ k : Fin b, x (ix2 i k) := by
  rw [Ideal.multiReduction_add_single]
  refine sum_congr rfl fun k _ => ?_
  congr 1
  funext c
  apply Fin.ext
  match c with
  | ⟨0, _⟩ => rfl
  | ⟨1, _⟩ => rfl

end Cert.Attn
end
-- ==== Proof.Attn.Block.lean ====
module
public import proofs.«01_k».proof.Proof.Gen.KernelIdeal.Value
public import Idealize.ShloMosaic.Lib.Tactic
public import proofs.«01_k».proof.Proof.Attn.Rows
/-!
# What one grid point of the attention kernel computes

A grid point holds 512 queries of one head, and reads the keys and values in blocks of 512.  Its 1024 rows are the 512
queries for the head's first map and the same 512 for its second.  Here the blocks of arithmetic of the kernel are read at one
row, in terms of the scores of that row.
-/
@[expose] public section
noncomputable section
namespace Cert.KernelIdeal.Attn
open Cert.KernelIdeal Cert.KernelIdeal.Gen Cert.Attn Idealize.ShloMosaic Idealize.ShloMosaic.TcCoe Idealize.SL.Sem
open Idealize.ShloMosaic.ValueIdx Finset

/-- The score of row `R` against key `n` of a block: the product over the head's lanes. -/
def score (v0 kb : Vec Ideal S1x512x128 .bf16) (R : Fin 1024) (n : Fin 512) : EReal :=
  ∑ d : Fin 128, k0_pay2 v0 (ix2 R d) * kb (ix3 (0 : Fin 1) n d)

theorem scores_apply (v0 kb : Vec Ideal S1x512x128 .bf16) (R : Fin 1024) (n : Fin 512) :
    k0_pay6 (F := Ideal) v0 kb (ix2 R n) = score v0 kb R n := by
  unfold k0_pay6 score
  simp only [matmul]
  rw [Ideal.matmul_constant_zero_apply, ← Equiv.sum_comp (contrEquiv1 dot_S1024x128_S512x128_S1024x512_1_1_0_0_n_n 128 rfl rfl).symm]
  refine sum_congr rfl fun k _ => ?_
  have hk := contrEquiv1_symm_val dot_S1024x128_S512x128_S1024x512_1_1_0_0_n_n 128 rfl rfl k
  have el : dot_S1024x128_S512x128_S1024x512_1_1_0_0_n_n.lhsIdx (ix2 R n) ((contrEquiv1 dot_S1024x128_S512x128_S1024x512_1_1_0_0_n_n 128 rfl rfl).symm k) = ix2 R k := funext fun a => Fin.ext (by
    match a with
    | ⟨0, _⟩ =>
      show (DotDims.lhsIdx _ _ _ 0).val = _
      unfold DotDims.lhsIdx
      rw [dif_neg (show ¬ (0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
      rfl
    | ⟨1, _⟩ => exact (dot_S1024x128_S512x128_S1024x512_1_1_0_0_n_n.lhsIdx_val_of_single rfl _ _).trans hk)
  have er : dot_S1024x128_S512x128_S1024x512_1_1_0_0_n_n.rhsIdx (ix2 R n) ((contrEquiv1 dot_S1024x128_S512x128_S1024x512_1_1_0_0_n_n 128 rfl rfl).symm k) = ix2 n k := funext fun a => Fin.ext (by
    match a with
    | ⟨0, _⟩ =>
      show (DotDims.rhsIdx _ _ _ 0).val = _
      unfold DotDims.rhsIdx
      rw [dif_neg (show ¬ (0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
      rfl
    | ⟨1, _⟩ => exact (dot_S1024x128_S512x128_S1024x512_1_1_0_0_n_n.rhsIdx_val_of_single rfl _ _).trans hk)
  rw [el, er]
  exact congrArg (_ * ·) (shapeCast_1ab_ab_apply _ _ _ _)

/-- The product of a block of weights with a block of values, at a row and a lane. -/
theorem values_apply (p : FVec Ideal S1024x512 .bf16) (w : FVec Ideal S512x128 .bf16) (R : Fin 1024) (d : Fin 128) :
    FloatOps.matmul dot_S1024x512_S512x128_S1024x128_1_0_0_1_n_n none p w (constant S1024x128 .f32 0x00000000#32) (ix2 R d)
      = ∑ n : Fin 512, p (ix2 R n) * w (ix2 n d) := by
  rw [Ideal.matmul_constant_zero_apply, ← Equiv.sum_comp (contrEquiv1 dot_S1024x512_S512x128_S1024x128_1_0_0_1_n_n 512 rfl rfl).symm]
  refine sum_congr rfl fun k _ => ?_
  have hk := contrEquiv1_symm_val dot_S1024x512_S512x128_S1024x128_1_0_0_1_n_n 512 rfl rfl k
  have el : dot_S1024x512_S512x128_S1024x128_1_0_0_1_n_n.lhsIdx (ix2 R d) ((contrEquiv1 dot_S1024x512_S512x128_S1024x128_1_0_0_1_n_n 512 rfl rfl).symm k) = ix2 R k := funext fun a => Fin.ext (by
    match a with
    | ⟨0, _⟩ =>
      show (DotDims.lhsIdx _ _ _ 0).val = _
      unfold DotDims.lhsIdx
      rw [dif_neg (show ¬ (0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
      rfl
    | ⟨1, _⟩ => exact (dot_S1024x512_S512x128_S1024x128_1_0_0_1_n_n.lhsIdx_val_of_single rfl _ _).trans hk)
  have er : dot_S1024x512_S512x128_S1024x128_1_0_0_1_n_n.rhsIdx (ix2 R d) ((contrEquiv1 dot_S1024x512_S512x128_S1024x128_1_0_0_1_n_n 512 rfl rfl).symm k) = ix2 k d := funext fun a => Fin.ext (by
    match a with
    | ⟨0, _⟩ => exact (dot_S1024x512_S512x128_S1024x128_1_0_0_1_n_n.rhsIdx_val_of_single rfl _ _).trans hk
    | ⟨1, _⟩ =>
      show (DotDims.rhsIdx _ _ _ 1).val = _
      unfold DotDims.rhsIdx
      rw [dif_neg (show ¬ (1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
      rfl)
  rw [el, er]

theorem max_apply (v0 kb : Vec Ideal S1x512x128 .bf16) (m : FVec Ideal S1024x1 .f32) (R : Fin 1024) :
    k0_pay7 (F := Ideal) v0 m kb (ix2 R (0 : Fin 1)) = max (m (ix2 R (0 : Fin 1))) (univ.fold max (⊥ : EReal) (score v0 kb R)) := by
  unfold k0_pay7
  rw [maximumf_apply, cast_col]
  refine congrArg (max _) ((row_max _ reduces_S1024x512_S1024 (.inl rfl) rfl R).trans ?_)
  congr 1
  funext n
  exact scores_apply ..

theorem corr_apply (v0 kb : Vec Ideal S1x512x128 .bf16) (m : FVec Ideal S1024x1 .f32) (R : Fin 1024) :
    k0_pay8 (F := Ideal) v0 m kb (ix2 R (0 : Fin 1)) = Ideal.exp (m (ix2 R (0 : Fin 1)) - max (m (ix2 R (0 : Fin 1))) (univ.fold max (⊥ : EReal) (score v0 kb R))) := by
  rw [← max_apply]; rfl

theorem weight_apply (v0 kb : Vec Ideal S1x512x128 .bf16) (m : FVec Ideal S1024x1 .f32) (R : Fin 1024) (n : Fin 512) :
    k0_pay9 (F := Ideal) v0 m kb (ix2 R n) = Ideal.exp (score v0 kb R n - max (m (ix2 R (0 : Fin 1))) (univ.fold max (⊥ : EReal) (score v0 kb R))) := by
  rw [← max_apply, ← scores_apply]
  show Ideal.exp (_ - _) = _
  rw [bcast_col]

theorem denom_apply (v0 kb : Vec Ideal S1x512x128 .bf16) (m l : FVec Ideal S1024x1 .f32) (R : Fin 1024) :
    k0_pay10 (F := Ideal) v0 m l kb (ix2 R (0 : Fin 1))
      = l (ix2 R (0 : Fin 1)) * Ideal.exp (m (ix2 R (0 : Fin 1)) - max (m (ix2 R (0 : Fin 1))) (univ.fold max (⊥ : EReal) (score v0 kb R)))
        + ∑ n : Fin 512, Ideal.exp (score v0 kb R n - max (m (ix2 R (0 : Fin 1))) (univ.fold max (⊥ : EReal) (score v0 kb R))) := by
  unfold k0_pay10
  rw [addf_apply, mulf_apply, cast_col, corr_apply]
  refine congrArg (_ + ·) ((row_add _ reduces_S1024x512_S1024 (.inl rfl) rfl R).trans ?_)
  exact sum_congr rfl fun n _ => weight_apply ..

theorem numer_apply (v0 kb vb : Vec Ideal S1x512x128 .bf16) (m : FVec Ideal S1024x1 .f32) (a : FVec Ideal S1024x128 .f32) (R : Fin 1024) (d : Fin 128) :
    k0_pay11 (F := Ideal) v0 m a kb vb (ix2 R d)
      = a (ix2 R d) * Ideal.exp (m (ix2 R (0 : Fin 1)) - max (m (ix2 R (0 : Fin 1))) (univ.fold max (⊥ : EReal) (score v0 kb R)))
        + ∑ n : Fin 512, Ideal.exp (score v0 kb R n - max (m (ix2 R (0 : Fin 1))) (univ.fold max (⊥ : EReal) (score v0 kb R))) * vb (ix3 (0 : Fin 1) n d) := by
  unfold k0_pay11
  simp only [matmul]
  rw [addf_apply, mulf_apply, bcast_col, corr_apply, values_apply]
  show _ * _ + _ = _
  congr 1
  refine sum_congr rfl fun n _ => ?_
  rw [← weight_apply]
  exact congrArg (_ * ·) (shapeCast_1ab_ab_apply _ _ _ _)

end Cert.KernelIdeal.Attn
end
-- ==== Proof.Attn.Last.lean ====
module
public import proofs.«01_k».proof.Proof.Attn.Block
/-!
# The last block of keys, and the result of a grid point

The block of keys on the diagonal is masked: row `R` sees the keys `n` of the block with `n ≤ R mod 512`.  After it the
kernel divides, takes the second map's average times lambda from the first's, and norms each query's 128 lanes.
-/
@[expose] public section
noncomputable section
namespace Cert.KernelIdeal.Attn
open Cert.KernelIdeal Cert.KernelIdeal.Gen Cert.Attn Idealize.ShloMosaic Idealize.ShloMosaic.TcCoe Idealize.SL.Sem
open Idealize.ShloMosaic.ValueIdx Finset

/-- The diagonal block's scores with the keys after the query put to minus infinity. -/
def masked (s : FVec Ideal S1024x512 .f32) : FVec Ideal S1024x512 .f32 :=
  select (cmpi .sle (iota .tc S1024x512 32 [1] iota_S1024x512_d1_w32)
    (select k0_pay20 k0_pay21 (iota .tc S1024x512 32 [0] iota_S1024x512_d0_w32))) s
    (broadcast S1024x512 (Named.named κ "mask" 0xF149F2CA#32))

/-- The running maximum after the block. -/
def lastMax (m : FVec Ideal S1024x1 .f32) (t : FVec Ideal S1024x512 .f32) : FVec Ideal S1024x1 .f32 :=
  maximumf m (shapeCast S1024x1 (multiReduction .maximumf [1] S1024 t 0xFF800000#32 reduces_S1024x512_S1024 (.inl rfl) rfl) shapeCasts_S1024_S1024x1)

/-- The block's weights. -/
def lastP (m : FVec Ideal S1024x1 .f32) (t : FVec Ideal S1024x512 .f32) : FVec Ideal S1024x512 .f32 :=
  exp (subf t (broadcastTo S1024x512 (lastMax m t) broadcasts_S1024x1_S1024x512))

/-- The factor that moves what was summed before to the new maximum. -/
def lastC (m : FVec Ideal S1024x1 .f32) (t : FVec Ideal S1024x512 .f32) : FVec Ideal S1024x1 .f32 := exp (subf m (lastMax m t))

/-- The denominators. -/
def lastL (m l : FVec Ideal S1024x1 .f32) (t : FVec Ideal S1024x512 .f32) : FVec Ideal S1024x1 .f32 :=
  addf (mulf l (lastC m t))
    (shapeCast S1024x1 (multiReduction .add [1] S1024 (lastP m t) 0x00000000#32 reduces_S1024x512_S1024 (.inl rfl) rfl) shapeCasts_S1024_S1024x1)

/-- The numerators. -/
def lastA (m : FVec Ideal S1024x1 .f32) (a : FVec Ideal S1024x128 .f32) (w : FVec Ideal S512x128 .bf16) (t : FVec Ideal S1024x512 .f32) : FVec Ideal S1024x128 .f32 :=
  addf (mulf a (broadcastTo S1024x128 (lastC m t) broadcasts_S1024x1_S1024x128))
    (matmul dot_S1024x512_S512x128_S1024x128_1_0_0_1_n_n none (truncf .bf16 (lastP m t) bitsLt_bf16_f32) w (constant S1024x128 .f32 0x00000000#32))

/-- Both maps' averages. -/
def lastQ (m l : FVec Ideal S1024x1 .f32) (a : FVec Ideal S1024x128 .f32) (w : FVec Ideal S512x128 .bf16) (t : FVec Ideal S1024x512 .f32) : FVec Ideal S1024x128 .f32 :=
  divf (lastA m a w t) (broadcastTo S1024x128 (lastL m l t) broadcasts_S1024x1_S1024x128)

/-- The first map's average less lambda times the second's. -/
def lastO (lam : Ideal .f32) (Q : FVec Ideal S1024x128 .f32) : FVec Ideal S512x128 .f32 :=
  subf (extractStridedSlice S512x128 ![0, 0] Q slices_S1024x128_o0_0_S512x128)
    (mulf (broadcast S512x128 lam) (extractStridedSlice S512x128 ![512, 0] Q slices_S1024x128_o512_0_S512x128))

/-- The norm of each query's lanes, times the weight and the constant factor. -/
def normed (o : FVec Ideal S512x128 .f32) (nw : Vec Ideal S1x128 .f32) : FVec Ideal S512x128 .f32 :=
  mulf (mulf (mulf o (broadcastTo S512x128 (rsqrt (addf (divf (shapeCast S512x1
      (multiReduction .add [1] S512 (mulf o o) 0x00000000#32 reduces_S512x128_S512 (.inl rfl) rfl) shapeCasts_S512_S512x1)
      (broadcast S512x1 (Scalar.ofBits .f32 0x43000000#32))) (broadcast S512x1 (Scalar.ofBits .f32 0x3727C5AC#32)))) broadcasts_S512x1_S512x128))
    (broadcastTo S512x128 (shapeCast S1x128 nw shapeCasts_S1x128_S1x128) broadcasts_S1x128_S512x128))
    (broadcast S512x128 (Scalar.ofBits .f32 0x3F4CCCCD#32))

theorem last_eq (m l : FVec Ideal S1024x1 .f32) (a : FVec Ideal S1024x128 .f32) (w : FVec Ideal S512x128 .bf16) (s : FVec Ideal S1024x512 .f32)
    (lam : Ideal .f32) (nw : Vec Ideal S1x128 .f32) :
    k0_pay22 (F := Ideal) m l a w s (iota .tc S1024x512 32 [0] iota_S1024x512_d0_w32) (iota .tc S1024x512 32 [1] iota_S1024x512_d1_w32)
      k0_pay20 k0_pay21 lam nw
      = truncf .bf16 (normed (lastO lam (lastQ m l a w (masked s))) nw) bitsLt_bf16_f32 := rfl

theorem row_word : ∀ R : Fin 1024, Scalar.select (IntOp.cmpi .sge (BitVec.ofNat 32 R.val) 512#32) (IntOp.subi (BitVec.ofNat 32 R.val) 512#32)
    (BitVec.ofNat 32 R.val) = BitVec.ofNat 32 (R.val % 512) := by decide +kernel

theorem le_word (n r : Nat) (hn : n < 512) (hr : r < 512) : (IntOp.cmpi .sle (BitVec.ofNat 32 n) (BitVec.ofNat 32 r) = 1#1) ↔ n < r + 1 := by
  show (BitVec.ofBool (BitVec.sle _ _) = 1#1) ↔ _
  rw [BitVec.sle_eq_decide, BitVec.toInt_ofNat', BitVec.toInt_ofNat', Int.bmod_eq_of_le (by omega) (by omega), Int.bmod_eq_of_le (by omega) (by omega)]
  by_cases h : n ≤ r
  · simp [h]
    try omega
  · simp [h]
    try omega

theorem masked_apply (s : FVec Ideal S1024x512 .f32) (R : Fin 1024) (n : Fin 512) :
    masked s (ix2 R n) = if n.val < R.val % 512 + 1 then s (ix2 R n) else ⊥ := by
  have hb : Named.named (F := Ideal) (φ := .f32) κ "mask" 0xF149F2CA#32 = (⊥ : EReal) := IdealRules.named_const.ideal_named_scalar _ _ _ _ rfl
  have key : select (α := BitVec 32) k0_pay20 k0_pay21 (iota .tc S1024x512 32 [0] iota_S1024x512_d0_w32) (ix2 R n) = BitVec.ofNat 32 (R.val % 512) := by
    show Scalar.select (IntOp.cmpi .sge (iota .tc S1024x512 32 [0] iota_S1024x512_d0_w32 (ix2 R n)) 512#32)
      (IntOp.subi (iota .tc S1024x512 32 [0] iota_S1024x512_d0_w32 (ix2 R n)) 512#32) (iota .tc S1024x512 32 [0] iota_S1024x512_d0_w32 (ix2 R n)) = _
    rw [iota_single_apply]
    exact row_word R
  unfold masked
  rw [select_apply, broadcast_apply, hb]
  have hl := le_word n.val (R.val % 512) n.isLt (Nat.mod_lt _ (by norm_num))
  have hc : cmpi .sle (iota .tc S1024x512 32 [1] iota_S1024x512_d1_w32)
      (select k0_pay20 k0_pay21 (iota .tc S1024x512 32 [0] iota_S1024x512_d0_w32)) (ix2 R n)
      = IntOp.cmpi .sle (BitVec.ofNat 32 n.val) (BitVec.ofNat 32 (R.val % 512)) := by
    show IntOp.cmpi .sle (iota .tc S1024x512 32 [1] iota_S1024x512_d1_w32 (ix2 R n)) _ = _
    rw [iota_single_apply, key]
  rw [hc]
  by_cases h : n.val < R.val % 512 + 1
  · rw [if_pos h, hl.2 h]; rfl
  · rw [if_neg h]
    have hz : IntOp.cmpi .sle (BitVec.ofNat 32 n.val) (BitVec.ofNat 32 (R.val % 512)) = 0#1 :=
      (BitVec.eq_zero_or_eq_one _).resolve_right fun e => h (hl.1 e)
    rw [hz]; rfl

theorem lastMax_apply (m : FVec Ideal S1024x1 .f32) (t : FVec Ideal S1024x512 .f32) (R : Fin 1024) :
    lastMax m t (ix2 R (0 : Fin 1)) = max (m (ix2 R (0 : Fin 1))) (univ.fold max (⊥ : EReal) fun n => t (ix2 R n)) := by
  unfold lastMax
  rw [maximumf_apply, cast_col]
  exact congrArg (max _) (row_max _ reduces_S1024x512_S1024 (.inl rfl) rfl R)

theorem lastP_apply (m : FVec Ideal S1024x1 .f32) (t : FVec Ideal S1024x512 .f32) (R : Fin 1024) (n : Fin 512) :
    lastP m t (ix2 R n) = Ideal.exp (t (ix2 R n) - lastMax m t (ix2 R (0 : Fin 1))) := by
  unfold lastP
  show Ideal.exp (_ - _) = _
  rw [bcast_col]

theorem lastL_apply (m l : FVec Ideal S1024x1 .f32) (t : FVec Ideal S1024x512 .f32) (R : Fin 1024) :
    lastL m l t (ix2 R (0 : Fin 1)) = l (ix2 R (0 : Fin 1)) * Ideal.exp (m (ix2 R (0 : Fin 1)) - lastMax m t (ix2 R (0 : Fin 1)))
      + ∑ n : Fin 512, Ideal.exp (t (ix2 R n) - lastMax m t (ix2 R (0 : Fin 1))) := by
  unfold lastL
  rw [addf_apply, mulf_apply, cast_col]
  refine congrArg (_ + ·) ((row_add _ reduces_S1024x512_S1024 (.inl rfl) rfl R).trans ?_)
  exact sum_congr rfl fun n _ => lastP_apply ..

theorem lastA_apply (m : FVec Ideal S1024x1 .f32) (a : FVec Ideal S1024x128 .f32) (w : FVec Ideal S512x128 .bf16) (t : FVec Ideal S1024x512 .f32)
    (R : Fin 1024) (d : Fin 128) :
    lastA m a w t (ix2 R d) = a (ix2 R d) * Ideal.exp (m (ix2 R (0 : Fin 1)) - lastMax m t (ix2 R (0 : Fin 1)))
      + ∑ n : Fin 512, Ideal.exp (t (ix2 R n) - lastMax m t (ix2 R (0 : Fin 1))) * w (ix2 n d) := by
  unfold lastA
  simp only [matmul]
  rw [addf_apply, mulf_apply, bcast_col, values_apply]
  show _ * _ + _ = _
  congr 1
  refine sum_congr rfl fun n _ => ?_
  rw [← lastP_apply]
  rfl

/-- A row's state and its diagonal block give its softmax average. -/
theorem lastQ_apply {s : ℕ → ℝ} {v : ℕ → Fin 128 → ℝ} {n₀ : ℕ} (m l : FVec Ideal S1024x1 .f32) (a : FVec Ideal S1024x128 .f32)
    (w : FVec Ideal S512x128 .bf16) (sc : FVec Ideal S1024x512 .f32) (R : Fin 1024)
    (h : Inv s v n₀ (m (ix2 R (0 : Fin 1))) (l (ix2 R (0 : Fin 1))) (fun d => a (ix2 R d)))
    (hs : ∀ n : Fin 512, sc (ix2 R n) = (s (n₀ + n.val) : EReal)) (hw : ∀ (n : Fin 512) d, w (ix2 n d) = (v (n₀ + n.val) d : EReal))
    (d : Fin 128) : lastQ m l a w (masked sc) (ix2 R d) = (avg s v (n₀ + (R.val % 512 + 1)) d : EReal) := by
  have h' := h.step (c := R.val % 512 + 1) (by omega) (by have := Nat.mod_lt R.val (show 512 > 0 by norm_num); omega)
    (fun n => masked sc (ix2 R n)) (fun n d => w (ix2 n d)) (fun n => by rw [masked_apply, hs]) hw
  rw [← h'.div (by omega) d]
  unfold lastQ
  rw [divf_apply, bcast_col, lastA_apply, lastL_apply, lastMax_apply]

theorem lastO_apply (lam : Ideal .f32) (Q : FVec Ideal S1024x128 .f32) (r : Fin 512) (d : Fin 128) :
    lastO lam Q (ix2 r d) = (Q (ix2 (⟨r.val, by omega⟩ : Fin 1024) d) : EReal) - (lam : EReal) * (Q (ix2 (⟨512 + r.val, by omega⟩ : Fin 1024) d) : EReal) := by
  unfold lastO
  rw [subf_apply, mulf_apply, broadcast_apply,
    extractStridedSlice_apply _ _ _ _ (ix2 (⟨r.val, by omega⟩ : Fin 1024) d) (fun c => by match c with | ⟨0, _⟩ => exact (Nat.zero_add _).symm | ⟨1, _⟩ => exact (Nat.zero_add _).symm),
    extractStridedSlice_apply _ _ _ _ (ix2 (⟨512 + r.val, by omega⟩ : Fin 1024) d) (fun c => by match c with | ⟨0, _⟩ => rfl | ⟨1, _⟩ => exact (Nat.zero_add _).symm)]

/-- The norm of one query's lanes `o`, as both programs write it. -/
def rms (o : Fin 128 → EReal) (nw : EReal) (d : Fin 128) : EReal :=
  o d * Ideal.rsqrt (Ideal.div (∑ e : Fin 128, o e * o e) (Ideal.ofBits .f32 0x43000000#32) + Ideal.ofBits .f32 0x3727C5AC#32) * nw
    * Ideal.ofBits .f32 0x3F4CCCCD#32

theorem normed_apply (o : FVec Ideal S512x128 .f32) (nw : Vec Ideal S1x128 .f32) (r : Fin 512) (d : Fin 128) :
    normed o nw (ix2 r d) = rms (fun d => o (ix2 r d)) (nw (ix2 (0 : Fin 1) d)) d := by
  unfold normed rms
  rw [mulf_apply, mulf_apply, mulf_apply, bcast_col, broadcastTo_1b_ab_apply, shapeCast_self]
  show _ * Ideal.rsqrt (Ideal.div (shapeCast _ _ _ _) _ + _) * _ * _ = _
  rw [cast_col]
  have e := row_add (mulf o o) reduces_S512x128_S512 (.inl rfl) rfl r
  have e' : (∑ k : Fin 128, (mulf o o) (ix2 r k)) = ∑ k : Fin 128, o (ix2 r k) * o (ix2 r k) := rfl
  rw [e'] at e
  exact congrArg (fun z => o (ix2 r d) * Ideal.rsqrt (Ideal.div z (Ideal.ofBits .f32 0x43000000#32) + Ideal.ofBits .f32 0x3727C5AC#32) * nw (ix2 (0 : Fin 1) d) * Ideal.ofBits .f32 0x3F4CCCCD#32) e

end Cert.KernelIdeal.Attn
end
-- ==== Proof.Attn.Point.lean ====
module
public import proofs.«01_k».proof.Proof.Attn.Last
/-!
# One grid point, whole

The blocks of keys before the diagonal, one after another, then the diagonal block: the array a grid point leaves is, at each
query and lane, the norm of the first map's average less lambda times the second's, over the keys up to the query.
-/
@[expose] public section
noncomputable section
namespace Cert.KernelIdeal.Attn
open Cert.KernelIdeal Cert.KernelIdeal.Gen Cert.Attn Idealize.ShloMosaic Idealize.ShloMosaic.TcCoe Idealize.SL.Sem
open Idealize.ShloMosaic.ValueIdx Finset

theorem zero_bf16 : (Scalar.ofBits (F := Ideal) .bf16 0x0000#16 : EReal) = 0 := by
  show Ideal.ofBits .bf16 0x0000#16 = 0
  simp [Ideal.ofBits, Ideal.ieee]

theorem lane_lt : ∀ d : Fin 128, IntOp.cmpi .slt (BitVec.ofNat 32 d.val) 64#32 = if d.val / 64 = 0 then 1#1 else 0#1 := by decide +kernel
theorem lane_ge : ∀ d : Fin 128, IntOp.cmpi .sge (BitVec.ofNat 32 d.val) 64#32 = if d.val / 64 = 1 then 1#1 else 0#1 := by decide +kernel

/-- The 1024 rows of queries: row `R` holds query `R mod 512`, on the lanes of its own map, zero on the others. -/
theorem rows_apply (v0 : Vec Ideal S1x512x128 .bf16) (R : Fin 1024) (d : Fin 128) :
    k0_pay2 (F := Ideal) v0 (ix2 R d)
      = if R.val / 512 = d.val / 64 then v0 (ix3 (0 : Fin 1) (⟨R.val % 512, Nat.mod_lt _ (by norm_num)⟩ : Fin 512) d) else (0 : EReal) := by
  unfold k0_pay2
  by_cases h : R.val < 512
  · have e0 : R.val / 512 = 0 := Nat.div_eq_of_lt h
    have e1 : R.val % 512 = R.val := Nat.mod_eq_of_lt h
    refine (concatenate_pair_apply_left (t := S1024x128) (s₁ := S512x128) (s₂ := S512x128) (0 : Fin 2) _ _ _ (ix2 R d) rfl (ix2 (⟨R.val, h⟩ : Fin 512) d) (fun b => by match b with | ⟨0, _⟩ => rfl | ⟨1, _⟩ => rfl)).trans ?_
    rw [select_apply, broadcast_apply, zero_bf16]
    show Scalar.select (IntOp.cmpi .slt (iota .tc S512x128 32 [1] iota_S512x128_d1_w32 _) 64#32) _ _ = _
    rw [iota_single_apply]
    show Scalar.select (IntOp.cmpi .slt (BitVec.ofNat 32 d.val) 64#32) _ _ = _
    rw [lane_lt, e0, shapeCast_1ab_ab_apply]
    by_cases hd : d.val / 64 = 0
    · rw [if_pos hd, if_pos hd.symm, select_one]
      congr 2; exact Fin.ext e1.symm
    · rw [if_neg hd, if_neg (fun e => hd e.symm), select_zero]
  · have e0 : R.val / 512 = 1 := by omega
    have e1 : R.val % 512 = R.val - 512 := by omega
    refine (concatenate_pair_apply_right (t := S1024x128) (s₁ := S512x128) (s₂ := S512x128) (0 : Fin 2) _ _ _ (ix2 R d) rfl rfl (ix2 (⟨R.val - 512, by omega⟩ : Fin 512) d)
      (fun b hb => by match b with | ⟨0, _⟩ => exact absurd rfl hb | ⟨1, _⟩ => rfl) (by show R.val - 512 + 512 = R.val; omega)).trans ?_
    rw [select_apply, broadcast_apply, zero_bf16]
    show Scalar.select (IntOp.cmpi .sge (iota .tc S512x128 32 [1] iota_S512x128_d1_w32 _) 64#32) _ _ = _
    rw [iota_single_apply]
    show Scalar.select (IntOp.cmpi .sge (BitVec.ofNat 32 d.val) 64#32) _ _ = _
    rw [lane_ge, e0, shapeCast_1ab_ab_apply]
    by_cases hd : d.val / 64 = 1
    · rw [if_pos hd, if_pos hd.symm, select_one]
      congr 2; exact Fin.ext e1.symm
    · rw [if_neg hd, if_neg (fun e => hd e.symm), select_zero]

/-- The real score of row `R` against key `n`. -/
def sc (qr : ℕ → Fin 128 → ℝ) (kr : ℕ → Fin 128 → ℝ) (R : ℕ) (n : ℕ) : ℝ :=
  ∑ d : Fin 128, (if R / 512 = d.val / 64 then qr (R % 512) d else 0) * kr n d

theorem score_real {qr kr : ℕ → Fin 128 → ℝ} (v0 kb : Vec Ideal S1x512x128 .bf16) (n₀ : ℕ)
    (hq : ∀ (r : Fin 512) d, v0 (ix3 (0 : Fin 1) r d) = (qr r.val d : EReal))
    (hk : ∀ (n : Fin 512) d, kb (ix3 (0 : Fin 1) n d) = (kr (n₀ + n.val) d : EReal)) (R : Fin 1024) (n : Fin 512) :
    score v0 kb R n = (sc qr kr R.val (n₀ + n.val) : EReal) := by
  unfold score sc
  rw [Attn.coe_sum]
  refine sum_congr rfl fun d _ => ?_
  rw [rows_apply, hk, EReal.coe_mul]
  congr 1
  split
  · exact hq _ d
  · rfl

/-- The state of every row after the first `n` keys. -/
def State (qr kr vr : ℕ → Fin 128 → ℝ) (n : ℕ) (st : FVec Ideal S1024x1 .f32 × FVec Ideal S1024x1 .f32 × FVec Ideal S1024x128 .f32) : Prop :=
  ∀ R : Fin 1024, Inv (sc qr kr R.val) vr n (st.1 (ix2 R (0 : Fin 1))) (st.2.1 (ix2 R (0 : Fin 1))) (fun d => st.2.2 (ix2 R d))

theorem state_zero (qr kr vr : ℕ → Fin 128 → ℝ) : State qr kr vr 0 (k0_pay3 (F := Ideal), k0_pay4 (F := Ideal), k0_pay5 (F := Ideal)) := by
  intro R
  refine .inl ⟨rfl, ?_, ?_, fun d => ?_⟩
  · exact IdealRules.named_const.ideal_named_scalar _ _ _ _ rfl
  · exact Ideal.ofBits_zero_f32
  · exact Ideal.ofBits_zero_f32

theorem state_step {qr kr vr : ℕ → Fin 128 → ℝ} {n : ℕ} {st : FVec Ideal S1024x1 .f32 × FVec Ideal S1024x1 .f32 × FVec Ideal S1024x128 .f32}
    (h : State qr kr vr n st) (v0 kb vb : Vec Ideal S1x512x128 .bf16)
    (hq : ∀ (r : Fin 512) d, v0 (ix3 (0 : Fin 1) r d) = (qr r.val d : EReal))
    (hk : ∀ (k : Fin 512) d, kb (ix3 (0 : Fin 1) k d) = (kr (n + k.val) d : EReal))
    (hv : ∀ (k : Fin 512) d, vb (ix3 (0 : Fin 1) k d) = (vr (n + k.val) d : EReal)) :
    State qr kr vr (n + 512) (k0_pay7 v0 st.1 kb, k0_pay10 v0 st.1 st.2.1 kb, k0_pay11 v0 st.1 st.2.2 kb vb) := by
  intro R
  have := (h R).step (c := 512) (by norm_num) le_rfl (score v0 kb R) (fun k d => vb (ix3 (0 : Fin 1) k d))
    (fun k => by rw [if_pos k.isLt]; exact score_real v0 kb n hq hk R k) hv
  dsimp only
  rw [max_apply, denom_apply]
  simp only [numer_apply]
  exact this

theorem trips1 : ∀ j : Fin 8, Scf.trips (0#32) (Scalar.addi (0#32) (Scalar.muli (Scalar.divsi (Scalar.subi (BitVec.ofNat 32 j.val) 0#32) 1#32) 1#32)) 1#32 = j.val := by decide +kernel
theorem trips2 : ∀ j : Fin 8, Scf.trips (Scalar.addi (0#32) (Scalar.muli (Scalar.divsi (Scalar.subi (BitVec.ofNat 32 j.val) 0#32) 1#32) 1#32))
  (Scalar.addi (0#32) (Scalar.subi (BitVec.ofNat 32 j.val) 0#32)) 1#32 = 0 := by decide +kernel
theorem off_word : ∀ j : Fin 8, BitVec.toNat (Scalar.indexCast (Scalar.muli (BitVec.ofNat 32 j.val) 512#32)) = 512 * j.val := by decide +kernel
theorem off_iv : ∀ j : Fin 8, BitVec.toNat (Scalar.indexCast (Scalar.muli (Scf.iv 0#32 1#32 j.val) 512#32)) = 512 * j.val := by decide +kernel

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A block of 512 keys read out of the 4096. -/
theorem read_block (X : Vec Ideal S1x4096x128 .bf16) (o : ℕ) (off : Fin 3 → ℕ) (e : off = ![0, o, 0]) (inb : ∀ a, off a + S1x512x128.size a ≤ S1x4096x128.size a)
    (n : Fin 512) (d : Fin 128) :
    View.ld X (Rect.unit (s := S1x4096x128) off S1x512x128.size inb) (ix3 (0 : Fin 1) n d)
      = X (ix3 (0 : Fin 1) (⟨o + n.val, by have := inb 1; subst e; have : o + 512 ≤ 4096 := this; omega⟩ : Fin 4096) d) := by
  subst e
  rw [View.ld_unit]
  exact extractStridedSlice_apply _ _ _ _ _ (fun c => by
    match c with
    | ⟨0, _⟩ => rfl
    | ⟨1, _⟩ => rfl
    | ⟨2, _⟩ => exact (Nat.zero_add _).symm)

section
variable (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole)
  (x0 : Vec Ideal S1 .f32) (x1 : Vec Ideal S1x512x128 .bf16) (x2 : Vec Ideal S1x4096x128 .bf16) (x3 : Vec Ideal S1x4096x128 .bf16) (x4 : Vec Ideal S1x128 .f32)

/-- The state before the `k`-th block of keys. -/
theorem state_loop {qr kr vr : ℕ → Fin 128 → ℝ}
    (hq : ∀ (r : Fin 512) d, x1 (ix3 (0 : Fin 1) r d) = (qr r.val d : EReal))
    (hk : ∀ (n : Fin 4096) d, x2 (ix3 (0 : Fin 1) n d) = (kr n.val d : EReal))
    (hv : ∀ (n : Fin 4096) d, x3 (ix3 (0 : Fin 1) n d) = (vr n.val d : EReal)) (k : ℕ) (hk' : k ≤ (i 2).val) :
    State qr kr vr (512 * k) (st_k0_t1 (F := Ideal) Variants.none c none i arg3 harg3 arg4 harg4 arg5 harg5 arg6 harg6 arg7 harg7 arg8 harg8 x1
      (harg5.unread x2) (harg6.unread x3) (k0_pay3, k0_pay4, k0_pay5) k) := by
  induction k with
  | zero => exact state_zero qr kr vr
  | succ k ih =>
    have hlt : k < (k0_t1_loop i).trips := by
      have : (k0_t1_loop i).trips = (i 2).val := trips1 (i 2)
      omega
    have ih := ih (by omega)
    have h8 : (i 2).val < 8 := (i 2).isLt
    rw [show k + 1 = (⟨k, hlt⟩ : Fin (k0_t1_loop i).trips).val + 1 from rfl, st_k0_t1_succ, Nat.mul_succ]
    unfold tripR_k0_t1 trip_k0_t1
    dsimp only
    sl_unfold_words
    simp only [View.readAt_eq_ld, harg5.read_unread, harg6.read_unread]
    have eo : (![0, BitVec.toNat (Scalar.indexCast (Scalar.muli (Scf.iv 0#32 1#32 k) 512#32)), 0] : Fin 3 → ℕ) = ![0, 512 * k, 0] := by
      rw [off_iv ⟨k, by omega⟩]
    refine state_step ih x1 _ _ hq (fun n d => ?_) (fun n d => ?_)
    · exact (read_block x2 (512 * k) _ eo _ n d).trans (hk _ d)
    · exact (read_block x3 (512 * k) _ eo _ n d).trans (hv _ d)

/-- What the grid point leaves at query `r` and lane `d`. -/
theorem point_apply {qr kr vr : ℕ → Fin 128 → ℝ}
    (hq : ∀ (r : Fin 512) d, x1 (ix3 (0 : Fin 1) r d) = (qr r.val d : EReal))
    (hk : ∀ (n : Fin 4096) d, x2 (ix3 (0 : Fin 1) n d) = (kr n.val d : EReal))
    (hv : ∀ (n : Fin 4096) d, x3 (ix3 (0 : Fin 1) n d) = (vr n.val d : EReal)) (r : Fin 512) (d : Fin 128) :
    out0_A_5 (F := Ideal) c i arg3 harg3 arg4 harg4 arg5 harg5 arg6 harg6 arg7 harg7 arg8 harg8 x0 x1 x2 x3 x4 (ix3 (0 : Fin 1) r d)
      = rms (fun d => (avg (sc qr kr r.val) vr (512 * (i 2).val + (r.val + 1)) d : EReal)
          - (x0 (ix1 (0 : Fin 1)) : EReal) * (avg (sc qr kr (512 + r.val)) vr (512 * (i 2).val + (r.val + 1)) d : EReal))
        (x4 (ix2 (0 : Fin 1) d)) d := by
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  sl_unfold_words
  rw [View.canon_unit_zero hz3]
  simp only [View.readAt_eq_ld, harg3.read_unread, harg4.read_unread, harg5.read_unread, harg6.read_unread, harg7.read_unread, View.ld_unit_zero (S := S1x512x128) hz3]
  rw [trips1 (i 2), trips2 (i 2), st_k0_t2_zero, last_eq]
  have st := state_loop c i arg3 harg3 arg4 harg4 arg5 harg5 arg6 harg6 arg7 harg7 arg8 harg8 x1 x2 x3 hq hk hv (i 2).val le_rfl
  generalize st_k0_t1 (F := Ideal) Variants.none c none i arg3 harg3 arg4 harg4 arg5 harg5 arg6 harg6 arg7 harg7 arg8 harg8 x1
      (harg5.unread x2) (harg6.unread x3) (k0_pay3, k0_pay4, k0_pay5) (i 2).val = S at st ⊢
  have eo : (![0, BitVec.toNat (Scalar.indexCast (Scalar.muli (BitVec.ofNat 32 (i 2).val) 512#32)), 0] : Fin 3 → ℕ) = ![0, 512 * (i 2).val, 0] := by
    rw [off_word (i 2)]
  unfold k0_pay1
  rw [shapeCast_ab_1ab_apply, truncf_apply]
  show normed _ _ _ = _
  rw [normed_apply, View.ld_unit_zero (S := S1x128) hz2]
  have e0 : View.ld x0 (Rect.unit ![0] ![1] inb_S1_S1_0) (Shape.Idx.first (by decide)) = x0 (ix1 (0 : Fin 1)) := by
    rw [View.ld_unit_zero (S := S1) hz1]
    exact congrArg x0 (funext fun a => by match a with | ⟨0, _⟩ => exact Subsingleton.elim (α := Fin 1) _ _)
  have hs : ∀ (R : Fin 1024) (n : Fin 512), k0_pay19 x1 (View.ld x2 (Rect.unit (s := S1x4096x128) (![0, BitVec.toNat (Scalar.indexCast (Scalar.muli (BitVec.ofNat 32 (i 2).val) 512#32)), 0] : Fin 3 → ℕ) S1x512x128.size (k0_off3_inb i))) (ix2 R n)
      = (sc qr kr R.val (512 * (i 2).val + n.val) : EReal) := fun R n =>
    (scores_apply x1 _ R n).trans (score_real x1 _ _ hq (fun n d => (read_block x2 (512 * (i 2).val) _ eo _ n d).trans (hk _ d)) R n)
  have hw : ∀ (n : Fin 512) d, k0_pay18 (F := Ideal) (View.ld x3 (Rect.unit (s := S1x4096x128) (![0, BitVec.toNat (Scalar.indexCast (Scalar.muli (BitVec.ofNat 32 (i 2).val) 512#32)), 0] : Fin 3 → ℕ) S1x512x128.size (k0_off3_inb i))) (ix2 n d)
      = (vr (512 * (i 2).val + n.val) d : EReal) := fun n d =>
    (shapeCast_1ab_ab_apply _ _ _ _).trans ((read_block x3 (512 * (i 2).val) _ eo _ n d).trans (hv _ d))
  have hrow : ∀ (R : Fin 1024) (d : Fin 128), R.val % 512 = r.val → lastQ S.1 S.2.1 S.2.2 _ (masked _) (ix2 R d)
      = (avg (sc qr kr R.val) vr (512 * (i 2).val + (r.val + 1)) d : EReal) := fun R d e => by
    rw [lastQ_apply S.1 S.2.1 S.2.2 _ _ R (st R) (hs R) hw d, e]
  congr 1
  funext d
  rw [lastO_apply, ← e0, hrow _ d (by show r.val % 512 = _; omega), hrow _ d (by show (512 + r.val) % 512 = _; omega)]
end

end Cert.KernelIdeal.Attn
end
-- ==== Proof.Attn.Spec.lean ====
module
public import proofs.«01_k».proof.Proof.Attn.Point
/-!
# The attention, written once

What both programs compute, at a batch `b`, a query `n`, a head `h` and a lane `d`: two softmax maps of the scores over the
keys up to the query, the second taken off the first `lambda` times, applied to the values, and the root-mean-square norm
of the 128 lanes. Indices are natural numbers, taken modulo the axes' lengths, so that nothing has to carry bounds.
-/
@[expose] public section
noncomputable section
namespace Cert.KernelIdeal.Attn
open Cert.KernelIdeal Cert.KernelIdeal.Gen Cert.Attn Idealize.ShloMosaic
open Idealize.ShloMosaic.ValueIdx Finset

/-- Every entry of an array is a real number. -/
def Real' {s : Shape} (x : s.Idx → EReal) : Prop := ∀ i, ∃ a : ℝ, x i = (a : EReal)

theorem Real'.coe {s : Shape} {x : s.Idx → EReal} (h : Real' x) (i : s.Idx) : x i = ((x i).toReal : EReal) := by
  obtain ⟨a, ha⟩ := h i
  rw [ha, EReal.toReal_coe]

/-- A query's or key's entry: batch, position, head, map, lane. -/
def qAt (x : S16x4096x4x2x64.Idx → EReal) (b n h c e : ℕ) : ℝ :=
  (x (ix5 (Fin.ofNat 16 b) (Fin.ofNat 4096 n) (Fin.ofNat 4 h) (Fin.ofNat 2 c) (Fin.ofNat 64 e))).toReal

/-- A value's entry: batch, position, head, lane. -/
def vAt (x : S16x4096x4x128.Idx → EReal) (b n h : ℕ) (d : Fin 128) : ℝ :=
  (x (ix4 (Fin.ofNat 16 b) (Fin.ofNat 4096 n) (Fin.ofNat 4 h) d)).toReal

theorem ofNat_eq {N : ℕ} [NeZero N] {n : ℕ} (h : n < N) : Fin.ofNat N n = ⟨n, h⟩ := Fin.ext (Nat.mod_eq_of_lt h)

theorem qAt_eq {x : S16x4096x4x2x64.Idx → EReal} (hx : Real' x) (b : Fin 16) (n : Fin 4096) (h : Fin 4) (c : Fin 2) (e : Fin 64) :
    x (ix5 b n h c e) = (qAt x b.val n.val h.val c.val e.val : EReal) := by
  unfold qAt
  rw [ofNat_eq b.isLt, ofNat_eq n.isLt, ofNat_eq h.isLt, ofNat_eq c.isLt, ofNat_eq e.isLt]
  exact hx.coe _

theorem vAt_eq {x : S16x4096x4x128.Idx → EReal} (hx : Real' x) (b : Fin 16) (n : Fin 4096) (h : Fin 4) (d : Fin 128) :
    x (ix4 b n h d) = (vAt x b.val n.val h.val d : EReal) := by
  unfold vAt
  rw [ofNat_eq b.isLt, ofNat_eq n.isLt, ofNat_eq h.isLt]
  exact hx.coe _

/-- The score of map `c` between query `n` and key `k`. -/
def scoreOf (q k : S16x4096x4x2x64.Idx → EReal) (b h c n j : ℕ) : ℝ :=
  (∑ e : Fin 64, qAt q b n h c e.val * qAt k b j h c e.val) * (1 / 8)

/-- The layer's attention at one output element. -/
def attn (q k : S16x4096x4x2x64.Idx → EReal) (v : S16x4096x4x128.Idx → EReal) (lam : EReal) (w : S128.Idx → EReal)
    (b n h : ℕ) (d : Fin 128) : EReal :=
  rms (fun d => (avg (scoreOf q k b h 0 n) (fun j => vAt v b j h) (n + 1) d : EReal)
      - lam * (avg (scoreOf q k b h 1 n) (fun j => vAt v b j h) (n + 1) d : EReal)) (w (ix1 d)) d

/-- The kernel's product over 128 lanes, half of them zero, is the score over the map's own 64 lanes. -/
theorem sc_eq (q k : S16x4096x4x2x64.Idx → EReal) (b h i r j c : ℕ) (hr : r < 512) (hc : c < 2) :
    sc (fun r d => qAt q b (512 * i + r) h (d.val / 64) (d.val % 64) * (1 / 8)) (fun n d => qAt k b n h (d.val / 64) (d.val % 64))
        (512 * c + r) j
      = scoreOf q k b h c (512 * i + r) j := by
  unfold sc scoreOf
  have h1 : (512 * c + r) / 512 = c := by omega
  have h2 : (512 * c + r) % 512 = r := by omega
  rw [h1, h2]
  have e0 : ∀ e : Fin 64, (Fin.castAdd 64 e).val / 64 = 0 ∧ (Fin.castAdd 64 e).val % 64 = e.val := by
    intro e; have := e.isLt; simp only [Fin.val_castAdd]; omega
  have e1 : ∀ e : Fin 64, (Fin.natAdd 64 e).val / 64 = 1 ∧ (Fin.natAdd 64 e).val % 64 = e.val := by
    intro e; have := e.isLt; simp only [Fin.val_natAdd]; omega
  rw [show (∑ d : Fin 128, (if c = d.val / 64 then qAt q b (512 * i + r) h (d.val / 64) (d.val % 64) * (1 / 8) else 0) * qAt k b j h (d.val / 64) (d.val % 64)) = _
    from Fin.sum_univ_add (a := 64) (b := 64) _]
  simp only [(e0 _).1, (e0 _).2, (e1 _).1, (e1 _).2]
  rw [Finset.sum_mul]
  interval_cases c
  · simp only [if_true, show ¬(0 = 1) by omega, if_false, zero_mul, Finset.sum_const_zero, add_zero]
    exact Finset.sum_congr rfl fun e _ => by ring
  · simp only [if_true, show ¬(1 = 0) by omega, if_false, zero_mul, Finset.sum_const_zero, zero_add]
    exact Finset.sum_congr rfl fun e _ => by ring

end Cert.KernelIdeal.Attn
end
-- ==== Proof.Attn.Array.lean ====
module
public import proofs.«01_k».proof.Proof.Gen.KernelIdeal.Value
public import proofs.«01_k».proof.Proof.Attn.Spec
public import Idealize.ShloMosaic.Lib.StableHlo.Run
public import Idealize.ShloMosaic.Lib.Tactic
/-!
# The kernel's array

What the host hands the kernel (the queries scaled by 1/8 and laid out by head on the last axis), what each grid point reads of
it, and so what the whole array holds: the attention of `Spec` at every element.
-/
@[expose] public section
noncomputable section
namespace Cert.KernelIdeal.Attn
open Cert.KernelIdeal Cert.KernelIdeal.Gen Cert.Attn Idealize.ShloMosaic Idealize.ShloMosaic.TcCoe Idealize.SL.Sem
open Idealize.ShloMosaic.ValueIdx
variable (m : (ℓ : Loc nD τ sig) → Buf (Elt Ideal) ℓ) (c : Dev nD)

abbrev argQ : S16x4096x4x2x64.Idx → EReal := m ((c : Thread nD τ).loc main_arg0)
abbrev argK : S16x4096x4x2x64.Idx → EReal := m ((c : Thread nD τ).loc main_arg1)
abbrev argV : S16x4096x4x128.Idx → EReal := m ((c : Thread nD τ).loc main_arg2)
abbrev argW : S128.Idx → EReal := m ((c : Thread nD τ).loc main_arg7)

/-- lambda, from its four vectors. -/
def lamOf (a b a' b' : FVec Ideal S64 .f32) : FVec Ideal S_ .f32 :=
  addf (subf (Host.exp (Host.reduceAdd (mulf a b) (constant S_ .f32 0x00000000#32) reducesTo_S64_S_d0 h_S_))
    (Host.exp (Host.reduceAdd (mulf a' b') (constant S_ .f32 0x00000000#32) reducesTo_S64_S_d0 h_S_))) (constant S_ .f32 0x3E4CCCCD#32)

abbrev lamE : EReal :=
  lamOf (m ((c : Thread nD τ).loc main_arg3)) (m ((c : Thread nD τ).loc main_arg4)) (m ((c : Thread nD τ).loc main_arg5)) (m ((c : Thread nD τ).loc main_arg6)) ix0

theorem V_v11 : (V m c main_v11 : S16x4096x512.Idx → EReal)
    = fun i => shapeCast S16x4096x512 (argQ m c) shapeCasts_S16x4096x4x2x64_S16x4096x512 i * Ideal.ofBits .f32 0x3E000000#32 := by
  unfold V; after_results; rfl
theorem V_v13 : (V m c main_v13 : S16x4096x512.Idx → EReal)
    = fun i => shapeCast S16x4096x512 (argK m c) shapeCasts_S16x4096x4x2x64_S16x4096x512 i := by
  unfold V; after_results; rfl
theorem V_v15 : (V m c main_v15 : S16x4096x512.Idx → EReal)
    = fun i => shapeCast S16x4096x512 (argV m c) shapeCasts_S16x4096x4x128_S16x4096x512 i := by
  unfold V; after_results; rfl
theorem V_v16 : (V m c main_v16 : S1.Idx → EReal)
    = fun i => shapeCast S1 (lamOf (m ((c : Thread nD τ).loc main_arg3)) (m ((c : Thread nD τ).loc main_arg4)) (m ((c : Thread nD τ).loc main_arg5)) (m ((c : Thread nD τ).loc main_arg6))) shapeCasts_S_S1 i := by
  unfold V; after_results_simp; rfl
theorem V_v17 : (V m c main_v17 : S1x128.Idx → EReal)
    = fun i => shapeCast S1x128 (argW m c) shapeCasts_S128_S1x128 i := by
  unfold V; after_results_simp; rfl

theorem eighth : Ideal.ofBits .f32 0x3E000000#32 = ((1 / 8 : ℝ) : EReal) := by
  simp [Ideal.ofBits, Ideal.ieee]
  rw [← EReal.coe_mul]; norm_num

/-- The column `128·h + 64·c + e` of the flat layout is head `h`, map `c`, lane `e`. -/
theorem flat5 {α : Type} (x : S16x4096x4x2x64.Idx → α) (b : Fin 16) (n : Fin 4096) (h : Fin 4) (d : Fin 128) (col : Fin 512) (hcol : col.val = 128 * h.val + d.val) :
    shapeCast S16x4096x512 x shapeCasts_S16x4096x4x2x64_S16x4096x512 (ix3 b n col)
      = x (ix5 b n h ⟨d.val / 64, by omega⟩ ⟨d.val % 64, by omega⟩) := by
  refine shapeCast_apply x _ _ _ ?_
  rw [Shape.rowMajor_val_five, Shape.rowMajor_val_three]
  show (((b.val * 4096 + n.val) * 4 + h.val) * 2 + d.val / 64) * 64 + d.val % 64 = (b.val * 4096 + n.val) * 512 + col.val
  omega

theorem flat4 {α : Type} (x : S16x4096x4x128.Idx → α) (b : Fin 16) (n : Fin 4096) (h : Fin 4) (d : Fin 128) (col : Fin 512) (hcol : col.val = 128 * h.val + d.val) :
    shapeCast S16x4096x512 x shapeCasts_S16x4096x4x128_S16x4096x512 (ix3 b n col) = x (ix4 b n h d) := by
  refine shapeCast_apply x _ _ _ ?_
  rw [Shape.rowMajor_val_four, Shape.rowMajor_val_three]
  show ((b.val * 4096 + n.val) * 4 + h.val) * 128 + d.val = (b.val * 4096 + n.val) * 512 + col.val
  omega

theorem index1 : ∀ t : Fin grid0.N, win0_1.index t 0 = t.val / 32 ∧ win0_1.index t 1 = t.val % 8 ∧ win0_1.index t 2 = t.val / 8 % 4 := by decide +kernel
theorem index2 : ∀ t : Fin grid0.N, win0_2.index t 0 = t.val / 32 ∧ win0_2.index t 1 = 0 ∧ win0_2.index t 2 = t.val / 8 % 4 := by decide +kernel
theorem index3 : ∀ t : Fin grid0.N, win0_3.index t 0 = t.val / 32 ∧ win0_3.index t 1 = 0 ∧ win0_3.index t 2 = t.val / 8 % 4 := by decide +kernel
theorem index5 : ∀ t : Fin grid0.N, win0_5.index t 0 = t.val / 32 ∧ win0_5.index t 1 = t.val % 8 ∧ win0_5.index t 2 = t.val / 8 % 4 := by decide +kernel
theorem index04 : ∀ t : Fin grid0.N, win0_0.index t 0 = 0 ∧ win0_4.index t 0 = 0 ∧ win0_4.index t 1 = 0 := by decide +kernel
theorem coord2 : ∀ t : Fin grid0.N, (grid0.coords t 2).val = t.val % 8 := by decide +kernel

theorem N_lt (t : Fin cfg0.N) : t.val < 512 := by have := t.isLt; have h : cfg0.N = 512 := N_0; omega

abbrev tb (t : Fin cfg0.N) : Fin 16 := ⟨t.val / 32, by have := N_lt t; omega⟩
abbrev th (t : Fin cfg0.N) : Fin 4 := ⟨t.val / 8 % 4, by omega⟩
abbrev ti (t : Fin cfg0.N) : ℕ := t.val % 8

abbrev row (t : Fin cfg0.N) (r : Fin 512) : Fin 4096 := ⟨512 * ti t + r.val, by have := r.isLt; have : t.val % 8 < 8 := Nat.mod_lt _ (by norm_num); show 512 * (t.val % 8) + r.val < 4096; omega⟩
abbrev col (t : Fin cfg0.N) (d : Fin 128) : Fin 512 := ⟨128 * (th t).val + d.val, by have := d.isLt; have := (th t).isLt; omega⟩

/-- The queries a point reads. -/
theorem block1 (t : Fin cfg0.N) (r : Fin 512) (d : Fin 128) :
    (iblk m c 1 t : S1x512x128.Idx → EReal) (ix3 (0 : Fin 1) r d) = (V m c main_v11 : S16x4096x512.Idx → EReal) (ix3 (tb t) (row t r) (col t d)) := by
  obtain ⟨i0, i1, i2⟩ := index1 t
  unfold iblk
  rw [View.read_apply]
  show V m c main_v11 _ = V m c main_v11 _
  congr 1
  funext a
  apply Fin.ext
  match a with
  | ⟨0, _⟩ => show win0_1.index t 0 * 1 + 1 * 0 = t.val / 32; rw [i0]; omega
  | ⟨1, _⟩ => show win0_1.index t 1 * 512 + 1 * r.val = 512 * (t.val % 8) + r.val; rw [i1]; omega
  | ⟨2, _⟩ => show win0_1.index t 2 * 128 + 1 * d.val = 128 * (t.val / 8 % 4) + d.val; rw [i2]; omega

/-- The keys a point reads. -/
theorem block2 (t : Fin cfg0.N) (n : Fin 4096) (d : Fin 128) :
    (iblk m c 2 t : S1x4096x128.Idx → EReal) (ix3 (0 : Fin 1) n d) = (V m c main_v13 : S16x4096x512.Idx → EReal) (ix3 (tb t) n (col t d)) := by
  obtain ⟨i0, i1, i2⟩ := index2 t
  unfold iblk
  rw [View.read_apply]
  show V m c main_v13 _ = V m c main_v13 _
  congr 1
  funext a
  apply Fin.ext
  match a with
  | ⟨0, _⟩ => show win0_2.index t 0 * 1 + 1 * 0 = t.val / 32; rw [i0]; omega
  | ⟨1, _⟩ => show win0_2.index t 1 * 4096 + 1 * n.val = n.val; rw [i1]; omega
  | ⟨2, _⟩ => show win0_2.index t 2 * 128 + 1 * d.val = 128 * (t.val / 8 % 4) + d.val; rw [i2]; omega

/-- The values a point reads. -/
theorem block3 (t : Fin cfg0.N) (n : Fin 4096) (d : Fin 128) :
    (iblk m c 3 t : S1x4096x128.Idx → EReal) (ix3 (0 : Fin 1) n d) = (V m c main_v15 : S16x4096x512.Idx → EReal) (ix3 (tb t) n (col t d)) := by
  obtain ⟨i0, i1, i2⟩ := index3 t
  unfold iblk
  rw [View.read_apply]
  show V m c main_v15 _ = V m c main_v15 _
  congr 1
  funext a
  apply Fin.ext
  match a with
  | ⟨0, _⟩ => show win0_3.index t 0 * 1 + 1 * 0 = t.val / 32; rw [i0]; omega
  | ⟨1, _⟩ => show win0_3.index t 1 * 4096 + 1 * n.val = n.val; rw [i1]; omega
  | ⟨2, _⟩ => show win0_3.index t 2 * 128 + 1 * d.val = 128 * (t.val / 8 % 4) + d.val; rw [i2]; omega

/-- lambda, as a point reads it. -/
theorem block0 (t : Fin cfg0.N) : (iblk m c 0 t : S1.Idx → EReal) (ix1 (0 : Fin 1)) = lamE m c := by
  unfold iblk
  rw [View.read_apply]
  show (V m c main_v16 : S1.Idx → EReal) _ = _
  rw [V_v16]
  dsimp only
  unfold shapeCast
  exact congrArg _ (funext fun a => a.elim0)

/-- The norm's weight, as a point reads it. -/
theorem block4 (t : Fin cfg0.N) (d : Fin 128) : (iblk m c 4 t : S1x128.Idx → EReal) (ix2 (0 : Fin 1) d) = argW m c (ix1 d) := by
  obtain ⟨-, i0, i1⟩ := index04 t
  unfold iblk
  rw [View.read_apply]
  show (V m c main_v17 : S1x128.Idx → EReal) _ = _
  have e : (win0_4.blk t).view.emb (ix2 (0 : Fin 1) d) = ix2 (0 : Fin 1) d := by
    funext a
    apply Fin.ext
    match a with
    | ⟨0, _⟩ => show win0_4.index t 0 * 1 + 1 * 0 = 0; rw [i0]
    | ⟨1, _⟩ => show win0_4.index t 1 * 128 + 1 * d.val = d.val; rw [i1]; omega
  rw [e, V_v17]
  exact shapeCast_a_1a_apply _ _ _ _

variable {m c}

/-- A point's block, at a query of the block and a lane. -/
theorem point_value (hq : Real' (argQ m c)) (hk : Real' (argK m c)) (hv : Real' (argV m c)) (t : Fin cfg0.N) (r : Fin 512) (d : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (0 : Fin 1) r d)
      = attn (argQ m c) (argK m c) (argV m c) (lamE m c) (argW m c) (tb t).val (row t r).val (th t).val d := by
  have e := point_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)
    (qr := fun r d => qAt (argQ m c) (tb t).val (512 * ti t + r) (th t).val (d.val / 64) (d.val % 64) * (1 / 8))
    (kr := fun n d => qAt (argK m c) (tb t).val n (th t).val (d.val / 64) (d.val % 64))
    (vr := fun n => vAt (argV m c) (tb t).val n (th t).val)
    (fun r d => by
      rw [block1, V_v11]; dsimp only; rw [flat5 _ _ _ (th t) d (col t d) rfl, qAt_eq hq, eighth, ← EReal.coe_mul])
    (fun n d => by rw [block2, V_v13]; dsimp only; rw [flat5 _ _ _ (th t) d (col t d) rfl, qAt_eq hk])
    (fun n d => by rw [block3, V_v15]; dsimp only; rw [flat4 _ _ _ (th t) d (col t d) rfl, vAt_eq hv]) r d
  rw [e, block0, block4, coord2]
  unfold attn
  have s0 : sc (fun r d => qAt (argQ m c) (tb t).val (512 * ti t + r) (th t).val (d.val / 64) (d.val % 64) * (1 / 8))
      (fun n d => qAt (argK m c) (tb t).val n (th t).val (d.val / 64) (d.val % 64)) r.val = scoreOf (argQ m c) (argK m c) (tb t).val (th t).val 0 (row t r).val := by
    funext j
    have := sc_eq (argQ m c) (argK m c) (tb t).val (th t).val (ti t) r.val j 0 r.isLt (by norm_num)
    rwa [Nat.mul_zero, Nat.zero_add] at this
  have s1 : sc (fun r d => qAt (argQ m c) (tb t).val (512 * ti t + r) (th t).val (d.val / 64) (d.val % 64) * (1 / 8))
      (fun n d => qAt (argK m c) (tb t).val n (th t).val (d.val / 64) (d.val % 64)) (512 + r.val) = scoreOf (argQ m c) (argK m c) (tb t).val (th t).val 1 (row t r).val := by
    funext j
    have := sc_eq (argQ m c) (argK m c) (tb t).val (th t).val (ti t) r.val j 1 r.isLt (by norm_num)
    rwa [Nat.mul_one] at this
  rw [s0, s1]
  rfl

variable (m c)
/-- What the kernel's result array holds. -/
def result : S16x4096x512.Idx → EReal := fun i =>
  attn (argQ m c) (argK m c) (argV m c) (lamE m c) (argW m c) (i 0).val (i 1).val ((i 2).val / 128) ⟨(i 2).val % 128, Nat.mod_lt _ (by norm_num)⟩
variable {m c}

theorem flushed_eq (hq : Real' (argQ m c)) (hk : Real' (argK m c)) (hv : Real' (argV m c)) (t : Fin cfg0.N) :
    (dats m 0 c).flushed 5 t = ((cfg0.win 5).blk t).view.read (Elt Ideal) (result m c) := by
  obtain ⟨i0, i1, i2⟩ := index5 t
  rw [Value.flushed5_A]
  refine funext fun (j : S1x512x128.Idx) => ?_
  rw [View.read_apply]
  obtain ⟨z, r, d, rfl⟩ : ∃ z : Fin 1, ∃ r : Fin 512, ∃ d : Fin 128, j = ix3 z r d := ⟨j 0, j 1, j 2, by
    funext a; match a with | ⟨0, _⟩ => rfl | ⟨1, _⟩ => rfl | ⟨2, _⟩ => rfl⟩
  obtain rfl : z = 0 := Subsingleton.elim _ _
  refine (point_value hq hk hv t r d).trans ?_
  show _ = result m c _
  unfold result
  have e0 : (((win0_5.blk t).view.emb (ix3 (0 : Fin 1) r d) : S16x4096x512.Idx) 0).val = (tb t).val := by
    show win0_5.index t 0 * 1 + 1 * 0 = t.val / 32; rw [i0]; omega
  have e1 : (((win0_5.blk t).view.emb (ix3 (0 : Fin 1) r d) : S16x4096x512.Idx) 1).val = (row t r).val := by
    show win0_5.index t 1 * 512 + 1 * r.val = 512 * (t.val % 8) + r.val; rw [i1]; omega
  have e2 : (((win0_5.blk t).view.emb (ix3 (0 : Fin 1) r d) : S16x4096x512.Idx) 2).val = 128 * (th t).val + d.val := by
    show win0_5.index t 2 * 128 + 1 * d.val = 128 * (t.val / 8 % 4) + d.val; rw [i2]; omega
  have hd := d.isLt
  have f2 : (128 * (th t).val + d.val) / 128 = (th t).val := by omega
  have f3 : (128 * (th t).val + d.val) % 128 = d.val := by omega
  show _ = attn _ _ _ _ _ (((win0_5.blk t).view.emb (ix3 (0 : Fin 1) r d) : S16x4096x512.Idx) 0).val
    (((win0_5.blk t).view.emb (ix3 (0 : Fin 1) r d) : S16x4096x512.Idx) 1).val
    ((((win0_5.blk t).view.emb (ix3 (0 : Fin 1) r d) : S16x4096x512.Idx) 2).val / 128)
    ⟨(((win0_5.blk t).view.emb (ix3 (0 : Fin 1) r d) : S16x4096x512.Idx) 2).val % 128, _⟩
  simp only [e0, e1, e2, f2, f3]

/-- The points' blocks cover the array: the array holds `result`. -/
theorem array_eq (hq : Real' (argQ m c)) (hk : Real' (argK m c)) (hv : Real' (argV m c)) :
    (dats m 0 c).arrAt 5 cfg0.N = result m c :=
  (dats m 0 c).arrAt_eq_of_cover 5 (result m c) (fun t _ => flushed_eq hq hk hv t) fun (i : S16x4096x512.Idx) => by
    have h0 : (i 0 : Nat) < 16 := (i 0).isLt
    have h1 : (i 1 : Nat) < 4096 := (i 1).isLt
    have h2 : (i 2 : Nat) < 512 := (i 2).isLt
    have hN : cfg0.N = 512 := N_0
    let t : Fin cfg0.N := ⟨(i 0 : Nat) * 32 + (i 2 : Nat) / 128 * 8 + (i 1 : Nat) / 512, by rw [hN]; omega⟩
    obtain ⟨j0, j1, j2⟩ := index5 t
    have tv : t.val = (i 0 : Nat) * 32 + (i 2 : Nat) / 128 * 8 + (i 1 : Nat) / 512 := rfl
    refine ⟨t, flush0_5 t, ?_⟩
    show i ∈ ((View.whole main_v18).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [j0, tv]; omega
    | ⟨1, _⟩ => show win0_5.index t 1 * 512 ≤ (i 1 : Nat) ∧ (i 1 : Nat) < win0_5.index t 1 * 512 + 512; rw [j1, tv]; omega
    | ⟨2, _⟩ => show win0_5.index t 2 * 128 ≤ (i 2 : Nat) ∧ (i 2 : Nat) < win0_5.index t 2 * 128 + 128; rw [j2, tv]; omega

end Cert.KernelIdeal.Attn
end
-- ==== Proof.Attn.Finite.lean ====
module
public import proofs.«01_k».proof.Pre_all_finite
public import proofs.«01_k».proof.Proof.Attn.Array
/-!
# What the precondition says

An entry whose absolute value is below plus infinity is a real number; and so lambda, an exponential less another, is real.
-/
@[expose] public section
noncomputable section
namespace Cert.Attn
open Cert.KernelIdeal Cert.KernelIdeal.Gen Cert.KernelIdeal.Attn Idealize.ShloMosaic
open Idealize.ShloMosaic.ValueIdx Finset

theorem facts_finite : Cert.Pre_all_finite.Facts where
  bcast_S_S16x4096x4x2x64 := by decide
  bcast_S_S16x4096x4x128 := by decide
  bcast_S_S64 := by decide

theorem real_of_abs (a : EReal) (h : Ideal.cmp .olt (max a (-a)) (Ideal.ofBits .f32 0x7F800000#32) = 1#1) : ∃ x : ℝ, a = (x : EReal) := by
  have ht : Ideal.ofBits .f32 0x7F800000#32 = (⊤ : EReal) := by simp [Ideal.ofBits, Ideal.ieee]
  rw [ht] at h
  have hlt : max a (-a) < ⊤ := by
    by_contra hn
    simp [Ideal.cmp, hn] at h
  induction a with
  | bot => simp at hlt
  | top => simp at hlt
  | coe x => exact ⟨x, rfl⟩

/-- An array whose test is all ones is an array of reals. -/
theorem real_of_test {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) : Real' x := fun i => by
  have := congrFun h i
  exact real_of_abs _ this

theorem real_dot (a b : FVec Ideal S64 .f32) (ha : Real' a) (hb : Real' b) (i : S_.Idx) :
    ∃ x : ℝ, Host.reduceAdd (mulf a b) (constant (F := Ideal) S_ .f32 0x00000000#32) reducesTo_S64_S_d0 h_S_ i = (x : EReal) := by
  refine ⟨∑ j : S64.Idx, (a j).toReal * (b j).toReal, ?_⟩
  simp only [Host.reduceAdd, Ideal.hostReduceAdd_def]
  refine (Ideal.hostReduceAdd_total reducesTo_S64_S_d0 (fun b => b.elim0) _ _ i).trans ?_
  rw [coe_sum]
  rw [show (constant (F := Ideal) S_ .f32 0x00000000#32) (Shape.Idx.first h_S_) = (0 : EReal) from by
    show Ideal.ofBits .f32 0x00000000#32 = 0
    simp [Ideal.ofBits, Ideal.ieee], zero_add]
  exact sum_congr rfl fun j _ => by rw [EReal.coe_mul, ← ha.coe, ← hb.coe]; rfl

/-- lambda is real. -/
theorem real_lam {a b a' b' : FVec Ideal S64 .f32} (ha : Real' a) (hb : Real' b) (ha' : Real' a') (hb' : Real' b') :
    ∃ L : ℝ, lamOf a b a' b' ix0 = (L : EReal) := by
  obtain ⟨x, hx⟩ := real_dot a b ha hb ix0
  obtain ⟨y, hy⟩ := real_dot a' b' ha' hb' ix0
  refine ⟨Real.exp x - Real.exp y + (Ideal.ofBits .f32 0x3E4CCCCD#32).toReal, ?_⟩
  show Ideal.exp _ - Ideal.exp _ + Ideal.ofBits .f32 0x3E4CCCCD#32 = _
  have hc : Ideal.ofBits .f32 0x3E4CCCCD#32 = ((Ideal.ofBits .f32 0x3E4CCCCD#32).toReal : EReal) := by
    refine (EReal.coe_toReal ?_ ?_).symm <;> simp [Ideal.ofBits, Ideal.ieee, ← EReal.coe_mul]
  rw [hx, hy, Ideal.exp_coe, Ideal.exp_coe, EReal.coe_add, EReal.coe_sub, ← hc]

end Cert.Attn
end
-- ==== Proof.Attn.RefValue.lean ====
module
public import proofs.«01_k».proof.Proof.Gen.ReferenceIdeal.Read
public import proofs.«01_k».proof.Proof.Attn.Spec
public import Idealize.ShloMosaic.Lib.KernelVsHost
/-!
# The reference's value

The reference's result, stage after stage: the masked scores, their row maximum, the softmax, the two maps' difference applied to
the values, and the norm. At every element it is the attention of `Spec`.
-/
@[expose] public section
noncomputable section
namespace Cert.ReferenceIdeal.Attn
open Cert.ReferenceIdeal Cert.ReferenceIdeal.Gen Cert.ReferenceIdeal.Read Cert.Attn Idealize.ShloMosaic
open Idealize.ShloMosaic.ValueIdx Finset
open Cert.KernelIdeal.Attn (Real' qAt vAt qAt_eq vAt_eq scoreOf attn rms)

variable (q k : S16x4096x4x2x64.Idx → EReal) (v : S16x4096x4x128.Idx → EReal)
variable (l₁ l₂ l₃ l₄ : S64.Idx → EReal) (w : S128.Idx → EReal)

theorem eighth : Ideal.ofBits .f32 0x3E000000#32 = ((1 / 8 : ℝ) : EReal) := by
  simp [Ideal.ofBits, Ideal.ieee]
  rw [← EReal.coe_mul]; norm_num

theorem zero_first : (constant (F := Ideal) S_ .f32 0x00000000#32) (Shape.Idx.first h_S_) = (0 : EReal) := by
  show Ideal.ofBits .f32 0x00000000#32 = 0
  simp [Ideal.ofBits, Ideal.ieee]

/-- Two small positions compare as the numbers they are. -/
theorem sle_small (a b : ℕ) (ha : a < 4096) (hb : b < 4096) :
    IntOp.cmpi .sle (BitVec.ofNat 32 a) (BitVec.ofNat 32 b) = if a < b + 1 then 1#1 else 0#1 := by
  have e : (BitVec.ofNat 32 a).sle (BitVec.ofNat 32 b) = decide (a < b + 1) := by
    have h1 : ∀ x : ℕ, x < 4096 → (BitVec.ofNat 32 x).toInt = x := fun x hx => by
      rw [BitVec.toInt_eq_toNat_of_lt (by rw [BitVec.toNat_ofNat]; omega), BitVec.toNat_ofNat]; omega
    rw [BitVec.sle_eq_decide, h1 a ha, h1 b hb]
    exact decide_eq_decide.2 (by omega)
  show BitVec.ofBool ((BitVec.ofNat 32 a).sle (BitVec.ofNat 32 b)) = _
  rw [e]
  by_cases h : a < b + 1 <;> simp [h]

variable {q k v}

/-- A masked score. -/
theorem v17_eq (hq : Real' q) (hk : Real' k) (b : Fin 16) (h : Fin 4) (c : Fin 2) (n j : Fin 4096) :
    val_main_v17 (F := Ideal) q k (ix5 b h c n j)
      = if j.val < n.val + 1 then (scoreOf q k b.val h.val c.val n.val j.val : EReal) else ⊥ := by
  have e10 : val_main_v10 (F := Ideal) q k (ix5 b h c n j) = (scoreOf q k b.val h.val c.val n.val j.val : EReal) := by
    rw [val_main_v10_apply, val_main_v8_apply, val_main_v9_apply, val_main_cst_2_apply]
    show _ * Ideal.ofBits .f32 0x3E000000#32 = _
    rw [eighth]
    unfold scoreOf
    rw [EReal.coe_mul, coe_sum]
    congr 1
    refine sum_congr rfl fun e _ => ?_
    have hl : lidx_main_v8 (ix5 b h c n j) e = ix5 b n h c e := funext fun a => by fin_cases a <;> rfl
    have hr : ridx_main_v8 (ix5 b h c n j) e = ix5 b j h c e := funext fun a => by fin_cases a <;> rfl
    rw [hl, hr, qAt_eq hq, qAt_eq hk, EReal.coe_mul]
  have e1 : val_main_call0_v1 (F := Ideal) (ix5 b h c n j) = if j.val < n.val + 1 then 1#1 else 0#1 := by
    rw [val_main_call0_v1_apply, val_main_v16_apply, val_main_v14_apply, val_main_v15_apply, val_main_v12_apply, val_main_v13_apply, val_main_v11_apply, val_main_v11_apply]
    exact sle_small j.val n.val j.isLt n.isLt
  rw [val_main_v17_apply, e10, e1]
  by_cases hj : j.val < n.val + 1
  · rw [if_pos hj, if_pos hj, select_one]
  · rw [if_neg hj, if_neg hj, select_zero, val_main_call0_v2_apply, val_main_call0_v0_apply, val_main_cst_3_apply, negInf]

/-- A row's maximum. -/
theorem v18_eq (b : Fin 16) (h : Fin 4) (c : Fin 2) (n : Fin 4096) :
    val_main_v18 (F := Ideal) q k (ix4 b h c n)
      = (univ : Finset (Fin 4096)).fold max (⊥ : EReal) (fun j => val_main_v17 (F := Ideal) q k (ix5 b h c n j)) := by
  unfold val_main_v18
  unfold val_main_cst_4
  generalize val_main_v17 (F := Ideal) q k = y
  have hR : S16x4x2x4096x4096.Reduces [4] S16x4x2x4096 := by decide
  have e := hostReduce_maximumf_eq_multiReduction (F := Ideal) (φ := .f32) (u := S_) y 0xFF800000#32 reducesTo_S16x4x2x4096x4096_S16x4x2x4096_d4 h_S_ hR (.inl rfl) rfl
  refine (congrFun e _).trans ((Ideal.multiReduction_maximumf_single _ _ hR (.inl rfl) rfl (ix4 b h c n)).trans ?_)
  refine (congrArg (fun z => (univ : Finset (Fin 4096)).fold max z (y ∘ hR.lift (ix4 b h c n))) negInf).trans ?_
  congr 1
  funext j
  show y _ = y _
  congr 1
  funext a
  apply Fin.ext
  match a with
  | ⟨0, _⟩ => rfl
  | ⟨1, _⟩ => rfl
  | ⟨2, _⟩ => rfl
  | ⟨3, _⟩ => rfl
  | ⟨4, _⟩ => rfl

/-- The exponential of a score less its row's maximum. -/
theorem v24_eq (b : Fin 16) (h : Fin 4) (c : Fin 2) (n j : Fin 4096) :
    val_main_v24 (F := Ideal) q k (ix5 b h c n j)
      = Ideal.exp (val_main_v17 (F := Ideal) q k (ix5 b h c n j)
          - (univ : Finset (Fin 4096)).fold max (⊥ : EReal) (fun j => val_main_v17 (F := Ideal) q k (ix5 b h c n j))) := by
  rw [val_main_v24_apply, val_main_v23_apply, val_main_v22_apply, val_main_v21_apply, val_main_v20_apply, val_main_v19_apply, val_main_cst_5_apply]
  have hi : idx_main_v21 (idx_main_v22 (ix5 b h c n j)) = ix4 b h c n := funext fun a => by fin_cases a <;> rfl
  rw [hi, v18_eq]
  show Ideal.exp (_ - max _ _) = _
  rw [negInf, bot_sup_eq]

/-- The softmax. -/
theorem v28_eq (hq : Real' q) (hk : Real' k) (b : Fin 16) (h : Fin 4) (c : Fin 2) (n j : Fin 4096) :
    val_main_v28 (F := Ideal) q k (ix5 b h c n j)
      = ((if j.val < n.val + 1 then Real.exp (scoreOf q k b.val h.val c.val n.val j.val)
            / ∑ i ∈ range (n.val + 1), Real.exp (scoreOf q k b.val h.val c.val n.val i) else 0 : ℝ) : EReal) := by
  rw [val_main_v28_apply, val_main_v27_apply, val_main_v26_apply, val_main_v25_apply]
  have hi : ∀ i : Fin 4096, idx_main_v25 (idx_main_v26 (idx_main_v27 (ix5 b h c n j))) i = ix5 b h c n i :=
    fun i => funext fun a => by fin_cases a <;> rfl
  simp only [hi, v24_eq]
  rw [show (val_main_cst_6 (F := Ideal)) (Shape.Idx.first h_S_) = (0 : EReal) from zero_first, zero_add]
  exact softmax_row (scoreOf q k b.val h.val c.val n.val) (Nat.succ_pos _) (by have := n.isLt; omega)
    (fun j => val_main_v17 (F := Ideal) q k (ix5 b h c n j)) (fun j => v17_eq hq hk b h c n j) j

theorem v30_eq (b : Fin 16) (h : Fin 4) (n j : Fin 4096) :
    val_main_v30 (F := Ideal) q k (ix4 b h n j) = val_main_v28 (F := Ideal) q k (ix5 b h (0 : Fin 2) n j) := by
  rw [val_main_v30_apply, val_main_v29_apply]
  congr 1
  have h0 := b.isLt; have h1 := h.isLt; have h2 := n.isLt; have h3 := j.isLt
  funext a
  apply Fin.ext
  match a with
  | ⟨0, _⟩ => show (((b.val * 4 + h.val) * 4096 + n.val) * 4096 + j.val) / 67108864 = b.val; omega
  | ⟨1, _⟩ => show (((b.val * 4 + h.val) * 4096 + n.val) * 4096 + j.val) / 16777216 % 4 = h.val; omega
  | ⟨2, _⟩ => rfl
  | ⟨3, _⟩ => show (((b.val * 4 + h.val) * 4096 + n.val) * 4096 + j.val) / 4096 % 4096 = n.val; omega
  | ⟨4, _⟩ => show (((b.val * 4 + h.val) * 4096 + n.val) * 4096 + j.val) % 4096 = j.val; omega

theorem v32_eq (b : Fin 16) (h : Fin 4) (n j : Fin 4096) :
    val_main_v32 (F := Ideal) q k (ix4 b h n j) = val_main_v28 (F := Ideal) q k (ix5 b h (1 : Fin 2) n j) := by
  rw [val_main_v32_apply, val_main_v31_apply]
  congr 1
  have h0 := b.isLt; have h1 := h.isLt; have h2 := n.isLt; have h3 := j.isLt
  funext a
  apply Fin.ext
  match a with
  | ⟨0, _⟩ => show (((b.val * 4 + h.val) * 4096 + n.val) * 4096 + j.val) / 67108864 = b.val; omega
  | ⟨1, _⟩ => show (((b.val * 4 + h.val) * 4096 + n.val) * 4096 + j.val) / 16777216 % 4 = h.val; omega
  | ⟨2, _⟩ => rfl
  | ⟨3, _⟩ => show (((b.val * 4 + h.val) * 4096 + n.val) * 4096 + j.val) / 4096 % 4096 = n.val; omega
  | ⟨4, _⟩ => show (((b.val * 4 + h.val) * 4096 + n.val) * 4096 + j.val) % 4096 = j.val; omega

/-- The difference of the two maps, applied to the values. -/
theorem v37_eq (hq : Real' q) (hk : Real' k) (hv : Real' v) {L : ℝ} (hL : val_main_v7 (F := Ideal) l₁ l₂ l₃ l₄ ix0 = (L : EReal))
    (b : Fin 16) (n : Fin 4096) (h : Fin 4) (d : Fin 128) :
    val_main_v37 (F := Ideal) q k v l₁ l₂ l₃ l₄ (ix4 b n h d)
      = (avg (scoreOf q k b.val h.val 0 n.val) (fun j => vAt v b.val j h.val) (n.val + 1) d : EReal)
        - (L : EReal) * (avg (scoreOf q k b.val h.val 1 n.val) (fun j => vAt v b.val j h.val) (n.val + 1) d : EReal) := by
  rw [val_main_v37_apply, val_main_v36_apply]
  have hl : ∀ j, lidx_main_v36 (idx_main_v37 (ix4 b n h d)) j = ix4 b j h d := fun j => funext fun a => by fin_cases a <;> rfl
  have hr : ∀ j, ridx_main_v36 (idx_main_v37 (ix4 b n h d)) j = ix4 b h n j := fun j => funext fun a => by fin_cases a <;> rfl
  have h33 : ∀ i, val_main_v33 (F := Ideal) l₁ l₂ l₃ l₄ i = (L : EReal) := fun i => by
    rw [val_main_v33_apply, ← hL]
  have h0 := fun j => (v30_eq (q := q) (k := k) b h n j).trans (v28_eq hq hk b h 0 n j)
  have h1 := fun j => (v32_eq (q := q) (k := k) b h n j).trans (v28_eq hq hk b h 1 n j)
  have h2 := fun j => vAt_eq hv b j h d
  refine (sum_congr rfl fun j _ => ?_).trans (weighted (N := 4096) _ _ (fun j => vAt v b.val j h.val) L n.isLt d _ _ _ h0 h1 h2)
  rw [hl, hr, val_main_v35_apply, val_main_v34_apply, h33]
  rfl

/-- The reference's result before its last reshape. -/
theorem v53_eq (hq : Real' q) (hk : Real' k) (hv : Real' v) {L : ℝ} (hL : val_main_v7 (F := Ideal) l₁ l₂ l₃ l₄ ix0 = (L : EReal))
    (b : Fin 16) (n : Fin 4096) (h : Fin 4) (d : Fin 128) :
    val_main_v53 (F := Ideal) q k v l₁ l₂ l₃ l₄ w (ix4 b n h d) = attn q k v L w b.val n.val h.val d := by
  rw [val_main_v53_apply, val_main_v52_apply, val_main_v50_apply, val_main_v47_apply, val_main_v46_apply, val_main_v45_apply, val_main_v44_apply,
    val_main_v42_apply, val_main_v40_apply, val_main_v39_apply, val_main_v41_apply, val_main_v43_apply, val_main_v49_apply, val_main_v48_apply, val_main_v51_apply]
  have hi : ∀ e, idx_main_v39 (idx_main_v40 (idx_main_v46 (ix4 b n h d))) e = ix4 b n h e := fun e => funext fun a => by fin_cases a <;> rfl
  have hw : idx_main_v48 (idx_main_v49 (ix4 b n h d)) = ix1 d := funext fun a => by fin_cases a; rfl
  simp only [hi, val_main_v38_apply, v37_eq l₁ l₂ l₃ l₄ hq hk hv hL, hw]
  rw [show (val_main_cst_7 (F := Ideal)) (Shape.Idx.first h_S_) = (0 : EReal) from zero_first, zero_add]
  rfl

/-- The reference's result. -/
theorem v54_eq (hq : Real' q) (hk : Real' k) (hv : Real' v) {L : ℝ} (hL : val_main_v7 (F := Ideal) l₁ l₂ l₃ l₄ ix0 = (L : EReal)) :
    val_main_v54 (F := Ideal) q k v l₁ l₂ l₃ l₄ w = fun i : S16x4096x512.Idx =>
      attn q k v L w (i 0).val (i 1).val ((i 2).val / 128) ⟨(i 2).val % 128, Nat.mod_lt _ (by norm_num)⟩ := by
  funext i
  have h0 : (i 0 : Nat) < 16 := (i 0).isLt
  have h1 : (i 1 : Nat) < 4096 := (i 1).isLt
  have h2 : (i 2 : Nat) < 512 := (i 2).isLt
  have e : idx_main_v54 i = ix4 (⟨i 0, h0⟩ : Fin 16) (⟨i 1, h1⟩ : Fin 4096) (⟨(i 2).val / 128, by omega⟩ : Fin 4) (⟨(i 2).val % 128, Nat.mod_lt _ (by norm_num)⟩ : Fin 128) := by
    funext a
    apply Fin.ext
    match a with
    | ⟨0, _⟩ => show (((i 0).val * 4096 + (i 1).val) * 512 + (i 2).val) / 2097152 = (i 0).val; omega
    | ⟨1, _⟩ => show (((i 0).val * 4096 + (i 1).val) * 512 + (i 2).val) / 512 % 4096 = (i 1).val; omega
    | ⟨2, _⟩ => show (((i 0).val * 4096 + (i 1).val) * 512 + (i 2).val) / 128 % 4 = (i 2).val / 128; omega
    | ⟨3, _⟩ => show (((i 0).val * 4096 + (i 1).val) * 512 + (i 2).val) % 128 = (i 2).val % 128; omega
  rw [val_main_v54_apply, e, v53_eq l₁ l₂ l₃ l₄ w hq hk hv hL]

end Cert.ReferenceIdeal.Attn
end
-- ==== Proof.Attn.Equal.lean ====
module
public import proofs.«01_k».proof.Defs
public import proofs.«01_k».proof.Proof.Gen.Kernel.Frame
public import proofs.«01_k».proof.Proof.Gen.ReferenceIdeal.Run
public import proofs.«01_k».proof.Proof.Attn.Finite
public import proofs.«01_k».proof.Proof.Attn.RefValue
public import Idealize.ShloMosaic.Lib.Quiescent
/-!
# The attention's claims

The kernel's array and the reference's are the same function of the arguments: the claim of equality, and the frames.
-/
@[expose] public section
noncomputable section
namespace Cert.Proof
open Idealize.ShloMosaic Idealize.SL.Sem Idealize.ShloMosaic.ValueIdx Cert.Attn
open Cert.KernelIdeal.Attn (Real')

instance attnPre : Cert.Pre_all_finite.Facts := facts_finite

theorem attn_frame_bits : Cert.quiescent_Kernel := fun m ρ _ => Cert.Kernel.Gen.frame m ρ
theorem attn_frame : Cert.quiescent_KernelIdeal := fun m ρ _ => Cert.KernelIdeal.Gen.frame m ρ
theorem attn_frame_finite : Cert.quiescent_KernelIdeal_pre_all_finite := fun m ρ _ => Cert.KernelIdeal.Gen.frame m ρ

/-- The reference's run leaves its arguments and, declaring no semaphore, every counter at zero. -/
theorem attn_ref_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem attn_ref_frame_finite : Cert.quiescent_ReferenceIdeal_pre_all_finite := fun m ρ _ => attn_ref_frame m ρ trivial

/-- What the precondition says of the kernel's arguments on one device. -/
theorem args_real {m : (ℓ : Loc Cert.KernelIdeal.nD Cert.KernelIdeal.τ Cert.KernelIdeal.sig) → Buf (Elt Ideal) ℓ}
    (h : Cert.Pre_KernelIdeal_all_finite m) (c : Dev Cert.KernelIdeal.nD) :
    Real' (Cert.KernelIdeal.Attn.argQ m c) ∧ Real' (Cert.KernelIdeal.Attn.argK m c) ∧ Real' (Cert.KernelIdeal.Attn.argV m c)
      ∧ ∃ L : ℝ, Cert.KernelIdeal.Attn.lamE m c = (L : EReal) := by
  obtain ⟨h0, h1, h2, h3, h4, h5, h6⟩ := h c
  exact ⟨real_of_test _ _ h0, real_of_test _ _ h1, real_of_test _ _ h2,
    real_lam (real_of_test _ _ h3) (real_of_test _ _ h4) (real_of_test _ _ h5) (real_of_test _ _ h6)⟩

theorem attn_equal : Cert.algebraic_KernelIdeal_ReferenceIdeal_pre_all_finite := by
  intro m ρ m' ρ' hpre hagree
  refine ⟨fun c => Cert.KernelIdeal.Attn.result m c, ?_, ?_⟩
  · refine (θ_run Cert.KernelIdeal.defs _ _).mono (fun r h c => ⟨(h c).1.trans ?_, (h c).2⟩) (Cert.KernelIdeal.Value.run_blocks m ρ)
    obtain ⟨hq, hk, hv, -⟩ := args_real hpre c
    exact Cert.KernelIdeal.Attn.array_eq hq hk hv
  · refine (θ_run Cert.ReferenceIdeal.defs _ _).mono (fun r h c => ⟨(h c).1.trans ?_, (h c).2⟩) (Cert.ReferenceIdeal.Value.run (F := Ideal) m' ρ')
    obtain ⟨hq, hk, hv, L, hL⟩ := args_real hpre c
    obtain ⟨a0, a1, a2, a3, a4, a5, a6, a7⟩ := hagree c
    refine (Cert.ReferenceIdeal.Read.val_main_v54_eq m' c).trans ?_
    rw [a0, a1, a2, a3, a4, a5, a6, a7]
    refine (Cert.ReferenceIdeal.Attn.v54_eq _ _ _ _ _ hq hk hv hL).trans ?_
    rw [← hL]
    rfl

end Cert.Proof
end
-- ==== Proof.InProj.Point.lean ====
module
public import proofs.«01_k».proof.Proof.Gen.InProjIdeal.Value
public import Idealize.ShloMosaic.Lib.MatmulPlain
public import Idealize.ShloMosaic.Lib.KernelVsHost
/-!
# The input projection, one block of rows

The product of 512 rows with the weights; of its columns the queries and the keys are rotated. The kernel rotates by three tables
over whole rows and two cyclic shifts of the lanes: where a lane is not rotated its tables are one and zero.
-/
@[expose] public section
noncomputable section
namespace Cert.InProjIdeal.Proj
open Cert.InProjIdeal Cert.InProjIdeal.Gen Idealize.ShloMosaic Idealize.ShloMosaic.TcCoe Idealize.SL.Sem
open Idealize.ShloMosaic.ValueIdx

/-- A row of 512 lanes rotated: in each 64 lanes the first eight and the next eight turn as pairs, the others stay. -/
def rot (cs sn : Fin 8 → EReal) (T : Fin 512 → EReal) (j : Fin 512) : EReal :=
  if h : j.val % 64 < 8 then T j * cs ⟨j.val % 64, h⟩ - T ⟨j.val + 8, by omega⟩ * sn ⟨j.val % 64, h⟩
  else if h' : j.val % 64 < 16 then T j * cs ⟨j.val % 64 - 8, by omega⟩ + T ⟨j.val - 8, by omega⟩ * sn ⟨j.val % 64 - 8, by omega⟩
  else T j

/-- The three tables at a lane: of the lane itself, of the lane eight above, of the lane eight below. -/
def tabC (cs : Fin 8 → EReal) (L : Fin 128) : EReal :=
  if h : L.val % 64 < 8 then cs ⟨L.val % 64, h⟩ else if h' : L.val % 64 < 16 then cs ⟨L.val % 64 - 8, by omega⟩ else 1
def tabA (sn : Fin 8 → EReal) (L : Fin 128) : EReal := if h : L.val % 64 < 8 then -sn ⟨L.val % 64, h⟩ else 0
def tabB (sn : Fin 8 → EReal) (L : Fin 128) : EReal :=
  if L.val % 64 < 8 then 0 else if h' : L.val % 64 < 16 then sn ⟨L.val % 64 - 8, by omega⟩ else 0

/-- The tables and the shifts rotate the row. -/
theorem rot_eq (cs sn : Fin 8 → EReal) (T : Fin 512 → EReal) (j : Fin 512) :
    T j * tabC cs ⟨j.val % 128, Nat.mod_lt _ (by norm_num)⟩
        + T ⟨(j.val + 512 - 504) % 512, Nat.mod_lt _ (by norm_num)⟩ * tabA sn ⟨j.val % 128, Nat.mod_lt _ (by norm_num)⟩
        + T ⟨(j.val + 512 - 8) % 512, Nat.mod_lt _ (by norm_num)⟩ * tabB sn ⟨j.val % 128, Nat.mod_lt _ (by norm_num)⟩
      = rot cs sn T j := by
  have hm : j.val % 128 % 64 = j.val % 64 := Nat.mod_mod_of_dvd _ (by norm_num)
  have hj := j.isLt
  unfold rot tabC tabA tabB
  by_cases h : j.val % 64 < 8
  · have e : (j.val + 512 - 504) % 512 = j.val + 8 := by omega
    simp only [hm, h, dif_pos, if_pos, e, mul_zero, add_zero, mul_neg, sub_eq_add_neg]
  · by_cases h' : j.val % 64 < 16
    · have e : (j.val + 512 - 8) % 512 = j.val - 8 := by omega
      simp only [hm, h, h', dif_pos, dif_neg, if_neg, not_false_eq_true, e, mul_zero, add_zero]
    · simp only [hm, h, h', dif_neg, if_neg, not_false_eq_true, mul_zero, add_zero, mul_one]

theorem product_apply (x0 : Vec Ideal S512x1024 .f32) (x1 : Vec Ideal S1024x3712 .bf16) (r : Fin 512) (j : Fin 3712) :
    k0_pay6 (F := Ideal) x0 x1 (ix2 r j) = ∑ k : Fin 1024, x0 (ix2 r k) * x1 (ix2 k j) := by
  unfold k0_pay6
  refine (Ideal.matmul_plain_apply none _ _ _ r j).trans ?_
  rw [shapeCast_self, shapeCast_self]
  refine (congrArg (· + _) Ideal.ofBits_zero_f32).trans (zero_add _)

/-- Four copies of a table side by side. -/
theorem repeat_apply (v : FVec Ideal S512x128 .f32) (r j : Fin 512) :
    concatenate S512x512 1 [⟨S512x128, v⟩, ⟨S512x128, v⟩, ⟨S512x128, v⟩, ⟨S512x128, v⟩] concatenates_S512x128_S512x128_S512x128_S512x128_S512x512_d1 (ix2 r j)
      = v (ix2 r (⟨j.val % 128, Nat.mod_lt _ (by norm_num)⟩ : Fin 128)) :=
  concatenate_replicate_apply (t := S512x512) (s₁ := S512x128) (1 : Fin 2) 4 v concatenates_S512x128_S512x128_S512x128_S512x128_S512x512_d1 rfl (ix2 r j)
    (ix2 r (⟨j.val % 128, Nat.mod_lt _ (by norm_num)⟩ : Fin 128)) rfl (fun b hb => by
      match b with
      | ⟨0, _⟩ => rfl
      | ⟨1, _⟩ => exact absurd rfl hb)

theorem shift_apply (sb : BitVec 32) (s : ℕ) (hs : sb.toNat % 512 = s) (v : FVec Ideal S512x512 .f32) (r j : Fin 512) :
    dynamicRotate 1 sb none v rotates_S512x512_d1 (ix2 r j) = v (ix2 r (⟨(j.val + 512 - s) % 512, Nat.mod_lt _ (by norm_num)⟩ : Fin 512)) :=
  dynamicRotate_apply (1 : Fin 2) sb v _ (ix2 r j) _ (fun b => by
    match b with
    | ⟨0, _⟩ => rfl
    | ⟨1, _⟩ =>
      show (j.val + 512 - s) % 512 = if ((1 : Fin 2) = 1) then (j.val + 512 - sb.toNat % 512) % 512 else j.val
      rw [if_pos rfl, hs])

/-- 512 of the product's columns, from column `o`. -/
theorem columns_apply (v : FVec Ideal S512x3712 .f32) (o : ℕ) (ho : o + 512 ≤ 3712) (h : S512x3712.Slices ![0, o] S512x512) (r j : Fin 512) :
    extractStridedSlice S512x512 ![0, o] v h (ix2 r j) = v (ix2 r (⟨o + j.val, by omega⟩ : Fin 3712)) :=
  extractStridedSlice_apply _ _ _ _ _ (fun a => by
    match a with
    | ⟨0, _⟩ => exact (Nat.zero_add _).symm
    | ⟨1, _⟩ => rfl)

/-- The rotation as the kernel writes it, of any 512 columns, when its tables hold the cosines and sines of the row. -/
theorem rotate_apply (v : FVec Ideal S512x512 .f32) (x2 x3 x4 : Vec Ideal S512x128 .f32) (cs sn : Fin 8 → EReal) (r : Fin 512)
    (hc : ∀ L, x2 (ix2 r L) = tabC cs L) (ha : ∀ L, x3 (ix2 r L) = tabA sn L) (hb : ∀ L, x4 (ix2 r L) = tabB sn L) (j : Fin 512) :
    addf (addf (mulf v (k0_pay7 (F := Ideal) x2)) (mulf (dynamicRotate 1 504#32 none v rotates_S512x512_d1) (k0_pay8 x3)))
        (mulf (dynamicRotate 1 8#32 none v rotates_S512x512_d1) (k0_pay9 x4)) (ix2 r j)
      = rot cs sn (fun j => v (ix2 r j)) j := by
  show v (ix2 r j) * k0_pay7 (F := Ideal) x2 (ix2 r j) + dynamicRotate 1 504#32 none v rotates_S512x512_d1 (ix2 r j) * k0_pay8 (F := Ideal) x3 (ix2 r j)
    + dynamicRotate 1 8#32 none v rotates_S512x512_d1 (ix2 r j) * k0_pay9 (F := Ideal) x4 (ix2 r j) = _
  rw [shift_apply 504#32 504 (by decide), shift_apply 8#32 8 (by decide)]
  unfold k0_pay7 k0_pay8 k0_pay9
  rw [repeat_apply, repeat_apply, repeat_apply, shapeCast_self, shapeCast_self, shapeCast_self, hc, ha, hb]
  exact rot_eq cs sn (fun j => v (ix2 r j)) j

theorem hz2 : (![0, 0] : Fin 2 → Nat) = fun _ => 0 := funext fun a => by fin_cases a <;> rfl

section
variable (x0 : Vec Ideal S512x1024 .f32) (x1 : Vec Ideal S1024x3712 .bf16) (x2 x3 x4 : Vec Ideal S512x128 .f32)
variable (cs sn : Fin 8 → EReal) (r : Fin 512)

/-- Row `r` of the product, from column `o`. -/
def cols (n o : ℕ) (ho : o + n ≤ 3712) (j : Fin n) : EReal := ∑ k : Fin 1024, x0 (ix2 r k) * x1 (ix2 k (⟨o + j.val, by omega⟩ : Fin 3712))

variable (hc : ∀ L, x2 (ix2 r L) = tabC cs L) (ha : ∀ L, x3 (ix2 r L) = tabA sn L) (hb : ∀ L, x4 (ix2 r L) = tabB sn L)
include hc ha hb

theorem out5 (j : Fin 512) : out0_5 (F := Ideal) x0 x1 x2 x3 x4 (ix2 r j)
    = rot cs sn (cols x0 x1 r 512 0 (by norm_num)) j * Ideal.ofBits .f32 0x3E000000#32 := by
  unfold out0_5
  rw [View.canon_unit_zero hz2]
  simp only [View.ld_unit_zero (S := S512x1024) hz2, View.ld_unit_zero (S := S1024x3712) hz2, View.ld_unit_zero (S := S512x128) hz2]
  unfold k0_pay12
  refine (congrArg (· * Ideal.ofBits .f32 0x3E000000#32) (rotate_apply _ x2 x3 x4 cs sn r hc ha hb j)).trans ?_
  congr 2
  funext j
  rw [columns_apply _ 0 (by norm_num), product_apply]
  rfl

theorem out6 (j : Fin 512) : out0_6 (F := Ideal) x0 x1 x2 x3 x4 (ix2 r j) = rot cs sn (cols x0 x1 r 512 512 (by norm_num)) j := by
  unfold out0_6
  rw [View.canon_unit_zero hz2]
  simp only [View.ld_unit_zero (S := S512x1024) hz2, View.ld_unit_zero (S := S1024x3712) hz2, View.ld_unit_zero (S := S512x128) hz2]
  unfold k0_pay10
  refine (rotate_apply _ x2 x3 x4 cs sn r hc ha hb j).trans ?_
  congr 1
  funext j
  rw [columns_apply _ 512 (by norm_num), product_apply]
  rfl

theorem out8 (j : Fin 512) : out0_8 (F := Ideal) x0 x1 x2 x3 x4 (ix2 r j) = rot cs sn (cols x0 x1 r 512 512 (by norm_num)) j := by
  rw [← out6 x0 x1 x2 x3 x4 cs sn r hc ha hb j]
  unfold out0_8 out0_6
  rw [View.canon_unit_zero hz2, View.canon_unit_zero hz2]
  rfl
omit hc ha hb

theorem out7 (j : Fin 512) : out0_7 (F := Ideal) x0 x1 x2 x3 x4 (ix2 r j) = cols x0 x1 r 512 1024 (by norm_num) j := by
  unfold out0_7 k0_pay14
  rw [View.canon_unit_zero hz2]
  simp only [View.ld_unit_zero (S := S512x1024) hz2, View.ld_unit_zero (S := S1024x3712) hz2]
  unfold k0_pay11
  rw [columns_apply _ 1024 (by norm_num), product_apply]
  rfl

theorem out9 (j : Fin 512) : out0_9 (F := Ideal) x0 x1 x2 x3 x4 (ix2 r j) = cols x0 x1 r 512 1024 (by norm_num) j := by
  rw [← out7 x0 x1 x2 x3 x4 r j]
  unfold out0_9 out0_7
  rw [View.canon_unit_zero hz2, View.canon_unit_zero hz2]
  rfl

theorem out10 (j : Fin 1536) : out0_10 (F := Ideal) x0 x1 x2 x3 x4 (ix2 r j) = cols x0 x1 r 1536 1536 (by norm_num) j := by
  unfold out0_10 k0_pay13
  rw [View.canon_unit_zero hz2]
  simp only [View.ld_unit_zero (S := S512x1024) hz2, View.ld_unit_zero (S := S1024x3712) hz2]
  unfold k0_pay3
  refine (extractStridedSlice_apply _ _ _ _ (ix2 r (⟨1536 + j.val, by omega⟩ : Fin 3712)) (fun a => by
    match a with
    | ⟨0, _⟩ => exact (Nat.zero_add _).symm
    | ⟨1, _⟩ => rfl)).trans ?_
  rw [product_apply]
  rfl

theorem out11 (j : Fin 512) : out0_11 (F := Ideal) x0 x1 x2 x3 x4 (ix2 r j) = cols x0 x1 r 512 3072 (by norm_num) j := by
  unfold out0_11 k0_pay13
  rw [View.canon_unit_zero hz2]
  simp only [View.ld_unit_zero (S := S512x1024) hz2, View.ld_unit_zero (S := S1024x3712) hz2]
  unfold k0_pay4
  rw [columns_apply _ 3072 (by norm_num), product_apply]
  rfl

theorem out12 (j : Fin 128) : out0_12 (F := Ideal) x0 x1 x2 x3 x4 (ix2 r j) = cols x0 x1 r 128 3584 (by norm_num) j := by
  unfold out0_12 k0_pay13
  rw [View.canon_unit_zero hz2]
  simp only [View.ld_unit_zero (S := S512x1024) hz2, View.ld_unit_zero (S := S1024x3712) hz2]
  unfold k0_pay5
  refine (extractStridedSlice_apply _ _ _ _ (ix2 r (⟨3584 + j.val, by omega⟩ : Fin 3712)) (fun a => by
    match a with
    | ⟨0, _⟩ => exact (Nat.zero_add _).symm
    | ⟨1, _⟩ => rfl)).trans ?_
  rw [product_apply]
  rfl
end

end Cert.InProjIdeal.Proj
end
-- ==== Proof.InProj.Tables.lean ====
module
public import proofs.«01_k».proof.Proof.InProj.Point
public import Idealize.ShloMosaic.Lib.StableHlo.Run
public import Idealize.ShloMosaic.Lib.Tactic
/-!
# The input projection: the arrays the call is given

The rows of all sequences one under another; the weights with their last two column groups exchanged and zero columns after them;
the three rotation tables, from the cosines and sines of position times frequency.
-/
@[expose] public section
noncomputable section
namespace Cert.InProjIdeal.Proj
open Cert.InProjIdeal Cert.InProjIdeal.Gen Idealize.ShloMosaic Idealize.ShloMosaic.TcCoe Idealize.SL.Sem
open Idealize.ShloMosaic.ValueIdx

/-- The eight frequencies. -/
def freq : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))
/-- Position times frequency. -/
def angle : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 freq))
def cosT : FVec Ideal S4096x8 .f32 := Host.cos angle
def sinT : FVec Ideal S4096x8 .f32 := Host.sin angle

/-- 64 lanes: two groups of eight and the rest. -/
def lanes (a b : FVec Ideal S4096x8 .f32) (d : FVec Ideal S4096x48 .f32) : FVec Ideal S4096x64 .f32 :=
  concatenate S4096x64 1 [⟨S4096x8, a⟩, ⟨S4096x8, b⟩, ⟨S4096x48, d⟩] concatenates_S4096x8_S4096x8_S4096x48_S4096x64_d1
def twice (a : FVec Ideal S4096x64 .f32) : FVec Ideal S4096x128 .f32 :=
  concatenate S4096x128 1 [⟨S4096x64, a⟩, ⟨S4096x64, a⟩] concatenates_S4096x64_S4096x64_S4096x128_d1

theorem lanes_apply (a b : FVec Ideal S4096x8 .f32) (d : FVec Ideal S4096x48 .f32) (n : Fin 4096) (e : Fin 64) :
    lanes a b d (ix2 n e) = if h : e.val < 8 then a (ix2 n ⟨e.val, h⟩) else if h' : e.val < 16 then b (ix2 n ⟨e.val - 8, by omega⟩)
      else d (ix2 n ⟨e.val - 16, by omega⟩) := by
  have he := e.isLt
  unfold lanes
  by_cases h : e.val < 8
  · rw [dif_pos h]
    exact concatenate_apply_piece (t := S4096x64) (1 : Fin 2) _ _ (ix2 n e) 0 (by simp) S4096x8 a rfl rfl 0 rfl (ix2 n ⟨e.val, h⟩)
      (fun c hc => by match c with | ⟨0, _⟩ => rfl | ⟨1, _⟩ => exact absurd rfl hc) (Nat.zero_add _)
  · rw [dif_neg h]
    by_cases h' : e.val < 16
    · rw [dif_pos h']
      exact concatenate_apply_piece (t := S4096x64) (1 : Fin 2) _ _ (ix2 n e) 1 (by simp) S4096x8 b rfl rfl 8 rfl (ix2 n ⟨e.val - 8, by omega⟩)
        (fun c hc => by match c with | ⟨0, _⟩ => rfl | ⟨1, _⟩ => exact absurd rfl hc) (show 8 + (e.val - 8) = e.val by omega)
    · rw [dif_neg h']
      exact concatenate_apply_piece (t := S4096x64) (1 : Fin 2) _ _ (ix2 n e) 2 (by simp) S4096x48 d rfl rfl 16 rfl (ix2 n ⟨e.val - 16, by omega⟩)
        (fun c hc => by match c with | ⟨0, _⟩ => rfl | ⟨1, _⟩ => exact absurd rfl hc) (show 16 + (e.val - 16) = e.val by omega)

theorem twice_apply (a : FVec Ideal S4096x64 .f32) (n : Fin 4096) (L : Fin 128) :
    twice a (ix2 n L) = a (ix2 n (⟨L.val % 64, Nat.mod_lt _ (by norm_num)⟩ : Fin 64)) :=
  concatenate_replicate_apply (t := S4096x128) (s₁ := S4096x64) (1 : Fin 2) 2 a _ rfl (ix2 n L)
    (ix2 n (⟨L.val % 64, Nat.mod_lt _ (by norm_num)⟩ : Fin 64)) rfl (fun b hb => by
      match b with
      | ⟨0, _⟩ => rfl
      | ⟨1, _⟩ => exact absurd rfl hb)

theorem one_f32 : Ideal.ofBits .f32 0x3F800000#32 = (1 : EReal) := by
  simp [Ideal.ofBits, Ideal.ieee]
  rw [← EReal.coe_mul]; norm_num

def ones48 : FVec Ideal S4096x48 .f32 := broadcastInDim S4096x48 ![] bcast_S_S4096x48 (constant S_ .f32 0x3F800000#32)
def zeros48 : FVec Ideal S4096x48 .f32 := broadcastInDim S4096x48 ![] bcast_S_S4096x48 (constant S_ .f32 0x00000000#32)
def zeros8 : FVec Ideal S4096x8 .f32 := broadcastInDim S4096x8 ![] bcast_S_S4096x8 (constant S_ .f32 0x00000000#32)

/-- The cosines and the sines of a position. -/
def cosRow (n : Fin 4096) (e : Fin 8) : EReal := cosT (ix2 n e)
def sinRow (n : Fin 4096) (e : Fin 8) : EReal := sinT (ix2 n e)

theorem tableC (n : Fin 4096) (L : Fin 128) : twice (lanes cosT cosT ones48) (ix2 n L) = tabC (cosRow n) L := by
  rw [twice_apply, lanes_apply]
  unfold tabC cosRow
  split
  · rfl
  · split
    · rfl
    · exact one_f32
theorem tableA (n : Fin 4096) (L : Fin 128) : twice (lanes (Host.negf sinT) zeros8 zeros48) (ix2 n L) = tabA (sinRow n) L := by
  rw [twice_apply, lanes_apply]
  unfold tabA sinRow
  split
  · rfl
  · split
    · exact Ideal.ofBits_zero_f32
    · exact Ideal.ofBits_zero_f32
theorem tableB (n : Fin 4096) (L : Fin 128) : twice (lanes zeros8 sinT zeros48) (ix2 n L) = tabB (sinRow n) L := by
  rw [twice_apply, lanes_apply]
  unfold tabB sinRow
  by_cases h : L.val % 64 < 8
  · rw [dif_pos h, if_pos h]; exact Ideal.ofBits_zero_f32
  · rw [dif_neg h, if_neg h]
    split
    · rfl
    · exact Ideal.ofBits_zero_f32

/-- The weights as the call takes them: the columns of the two decay logits moved behind the gate's, and 120 zero columns. -/
def weights (w : FVec Ideal S1024x3592 .f32) : FVec Ideal S1024x3712 .f32 :=
  concatenate S1024x3712 1 [⟨S1024x3072, extractStridedSlice S1024x3072 ![0, 0] w slices_S1024x3592_S1024x3072_0_0⟩,
    ⟨S1024x512, extractStridedSlice S1024x512 ![0, 3080] w slices_S1024x3592_S1024x512_0_3080⟩,
    ⟨S1024x8, extractStridedSlice S1024x8 ![0, 3072] w slices_S1024x3592_S1024x8_0_3072⟩,
    ⟨S1024x120, broadcastInDim S1024x120 ![] bcast_S_S1024x120 (constant S_ .f32 0x00000000#32)⟩]
    concatenates_S1024x3072_S1024x512_S1024x8_S1024x120_S1024x3712_d1

theorem weights_apply (w : FVec Ideal S1024x3592 .f32) (k : Fin 1024) (j : Fin 3712) :
    weights w (ix2 k j) = if h : j.val < 3072 then w (ix2 k ⟨j.val, by omega⟩) else if h' : j.val < 3584 then w (ix2 k ⟨j.val + 8, by omega⟩)
      else if h'' : j.val < 3592 then w (ix2 k ⟨j.val - 512, by omega⟩) else 0 := by
  have hj := j.isLt
  unfold weights
  by_cases h : j.val < 3072
  · rw [dif_pos h]
    refine (concatenate_apply_piece (t := S1024x3712) (1 : Fin 2) _ _ (ix2 k j) 0 (by simp) S1024x3072 _ rfl rfl 0 rfl (ix2 k ⟨j.val, h⟩)
      (fun c hc => by match c with | ⟨0, _⟩ => rfl | ⟨1, _⟩ => exact absurd rfl hc) (Nat.zero_add _)).trans ?_
    exact extractStridedSlice_apply _ _ _ _ _ (fun a => by
      match a with
      | ⟨0, _⟩ => exact (Nat.zero_add _).symm
      | ⟨1, _⟩ => exact (Nat.zero_add _).symm)
  rw [dif_neg h]
  by_cases h' : j.val < 3584
  · rw [dif_pos h']
    refine (concatenate_apply_piece (t := S1024x3712) (1 : Fin 2) _ _ (ix2 k j) 1 (by simp) S1024x512 _ rfl rfl 3072 rfl (ix2 k ⟨j.val - 3072, by omega⟩)
      (fun c hc => by match c with | ⟨0, _⟩ => rfl | ⟨1, _⟩ => exact absurd rfl hc) (show 3072 + (j.val - 3072) = j.val by omega)).trans ?_
    exact extractStridedSlice_apply _ _ _ _ _ (fun a => by
      match a with
      | ⟨0, _⟩ => exact (Nat.zero_add _).symm
      | ⟨1, _⟩ => show j.val + 8 = 3080 + (j.val - 3072); omega)
  rw [dif_neg h']
  by_cases h'' : j.val < 3592
  · rw [dif_pos h'']
    refine (concatenate_apply_piece (t := S1024x3712) (1 : Fin 2) _ _ (ix2 k j) 2 (by simp) S1024x8 _ rfl rfl 3584 rfl (ix2 k ⟨j.val - 3584, by omega⟩)
      (fun c hc => by match c with | ⟨0, _⟩ => rfl | ⟨1, _⟩ => exact absurd rfl hc) (show 3584 + (j.val - 3584) = j.val by omega)).trans ?_
    exact extractStridedSlice_apply _ _ _ _ _ (fun a => by
      match a with
      | ⟨0, _⟩ => exact (Nat.zero_add _).symm
      | ⟨1, _⟩ => show j.val - 512 = 3072 + (j.val - 3584); omega)
  · rw [dif_neg h'']
    refine (concatenate_apply_piece (t := S1024x3712) (1 : Fin 2) _ _ (ix2 k j) 3 (by simp) S1024x120 _ rfl rfl 3592 rfl (ix2 k ⟨j.val - 3592, by omega⟩)
      (fun c hc => by match c with | ⟨0, _⟩ => rfl | ⟨1, _⟩ => exact absurd rfl hc) (show 3592 + (j.val - 3592) = j.val by omega)).trans ?_
    exact Ideal.ofBits_zero_f32

variable (m : (ℓ : Loc nD τ sig) → Buf (Elt Ideal) ℓ) (c : Dev nD)

abbrev argX : S16x4096x1024.Idx → EReal := m ((c : Thread nD τ).loc main_arg0)
abbrev argW : S1024x3592.Idx → EReal := m ((c : Thread nD τ).loc main_arg1)

theorem V_v6 : (V m c main_v6 : S65536x1024.Idx → EReal) = fun i => shapeCast S65536x1024 (argX m c) shapeCasts_S16x4096x1024_S65536x1024 i := by
  unfold V; after_results; rfl
theorem V_v5 : (V m c main_v5 : S1024x3712.Idx → EReal) = weights (argW m c) := by
  unfold V; after_results; rfl
theorem V_v33 : (V m c main_v33 : S4096x128.Idx → EReal) = twice (lanes cosT cosT ones48) := by
  unfold V; after_results; rfl
theorem V_v34 : (V m c main_v34 : S4096x128.Idx → EReal) = twice (lanes (Host.negf sinT) zeros8 zeros48) := by
  unfold V; after_results; rfl
theorem V_v35 : (V m c main_v35 : S4096x128.Idx → EReal) = twice (lanes zeros8 sinT zeros48) := by
  unfold V; after_results; rfl

end Cert.InProjIdeal.Proj
end
-- ==== Proof.InProj.Array.lean ====
module
public import proofs.«01_k».proof.Proof.InProj.Tables
/-!
# The input projection: the arrays after the 128 blocks

Block `t` holds 512 rows, all of one sequence; its rotation tables are those of the positions of these rows.
-/
@[expose] public section
noncomputable section
namespace Cert.InProjIdeal.Proj
open Cert.InProjIdeal Cert.InProjIdeal.Gen Idealize.ShloMosaic Idealize.ShloMosaic.TcCoe Idealize.SL.Sem
open Idealize.ShloMosaic.ValueIdx

/-- Row `R` (4096 rows a sequence) times column `j` of the weights. -/
def dot (x : S16x4096x1024.Idx → EReal) (w : S1024x3592.Idx → EReal) (R : Fin 65536) (j : Fin 3592) : EReal :=
  ∑ k : Fin 1024, x (ix3 (⟨R.val / 4096, by omega⟩ : Fin 16) (⟨R.val % 4096, Nat.mod_lt _ (by norm_num)⟩ : Fin 4096) k) * w (ix2 k j)
/-- The position of row `R` in its sequence. -/
def pos (R : Fin 65536) : Fin 4096 := ⟨R.val % 4096, Nat.mod_lt _ (by norm_num)⟩
/-- 512 columns from column `o`, rotated by the row's position. -/
def rotated (x : S16x4096x1024.Idx → EReal) (w : S1024x3592.Idx → EReal) (o : ℕ) (ho : o + 512 ≤ 3592) (R : Fin 65536) (j : Fin 512) : EReal :=
  rot (cosRow (pos R)) (sinRow (pos R)) (fun j => dot x w R ⟨o + j.val, by omega⟩) j

/-- The queries, rotated and scaled. -/
def resQ (x : S16x4096x1024.Idx → EReal) (w : S1024x3592.Idx → EReal) : S65536x512.Idx → EReal := fun i =>
  rotated x w 0 (by norm_num) (i 0) (i 1) * Ideal.ofBits .f32 0x3E000000#32
/-- The keys, rotated. -/
def resK (x : S16x4096x1024.Idx → EReal) (w : S1024x3592.Idx → EReal) : S65536x512.Idx → EReal := fun i => rotated x w 512 (by norm_num) (i 0) (i 1)
/-- The values. -/
def resV (x : S16x4096x1024.Idx → EReal) (w : S1024x3592.Idx → EReal) : S65536x512.Idx → EReal := fun i =>
  dot x w (i 0) ⟨1024 + (i 1).val, by have : (i 1).val < 512 := (i 1).isLt; omega⟩
/-- The recurrence's queries, keys and values before their convolution. -/
def resN (x : S16x4096x1024.Idx → EReal) (w : S1024x3592.Idx → EReal) : S65536x1536.Idx → EReal := fun i =>
  dot x w (i 0) ⟨1536 + (i 1).val, by have : (i 1).val < 1536 := (i 1).isLt; omega⟩
/-- The recurrence's gate. -/
def resZ (x : S16x4096x1024.Idx → EReal) (w : S1024x3592.Idx → EReal) : S65536x512.Idx → EReal := fun i =>
  dot x w (i 0) ⟨3080 + (i 1).val, by have : (i 1).val < 512 := (i 1).isLt; omega⟩
/-- The recurrence's eight decay and write logits, and zeros. -/
def resA (x : S16x4096x1024.Idx → EReal) (w : S1024x3592.Idx → EReal) : S65536x128.Idx → EReal := fun i =>
  if h : (i 1).val < 8 then dot x w (i 0) ⟨3072 + (i 1).val, by omega⟩ else 0

variable (m : (ℓ : Loc nD τ sig) → Buf (Elt Ideal) ℓ) (c : Dev nD)

theorem index_facts : ∀ t : Fin grid0.N, (win0_0.index t 0 = t.val ∧ win0_0.index t 1 = 0) ∧ (win0_1.index t 0 = 0 ∧ win0_1.index t 1 = 0)
    ∧ (win0_2.index t 0 = t.val % 8 ∧ win0_2.index t 1 = 0) ∧ (win0_3.index t 0 = t.val % 8 ∧ win0_3.index t 1 = 0)
    ∧ (win0_4.index t 0 = t.val % 8 ∧ win0_4.index t 1 = 0) := by decide +kernel
theorem N_lt (t : Fin cfg0.N) : t.val < 128 := by have := t.isLt; have h : cfg0.N = 128 := N_0; omega

/-- Row `r` of block `t`. -/
def row (t : Fin cfg0.N) (r : Fin 512) : Fin 65536 := ⟨512 * t.val + r.val, by have := N_lt t; omega⟩

theorem block0 (t : Fin cfg0.N) (r : Fin 512) (k : Fin 1024) :
    (iblk m c 0 t : S512x1024.Idx → EReal) (ix2 r k)
      = argX m c (ix3 (⟨(row t r).val / 4096, by have := (row t r).isLt; omega⟩ : Fin 16) (⟨(row t r).val % 4096, Nat.mod_lt _ (by norm_num)⟩ : Fin 4096) k) := by
  have ht := N_lt t
  obtain ⟨⟨i0, i1⟩, -⟩ := index_facts t
  unfold iblk
  rw [View.read_apply]
  show (V m c main_v6 : S65536x1024.Idx → EReal) _ = _
  rw [V_v6]
  refine shapeCast_apply _ _ _ _ ?_
  rw [Shape.rowMajor_val_three, Shape.rowMajor_val_two]
  show ((512 * t.val + r.val) / 4096 * 4096 + (512 * t.val + r.val) % 4096) * 1024 + k.val = (win0_0.index t 0 * 512 + 1 * r.val) * 1024 + (win0_0.index t 1 * 1024 + 1 * k.val)
  rw [i0, i1]; omega

theorem block1 (t : Fin cfg0.N) (k : Fin 1024) (j : Fin 3712) : (iblk m c 1 t : S1024x3712.Idx → EReal) (ix2 k j) = weights (argW m c) (ix2 k j) := by
  obtain ⟨-, ⟨i0, i1⟩, -⟩ := index_facts t
  unfold iblk
  rw [View.read_apply]
  show (V m c main_v5 : S1024x3712.Idx → EReal) _ = _
  rw [V_v5]
  congr 1
  funext a
  apply Fin.ext
  match a with
  | ⟨0, _⟩ => show win0_1.index t 0 * 1024 + 1 * k.val = k.val; rw [i0]; omega
  | ⟨1, _⟩ => show win0_1.index t 1 * 3712 + 1 * j.val = j.val; rw [i1]; omega

theorem block2 (t : Fin cfg0.N) (r : Fin 512) (L : Fin 128) :
    (iblk m c 2 t : S512x128.Idx → EReal) (ix2 r L) = tabC (cosRow (pos (row t r))) L := by
  have ht := N_lt t
  obtain ⟨-, -, ⟨i0, i1⟩, -⟩ := index_facts t
  unfold iblk
  rw [View.read_apply]
  show (V m c main_v33 : S4096x128.Idx → EReal) _ = _
  rw [V_v33, ← tableC]
  congr 1
  funext a
  apply Fin.ext
  match a with
  | ⟨0, _⟩ => show win0_2.index t 0 * 512 + 1 * r.val = (512 * t.val + r.val) % 4096; rw [i0]; omega
  | ⟨1, _⟩ => show win0_2.index t 1 * 128 + 1 * L.val = L.val; rw [i1]; omega

theorem block3 (t : Fin cfg0.N) (r : Fin 512) (L : Fin 128) :
    (iblk m c 3 t : S512x128.Idx → EReal) (ix2 r L) = tabA (sinRow (pos (row t r))) L := by
  have ht := N_lt t
  obtain ⟨-, -, -, ⟨i0, i1⟩, -⟩ := index_facts t
  unfold iblk
  rw [View.read_apply]
  show (V m c main_v34 : S4096x128.Idx → EReal) _ = _
  rw [V_v34, ← tableA]
  congr 1
  funext a
  apply Fin.ext
  match a with
  | ⟨0, _⟩ => show win0_3.index t 0 * 512 + 1 * r.val = (512 * t.val + r.val) % 4096; rw [i0]; omega
  | ⟨1, _⟩ => show win0_3.index t 1 * 128 + 1 * L.val = L.val; rw [i1]; omega

theorem block4 (t : Fin cfg0.N) (r : Fin 512) (L : Fin 128) :
    (iblk m c 4 t : S512x128.Idx → EReal) (ix2 r L) = tabB (sinRow (pos (row t r))) L := by
  have ht := N_lt t
  obtain ⟨-, -, -, -, i0, i1⟩ := index_facts t
  unfold iblk
  rw [View.read_apply]
  show (V m c main_v35 : S4096x128.Idx → EReal) _ = _
  rw [V_v35, ← tableB]
  congr 1
  funext a
  apply Fin.ext
  match a with
  | ⟨0, _⟩ => show win0_4.index t 0 * 512 + 1 * r.val = (512 * t.val + r.val) % 4096; rw [i0]; omega
  | ⟨1, _⟩ => show win0_4.index t 1 * 128 + 1 * L.val = L.val; rw [i1]; omega

/-- The columns of the call's product, as columns of the weights given. -/
theorem cols_low (t : Fin cfg0.N) (r : Fin 512) (n o : ℕ) (ho : o + n ≤ 3712) (hl : o + n ≤ 3072) (j : Fin n) :
    cols (iblk m c 0 t) (iblk m c 1 t) r n o ho j = dot (argX m c) (argW m c) (row t r) ⟨o + j.val, by omega⟩ := by
  unfold cols dot
  refine Finset.sum_congr rfl fun k _ => ?_
  rw [block0, block1, weights_apply, dif_pos (show o + j.val < 3072 by omega)]
theorem cols_gate (t : Fin cfg0.N) (r : Fin 512) (j : Fin 512) :
    cols (iblk m c 0 t) (iblk m c 1 t) r 512 3072 (by norm_num) j = dot (argX m c) (argW m c) (row t r) ⟨3080 + j.val, by omega⟩ := by
  unfold cols dot
  refine Finset.sum_congr rfl fun k _ => ?_
  rw [block0, block1, weights_apply, dif_neg (show ¬ 3072 + j.val < 3072 by omega), dif_pos (show 3072 + j.val < 3584 by omega)]
  congr 3
  apply Fin.ext
  show 3072 + j.val + 8 = 3080 + j.val
  omega
theorem cols_logits (t : Fin cfg0.N) (r : Fin 512) (j : Fin 128) :
    cols (iblk m c 0 t) (iblk m c 1 t) r 128 3584 (by norm_num) j
      = if h : j.val < 8 then dot (argX m c) (argW m c) (row t r) ⟨3072 + j.val, by omega⟩ else 0 := by
  unfold cols dot
  by_cases h : j.val < 8
  · rw [dif_pos h]
    refine Finset.sum_congr rfl fun k _ => ?_
    rw [block0, block1, weights_apply, dif_neg (show ¬ 3584 + j.val < 3072 by omega), dif_neg (show ¬ 3584 + j.val < 3584 by omega),
      dif_pos (show 3584 + j.val < 3592 by omega)]
    congr 3
    apply Fin.ext
    show 3584 + j.val - 512 = 3072 + j.val
    omega
  · rw [dif_neg h]
    refine Finset.sum_eq_zero fun k _ => ?_
    rw [block1, weights_apply, dif_neg (show ¬ 3584 + j.val < 3072 by omega), dif_neg (show ¬ 3584 + j.val < 3584 by omega),
      dif_neg (show ¬ 3584 + j.val < 3592 by omega), mul_zero]

theorem index5 : ∀ t : Fin grid0.N, win0_5.index t 0 = t.val ∧ win0_5.index t 1 = 0 := by decide +kernel
theorem flushed5 (t : Fin cfg0.N) :
    (dats m 0 c).flushed 5 t = ((cfg0.win 5).blk t).view.read (Elt Ideal) (resQ (argX m c) (argW m c)) := by
  obtain ⟨i0, i1⟩ := index5 t
  rw [Value.flushed5]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out5 _ _ _ _ _ (cosRow (pos (row t r))) (sinRow (pos (row t r))) r (block2 m c t r) (block3 m c t r) (block4 m c t r) d).trans ?_
  rw [show (cols (iblk m c 0 t) (iblk m c 1 t) r 512 0 (by norm_num)) = fun j => dot (argX m c) (argW m c) (row t r) ⟨0 + j.val, by omega⟩ from
    funext fun j => cols_low m c t r 512 0 (by norm_num) (by norm_num) j]
  have e : (win0_5.blk t).view.emb (ix2 r d) = (ix2 (row t r) d : S65536x512.Idx) := by
    funext a; apply Fin.ext
    match a with
    | ⟨0, _⟩ => show win0_5.index t 0 * 512 + 1 * r.val = 512 * t.val + r.val; rw [i0]; omega
    | ⟨1, _⟩ => show win0_5.index t 1 * 512 + 1 * d.val = d.val; rw [i1]; omega
  show _ = resQ (argX m c) (argW m c) ((win0_5.blk t).view.emb (ix2 r d))
  rw [e]
  rfl
theorem array5 : (dats m 0 c).arrAt 5 cfg0.N = resQ (argX m c) (argW m c) :=
  (dats m 0 c).arrAt_eq_of_cover 5 (resQ (argX m c) (argW m c)) (fun t _ => flushed5 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index5 t
    have tv : t.val = (i 0 : Nat) / 512 := rfl
    refine ⟨t, flush0_5 t, ?_⟩
    show i ∈ ((View.whole main_v36_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [j0, tv]; omega
    | ⟨1, _⟩ => show win0_5.index t 1 * 512 ≤ (i 1 : Nat) ∧ (i 1 : Nat) < win0_5.index t 1 * 512 + 512; rw [j1]; omega

theorem index6 : ∀ t : Fin grid0.N, win0_6.index t 0 = t.val ∧ win0_6.index t 1 = 0 := by decide +kernel
theorem flushed6 (t : Fin cfg0.N) :
    (dats m 0 c).flushed 6 t = ((cfg0.win 6).blk t).view.read (Elt Ideal) (resK (argX m c) (argW m c)) := by
  obtain ⟨i0, i1⟩ := index6 t
  rw [Value.flushed6]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out6 _ _ _ _ _ (cosRow (pos (row t r))) (sinRow (pos (row t r))) r (block2 m c t r) (block3 m c t r) (block4 m c t r) d).trans ?_
  rw [show (cols (iblk m c 0 t) (iblk m c 1 t) r 512 512 (by norm_num)) = fun j => dot (argX m c) (argW m c) (row t r) ⟨512 + j.val, by omega⟩ from
    funext fun j => cols_low m c t r 512 512 (by norm_num) (by norm_num) j]
  have e : (win0_6.blk t).view.emb (ix2 r d) = (ix2 (row t r) d : S65536x512.Idx) := by
    funext a; apply Fin.ext
    match a with
    | ⟨0, _⟩ => show win0_6.index t 0 * 512 + 1 * r.val = 512 * t.val + r.val; rw [i0]; omega
    | ⟨1, _⟩ => show win0_6.index t 1 * 512 + 1 * d.val = d.val; rw [i1]; omega
  show _ = resK (argX m c) (argW m c) ((win0_6.blk t).view.emb (ix2 r d))
  rw [e]
  rfl
theorem array6 : (dats m 0 c).arrAt 6 cfg0.N = resK (argX m c) (argW m c) :=
  (dats m 0 c).arrAt_eq_of_cover 6 (resK (argX m c) (argW m c)) (fun t _ => flushed6 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index6 t
    have tv : t.val = (i 0 : Nat) / 512 := rfl
    refine ⟨t, flush0_6 t, ?_⟩
    show i ∈ ((View.whole main_v36_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [j0, tv]; omega
    | ⟨1, _⟩ => show win0_6.index t 1 * 512 ≤ (i 1 : Nat) ∧ (i 1 : Nat) < win0_6.index t 1 * 512 + 512; rw [j1]; omega

theorem index7 : ∀ t : Fin grid0.N, win0_7.index t 0 = t.val ∧ win0_7.index t 1 = 0 := by decide +kernel
theorem flushed7 (t : Fin cfg0.N) :
    (dats m 0 c).flushed 7 t = ((cfg0.win 7).blk t).view.read (Elt Ideal) (resV (argX m c) (argW m c)) := by
  obtain ⟨i0, i1⟩ := index7 t
  rw [Value.flushed7]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out7 _ _ _ _ _ r d).trans ?_
  rw [cols_low m c t r 512 1024 (by norm_num) (by norm_num) d]
  have e : (win0_7.blk t).view.emb (ix2 r d) = (ix2 (row t r) d : S65536x512.Idx) := by
    funext a; apply Fin.ext
    match a with
    | ⟨0, _⟩ => show win0_7.index t 0 * 512 + 1 * r.val = 512 * t.val + r.val; rw [i0]; omega
    | ⟨1, _⟩ => show win0_7.index t 1 * 512 + 1 * d.val = d.val; rw [i1]; omega
  show _ = resV (argX m c) (argW m c) ((win0_7.blk t).view.emb (ix2 r d))
  rw [e]
  rfl
theorem array7 : (dats m 0 c).arrAt 7 cfg0.N = resV (argX m c) (argW m c) :=
  (dats m 0 c).arrAt_eq_of_cover 7 (resV (argX m c) (argW m c)) (fun t _ => flushed7 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index7 t
    have tv : t.val = (i 0 : Nat) / 512 := rfl
    refine ⟨t, flush0_7 t, ?_⟩
    show i ∈ ((View.whole main_v36_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [j0, tv]; omega
    | ⟨1, _⟩ => show win0_7.index t 1 * 512 ≤ (i 1 : Nat) ∧ (i 1 : Nat) < win0_7.index t 1 * 512 + 512; rw [j1]; omega

theorem index8 : ∀ t : Fin grid0.N, win0_8.index t 0 = t.val ∧ win0_8.index t 1 = 0 := by decide +kernel
theorem flushed8 (t : Fin cfg0.N) :
    (dats m 0 c).flushed 8 t = ((cfg0.win 8).blk t).view.read (Elt Ideal) (resK (argX m c) (argW m c)) := by
  obtain ⟨i0, i1⟩ := index8 t
  rw [Value.flushed8]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out8 _ _ _ _ _ (cosRow (pos (row t r))) (sinRow (pos (row t r))) r (block2 m c t r) (block3 m c t r) (block4 m c t r) d).trans ?_
  rw [show (cols (iblk m c 0 t) (iblk m c 1 t) r 512 512 (by norm_num)) = fun j => dot (argX m c) (argW m c) (row t r) ⟨512 + j.val, by omega⟩ from
    funext fun j => cols_low m c t r 512 512 (by norm_num) (by norm_num) j]
  have e : (win0_8.blk t).view.emb (ix2 r d) = (ix2 (row t r) d : S65536x512.Idx) := by
    funext a; apply Fin.ext
    match a with
    | ⟨0, _⟩ => show win0_8.index t 0 * 512 + 1 * r.val = 512 * t.val + r.val; rw [i0]; omega
    | ⟨1, _⟩ => show win0_8.index t 1 * 512 + 1 * d.val = d.val; rw [i1]; omega
  show _ = resK (argX m c) (argW m c) ((win0_8.blk t).view.emb (ix2 r d))
  rw [e]
  rfl
theorem array8 : (dats m 0 c).arrAt 8 cfg0.N = resK (argX m c) (argW m c) :=
  (dats m 0 c).arrAt_eq_of_cover 8 (resK (argX m c) (argW m c)) (fun t _ => flushed8 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index8 t
    have tv : t.val = (i 0 : Nat) / 512 := rfl
    refine ⟨t, flush0_8 t, ?_⟩
    show i ∈ ((View.whole main_v36_3).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [j0, tv]; omega
    | ⟨1, _⟩ => show win0_8.index t 1 * 512 ≤ (i 1 : Nat) ∧ (i 1 : Nat) < win0_8.index t 1 * 512 + 512; rw [j1]; omega

theorem index9 : ∀ t : Fin grid0.N, win0_9.index t 0 = t.val ∧ win0_9.index t 1 = 0 := by decide +kernel
theorem flushed9 (t : Fin cfg0.N) :
    (dats m 0 c).flushed 9 t = ((cfg0.win 9).blk t).view.read (Elt Ideal) (resV (argX m c) (argW m c)) := by
  obtain ⟨i0, i1⟩ := index9 t
  rw [Value.flushed9]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out9 _ _ _ _ _ r d).trans ?_
  rw [cols_low m c t r 512 1024 (by norm_num) (by norm_num) d]
  have e : (win0_9.blk t).view.emb (ix2 r d) = (ix2 (row t r) d : S65536x512.Idx) := by
    funext a; apply Fin.ext
    match a with
    | ⟨0, _⟩ => show win0_9.index t 0 * 512 + 1 * r.val = 512 * t.val + r.val; rw [i0]; omega
    | ⟨1, _⟩ => show win0_9.index t 1 * 512 + 1 * d.val = d.val; rw [i1]; omega
  show _ = resV (argX m c) (argW m c) ((win0_9.blk t).view.emb (ix2 r d))
  rw [e]
  rfl
theorem array9 : (dats m 0 c).arrAt 9 cfg0.N = resV (argX m c) (argW m c) :=
  (dats m 0 c).arrAt_eq_of_cover 9 (resV (argX m c) (argW m c)) (fun t _ => flushed9 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index9 t
    have tv : t.val = (i 0 : Nat) / 512 := rfl
    refine ⟨t, flush0_9 t, ?_⟩
    show i ∈ ((View.whole main_v36_4).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; rw [j0, tv]; omega
    | ⟨1, _⟩ => show win0_9.index t 1 * 512 ≤ (i 1 : Nat) ∧ (i 1 : Nat) < win0_9.index t 1 * 512 + 512; rw [j1]; omega

theorem index10 : ∀ t : Fin grid0.N, win0_10.index t 0 = t.val ∧ win0_10.index t 1 = 0 := by decide +kernel
theorem flushed10 (t : Fin cfg0.N) :
    (dats m 0 c).flushed 10 t = ((cfg0.win 10).blk t).view.read (Elt Ideal) (resN (argX m c) (argW m c)) := by
  obtain ⟨i0, i1⟩ := index10 t
  rw [Value.flushed10]
  refine funext fun (j : S512x1536.Idx) => ?_
  rw [View.read_apply]
  obtain ⟨r, d, rfl⟩ : ∃ r : Fin 512, ∃ d : Fin 1536, j = ix2 r d := ⟨j 0, j 1, by
    funext a; match a with | ⟨0, _⟩ => rfl | ⟨1, _⟩ => rfl⟩
  refine (out10 _ _ _ _ _ r d).trans ?_
  rw [cols_low m c t r 1536 1536 (by norm_num) (by norm_num) d]
  have e : (win0_10.blk t).view.emb (ix2 r d) = (ix2 (row t r) d : S65536x1536.Idx) := by
    funext a; apply Fin.ext
    match a with
    | ⟨0, _⟩ => show win0_10.index t 0 * 512 + 1 * r.val = 512 * t.val + r.val; rw [i0]; omega
    | ⟨1, _⟩ => show win0_10.index t 1 * 1536 + 1 * d.val = d.val; rw [i1]; omega
  show _ = resN (argX m c) (argW m c) ((win0_10.blk t).view.emb (ix2 r d))
  rw [e]
  rfl
theorem array10 : (dats m 0 c).arrAt 10 cfg0.N = resN (argX m c) (argW m c) :=
  (dats m 0 c).arrAt_eq_of_cover 10 (resN (argX m c) (argW m c)) (fun t _ => flushed10 m c t) fun (i : S65536x1536.Idx) => by
    have h0 : (i 0 : Nat) < 65536 := (i 0).isLt
    have h1 : (i 1 : Nat) < 1536 := (i 1).isLt
    have hN : cfg0.N = 128 := N_0
    let t : Fin cfg0.N := ⟨(i 0 : Nat) / 512, by rw [hN]; omega⟩
    obtain ⟨j0, j1⟩ := index10 t
    have tv : t.val = (i 0 : Nat) / 512 := rfl
    refine ⟨t, flush0_10 t, ?_⟩
    show i ∈ ((View.whole main_v36_5).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; rw [j0, tv]; omega
    | ⟨1, _⟩ => show win0_10.index t 1 * 1536 ≤ (i 1 : Nat) ∧ (i 1 : Nat) < win0_10.index t 1 * 1536 + 1536; rw [j1]; omega

theorem index11 : ∀ t : Fin grid0.N, win0_11.index t 0 = t.val ∧ win0_11.index t 1 = 0 := by decide +kernel
theorem flushed11 (t : Fin cfg0.N) :
    (dats m 0 c).flushed 11 t = ((cfg0.win 11).blk t).view.read (Elt Ideal) (resZ (argX m c) (argW m c)) := by
  obtain ⟨i0, i1⟩ := index11 t
  rw [Value.flushed11]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out11 _ _ _ _ _ r d).trans ?_
  rw [cols_gate m c t r d]
  have e : (win0_11.blk t).view.emb (ix2 r d) = (ix2 (row t r) d : S65536x512.Idx) := by
    funext a; apply Fin.ext
    match a with
    | ⟨0, _⟩ => show win0_11.index t 0 * 512 + 1 * r.val = 512 * t.val + r.val; rw [i0]; omega
    | ⟨1, _⟩ => show win0_11.index t 1 * 512 + 1 * d.val = d.val; rw [i1]; omega
  show _ = resZ (argX m c) (argW m c) ((win0_11.blk t).view.emb (ix2 r d))
  rw [e]
  rfl
theorem array11 : (dats m 0 c).arrAt 11 cfg0.N = resZ (argX m c) (argW m c) :=
  (dats m 0 c).arrAt_eq_of_cover 11 (resZ (argX m c) (argW m c)) (fun t _ => flushed11 m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨j0, j1⟩ := index11 t
    have tv : t.val = (i 0 : Nat) / 512 := rfl
    refine ⟨t, flush0_11 t, ?_⟩
    show i ∈ ((View.whole main_v36_6).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512; rw [j0, tv]; omega
    | ⟨1, _⟩ => show win0_11.index t 1 * 512 ≤ (i 1 : Nat) ∧ (i 1 : Nat) < win0_11.index t 1 * 512 + 512; rw [j1]; omega

theorem index12 : ∀ t : Fin grid0.N, win0_12.index t 0 = t.val ∧ win0_12.index t 1 = 0 := by decide +kernel
theorem flushed12 (t : Fin cfg0.N) :
    (dats m 0 c).flushed 12 t = ((cfg0.win 12).blk t).view.read (Elt Ideal) (resA (argX m c) (argW m c)) := by
  obtain ⟨i0, i1⟩ := index12 t
  rw [Value.flushed12]
  refine funext fun (j : S512x128.Idx) => ?_
  rw [View.read_apply]
  obtain ⟨r, d, rfl⟩ : ∃ r : Fin 512, ∃ d : Fin 128, j = ix2 r d := ⟨j 0, j 1, by
    funext a; match a with | ⟨0, _⟩ => rfl | ⟨1, _⟩ => rfl⟩
  refine (out12 _ _ _ _ _ r d).trans ?_
  rw [cols_logits m c t r d]
  have e : (win0_12.blk t).view.emb (ix2 r d) = (ix2 (row t r) d : S65536x128.Idx) := by
    funext a; apply Fin.ext
    match a with
    | ⟨0, _⟩ => show win0_12.index t 0 * 512 + 1 * r.val = 512 * t.val + r.val; rw [i0]; omega
    | ⟨1, _⟩ => show win0_12.index t 1 * 128 + 1 * d.val = d.val; rw [i1]; omega
  show _ = resA (argX m c) (argW m c) ((win0_12.blk t).view.emb (ix2 r d))
  rw [e]
  rfl
theorem array12 : (dats m 0 c).arrAt 12 cfg0.N = resA (argX m c) (argW m c) :=
  (dats m 0 c).arrAt_eq_of_cover 12 (resA (argX m c) (argW m c)) (fun t _ => flushed12 m c t) fun (i : S65536x128.Idx) => by
    have h0 : (i 0 : Nat) < 65536 := (i 0).isLt
    have h1 : (i 1 : Nat) < 128 := (i 1).isLt
    have hN : cfg0.N = 128 := N_0
    let t : Fin cfg0.N := ⟨(i 0 : Nat) / 512, by rw [hN]; omega⟩
    obtain ⟨j0, j1⟩ := index12 t
    have tv : t.val = (i 0 : Nat) / 512 := rfl
    refine ⟨t, flush0_12 t, ?_⟩
    show i ∈ ((View.whole main_v36_7).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512; rw [j0, tv]; omega
    | ⟨1, _⟩ => show win0_12.index t 1 * 128 ≤ (i 1 : Nat) ∧ (i 1 : Nat) < win0_12.index t 1 * 128 + 128; rw [j1]; omega

end Cert.InProjIdeal.Proj
end
-- ==== Proof.InProj.Reference.lean ====
module
public import proofs.«01_k».proof.Proof.InProj.Array
public import proofs.«01_k».proof.Proof.Gen.InProjReferenceIdeal.Run
public import proofs.«01_k».proof.Proof.Gen.InProjReferenceIdeal.Read
/-!
# The input projection: what the reference computes

One product with the weights, its columns split, heads and maps reshaped, the first sixteen lanes of each map rotated as pairs.
Read at a row and a column it is what the blocks hold.
-/
@[expose] public section
noncomputable section
namespace Cert.InProjReferenceIdeal.Proj
open Cert.InProjReferenceIdeal Cert.InProjReferenceIdeal.Gen Cert.InProjReferenceIdeal.Read Idealize.ShloMosaic Idealize.ShloMosaic.TcCoe Idealize.SL.Sem
open Idealize.ShloMosaic.ValueIdx
open Cert.InProjIdeal.Proj (dot rot pos cosRow sinRow rotated resQ resK resV resN resZ resA)

variable (x : S16x4096x1024.Idx → EReal) (w : S1024x3592.Idx → EReal)

/-- The product at row `R`, column `j`. -/
theorem at_row (i : S16x4096x3592.Idx) (R : Fin 65536) (j : Fin 3592) (h0 : (i 0).val = R.val / 4096) (h1 : (i 1).val = R.val % 4096)
    (h2 : (i 2).val = j.val) : val_main_v1 (F := Ideal) x w i = dot x w R j := by
  rw [val_main_v1_apply]
  unfold dot
  refine Finset.sum_congr rfl fun k _ => ?_
  congr 2
  · funext a; apply Fin.ext
    match a with
    | ⟨0, _⟩ => exact h0
    | ⟨1, _⟩ => exact h1
    | ⟨2, _⟩ => rfl
  · funext a; apply Fin.ext
    match a with
    | ⟨0, _⟩ => rfl
    | ⟨1, _⟩ => exact h2

theorem cos_apply (i : S16x4096x4x2x8.Idx) : val_main_v33 (F := Ideal) i = cosRow (i 1) (i 4) := by
  rw [val_main_v33_apply, val_main_v32_apply, val_main_v27_apply]
  show Cert.InProjIdeal.Proj.cosT _ = Cert.InProjIdeal.Proj.cosT _
  congr 1
  funext a
  match a with
  | ⟨0, _⟩ => rfl
  | ⟨1, _⟩ => rfl
theorem sin_apply (i : S16x4096x4x2x8.Idx) : val_main_v36 (F := Ideal) i = sinRow (i 1) (i 4) := by
  rw [val_main_v36_apply, val_main_v35_apply, val_main_v29_apply]
  show Cert.InProjIdeal.Proj.sinT _ = Cert.InProjIdeal.Proj.sinT _
  congr 1
  funext a
  match a with
  | ⟨0, _⟩ => rfl
  | ⟨1, _⟩ => rfl

/-- The eight lanes from lane `o`. -/
def first (y : FVec Ideal S16x4096x4x2x64 .f32) : FVec Ideal S16x4096x4x2x8 .f32 :=
  extractStridedSlice S16x4096x4x2x8 ![0, 0, 0, 0, 0] y slices_S16x4096x4x2x64_S16x4096x4x2x8_0_0_0_0_0
def second (y : FVec Ideal S16x4096x4x2x64 .f32) : FVec Ideal S16x4096x4x2x8 .f32 :=
  extractStridedSlice S16x4096x4x2x8 ![0, 0, 0, 0, 8] y slices_S16x4096x4x2x64_S16x4096x4x2x8_0_0_0_0_8
def rest (y : FVec Ideal S16x4096x4x2x64 .f32) : FVec Ideal S16x4096x4x2x48 .f32 :=
  extractStridedSlice S16x4096x4x2x48 ![0, 0, 0, 0, 16] y slices_S16x4096x4x2x64_S16x4096x4x2x48_0_0_0_0_16
def turned (y : FVec Ideal S16x4096x4x2x64 .f32) : FVec Ideal S16x4096x4x2x16 .f32 :=
  concatenate S16x4096x4x2x16 4 [⟨S16x4096x4x2x8, subf (mulf (first y) (val_main_v33 (F := Ideal))) (mulf (second y) (val_main_v36 (F := Ideal)))⟩,
    ⟨S16x4096x4x2x8, addf (mulf (second y) (val_main_v33 (F := Ideal))) (mulf (first y) (val_main_v36 (F := Ideal)))⟩]
    concatenates_S16x4096x4x2x8_S16x4096x4x2x8_S16x4096x4x2x16_d4
/-- The reference's rotation of an array of heads. -/
def rotOf (y : FVec Ideal S16x4096x4x2x64 .f32) : FVec Ideal S16x4096x4x2x64 .f32 :=
  concatenate S16x4096x4x2x64 4 [⟨S16x4096x4x2x16, turned y⟩, ⟨S16x4096x4x2x48, rest y⟩]
    concatenates_S16x4096x4x2x16_S16x4096x4x2x48_S16x4096x4x2x64_d4

theorem v48_eq : val_main_v48 (F := Ideal) x w = rotOf (val_main_v9 (F := Ideal) x w) := rfl
theorem v88_eq : val_main_v88 (F := Ideal) x w = rotOf (val_main_v49 (F := Ideal) x w) := rfl

section
variable (y : FVec Ideal S16x4096x4x2x64 .f32) (b : Fin 16) (n : Fin 4096) (h : Fin 4) (c : Fin 2)

theorem first_apply (e : Fin 8) : first y (ix5 b n h c e) = y (ix5 b n h c (⟨e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm)
theorem second_apply (e : Fin 8) : second y (ix5 b n h c e) = y (ix5 b n h c (⟨8 + e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)
theorem rest_apply (e : Fin 48) : rest y (ix5 b n h c e) = y (ix5 b n h c (⟨16 + e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)

theorem turned_low (e : Fin 8) : turned y (ix5 b n h c (⟨e.val, by omega⟩ : Fin 16))
    = y (ix5 b n h c (⟨e.val, by omega⟩ : Fin 64)) * cosRow n e - y (ix5 b n h c (⟨8 + e.val, by omega⟩ : Fin 64)) * sinRow n e := by
  unfold turned
  refine (concatenate_pair_apply_left (t := S16x4096x4x2x16) (s₁ := S16x4096x4x2x8) (s₂ := S16x4096x4x2x8) (4 : Fin 5) _ _ _ _ rfl (ix5 b n h c e)
    (fun a => by
      match a with
      | ⟨0, _⟩ => rfl
      | ⟨1, _⟩ => rfl
      | ⟨2, _⟩ => rfl
      | ⟨3, _⟩ => rfl
      | ⟨4, _⟩ => rfl)).trans ?_
  show first y (ix5 b n h c e) * val_main_v33 (F := Ideal) (ix5 b n h c e) - second y (ix5 b n h c e) * val_main_v36 (F := Ideal) (ix5 b n h c e) = _
  rw [first_apply, second_apply, cos_apply, sin_apply]
theorem turned_high (e : Fin 8) : turned y (ix5 b n h c (⟨8 + e.val, by omega⟩ : Fin 16))
    = y (ix5 b n h c (⟨8 + e.val, by omega⟩ : Fin 64)) * cosRow n e + y (ix5 b n h c (⟨e.val, by omega⟩ : Fin 64)) * sinRow n e := by
  unfold turned
  refine (concatenate_pair_apply_right (t := S16x4096x4x2x16) (s₁ := S16x4096x4x2x8) (s₂ := S16x4096x4x2x8) (4 : Fin 5) _ _ _ _ rfl rfl (ix5 b n h c e)
    (fun a ha => by
      match a with
      | ⟨0, _⟩ => rfl
      | ⟨1, _⟩ => rfl
      | ⟨2, _⟩ => rfl
      | ⟨3, _⟩ => rfl
      | ⟨4, _⟩ => exact absurd rfl ha) (Nat.add_comm _ _)).trans ?_
  show second y (ix5 b n h c e) * val_main_v33 (F := Ideal) (ix5 b n h c e) + first y (ix5 b n h c e) * val_main_v36 (F := Ideal) (ix5 b n h c e) = _
  rw [first_apply, second_apply, cos_apply, sin_apply]
theorem rotOf_low (e : Fin 16) : rotOf y (ix5 b n h c (⟨e.val, by omega⟩ : Fin 64)) = turned y (ix5 b n h c e) := by
  unfold rotOf
  exact concatenate_pair_apply_left (t := S16x4096x4x2x64) (s₁ := S16x4096x4x2x16) (s₂ := S16x4096x4x2x48) (4 : Fin 5) _ _ _ _ rfl (ix5 b n h c e)
    (fun a => by
      match a with
      | ⟨0, _⟩ => rfl
      | ⟨1, _⟩ => rfl
      | ⟨2, _⟩ => rfl
      | ⟨3, _⟩ => rfl
      | ⟨4, _⟩ => rfl)
theorem rotOf_high (e : Fin 48) : rotOf y (ix5 b n h c (⟨16 + e.val, by omega⟩ : Fin 64)) = y (ix5 b n h c (⟨16 + e.val, by omega⟩ : Fin 64)) := by
  rw [← rest_apply y b n h c e]
  unfold rotOf
  exact concatenate_pair_apply_right (t := S16x4096x4x2x64) (s₁ := S16x4096x4x2x16) (s₂ := S16x4096x4x2x48) (4 : Fin 5) _ _ _ _ rfl rfl (ix5 b n h c e)
    (fun a ha => by
      match a with
      | ⟨0, _⟩ => rfl
      | ⟨1, _⟩ => rfl
      | ⟨2, _⟩ => rfl
      | ⟨3, _⟩ => rfl
      | ⟨4, _⟩ => exact absurd rfl ha) (Nat.add_comm _ _)

/-- Where the array's heads and maps are the lanes of a flat row, the reference's rotation is the row's. -/
theorem rotOf_row (T : Fin 512 → EReal) (hT : ∀ e : Fin 64, y (ix5 b n h c e) = T ⟨128 * h.val + 64 * c.val + e.val, by omega⟩) (e : Fin 64) :
    rotOf y (ix5 b n h c e) = rot (cosRow n) (sinRow n) T ⟨128 * h.val + 64 * c.val + e.val, by omega⟩ := by
  have he := e.isLt
  have hm : (128 * h.val + 64 * c.val + e.val) % 64 = e.val := by omega
  unfold rot
  by_cases h8 : e.val < 8
  · rw [dif_pos (show (128 * h.val + 64 * c.val + e.val) % 64 < 8 by omega)]
    refine (rotOf_low y b n h c ⟨e.val, by omega⟩).trans ((turned_low y b n h c ⟨e.val, h8⟩).trans ?_)
    rw [hT, hT]
    simp only [hm]
    congr 4
    show 128 * h.val + 64 * c.val + (8 + e.val) = 128 * h.val + 64 * c.val + e.val + 8
    omega
  rw [dif_neg (show ¬ (128 * h.val + 64 * c.val + e.val) % 64 < 8 by omega)]
  by_cases h16 : e.val < 16
  · rw [dif_pos (show (128 * h.val + 64 * c.val + e.val) % 64 < 16 by omega)]
    have ee : e.val = 8 + (e.val - 8) := by omega
    have e1 : (⟨8 + (e.val - 8), by omega⟩ : Fin 64) = e := Fin.ext (by show 8 + (e.val - 8) = e.val; omega)
    have k1 := turned_high y b n h c ⟨e.val - 8, by omega⟩
    have k2 := rotOf_low y b n h c ⟨8 + (e.val - 8), by omega⟩
    simp only [e1] at k1 k2
    rw [k2, k1, hT, hT]
    simp only [hm]
    congr 3
    apply Fin.ext
    show 128 * h.val + 64 * c.val + (e.val - 8) = 128 * h.val + 64 * c.val + e.val - 8
    omega
  · rw [dif_neg (show ¬ (128 * h.val + 64 * c.val + e.val) % 64 < 16 by omega)]
    have e1 : (⟨16 + (e.val - 16), by omega⟩ : Fin 64) = e := Fin.ext (by show 16 + (e.val - 16) = e.val; omega)
    have k := rotOf_high y b n h c ⟨e.val - 16, by omega⟩
    simp only [e1] at k
    rw [k, hT]
end

/-- The queries of the product, head by head, are its first 512 columns; the keys the next. -/
theorem v9_row (R : Fin 65536) (b : Fin 16) (n : Fin 4096) (hb : b.val = R.val / 4096) (hn : n.val = R.val % 4096) (h : Fin 4) (c : Fin 2) (e : Fin 64) :
    val_main_v9 (F := Ideal) x w (ix5 b n h c e) = dot x w R ⟨0 + (128 * h.val + 64 * c.val + e.val), by omega⟩ := by
  rw [val_main_v9_apply, val_main_v2_apply]
  refine at_row x w _ R _ ?_ ?_ ?_
  · show ((((b.val * 4096 + n.val) * 4 + h.val) * 2 + c.val) * 64 + e.val) / 2097152 = R.val / 4096; omega
  · show ((((b.val * 4096 + n.val) * 4 + h.val) * 2 + c.val) * 64 + e.val) / 512 % 4096 = R.val % 4096; omega
  · show ((((b.val * 4096 + n.val) * 4 + h.val) * 2 + c.val) * 64 + e.val) % 512 = 0 + (128 * h.val + 64 * c.val + e.val); omega
theorem v49_row (R : Fin 65536) (b : Fin 16) (n : Fin 4096) (hb : b.val = R.val / 4096) (hn : n.val = R.val % 4096) (h : Fin 4) (c : Fin 2) (e : Fin 64) :
    val_main_v49 (F := Ideal) x w (ix5 b n h c e) = dot x w R ⟨512 + (128 * h.val + 64 * c.val + e.val), by omega⟩ := by
  rw [val_main_v49_apply, val_main_v3_apply]
  refine at_row x w _ R _ ?_ ?_ ?_
  · show ((((b.val * 4096 + n.val) * 4 + h.val) * 2 + c.val) * 64 + e.val) / 2097152 = R.val / 4096; omega
  · show ((((b.val * 4096 + n.val) * 4 + h.val) * 2 + c.val) * 64 + e.val) / 512 % 4096 = R.val % 4096; omega
  · show 512 + ((((b.val * 4096 + n.val) * 4 + h.val) * 2 + c.val) * 64 + e.val) % 512 = 512 + (128 * h.val + 64 * c.val + e.val); omega

/-- Row `R`, column `j` as sequence, position, head, map and lane. -/
def split (R : Fin 65536) (j : Fin 512) : S16x4096x4x2x64.Idx :=
  ix5 (⟨R.val / 4096, by omega⟩ : Fin 16) (pos R) (⟨j.val / 128, by omega⟩ : Fin 4) (⟨j.val / 64 % 2, by omega⟩ : Fin 2) (⟨j.val % 64, by omega⟩ : Fin 64)

theorem rotOf_split (y : FVec Ideal S16x4096x4x2x64 .f32) (T : Fin 512 → EReal) (R : Fin 65536)
    (hT : ∀ (h : Fin 4) (c : Fin 2) (e : Fin 64), y (ix5 (⟨R.val / 4096, by omega⟩ : Fin 16) (pos R) h c e) = T ⟨128 * h.val + 64 * c.val + e.val, by omega⟩) (j : Fin 512) :
    rotOf y (split R j) = rot (cosRow (pos R)) (sinRow (pos R)) T j := by
  refine (rotOf_row y _ _ _ _ T (hT _ _) _).trans ?_
  congr 1
  apply Fin.ext
  show 128 * (j.val / 128) + 64 * (j.val / 64 % 2) + j.val % 64 = j.val
  omega

theorem queries (R : Fin 65536) (j : Fin 512) : val_main_v48 (F := Ideal) x w (split R j) = rotated x w 0 (by norm_num) R j := by
  rw [v48_eq]
  exact rotOf_split _ (fun j => dot x w R ⟨0 + j.val, by omega⟩) R (fun h c e => v9_row x w R _ _ rfl rfl h c e) j
theorem keys (R : Fin 65536) (j : Fin 512) : val_main_v88 (F := Ideal) x w (split R j) = rotated x w 512 (by norm_num) R j := by
  rw [v88_eq]
  exact rotOf_split _ (fun j => dot x w R ⟨512 + j.val, by omega⟩) R (fun h c e => v49_row x w R _ _ rfl rfl h c e) j

theorem split_eq (R : Fin 65536) (j : Fin 512) (i : S16x4096x4x2x64.Idx) (h0 : (i 0).val = (R.val * 512 + j.val) / 2097152)
    (h1 : (i 1).val = (R.val * 512 + j.val) / 512 % 4096) (h2 : (i 2).val = (R.val * 512 + j.val) / 128 % 4)
    (h3 : (i 3).val = (R.val * 512 + j.val) / 64 % 2) (h4 : (i 4).val = (R.val * 512 + j.val) % 64) : i = split R j := by
  funext a; apply Fin.ext
  match a with
  | ⟨0, _⟩ => refine h0.trans ?_; show _ = R.val / 4096; omega
  | ⟨1, _⟩ => refine h1.trans ?_; show _ = R.val % 4096; omega
  | ⟨2, _⟩ => refine h2.trans ?_; show _ = j.val / 128; omega
  | ⟨3, _⟩ => refine h3.trans ?_; show _ = j.val / 64 % 2; omega
  | ⟨4, _⟩ => refine h4.trans ?_; show _ = j.val % 64; omega

theorem ref_q : val_main_v96 (F := Ideal) x w = resQ x w := by
  refine funext fun (i : S65536x512.Idx) => ?_
  rw [val_main_v96_apply, split_eq (i 0) (i 1) (idx_main_v96 i) rfl rfl rfl rfl rfl]
  show val_main_v48 (F := Ideal) x w (split (i 0) (i 1)) * val_main_v93 (F := Ideal) (split (i 0) (i 1)) = _
  refine (congrArg (· * val_main_v93 (F := Ideal) (split (i 0) (i 1))) (queries x w (i 0) (i 1))).trans ?_
  show _ * val_main_v93 (F := Ideal) _ = _
  rw [val_main_v93_apply]
  rfl
theorem ref_k : val_main_v97 (F := Ideal) x w = resK x w := by
  refine funext fun (i : S65536x512.Idx) => ?_
  rw [val_main_v97_apply, split_eq (i 0) (i 1) (idx_main_v97 i) rfl rfl rfl rfl rfl]
  exact keys x w (i 0) (i 1)
theorem ref_kb : val_main_v100 (F := Ideal) x w = resK x w := by
  refine funext fun (i : S65536x512.Idx) => ?_
  rw [val_main_v100_apply, split_eq (i 0) (i 1) (idx_main_v100 i) rfl rfl rfl rfl rfl]
  exact keys x w (i 0) (i 1)
theorem ref_v : val_main_v98 (F := Ideal) x w = resV x w := by
  refine funext fun (i : S65536x512.Idx) => ?_
  have h0 : (i 0).val < 65536 := (i 0).isLt
  have h1 : (i 1).val < 512 := (i 1).isLt
  rw [val_main_v98_apply, val_main_v4_apply]
  refine at_row x w _ (i 0) _ ?_ ?_ ?_
  · show ((i 0).val * 512 + (i 1).val) / 2097152 = (i 0).val / 4096; omega
  · show ((i 0).val * 512 + (i 1).val) / 512 % 4096 = (i 0).val % 4096; omega
  · show 1024 + ((i 0).val * 512 + (i 1).val) % 512 = 1024 + (i 1).val; omega
theorem ref_vb : val_main_v102 (F := Ideal) x w = resV x w := ref_v x w
theorem ref_n : val_main_v103 (F := Ideal) x w = resN x w := by
  refine funext fun (i : S65536x1536.Idx) => ?_
  have h0 : (i 0).val < 65536 := (i 0).isLt
  have h1 : (i 1).val < 1536 := (i 1).isLt
  rw [val_main_v103_apply, val_main_v5_apply]
  refine at_row x w _ (i 0) _ ?_ ?_ ?_
  · show ((i 0).val * 1536 + (i 1).val) / 6291456 = (i 0).val / 4096; omega
  · show ((i 0).val * 1536 + (i 1).val) / 1536 % 4096 = (i 0).val % 4096; omega
  · show 1536 + ((i 0).val * 1536 + (i 1).val) % 1536 = 1536 + (i 1).val; omega
theorem ref_z : val_main_v104 (F := Ideal) x w = resZ x w := by
  refine funext fun (i : S65536x512.Idx) => ?_
  have h0 : (i 0).val < 65536 := (i 0).isLt
  have h1 : (i 1).val < 512 := (i 1).isLt
  rw [val_main_v104_apply, val_main_v8_apply]
  refine at_row x w _ (i 0) _ ?_ ?_ ?_
  · show ((i 0).val * 512 + (i 1).val) / 2097152 = (i 0).val / 4096; omega
  · show ((i 0).val * 512 + (i 1).val) / 512 % 4096 = (i 0).val % 4096; omega
  · show 3080 + ((i 0).val * 512 + (i 1).val) % 512 = 3080 + (i 1).val; omega

theorem ref_a : val_main_v92 (F := Ideal) x w = resA x w := by
  refine funext fun (i : S65536x128.Idx) => ?_
  obtain ⟨R, L, rfl⟩ : ∃ R : Fin 65536, ∃ L : Fin 128, i = ix2 R L := ⟨i 0, i 1, by
    funext a; match a with | ⟨0, _⟩ => rfl | ⟨1, _⟩ => rfl⟩
  have hR := R.isLt
  have hL := L.isLt
  unfold val_main_v92 resA
  show _ = if h : L.val < 8 then dot x w R ⟨3072 + L.val, by omega⟩ else 0
  by_cases h4 : L.val < 4
  · rw [dif_pos (show L.val < 8 by omega)]
    refine (concatenate_apply_piece (t := S65536x128) (1 : Fin 2) _ _ (ix2 R L) 0 (by simp) S65536x4 _ rfl rfl 0 rfl (ix2 R ⟨L.val, h4⟩)
      (fun c hc => by match c with | ⟨0, _⟩ => rfl | ⟨1, _⟩ => exact absurd rfl hc) (Nat.zero_add _)).trans ?_
    rw [val_main_v89_apply, val_main_v6_apply]
    refine at_row x w _ R _ ?_ ?_ ?_
    · show (R.val * 4 + L.val) / 16384 = R.val / 4096; omega
    · show (R.val * 4 + L.val) / 4 % 4096 = R.val % 4096; omega
    · show 3072 + (R.val * 4 + L.val) % 4 = 3072 + L.val; omega
  by_cases h8 : L.val < 8
  · rw [dif_pos h8]
    refine (concatenate_apply_piece (t := S65536x128) (1 : Fin 2) _ _ (ix2 R L) 1 (by simp) S65536x4 _ rfl rfl 4 rfl (ix2 R ⟨L.val - 4, by omega⟩)
      (fun c hc => by match c with | ⟨0, _⟩ => rfl | ⟨1, _⟩ => exact absurd rfl hc) (show 4 + (L.val - 4) = L.val by omega)).trans ?_
    rw [val_main_v90_apply, val_main_v7_apply]
    refine at_row x w _ R _ ?_ ?_ ?_
    · show (R.val * 4 + (L.val - 4)) / 16384 = R.val / 4096; omega
    · show (R.val * 4 + (L.val - 4)) / 4 % 4096 = R.val % 4096; omega
    · show 3076 + (R.val * 4 + (L.val - 4)) % 4 = 3072 + L.val; omega
  · rw [dif_neg h8]
    refine (concatenate_apply_piece (t := S65536x128) (1 : Fin 2) _ _ (ix2 R L) 2 (by simp) S65536x120 _ rfl rfl 8 rfl (ix2 R ⟨L.val - 8, by omega⟩)
      (fun c hc => by match c with | ⟨0, _⟩ => rfl | ⟨1, _⟩ => exact absurd rfl hc) (show 8 + (L.val - 8) = L.val by omega)).trans ?_
    rw [val_main_v91_apply]
    exact Ideal.ofBits_zero_f32

end Cert.InProjReferenceIdeal.Proj
end
-- ==== Proof.InProj.Equal.lean ====
module
public import proofs.«01_k».proof.Defs
public import proofs.«01_k».proof.Proof.Gen.InProj.Frame
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.InProj.Reference
public import Idealize.ShloMosaic.Lib.Quiescent
/-!
# The claims of the input projection
-/
@[expose] public section
noncomputable section
namespace Cert.Proof
open Idealize.ShloMosaic Idealize.SL.Sem
open Cert.InProjIdeal.Proj Cert.InProjReferenceIdeal.Proj Cert.InProjReferenceIdeal.Read

theorem proj_frame_bits : Cert.quiescent_InProj := fun m ρ _ => Cert.InProj.Gen.frame m ρ
theorem proj_frame : Cert.quiescent_InProjIdeal := fun m ρ _ => Cert.InProjIdeal.Gen.frame m ρ
theorem proj_ref_frame : Cert.quiescent_InProjReferenceIdeal := by
  intro m ρ _
  exact (θ_run Cert.InProjReferenceIdeal.defs _ _).mono
    (fun r h => ⟨fun c => (h c).2.2.2.2.2.2.2.2, sem_eq_zero_of_no_sems (by decide) r.2⟩)
    (Cert.InProjReferenceIdeal.Value.run (F := Ideal) m ρ)
theorem proj_preserves : Cert.preserves_InProj_InProjIdeal := trivial

theorem proj_equal : Cert.algebraic_InProjIdeal_InProjReferenceIdeal := by
  intro m ρ m' ρ' _ hagree
  refine ⟨fun c => resQ (argX m c) (argW m c), fun c => resK (argX m c) (argW m c), fun c => resV (argX m c) (argW m c),
    fun c => resK (argX m c) (argW m c), fun c => resV (argX m c) (argW m c), fun c => resN (argX m c) (argW m c),
    fun c => resZ (argX m c) (argW m c), fun c => resA (argX m c) (argW m c), ?_, ?_⟩
  · refine (θ_run Cert.InProjIdeal.defs _ _).mono (fun r h c => ?_) (Cert.InProjIdeal.Value.run_blocks m ρ)
    obtain ⟨h0, h1, h2, h3, h4, h5, h6, h7, ha⟩ := h c
    exact ⟨h0.trans (array5 m c), h1.trans (array6 m c), h2.trans (array7 m c), h3.trans (array8 m c), h4.trans (array9 m c),
      h5.trans (array10 m c), h6.trans (array11 m c), h7.trans (array12 m c), ha⟩
  · refine (θ_run Cert.InProjReferenceIdeal.defs _ _).mono (fun r h c => ?_) (Cert.InProjReferenceIdeal.Value.run (F := Ideal) m' ρ')
    obtain ⟨h0, h1, h2, h3, h4, h5, h6, h7, ha⟩ := h c
    obtain ⟨a0, a1⟩ := hagree c
    refine ⟨h0.trans ((val_main_v96_eq m' c).trans ?_), h1.trans ((val_main_v97_eq m' c).trans ?_), h2.trans ((val_main_v98_eq _ _).trans ?_),
      h3.trans ((val_main_v100_eq m' c).trans ?_), h4.trans ((val_main_v102_eq _ _).trans ?_), h5.trans ((val_main_v103_eq _ _).trans ?_),
      h6.trans ((val_main_v104_eq _ _).trans ?_), h7.trans ((val_main_v92_eq _ _).trans ?_), ha⟩
    all_goals rw [a0, a1]
    · exact ref_q (argX m c) (argW m c)
    · exact ref_k (argX m c) (argW m c)
    · exact ref_v (argX m c) (argW m c)
    · exact ref_kb (argX m c) (argW m c)
    · exact ref_vb (argX m c) (argW m c)
    · exact ref_n (argX m c) (argW m c)
    · exact ref_z (argX m c) (argW m c)
    · exact ref_a (argX m c) (argW m c)

end Cert.Proof
end
-- ==== Proof.MemKv.Array.lean ====
module
public import proofs.«01_k».proof.Proof.Gen.MemKvIdeal.Value
public import Idealize.ShloMosaic.Lib.MatmulPlain
public import Idealize.ShloMosaic.Lib.StableHlo.Run
public import Idealize.ShloMosaic.Lib.Tactic
/-!
# The memory's keys and values

Eight blocks of 512 rows of memory, each multiplied by the weights: the array is the product, row by row.
-/
@[expose] public section
noncomputable section
namespace Cert.MemKvIdeal.Mem
open Cert.MemKvIdeal Cert.MemKvIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argM : S16x256x1024.Idx → EReal := m ((c : Thread nD τ).loc main_arg0)
abbrev argW : S1024x1024.Idx → EReal := m ((c : Thread nD τ).loc main_arg1)

theorem V_v0 : (V m c main_v0 : S4096x1024.Idx → EReal) = fun i => shapeCast S4096x1024 (argM m c) shapeCasts_S16x256x1024_S4096x1024 i := by
  unfold V; after_results; rfl
theorem V_v1 : (V m c main_v1 : S1024x1024.Idx → EReal) = argW m c := by
  unfold V; after_results; rfl

/-- The product of row `R` of the memory (256 rows a sequence) with column `j` of the weights. -/
def product (x : S16x256x1024.Idx → EReal) (w : S1024x1024.Idx → EReal) : S4096x1024.Idx → EReal := fun i =>
  ∑ k : Fin 1024, x (ix3 (⟨(i 0).val / 256, by have : (i 0).val < 4096 := (i 0).isLt; omega⟩ : Fin 16) (⟨(i 0).val % 256, Nat.mod_lt _ (by norm_num)⟩ : Fin 256) k)
    * w (ix2 k (i 1))

theorem hz2 : (![0, 0] : Fin 2 → Nat) = fun _ => 0 := funext fun a => by fin_cases a <;> rfl

theorem point_apply (x0 : Vec Ideal S512x1024 .f32) (x1 : Vec Ideal S1024x1024 .bf16) (r : Fin 512) (j : Fin 1024) :
    out0_2 (F := Ideal) x0 x1 (ix2 r j) = ∑ k : Fin 1024, x0 (ix2 r k) * x1 (ix2 k j) := by
  unfold out0_2
  rw [View.canon_unit_zero hz2]
  simp only [View.ld_unit_zero (S := S512x1024) hz2, View.ld_unit_zero (S := S1024x1024) hz2]
  unfold k0_pay1
  refine (Ideal.matmul_plain_apply none _ _ _ r j).trans ?_
  rw [shapeCast_self, shapeCast_self]
  refine (congrArg (· + _) Ideal.ofBits_zero_f32).trans (zero_add _)

theorem index_facts : ∀ t : Fin grid0.N, win0_0.index t 0 = t.val ∧ win0_0.index t 1 = 0 ∧ win0_1.index t 0 = 0 ∧ win0_1.index t 1 = 0
    ∧ win0_2.index t 0 = t.val ∧ win0_2.index t 1 = 0 := by decide +kernel
theorem N_lt (t : Fin cfg0.N) : t.val < 8 := by have := t.isLt; have h : cfg0.N = 8 := N_0; omega

theorem block0 (t : Fin cfg0.N) (r : Fin 512) (k : Fin 1024) :
    (iblk m c 0 t : S512x1024.Idx → EReal) (ix2 r k)
      = argM m c (ix3 (⟨(512 * t.val + r.val) / 256, by have := N_lt t; omega⟩ : Fin 16) (⟨(512 * t.val + r.val) % 256, Nat.mod_lt _ (by norm_num)⟩ : Fin 256) k) := by
  have ht := N_lt t
  obtain ⟨i0, i1, -⟩ := index_facts t
  unfold iblk
  rw [View.read_apply]
  show (V m c main_v0 : S4096x1024.Idx → EReal) _ = _
  rw [V_v0]
  refine shapeCast_apply _ _ _ _ ?_
  rw [Shape.rowMajor_val_three, Shape.rowMajor_val_two]
  show ((512 * t.val + r.val) / 256 * 256 + (512 * t.val + r.val) % 256) * 1024 + k.val = (win0_0.index t 0 * 512 + 1 * r.val) * 1024 + (win0_0.index t 1 * 1024 + 1 * k.val)
  rw [i0, i1]; omega

theorem block1 (t : Fin cfg0.N) (k j : Fin 1024) : (iblk m c 1 t : S1024x1024.Idx → EReal) (ix2 k j) = argW m c (ix2 k j) := by
  obtain ⟨-, -, i0, i1, -⟩ := index_facts t
  unfold iblk
  rw [View.read_apply]
  show (V m c main_v1 : S1024x1024.Idx → EReal) _ = _
  rw [V_v1]
  congr 1
  funext a
  apply Fin.ext
  match a with
  | ⟨0, _⟩ => show win0_1.index t 0 * 1024 + 1 * k.val = k.val; rw [i0]; omega
  | ⟨1, _⟩ => show win0_1.index t 1 * 1024 + 1 * j.val = j.val; rw [i1]; omega

theorem flushed_eq (t : Fin cfg0.N) :
    (dats m 0 c).flushed 2 t = ((cfg0.win 2).blk t).view.read (Elt Ideal) (product (argM m c) (argW m c)) := by
  obtain ⟨-, -, -, -, i0, i1⟩ := index_facts t
  rw [Value.flushed2]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point_apply _ _ r d).trans ?_
  simp only [block0, block1]
  have e : (win0_2.blk t).view.emb (ix2 r d) = (ix2 (⟨512 * t.val + r.val, by have := N_lt t; omega⟩ : Fin 4096) d : S4096x1024.Idx) := by
    funext a; apply Fin.ext
    match a with
    | ⟨0, _⟩ => show win0_2.index t 0 * 512 + 1 * r.val = 512 * t.val + r.val; rw [i0]; omega
    | ⟨1, _⟩ => show win0_2.index t 1 * 1024 + 1 * d.val = d.val; rw [i1]; omega
  show _ = product (argM m c) (argW m c) ((win0_2.blk t).view.emb (ix2 r d))
  rw [e]
  rfl

theorem array_eq : (dats m 0 c).arrAt 2 cfg0.N = product (argM m c) (argW m c) :=
  (dats m 0 c).arrAt_eq_of_cover 2 (product (argM m c) (argW m c)) (fun t _ => flushed_eq m c t) fun (i : S4096x1024.Idx) => by
    have h0 : (i 0 : Nat) < 4096 := (i 0).isLt
    have h1 : (i 1 : Nat) < 1024 := (i 1).isLt
    have hN : cfg0.N = 8 := N_0
    let t : Fin cfg0.N := ⟨(i 0 : Nat) / 512, by rw [hN]; omega⟩
    obtain ⟨-, -, -, -, j0, j1⟩ := index_facts t
    have tv : t.val = (i 0 : Nat) / 512 := rfl
    refine ⟨t, flush0_2 t, ?_⟩
    show i ∈ ((View.whole main_v2).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [j0, tv]; omega
    | ⟨1, _⟩ => show win0_2.index t 1 * 1024 ≤ (i 1 : Nat) ∧ (i 1 : Nat) < win0_2.index t 1 * 1024 + 1024; rw [j1]; omega

end Cert.MemKvIdeal.Mem
end
-- ==== Proof.MemKv.Equal.lean ====
module
public import proofs.«01_k».proof.Defs
public import proofs.«01_k».proof.Proof.Gen.MemKv.Frame
public import proofs.«01_k».proof.Proof.MemKv.Array
public import proofs.«01_k».proof.Proof.Gen.MemKvReferenceIdeal.Run
public import proofs.«01_k».proof.Proof.Gen.MemKvReferenceIdeal.Read
public import Idealize.ShloMosaic.Lib.Quiescent
/-!
# The claims of the memory's keys and values
-/
@[expose] public section
noncomputable section
namespace Cert.Proof
open Idealize.ShloMosaic Idealize.SL.Sem Idealize.ShloMosaic.ValueIdx

theorem mem_frame_bits : Cert.quiescent_MemKv := fun m ρ _ => Cert.MemKv.Gen.frame m ρ
theorem mem_frame : Cert.quiescent_MemKvIdeal := fun m ρ _ => Cert.MemKvIdeal.Gen.frame m ρ
theorem mem_ref_frame : Cert.quiescent_MemKvReferenceIdeal := by
  intro m ρ _
  exact (θ_run Cert.MemKvReferenceIdeal.defs _ _).mono (fun r h => ⟨fun c => (h c).2, sem_eq_zero_of_no_sems (by decide) r.2⟩)
    (Cert.MemKvReferenceIdeal.Value.run (F := Ideal) m ρ)
theorem mem_preserves : Cert.preserves_MemKv_MemKvIdeal := trivial

theorem mem_equal : Cert.algebraic_MemKvIdeal_MemKvReferenceIdeal := by
  intro m ρ m' ρ' _ hagree
  refine ⟨fun c => Cert.MemKvIdeal.Mem.product (Cert.MemKvIdeal.Mem.argM m c) (Cert.MemKvIdeal.Mem.argW m c), ?_, ?_⟩
  · exact (θ_run Cert.MemKvIdeal.defs _ _).mono (fun r h c => ⟨(h c).1.trans (Cert.MemKvIdeal.Mem.array_eq m c), (h c).2⟩) (Cert.MemKvIdeal.Value.run_blocks m ρ)
  · refine (θ_run Cert.MemKvReferenceIdeal.defs _ _).mono (fun r h c => ⟨(h c).1.trans ?_, (h c).2⟩) (Cert.MemKvReferenceIdeal.Value.run (F := Ideal) m' ρ')
    obtain ⟨a0, a1⟩ := hagree c
    refine (Cert.MemKvReferenceIdeal.Read.val_main_v1_eq _ _).trans ?_
    rw [a0, a1]
    refine funext fun (i : Cert.MemKvReferenceIdeal.S4096x1024.Idx) => ?_
    rw [Cert.MemKvReferenceIdeal.Read.val_main_v1_apply, Cert.MemKvReferenceIdeal.Read.val_main_v0_apply]
    have h0 : (i 0).val < 4096 := (i 0).isLt
    have h1 : (i 1).val < 1024 := (i 1).isLt
    refine Finset.sum_congr rfl fun k _ => ?_
    congr 2
    · funext a; apply Fin.ext
      match a with
      | ⟨0, _⟩ => show ((i 0).val * 1024 + (i 1).val) / 262144 = (i 0).val / 256; omega
      | ⟨1, _⟩ => show ((i 0).val * 1024 + (i 1).val) / 1024 % 256 = (i 0).val % 256; omega
      | ⟨2, _⟩ => rfl
    · funext a; apply Fin.ext
      match a with
      | ⟨0, _⟩ => rfl
      | ⟨1, _⟩ => show ((i 0).val * 1024 + (i 1).val) % 1024 = (i 1).val; omega

end Cert.Proof
end
-- ==== Proof.Dense.Norm.lean ====
module
public import proofs.«01_k».proof.Proof.Attn.Rows
public import Idealize.ShloMosaic.Lib.MatmulPlain
public import Idealize.ShloMosaic.Lib.StableHlo.Run
public import Idealize.ShloMosaic.Lib.Tactic
/-!
# Rows and their layer norm

What the dense calls share: a row of a three-dimensional array seen as a matrix, blocks of its rows, and the layer norm of one
row, read from the operations the kernels write it in.
-/
@[expose] public section
noncomputable section
namespace Cert.Dense
open Idealize.ShloMosaic Idealize.ShloMosaic.ValueIdx Finset

/-- Row `R` of an array of `A` sequences of `T` positions, as lines of a matrix. -/
def line {A T K N : ℕ} (hN : N = A * T) (x : (⟨3, ![A, T, K]⟩ : Shape).Idx → EReal) (R : Fin N) (k : Fin K) : EReal :=
  x (ix3 (⟨R.val / T, Nat.div_lt_of_lt_mul (R.isLt.trans_eq (hN.trans (Nat.mul_comm A T)))⟩ : Fin A)
    (⟨R.val % T, Nat.mod_lt _ (Nat.pos_of_ne_zero fun h => by subst h; have := R.isLt; omega)⟩ : Fin T) k)

/-- Reshaped to a matrix, the array has those lines. -/
theorem cast_lines {A T K N : ℕ} (hN : N = A * T) (x : (⟨3, ![A, T, K]⟩ : Shape).Idx → EReal)
    (h : (⟨3, ![A, T, K]⟩ : Shape).ShapeCasts ⟨2, ![N, K]⟩) (R : Fin N) (k : Fin K) :
    shapeCast ⟨2, ![N, K]⟩ x h (ix2 R k) = line hN x R k := by
  refine shapeCast_apply _ _ _ _ ?_
  rw [Shape.rowMajor_val_three, Shape.rowMajor_val_two]
  show (R.val / T * T + R.val % T) * K + k.val = R.val * K + k.val
  rw [Nat.div_add_mod']

/-- A vector seen as a matrix of one row. -/
theorem cast_vec {K : ℕ} (x : (⟨1, ![K]⟩ : Shape).Idx → EReal) (h : (⟨1, ![K]⟩ : Shape).ShapeCasts ⟨2, ![1, K]⟩) (k : Fin K) :
    shapeCast ⟨2, ![1, K]⟩ x h (ix2 (0 : Fin 1) k) = x (ix1 k) := by
  refine shapeCast_apply _ _ _ _ ?_
  rw [Shape.rowMajor_val_one, Shape.rowMajor_val_two]
  show k.val = 0 * K + k.val
  omega

/-- The row `h` less its mean, over the square root of its variance and a small constant. -/
def centred (h : Fin 1024 → EReal) (j : Fin 1024) : EReal :=
  h j - Ideal.div (∑ k : Fin 1024, h k) (Ideal.ofBits .f32 0x44800000#32)
def scaled (h : Fin 1024 → EReal) (j : Fin 1024) : EReal :=
  centred h j * Ideal.rsqrt (Ideal.div (∑ k : Fin 1024, centred h k * centred h k) (Ideal.ofBits .f32 0x44800000#32) + Ideal.ofBits .f32 0x3727C5AC#32)
/-- The layer norm of the row `h` with scale `g` and shift `b`. -/
def norm (h g b : Fin 1024 → EReal) (j : Fin 1024) : EReal := scaled h j * g j + b j

variable {n : ℕ}

/-- The mean of each row, spread over the row, taken off. -/
def centredBlock (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) : FVec Ideal ⟨2, ![n, 1024]⟩ .f32 :=
  subf x (broadcastTo ⟨2, ![n, 1024]⟩ (divf (shapeCast ⟨2, ![n, 1]⟩ (multiReduction .add [1] ⟨1, ![n]⟩ x 0x00000000#32 hr (.inl rfl) rfl) hc)
    (broadcast ⟨2, ![n, 1]⟩ (Scalar.ofBits .f32 0x44800000#32))) hb)

def scaledBlock (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) : FVec Ideal ⟨2, ![n, 1024]⟩ .f32 :=
  mulf (centredBlock x hr hc hb) (broadcastTo ⟨2, ![n, 1024]⟩ (rsqrt (addf (divf (shapeCast ⟨2, ![n, 1]⟩
      (multiReduction .add [1] ⟨1, ![n]⟩ (mulf (centredBlock x hr hc hb) (centredBlock x hr hc hb)) 0x00000000#32 hr (.inl rfl) rfl) hc)
    (broadcast ⟨2, ![n, 1]⟩ (Scalar.ofBits .f32 0x44800000#32))) (broadcast ⟨2, ![n, 1]⟩ (Scalar.ofBits .f32 0x3727C5AC#32)))) hb)

theorem centredBlock_apply (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) (r : Fin n) (j : Fin 1024) :
    centredBlock x hr hc hb (ix2 r j) = centred (fun k => x (ix2 r k)) j := by
  unfold centredBlock centred
  rw [subf_apply, Cert.Attn.bcast_col]
  show x (ix2 r j) - Ideal.div (shapeCast _ _ _ _) _ = _
  rw [Cert.Attn.cast_col]
  exact congrArg (fun z => x (ix2 r j) - Ideal.div z (Ideal.ofBits .f32 0x44800000#32)) (Cert.Attn.row_add x hr (.inl rfl) rfl r)

theorem scaledBlock_apply (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) (r : Fin n) (j : Fin 1024) :
    scaledBlock x hr hc hb (ix2 r j) = scaled (fun k => x (ix2 r k)) j := by
  unfold scaledBlock scaled
  rw [mulf_apply, Cert.Attn.bcast_col, centredBlock_apply]
  show _ * Ideal.rsqrt (Ideal.div (shapeCast _ _ _ _) _ + _) = _
  rw [Cert.Attn.cast_col]
  have e : (∑ k : Fin 1024, (mulf (centredBlock x hr hc hb) (centredBlock x hr hc hb)) (ix2 r k))
      = ∑ k : Fin 1024, centred (fun k => x (ix2 r k)) k * centred (fun k => x (ix2 r k)) k :=
    sum_congr rfl fun k _ => by rw [mulf_apply, centredBlock_apply]
  exact congrArg (fun z => centred (fun k => x (ix2 r k)) j * Ideal.rsqrt (Ideal.div z (Ideal.ofBits .f32 0x44800000#32) + Ideal.ofBits .f32 0x3727C5AC#32))
    ((Cert.Attn.row_add (mulf (centredBlock x hr hc hb) (centredBlock x hr hc hb)) hr (.inl rfl) rfl r).trans e)

/-- Scaled and shifted by two rows. -/
theorem norm_block (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩)
    (g b : FVec Ideal ⟨2, ![1, 1024]⟩ .f32) (hg : (⟨2, ![1, 1024]⟩ : Shape).Broadcasts ⟨2, ![n, 1024]⟩) (r : Fin n) (j : Fin 1024) :
    addf (mulf (scaledBlock x hr hc hb) (broadcastTo ⟨2, ![n, 1024]⟩ g hg)) (broadcastTo ⟨2, ![n, 1024]⟩ b hg) (ix2 r j)
      = norm (fun k => x (ix2 r k)) (fun k => g (ix2 (0 : Fin 1) k)) (fun k => b (ix2 (0 : Fin 1) k)) j := by
  unfold norm
  rw [addf_apply, mulf_apply, scaledBlock_apply, broadcastTo_1b_ab_apply, broadcastTo_1b_ab_apply]

/-- The shared expert of the row `x`: the gated middle `silu (x · u) * (x · u')`, times `d`. -/
def middle (x : Fin 1024 → EReal) (u : Fin 1024 → Fin 512 → EReal) (f : Fin 256) : EReal :=
  (∑ e : Fin 1024, x e * u e ⟨0 + f.val, by omega⟩) * Ideal.logistic (∑ e : Fin 1024, x e * u e ⟨0 + f.val, by omega⟩)
    * ∑ e : Fin 1024, x e * u e ⟨256 + f.val, by omega⟩
def expert (x : Fin 1024 → EReal) (u : Fin 1024 → Fin 512 → EReal) (d : Fin 256 → Fin 1024 → EReal) (k : Fin 1024) : EReal :=
  ∑ f : Fin 256, middle x u f * d f k

end Cert.Dense
end
-- ==== Proof.OutProj.Point.lean ====
module
public import proofs.«01_k».proof.Proof.Gen.OutProjIdeal.Value
public import proofs.«01_k».proof.Proof.Dense.Norm
/-!
# One block of the output projection

512 rows: the two mixers' rows times their halves of the weights, added to the scaled residual, and layer norm over each row.
-/
@[expose] public section
noncomputable section
namespace Cert.OutProjIdeal.Out
open Cert.OutProjIdeal Cert.OutProjIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl

/-- The rows before the norm, as the kernel computes a block of them. -/
def pre (x : Vec Ideal S512x1024 .f32) (a d : Vec Ideal S512x512 .bf16) (u w : Vec Ideal S512x1024 .bf16) : FVec Ideal S512x1024 .f32 :=
  addf (addf (mulf (broadcast S512x1024 (Scalar.ofBits .f32 0x3F9837F0#32)) (shapeCast S512x1024 x shapeCasts_S512x1024_S512x1024))
    (matmul dot_S512x512_S512x1024_S512x1024_1_0_0_1_n_n none (shapeCast S512x512 a shapeCasts_S512x512_S512x512 : FVec Ideal S512x512 .bf16)
      (shapeCast S512x1024 u shapeCasts_S512x1024_S512x1024 : FVec Ideal S512x1024 .bf16) (constant S512x1024 .f32 0x00000000#32)))
    (matmul dot_S512x512_S512x1024_S512x1024_1_0_0_1_n_n none (shapeCast S512x512 d shapeCasts_S512x512_S512x512 : FVec Ideal S512x512 .bf16)
      (shapeCast S512x1024 w shapeCasts_S512x1024_S512x1024 : FVec Ideal S512x1024 .bf16) (constant S512x1024 .f32 0x00000000#32))

theorem pre_apply (x : Vec Ideal S512x1024 .f32) (a d : Vec Ideal S512x512 .bf16) (u w : Vec Ideal S512x1024 .bf16) (r : Fin 512) (k : Fin 1024) :
    pre x a d u w (ix2 r k) = Ideal.ofBits .f32 0x3F9837F0#32 * x (ix2 r k) + (∑ e : Fin 512, a (ix2 r e) * u (ix2 e k))
      + ∑ e : Fin 512, d (ix2 r e) * w (ix2 e k) := by
  have h : ∀ (p : FVec Ideal S512x512 .bf16) (q : FVec Ideal S512x1024 .bf16),
      matmul dot_S512x512_S512x1024_S512x1024_1_0_0_1_n_n none p q (constant S512x1024 .f32 0x00000000#32) (ix2 r k)
        = ∑ e : Fin 512, p (ix2 r e) * q (ix2 e k) := fun p q =>
    (Ideal.matmul_plain_apply none _ _ _ r k).trans ((congrArg (· + _) Ideal.ofBits_zero_f32).trans (zero_add _))
  unfold pre
  simp only [shapeCast_self]
  rw [addf_apply, addf_apply, h, h, mulf_apply, broadcast_apply]
  rfl

theorem normed_apply (x : Vec Ideal S512x1024 .f32) (a d : Vec Ideal S512x512 .bf16) (u w : Vec Ideal S512x1024 .bf16) (g b : Vec Ideal S1x1024 .f32) (r : Fin 512) (j : Fin 1024) :
    k0_pay1 (k0_pay3 b) (k0_pay4 x a u d w) (k0_pay5 g) (ix2 r j)
      = Dense.norm (fun k => Ideal.ofBits .f32 0x3F9837F0#32 * x (ix2 r k) + (∑ e : Fin 512, a (ix2 r e) * u (ix2 e k))
          + ∑ e : Fin 512, d (ix2 r e) * w (ix2 e k)) (fun k => g (ix2 (0 : Fin 1) k)) (fun k => b (ix2 (0 : Fin 1) k)) j := by
  refine (Dense.norm_block (pre x a d u w) reduces_S512x1024_S512 shapeCasts_S512_S512x1 broadcasts_S512x1_S512x1024
    (shapeCast S1x1024 g shapeCasts_S1x1024_S1x1024) (shapeCast S1x1024 b shapeCasts_S1x1024_S1x1024) broadcasts_S1x1024_S512x1024 r j).trans ?_
  simp only [shapeCast_self, pre_apply]

variable (x0 x1 : Vec Ideal S512x512 .bf16) (x2 x3 : Vec Ideal S512x1024 .bf16) (x4 : Vec Ideal S512x1024 .f32) (x5 x6 : Vec Ideal S1x1024 .f32)

theorem point7 (r : Fin 512) (j : Fin 1024) : out0_7 (F := Ideal) x0 x1 x2 x3 x4 x5 x6 (ix2 r j)
    = Dense.norm (fun k => Ideal.ofBits .f32 0x3F9837F0#32 * x4 (ix2 r k) + (∑ e : Fin 512, x0 (ix2 r e) * x2 (ix2 e k))
          + ∑ e : Fin 512, x1 (ix2 r e) * x3 (ix2 e k)) (fun k => x5 (ix2 (0 : Fin 1) k)) (fun k => x6 (ix2 (0 : Fin 1) k)) j := by
  unfold_out out0_7
  rw [View.canon_unit_zero hz2]
  simp only [View.ld_unit_zero (S := S512x1024) hz2, View.ld_unit_zero (S := S512x512) hz2, View.ld_unit_zero (S := S1x1024) hz2]
  exact normed_apply x4 x0 x1 x2 x3 x5 x6 r j

theorem point8 (r : Fin 512) (j : Fin 1024) : out0_8 (F := Ideal) x0 x1 x2 x3 x4 x5 x6 (ix2 r j)
    = Dense.norm (fun k => Ideal.ofBits .f32 0x3F9837F0#32 * x4 (ix2 r k) + (∑ e : Fin 512, x0 (ix2 r e) * x2 (ix2 e k))
          + ∑ e : Fin 512, x1 (ix2 r e) * x3 (ix2 e k)) (fun k => x5 (ix2 (0 : Fin 1) k)) (fun k => x6 (ix2 (0 : Fin 1) k)) j := by
  unfold_out out0_8
  rw [View.canon_unit_zero hz2]
  simp only [View.ld_unit_zero (S := S512x1024) hz2, View.ld_unit_zero (S := S512x512) hz2, View.ld_unit_zero (S := S1x1024) hz2]
  exact normed_apply x4 x0 x1 x2 x3 x5 x6 r j

end Cert.OutProjIdeal.Out
end
-- ==== Proof.OutProj.Array.lean ====
module
public import proofs.«01_k».proof.Proof.OutProj.Point
/-!
# The output projection, row by row

128 blocks of 512 rows: each output row is the layer norm of the scaled residual plus the projected mixers.
-/
@[expose] public section
noncomputable section
namespace Cert.OutProjIdeal.Out
open Cert.OutProjIdeal Cert.OutProjIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argA : S16x4096x512.Idx → EReal := m ((c : Thread nD τ).loc main_arg0)
abbrev argD : S16x4096x512.Idx → EReal := m ((c : Thread nD τ).loc main_arg1)
abbrev argX : S16x4096x1024.Idx → EReal := m ((c : Thread nD τ).loc main_arg2)
abbrev argW : S1024x1024.Idx → EReal := m ((c : Thread nD τ).loc main_arg3)
abbrev argG : S1024.Idx → EReal := m ((c : Thread nD τ).loc main_arg4)
abbrev argB : S1024.Idx → EReal := m ((c : Thread nD τ).loc main_arg5)

theorem V_v1 : (V m c main_v1 : S65536x512.Idx → EReal) = fun i => shapeCast S65536x512 (argA m c) shapeCasts_S16x4096x512_S65536x512 i := by
  unfold V; after_results; rfl
theorem V_v3 : (V m c main_v3 : S65536x512.Idx → EReal) = fun i => shapeCast S65536x512 (argD m c) shapeCasts_S16x4096x512_S65536x512 i := by
  unfold V; after_results; rfl
theorem V_v5 : (V m c main_v5 : S512x1024.Idx → EReal) = extractStridedSlice S512x1024 ![0, 0] (argW m c) slices_S1024x1024_S512x1024_0_0 := by
  unfold V; after_results; rfl
theorem V_v7 : (V m c main_v7 : S512x1024.Idx → EReal) = extractStridedSlice S512x1024 ![512, 0] (argW m c) slices_S1024x1024_S512x1024_512_0 := by
  unfold V; after_results; rfl
theorem V_v8 : (V m c main_v8 : S65536x1024.Idx → EReal) = fun i => shapeCast S65536x1024 (argX m c) shapeCasts_S16x4096x1024_S65536x1024 i := by
  unfold V; after_results; rfl
theorem V_v9 : (V m c main_v9 : S1x1024.Idx → EReal) = fun i => shapeCast S1x1024 (argG m c) shapeCasts_S1024_S1x1024 i := by
  unfold V; after_results; rfl
theorem V_v10 : (V m c main_v10 : S1x1024.Idx → EReal) = fun i => shapeCast S1x1024 (argB m c) shapeCasts_S1024_S1x1024 i := by
  unfold V; after_results; rfl

theorem index_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = 0 ∧ win0_5.index t 1 = 0 ∧ win0_6.index t 0 = 0 ∧ win0_6.index t 1 = 0 ∧ win0_7.index t 0 = t.val ∧ win0_7.index t 1 = 0 ∧ win0_8.index t 0 = t.val ∧ win0_8.index t 1 = 0 := by decide +kernel
theorem N_lt (t : Fin cfg0.N) : t.val < 128 := by have := t.isLt; have h : cfg0.N = 128 := N_0; omega
abbrev row (t : Fin cfg0.N) (r : Fin 512) : Fin 65536 := ⟨512 * t.val + r.val, by have := N_lt t; omega⟩

theorem block0 (t : Fin cfg0.N) (r : Fin 512) (k : Fin 512) :
    (iblk m c 0 t : S512x512.Idx → EReal) (ix2 r k) = Dense.line (A := 16) (T := 4096) rfl (argA m c) (row t r) k := by
  obtain ⟨i0, i1, -⟩ := index_facts t
  unfold iblk
  rw [View.read_apply]
  show (V m c main_v1 : S65536x512.Idx → EReal) _ = _
  rw [V_v1]
  refine (congrArg (shapeCast S65536x512 (argA m c) shapeCasts_S16x4096x512_S65536x512) (?_ : _ = ix2 (row t r) k)).trans (Dense.cast_lines rfl (argA m c) _ (row t r) k)
  funext a; apply Fin.ext
  match a with
  | ⟨0, _⟩ => show win0_0.index t 0 * 512 + 1 * r.val = 512 * t.val + r.val; rw [i0]; omega
  | ⟨1, _⟩ => show win0_0.index t 1 * 512 + 1 * k.val = k.val; rw [i1]; omega

theorem block1 (t : Fin cfg0.N) (r : Fin 512) (k : Fin 512) :
    (iblk m c 1 t : S512x512.Idx → EReal) (ix2 r k) = Dense.line (A := 16) (T := 4096) rfl (argD m c) (row t r) k := by
  obtain ⟨-, -, i0, i1, -⟩ := index_facts t
  unfold iblk
  rw [View.read_apply]
  show (V m c main_v3 : S65536x512.Idx → EReal) _ = _
  rw [V_v3]
  refine (congrArg (shapeCast S65536x512 (argD m c) shapeCasts_S16x4096x512_S65536x512) (?_ : _ = ix2 (row t r) k)).trans (Dense.cast_lines rfl (argD m c) _ (row t r) k)
  funext a; apply Fin.ext
  match a with
  | ⟨0, _⟩ => show win0_1.index t 0 * 512 + 1 * r.val = 512 * t.val + r.val; rw [i0]; omega
  | ⟨1, _⟩ => show win0_1.index t 1 * 512 + 1 * k.val = k.val; rw [i1]; omega

theorem block2 (t : Fin cfg0.N) (k : Fin 512) (j : Fin 1024) :
    (iblk m c 2 t : S512x1024.Idx → EReal) (ix2 k j) = argW m c (ix2 (⟨0 + k.val, by omega⟩ : Fin 1024) j) := by
  obtain ⟨-, -, -, -, i0, i1, -⟩ := index_facts t
  unfold iblk
  rw [View.read_apply]
  show (V m c main_v5 : S512x1024.Idx → EReal) _ = _
  rw [V_v5]
  refine extractStridedSlice_apply _ _ _ _ _ fun a => ?_
  match a with
  | ⟨0, _⟩ => show 0 + k.val = 0 + (win0_2.index t 0 * 512 + 1 * k.val); rw [i0]; omega
  | ⟨1, _⟩ => show j.val = 0 + (win0_2.index t 1 * 1024 + 1 * j.val); rw [i1]; omega

theorem block3 (t : Fin cfg0.N) (k : Fin 512) (j : Fin 1024) :
    (iblk m c 3 t : S512x1024.Idx → EReal) (ix2 k j) = argW m c (ix2 (⟨512 + k.val, by omega⟩ : Fin 1024) j) := by
  obtain ⟨-, -, -, -, -, -, i0, i1, -⟩ := index_facts t
  unfold iblk
  rw [View.read_apply]
  show (V m c main_v7 : S512x1024.Idx → EReal) _ = _
  rw [V_v7]
  refine extractStridedSlice_apply _ _ _ _ _ fun a => ?_
  match a with
  | ⟨0, _⟩ => show 512 + k.val = 512 + (win0_3.index t 0 * 512 + 1 * k.val); rw [i0]; omega
  | ⟨1, _⟩ => show j.val = 0 + (win0_3.index t 1 * 1024 + 1 * j.val); rw [i1]; omega

theorem block4 (t : Fin cfg0.N) (r : Fin 512) (k : Fin 1024) :
    (iblk m c 4 t : S512x1024.Idx → EReal) (ix2 r k) = Dense.line (A := 16) (T := 4096) rfl (argX m c) (row t r) k := by
  obtain ⟨-, -, -, -, -, -, -, -, i0, i1, -⟩ := index_facts t
  unfold iblk
  rw [View.read_apply]
  show (V m c main_v8 : S65536x1024.Idx → EReal) _ = _
  rw [V_v8]
  refine (congrArg (shapeCast S65536x1024 (argX m c) shapeCasts_S16x4096x1024_S65536x1024) (?_ : _ = ix2 (row t r) k)).trans (Dense.cast_lines rfl (argX m c) _ (row t r) k)
  funext a; apply Fin.ext
  match a with
  | ⟨0, _⟩ => show win0_4.index t 0 * 512 + 1 * r.val = 512 * t.val + r.val; rw [i0]; omega
  | ⟨1, _⟩ => show win0_4.index t 1 * 1024 + 1 * k.val = k.val; rw [i1]; omega

theorem block5 (t : Fin cfg0.N) (k : Fin 1024) : (iblk m c 5 t : S1x1024.Idx → EReal) (ix2 (0 : Fin 1) k) = argG m c (ix1 k) := by
  obtain ⟨-, -, -, -, -, -, -, -, -, -, i0, i1, -⟩ := index_facts t
  unfold iblk
  rw [View.read_apply]
  show (V m c main_v9 : S1x1024.Idx → EReal) _ = _
  rw [V_v9]
  refine (congrArg (shapeCast S1x1024 (argG m c) shapeCasts_S1024_S1x1024) (?_ : _ = ix2 (0 : Fin 1) k)).trans (Dense.cast_vec (argG m c) _ k)
  funext a; apply Fin.ext
  match a with
  | ⟨0, _⟩ => show win0_5.index t 0 * 1 + 1 * 0 = 0; rw [i0]
  | ⟨1, _⟩ => show win0_5.index t 1 * 1024 + 1 * k.val = k.val; rw [i1]; omega

theorem block6 (t : Fin cfg0.N) (k : Fin 1024) : (iblk m c 6 t : S1x1024.Idx → EReal) (ix2 (0 : Fin 1) k) = argB m c (ix1 k) := by
  obtain ⟨-, -, -, -, -, -, -, -, -, -, -, -, i0, i1, -⟩ := index_facts t
  unfold iblk
  rw [View.read_apply]
  show (V m c main_v10 : S1x1024.Idx → EReal) _ = _
  rw [V_v10]
  refine (congrArg (shapeCast S1x1024 (argB m c) shapeCasts_S1024_S1x1024) (?_ : _ = ix2 (0 : Fin 1) k)).trans (Dense.cast_vec (argB m c) _ k)
  funext a; apply Fin.ext
  match a with
  | ⟨0, _⟩ => show win0_6.index t 0 * 1 + 1 * 0 = 0; rw [i0]
  | ⟨1, _⟩ => show win0_6.index t 1 * 1024 + 1 * k.val = k.val; rw [i1]; omega

/-- Row `R` before the norm: the residual scaled, plus each mixer's row times its half of the weights. -/
def sums (a d : S16x4096x512.Idx → EReal) (x : S16x4096x1024.Idx → EReal) (w : S1024x1024.Idx → EReal) (R : Fin 65536) (k : Fin 1024) : EReal :=
  Ideal.ofBits .f32 0x3F9837F0#32 * Dense.line (A := 16) (T := 4096) rfl x R k
    + (∑ e : Fin 512, Dense.line (A := 16) (T := 4096) rfl a R e * w (ix2 (⟨0 + e.val, by omega⟩ : Fin 1024) k))
    + ∑ e : Fin 512, Dense.line (A := 16) (T := 4096) rfl d R e * w (ix2 (⟨512 + e.val, by omega⟩ : Fin 1024) k)

/-- The output rows. -/
def projected (a d : S16x4096x512.Idx → EReal) (x : S16x4096x1024.Idx → EReal) (w : S1024x1024.Idx → EReal) (g b : S1024.Idx → EReal) : S65536x1024.Idx → EReal := fun i =>
  Dense.norm (sums a d x w (i 0)) (fun k => g (ix1 k)) (fun k => b (ix1 k)) (i 1)

theorem flushed7_eq (t : Fin cfg0.N) :
    (dats m 0 c).flushed 7 t = ((cfg0.win 7).blk t).view.read (Elt Ideal) (projected (argA m c) (argD m c) (argX m c) (argW m c) (argG m c) (argB m c)) := by
  obtain ⟨-, -, -, -, -, -, -, -, -, -, -, -, -, -, i0, i1, -⟩ := index_facts t
  rw [Value.flushed7]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point7 _ _ _ _ _ _ _ r d).trans ?_
  simp only [block0, block1, block2, block3, block4, block5, block6]
  have e : (win0_7.blk t).view.emb (ix2 r d) = (ix2 (row t r) d : S65536x1024.Idx) := by
    funext a; apply Fin.ext
    match a with
    | ⟨0, _⟩ => show win0_7.index t 0 * 512 + 1 * r.val = 512 * t.val + r.val; rw [i0]; omega
    | ⟨1, _⟩ => show win0_7.index t 1 * 1024 + 1 * d.val = d.val; rw [i1]; omega
  show _ = (projected (argA m c) (argD m c) (argX m c) (argW m c) (argG m c) (argB m c)) ((win0_7.blk t).view.emb (ix2 r d))
  rw [e]
  rfl

theorem array7_eq : (dats m 0 c).arrAt 7 cfg0.N = projected (argA m c) (argD m c) (argX m c) (argW m c) (argG m c) (argB m c) :=
  (dats m 0 c).arrAt_eq_of_cover 7 (projected (argA m c) (argD m c) (argX m c) (argW m c) (argG m c) (argB m c)) (fun t _ => flushed7_eq m c t) fun (i : S65536x1024.Idx) => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    obtain ⟨-, -, -, -, -, -, -, -, -, -, -, -, -, -, i0, i1, -⟩ := index_facts t
    have tv : t.val = (i 0 : Nat) / 512 := rfl
    refine ⟨t, flush0_7 t, ?_⟩
    show i ∈ ((View.whole main_v11_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [i0, tv]; omega
    | ⟨1, _⟩ => show win0_7.index t 1 * 1024 ≤ (i 1 : Nat) ∧ (i 1 : Nat) < win0_7.index t 1 * 1024 + 1024; rw [i1]; omega

theorem flushed8_eq (t : Fin cfg0.N) :
    (dats m 0 c).flushed 8 t = ((cfg0.win 8).blk t).view.read (Elt Ideal) (projected (argA m c) (argD m c) (argX m c) (argW m c) (argG m c) (argB m c)) := by
  obtain ⟨-, -, -, -, -, -, -, -, -, -, -, -, -, -, -, -, i0, i1⟩ := index_facts t
  rw [Value.flushed8]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point8 _ _ _ _ _ _ _ r d).trans ?_
  simp only [block0, block1, block2, block3, block4, block5, block6]
  have e : (win0_8.blk t).view.emb (ix2 r d) = (ix2 (row t r) d : S65536x1024.Idx) := by
    funext a; apply Fin.ext
    match a with
    | ⟨0, _⟩ => show win0_8.index t 0 * 512 + 1 * r.val = 512 * t.val + r.val; rw [i0]; omega
    | ⟨1, _⟩ => show win0_8.index t 1 * 1024 + 1 * d.val = d.val; rw [i1]; omega
  show _ = (projected (argA m c) (argD m c) (argX m c) (argW m c) (argG m c) (argB m c)) ((win0_8.blk t).view.emb (ix2 r d))
  rw [e]
  rfl

theorem array8_eq : (dats m 0 c).arrAt 8 cfg0.N = projected (argA m c) (argD m c) (argX m c) (argW m c) (argG m c) (argB m c) :=
  (dats m 0 c).arrAt_eq_of_cover 8 (projected (argA m c) (argD m c) (argX m c) (argW m c) (argG m c) (argB m c)) (fun t _ => flushed8_eq m c t) fun (i : S65536x1024.Idx) => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    obtain ⟨-, -, -, -, -, -, -, -, -, -, -, -, -, -, -, -, i0, i1⟩ := index_facts t
    have tv : t.val = (i 0 : Nat) / 512 := rfl
    refine ⟨t, flush0_8 t, ?_⟩
    show i ∈ ((View.whole main_v11_1).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [i0, tv]; omega
    | ⟨1, _⟩ => show win0_8.index t 1 * 1024 ≤ (i 1 : Nat) ∧ (i 1 : Nat) < win0_8.index t 1 * 1024 + 1024; rw [i1]; omega

end Cert.OutProjIdeal.Out
end
-- ==== Proof.OutProj.Reference.lean ====
module
public import proofs.«01_k».proof.Proof.Gen.OutProjReferenceIdeal.Read
public import proofs.«01_k».proof.Proof.OutProj.Array
public import Idealize.ShloMosaic.Lib.IdealHost
/-!
# The output projection's reference, read at an index

One product with the two mixers side by side, split at the joint; its norm row by row.
-/
@[expose] public section
noncomputable section
namespace Cert.OutProjReferenceIdeal.Out
open Cert.OutProjReferenceIdeal Cert.OutProjReferenceIdeal.Read Idealize.ShloMosaic Idealize.ShloMosaic.ValueIdx Finset
variable (x0 x1 : S16x4096x512.Idx → EReal) (x2 : S16x4096x1024.Idx → EReal) (x3 : S1024x1024.Idx → EReal) (x4 x5 : S1024.Idx → EReal)

theorem mean_apply (a : Fin 16) (t : Fin 4096) :
    val_main_v8 (F := Ideal) x0 x1 x2 x3 (ix3 a t (0 : Fin 1)) = Ideal.div (∑ k, (fun k : Fin 1024 => val_main_v4 (F := Ideal) x0 x1 x2 x3 (ix3 a t k)) k) (Ideal.ofBits .f32 0x44800000#32) := by
  rw [val_main_v8_apply, val_main_v6_apply, val_main_v5_apply, val_main_v7_apply]
  have e : ∀ k : Fin 1024, idx_main_v5 (idx_main_v6 (ix3 a t (0 : Fin 1))) k = ix3 a t k := fun k => by
    funext c; apply Fin.ext; match c with | ⟨0, _⟩ => rfl | ⟨1, _⟩ => rfl | ⟨2, _⟩ => rfl
  simp only [e]
  show Ideal.div (Ideal.ofBits .f32 0x00000000#32 + _) _ = _
  rw [Ideal.ofBits_zero_f32, zero_add]
  rfl

theorem centred_apply (a : Fin 16) (t : Fin 4096) (j : Fin 1024) :
    val_main_v10 (F := Ideal) x0 x1 x2 x3 (ix3 a t j) = Dense.centred (fun k : Fin 1024 => val_main_v4 (F := Ideal) x0 x1 x2 x3 (ix3 a t k)) j := by
  rw [val_main_v10_apply, val_main_v9_apply]
  have e : idx_main_v9 (ix3 a t j) = ix3 a t (0 : Fin 1) := by
    funext c; apply Fin.ext; match c with | ⟨0, _⟩ => rfl | ⟨1, _⟩ => rfl | ⟨2, _⟩ => rfl
  rw [e, mean_apply]
  rfl

theorem centred_apply' (a : Fin 16) (t : Fin 4096) (j : Fin 1024) :
    val_main_v17 (F := Ideal) x0 x1 x2 x3 (ix3 a t j) = Dense.centred (fun k : Fin 1024 => val_main_v4 (F := Ideal) x0 x1 x2 x3 (ix3 a t k)) j := by
  rw [val_main_v17_apply, val_main_v16_apply]
  have e : idx_main_v16 (ix3 a t j) = ix3 a t (0 : Fin 1) := by
    funext c; apply Fin.ext; match c with | ⟨0, _⟩ => rfl | ⟨1, _⟩ => rfl | ⟨2, _⟩ => rfl
  rw [e, mean_apply]
  rfl

theorem scale_apply (a : Fin 16) (t : Fin 4096) :
    val_main_v20 (F := Ideal) x0 x1 x2 x3 (ix3 a t (0 : Fin 1)) = Ideal.rsqrt (Ideal.div (∑ k, Dense.centred (fun k : Fin 1024 => val_main_v4 (F := Ideal) x0 x1 x2 x3 (ix3 a t k)) k * Dense.centred (fun k : Fin 1024 => val_main_v4 (F := Ideal) x0 x1 x2 x3 (ix3 a t k)) k) (Ideal.ofBits .f32 0x44800000#32)
      + Ideal.ofBits .f32 0x3727C5AC#32) := by
  rw [val_main_v20_apply, val_main_v19_apply, val_main_v15_apply, val_main_v13_apply, val_main_v12_apply, val_main_v14_apply, val_main_v18_apply]
  have e : ∀ k : Fin 1024, idx_main_v12 (idx_main_v13 (ix3 a t (0 : Fin 1))) k = ix3 a t k := fun k => by
    funext c; apply Fin.ext; match c with | ⟨0, _⟩ => rfl | ⟨1, _⟩ => rfl | ⟨2, _⟩ => rfl
  simp only [e, val_main_v11_apply, centred_apply]
  show Ideal.rsqrt (Ideal.div (Ideal.ofBits .f32 0x00000000#32 + _) _ + _) = _
  rw [Ideal.ofBits_zero_f32, zero_add]
  rfl

theorem norm_apply (a : Fin 16) (t : Fin 4096) (j : Fin 1024) :
    val_main_v28 (F := Ideal) x0 x1 x2 x3 x4 x5 (ix3 a t j)
      = Dense.norm (fun k : Fin 1024 => val_main_v4 (F := Ideal) x0 x1 x2 x3 (ix3 a t k)) (fun k => x4 (ix1 k)) (fun k => x5 (ix1 k)) j := by
  rw [val_main_v28_apply, val_main_v25_apply, val_main_v22_apply, val_main_v21_apply, val_main_v24_apply, val_main_v23_apply, val_main_v27_apply, val_main_v26_apply, centred_apply']
  have e : idx_main_v21 (ix3 a t j) = ix3 a t (0 : Fin 1) := by
    funext c; apply Fin.ext; match c with | ⟨0, _⟩ => rfl | ⟨1, _⟩ => rfl | ⟨2, _⟩ => rfl
  have eg : idx_main_v23 (idx_main_v24 (ix3 a t j)) = ix1 j := by funext c; apply Fin.ext; match c with | ⟨0, _⟩ => rfl
  have eb : idx_main_v26 (idx_main_v27 (ix3 a t j)) = ix1 j := by funext c; apply Fin.ext; match c with | ⟨0, _⟩ => rfl
  rw [e, eg, eb, scale_apply]
  rfl

/-- The mixers side by side, each half read. -/
theorem joined_left (a : Fin 16) (t : Fin 4096) (e : Fin 512) :
    val_main_v2 (F := Ideal) x0 x1 (ix3 a t (⟨0 + e.val, by omega⟩ : Fin 1024)) = x0 (ix3 a t e) := by
  unfold val_main_v2
  exact concatenate_pair_apply_left (t := S16x4096x1024) (s₁ := S16x4096x512) (s₂ := S16x4096x512) (2 : Fin 3) _ _ _ (ix3 a t (⟨0 + e.val, by omega⟩ : Fin 1024)) rfl (ix3 a t e) (fun c => by
    match c with | ⟨0, _⟩ => rfl | ⟨1, _⟩ => rfl | ⟨2, _⟩ => exact (Nat.zero_add _).symm)
theorem joined_right (a : Fin 16) (t : Fin 4096) (e : Fin 512) :
    val_main_v2 (F := Ideal) x0 x1 (ix3 a t (⟨512 + e.val, by omega⟩ : Fin 1024)) = x1 (ix3 a t e) := by
  unfold val_main_v2
  exact concatenate_pair_apply_right (t := S16x4096x1024) (s₁ := S16x4096x512) (s₂ := S16x4096x512) (2 : Fin 3) _ _ _ (ix3 a t (⟨512 + e.val, by omega⟩ : Fin 1024)) rfl rfl (ix3 a t e) (fun c hc => by
    match c with | ⟨0, _⟩ => rfl | ⟨1, _⟩ => rfl | ⟨2, _⟩ => exact absurd rfl hc) (Nat.add_comm _ _)

theorem sum_halves (f : Fin 1024 → EReal) : (∑ k, f k) = (∑ e : Fin 512, f ⟨0 + e.val, by omega⟩) + ∑ e : Fin 512, f ⟨512 + e.val, by omega⟩ := by
  refine (Fin.sum_univ_add (a := 512) (b := 512) f).trans (congrArg₂ (· + ·) ?_ ?_)
  · exact sum_congr rfl fun e _ => congrArg f (Fin.ext (Nat.zero_add _).symm)
  · exact sum_congr rfl fun e _ => congrArg f (Fin.ext rfl)

theorem sums_apply (a : Fin 16) (t : Fin 4096) (k : Fin 1024) :
    val_main_v4 (F := Ideal) x0 x1 x2 x3 (ix3 a t k)
      = Ideal.ofBits .f32 0x3F9837F0#32 * x2 (ix3 a t k) + (∑ e : Fin 512, x0 (ix3 a t e) * x3 (ix2 (⟨0 + e.val, by omega⟩ : Fin 1024) k))
        + ∑ e : Fin 512, x1 (ix3 a t e) * x3 (ix2 (⟨512 + e.val, by omega⟩ : Fin 1024) k) := by
  rw [val_main_v4_apply, val_main_v3_apply, val_main_v1_apply, val_main_v0_apply]
  have el : ∀ q : Fin 1024, lidx_main_v3 (ix3 a t k) q = ix3 a t q := fun q => by
    funext c; apply Fin.ext; match c with | ⟨0, _⟩ => rfl | ⟨1, _⟩ => rfl | ⟨2, _⟩ => rfl
  have er : ∀ q : Fin 1024, ridx_main_v3 (ix3 a t k) q = ix2 q k := fun q => by
    funext c; apply Fin.ext; match c with | ⟨0, _⟩ => rfl | ⟨1, _⟩ => rfl
  simp only [el, er]
  rw [sum_halves]
  simp only [joined_left, joined_right]
  exact (add_assoc _ _ _).symm

theorem lines_apply (R : Fin 65536) (j : Fin 1024) : idx_main_v29 (ix2 R j) = ix3 (⟨R.val / 4096, by omega⟩ : Fin 16) (⟨R.val % 4096, Nat.mod_lt _ (by norm_num)⟩ : Fin 4096) j := by
  funext c; apply Fin.ext
  have h0 := R.isLt
  have h1 := j.isLt
  match c with
  | ⟨0, _⟩ => show (R.val * 1024 + j.val) / 4194304 = R.val / 4096; omega
  | ⟨1, _⟩ => show (R.val * 1024 + j.val) / 1024 % 4096 = R.val % 4096; omega
  | ⟨2, _⟩ => show (R.val * 1024 + j.val) % 1024 = j.val; omega

theorem row_apply (R : Fin 65536) (k : Fin 1024) :
    val_main_v4 (F := Ideal) x0 x1 x2 x3 (ix3 (⟨R.val / 4096, by omega⟩ : Fin 16) (⟨R.val % 4096, Nat.mod_lt _ (by norm_num)⟩ : Fin 4096) k)
      = Cert.OutProjIdeal.Out.sums x0 x1 x2 x3 R k :=
  sums_apply x0 x1 x2 x3 _ _ k

theorem result_eq : (val_main_v29 (F := Ideal) x0 x1 x2 x3 x4 x5 : S65536x1024.Idx → EReal) = Cert.OutProjIdeal.Out.projected x0 x1 x2 x3 x4 x5 := by
  refine funext fun (i : S65536x1024.Idx) => ?_
  obtain ⟨R, j, rfl⟩ : ∃ R : Fin 65536, ∃ j : Fin 1024, i = ix2 R j := ⟨i 0, i 1, by
    funext a; match a with | ⟨0, _⟩ => rfl | ⟨1, _⟩ => rfl⟩
  rw [val_main_v29_apply]
  refine (congrArg _ (lines_apply R j)).trans ((norm_apply x0 x1 x2 x3 x4 x5 _ _ j).trans ?_)
  simp only [row_apply]
  rfl

end Cert.OutProjReferenceIdeal.Out
end
-- ==== Proof.OutProj.Equal.lean ====
module
public import proofs.«01_k».proof.Defs
public import proofs.«01_k».proof.Proof.Gen.OutProj.Frame
public import proofs.«01_k».proof.Proof.Gen.OutProjReferenceIdeal.Run
public import proofs.«01_k».proof.Proof.OutProj.Reference
public import Idealize.ShloMosaic.Lib.Quiescent
/-!
# The claims of the output projection
-/
@[expose] public section
noncomputable section
namespace Cert.Proof
open Idealize.ShloMosaic Idealize.SL.Sem
open Cert.OutProjIdeal.Out Cert.OutProjReferenceIdeal.Out Cert.OutProjReferenceIdeal.Read

theorem out_frame_bits : Cert.quiescent_OutProj := fun m ρ _ => Cert.OutProj.Gen.frame m ρ
theorem out_frame : Cert.quiescent_OutProjIdeal := fun m ρ _ => Cert.OutProjIdeal.Gen.frame m ρ
theorem out_ref_frame : Cert.quiescent_OutProjReferenceIdeal := by
  intro m ρ _
  exact (θ_run Cert.OutProjReferenceIdeal.defs _ _).mono (fun r h => ⟨fun c => (h c).2.2, sem_eq_zero_of_no_sems (by decide) r.2⟩)
    (Cert.OutProjReferenceIdeal.Value.run (F := Ideal) m ρ)
theorem out_preserves : Cert.preserves_OutProj_OutProjIdeal := trivial

theorem out_equal : Cert.algebraic_OutProjIdeal_OutProjReferenceIdeal := by
  intro m ρ m' ρ' _ hagree
  refine ⟨fun c => projected (argA m c) (argD m c) (argX m c) (argW m c) (argG m c) (argB m c), fun c => projected (argA m c) (argD m c) (argX m c) (argW m c) (argG m c) (argB m c), ?_, ?_⟩
  · refine (θ_run Cert.OutProjIdeal.defs _ _).mono (fun r h c => ?_) (Cert.OutProjIdeal.Value.run_blocks m ρ)
    obtain ⟨h0, h1, ha⟩ := h c
    exact ⟨h0.trans (Cert.OutProjIdeal.Out.array7_eq m c), h1.trans (Cert.OutProjIdeal.Out.array8_eq m c), ha⟩
  · refine (θ_run Cert.OutProjReferenceIdeal.defs _ _).mono (fun r h c => ?_) (Cert.OutProjReferenceIdeal.Value.run (F := Ideal) m' ρ')
    obtain ⟨h0, h1, ha⟩ := h c
    obtain ⟨a0, a1, a2, a3, a4, a5⟩ := hagree c
    refine ⟨h0.trans ((val_main_v29_eq m' c).trans ?_), h1.trans ((val_main_v30_eq m' c).trans ?_), ha⟩
    all_goals rw [a0, a1, a2, a3, a4, a5]
    · exact result_eq (argA m c) (argD m c) (argX m c) (argW m c) (argG m c) (argB m c)
    · exact result_eq (argA m c) (argD m c) (argX m c) (argW m c) (argG m c) (argB m c)

end Cert.Proof
end
-- ==== Proof.Experts.Run.lean ====
module
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Frame
public import Idealize.ShloMosaic.Lib.VecWindow
public import Idealize.ShloMosaic.Lib.Claim
public import Idealize.ShloMosaic.Lib.Tactic
/-!
# The routed experts' call: the host operations before it, and its body

The host operations work out five tables, one entry per grid point: the point's expert, the block of rows it works on,
the first row and the row after the last that are the expert's in the block, and whether the point is the block's
first. The body reads the last three; it leaves the block as it found it where the tables give it nothing to do.
-/
@[expose] public section
set_option maxRecDepth 16384
noncomputable section
namespace Cert.ExpertsIdeal.Hand
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The host operations before the call, list by list. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The buffers when the call begins. -/
def V (c : Dev nD) (b : Ref sig .tc) : Buf (Elt F) ((c : Thread nD τ).loc b) :=
  StableHlo.after (opss (F := F)).flatten (fun b => m (c, b)) b

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

theorem hostOps0_11_fresh : (hostOps0_11 : List (HloOp τ sig (Elt F))).Forall fun op => op.fresh = ∅ := by
  simp only [List.Forall]; repeat' constructor

theorem hostOps0_12_fresh : (hostOps0_12 : List (HloOp τ sig (Elt F))).Forall fun op => op.fresh = ∅ := by
  simp only [List.Forall]; repeat' constructor

theorem hostOps0_13_fresh : (hostOps0_13 : List (HloOp τ sig (Elt F))).Forall fun op => op.fresh = ∅ := by
  simp only [List.Forall]; repeat' constructor

theorem hostOps0_14_fresh : (hostOps0_14 : List (HloOp τ sig (Elt F))).Forall fun op => op.fresh = ∅ := by
  simp only [List.Forall]; repeat' constructor

theorem hostOps0_15_fresh : (hostOps0_15 : List (HloOp τ sig (Elt F))).Forall fun op => op.fresh = ∅ := by
  simp only [List.Forall]; repeat' constructor

set_option maxHeartbeats 1600000 in
/-- The host operations, then the call. -/
theorem hmain (𝒱₀ : Variants) : Pipeline.HMainP (Ix := Unit) (Name := ℕ) (U := UR sig nD τ) (Lvl := ℕ) (pcfgs (F := F)) 0 defs₀ 𝒱₀ m
    (main (F := F)) (V m) :=
  Pipeline.hmainP_prefixes (pcfgs (F := F)) 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩ ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩ main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The tables when the call begins. -/
def tbl : pre0.Contents (Elt F) := fun j => V m (0 : Dev nD) (pre0.ref j)

theorem V_pre (c : Dev nD) (j : Fin 5) : V m c (pre0.ref j) = tbl m j := by
  obtain rfl : c = 0 := Subsingleton.elim _ _
  rfl

abbrev TbBuf (c : Dev nD) {S : Shape} {e : EltTy} (M : Memref sig .tc .smem S e) : Type := Buf (Elt F) (M.view.loc (c : Thread nD τ))
/-- A table's half, held by the body to read from. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) (pf : pre0.Contents (Elt F)) : (Pipeline.ΦT pre0 pf c : sProp 𝕄)
    = iprop(tbPt c (Memref.whole main_v37) (pf 0) ∗ tbPt c (Memref.whole main_v58) (pf 1) ∗ tbPt c (Memref.whole main_v70) (pf 2)
      ∗ tbPt c (Memref.whole main_v90) (pf 3) ∗ tbPt c (Memref.whole main_v96) (pf 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The body -/

/-- The entry of a table at a point. -/
abbrev ent (f : S1287.Idx → BitVec 32) (i : grid0.Coords) : BitVec 32 :=
  f ((Rect.unit (s := S1287) (k0_off1 i) S1.size (k0_off1_inb i)).emb (Shape.Idx.first (numel1_S1.symm ▸ Nat.one_pos)))

/-- What the body leaves in the block, from what it found there. -/
def step (lo hi first : BitVec 32) (x : Vec F S512x1024 .bf16) (wg : Vec F S1x1024x512 .bf16) (wd : Vec F S1x256x1024 .bf16)
    (X : Vec F S512x1024 .bf16) : Vec F S512x1024 .bf16 :=
  if k0_cond2 lo hi first = 1#1 then k0_pay2 lo hi x wg wd (if k0_cond1 lo hi first = 1#1 then k0_pay1 lo hi x wg wd else X)
  else if k0_cond1 lo hi first = 1#1 then k0_pay1 lo hi x wg wd else X

theorem emb_full (x : S512x1024.Idx) : (Rect.unit (s := S512x1024) ![0, 0] S512x1024.size inb_S512x1024_S512x1024_0_0).emb x = x := by
  funext a; apply Fin.ext; rw [Rect.emb_apply]
  fin_cases a <;> simp [Rect.unit]
theorem emb_full7 (x : S1x1024x512.Idx) : (Rect.unit (s := S1x1024x512) ![0, 0, 0] S1x1024x512.size inb_S1x1024x512_S1x1024x512_0_0_0).emb x = x := by
  funext a; apply Fin.ext; rw [Rect.emb_apply]
  fin_cases a <;> simp [Rect.unit]
theorem emb_full8 (x : S1x256x1024.Idx) : (Rect.unit (s := S1x256x1024) ![0, 0, 0] S1x256x1024.size inb_S1x256x1024_S1x256x1024_0_0_0).emb x = x := by
  funext a; apply Fin.ext; rw [Rect.emb_apply]
  fin_cases a <;> simp [Rect.unit]
theorem read_full (M : Memref sig .tc .vmem S512x1024 .bf16) (g : M.view.ty.Contents (Elt F)) :
    (M.access (Rect.unit ![0, 0] S512x1024.size inb_S512x1024_S512x1024_0_0)).read (Elt F) g = M.view.read (Elt F) g := by
  funext x
  show _root_.cast _ (g (M.view.emb ((Rect.unit (s := S512x1024) ![0, 0] S512x1024.size inb_S512x1024_S512x1024_0_0).emb x))) = _
  rw [emb_full]; rfl
theorem read_full7 (M : Memref sig .tc .vmem S1x1024x512 .bf16) (g : M.view.ty.Contents (Elt F)) :
    (M.access (Rect.unit ![0, 0, 0] S1x1024x512.size inb_S1x1024x512_S1x1024x512_0_0_0)).read (Elt F) g = M.view.read (Elt F) g := by
  funext x
  show _root_.cast _ (g (M.view.emb ((Rect.unit (s := S1x1024x512) ![0, 0, 0] S1x1024x512.size inb_S1x1024x512_S1x1024x512_0_0_0).emb x))) = _
  rw [emb_full7]; rfl
theorem read_full8 (M : Memref sig .tc .vmem S1x256x1024 .bf16) (g : M.view.ty.Contents (Elt F)) :
    (M.access (Rect.unit ![0, 0, 0] S1x256x1024.size inb_S1x256x1024_S1x256x1024_0_0_0)).read (Elt F) g = M.view.read (Elt F) g := by
  funext x
  show _root_.cast _ (g (M.view.emb ((Rect.unit (s := S1x256x1024) ![0, 0, 0] S1x256x1024.size inb_S1x256x1024_S1x256x1024_0_0_0).emb x))) = _
  rw [emb_full8]; rfl
theorem read_store (M : Memref sig .tc .vmem S512x1024 .bf16) (g : M.view.ty.Contents (Elt F)) (v : Vec F S512x1024 .bf16) :
    M.view.read (Elt F) ((M.access (Rect.unit ![0, 0] S512x1024.size inb_S512x1024_S512x1024_0_0)).write (Elt F) g v Finset.univ) = v := by
  funext y
  conv_lhs => rw [← emb_full y]
  rw [View.read_slice_write_emb _ _ _ (Finset.mem_univ _)]

set_option maxHeartbeats 1000000 in
theorem sound_kernel (c : Dev nD) (E : Set ℕ) (i : grid0.Coords) (f0 f1 f2 f3 f4 : S1287.Idx → BitVec 32)
    (arg6 : Memref sig .tc .vmem S512x1024 .bf16) (harg6 : arg6.IsWhole) (arg7 : Memref sig .tc .vmem S1x1024x512 .bf16) (harg7 : arg7.IsWhole)
    (arg8 : Memref sig .tc .vmem S1x256x1024 .bf16) (harg8 : arg8.IsWhole) (arg9 : Memref sig .tc .vmem S512x1024 .bf16) (harg9 : arg9.IsWhole)
    (x : Vec F S512x1024 .bf16) (wg : Vec F S1x1024x512 .bf16) (wd : Vec F S1x256x1024 .bf16) (X : Vec F S512x1024 .bf16) (K : PUnit → sProp 𝕄) :
    iprop((tbPt c (Memref.whole main_v70) f2 ∗ tbPt c (Memref.whole main_v90) f3 ∗ tbPt c (Memref.whole main_v96) f4)
        ∗ owns (c : Thread nD τ) arg6 fullShare x ∗ owns (c : Thread nD τ) arg7 fullShare wg ∗ owns (c : Thread nD τ) arg8 fullShare wd
        ∗ owns (c : Thread nD τ) arg9 fullShare X
        ∗ (iprop((tbPt c (Memref.whole main_v70) f2 ∗ tbPt c (Memref.whole main_v90) f3 ∗ tbPt c (Memref.whole main_v96) f4)
            ∗ owns (c : Thread nD τ) arg6 fullShare x ∗ owns (c : Thread nD τ) arg7 fullShare wg ∗ owns (c : Thread nD τ) arg8 fullShare wd
            ∗ owns (c : Thread nD τ) arg9 fullShare (step (ent f2 i) (ent f3 i) (ent f4 i) x wg wd X)) -∗ K ⟨⟩))
      ⊢ wp frame (wpE (defs₀ (F := F)) Variants.none c none) E (cc0_routed_experts i (Memref.whole main_v37) (Memref.isWhole_whole _)
          (Memref.whole main_v58) (Memref.isWhole_whole _) (Memref.whole main_v70) (Memref.isWhole_whole _) (Memref.whole main_v90) (Memref.isWhole_whole _)
          (Memref.whole main_v96) (Memref.isWhole_whole _) arg6 harg6 arg7 harg7 arg8 harg8 arg9 harg9) K := by
  simp only [cc0_routed_experts_eq_skeleton]; unfold cc0_routed_experts_skel
  unfold owns
  iintro ⟨⟨T2, T3, T4⟩, ⟨%g6, %h6, H6⟩, ⟨%g7, %h7, H7⟩, ⟨%g8, %h8, H8⟩, ⟨%g9, %h9, H9⟩, Hk⟩
  subst h6 h7 h8 h9
  unfold smemLoad
  simp only [smemLoadElt_bind]
  named_smem T2 (ent f2 i) rfl
  simp only [Prog.bind_op, Prog.bind_ret, smemLoadElt_bind]
  named_smem T3 (ent f3 i) rfl
  simp only [Prog.bind_op, Prog.bind_ret, smemLoadElt_bind]
  named_smem T4 (ent f4 i) rfl
  simp only [Prog.bind_op, Prog.bind_ret, smemLoadElt_bind]
  by_cases h1 : k0_cond1 (ent f2 i) (ent f3 i) (ent f4 i) = 1#1 <;> by_cases h2 : k0_cond2 (ent f2 i) (ent f3 i) (ent f4 i) = 1#1
  · rw [dif_pos h1]
    simp only [Prog.lift, Prog.bind_op, Prog.bind_ret]
    iapply (wp_load_rect Variants.none (c : Thread nD τ) none E (m := arg6) (r := Rect.unit ![0, 0] S512x1024.size inb_S512x1024_S512x1024_0_0) (View.set_slice_subset _ _)) $$ H6
    iintro H6
    iapply (wp_load_rect Variants.none (c : Thread nD τ) none E (m := arg7) (r := Rect.unit ![0, 0, 0] S1x1024x512.size inb_S1x1024x512_S1x1024x512_0_0_0) (View.set_slice_subset _ _)) $$ H7
    iintro H7
    iapply (wp_load_rect Variants.none (c : Thread nD τ) none E (m := arg8) (r := Rect.unit ![0, 0, 0] S1x256x1024.size inb_S1x256x1024_S1x256x1024_0_0_0) (View.set_slice_subset _ _)) $$ H8
    iintro H8
    iapply (wp_load_rect Variants.none (c : Thread nD τ) none E (m := arg9) (r := Rect.unit ![0, 0] S512x1024.size inb_S512x1024_S512x1024_0_0) (View.set_slice_subset _ _)) $$ H9
    iintro H9
    iapply (wp_store Variants.none (c : Thread nD τ) none E (m := arg9) (r := Rect.unit ![0, 0] S512x1024.size inb_S512x1024_S512x1024_0_0) (Mk := Finset.univ) (View.set_slice_subset _ _)) $$ H9
    iintro H9
    simp only [smemLoadElt_bind]
    named_smem T4 (ent f4 i) rfl
    rw [dif_pos h2]
    simp only [Prog.lift, Prog.bind_op, Prog.bind_ret]
    iapply (wp_load_rect Variants.none (c : Thread nD τ) none E (m := arg6) (r := Rect.unit ![0, 0] S512x1024.size inb_S512x1024_S512x1024_0_0) (View.set_slice_subset _ _)) $$ H6
    iintro H6
    iapply (wp_load_rect Variants.none (c : Thread nD τ) none E (m := arg7) (r := Rect.unit ![0, 0, 0] S1x1024x512.size inb_S1x1024x512_S1x1024x512_0_0_0) (View.set_slice_subset _ _)) $$ H7
    iintro H7
    iapply (wp_load_rect Variants.none (c : Thread nD τ) none E (m := arg8) (r := Rect.unit ![0, 0, 0] S1x256x1024.size inb_S1x256x1024_S1x256x1024_0_0_0) (View.set_slice_subset _ _)) $$ H8
    iintro H8
    iapply (wp_load_rect Variants.none (c : Thread nD τ) none E (m := arg9) (r := Rect.unit ![0, 0] S512x1024.size inb_S512x1024_S512x1024_0_0) (View.set_slice_subset _ _)) $$ H9
    iintro H9
    iapply (wp_load_rect Variants.none (c : Thread nD τ) none E (m := arg9) (r := Rect.unit ![0, 0] S512x1024.size inb_S512x1024_S512x1024_0_0) (View.set_slice_subset _ _)) $$ H9
    iintro H9
    iapply (wp_store Variants.none (c : Thread nD τ) none E (m := arg9) (r := Rect.unit ![0, 0] S512x1024.size inb_S512x1024_S512x1024_0_0) (Mk := Finset.univ) (View.set_slice_subset _ _)) $$ H9
    iintro H9
    rw [wp_pure]; imodintro
    iapply Hk
    isplitl [T2 T3 T4]
    · isplitl [T2]; · iexact T2
      isplitl [T3]; · iexact T3
      iexact T4
    isplitl [H6]
    · iexists _; isplitr; · ipureintro; rfl
      iexact H6
    isplitl [H7]
    · iexists _; isplitr; · ipureintro; rfl
      iexact H7
    isplitl [H8]
    · iexists _; isplitr; · ipureintro; rfl
      iexact H8
    iexists _; isplitr
    swap; · iexact H9
    ipureintro
    unfold step
    rw [if_pos h2, if_pos h1]
    simp only [read_full arg6, read_full7 arg7, read_full8 arg8, read_full arg9]
    refine (read_store arg9 _ _).trans ?_
    congr 1; exact read_store arg9 _ _
  · rw [dif_pos h1]
    simp only [Prog.lift, Prog.bind_op, Prog.bind_ret]
    iapply (wp_load_rect Variants.none (c : Thread nD τ) none E (m := arg6) (r := Rect.unit ![0, 0] S512x1024.size inb_S512x1024_S512x1024_0_0) (View.set_slice_subset _ _)) $$ H6
    iintro H6
    iapply (wp_load_rect Variants.none (c : Thread nD τ) none E (m := arg7) (r := Rect.unit ![0, 0, 0] S1x1024x512.size inb_S1x1024x512_S1x1024x512_0_0_0) (View.set_slice_subset _ _)) $$ H7
    iintro H7
    iapply (wp_load_rect Variants.none (c : Thread nD τ) none E (m := arg8) (r := Rect.unit ![0, 0, 0] S1x256x1024.size inb_S1x256x1024_S1x256x1024_0_0_0) (View.set_slice_subset _ _)) $$ H8
    iintro H8
    iapply (wp_load_rect Variants.none (c : Thread nD τ) none E (m := arg9) (r := Rect.unit ![0, 0] S512x1024.size inb_S512x1024_S512x1024_0_0) (View.set_slice_subset _ _)) $$ H9
    iintro H9
    iapply (wp_store Variants.none (c : Thread nD τ) none E (m := arg9) (r := Rect.unit ![0, 0] S512x1024.size inb_S512x1024_S512x1024_0_0) (Mk := Finset.univ) (View.set_slice_subset _ _)) $$ H9
    iintro H9
    simp only [smemLoadElt_bind]
    named_smem T4 (ent f4 i) rfl
    rw [dif_neg h2]
    rw [wp_pure]; imodintro
    iapply Hk
    isplitl [T2 T3 T4]
    · isplitl [T2]; · iexact T2
      isplitl [T3]; · iexact T3
      iexact T4
    isplitl [H6]
    · iexists _; isplitr; · ipureintro; rfl
      iexact H6
    isplitl [H7]
    · iexists _; isplitr; · ipureintro; rfl
      iexact H7
    isplitl [H8]
    · iexists _; isplitr; · ipureintro; rfl
      iexact H8
    iexists _; isplitr
    swap; · iexact H9
    ipureintro
    unfold step
    rw [if_neg h2, if_pos h1]
    simp only [read_full arg6, read_full7 arg7, read_full8 arg8]
    exact read_store arg9 _ _
  · rw [dif_neg h1]
    named_smem T4 (ent f4 i) rfl
    rw [dif_pos h2]
    simp only [Prog.lift, Prog.bind_op, Prog.bind_ret]
    iapply (wp_load_rect Variants.none (c : Thread nD τ) none E (m := arg6) (r := Rect.unit ![0, 0] S512x1024.size inb_S512x1024_S512x1024_0_0) (View.set_slice_subset _ _)) $$ H6
    iintro H6
    iapply (wp_load_rect Variants.none (c : Thread nD τ) none E (m := arg7) (r := Rect.unit ![0, 0, 0] S1x1024x512.size inb_S1x1024x512_S1x1024x512_0_0_0) (View.set_slice_subset _ _)) $$ H7
    iintro H7
    iapply (wp_load_rect Variants.none (c : Thread nD τ) none E (m := arg8) (r := Rect.unit ![0, 0, 0] S1x256x1024.size inb_S1x256x1024_S1x256x1024_0_0_0) (View.set_slice_subset _ _)) $$ H8
    iintro H8
    iapply (wp_load_rect Variants.none (c : Thread nD τ) none E (m := arg9) (r := Rect.unit ![0, 0] S512x1024.size inb_S512x1024_S512x1024_0_0) (View.set_slice_subset _ _)) $$ H9
    iintro H9
    iapply (wp_load_rect Variants.none (c : Thread nD τ) none E (m := arg9) (r := Rect.unit ![0, 0] S512x1024.size inb_S512x1024_S512x1024_0_0) (View.set_slice_subset _ _)) $$ H9
    iintro H9
    iapply (wp_store Variants.none (c : Thread nD τ) none E (m := arg9) (r := Rect.unit ![0, 0] S512x1024.size inb_S512x1024_S512x1024_0_0) (Mk := Finset.univ) (View.set_slice_subset _ _)) $$ H9
    iintro H9
    rw [wp_pure]; imodintro
    iapply Hk
    isplitl [T2 T3 T4]
    · isplitl [T2]; · iexact T2
      isplitl [T3]; · iexact T3
      iexact T4
    isplitl [H6]
    · iexists _; isplitr; · ipureintro; rfl
      iexact H6
    isplitl [H7]
    · iexists _; isplitr; · ipureintro; rfl
      iexact H7
    isplitl [H8]
    · iexists _; isplitr; · ipureintro; rfl
      iexact H8
    iexists _; isplitr
    swap; · iexact H9
    ipureintro
    unfold step
    rw [if_pos h2, if_neg h1]
    simp only [read_full arg6, read_full7 arg7, read_full8 arg8, read_full arg9]
    exact read_store arg9 _ _
  · rw [dif_neg h1]
    named_smem T4 (ent f4 i) rfl
    rw [dif_neg h2]
    rw [wp_pure]; imodintro
    iapply Hk
    isplitl [T2 T3 T4]
    · isplitl [T2]; · iexact T2
      isplitl [T3]; · iexact T3
      iexact T4
    isplitl [H6]
    · iexists _; isplitr; · ipureintro; rfl
      iexact H6
    isplitl [H7]
    · iexists _; isplitr; · ipureintro; rfl
      iexact H7
    isplitl [H8]
    · iexists _; isplitr; · ipureintro; rfl
      iexact H8
    iexists _; isplitr
    swap; · iexact H9
    ipureintro
    unfold step
    rw [if_neg h2, if_neg h1]

end Cert.ExpertsIdeal.Hand
end
-- ==== Proof.Experts.Data.lean ====
module
public import proofs.«01_k».proof.Proof.Experts.Run
/-!
# The routed experts' call: the run, block by block

Stated for any contents `VV` of the buffers at the call and any admissible tables `a`. The output's block is carried from
point to point: `outv t` is what it holds after point `t`.
-/
@[expose] public section
set_option maxRecDepth 16384
noncomputable section
namespace Cert.ExpertsIdeal.Hand
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ
variable (VV : (c : Dev nD) → (b : Ref sig .tc) → Buf (Elt F) ((c : Thread nD τ).loc b)) (a : (pcfg0 (F := F)).Adm)

/-- The three tables the body reads, as words. -/
abbrev tLo : S1287.Idx → BitVec 32 := a.1 2
abbrev tHi : S1287.Idx → BitVec 32 := a.1 3
abbrev tFi : S1287.Idx → BitVec 32 := a.1 4

/-- Window `w`'s block at point `t`, read off its array. -/
def blkOf (c : Dev nD) (w : Fin 4) (t : Fin (cfg0 a).N) : (((cfg0 a).win w).xblock ((cfg0 a).grid.coords t)).Idx → Elt F ((cfg0 a).win w).elt :=
  (((cfg0 a).win w).blk t).view.read (Elt F) (VV c (Pipeline.arrRef spec0 w))

/-- What the body makes of the block `X` at point `t`. -/
def stepAt (c : Dev nD) (t : Fin (cfg0 a).N) (X : Vec F S512x1024 .bf16) : Vec F S512x1024 .bf16 :=
  step (ent (tLo a) (grid0.coords t)) (ent (tHi a) (grid0.coords t)) (ent (tFi a) (grid0.coords t))
    (blkOf VV a c 0 t) (blkOf VV a c 1 t) (blkOf VV a c 2 t) X

/-- The output's block after point `t` (before the first point it may hold anything: here the input's block). -/
def outv (c : Dev nD) (t : ℕ) : Vec F S512x1024 .bf16 :=
  if h : t < (cfg0 a).N then stepAt VV a c ⟨t, h⟩ (if t = 0 then blkOf VV a c 0 ⟨t, h⟩ else outv c (t - 1))
  else blkOf VV a c 0 ⟨0, by show 0 < grid0.N; rw [N_0]; decide⟩
termination_by t

/-- The proof data. -/
def dats (c : Dev nD) : Dat τ (Elt F) Unit ℕ (UR sig nD τ) ℕ (cfg0 a) c where
  A w := VV c (Pipeline.arrRef spec0 w)
  after w t := match w with
    | ⟨0, _⟩ => blkOf VV a c 0 t
    | ⟨1, _⟩ => blkOf VV a c 1 t
    | ⟨2, _⟩ => blkOf VV a c 2 t
    | ⟨3, _⟩ => outv VV a c t.val
  Φ _ := iprop(Pipeline.ΦA spec0 c ∗ Pipeline.ΦT pre0 a.1 c)
  q _ := fullShare
  owed _ := 0

theorem A_eq (c : Dev nD) (w : Fin 4) : (dats VV a c).A w = VV c (Pipeline.arrRef spec0 w) := by dsimp only [dats]
theorem after_0 (c : Dev nD) (t : Fin (cfg0 a).N) : (dats VV a c).after 0 t = blkOf VV a c 0 t := by dsimp only [dats]; rfl
theorem after_1 (c : Dev nD) (t : Fin (cfg0 a).N) : (dats VV a c).after 1 t = blkOf VV a c 1 t := by dsimp only [dats]; rfl
theorem after_2 (c : Dev nD) (t : Fin (cfg0 a).N) : (dats VV a c).after 2 t = blkOf VV a c 2 t := by dsimp only [dats]; rfl
theorem after_3 (c : Dev nD) (t : Fin (cfg0 a).N) : (dats VV a c).after 3 t = outv VV a c t.val := by dsimp only [dats]; rfl

theorem before_0 (c : Dev nD) (t : Fin (cfg0 a).N) (d) : (dats VV a c).before 0 t d = blkOf VV a c 0 t :=
  ((dats VV a c).before_in_eq_fetched 0 rfl (fun _ => rfl) (fun _ _ _ => rfl) (fun t => by rw [after_0]; unfold Dat.blockOf blkOf; rw [A_eq]; try rfl) t d).trans
    (by unfold Dat.fetched Dat.blockOf blkOf; rw [A_eq]; try rfl)
theorem before_1 (c : Dev nD) (t : Fin (cfg0 a).N) (d) : (dats VV a c).before 1 t d = blkOf VV a c 1 t :=
  ((dats VV a c).before_in_eq_fetched 1 rfl (fun _ => rfl) (fun _ _ _ => rfl) (fun t => by rw [after_1]; unfold Dat.blockOf blkOf; rw [A_eq]; try rfl) t d).trans
    (by unfold Dat.fetched Dat.blockOf blkOf; rw [A_eq]; try rfl)
theorem before_2 (c : Dev nD) (t : Fin (cfg0 a).N) (d) : (dats VV a c).before 2 t d = blkOf VV a c 2 t :=
  ((dats VV a c).before_in_eq_fetched 2 rfl (fun _ => rfl) (fun _ _ _ => rfl) (fun t => by rw [after_2]; unfold Dat.blockOf blkOf; rw [A_eq]; try rfl) t d).trans
    (by unfold Dat.fetched Dat.blockOf blkOf; rw [A_eq]; try rfl)

/-- The windows' current staging buffers. -/
abbrev st0 (t : Fin (cfg0 a).N) : Memref sig .tc .vmem S512x1024 .bf16 := spec0_0.stage ((cfg0 a).slots t 0)
abbrev st1 (t : Fin (cfg0 a).N) : Memref sig .tc .vmem S1x1024x512 .bf16 := spec0_1.stage ((cfg0 a).slots t 1)
abbrev st2 (t : Fin (cfg0 a).N) : Memref sig .tc .vmem S1x256x1024 .bf16 := spec0_2.stage ((cfg0 a).slots t 2)
abbrev st3 (t : Fin (cfg0 a).N) : Memref sig .tc .vmem S512x1024 .bf16 := spec0_3.stage ((cfg0 a).slots t 3)

/-- The body at a point. -/
def bodyAt (t : Fin (cfg0 a).N) : Prog (TpuEff nD τ sig (Elt F) Λ₀ .tc) PUnit :=
  cc0_routed_experts (grid0.coords t) (Memref.whole main_v37) (Memref.isWhole_whole _)
          (Memref.whole main_v58) (Memref.isWhole_whole _) (Memref.whole main_v70) (Memref.isWhole_whole _) (Memref.whole main_v90) (Memref.isWhole_whole _)
          (Memref.whole main_v96) (Memref.isWhole_whole _) (st0 a t) (hstage0_0 (((cfg0 a).slots t 0).cast nbuf0_0)) (st1 a t) (hstage0_1 (((cfg0 a).slots t 1).cast nbuf0_1))
          (st2 a t) (hstage0_2 (((cfg0 a).slots t 2).cast nbuf0_2)) (st3 a t) (hstage0_3 (((cfg0 a).slots t 3).cast nbuf0_3))

theorem defs₀_row (t : Fin (cfg0 a).N) :
    defs₀ (F := F) .tc (cfg0 a).body ((cfg0 a).bodyArgs t ((cfg0 a).slots t)) = bodyAt a t := by
  unfold defs₀ bodyAt; rw [Defs.onTc_tc]

/-- The body at a point, whatever the output's block holds. -/
theorem sound_body (c : Dev nD) (t : Fin (cfg0 a).N) (X : Vec F S512x1024 .bf16) (K : sProp 𝕄)
    (hK : owns (c : Thread nD τ) (st3 a t) fullShare (stepAt VV a c t X) ⊢ K) :
    iprop((dats VV a c).Φ t.castSucc ∗ (dats VV a c).owesAt () t.castSucc
      ∗ (∃ d, owns (c : Thread nD τ) (st0 a t) fullShare ((dats VV a c).before 0 t d))
      ∗ (∃ d, owns (c : Thread nD τ) (st1 a t) fullShare ((dats VV a c).before 1 t d))
      ∗ (∃ d, owns (c : Thread nD τ) (st2 a t) fullShare ((dats VV a c).before 2 t d))
      ∗ owns (c : Thread nD τ) (st3 a t) fullShare X)
    ⊢ wp frame (wpE (defs₀ (F := F)) Variants.none c none) Set.univ (bodyAt a t) (fun _ =>
      iprop((dats VV a c).Φ t.succ ∗ (dats VV a c).owesAt () t.succ
      ∗ owns (c : Thread nD τ) (st0 a t) fullShare ((dats VV a c).after 0 t)
      ∗ owns (c : Thread nD τ) (st1 a t) fullShare ((dats VV a c).after 1 t)
      ∗ owns (c : Thread nD τ) (st2 a t) fullShare ((dats VV a c).after 2 t)
      ∗ K)) := by
  unfold bodyAt
  simp only [before_0, before_1, before_2]
  rw [show (dats VV a c).Φ t.succ = (dats VV a c).Φ t.castSucc from rfl,
    show (dats VV a c).owesAt () t.succ = (dats VV a c).owesAt () t.castSucc from rfl, after_0, after_1, after_2,
    show (dats VV a c).Φ t.castSucc = iprop(Pipeline.ΦA spec0 c ∗ Pipeline.ΦT pre0 a.1 c) from rfl, PhiT_eq]
  iintro ⟨⟨HA, T0, T1, T2, T3, T4⟩, Ho, ⟨%d0, H0⟩, ⟨%d1, H1⟩, ⟨%d2, H2⟩, H3⟩
  iapply (sound_kernel c Set.univ (grid0.coords t) (a.1 0) (a.1 1) (a.1 2) (a.1 3) (a.1 4) _ _ _ _ _ _ _ _ (blkOf VV a c 0 t) (blkOf VV a c 1 t) (blkOf VV a c 2 t) X _)
  isplitl [T2 T3 T4]
  · isplitl [T2]; · iexact T2
    isplitl [T3]; · iexact T3
    iexact T4
  isplitl [H0]; · iexact H0
  isplitl [H1]; · iexact H1
  isplitl [H2]; · iexact H2
  isplitl [H3]; · iexact H3
  iintro ⟨⟨T2, T3, T4⟩, H0, H1, H2, H3⟩
  isplitl [HA T0 T1 T2 T3 T4]
  · isplitl [HA]; · iexact HA
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  iapply ((show owns (c : Thread nD τ) (st3 a t) fullShare (step (ent (a.1 2) (grid0.coords t)) (ent (a.1 3) (grid0.coords t)) (ent (a.1 4) (grid0.coords t)) (blkOf VV a c 0 t) (blkOf VV a c 1 t) (blkOf VV a c 2 t) X) ⊢ K from hK)) $$ H3

/-- The output is the window whose contents are forgotten. -/
abbrev fgt : Fin 4 → Bool := fun | 0 => false | 1 => false | 2 => false | 3 => true | ⟨_ + 4, h⟩ => absurd h (Nat.not_lt.2 (Nat.le_add_left _ _))

/-- The body's obligation, the output forgotten. -/
theorem body_forget (c : Dev nD) : BodyObligationLoose (dats VV a c) (defs₀ (F := F)) Variants.none () Set.univ fgt := fun t => by
  rw [bigSep_W0, bigSep_W0, defs₀_row]
  refine triple_restated (P := iprop(∃ X : Vec F S512x1024 .bf16, (dats VV a c).Φ t.castSucc ∗ (dats VV a c).owesAt () t.castSucc
      ∗ (∃ d, owns (c : Thread nD τ) (st0 a t) fullShare ((dats VV a c).before 0 t d))
      ∗ (∃ d, owns (c : Thread nD τ) (st1 a t) fullShare ((dats VV a c).before 1 t d))
      ∗ (∃ d, owns (c : Thread nD τ) (st2 a t) fullShare ((dats VV a c).before 2 t d))
      ∗ owns (c : Thread nD τ) (st3 a t) fullShare X)) ?_ rfl ?_ fun _ => .rfl
  · iintro ⟨%X, H⟩
    iapply (sound_body VV a c t X iprop(∃ X, owns (c : Thread nD τ) (st3 a t) fullShare X) ?_) $$ H
    iintro H; iexists _; iexact H
  · iintro ⟨H, Ho, H0, H1, H2, %X, H3⟩
    iexists X
    isplitl [H]; · iexact H
    isplitl [Ho]; · iexact Ho
    isplitl [H0]; · iexact H0
    isplitl [H1]; · iexact H1
    isplitl [H2]; · iexact H2
    iexact H3

/-! ## The tables of a memory, and the frame -/

variable (m : (ℓ : Loc nD τ sig) → Buf (Elt F) ℓ) (ρ : Dev nD → PrngReg)

/-- Every block the tables name lies in its array. -/
abbrev Ok : Prop := ok0 (F := F) (tbl m)
abbrev adm (hO : Ok m) : (pcfg0 (F := F)).Adm := ⟨tbl m, hO⟩

set_option backward.isDefEq.respectTransparency.types false in
set_option maxHeartbeats 800000 in
/-- The run, the output forgotten. -/
theorem run_forget (hO : Ok m) : θ_run defs (onTc (τ := τ) (main (F := F))) (s₀ m ρ) (fun r =>
    (Pipeline.RDat.FramePost (cfg0 (adm m hO)) (fun c => (dats (V m) (adm m hO) c).toRForget fgt) (V m)) r ∧ r.2.sem = fun _ => 0) :=
  Pipeline.θ_run_frameP_forget (Q' := _) (pcfgs (F := F)) (fun _ => adm m hO) (fun _ c => dats (V m) (adm m hO) c) (0 : Fin 1) launch0 defs₀ Variants.none fgt m ρ main
    (hbody := fun c => body_forget (V m) (adm m hO) c) (hshare := fun c => (dats (V m) (adm m hO) c).share_full fun _ => rfl)
    (howed := fun _ _ => rfl) (V := V m) (hmain := hmain m Variants.none) (hA := A_eq (V m) (adm m hO)) (hpf := V_pre m) (hΦ := fun _ _ => rfl)

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)

/-- The frame: the arguments end unchanged and no semaphore is left up. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (rest_arg0)).trans (V_main_arg0 m c),
     ((h.1 c).2 main_arg1 (rest_arg1)).trans (V_main_arg1 m c),
     ((h.1 c).2 main_arg2 (rest_arg2)).trans (V_main_arg2 m c),
     ((h.1 c).2 main_arg3 (rest_arg3)).trans (V_main_arg3 m c)⟩, h.2⟩) (run_forget m ρ hO)

end Cert.ExpertsIdeal.Hand
end
-- ==== Proof.Experts.Exact.lean ====
module
public import proofs.«01_k».proof.Proof.Experts.Data
public import Idealize.ShloMosaic.Lib.Pipeline.ValueKit.Geometry
public import Idealize.ShloMosaic.Lib.Pipeline.Covers
/-!
# The routed experts' call: the run with the output named

Where every point that is marked the first of its block has rows to work on, and every other point works on the block of the
point before it, the output's block after a point is `outv`, and the array at the end is what the last points of its blocks left.
-/
@[expose] public section
set_option maxRecDepth 16384
noncomputable section
namespace Cert.ExpertsIdeal.Hand
open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ
variable (VV : (c : Dev nD) → (b : Ref sig .tc) → Buf (Elt F) ((c : Thread nD τ).loc b)) (a : (pcfg0 (F := F)).Adm)

theorem atD_lo (i : grid0.Coords) : a.1.atD 2 (k0_off1 i) = ent (tLo a) i := by
  unfold Pipeline.Prefetch.Contents.atD
  split
  · refine congrArg (tLo a) ?_
    funext b; apply Fin.ext; fin_cases b; rfl
  · rename_i h
    exact absurd (fun b => by fin_cases b; exact k0_off1_inb i 0) h
theorem atD_hi (i : grid0.Coords) : a.1.atD 3 (k0_off1 i) = ent (tHi a) i := by
  unfold Pipeline.Prefetch.Contents.atD
  split
  · refine congrArg (tHi a) ?_
    funext b; apply Fin.ext; fin_cases b; rfl
  · rename_i h
    exact absurd (fun b => by fin_cases b; exact k0_off1_inb i 0) h
theorem atD_fi (i : grid0.Coords) : a.1.atD 4 (k0_off1 i) = ent (tFi a) i := by
  unfold Pipeline.Prefetch.Contents.atD
  split
  · refine congrArg (tFi a) ?_
    funext b; apply Fin.ext; fin_cases b; rfl
  · rename_i h
    exact absurd (fun b => by fin_cases b; exact k0_off1_inb i 0) h
theorem atD_fi2 (i : grid0.Coords) : a.1.atD 4 (k0_off2 i) = ent (tFi a) i := atD_fi a i

/-- At an idle point the body leaves the block as it was. -/
theorem step_idle (c : Dev nD) (t : Fin (cfg0 a).N) (X : Vec F S512x1024 .bf16)
    (h : (cfg0 a).idle 3 ((cfg0 a).grid.coords t) = true) : stepAt VV a c t X = X := by
  have h' : (!(k0_cond1 (a.1.atD 2 (k0_off1 (grid0.coords t))) (a.1.atD 3 (k0_off1 (grid0.coords t))) (a.1.atD 4 (k0_off1 (grid0.coords t))) == 1#1)
      && !(k0_cond2 (a.1.atD 2 (k0_off1 (grid0.coords t))) (a.1.atD 3 (k0_off1 (grid0.coords t))) (a.1.atD 4 (k0_off2 (grid0.coords t))) == 1#1)) = true := h
  rw [atD_lo, atD_hi, atD_fi, atD_fi2, Bool.and_eq_true, Bool.not_eq_true', Bool.not_eq_true', beq_eq_false_iff_ne, beq_eq_false_iff_ne] at h'
  unfold stepAt step
  rw [if_neg h'.2, if_neg h'.1]

/-- The word that names the block of a point. -/
abbrev blkWord (t : Fin (cfg0 a).N) : BitVec 32 := ent (a.1 1) (grid0.coords t)
abbrev fiWord (t : Fin (cfg0 a).N) : BitVec 32 := ent (a.1 4) (grid0.coords t)

variable (hfirst : ∀ t : Fin (cfg0 a).N, fiWord a t = 1#32 →
    k0_cond1 (ent (tLo a) (grid0.coords t)) (ent (tHi a) (grid0.coords t)) (ent (tFi a) (grid0.coords t)) = 1#1)
  (hrest : ∀ t : Fin (cfg0 a).N, fiWord a t ≠ 1#32 → t.val ≠ 0 ∧ ∀ h : t.val - 1 < (cfg0 a).N, blkWord a ⟨t.val - 1, h⟩ = blkWord a t)

theorem index3 (t : Fin (cfg0 a).N) : ((cfg0 a).win 3).index t = ![(blkWord a t).toNat, 0] := rfl

/-- A buffer that was neither fetched nor written back holds what the point before left, or found where it was idle. -/
theorem before_carried {cfg : Cfg sig Λ₀} {c : Dev nD} (dat : Dat τ (Elt F) Unit ℕ (UR sig nD τ) ℕ cfg c) (w : Fin cfg.W) (t : Fin cfg.N) (d)
    (hlt : t.val - 1 < cfg.N) (hf : (cfg.win w).fetch t = false) (h0 : t.val ≠ 0) (hfl : (cfg.win w).flush ⟨t.val - 1, hlt⟩ = false) :
    (cfg.idle w (cfg.grid.coords ⟨t.val - 1, hlt⟩) = true → dat.before w t d = dat.before w ⟨t.val - 1, hlt⟩ d)
    ∧ (cfg.idle w (cfg.grid.coords ⟨t.val - 1, hlt⟩) = false → dat.before w t d = dat.kept w ⟨t.val - 1, hlt⟩ d) := by
  constructor
  · intro hi
    conv_lhs => unfold Dat.before
    rw [if_neg (by rw [hf]; exact Bool.false_ne_true), if_neg h0]
    dsimp only
    rw [if_neg (by rw [hfl]; exact Bool.false_ne_true), hi]
    dsimp only
    rw [Dat.found_eq_before]
  · intro hi
    conv_lhs => unfold Dat.before
    rw [if_neg (by rw [hf]; exact Bool.false_ne_true), if_neg h0]
    dsimp only
    rw [if_neg (by rw [hfl]; exact Bool.false_ne_true), hi]

/-- What the output's block holds before the body runs. -/
def bef (c : Dev nD) (t : Fin (cfg0 a).N) (d : Vec F S512x1024 .bf16) : Vec F S512x1024 .bf16 := (dats VV a c).before 3 t d

include hfirst in
/-- At the first point of a block the body ignores what it finds. -/
theorem step_first (c : Dev nD) (t : Fin (cfg0 a).N) (hf : fiWord a t = 1#32) (X Y : Vec F S512x1024 .bf16) :
    stepAt VV a c t X = stepAt VV a c t Y := by
  have h1 := hfirst t hf
  unfold stepAt step
  simp only [if_pos h1]

include hrest in
theorem bef_rest (c : Dev nD) (t : Fin (cfg0 a).N) (hf : fiWord a t ≠ 1#32) (hlt : t.val - 1 < (cfg0 a).N) (d : Vec F S512x1024 .bf16)
    (h0 : stepAt VV a c ⟨t.val - 1, hlt⟩ (bef VV a c ⟨t.val - 1, hlt⟩ d) = outv VV a c (t.val - 1)) :
    bef VV a c t d = outv VV a c (t.val - 1) := by
  have hb := (hrest t hf).2 hlt
  have hne := (hrest t hf).1
  have hfl : ((cfg0 a).win 3).flush ⟨t.val - 1, hlt⟩ = false := by
    unfold Window.flush
    have e1 : ¬(t.val - 1 + 1 = grid0.N) := by
      have h1 : t.val < grid0.N := t.isLt
      omega
    rw [Bool.and_eq_false_iff]; right
    rw [Bool.or_eq_false_iff]
    refine ⟨decide_eq_false e1, decide_eq_false ?_⟩
    rintro ⟨h, hne'⟩
    apply hne'
    have e : (⟨t.val - 1 + 1, h⟩ : Fin (cfg0 a).N) = t := Fin.ext (by show t.val - 1 + 1 = t.val; omega)
    show ![(blkWord a ⟨t.val - 1 + 1, h⟩).toNat, 0] = ![(blkWord a ⟨t.val - 1, hlt⟩).toNat, 0]
    rw [hb, e]
  have hc := before_carried (dats VV a c) 3 t d hlt rfl hne hfl
  cases hi : (cfg0 a).idle 3 ((cfg0 a).grid.coords ⟨t.val - 1, hlt⟩) with
  | true =>
    exact (hc.1 hi).trans ((step_idle VV a c _ _ hi).symm.trans h0)
  | false =>
    exact (hc.2 hi).trans (after_3 VV a c ⟨t.val - 1, hlt⟩)

include hfirst hrest in
/-- What the body leaves is `outv`, whatever the block held at the start. -/
theorem step_before (c : Dev nD) : ∀ (n : ℕ) (t : Fin (cfg0 a).N), t.val = n → ∀ d : Vec F S512x1024 .bf16,
    stepAt VV a c t (bef VV a c t d) = outv VV a c t.val := by
  intro n
  induction n with
  | zero =>
    intro t ht d
    have hf : fiWord a t = 1#32 := by
      by_contra h; exact (hrest t h).1 ht
    rw [outv, dif_pos t.isLt]
    exact step_first VV a hfirst c t hf _ _
  | succ n ih =>
    intro t ht d
    rw [outv, dif_pos t.isLt, if_neg (by omega)]
    by_cases hf : fiWord a t = 1#32
    · exact step_first VV a hfirst c t hf _ _
    · have hlt : t.val - 1 < (cfg0 a).N := lt_of_le_of_lt (Nat.sub_le _ _) t.isLt
      rw [bef_rest VV a hrest c t hf hlt d (ih ⟨t.val - 1, hlt⟩ (by show t.val - 1 = n; omega) d)]

include hfirst hrest in
/-- What the body leaves is what its obligation asks for. -/
theorem leaves_exact (c : Dev nD) (t : Fin (cfg0 a).N) (d : Vec F S512x1024 .bf16) :
    owns (c : Thread nD τ) (st3 a t) fullShare (stepAt VV a c t (bef VV a c t d)) ⊢ ((dats VV a c).leaves 3 t : sProp 𝕄) := by
  have live : owns (c : Thread nD τ) (st3 a t) fullShare (stepAt VV a c t (bef VV a c t d))
      ⊢ (owns (c : Thread nD τ) (st3 a t) fullShare (outv VV a c t.val) : sProp 𝕄) := by
    rw [step_before VV a hfirst hrest c _ t rfl d]
  unfold Dat.leaves
  cases hi : (cfg0 a).idle 3 ((cfg0 a).grid.coords t) with
  | true =>
    cases hf : ((cfg0 a).win 3).flush t with
    | true => exact live
    | false =>
      have h : owns (c : Thread nD τ) (st3 a t) fullShare (stepAt VV a c t (bef VV a c t d))
          ⊢ (iprop(∃ d : Vec F S512x1024 .bf16, owns (c : Thread nD τ) (st3 a t) fullShare (bef VV a c t d)) : sProp 𝕄) := by
        rw [step_idle VV a c t _ hi]
        iintro H; iexists d; iexact H
      exact h
  | false => exact live

include hfirst hrest in
/-- The body's obligation, the output named. -/
theorem body_exact (c : Dev nD) : BodyObligationLoose (dats VV a c) (defs₀ (F := F)) Variants.none () Set.univ := fun t => by
  rw [bigSep_W0, bigSep_W0, defs₀_row]
  refine triple_restated (P := iprop(∃ d : Vec F S512x1024 .bf16, (dats VV a c).Φ t.castSucc ∗ (dats VV a c).owesAt () t.castSucc
      ∗ (∃ d, owns (c : Thread nD τ) (st0 a t) fullShare ((dats VV a c).before 0 t d))
      ∗ (∃ d, owns (c : Thread nD τ) (st1 a t) fullShare ((dats VV a c).before 1 t d))
      ∗ (∃ d, owns (c : Thread nD τ) (st2 a t) fullShare ((dats VV a c).before 2 t d))
      ∗ owns (c : Thread nD τ) (st3 a t) fullShare (bef VV a c t d))) ?_ rfl ?_ fun _ => .rfl
  · iintro ⟨%d, H⟩
    iapply (sound_body VV a c t (bef VV a c t d) ((dats VV a c).leaves 3 t) (leaves_exact VV a hfirst hrest c t d)) $$ H
  · iintro ⟨H, Ho, H0, H1, H2, %d, H3⟩
    iexists d
    isplitl [H]; · iexact H
    isplitl [Ho]; · iexact Ho
    isplitl [H0]; · iexact H0
    isplitl [H1]; · iexact H1
    isplitl [H2]; · iexact H2
    iexact H3

/-- The array at the end, from what the last points of the blocks leave. -/
theorem arr_eq (c : Dev nD) (G : S528384x1024.Idx → Elt F .bf16)
    (hcov : ∀ β : ℕ, β < 1032 → ∃ t : Fin (cfg0 a).N, (blkWord a t).toNat = β)
    (hG : ∀ t : Fin (cfg0 a).N, ((cfg0 a).win 3).flush t = true → ∀ (y : S512x1024.Idx) (i : S528384x1024.Idx),
      (i 0).val = (blkWord a t).toNat * 512 + (y 0).val → (i 1).val = (y 1).val → outv VV a c t.val y = G i) :
    (dats VV a c).arrAt 3 (cfg0 a).N = G := by
  funext i
  refine (dats VV a c).arrAt_forall_of_cover 3 (fun i v => v = G i) ?_ ?_ i
  · intro t hf y
    show outv VV a c t.val y = _
    refine hG t hf y _ ?_ ?_
    · exact (Window.rect_emb_val ((cfg0 a).win 3) t y (0 : Fin 2))
    · refine (Window.rect_emb_val ((cfg0 a).win 3) t y (1 : Fin 2)).trans ?_
      show 0 * _ + _ = _
      omega
  · refine (Pipeline.Window.covers_of_index_surj (w := (cfg0 a).win 3) rfl (by intro b; fin_cases b; exacts [(by decide : 0 < 512), (by decide : 0 < 1024)]) ?_).cover _ (Memref.isWhole_whole _)
    intro β
    have hn0 : (β (0 : Fin 2)).val < 1032 := by
      have h1 := (β (0 : Fin 2)).isLt
      refine lt_of_lt_of_eq h1 ?_
      show (528384 + 512 - 1) / 512 = 1032
      norm_num
    obtain ⟨t, ht⟩ := hcov (β (0 : Fin 2)).val hn0
    refine ⟨t, fun b => ?_⟩
    fin_cases b
    · exact ht
    · have h1 : (β (1 : Fin 2)).val < 1 := by
        refine lt_of_lt_of_eq (β (1 : Fin 2)).isLt ?_
        show (1024 + 1024 - 1) / 1024 = 1
        norm_num
      show 0 = (β (1 : Fin 2)).val
      omega

end Cert.ExpertsIdeal.Hand
end
-- ==== Proof.Experts.Words.lean ====
module
public import proofs.«01_k».proof.Proof.Experts.Run
/-!
# The routed experts' call: the host operations' results, one by one

Every buffer the host operations write, as the operation's function of the buffers it reads.
-/
@[expose] public section
set_option maxRecDepth 16384
set_option maxHeartbeats 400000
noncomputable section
namespace Cert.ExpertsIdeal.Hand
open Cert.ExpertsIdeal Cert.ExpertsIdeal.Gen
open Idealize.ShloMosaic Idealize.ShloMosaic.TcCoe

variable {F : FTy → Type} [FloatOps F]
variable (m : (ℓ : Loc nD τ sig) → Buf (Elt F) ℓ)

/-- The buffers the host operations write, in order. -/
abbrev Wr : List (Ref sig .tc) :=
  [main_v0, main_v1, main_v2_0, main_v2_1, main_v3, main_v4, main_v5, main_v6, main_v7, main_v8, main_v9, main_c, main_v10, main_v11, main_v12, main_v13, main_v14, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v15, main_c_1, main_v16, main_v17, main_v18, main_c_2, main_v19, main_v20, main_c_3, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v21, main_v22, main_c_4, main_v23, main_v24, main_c_5, main_call2_v0, main_call2_v1, main_v25, main_call3_call0_c, main_call3_call0_v0, main_v26, main_v27, main_v28, main_v29, main_v30, main_v31, main_v32, main_v33, main_v34, main_c_6, main_v35, main_c_7, main_v36, main_v37, main_v38, main_v39, main_v40, main_v41, main_c_8, main_v42, main_v43, main_c_9, main_v44, main_v45, main_v46, main_v47, main_v48, main_v49, main_c_10, main_v50, main_v51, main_c_11, main_v52, main_v53, main_v54, main_v55, main_v56, main_v57, main_c_12, main_call4_v0, main_call4_v1, main_v58, main_c_13, main_v59, main_v60, main_c_14, main_v61, main_v62, main_c_15, main_v63, main_v64, main_v65, main_v66, main_v67, main_v68, main_v69, main_c_16, main_call5_v0, main_call5_v1, main_v70, main_c_17, main_v71, main_v72, main_c_18, main_v73, main_v74, main_v75, main_v76, main_v77, main_c_19, main_v78, main_v79, main_c_20, main_v80, main_v81, main_v82, main_v83, main_v84, main_v85, main_c_21, main_v86, main_v87, main_v88, main_v89, main_c_22, main_call6_v0, main_call6_v1, main_v90, main_c_23, main_v91, main_v92, main_v93, main_v94, main_v95, main_v96, main_v97, main_cst, main_v98, main_v99, main_c_24, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v100, main_c_25, main_v101, main_v102, main_c_26, main_v103, main_v104, main_v105, main_v106, main_v107, main_v108, main_v109]

theorem Wr_sub : ((opss (F := F)).flatten).map HloOp.writes = Wr.map fun r => {Proc.devRef (τ := τ) .tc r} := rfl

/-- The buffers after the first `n` host operations. -/
def X (c : Dev nD) (n : ℕ) : Valuation τ sig (Elt F) :=
  StableHlo.after ((opss (F := F)).flatten.take n) (fun b => m (c, b))

theorem sub_drop (n : ℕ) : ((opss (F := F)).flatten.drop n).Forall fun op =>
    op.writes ⊆ ((Wr.drop n).map (Proc.devRef (τ := τ) .tc)).toFinset :=
  StableHlo.forall_writes_sub_of_map (by rw [List.map_drop, Wr_sub, List.map_drop])

/-- A buffer the later operations do not write keeps its contents. -/
theorem X_at (c : Dev nD) (n : ℕ) {r : Ref sig .tc} (h : r ∉ Wr.drop n) :
    V m c r = X m c n (Proc.devRef .tc r) := by
  have e : V m c r = StableHlo.after ((opss (F := F)).flatten.drop n) (X m c n) (Proc.devRef .tc r) := by
    unfold V X
    rw [← StableHlo.after_append, List.take_append_drop]
  rw [e]
  exact StableHlo.after_of_writes_sub _ _ (sub_drop n) h

theorem X_succ (c : Dev nD) (n : ℕ) {op : HloOp τ sig (Elt F)} (hn : (opss (F := F)).flatten[n]? = some op) :
    X m c (n + 1) = op.result (X m c n) := by
  unfold X
  obtain ⟨h, rfl⟩ := List.getElem?_eq_some_iff.mp hn
  rw [List.take_succ_eq_append_getElem h, StableHlo.after_append]
  rfl

theorem V_nu (c : Dev nD) (n : ℕ) {y : Ref sig .tc} {v : y.ty.Contents (Elt F)} {hy}
    (hn : (opss (F := F)).flatten[n]? = some (StableHlo.nullary y v hy)) (h : y ∉ Wr.drop (n + 1)) : V m c y = v := by
  rw [X_at m c (n + 1) h, X_succ m c n hn]
  exact StableHlo.nullary_result' v hy _

theorem V_un (c : Dev nD) (n : ℕ) {x y : Ref sig .tc} {f : x.ty.Contents (Elt F) → y.ty.Contents (Elt F)} {hx hy}
    (hn : (opss (F := F)).flatten[n]? = some (StableHlo.unary x y f hx hy)) (h : y ∉ Wr.drop (n + 1))
    (h1 : x ∉ Wr.drop n) : V m c y = f (V m c x) := by
  rw [X_at m c (n + 1) h, X_succ m c n hn, X_at m c n h1]
  exact StableHlo.unary_result' f hx hy _

theorem V_re (c : Dev nD) (n : ℕ) {x y : Ref sig .tc} {he hn' hx hy}
    (hn : (opss (F := F)).flatten[n]? = some (StableHlo.reshape x y he hn' hx hy)) (h : y ∉ Wr.drop (n + 1))
    (h1 : x ∉ Wr.drop n) : V m c y = fun i => he ▸ shapeCast y.ty.shape (V m c x) hn' i := by
  rw [X_at m c (n + 1) h, X_succ m c n hn, X_at m c n h1]
  exact StableHlo.reshape_result' he hn' hx hy _

theorem V_bi (c : Dev nD) (n : ℕ) {a b y : Ref sig .tc}
    {f : a.ty.Contents (Elt F) → b.ty.Contents (Elt F) → y.ty.Contents (Elt F)} {ha hb hy}
    (hn : (opss (F := F)).flatten[n]? = some (StableHlo.binary a b y f ha hb hy)) (h : y ∉ Wr.drop (n + 1))
    (h1 : a ∉ Wr.drop n) (h2 : b ∉ Wr.drop n) : V m c y = f (V m c a) (V m c b) := by
  rw [X_at m c (n + 1) h, X_succ m c n hn, X_at m c n h1, X_at m c n h2]
  exact StableHlo.binary_result' f ha hb hy _

theorem V_te (c : Dev nD) (n : ℕ) {p a b y : Ref sig .tc}
    {f : p.ty.Contents (Elt F) → a.ty.Contents (Elt F) → b.ty.Contents (Elt F) → y.ty.Contents (Elt F)} {hp ha hb hy}
    (hn : (opss (F := F)).flatten[n]? = some (StableHlo.ternary p a b y f hp ha hb hy)) (h : y ∉ Wr.drop (n + 1))
    (h0 : p ∉ Wr.drop n) (h1 : a ∉ Wr.drop n) (h2 : b ∉ Wr.drop n) : V m c y = f (V m c p) (V m c a) (V m c b) := by
  rw [X_at m c (n + 1) h, X_succ m c n hn, X_at m c n h0, X_at m c n h1, X_at m c n h2]
  exact StableHlo.ternary_result' f hp ha hb hy _

def w_arg1 (c : Dev nD) : IVec S66048x8 32 := V m c main_arg1
def w_v0 (c : Dev nD) : IVec S528384 32 := V m c main_v0
def w_v1 (c : Dev nD) : IVec S528384 32 := V m c main_v1
def w_v2_0 (c : Dev nD) : IVec S528384 32 := V m c main_v2_0
def w_v2_1 (c : Dev nD) : IVec S528384 32 := V m c main_v2_1
def w_v3 (c : Dev nD) : IVec S257 32 := V m c main_v3
def w_v4 (c : Dev nD) : IVec S1x528384 32 := V m c main_v4
def w_v5 (c : Dev nD) : IVec S257x1 32 := V m c main_v5
def w_v6 (c : Dev nD) : IVec S257x528384 32 := V m c main_v6
def w_v7 (c : Dev nD) : IVec S257x528384 32 := V m c main_v7
def w_v8 (c : Dev nD) : IVec S257x528384 1 := V m c main_v8
def w_v9 (c : Dev nD) : IVec S257x528384 32 := V m c main_v9
def w_c (c : Dev nD) : IVec S_ 32 := V m c main_c
def w_v10 (c : Dev nD) : IVec S257 32 := V m c main_v10
def w_v11 (c : Dev nD) : IVec S256 32 := V m c main_v11
def w_v12 (c : Dev nD) : IVec S256 32 := V m c main_v12
def w_v13 (c : Dev nD) : IVec S256 32 := V m c main_v13
def w_v14 (c : Dev nD) : IVec S256 32 := V m c main_v14
def w_c_0 (c : Dev nD) : IVec S_ 32 := V m c main_c_0
def w_call0_v0 (c : Dev nD) : IVec S_ 32 := V m c main_call0_v0
def w_call0_v1 (c : Dev nD) : IVec S256 32 := V m c main_call0_v1
def w_call0_v2 (c : Dev nD) : IVec S256 32 := V m c main_call0_v2
def w_call0_v3 (c : Dev nD) : IVec S256 32 := V m c main_call0_v3
def w_call0_v4 (c : Dev nD) : IVec S_ 32 := V m c main_call0_v4
def w_call0_v5 (c : Dev nD) : IVec S256 32 := V m c main_call0_v5
def w_call0_v6 (c : Dev nD) : IVec S256 1 := V m c main_call0_v6
def w_call0_v7 (c : Dev nD) : IVec S256 32 := V m c main_call0_v7
def w_call0_v8 (c : Dev nD) : IVec S256 32 := V m c main_call0_v8
def w_call0_c (c : Dev nD) : IVec S_ 32 := V m c main_call0_c
def w_call0_v9 (c : Dev nD) : IVec S256 32 := V m c main_call0_v9
def w_call0_v10 (c : Dev nD) : IVec S256 1 := V m c main_call0_v10
def w_call0_v11 (c : Dev nD) : IVec S256 1 := V m c main_call0_v11
def w_call0_c_0 (c : Dev nD) : IVec S_ 32 := V m c main_call0_c_0
def w_call0_v12 (c : Dev nD) : IVec S256 32 := V m c main_call0_v12
def w_call0_v13 (c : Dev nD) : IVec S256 32 := V m c main_call0_v13
def w_v15 (c : Dev nD) : IVec S256 32 := V m c main_v15
def w_c_1 (c : Dev nD) : IVec S_ 32 := V m c main_c_1
def w_v16 (c : Dev nD) : IVec S256 32 := V m c main_v16
def w_v17 (c : Dev nD) : IVec S256 1 := V m c main_v17
def w_v18 (c : Dev nD) : IVec S256 32 := V m c main_v18
def w_c_2 (c : Dev nD) : IVec S_ 32 := V m c main_c_2
def w_v19 (c : Dev nD) : IVec S256 32 := V m c main_v19
def w_v20 (c : Dev nD) : IVec S256 32 := V m c main_v20
def w_c_3 (c : Dev nD) : IVec S_ 32 := V m c main_c_3
def w_call1_v0 (c : Dev nD) : IVec S_ 32 := V m c main_call1_v0
def w_call1_v1 (c : Dev nD) : IVec S256 32 := V m c main_call1_v1
def w_call1_v2 (c : Dev nD) : IVec S256 32 := V m c main_call1_v2
def w_call1_v3 (c : Dev nD) : IVec S256 32 := V m c main_call1_v3
def w_call1_v4 (c : Dev nD) : IVec S_ 32 := V m c main_call1_v4
def w_call1_v5 (c : Dev nD) : IVec S256 32 := V m c main_call1_v5
def w_call1_v6 (c : Dev nD) : IVec S256 1 := V m c main_call1_v6
def w_call1_v7 (c : Dev nD) : IVec S256 32 := V m c main_call1_v7
def w_call1_v8 (c : Dev nD) : IVec S256 32 := V m c main_call1_v8
def w_call1_c (c : Dev nD) : IVec S_ 32 := V m c main_call1_c
def w_call1_v9 (c : Dev nD) : IVec S256 32 := V m c main_call1_v9
def w_call1_v10 (c : Dev nD) : IVec S256 1 := V m c main_call1_v10
def w_call1_v11 (c : Dev nD) : IVec S256 1 := V m c main_call1_v11
def w_call1_c_0 (c : Dev nD) : IVec S_ 32 := V m c main_call1_c_0
def w_call1_v12 (c : Dev nD) : IVec S256 32 := V m c main_call1_v12
def w_call1_v13 (c : Dev nD) : IVec S256 32 := V m c main_call1_v13
def w_v21 (c : Dev nD) : IVec S256 32 := V m c main_v21
def w_v22 (c : Dev nD) : IVec S256 32 := V m c main_v22
def w_c_4 (c : Dev nD) : IVec S_ 32 := V m c main_c_4
def w_v23 (c : Dev nD) : IVec S256 32 := V m c main_v23
def w_v24 (c : Dev nD) : IVec S256 32 := V m c main_v24
def w_c_5 (c : Dev nD) : IVec S_ 32 := V m c main_c_5
def w_call2_v0 (c : Dev nD) : IVec S_ 32 := V m c main_call2_v0
def w_call2_v1 (c : Dev nD) : IVec S256 32 := V m c main_call2_v1
def w_v25 (c : Dev nD) : IVec S256 32 := V m c main_v25
def w_call3_call0_c (c : Dev nD) : IVec S_ 32 := V m c main_call3_call0_c
def w_call3_call0_v0 (c : Dev nD) : IVec S_ 32 := V m c main_call3_call0_v0
def w_v26 (c : Dev nD) : IVec S256 32 := V m c main_v26
def w_v27 (c : Dev nD) : IVec S256 32 := V m c main_v27
def w_v28 (c : Dev nD) : IVec S1287 32 := V m c main_v28
def w_v29 (c : Dev nD) : IVec S1x256 32 := V m c main_v29
def w_v30 (c : Dev nD) : IVec S1287x1 32 := V m c main_v30
def w_v31 (c : Dev nD) : IVec S1287x256 32 := V m c main_v31
def w_v32 (c : Dev nD) : IVec S1287x256 32 := V m c main_v32
def w_v33 (c : Dev nD) : IVec S1287x256 1 := V m c main_v33
def w_v34 (c : Dev nD) : IVec S1287x256 32 := V m c main_v34
def w_c_6 (c : Dev nD) : IVec S_ 32 := V m c main_c_6
def w_v35 (c : Dev nD) : IVec S1287 32 := V m c main_v35
def w_c_7 (c : Dev nD) : IVec S_ 32 := V m c main_c_7
def w_v36 (c : Dev nD) : IVec S1287 32 := V m c main_v36
def w_v37 (c : Dev nD) : IVec S1287 32 := V m c main_v37
def w_v38 (c : Dev nD) : IVec S1 32 := V m c main_v38
def w_v39 (c : Dev nD) : IVec S_ 32 := V m c main_v39
def w_v40 (c : Dev nD) : IVec S1287 32 := V m c main_v40
def w_v41 (c : Dev nD) : IVec S1287 1 := V m c main_v41
def w_c_8 (c : Dev nD) : IVec S_ 32 := V m c main_c_8
def w_v42 (c : Dev nD) : IVec S1287 32 := V m c main_v42
def w_v43 (c : Dev nD) : IVec S1287 1 := V m c main_v43
def w_c_9 (c : Dev nD) : IVec S_ 32 := V m c main_c_9
def w_v44 (c : Dev nD) : IVec S1287 32 := V m c main_v44
def w_v45 (c : Dev nD) : IVec S1287 32 := V m c main_v45
def w_v46 (c : Dev nD) : IVec S1287 32 := V m c main_v46
def w_v47 (c : Dev nD) : IVec S1287x1 32 := V m c main_v47
def w_v48 (c : Dev nD) : IVec S1287 32 := V m c main_v48
def w_v49 (c : Dev nD) : IVec S1287 32 := V m c main_v49
def w_c_10 (c : Dev nD) : IVec S_ 32 := V m c main_c_10
def w_v50 (c : Dev nD) : IVec S1287 32 := V m c main_v50
def w_v51 (c : Dev nD) : IVec S1287 1 := V m c main_v51
def w_c_11 (c : Dev nD) : IVec S_ 32 := V m c main_c_11
def w_v52 (c : Dev nD) : IVec S1287 32 := V m c main_v52
def w_v53 (c : Dev nD) : IVec S1287 32 := V m c main_v53
def w_v54 (c : Dev nD) : IVec S1287 32 := V m c main_v54
def w_v55 (c : Dev nD) : IVec S1287x1 32 := V m c main_v55
def w_v56 (c : Dev nD) : IVec S1287 32 := V m c main_v56
def w_v57 (c : Dev nD) : IVec S1287 32 := V m c main_v57
def w_c_12 (c : Dev nD) : IVec S_ 32 := V m c main_c_12
def w_call4_v0 (c : Dev nD) : IVec S_ 32 := V m c main_call4_v0
def w_call4_v1 (c : Dev nD) : IVec S1287 32 := V m c main_call4_v1
def w_v58 (c : Dev nD) : IVec S1287 32 := V m c main_v58
def w_c_13 (c : Dev nD) : IVec S_ 32 := V m c main_c_13
def w_v59 (c : Dev nD) : IVec S1287 32 := V m c main_v59
def w_v60 (c : Dev nD) : IVec S1287 32 := V m c main_v60
def w_c_14 (c : Dev nD) : IVec S_ 32 := V m c main_c_14
def w_v61 (c : Dev nD) : IVec S1287 32 := V m c main_v61
def w_v62 (c : Dev nD) : IVec S1287 1 := V m c main_v62
def w_c_15 (c : Dev nD) : IVec S_ 32 := V m c main_c_15
def w_v63 (c : Dev nD) : IVec S1287 32 := V m c main_v63
def w_v64 (c : Dev nD) : IVec S1287 32 := V m c main_v64
def w_v65 (c : Dev nD) : IVec S1287 32 := V m c main_v65
def w_v66 (c : Dev nD) : IVec S1287x1 32 := V m c main_v66
def w_v67 (c : Dev nD) : IVec S1287 32 := V m c main_v67
def w_v68 (c : Dev nD) : IVec S1287 32 := V m c main_v68
def w_v69 (c : Dev nD) : IVec S1287 32 := V m c main_v69
def w_c_16 (c : Dev nD) : IVec S_ 32 := V m c main_c_16
def w_call5_v0 (c : Dev nD) : IVec S_ 32 := V m c main_call5_v0
def w_call5_v1 (c : Dev nD) : IVec S1287 32 := V m c main_call5_v1
def w_v70 (c : Dev nD) : IVec S1287 32 := V m c main_v70
def w_c_17 (c : Dev nD) : IVec S_ 32 := V m c main_c_17
def w_v71 (c : Dev nD) : IVec S1287 32 := V m c main_v71
def w_v72 (c : Dev nD) : IVec S1287 1 := V m c main_v72
def w_c_18 (c : Dev nD) : IVec S_ 32 := V m c main_c_18
def w_v73 (c : Dev nD) : IVec S1287 32 := V m c main_v73
def w_v74 (c : Dev nD) : IVec S1287 32 := V m c main_v74
def w_v75 (c : Dev nD) : IVec S1287 32 := V m c main_v75
def w_v76 (c : Dev nD) : IVec S1287x1 32 := V m c main_v76
def w_v77 (c : Dev nD) : IVec S1287 32 := V m c main_v77
def w_c_19 (c : Dev nD) : IVec S_ 32 := V m c main_c_19
def w_v78 (c : Dev nD) : IVec S1287 32 := V m c main_v78
def w_v79 (c : Dev nD) : IVec S1287 1 := V m c main_v79
def w_c_20 (c : Dev nD) : IVec S_ 32 := V m c main_c_20
def w_v80 (c : Dev nD) : IVec S1287 32 := V m c main_v80
def w_v81 (c : Dev nD) : IVec S1287 32 := V m c main_v81
def w_v82 (c : Dev nD) : IVec S1287 32 := V m c main_v82
def w_v83 (c : Dev nD) : IVec S1287x1 32 := V m c main_v83
def w_v84 (c : Dev nD) : IVec S1287 32 := V m c main_v84
def w_v85 (c : Dev nD) : IVec S1287 32 := V m c main_v85
def w_c_21 (c : Dev nD) : IVec S_ 32 := V m c main_c_21
def w_v86 (c : Dev nD) : IVec S1287 32 := V m c main_v86
def w_v87 (c : Dev nD) : IVec S1287 32 := V m c main_v87
def w_v88 (c : Dev nD) : IVec S1287 32 := V m c main_v88
def w_v89 (c : Dev nD) : IVec S1287 32 := V m c main_v89
def w_c_22 (c : Dev nD) : IVec S_ 32 := V m c main_c_22
def w_call6_v0 (c : Dev nD) : IVec S_ 32 := V m c main_call6_v0
def w_call6_v1 (c : Dev nD) : IVec S1287 32 := V m c main_call6_v1
def w_v90 (c : Dev nD) : IVec S1287 32 := V m c main_v90
def w_c_23 (c : Dev nD) : IVec S_ 32 := V m c main_c_23
def w_v91 (c : Dev nD) : IVec S1 32 := V m c main_v91
def w_v92 (c : Dev nD) : IVec S1286 32 := V m c main_v92
def w_v93 (c : Dev nD) : IVec S1286 32 := V m c main_v93
def w_v94 (c : Dev nD) : IVec S1286 1 := V m c main_v94
def w_v95 (c : Dev nD) : IVec S1286 32 := V m c main_v95
def w_v96 (c : Dev nD) : IVec S1287 32 := V m c main_v96
def w_arg0 (c : Dev nD) : FVec F S66048x1024 .f32 := V m c main_arg0
def w_v97 (c : Dev nD) : FVec F S66048x1024 .bf16 := V m c main_v97
def w_cst (c : Dev nD) : FVec F S_ .bf16 := V m c main_cst
def w_v98 (c : Dev nD) : FVec F S1x1024 .bf16 := V m c main_v98
def w_v99 (c : Dev nD) : FVec F S66049x1024 .bf16 := V m c main_v99
def w_c_24 (c : Dev nD) : IVec S_ 32 := V m c main_c_24
def w_call7_v0 (c : Dev nD) : IVec S_ 32 := V m c main_call7_v0
def w_call7_v1 (c : Dev nD) : IVec S528384 32 := V m c main_call7_v1
def w_call7_v2 (c : Dev nD) : IVec S528384 32 := V m c main_call7_v2
def w_call7_v3 (c : Dev nD) : IVec S528384 32 := V m c main_call7_v3
def w_call7_v4 (c : Dev nD) : IVec S_ 32 := V m c main_call7_v4
def w_call7_v5 (c : Dev nD) : IVec S528384 32 := V m c main_call7_v5
def w_call7_v6 (c : Dev nD) : IVec S528384 1 := V m c main_call7_v6
def w_call7_v7 (c : Dev nD) : IVec S528384 32 := V m c main_call7_v7
def w_call7_v8 (c : Dev nD) : IVec S528384 32 := V m c main_call7_v8
def w_call7_c (c : Dev nD) : IVec S_ 32 := V m c main_call7_c
def w_call7_v9 (c : Dev nD) : IVec S528384 32 := V m c main_call7_v9
def w_call7_v10 (c : Dev nD) : IVec S528384 1 := V m c main_call7_v10
def w_call7_v11 (c : Dev nD) : IVec S528384 1 := V m c main_call7_v11
def w_call7_c_0 (c : Dev nD) : IVec S_ 32 := V m c main_call7_c_0
def w_call7_v12 (c : Dev nD) : IVec S528384 32 := V m c main_call7_v12
def w_call7_v13 (c : Dev nD) : IVec S528384 32 := V m c main_call7_v13
def w_v100 (c : Dev nD) : IVec S528384 32 := V m c main_v100
def w_c_25 (c : Dev nD) : IVec S_ 32 := V m c main_c_25
def w_v101 (c : Dev nD) : IVec S528384 32 := V m c main_v101
def w_v102 (c : Dev nD) : IVec S528384 1 := V m c main_v102
def w_c_26 (c : Dev nD) : IVec S_ 32 := V m c main_c_26
def w_v103 (c : Dev nD) : IVec S528384 32 := V m c main_v103
def w_v104 (c : Dev nD) : IVec S528384 32 := V m c main_v104
def w_v105 (c : Dev nD) : IVec S528384 32 := V m c main_v105
def w_v106 (c : Dev nD) : IVec S528384x1 32 := V m c main_v106
def w_v107 (c : Dev nD) : FVec F S528384x1024 .bf16 := V m c main_v107
def w_arg2 (c : Dev nD) : FVec F S256x1024x512 .f32 := V m c main_arg2
def w_v108 (c : Dev nD) : FVec F S256x1024x512 .bf16 := V m c main_v108
def w_arg3 (c : Dev nD) : FVec F S256x256x1024 .f32 := V m c main_arg3
def w_v109 (c : Dev nD) : FVec F S256x256x1024 .bf16 := V m c main_v109
set_option maxHeartbeats 2000000 in
theorem w_v0_eq (c : Dev nD) : w_v0 m c = shapeCast S528384 (w_arg1 m c) shapeCasts_S66048x8_S528384 :=
  V_re m c 0 rfl (by decide) (by decide)
theorem w_v1_eq (c : Dev nD) : w_v1 m c = ((iotaInDim S528384 32 0)) :=
  V_nu m c 1 rfl (by decide)
theorem w_v2_0_eq (c : Dev nD) : w_v2_0 m c = ((fun x y => (Host.sort2 S528384 0 comparator_i32_i32_d0 x y).1)) (w_v0 m c) (w_v1 m c) :=
  V_bi m c 2 rfl (by decide) (by decide) (by decide)
theorem w_v2_1_eq (c : Dev nD) : w_v2_1 m c = ((fun x y => (Host.sort2 S528384 0 comparator_i32_i32_d0 x y).2)) (w_v0 m c) (w_v1 m c) :=
  V_bi m c 3 rfl (by decide) (by decide) (by decide)
theorem w_v3_eq (c : Dev nD) : w_v3 m c = ((iotaInDim S257 32 0)) :=
  V_nu m c 4 rfl (by decide)
theorem w_v4_eq (c : Dev nD) : w_v4 m c = (broadcastInDim S1x528384 ![1] bcast_S528384_S1x528384_1) (w_v2_0 m c) :=
  V_un m c 5 rfl (by decide) (by decide)
theorem w_v5_eq (c : Dev nD) : w_v5 m c = (broadcastInDim S257x1 ![0] bcast_S257_S257x1_0) (w_v3 m c) :=
  V_un m c 6 rfl (by decide) (by decide)
theorem w_v6_eq (c : Dev nD) : w_v6 m c = (broadcastInDim S257x528384 ![0, 1] bcast_S1x528384_S257x528384_0_1) (w_v4 m c) :=
  V_un m c 7 rfl (by decide) (by decide)
theorem w_v7_eq (c : Dev nD) : w_v7 m c = (broadcastInDim S257x528384 ![0, 1] bcast_S257x1_S257x528384_0_1) (w_v5 m c) :=
  V_un m c 8 rfl (by decide) (by decide)
theorem w_v8_eq (c : Dev nD) : w_v8 m c = (cmpi .slt) (w_v6 m c) (w_v7 m c) :=
  V_bi m c 9 rfl (by decide) (by decide) (by decide)
theorem w_v9_eq (c : Dev nD) : w_v9 m c = ((extui 32 · natLt_1_32)) (w_v8 m c) :=
  V_un m c 10 rfl (by decide) (by decide)
theorem w_c_eq (c : Dev nD) : w_c m c = ((constantI S_ 32 0#32)) :=
  V_nu m c 11 rfl (by decide)
theorem w_v10_eq (c : Dev nD) : w_v10 m c = ((fun x v => Host.reduce IntOp.addi x v reducesTo_S257x528384_S257_d1 h_S_)) (w_v9 m c) (w_c m c) :=
  V_bi m c 12 rfl (by decide) (by decide) (by decide)
theorem w_v11_eq (c : Dev nD) : w_v11 m c = ((extractStridedSlice S256 ![0] · slices_S257_S256_0)) (w_v10 m c) :=
  V_un m c 13 rfl (by decide) (by decide)
theorem w_v12_eq (c : Dev nD) : w_v12 m c = ((extractStridedSlice S256 ![1] · slices_S257_S256_1)) (w_v10 m c) :=
  V_un m c 14 rfl (by decide) (by decide)
theorem w_v13_eq (c : Dev nD) : w_v13 m c = ((extractStridedSlice S256 ![0] · slices_S257_S256_0)) (w_v10 m c) :=
  V_un m c 15 rfl (by decide) (by decide)
theorem w_v14_eq (c : Dev nD) : w_v14 m c = (subi) (w_v12 m c) (w_v13 m c) :=
  V_bi m c 16 rfl (by decide) (by decide) (by decide)
theorem w_c_0_eq (c : Dev nD) : w_c_0 m c = ((constantI S_ 32 512#32)) :=
  V_nu m c 17 rfl (by decide)
theorem w_call0_v0_eq (c : Dev nD) : w_call0_v0 m c = (id) (w_c_0 m c) :=
  V_un m c 18 rfl (by decide) (by decide)
theorem w_call0_v1_eq (c : Dev nD) : w_call0_v1 m c = ((broadcastInDim S256 ![] bcast_S_S256)) (w_call0_v0 m c) :=
  V_un m c 19 rfl (by decide) (by decide)
theorem w_call0_v2_eq (c : Dev nD) : w_call0_v2 m c = (Host.divsi) (w_v11 m c) (w_call0_v1 m c) :=
  V_bi m c 20 rfl (by decide) (by decide) (by decide)
theorem w_call0_v3_eq (c : Dev nD) : w_call0_v3 m c = (signi) (w_v11 m c) :=
  V_un m c 21 rfl (by decide) (by decide)
theorem w_call0_v4_eq (c : Dev nD) : w_call0_v4 m c = (signi) (w_call0_v0 m c) :=
  V_un m c 22 rfl (by decide) (by decide)
theorem w_call0_v5_eq (c : Dev nD) : w_call0_v5 m c = ((broadcastInDim S256 ![] bcast_S_S256)) (w_call0_v4 m c) :=
  V_un m c 23 rfl (by decide) (by decide)
theorem w_call0_v6_eq (c : Dev nD) : w_call0_v6 m c = ((cmpi .ne)) (w_call0_v3 m c) (w_call0_v5 m c) :=
  V_bi m c 24 rfl (by decide) (by decide) (by decide)
theorem w_call0_v7_eq (c : Dev nD) : w_call0_v7 m c = ((broadcastInDim S256 ![] bcast_S_S256)) (w_call0_v0 m c) :=
  V_un m c 25 rfl (by decide) (by decide)
theorem w_call0_v8_eq (c : Dev nD) : w_call0_v8 m c = (Host.remsi) (w_v11 m c) (w_call0_v7 m c) :=
  V_bi m c 26 rfl (by decide) (by decide) (by decide)
theorem w_call0_c_eq (c : Dev nD) : w_call0_c m c = ((constantI S_ 32 0#32)) :=
  V_nu m c 27 rfl (by decide)
theorem w_call0_v9_eq (c : Dev nD) : w_call0_v9 m c = ((broadcastInDim S256 ![] bcast_S_S256)) (w_call0_c m c) :=
  V_un m c 28 rfl (by decide) (by decide)
theorem w_call0_v10_eq (c : Dev nD) : w_call0_v10 m c = ((cmpi .ne)) (w_call0_v8 m c) (w_call0_v9 m c) :=
  V_bi m c 29 rfl (by decide) (by decide) (by decide)
theorem w_call0_v11_eq (c : Dev nD) : w_call0_v11 m c = (andi) (w_call0_v6 m c) (w_call0_v10 m c) :=
  V_bi m c 30 rfl (by decide) (by decide) (by decide)
theorem w_call0_c_0_eq (c : Dev nD) : w_call0_c_0 m c = ((constantI S_ 32 1#32)) :=
  V_nu m c 31 rfl (by decide)
theorem w_call0_v12_eq (c : Dev nD) : w_call0_v12 m c = ((broadcastInDim S256 ![] bcast_S_S256)) (w_call0_c_0 m c) :=
  V_un m c 32 rfl (by decide) (by decide)
theorem w_call0_v13_eq (c : Dev nD) : w_call0_v13 m c = (subi) (w_call0_v2 m c) (w_call0_v12 m c) :=
  V_bi m c 33 rfl (by decide) (by decide) (by decide)
theorem w_v15_eq (c : Dev nD) : w_v15 m c = (select) (w_call0_v11 m c) (w_call0_v13 m c) (w_call0_v2 m c) :=
  V_te m c 34 rfl (by decide) (by decide) (by decide) (by decide)
theorem w_c_1_eq (c : Dev nD) : w_c_1 m c = ((constantI S_ 32 0#32)) :=
  V_nu m c 35 rfl (by decide)
theorem w_v16_eq (c : Dev nD) : w_v16 m c = (broadcastInDim S256 ![] bcast_S_S256) (w_c_1 m c) :=
  V_un m c 36 rfl (by decide) (by decide)
theorem w_v17_eq (c : Dev nD) : w_v17 m c = (cmpi .sgt) (w_v14 m c) (w_v16 m c) :=
  V_bi m c 37 rfl (by decide) (by decide) (by decide)
theorem w_v18_eq (c : Dev nD) : w_v18 m c = (addi) (w_v11 m c) (w_v14 m c) :=
  V_bi m c 38 rfl (by decide) (by decide) (by decide)
theorem w_c_2_eq (c : Dev nD) : w_c_2 m c = ((constantI S_ 32 1#32)) :=
  V_nu m c 39 rfl (by decide)
theorem w_v19_eq (c : Dev nD) : w_v19 m c = (broadcastInDim S256 ![] bcast_S_S256) (w_c_2 m c) :=
  V_un m c 40 rfl (by decide) (by decide)
theorem w_v20_eq (c : Dev nD) : w_v20 m c = (subi) (w_v18 m c) (w_v19 m c) :=
  V_bi m c 41 rfl (by decide) (by decide) (by decide)
theorem w_c_3_eq (c : Dev nD) : w_c_3 m c = ((constantI S_ 32 512#32)) :=
  V_nu m c 42 rfl (by decide)
theorem w_call1_v0_eq (c : Dev nD) : w_call1_v0 m c = (id) (w_c_3 m c) :=
  V_un m c 43 rfl (by decide) (by decide)
theorem w_call1_v1_eq (c : Dev nD) : w_call1_v1 m c = ((broadcastInDim S256 ![] bcast_S_S256)) (w_call1_v0 m c) :=
  V_un m c 44 rfl (by decide) (by decide)
theorem w_call1_v2_eq (c : Dev nD) : w_call1_v2 m c = (Host.divsi) (w_v20 m c) (w_call1_v1 m c) :=
  V_bi m c 45 rfl (by decide) (by decide) (by decide)
theorem w_call1_v3_eq (c : Dev nD) : w_call1_v3 m c = (signi) (w_v20 m c) :=
  V_un m c 46 rfl (by decide) (by decide)
theorem w_call1_v4_eq (c : Dev nD) : w_call1_v4 m c = (signi) (w_call1_v0 m c) :=
  V_un m c 47 rfl (by decide) (by decide)
theorem w_call1_v5_eq (c : Dev nD) : w_call1_v5 m c = ((broadcastInDim S256 ![] bcast_S_S256)) (w_call1_v4 m c) :=
  V_un m c 48 rfl (by decide) (by decide)
theorem w_call1_v6_eq (c : Dev nD) : w_call1_v6 m c = ((cmpi .ne)) (w_call1_v3 m c) (w_call1_v5 m c) :=
  V_bi m c 49 rfl (by decide) (by decide) (by decide)
theorem w_call1_v7_eq (c : Dev nD) : w_call1_v7 m c = ((broadcastInDim S256 ![] bcast_S_S256)) (w_call1_v0 m c) :=
  V_un m c 50 rfl (by decide) (by decide)
theorem w_call1_v8_eq (c : Dev nD) : w_call1_v8 m c = (Host.remsi) (w_v20 m c) (w_call1_v7 m c) :=
  V_bi m c 51 rfl (by decide) (by decide) (by decide)
theorem w_call1_c_eq (c : Dev nD) : w_call1_c m c = ((constantI S_ 32 0#32)) :=
  V_nu m c 52 rfl (by decide)
theorem w_call1_v9_eq (c : Dev nD) : w_call1_v9 m c = ((broadcastInDim S256 ![] bcast_S_S256)) (w_call1_c m c) :=
  V_un m c 53 rfl (by decide) (by decide)
theorem w_call1_v10_eq (c : Dev nD) : w_call1_v10 m c = ((cmpi .ne)) (w_call1_v8 m c) (w_call1_v9 m c) :=
  V_bi m c 54 rfl (by decide) (by decide) (by decide)
theorem w_call1_v11_eq (c : Dev nD) : w_call1_v11 m c = (andi) (w_call1_v6 m c) (w_call1_v10 m c) :=
  V_bi m c 55 rfl (by decide) (by decide) (by decide)
theorem w_call1_c_0_eq (c : Dev nD) : w_call1_c_0 m c = ((constantI S_ 32 1#32)) :=
  V_nu m c 56 rfl (by decide)
theorem w_call1_v12_eq (c : Dev nD) : w_call1_v12 m c = ((broadcastInDim S256 ![] bcast_S_S256)) (w_call1_c_0 m c) :=
  V_un m c 57 rfl (by decide) (by decide)
theorem w_call1_v13_eq (c : Dev nD) : w_call1_v13 m c = (subi) (w_call1_v2 m c) (w_call1_v12 m c) :=
  V_bi m c 58 rfl (by decide) (by decide) (by decide)
theorem w_v21_eq (c : Dev nD) : w_v21 m c = (select) (w_call1_v11 m c) (w_call1_v13 m c) (w_call1_v2 m c) :=
  V_te m c 59 rfl (by decide) (by decide) (by decide) (by decide)
theorem w_v22_eq (c : Dev nD) : w_v22 m c = (subi) (w_v21 m c) (w_v15 m c) :=
  V_bi m c 60 rfl (by decide) (by decide) (by decide)
theorem w_c_4_eq (c : Dev nD) : w_c_4 m c = ((constantI S_ 32 1#32)) :=
  V_nu m c 61 rfl (by decide)
theorem w_v23_eq (c : Dev nD) : w_v23 m c = (broadcastInDim S256 ![] bcast_S_S256) (w_c_4 m c) :=
  V_un m c 62 rfl (by decide) (by decide)
theorem w_v24_eq (c : Dev nD) : w_v24 m c = (addi) (w_v22 m c) (w_v23 m c) :=
  V_bi m c 63 rfl (by decide) (by decide) (by decide)
theorem w_c_5_eq (c : Dev nD) : w_c_5 m c = ((constantI S_ 32 0#32)) :=
  V_nu m c 64 rfl (by decide)
theorem w_call2_v0_eq (c : Dev nD) : w_call2_v0 m c = (id) (w_c_5 m c) :=
  V_un m c 65 rfl (by decide) (by decide)
theorem w_call2_v1_eq (c : Dev nD) : w_call2_v1 m c = ((broadcastInDim S256 ![] bcast_S_S256)) (w_call2_v0 m c) :=
  V_un m c 66 rfl (by decide) (by decide)
theorem w_v25_eq (c : Dev nD) : w_v25 m c = (select) (w_v17 m c) (w_v24 m c) (w_call2_v1 m c) :=
  V_te m c 67 rfl (by decide) (by decide) (by decide) (by decide)
theorem w_call3_call0_c_eq (c : Dev nD) : w_call3_call0_c m c = ((constantI S_ 32 0#32)) :=
  V_nu m c 68 rfl (by decide)
theorem w_call3_call0_v0_eq (c : Dev nD) : w_call3_call0_v0 m c = ((broadcastInDim S_ ![] bcast_S_S_)) (w_call3_call0_c m c) :=
  V_un m c 69 rfl (by decide) (by decide)
attribute [local irreducible] Host.reduceWindow
/-- The running sum. -/
def cumF (x : IVec S256 32) (v : IVec S_ 32) : IVec S256 32 :=
  Host.reduceWindow IntOp.addi ![256] ![1] ![255] ![0] x v reduceWindows_S256_S256_w256s1p255_0 h_S_
theorem w_v26_eq (c : Dev nD) : w_v26 m c = cumF (w_v25 m c) (w_call3_call0_v0 m c) :=
  V_bi m c 70 (a := main_v25) (b := main_call3_call0_v0) (y := main_v26) (f := ((cumF))) rfl (by decide) (by decide) (by decide)
theorem w_v27_eq (c : Dev nD) : w_v27 m c = (subi) (w_v26 m c) (w_v25 m c) :=
  V_bi m c 71 rfl (by decide) (by decide) (by decide)
theorem w_v28_eq (c : Dev nD) : w_v28 m c = ((iotaInDim S1287 32 0)) :=
  V_nu m c 72 rfl (by decide)
theorem w_v29_eq (c : Dev nD) : w_v29 m c = (broadcastInDim S1x256 ![1] bcast_S256_S1x256_1) (w_v26 m c) :=
  V_un m c 73 rfl (by decide) (by decide)
theorem w_v30_eq (c : Dev nD) : w_v30 m c = (broadcastInDim S1287x1 ![0] bcast_S1287_S1287x1_0) (w_v28 m c) :=
  V_un m c 74 rfl (by decide) (by decide)
theorem w_v31_eq (c : Dev nD) : w_v31 m c = (broadcastInDim S1287x256 ![0, 1] bcast_S1x256_S1287x256_0_1) (w_v29 m c) :=
  V_un m c 75 rfl (by decide) (by decide)
theorem w_v32_eq (c : Dev nD) : w_v32 m c = (broadcastInDim S1287x256 ![0, 1] bcast_S1287x1_S1287x256_0_1) (w_v30 m c) :=
  V_un m c 76 rfl (by decide) (by decide)
theorem w_v33_eq (c : Dev nD) : w_v33 m c = (cmpi .sle) (w_v31 m c) (w_v32 m c) :=
  V_bi m c 77 rfl (by decide) (by decide) (by decide)
theorem w_v34_eq (c : Dev nD) : w_v34 m c = ((extui 32 · natLt_1_32)) (w_v33 m c) :=
  V_un m c 78 rfl (by decide) (by decide)
theorem w_c_6_eq (c : Dev nD) : w_c_6 m c = ((constantI S_ 32 0#32)) :=
  V_nu m c 79 rfl (by decide)
theorem w_v35_eq (c : Dev nD) : w_v35 m c = ((fun x v => Host.reduce IntOp.addi x v reducesTo_S1287x256_S1287_d1 h_S_)) (w_v34 m c) (w_c_6 m c) :=
  V_bi m c 80 rfl (by decide) (by decide) (by decide)
theorem w_c_7_eq (c : Dev nD) : w_c_7 m c = ((constantI S_ 32 255#32)) :=
  V_nu m c 81 rfl (by decide)
theorem w_v36_eq (c : Dev nD) : w_v36 m c = (broadcastInDim S1287 ![] bcast_S_S1287) (w_c_7 m c) :=
  V_un m c 82 rfl (by decide) (by decide)
theorem w_v37_eq (c : Dev nD) : w_v37 m c = (minsi) (w_v35 m c) (w_v36 m c) :=
  V_bi m c 83 rfl (by decide) (by decide) (by decide)
theorem w_v38_eq (c : Dev nD) : w_v38 m c = ((extractStridedSlice S1 ![255] · slices_S256_S1_255)) (w_v26 m c) :=
  V_un m c 84 rfl (by decide) (by decide)
set_option maxHeartbeats 2000000 in
theorem w_v39_eq (c : Dev nD) : w_v39 m c = shapeCast S_ (w_v38 m c) shapeCasts_S1_S_ :=
  V_re m c 85 rfl (by decide) (by decide)
theorem w_v40_eq (c : Dev nD) : w_v40 m c = (broadcastInDim S1287 ![] bcast_S_S1287) (w_v39 m c) :=
  V_un m c 86 rfl (by decide) (by decide)
theorem w_v41_eq (c : Dev nD) : w_v41 m c = (cmpi .slt) (w_v28 m c) (w_v40 m c) :=
  V_bi m c 87 rfl (by decide) (by decide) (by decide)
theorem w_c_8_eq (c : Dev nD) : w_c_8 m c = ((constantI S_ 32 0#32)) :=
  V_nu m c 88 rfl (by decide)
theorem w_v42_eq (c : Dev nD) : w_v42 m c = (broadcastInDim S1287 ![] bcast_S_S1287) (w_c_8 m c) :=
  V_un m c 89 rfl (by decide) (by decide)
theorem w_v43_eq (c : Dev nD) : w_v43 m c = (cmpi .slt) (w_v37 m c) (w_v42 m c) :=
  V_bi m c 90 rfl (by decide) (by decide) (by decide)
theorem w_c_9_eq (c : Dev nD) : w_c_9 m c = ((constantI S_ 32 256#32)) :=
  V_nu m c 91 rfl (by decide)
theorem w_v44_eq (c : Dev nD) : w_v44 m c = (broadcastInDim S1287 ![] bcast_S_S1287) (w_c_9 m c) :=
  V_un m c 92 rfl (by decide) (by decide)
theorem w_v45_eq (c : Dev nD) : w_v45 m c = (addi) (w_v37 m c) (w_v44 m c) :=
  V_bi m c 93 rfl (by decide) (by decide) (by decide)
theorem w_v46_eq (c : Dev nD) : w_v46 m c = (select) (w_v43 m c) (w_v45 m c) (w_v37 m c) :=
  V_te m c 94 rfl (by decide) (by decide) (by decide) (by decide)
theorem w_v47_eq (c : Dev nD) : w_v47 m c = (broadcastInDim S1287x1 ![0] bcast_S1287_S1287x1_0) (w_v46 m c) :=
  V_un m c 95 rfl (by decide) (by decide)
theorem w_v48_eq (c : Dev nD) : w_v48 m c = ((fun x i => Host.gather gather_S256_S1287x1_S1287_n_0_n_n_0_1_1 x i)) (w_v15 m c) (w_v47 m c) :=
  V_bi m c 96 rfl (by decide) (by decide) (by decide)
theorem w_v49_eq (c : Dev nD) : w_v49 m c = (addi) (w_v48 m c) (w_v28 m c) :=
  V_bi m c 97 rfl (by decide) (by decide) (by decide)
theorem w_c_10_eq (c : Dev nD) : w_c_10 m c = ((constantI S_ 32 0#32)) :=
  V_nu m c 98 rfl (by decide)
theorem w_v50_eq (c : Dev nD) : w_v50 m c = (broadcastInDim S1287 ![] bcast_S_S1287) (w_c_10 m c) :=
  V_un m c 99 rfl (by decide) (by decide)
theorem w_v51_eq (c : Dev nD) : w_v51 m c = (cmpi .slt) (w_v37 m c) (w_v50 m c) :=
  V_bi m c 100 rfl (by decide) (by decide) (by decide)
theorem w_c_11_eq (c : Dev nD) : w_c_11 m c = ((constantI S_ 32 256#32)) :=
  V_nu m c 101 rfl (by decide)
theorem w_v52_eq (c : Dev nD) : w_v52 m c = (broadcastInDim S1287 ![] bcast_S_S1287) (w_c_11 m c) :=
  V_un m c 102 rfl (by decide) (by decide)
theorem w_v53_eq (c : Dev nD) : w_v53 m c = (addi) (w_v37 m c) (w_v52 m c) :=
  V_bi m c 103 rfl (by decide) (by decide) (by decide)
theorem w_v54_eq (c : Dev nD) : w_v54 m c = (select) (w_v51 m c) (w_v53 m c) (w_v37 m c) :=
  V_te m c 104 rfl (by decide) (by decide) (by decide) (by decide)
theorem w_v55_eq (c : Dev nD) : w_v55 m c = (broadcastInDim S1287x1 ![0] bcast_S1287_S1287x1_0) (w_v54 m c) :=
  V_un m c 105 rfl (by decide) (by decide)
theorem w_v56_eq (c : Dev nD) : w_v56 m c = ((fun x i => Host.gather gather_S256_S1287x1_S1287_n_0_n_n_0_1_1 x i)) (w_v27 m c) (w_v55 m c) :=
  V_bi m c 106 rfl (by decide) (by decide) (by decide)
theorem w_v57_eq (c : Dev nD) : w_v57 m c = (subi) (w_v49 m c) (w_v56 m c) :=
  V_bi m c 107 rfl (by decide) (by decide) (by decide)
theorem w_c_12_eq (c : Dev nD) : w_c_12 m c = ((constantI S_ 32 1031#32)) :=
  V_nu m c 108 rfl (by decide)
theorem w_call4_v0_eq (c : Dev nD) : w_call4_v0 m c = (id) (w_c_12 m c) :=
  V_un m c 109 rfl (by decide) (by decide)
theorem w_call4_v1_eq (c : Dev nD) : w_call4_v1 m c = ((broadcastInDim S1287 ![] bcast_S_S1287)) (w_call4_v0 m c) :=
  V_un m c 110 rfl (by decide) (by decide)
theorem w_v58_eq (c : Dev nD) : w_v58 m c = (select) (w_v41 m c) (w_v57 m c) (w_call4_v1 m c) :=
  V_te m c 111 rfl (by decide) (by decide) (by decide) (by decide)
theorem w_c_13_eq (c : Dev nD) : w_c_13 m c = ((constantI S_ 32 512#32)) :=
  V_nu m c 112 rfl (by decide)
theorem w_v59_eq (c : Dev nD) : w_v59 m c = (broadcastInDim S1287 ![] bcast_S_S1287) (w_c_13 m c) :=
  V_un m c 113 rfl (by decide) (by decide)
theorem w_v60_eq (c : Dev nD) : w_v60 m c = (muli) (w_v58 m c) (w_v59 m c) :=
  V_bi m c 114 rfl (by decide) (by decide) (by decide)
theorem w_c_14_eq (c : Dev nD) : w_c_14 m c = ((constantI S_ 32 0#32)) :=
  V_nu m c 115 rfl (by decide)
theorem w_v61_eq (c : Dev nD) : w_v61 m c = (broadcastInDim S1287 ![] bcast_S_S1287) (w_c_14 m c) :=
  V_un m c 116 rfl (by decide) (by decide)
theorem w_v62_eq (c : Dev nD) : w_v62 m c = (cmpi .slt) (w_v37 m c) (w_v61 m c) :=
  V_bi m c 117 rfl (by decide) (by decide) (by decide)
theorem w_c_15_eq (c : Dev nD) : w_c_15 m c = ((constantI S_ 32 256#32)) :=
  V_nu m c 118 rfl (by decide)
theorem w_v63_eq (c : Dev nD) : w_v63 m c = (broadcastInDim S1287 ![] bcast_S_S1287) (w_c_15 m c) :=
  V_un m c 119 rfl (by decide) (by decide)
theorem w_v64_eq (c : Dev nD) : w_v64 m c = (addi) (w_v37 m c) (w_v63 m c) :=
  V_bi m c 120 rfl (by decide) (by decide) (by decide)
theorem w_v65_eq (c : Dev nD) : w_v65 m c = (select) (w_v62 m c) (w_v64 m c) (w_v37 m c) :=
  V_te m c 121 rfl (by decide) (by decide) (by decide) (by decide)
theorem w_v66_eq (c : Dev nD) : w_v66 m c = (broadcastInDim S1287x1 ![0] bcast_S1287_S1287x1_0) (w_v65 m c) :=
  V_un m c 122 rfl (by decide) (by decide)
theorem w_v67_eq (c : Dev nD) : w_v67 m c = ((fun x i => Host.gather gather_S256_S1287x1_S1287_n_0_n_n_0_1_1 x i)) (w_v11 m c) (w_v66 m c) :=
  V_bi m c 123 rfl (by decide) (by decide) (by decide)
theorem w_v68_eq (c : Dev nD) : w_v68 m c = (maxsi) (w_v67 m c) (w_v60 m c) :=
  V_bi m c 124 rfl (by decide) (by decide) (by decide)
theorem w_v69_eq (c : Dev nD) : w_v69 m c = (subi) (w_v68 m c) (w_v60 m c) :=
  V_bi m c 125 rfl (by decide) (by decide) (by decide)
theorem w_c_16_eq (c : Dev nD) : w_c_16 m c = ((constantI S_ 32 0#32)) :=
  V_nu m c 126 rfl (by decide)
theorem w_call5_v0_eq (c : Dev nD) : w_call5_v0 m c = (id) (w_c_16 m c) :=
  V_un m c 127 rfl (by decide) (by decide)
theorem w_call5_v1_eq (c : Dev nD) : w_call5_v1 m c = ((broadcastInDim S1287 ![] bcast_S_S1287)) (w_call5_v0 m c) :=
  V_un m c 128 rfl (by decide) (by decide)
theorem w_v70_eq (c : Dev nD) : w_v70 m c = (select) (w_v41 m c) (w_v69 m c) (w_call5_v1 m c) :=
  V_te m c 129 rfl (by decide) (by decide) (by decide) (by decide)
theorem w_c_17_eq (c : Dev nD) : w_c_17 m c = ((constantI S_ 32 0#32)) :=
  V_nu m c 130 rfl (by decide)
theorem w_v71_eq (c : Dev nD) : w_v71 m c = (broadcastInDim S1287 ![] bcast_S_S1287) (w_c_17 m c) :=
  V_un m c 131 rfl (by decide) (by decide)
theorem w_v72_eq (c : Dev nD) : w_v72 m c = (cmpi .slt) (w_v37 m c) (w_v71 m c) :=
  V_bi m c 132 rfl (by decide) (by decide) (by decide)
theorem w_c_18_eq (c : Dev nD) : w_c_18 m c = ((constantI S_ 32 256#32)) :=
  V_nu m c 133 rfl (by decide)
theorem w_v73_eq (c : Dev nD) : w_v73 m c = (broadcastInDim S1287 ![] bcast_S_S1287) (w_c_18 m c) :=
  V_un m c 134 rfl (by decide) (by decide)
theorem w_v74_eq (c : Dev nD) : w_v74 m c = (addi) (w_v37 m c) (w_v73 m c) :=
  V_bi m c 135 rfl (by decide) (by decide) (by decide)
theorem w_v75_eq (c : Dev nD) : w_v75 m c = (select) (w_v72 m c) (w_v74 m c) (w_v37 m c) :=
  V_te m c 136 rfl (by decide) (by decide) (by decide) (by decide)
theorem w_v76_eq (c : Dev nD) : w_v76 m c = (broadcastInDim S1287x1 ![0] bcast_S1287_S1287x1_0) (w_v75 m c) :=
  V_un m c 137 rfl (by decide) (by decide)
theorem w_v77_eq (c : Dev nD) : w_v77 m c = ((fun x i => Host.gather gather_S256_S1287x1_S1287_n_0_n_n_0_1_1 x i)) (w_v11 m c) (w_v76 m c) :=
  V_bi m c 138 rfl (by decide) (by decide) (by decide)
theorem w_c_19_eq (c : Dev nD) : w_c_19 m c = ((constantI S_ 32 0#32)) :=
  V_nu m c 139 rfl (by decide)
theorem w_v78_eq (c : Dev nD) : w_v78 m c = (broadcastInDim S1287 ![] bcast_S_S1287) (w_c_19 m c) :=
  V_un m c 140 rfl (by decide) (by decide)
theorem w_v79_eq (c : Dev nD) : w_v79 m c = (cmpi .slt) (w_v37 m c) (w_v78 m c) :=
  V_bi m c 141 rfl (by decide) (by decide) (by decide)
theorem w_c_20_eq (c : Dev nD) : w_c_20 m c = ((constantI S_ 32 256#32)) :=
  V_nu m c 142 rfl (by decide)
theorem w_v80_eq (c : Dev nD) : w_v80 m c = (broadcastInDim S1287 ![] bcast_S_S1287) (w_c_20 m c) :=
  V_un m c 143 rfl (by decide) (by decide)
theorem w_v81_eq (c : Dev nD) : w_v81 m c = (addi) (w_v37 m c) (w_v80 m c) :=
  V_bi m c 144 rfl (by decide) (by decide) (by decide)
theorem w_v82_eq (c : Dev nD) : w_v82 m c = (select) (w_v79 m c) (w_v81 m c) (w_v37 m c) :=
  V_te m c 145 rfl (by decide) (by decide) (by decide) (by decide)
theorem w_v83_eq (c : Dev nD) : w_v83 m c = (broadcastInDim S1287x1 ![0] bcast_S1287_S1287x1_0) (w_v82 m c) :=
  V_un m c 146 rfl (by decide) (by decide)
theorem w_v84_eq (c : Dev nD) : w_v84 m c = ((fun x i => Host.gather gather_S256_S1287x1_S1287_n_0_n_n_0_1_1 x i)) (w_v14 m c) (w_v83 m c) :=
  V_bi m c 147 rfl (by decide) (by decide) (by decide)
theorem w_v85_eq (c : Dev nD) : w_v85 m c = (addi) (w_v77 m c) (w_v84 m c) :=
  V_bi m c 148 rfl (by decide) (by decide) (by decide)
theorem w_c_21_eq (c : Dev nD) : w_c_21 m c = ((constantI S_ 32 512#32)) :=
  V_nu m c 149 rfl (by decide)
theorem w_v86_eq (c : Dev nD) : w_v86 m c = (broadcastInDim S1287 ![] bcast_S_S1287) (w_c_21 m c) :=
  V_un m c 150 rfl (by decide) (by decide)
theorem w_v87_eq (c : Dev nD) : w_v87 m c = (addi) (w_v60 m c) (w_v86 m c) :=
  V_bi m c 151 rfl (by decide) (by decide) (by decide)
theorem w_v88_eq (c : Dev nD) : w_v88 m c = (minsi) (w_v85 m c) (w_v87 m c) :=
  V_bi m c 152 rfl (by decide) (by decide) (by decide)
theorem w_v89_eq (c : Dev nD) : w_v89 m c = (subi) (w_v88 m c) (w_v60 m c) :=
  V_bi m c 153 rfl (by decide) (by decide) (by decide)
theorem w_c_22_eq (c : Dev nD) : w_c_22 m c = ((constantI S_ 32 0#32)) :=
  V_nu m c 154 rfl (by decide)
theorem w_call6_v0_eq (c : Dev nD) : w_call6_v0 m c = (id) (w_c_22 m c) :=
  V_un m c 155 rfl (by decide) (by decide)
theorem w_call6_v1_eq (c : Dev nD) : w_call6_v1 m c = ((broadcastInDim S1287 ![] bcast_S_S1287)) (w_call6_v0 m c) :=
  V_un m c 156 rfl (by decide) (by decide)
theorem w_v90_eq (c : Dev nD) : w_v90 m c = (select) (w_v41 m c) (w_v89 m c) (w_call6_v1 m c) :=
  V_te m c 157 rfl (by decide) (by decide) (by decide) (by decide)
theorem w_c_23_eq (c : Dev nD) : w_c_23 m c = ((constantI S_ 32 1#32)) :=
  V_nu m c 158 rfl (by decide)
theorem w_v91_eq (c : Dev nD) : w_v91 m c = (broadcastInDim S1 ![] bcast_S_S1) (w_c_23 m c) :=
  V_un m c 159 rfl (by decide) (by decide)
theorem w_v92_eq (c : Dev nD) : w_v92 m c = ((extractStridedSlice S1286 ![1] · slices_S1287_S1286_1)) (w_v58 m c) :=
  V_un m c 160 rfl (by decide) (by decide)
theorem w_v93_eq (c : Dev nD) : w_v93 m c = ((extractStridedSlice S1286 ![0] · slices_S1287_S1286_0)) (w_v58 m c) :=
  V_un m c 161 rfl (by decide) (by decide)
theorem w_v94_eq (c : Dev nD) : w_v94 m c = (cmpi .ne) (w_v92 m c) (w_v93 m c) :=
  V_bi m c 162 rfl (by decide) (by decide) (by decide)
theorem w_v95_eq (c : Dev nD) : w_v95 m c = ((extui 32 · natLt_1_32)) (w_v94 m c) :=
  V_un m c 163 rfl (by decide) (by decide)
theorem w_v96_eq (c : Dev nD) : w_v96 m c = ((fun a b => concatenate S1287 0 [⟨S1, a⟩, ⟨S1286, b⟩] concatenates_S1_S1286_S1287_d0)) (w_v91 m c) (w_v95 m c) :=
  V_bi m c 164 rfl (by decide) (by decide) (by decide)
theorem w_v97_eq (c : Dev nD) : w_v97 m c = ((truncf .bf16 · bitsLt_bf16_f32)) (w_arg0 m c) :=
  V_un m c 165 rfl (by decide) (by decide)
theorem w_cst_eq (c : Dev nD) : w_cst m c = ((constant S_ .bf16 0x0000#16)) :=
  V_nu m c 166 rfl (by decide)
theorem w_v98_eq (c : Dev nD) : w_v98 m c = (broadcastInDim S1x1024 ![] bcast_S_S1x1024) (w_cst m c) :=
  V_un m c 167 rfl (by decide) (by decide)
theorem w_v99_eq (c : Dev nD) : w_v99 m c = ((fun a b => concatenate S66049x1024 0 [⟨S66048x1024, a⟩, ⟨S1x1024, b⟩] concatenates_S66048x1024_S1x1024_S66049x1024_d0)) (w_v97 m c) (w_v98 m c) :=
  V_bi m c 168 rfl (by decide) (by decide) (by decide)
theorem w_c_24_eq (c : Dev nD) : w_c_24 m c = ((constantI S_ 32 8#32)) :=
  V_nu m c 169 rfl (by decide)
theorem w_call7_v0_eq (c : Dev nD) : w_call7_v0 m c = (id) (w_c_24 m c) :=
  V_un m c 170 rfl (by decide) (by decide)
theorem w_call7_v1_eq (c : Dev nD) : w_call7_v1 m c = ((broadcastInDim S528384 ![] bcast_S_S528384)) (w_call7_v0 m c) :=
  V_un m c 171 rfl (by decide) (by decide)
theorem w_call7_v2_eq (c : Dev nD) : w_call7_v2 m c = (Host.divsi) (w_v2_1 m c) (w_call7_v1 m c) :=
  V_bi m c 172 rfl (by decide) (by decide) (by decide)
theorem w_call7_v3_eq (c : Dev nD) : w_call7_v3 m c = (signi) (w_v2_1 m c) :=
  V_un m c 173 rfl (by decide) (by decide)
theorem w_call7_v4_eq (c : Dev nD) : w_call7_v4 m c = (signi) (w_call7_v0 m c) :=
  V_un m c 174 rfl (by decide) (by decide)
theorem w_call7_v5_eq (c : Dev nD) : w_call7_v5 m c = ((broadcastInDim S528384 ![] bcast_S_S528384)) (w_call7_v4 m c) :=
  V_un m c 175 rfl (by decide) (by decide)
theorem w_call7_v6_eq (c : Dev nD) : w_call7_v6 m c = ((cmpi .ne)) (w_call7_v3 m c) (w_call7_v5 m c) :=
  V_bi m c 176 rfl (by decide) (by decide) (by decide)
theorem w_call7_v7_eq (c : Dev nD) : w_call7_v7 m c = ((broadcastInDim S528384 ![] bcast_S_S528384)) (w_call7_v0 m c) :=
  V_un m c 177 rfl (by decide) (by decide)
theorem w_call7_v8_eq (c : Dev nD) : w_call7_v8 m c = (Host.remsi) (w_v2_1 m c) (w_call7_v7 m c) :=
  V_bi m c 178 rfl (by decide) (by decide) (by decide)
theorem w_call7_c_eq (c : Dev nD) : w_call7_c m c = ((constantI S_ 32 0#32)) :=
  V_nu m c 179 rfl (by decide)
theorem w_call7_v9_eq (c : Dev nD) : w_call7_v9 m c = ((broadcastInDim S528384 ![] bcast_S_S528384)) (w_call7_c m c) :=
  V_un m c 180 rfl (by decide) (by decide)
theorem w_call7_v10_eq (c : Dev nD) : w_call7_v10 m c = ((cmpi .ne)) (w_call7_v8 m c) (w_call7_v9 m c) :=
  V_bi m c 181 rfl (by decide) (by decide) (by decide)
theorem w_call7_v11_eq (c : Dev nD) : w_call7_v11 m c = (andi) (w_call7_v6 m c) (w_call7_v10 m c) :=
  V_bi m c 182 rfl (by decide) (by decide) (by decide)
theorem w_call7_c_0_eq (c : Dev nD) : w_call7_c_0 m c = ((constantI S_ 32 1#32)) :=
  V_nu m c 183 rfl (by decide)
theorem w_call7_v12_eq (c : Dev nD) : w_call7_v12 m c = ((broadcastInDim S528384 ![] bcast_S_S528384)) (w_call7_c_0 m c) :=
  V_un m c 184 rfl (by decide) (by decide)
theorem w_call7_v13_eq (c : Dev nD) : w_call7_v13 m c = (subi) (w_call7_v2 m c) (w_call7_v12 m c) :=
  V_bi m c 185 rfl (by decide) (by decide) (by decide)
theorem w_v100_eq (c : Dev nD) : w_v100 m c = (select) (w_call7_v11 m c) (w_call7_v13 m c) (w_call7_v2 m c) :=
  V_te m c 186 rfl (by decide) (by decide) (by decide) (by decide)
theorem w_c_25_eq (c : Dev nD) : w_c_25 m c = ((constantI S_ 32 0#32)) :=
  V_nu m c 187 rfl (by decide)
theorem w_v101_eq (c : Dev nD) : w_v101 m c = (broadcastInDim S528384 ![] bcast_S_S528384) (w_c_25 m c) :=
  V_un m c 188 rfl (by decide) (by decide)
theorem w_v102_eq (c : Dev nD) : w_v102 m c = (cmpi .slt) (w_v100 m c) (w_v101 m c) :=
  V_bi m c 189 rfl (by decide) (by decide) (by decide)
theorem w_c_26_eq (c : Dev nD) : w_c_26 m c = ((constantI S_ 32 66049#32)) :=
  V_nu m c 190 rfl (by decide)
theorem w_v103_eq (c : Dev nD) : w_v103 m c = (broadcastInDim S528384 ![] bcast_S_S528384) (w_c_26 m c) :=
  V_un m c 191 rfl (by decide) (by decide)
theorem w_v104_eq (c : Dev nD) : w_v104 m c = (addi) (w_v100 m c) (w_v103 m c) :=
  V_bi m c 192 rfl (by decide) (by decide) (by decide)
theorem w_v105_eq (c : Dev nD) : w_v105 m c = (select) (w_v102 m c) (w_v104 m c) (w_v100 m c) :=
  V_te m c 193 rfl (by decide) (by decide) (by decide) (by decide)
theorem w_v106_eq (c : Dev nD) : w_v106 m c = (broadcastInDim S528384x1 ![0] bcast_S528384_S528384x1_0) (w_v105 m c) :=
  V_un m c 194 rfl (by decide) (by decide)
theorem w_v107_eq (c : Dev nD) : w_v107 m c = ((fun x i => Host.gather gather_S66049x1024_S528384x1_S528384x1024_1_0_n_n_0_1_11024 x i)) (w_v99 m c) (w_v106 m c) :=
  V_bi m c 195 rfl (by decide) (by decide) (by decide)
theorem w_v108_eq (c : Dev nD) : w_v108 m c = ((truncf .bf16 · bitsLt_bf16_f32)) (w_arg2 m c) :=
  V_un m c 196 rfl (by decide) (by decide)
theorem w_v109_eq (c : Dev nD) : w_v109 m c = ((truncf .bf16 · bitsLt_bf16_f32)) (w_arg3 m c) :=
  V_un m c 197 rfl (by decide) (by decide)

end Cert.ExpertsIdeal.Hand
end
-- ==== Proof.Experts.Plan.lean ====
module
public import Mathlib.Algebra.BigOperators.Intervals
public import Mathlib.Order.Interval.Finset.Nat
public import Mathlib.Tactic.Ring
/-!
# The plan of the routed experts' grid, in natural numbers

`s e` is the number of rows, in the order sorted by expert, that go to experts below `e`; expert `e` has the rows
`s e ≤ R < s (e + 1)`. The rows are cut into 1032 blocks of 512. A grid point is a pair of an expert and a block it has
rows in, taken in the order of the experts and, for one expert, of the blocks.
-/
@[expose] public section
namespace Cert.Experts.Plan

variable (s : ℕ → ℕ)

/-- How many blocks expert `e` has rows in. -/
def nb (e : ℕ) : ℕ := if s e < s (e + 1) then (s (e + 1) - 1) / 512 - s e / 512 + 1 else 0
/-- The pairs of the experts below `e`. -/
def P : ℕ → ℕ | 0 => 0 | e + 1 => P e + nb s e
/-- The expert of pair `p`: how many experts have all their pairs at or before `p`, and never more than the last. -/
def ep (p : ℕ) : ℕ := min ((Finset.range 256).filter fun e => P s (e + 1) ≤ p).card 255
/-- The block of pair `p`; past the last pair, the last block. -/
def blk (p : ℕ) : ℕ := if p < P s 256 then s (ep s p) / 512 + p - P s (ep s p) else 1031
/-- The first row of the pair, in its block. -/
def lo (p : ℕ) : ℕ := if p < P s 256 then max (s (ep s p)) (512 * blk s p) - 512 * blk s p else 0
/-- The row after the pair's last, in its block. -/
def hi (p : ℕ) : ℕ := if p < P s 256 then min (s (ep s p + 1)) (512 * blk s p + 512) - 512 * blk s p else 0
/-- Whether the pair is the first of its block. -/
def first (p : ℕ) : Prop := p = 0 ∨ blk s p ≠ blk s (p - 1)

variable {s}

theorem P_le_succ (e : ℕ) : P s e ≤ P s (e + 1) := Nat.le_add_right _ _
theorem P_mono {a b : ℕ} (h : a ≤ b) : P s a ≤ P s b := monotone_nat_of_le_succ P_le_succ h

theorem exists_of_lt (p : ℕ) : ∀ n, p < P s n → ∃ e, e < n ∧ P s e ≤ p ∧ p < P s (e + 1)
  | 0, h => absurd h (Nat.not_lt_zero _)
  | n + 1, h => by
    by_cases h' : p < P s n
    · obtain ⟨e, he, h1, h2⟩ := exists_of_lt p n h'
      exact ⟨e, by omega, h1, h2⟩
    · exact ⟨n, by omega, by omega, h⟩

theorem ep_eq {p e : ℕ} (he : e < 256) (h1 : P s e ≤ p) (h2 : p < P s (e + 1)) : ep s p = e := by
  have : (Finset.range 256).filter (fun e => P s (e + 1) ≤ p) = Finset.range e := by
    ext k
    simp only [Finset.mem_filter, Finset.mem_range]
    constructor
    · rintro ⟨-, hk⟩
      by_contra hc
      have := P_mono (s := s) (show e + 1 ≤ k + 1 by omega)
      omega
    · intro hk
      have := P_mono (s := s) (show k + 1 ≤ e by omega)
      exact ⟨by omega, by omega⟩
  unfold ep
  rw [this, Finset.card_range]
  omega

theorem ep_lt (p : ℕ) : ep s p < 256 := by unfold ep; omega

/-- A pair's expert, its place among the expert's pairs, and that the expert has rows. -/
theorem valid_spec {p : ℕ} (h : p < P s 256) : ∃ e, e < 256 ∧ ep s p = e ∧ P s e ≤ p ∧ p < P s e + nb s e
    ∧ s e < s (e + 1) ∧ nb s e = (s (e + 1) - 1) / 512 - s e / 512 + 1 ∧ blk s p = s e / 512 + p - P s e := by
  obtain ⟨e, he, h1, h2⟩ := exists_of_lt p 256 h
  have h3 := ep_eq he h1 h2
  have h4 : p < P s e + nb s e := h2
  have h5 : s e < s (e + 1) := by
    by_contra hc
    rw [nb, if_neg hc] at h4
    omega
  refine ⟨e, he, h3, h1, h4, h5, by rw [nb, if_pos h5], ?_⟩
  unfold blk
  rw [if_pos h, h3]

section Bounds
variable (hm : ∀ e, s e ≤ s (e + 1)) (hs : s 256 ≤ 528384)
include hm

theorem s_mono {a b : ℕ} (h : a ≤ b) : s a ≤ s b := monotone_nat_of_le_succ hm h

include hs

theorem s_le {e : ℕ} (h : e ≤ 256) : s e ≤ 528384 := (s_mono hm h).trans hs

theorem nb_le {e : ℕ} (h : e < 256) : nb s e ≤ 1032 := by
  have := s_le hm hs (show e + 1 ≤ 256 by omega)
  unfold nb
  split <;> omega

theorem P_le : ∀ e, e ≤ 256 → P s e ≤ 1032 * e
  | 0, _ => Nat.le_refl 0
  | e + 1, h => by
    have := P_le e (by omega)
    have := nb_le hm hs (e := e) (by omega)
    show P s e + nb s e ≤ _
    omega

theorem blk_le (p : ℕ) : blk s p ≤ 1031 := by
  by_cases h : p < P s 256
  · obtain ⟨e, he, -, h1, h2, h3, h4, h5⟩ := valid_spec h
    have := s_le hm hs (show e + 1 ≤ 256 by omega)
    omega
  · unfold blk
    rw [if_neg h]

theorem lo_lt_hi {p : ℕ} (h : p < P s 256) : lo s p < hi s p := by
  obtain ⟨e, he, h0, h1, h2, h3, h4, h5⟩ := valid_spec h
  unfold lo hi
  rw [if_pos h, if_pos h, h0]
  omega

theorem hi_le (p : ℕ) : hi s p ≤ 512 := by
  unfold hi
  split <;> omega

theorem lo_le (p : ℕ) : lo s p ≤ 512 := by
  by_cases h : p < P s 256
  · have := lo_lt_hi hm hs h
    have := hi_le hm hs p
    omega
  · unfold lo
    rw [if_neg h]
    omega

end Bounds

section Total
variable (hm : ∀ e, s e ≤ s (e + 1)) (h0 : s 0 = 0) (hs : s 256 = 528384)
include hm h0 hs

theorem P_le_ceil : ∀ e, e < 256 → P s (e + 1) ≤ (s (e + 1) + 511) / 512 + e
  | 0, _ => by
    show P s 0 + nb s 0 ≤ _
    have : P s 0 = 0 := rfl
    unfold nb
    split <;> omega
  | e + 1, h => by
    have := P_le_ceil e (by omega)
    have := hm (e + 1)
    show P s (e + 1) + nb s (e + 1) ≤ _
    unfold nb
    split <;> omega

theorem P_le_points : P s 256 ≤ 1287 := by
  have := P_le_ceil hm h0 hs 255 (by omega)
  have h : s (255 + 1) = 528384 := hs
  rw [h] at this
  exact this

/-- Every row's pair: in the row's block, with the row's expert, and with the row among its rows. -/
theorem pair_of_row {R e : ℕ} (he : e < 256) (h1 : s e ≤ R) (h2 : R < s (e + 1)) :
    ∃ p, p < P s 256 ∧ ep s p = e ∧ blk s p = R / 512 ∧ lo s p ≤ R % 512 ∧ R % 512 < hi s p := by
  have hlt : s e < s (e + 1) := by omega
  have hnb : nb s e = (s (e + 1) - 1) / 512 - s e / 512 + 1 := by rw [nb, if_pos hlt]
  have hp1 : P s e ≤ P s e + (R / 512 - s e / 512) := by omega
  have hp2 : P s e + (R / 512 - s e / 512) < P s (e + 1) := by
    show _ < P s e + nb s e
    omega
  have hv : P s e + (R / 512 - s e / 512) < P s 256 := lt_of_lt_of_le hp2 (P_mono (by omega))
  have hep := ep_eq he hp1 hp2
  have hb : blk s (P s e + (R / 512 - s e / 512)) = R / 512 := by
    unfold blk
    rw [if_pos hv, hep]
    omega
  refine ⟨_, hv, hep, hb, ?_, ?_⟩
  · unfold lo
    rw [if_pos hv, hep, hb]
    omega
  · unfold hi
    rw [if_pos hv, hep, hb]
    omega

theorem blk_mono_succ (p : ℕ) : blk s p ≤ blk s (p + 1) := by
  by_cases h : p + 1 < P s 256
  · obtain ⟨e, he, -, h1, h2, h3, h4, h5⟩ := valid_spec (s := s) (p := p) (by omega)
    obtain ⟨e', he', -, h1', h2', h3', h4', h5'⟩ := valid_spec h
    by_cases hee : e' ≤ e
    · by_cases heq : e' = e
      · subst heq
        omega
      · have := P_mono (s := s) (show e' + 1 ≤ e by omega)
        have h6 : P s (e' + 1) = P s e' + nb s e' := rfl
        omega
    · have := s_mono hm (show e + 1 ≤ e' by omega)
      omega
  · have := blk_le hm hs.le p
    unfold blk at this ⊢
    rw [if_neg h]
    exact this

theorem blk_mono {p q : ℕ} (h : p ≤ q) : blk s p ≤ blk s q := monotone_nat_of_le_succ (blk_mono_succ hm h0 hs) h

/-- After a row's pair, as long as the block is the same, no later point is the first of the block or has the row. -/
theorem later {R e p q : ℕ} (he : e < 256) (h2 : R < s (e + 1)) (hv : p < P s 256) (hep : ep s p = e)
    (hb : blk s p = R / 512) (hpq : p < q) (hq : blk s q = R / 512) :
    ¬ first s q ∧ ¬ (lo s q ≤ R % 512 ∧ R % 512 < hi s q) := by
  refine ⟨?_, ?_⟩
  · rintro (h | h)
    · omega
    · have a1 := blk_mono hm h0 hs (show p ≤ q - 1 by omega)
      have a2 := blk_mono hm h0 hs (show q - 1 ≤ q by omega)
      omega
  · rintro ⟨hl, hh⟩
    by_cases hqv : q < P s 256
    · obtain ⟨a, ha, hae, b1, b2, b3, b4, b5⟩ := valid_spec hv
      obtain ⟨a', ha', hae', b1', b2', b3', b4', b5'⟩ := valid_spec hqv
      rw [hep] at hae
      subst hae
      rcases Nat.lt_trichotomy a' e with hc | hc | hc
      · have := P_mono (s := s) (show a' + 1 ≤ e by omega)
        have h6 : P s (a' + 1) = P s a' + nb s a' := rfl
        omega
      · subst hc
        omega
      · have := s_mono hm (show e + 1 ≤ a' by omega)
        unfold lo at hl
        rw [if_pos hqv, hae', hq] at hl
        omega
    · unfold hi at hh
      rw [if_neg hqv] at hh
      omega

/-- A point that is the first of its block is a pair's. -/
theorem valid_of_first {p : ℕ} (h : first s p) : p < P s 256 := by
  by_contra hc
  obtain ⟨e, he, e1, e2⟩ : ∃ e, e < 256 ∧ s e ≤ 528383 ∧ 528383 < s (e + 1) := by
    by_contra hne
    have : ∀ n, n ≤ 256 → s n ≤ 528383 := by
      intro n
      induction n with
      | zero => intro _; omega
      | succ n ih =>
        intro hn
        by_contra hlt
        exact hne ⟨n, by omega, ih (by omega), by omega⟩
    have := this 256 (le_refl _)
    omega
  obtain ⟨q, hq, -, hb, -, -⟩ := pair_of_row hm h0 hs he e1 e2
  have hp1 : blk s p = 1031 := by unfold blk; rw [if_neg hc]
  have a1 := blk_mono hm h0 hs (show q ≤ p - 1 by omega)
  have a2 := blk_le hm hs.le (p - 1)
  rcases h with h | h
  · omega
  · omega

/-- Every row has an expert. -/
theorem expert_of_row {R : ℕ} (hR : R < 528384) : ∃ e, e < 256 ∧ s e ≤ R ∧ R < s (e + 1) := by
  by_contra hne
  have : ∀ n, n ≤ 256 → s n ≤ R := by
    intro n
    induction n with
    | zero => intro _; omega
    | succ n ih =>
      intro hn
      by_contra hlt
      exact hne ⟨n, by omega, ih (by omega), by omega⟩
  have := this 256 (le_refl _)
  omega

end Total
end Cert.Experts.Plan
end
-- ==== Proof.Experts.Arith.lean ====
module
public import proofs.«01_k».proof.Proof.Experts.Plan
public import Idealize.ShloMosaic.Lib.Routing.Words
public import Idealize.ShloMosaic.Lib.Routing.OpsSet
/-!
# Words that hold small naturals, and the plan's sums

The steps of the host operations on words that hold naturals below `2 ^ 31`, and the plan's running sum and count
spelt as the host operations spell them.
-/
@[expose] public section
namespace Cert.Experts.Plan
open Idealize.ShloMosaic Idealize.ShloMosaic.ValueIdx Idealize.ShloMosaic.WordCmp Idealize.ShloMosaic.Routing

theorem subi_word {a b : ℕ} (h : b ≤ a) :
    IntOp.subi (BitVec.ofNat 32 a) (BitVec.ofNat 32 b) = BitVec.ofNat 32 (a - b) := ofNat32_sub h

theorem addi_word (a b : ℕ) : IntOp.addi (BitVec.ofNat 32 a) (BitVec.ofNat 32 b) = BitVec.ofNat 32 (a + b) :=
  addi_ofNat (w := 32) a b

theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), min_eq_left h.le]
  · rw [if_neg (by simpa using h), min_eq_right (by omega)]

theorem maxsi_word {a b : ℕ} (ha : a < 2 ^ 31) (hb : b < 2 ^ 31) :
    IntOp.maxsi (BitVec.ofNat 32 a) (BitVec.ofNat 32 b) = BitVec.ofNat 32 (max a b) := by
  unfold IntOp.maxsi
  first
    | rw [slt_ofNat32 ha hb]
      by_cases h : a < b
      · rw [if_pos (decide_eq_true h), max_eq_right h.le]
      · rw [if_neg (by simpa using h), max_eq_left (by omega)]
    | rw [slt_ofNat32 hb ha]
      by_cases h : b < a
      · rw [if_pos (decide_eq_true h), max_eq_left h.le]
      · rw [if_neg (by simpa using h), max_eq_right (by omega)]

/-- An index that is not negative is not moved by the wrap of negative indices. -/
theorem wrap_at {n : ℕ} (hb : shape0.BroadcastsInDim (shape1 n) (![] : Fin 0 → Fin (shape1 n).rank))
    (x : IVec (shape1 n) 32) (N : IVec shape0 32) (p : (shape1 n).Idx) {k : ℕ} (hk : k < 2 ^ 31)
    (hx : x p = BitVec.ofNat 32 k) :
    select (cmpi .slt x (broadcastInDim (shape1 n) ![] hb (constantI shape0 32 0#32)))
      (addi x (broadcastInDim (shape1 n) ![] hb N)) x p = BitVec.ofNat 32 k := by
  rw [select_at, cmpi_at, bc0, hx]
  exact select_of_eq_zero ((cmpi_slt_ofNat_eq_zero_iff (w := 32) (a := k) (b := 0) hk (by norm_num)).mpr (Nat.not_lt_zero k)) _ _

variable {s : ℕ → ℕ}

theorem P_eq_sum : ∀ e, P s e = ((List.range e).map (nb s)).sum
  | 0 => rfl
  | e + 1 => by
    rw [List.range_succ, List.map_append, List.sum_append, ← P_eq_sum e]
    simp [P]

theorem ep_eq_count (p : ℕ) : ep s p = min (Nat.count (fun e => P s (e + 1) ≤ p) 256) 255 := by
  unfold ep
  rw [Nat.count_eq_card_filter_range]

end Cert.Experts.Plan
end
-- ==== Proof.Experts.Tables.lean ====
module
public import proofs.«01_k».proof.Proof.Experts.Words
public import proofs.«01_k».proof.Proof.Experts.Arith
/-!
# The routed experts' call: the tables

What the host operations leave in the five tables, as the plan in natural numbers. `sN e` is the number of rows, in
the sorted order, whose expert's number is below `e`.
-/
@[expose] public section
set_option maxRecDepth 16384
noncomputable section
namespace Cert.ExpertsIdeal.Hand
open Cert.ExpertsIdeal Cert.ExpertsIdeal.Gen
open Idealize.ShloMosaic Idealize.ShloMosaic.TcCoe
open Idealize.ShloMosaic.ValueIdx Idealize.ShloMosaic.WordCmp
open Cert.Experts.Plan

variable {F : FTy → Type} [FloatOps F]
variable (m : (ℓ : Loc nD τ sig) → Buf (Elt F) ℓ) (c : Dev nD)

/-- The expert's number in row `R` of the sorted order. -/
def key (R : ℕ) : ℤ := if h : R < 528384 then (w_v2_0 m c (ix1 ⟨R, h⟩)).toInt else 0
/-- How many rows have an expert's number below `e`. -/
def sN (e : ℕ) : ℕ := Nat.count (fun R => key m c R < (e : ℤ)) 528384

theorem sN_mono (e : ℕ) : sN m c e ≤ sN m c (e + 1) :=
  Nat.count_mono_left fun R h => by push_cast; omega
theorem sN_le (e : ℕ) : sN m c e ≤ 528384 := Nat.count_le _
theorem sN_lt (e : ℕ) : sN m c e < 2 ^ 31 := lt_of_le_of_lt (sN_le m c e) (by norm_num)
theorem P_lt {e : ℕ} (he : e ≤ 256) : P (sN m c) e < 2 ^ 31 :=
  lt_of_le_of_lt (P_le (sN_mono m c) (sN_le m c 256) e he) (by omega)

theorem t10 (e : Fin 257) : w_v10 m c (ix1 e) = BitVec.ofNat 32 (sN m c e.val) := by
  rw [w_v10_eq, w_v9_eq, w_c_eq]
  refine Routing.reduce_count (n := 257) (m := 528384) (by norm_num) (w_v8 m c) natLt_1_32 _ _ e
    (fun R => key m c R < (e.val : ℤ)) fun R => ?_
  have e1 : w_v6 m c (ix2 e R) = w_v2_0 m c (ix1 R) := by
    rw [w_v6_eq, w_v4_eq]
    exact Routing.bcCols _ _ _ e R
  have e2 : w_v7 m c (ix2 e R) = BitVec.ofNat 32 e.val := by
    rw [w_v7_eq, w_v5_eq, w_v3_eq]
    exact Routing.bcRows _ _ _ e R
  have e3 : key m c R.val = (w_v2_0 m c (ix1 R)).toInt := dif_pos R.isLt
  have e4 : (BitVec.ofNat 32 e.val).toInt = (e.val : ℤ) :=
    toInt_ofNat_of_lt (w := 32) (lt_trans e.isLt (by norm_num))
  rw [w_v8_eq, cmpi_at, e1, e2, cmpi_slt_eq, e4, e3, ofBool_decide_eq_ite]
  split <;> simp_all

theorem t11 (e : Fin 256) : w_v11 m c (ix1 e) = BitVec.ofNat 32 (sN m c e.val) := by
  rw [w_v11_eq]
  refine (Routing.slice1 (m := 257) (n := 256) 0 (w_v10 m c) _ e (by have := e.isLt; omega)).trans ((t10 m c _).trans ?_)
  show BitVec.ofNat 32 (sN m c (0 + e.val)) = _
  rw [Nat.zero_add]
theorem t12 (e : Fin 256) : w_v12 m c (ix1 e) = BitVec.ofNat 32 (sN m c (e.val + 1)) := by
  rw [w_v12_eq]
  refine (Routing.slice1 (m := 257) (n := 256) 1 (w_v10 m c) _ e (by have := e.isLt; omega)).trans ((t10 m c _).trans ?_)
  show BitVec.ofNat 32 (sN m c (1 + e.val)) = _
  rw [Nat.add_comm]
theorem t13 (e : Fin 256) : w_v13 m c (ix1 e) = BitVec.ofNat 32 (sN m c e.val) := by
  rw [w_v13_eq]
  refine (Routing.slice1 (m := 257) (n := 256) 0 (w_v10 m c) _ e (by have := e.isLt; omega)).trans ((t10 m c _).trans ?_)
  show BitVec.ofNat 32 (sN m c (0 + e.val)) = _
  rw [Nat.zero_add]
theorem t14 (e : Fin 256) : w_v14 m c (ix1 e) = BitVec.ofNat 32 (sN m c (e.val + 1) - sN m c e.val) := by
  rw [w_v14_eq, subi_apply, t12, t13]
  exact subi_word (sN_mono m c e.val)

theorem h15 : w_v15 m c = Routing.pyDiv bcast_S_S256 (w_v11 m c) (constantI S_ 32 512#32) := by
  simp only [w_v15_eq, w_call0_v11_eq, w_call0_v13_eq, w_call0_v6_eq, w_call0_v10_eq, w_call0_v3_eq, w_call0_v5_eq,
    w_call0_v4_eq, w_call0_v8_eq, w_call0_v9_eq, w_call0_c_eq, w_call0_v12_eq, w_call0_c_0_eq, w_call0_v2_eq,
    w_call0_v1_eq, w_call0_v7_eq, w_call0_v0_eq, w_c_0_eq] <;> rfl
theorem t15 (e : Fin 256) : w_v15 m c (ix1 e) = BitVec.ofNat 32 (sN m c e.val / 512) := by
  rw [h15]
  exact Routing.pyDiv_ap _ _ _ _ (t11 m c e) rfl (sN_lt m c _) (by norm_num) (by norm_num)

theorem t18 (e : Fin 256) : w_v18 m c (ix1 e) = BitVec.ofNat 32 (sN m c (e.val + 1)) := by
  rw [w_v18_eq, addi_apply, t11, t14, addi_word, Nat.add_sub_cancel' (sN_mono m c e.val)]
theorem t20 (e : Fin 256) (h : 1 ≤ sN m c (e.val + 1)) :
    w_v20 m c (ix1 e) = BitVec.ofNat 32 (sN m c (e.val + 1) - 1) := by
  have e1 : w_v19 m c (ix1 e) = BitVec.ofNat 32 1 := by
    rw [w_v19_eq, w_c_2_eq]
    exact Routing.bc0 _ _ _
  rw [w_v20_eq, subi_apply, t18, e1]
  exact subi_word h
theorem h21 : w_v21 m c = Routing.pyDiv bcast_S_S256 (w_v20 m c) (constantI S_ 32 512#32) := by
  simp only [w_v21_eq, w_call1_v11_eq, w_call1_v13_eq, w_call1_v6_eq, w_call1_v10_eq, w_call1_v3_eq, w_call1_v5_eq,
    w_call1_v4_eq, w_call1_v8_eq, w_call1_v9_eq, w_call1_c_eq, w_call1_v12_eq, w_call1_c_0_eq, w_call1_v2_eq,
    w_call1_v1_eq, w_call1_v7_eq, w_call1_v0_eq, w_c_3_eq] <;> rfl
theorem t21 (e : Fin 256) (h : 1 ≤ sN m c (e.val + 1)) :
    w_v21 m c (ix1 e) = BitVec.ofNat 32 ((sN m c (e.val + 1) - 1) / 512) := by
  rw [h21]
  exact Routing.pyDiv_ap _ _ _ _ (t20 m c e h) rfl (by have := sN_lt m c (e.val + 1); omega) (by norm_num) (by norm_num)

theorem t25 (e : Fin 256) : w_v25 m c (ix1 e) = BitVec.ofNat 32 (nb (sN m c) e.val) := by
  have e16 : w_v16 m c (ix1 e) = BitVec.ofNat 32 0 := by
    rw [w_v16_eq, w_c_1_eq]
    exact Routing.bc0 _ _ _
  have e23 : w_v23 m c (ix1 e) = BitVec.ofNat 32 1 := by
    rw [w_v23_eq, w_c_4_eq]
    exact Routing.bc0 _ _ _
  have e0 : w_call2_v1 m c (ix1 e) = BitVec.ofNat 32 0 := by
    rw [w_call2_v1_eq, w_call2_v0_eq, w_c_5_eq]
    exact Routing.bc0 _ _ _
  have hl : sN m c (e.val + 1) - sN m c e.val < 2 ^ 31 := by have := sN_lt m c (e.val + 1); omega
  rw [w_v25_eq, select_at, w_v17_eq, cmpi_at, t14, e16]
  by_cases h : sN m c e.val < sN m c (e.val + 1)
  · rw [select_of_eq_one ((cmpi_sgt_ofNat_eq_one_iff (w := 32) hl (by norm_num)).mpr (by omega)), w_v24_eq, addi_apply,
      w_v22_eq, subi_apply, t21 m c e (by omega), t15, e23, subi_word (Nat.div_le_div_right (by omega)), addi_word, nb,
      if_pos h]
  · rw [select_of_eq_zero ((cmpi_sgt_ofNat_eq_zero_iff (w := 32) hl (by norm_num)).mpr (by omega)), e0, nb, if_neg h]

theorem t26 (e : Fin 256) : w_v26 m c (ix1 e) = BitVec.ofNat 32 (P (sN m c) (e.val + 1)) := by
  have hi : w_call3_call0_v0 m c ValueIdx.ix0 = 0#32 := by
    rw [w_call3_call0_v0_eq, w_call3_call0_c_eq]
    exact Routing.bc0 _ _ _
  rw [w_v26_eq]
  unfold cumF
  exact (Routing.cumsum1 (N := 256) (Nm1 := 255) rfl (w_v25 m c) (nb (sN m c)) (t25 m c) _ hi _ _ e).trans
    (by rw [P_eq_sum])
theorem t27 (e : Fin 256) : w_v27 m c (ix1 e) = BitVec.ofNat 32 (P (sN m c) e.val) := by
  rw [w_v27_eq, subi_apply, t26, t25]
  refine (subi_word (show nb (sN m c) e.val ≤ P (sN m c) e.val + nb (sN m c) e.val from Nat.le_add_left _ _)).trans ?_
  rw [Nat.add_sub_cancel]
theorem t28 (p : Fin 1287) : w_v28 m c (ix1 p) = BitVec.ofNat 32 p.val := by
  rw [w_v28_eq]
  rfl
theorem t37 (p : Fin 1287) : w_v37 m c (ix1 p) = BitVec.ofNat 32 (ep (sN m c) p.val) := by
  have t35 : w_v35 m c (ix1 p) = BitVec.ofNat 32 (Nat.count (fun e => P (sN m c) (e + 1) ≤ p.val) 256) := by
    rw [w_v35_eq, w_v34_eq, w_c_6_eq]
    refine Routing.reduce_count (n := 1287) (m := 256) (by norm_num) (w_v33 m c) natLt_1_32 _ _ p
      (fun e => P (sN m c) (e + 1) ≤ p.val) fun e => ?_
    have e31 : w_v31 m c (ix2 p e) = BitVec.ofNat 32 (P (sN m c) (e.val + 1)) := by
      rw [w_v31_eq, w_v29_eq, ← t26]
      exact Routing.bcCols _ _ _ p e
    have e32 : w_v32 m c (ix2 p e) = BitVec.ofNat 32 p.val := by
      rw [w_v32_eq, w_v30_eq, ← t28 m c]
      exact Routing.bcRows _ _ _ p e
    rw [w_v33_eq, cmpi_at, e31, e32]
    exact cmpi_sle_ofNat_eq_one_iff (w := 32) (P_lt m c (by have := e.isLt; omega)) (lt_trans p.isLt (by norm_num))
  have e36 : w_v36 m c (ix1 p) = BitVec.ofNat 32 255 := by
    rw [w_v36_eq, w_c_7_eq]
    exact Routing.bc0 _ _ _
  rw [w_v37_eq, minsi_apply, t35, e36, ep_eq_count]
  exact minsi_word (lt_of_le_of_lt (Nat.count_le _) (by norm_num)) (by norm_num)

theorem e40 (p : Fin 1287) : w_v40 m c (ix1 p) = BitVec.ofNat 32 (P (sN m c) 256) := by
  have e38 : w_v38 m c (ix1 (0 : Fin 1)) = BitVec.ofNat 32 (P (sN m c) 256) := by
    rw [w_v38_eq]
    exact (Routing.slice1 (m := 256) (n := 1) 255 (w_v26 m c) _ 0 (by norm_num)).trans (t26 m c ⟨255, by norm_num⟩)
  have e39 : w_v39 m c ValueIdx.ix0 = BitVec.ofNat 32 (P (sN m c) 256) := by
    rw [w_v39_eq, ← e38]
    exact congrArg (w_v38 m c) (funext fun a => match a with | ⟨0, _⟩ => Subsingleton.elim (α := Fin 1) _ _)
  rw [w_v40_eq, ← e39]
  exact Routing.bc0 _ _ _
theorem t41 (p : Fin 1287) (h : p.val < P (sN m c) 256) : w_v41 m c (ix1 p) = 1#1 := by
  rw [w_v41_eq, cmpi_at, t28, e40]
  exact (cmpi_slt_ofNat_eq_one_iff (w := 32) (lt_trans p.isLt (by norm_num)) (P_lt m c le_rfl)).mpr h
theorem t41' (p : Fin 1287) (h : ¬p.val < P (sN m c) 256) : w_v41 m c (ix1 p) = 0#1 := by
  rw [w_v41_eq, cmpi_at, t28, e40]
  exact (cmpi_slt_ofNat_eq_zero_iff (w := 32) (lt_trans p.isLt (by norm_num)) (P_lt m c le_rfl)).mpr (by omega)

/-- The expert of point `p`. -/
abbrev epF (p : Fin 1287) : Fin 256 := ⟨ep (sN m c) p.val, ep_lt _⟩
theorem epF_lt (p : Fin 1287) : ep (sN m c) p.val < 2 ^ 31 := lt_trans (ep_lt _) (by norm_num)

/-- A table taken at the points' experts. -/
theorem take {α : Type} (x : S256.Idx → α) (idx : IVec S1287x1 32) (v : IVec S1287 32) (p : Fin 1287)
    (hi : idx = broadcastInDim S1287x1 ![0] bcast_S1287_S1287x1_0 v)
    (hv : v (ix1 p) = BitVec.ofNat 32 (ep (sN m c) p.val)) :
    Host.gather gather_S256_S1287x1_S1287_n_0_n_n_0_1_1 x idx (ix1 p) = x (ix1 (epF m c p)) :=
  Routing.gather_take1 gather_S256_S1287x1_S1287_n_0_n_n_0_1_1 rfl rfl rfl rfl x idx p (epF m c p)
    (by rw [hi]; exact (Routing.bcCol _ _ p).trans hv) (by norm_num)

theorem t46 (p : Fin 1287) : w_v46 m c (ix1 p) = BitVec.ofNat 32 (ep (sN m c) p.val) := by
  rw [w_v46_eq, w_v43_eq, w_v42_eq, w_c_8_eq, w_v45_eq, w_v44_eq]
  exact wrap_at _ _ _ _ (epF_lt m c p) (t37 m c p)
theorem t54 (p : Fin 1287) : w_v54 m c (ix1 p) = BitVec.ofNat 32 (ep (sN m c) p.val) := by
  rw [w_v54_eq, w_v51_eq, w_v50_eq, w_c_10_eq, w_v53_eq, w_v52_eq]
  exact wrap_at _ _ _ _ (epF_lt m c p) (t37 m c p)
theorem t65 (p : Fin 1287) : w_v65 m c (ix1 p) = BitVec.ofNat 32 (ep (sN m c) p.val) := by
  rw [w_v65_eq, w_v62_eq, w_v61_eq, w_c_14_eq, w_v64_eq, w_v63_eq]
  exact wrap_at _ _ _ _ (epF_lt m c p) (t37 m c p)
theorem t75 (p : Fin 1287) : w_v75 m c (ix1 p) = BitVec.ofNat 32 (ep (sN m c) p.val) := by
  rw [w_v75_eq, w_v72_eq, w_v71_eq, w_c_17_eq, w_v74_eq, w_v73_eq]
  exact wrap_at _ _ _ _ (epF_lt m c p) (t37 m c p)
theorem t82 (p : Fin 1287) : w_v82 m c (ix1 p) = BitVec.ofNat 32 (ep (sN m c) p.val) := by
  rw [w_v82_eq, w_v79_eq, w_v78_eq, w_c_19_eq, w_v81_eq, w_v80_eq]
  exact wrap_at _ _ _ _ (epF_lt m c p) (t37 m c p)

theorem t48 (p : Fin 1287) : w_v48 m c (ix1 p) = BitVec.ofNat 32 (sN m c (ep (sN m c) p.val) / 512) := by
  rw [w_v48_eq]
  exact (take m c (w_v15 m c) _ _ p (w_v47_eq m c) (t46 m c p)).trans (t15 m c _)
theorem t56 (p : Fin 1287) : w_v56 m c (ix1 p) = BitVec.ofNat 32 (P (sN m c) (ep (sN m c) p.val)) := by
  rw [w_v56_eq]
  exact (take m c (w_v27 m c) _ _ p (w_v55_eq m c) (t54 m c p)).trans (t27 m c _)
theorem t67 (p : Fin 1287) : w_v67 m c (ix1 p) = BitVec.ofNat 32 (sN m c (ep (sN m c) p.val)) := by
  rw [w_v67_eq]
  exact (take m c (w_v11 m c) _ _ p (w_v66_eq m c) (t65 m c p)).trans (t11 m c _)
theorem t77 (p : Fin 1287) : w_v77 m c (ix1 p) = BitVec.ofNat 32 (sN m c (ep (sN m c) p.val)) := by
  rw [w_v77_eq]
  exact (take m c (w_v11 m c) _ _ p (w_v76_eq m c) (t75 m c p)).trans (t11 m c _)
theorem t84 (p : Fin 1287) : w_v84 m c (ix1 p)
    = BitVec.ofNat 32 (sN m c (ep (sN m c) p.val + 1) - sN m c (ep (sN m c) p.val)) := by
  rw [w_v84_eq]
  exact (take m c (w_v14 m c) _ _ p (w_v83_eq m c) (t82 m c p)).trans (t14 m c _)

theorem t58 (p : Fin 1287) : w_v58 m c (ix1 p) = BitVec.ofNat 32 (blk (sN m c) p.val) := by
  have e1 : w_call4_v1 m c (ix1 p) = BitVec.ofNat 32 1031 := by
    rw [w_call4_v1_eq, w_call4_v0_eq, w_c_12_eq]
    exact Routing.bc0 _ _ _
  rw [w_v58_eq, select_at]
  by_cases h : p.val < P (sN m c) 256
  · obtain ⟨e, he, h0, h1, h2, h3, h4, h5⟩ := valid_spec h
    rw [t41 m c p h, select_of_eq_one rfl, w_v57_eq, subi_apply, w_v49_eq, addi_apply, t48, t28, t56, addi_word, h0, h5]
    exact subi_word (by omega)
  · rw [t41' m c p h, select_of_eq_zero rfl, e1, blk, if_neg h]

theorem blk_le' (p : ℕ) : blk (sN m c) p ≤ 1031 := blk_le (sN_mono m c) (sN_le m c 256) p

theorem t60 (p : Fin 1287) : w_v60 m c (ix1 p) = BitVec.ofNat 32 (512 * blk (sN m c) p.val) := by
  have e1 : w_v59 m c (ix1 p) = BitVec.ofNat 32 512 := by
    rw [w_v59_eq, w_c_13_eq]
    exact Routing.bc0 _ _ _
  rw [w_v60_eq, muli_apply, t58, e1, Nat.mul_comm]
  exact muli_ofNat (w := 32) _ _
theorem t70 (p : Fin 1287) : w_v70 m c (ix1 p) = BitVec.ofNat 32 (lo (sN m c) p.val) := by
  have e1 : w_call5_v1 m c (ix1 p) = BitVec.ofNat 32 0 := by
    rw [w_call5_v1_eq, w_call5_v0_eq, w_c_16_eq]
    exact Routing.bc0 _ _ _
  have hb := blk_le' m c p.val
  rw [w_v70_eq, select_at, lo]
  by_cases h : p.val < P (sN m c) 256
  · rw [t41 m c p h, select_of_eq_one rfl, w_v69_eq, subi_apply, w_v68_eq, maxsi_apply, t67, t60,
      maxsi_word (sN_lt m c _) (by omega), if_pos h]
    exact subi_word (le_max_right _ _)
  · rw [t41' m c p h, select_of_eq_zero rfl, e1, if_neg h]
theorem t90 (p : Fin 1287) : w_v90 m c (ix1 p) = BitVec.ofNat 32 (hi (sN m c) p.val) := by
  have e1 : w_call6_v1 m c (ix1 p) = BitVec.ofNat 32 0 := by
    rw [w_call6_v1_eq, w_call6_v0_eq, w_c_22_eq]
    exact Routing.bc0 _ _ _
  have e86 : w_v86 m c (ix1 p) = BitVec.ofNat 32 512 := by
    rw [w_v86_eq, w_c_21_eq]
    exact Routing.bc0 _ _ _
  have hb := blk_le' m c p.val
  rw [w_v90_eq, select_at]
  by_cases h : p.val < P (sN m c) 256
  · have hlt := lo_lt_hi (sN_mono m c) (sN_le m c 256) h
    rw [hi, if_pos h] at hlt ⊢
    rw [t41 m c p h, select_of_eq_one rfl, w_v89_eq, subi_apply, w_v88_eq, minsi_apply, w_v85_eq, addi_apply, t77, t84,
      addi_word, Nat.add_sub_cancel' (sN_mono m c _), w_v87_eq, addi_apply, t60, e86, addi_word,
      minsi_word (sN_lt m c _) (by omega)]
    exact subi_word (by omega)
  · rw [t41' m c p h, select_of_eq_zero rfl, e1, hi, if_neg h]

theorem t96 (p : Fin 1287) : w_v96 m c (ix1 p) = 1#32 ↔ first (sN m c) p.val := by
  rw [w_v96_eq]
  by_cases h0 : p.val = 0
  · refine iff_of_true ?_ (Or.inl h0)
    refine (concatenate_pair_apply_left (s₁ := S1) (s₂ := S1286) (t := S1287) 0 (w_v91 m c) (w_v95 m c) _ (ix1 p) rfl
      (ix1 (0 : Fin 1)) fun b => match b with | ⟨0, _⟩ => h0.symm).trans ?_
    rw [w_v91_eq, w_c_23_eq]
    exact Routing.bc0 _ _ _
  · have hp := p.isLt
    have e := concatenate_pair_apply_right (s₁ := S1) (s₂ := S1286) (t := S1287) 0 (w_v91 m c) (w_v95 m c)
      concatenates_S1_S1286_S1287_d0 (ix1 p) rfl rfl (ix1 (⟨p.val - 1, by omega⟩ : Fin 1286))
      (fun b hb => absurd (Subsingleton.elim (α := Fin 1) _ _) hb) (by show p.val - 1 + 1 = p.val; omega)
    refine (Iff.of_eq (congrArg (· = 1#32) e)).trans ?_
    have e92 : w_v92 m c (ix1 (⟨p.val - 1, by omega⟩ : Fin 1286)) = BitVec.ofNat 32 (blk (sN m c) p.val) := by
      rw [w_v92_eq]
      refine (Routing.slice1 (m := 1287) (n := 1286) 1 (w_v58 m c) _ _ (by show 1 + (p.val - 1) < 1287; omega)).trans
        ((t58 m c _).trans ?_)
      show BitVec.ofNat 32 (blk (sN m c) (1 + (p.val - 1))) = _
      rw [show 1 + (p.val - 1) = p.val by omega]
    have e93 : w_v93 m c (ix1 (⟨p.val - 1, by omega⟩ : Fin 1286)) = BitVec.ofNat 32 (blk (sN m c) (p.val - 1)) := by
      rw [w_v93_eq]
      refine (Routing.slice1 (m := 1287) (n := 1286) 0 (w_v58 m c) _ _ (by show 0 + (p.val - 1) < 1287; omega)).trans
        ((t58 m c _).trans ?_)
      show BitVec.ofNat 32 (blk (sN m c) (0 + (p.val - 1))) = _
      rw [Nat.zero_add]
    have b1 := blk_le' m c p.val
    have b2 := blk_le' m c (p.val - 1)
    rw [w_v95_eq]
    show (w_v94 m c (ix1 (⟨p.val - 1, by omega⟩ : Fin 1286))).setWidth 32 = 1#32 ↔ _
    rw [w_v94_eq, cmpi_at, e92, e93]
    by_cases hh : blk (sN m c) p.val = blk (sN m c) (p.val - 1)
    · rw [(cmpi_ne_ofNat_eq_zero_iff (w := 32) (by omega) (by omega)).mpr (not_not.mpr hh)]
      exact iff_of_false (by decide) (by rintro (h | h); exacts [h0 h, h hh])
    · rw [(cmpi_ne_ofNat_eq_one_iff (w := 32) (by omega) (by omega)).mpr hh]
      exact iff_of_true (by decide) (Or.inr hh)

/-- Past a block's first point the word is zero. -/
theorem t96' (p : Fin 1287) (h : ¬ first (sN m c) p.val) : w_v96 m c (ix1 p) = 0#32 := by
  have h0 : p.val ≠ 0 := fun e => h (Or.inl e)
  have hh : blk (sN m c) p.val = blk (sN m c) (p.val - 1) := by
    by_contra e; exact h (Or.inr e)
  rw [w_v96_eq]
  refine (concatenate_pair_apply_right (s₁ := S1) (s₂ := S1286) (t := S1287) 0 (w_v91 m c) (w_v95 m c)
    concatenates_S1_S1286_S1287_d0 (ix1 p) rfl rfl (ix1 (⟨p.val - 1, by omega⟩ : Fin 1286))
    (fun b hb => absurd (Subsingleton.elim (α := Fin 1) _ _) hb) (by show p.val - 1 + 1 = p.val; omega)).trans ?_
  have e92 : w_v92 m c (ix1 (⟨p.val - 1, by omega⟩ : Fin 1286)) = BitVec.ofNat 32 (blk (sN m c) p.val) := by
    rw [w_v92_eq]
    refine (Routing.slice1 (m := 1287) (n := 1286) 1 (w_v58 m c) _ _ (by show 1 + (p.val - 1) < 1287; omega)).trans
      ((t58 m c _).trans ?_)
    show BitVec.ofNat 32 (blk (sN m c) (1 + (p.val - 1))) = _
    rw [show 1 + (p.val - 1) = p.val by omega]
  have e93 : w_v93 m c (ix1 (⟨p.val - 1, by omega⟩ : Fin 1286)) = BitVec.ofNat 32 (blk (sN m c) (p.val - 1)) := by
    rw [w_v93_eq]
    refine (Routing.slice1 (m := 1287) (n := 1286) 0 (w_v58 m c) _ _ (by show 0 + (p.val - 1) < 1287; omega)).trans
      ((t58 m c _).trans ?_)
    show BitVec.ofNat 32 (blk (sN m c) (0 + (p.val - 1))) = _
    rw [Nat.zero_add]
  have b1 := blk_le' m c p.val
  have b2 := blk_le' m c (p.val - 1)
  rw [w_v95_eq]
  show (w_v94 m c (ix1 (⟨p.val - 1, by omega⟩ : Fin 1286))).setWidth 32 = _
  rw [w_v94_eq, cmpi_at, e92, e93, (cmpi_ne_ofNat_eq_zero_iff (w := 32) (by omega) (by omega)).mpr (not_not.mpr hh)]
  rfl

end Cert.ExpertsIdeal.Hand
end
-- ==== Proof.Experts.Entries.lean ====
module
public import proofs.«01_k».proof.Proof.Experts.Tables
public import proofs.«01_k».proof.Proof.Experts.Data
/-!
# The routed experts' call: the tables' entries, and the frame

Every entry of the tables names a block or an expert that exists, whatever the arguments hold; so the call runs.
-/
@[expose] public section
set_option maxRecDepth 16384
noncomputable section
namespace Cert.ExpertsIdeal.Hand
open Cert.ExpertsIdeal Cert.ExpertsIdeal.Gen
open Idealize.ShloMosaic Idealize.ShloMosaic.TcCoe Idealize.SL.Sem
open Idealize.ShloMosaic.ValueIdx Idealize.ShloMosaic.WordCmp
open Cert.Experts.Plan

variable {F : FTy → Type} [FloatOps F]
variable (m : (ℓ : Loc nD τ sig) → Buf (Elt F) ℓ) (ρ : Dev nD → PrngReg)

/-- A point of the grid. -/
abbrev pt (i : grid0.Coords) : Fin 1287 := ⟨(i 0).val, (i 0).isLt⟩

theorem ent_eq (f : S1287.Idx → BitVec 32) (i : grid0.Coords) : ent f i = f (ix1 (pt i)) := by
  refine congrArg f (funext fun b => Fin.ext ?_)
  obtain rfl : b = 0 := Subsingleton.elim (α := Fin 1) _ _
  rw [Rect.emb_apply]
  show (BitVec.ofNat 32 (i 0).val).toNat + 1 * 0 = (i 0).val
  rw [toNat_ofNat_of_lt (lt_trans (i 0).isLt (by norm_num : 1287 < 2 ^ 32))]
  omega

theorem blk_entry (i : grid0.Coords) : (ent (w_v58 m 0) i).toNat = blk (sN m 0) (i 0).val := by
  rw [ent_eq]
  refine (congrArg BitVec.toNat (t58 m 0 (pt i))).trans (toNat_ofNat_of_lt ?_)
  have := blk_le' m 0 (i 0).val
  show blk (sN m 0) (i 0).val < 2 ^ 32
  omega
theorem ep_entry (i : grid0.Coords) : (ent (w_v37 m 0) i).toNat = ep (sN m 0) (i 0).val := by
  rw [ent_eq]
  refine (congrArg BitVec.toNat (t37 m 0 (pt i))).trans (toNat_ofNat_of_lt ?_)
  exact lt_trans (ep_lt _) (by norm_num)

/-- A block of 512 rows that lies in the array lies there in whole words. -/
theorem rows_ok (T : Fin 2 → Nat) (h0 : T 0 ≤ 1031) (h1 : T 1 = 0) :
    ∃ h : (∀ a, (T a + 1) * S512x1024.size a ≤ S528384x1024.size a),
      EltTy.bits .bf16 = 32 ∨ (Rect.block (s := S528384x1024) S512x1024.size T h).WholeWords (EltTy.packing .bf16) := by
  refine ⟨fun a => ?_, Or.inr (Or.inl (Or.inr ⟨le_refl 2, rfl, Or.inl ⟨?_, ?_⟩⟩))⟩
  · match a with
    | ⟨0, _⟩ => show (T 0 + 1) * 512 ≤ 528384; omega
    | ⟨1, _⟩ => show (T 1 + 1) * 1024 ≤ 1024; omega
  · show 2 ∣ T 0 * 512
    exact Dvd.dvd.mul_left (by decide) _
  · show 2 ∣ 512
    decide
/-- A matrix of a table of them, taken whole, lies there in whole words. -/
theorem up_ok (T : Fin 3 → Nat) (h0 : T 0 ≤ 255) (h1 : T 1 = 0) (h2 : T 2 = 0) :
    ∃ h : (∀ a, (T a + 1) * S1x1024x512.size a ≤ S256x1024x512.size a),
      EltTy.bits .bf16 = 32 ∨ (Rect.block (s := S256x1024x512) S1x1024x512.size T h).WholeWords (EltTy.packing .bf16) := by
  refine ⟨fun a => ?_, Or.inr (Or.inr ⟨by show 2 ≤ 3; decide, rfl, ?_, rfl⟩)⟩
  · match a with
    | ⟨0, _⟩ => show (T 0 + 1) * 1 ≤ 256; omega
    | ⟨1, _⟩ => show (T 1 + 1) * 1024 ≤ 1024; omega
    | ⟨2, _⟩ => show (T 2 + 1) * 512 ≤ 512; omega
  · show T 1 * 1024 = 0
    omega
theorem down_ok (T : Fin 3 → Nat) (h0 : T 0 ≤ 255) (h1 : T 1 = 0) (h2 : T 2 = 0) :
    ∃ h : (∀ a, (T a + 1) * S1x256x1024.size a ≤ S256x256x1024.size a),
      EltTy.bits .bf16 = 32 ∨ (Rect.block (s := S256x256x1024) S1x256x1024.size T h).WholeWords (EltTy.packing .bf16) := by
  refine ⟨fun a => ?_, Or.inr (Or.inr ⟨by show 2 ≤ 3; decide, rfl, ?_, rfl⟩)⟩
  · match a with
    | ⟨0, _⟩ => show (T 0 + 1) * 1 ≤ 256; omega
    | ⟨1, _⟩ => show (T 1 + 1) * 256 ≤ 256; omega
    | ⟨2, _⟩ => show (T 2 + 1) * 1024 ≤ 1024; omega
  · show T 1 * 256 = 0
    omega

theorem ep_le' (i : grid0.Coords) : (ent (w_v37 m 0) i).toNat ≤ 255 := by
  rw [ep_entry]
  exact Nat.le_of_lt_succ (ep_lt _)
theorem blk_le'' (i : grid0.Coords) : (ent (w_v58 m 0) i).toNat ≤ 1031 := by
  rw [blk_entry]
  exact blk_le' m 0 _

/-- Tables whose entries are small enough name blocks that lie in their arrays. -/
theorem ok_of (pf : pre0.Contents (Elt F)) (T0 T1 : S1287.Idx → BitVec 32) (e0 : T0 = pf 0) (e1 : T1 = pf 1)
    (h0 : ∀ i, (ent T0 i).toNat ≤ 255) (h1 : ∀ i, (ent T1 i).toNat ≤ 1031) : ok0 (F := F) pf := by
  subst e0 e1
  exact ⟨fun i => rows_ok _ (h1 i) rfl, fun i => up_ok _ (h0 i) rfl rfl, fun i => down_ok _ (h0 i) rfl rfl, fun i => rows_ok _ (h1 i) rfl⟩

theorem tbl_0 : w_v37 m 0 = tbl m 0 := rfl
theorem tbl_1 : w_v58 m 0 = tbl m 1 := rfl
theorem tbl_2 : w_v70 m 0 = tbl m 2 := rfl
theorem tbl_3 : w_v90 m 0 = tbl m 3 := rfl
theorem tbl_4 : w_v96 m 0 = tbl m 4 := rfl

/-- Every block that the tables name lies in its array. -/
theorem ok : Ok m := ok_of (tbl m) _ _ (tbl_0 m) (tbl_1 m) (ep_le' m) (blk_le'' m)

end Cert.ExpertsIdeal.Hand
end
-- ==== Proof.Experts.Sorted.lean ====
module
public import Idealize.ShloMosaic.Lib.SortFacts
public import Idealize.ShloMosaic.Lib.WordCmp
public import Idealize.ShloMosaic.Lib.Routing.Words
public import Idealize.ShloMosaic.Lib.Routing.OpsSet
/-!
# A sort by whole numbers, and counting in its order

`order x R` is the place in `x` of the entry that a stable sort of `x`, smallest first, puts at `R`. Counting the
entries below a bound finds where they end in that order.
-/
@[expose] public section
noncomputable section
namespace Cert.Experts.Sorted
open Idealize.ShloMosaic Idealize.ShloMosaic.ValueIdx Idealize.ShloMosaic.WordCmp Idealize.ShloMosaic.Routing

variable {n : ℕ}

/-- The place of the entry that the sort puts at `R`. -/
def order (x : (shape1 n).Idx → BitVec 32) : Fin n → Fin n :=
  sortedFrom fun k k' => IntOp.cmpi .slt (x (ix1 k)) (x (ix1 k')) == 1#1

theorem less_iff (a b : BitVec 32) : (IntOp.cmpi .slt a b == 1#1) = decide (a.toInt < b.toInt) := by
  rw [cmpi_slt_eq]
  by_cases h : a.toInt < b.toInt <;> simp [h]

/-- Along the order the entries never fall. -/
theorem order_sorted (x : (shape1 n).Idx → BitVec 32) (i j : Fin n) (h : i < j) :
    (x (ix1 (order x i))).toInt ≤ (x (ix1 (order x j))).toInt := by
  have := sortedFrom_noInversion (fun k k' => IntOp.cmpi .slt (x (ix1 k)) (x (ix1 k')) == 1#1)
    (fun k k' => IntOp.cmpi .slt (x (ix1 k)) (x (ix1 k')) == 1#1)
    (fun a b => by simp only [less_iff, decide_eq_true_eq, decide_eq_false_iff_not]; omega) (fun _ _ h => h)
    (fun a b c => by simp only [less_iff, decide_eq_false_iff_not]; omega) i j h
  simp only [less_iff, decide_eq_false_iff_not] at this
  unfold order
  simp only [less_iff] at this ⊢
  omega

variable (cmp : BitVec 32 × BitVec 32 → BitVec 32 × BitVec 32 → BitVec 1) (hcmp : ∀ a b, cmp a b = IntOp.cmpi .slt a.1 b.1)

theorem along_eq (R k : Fin n) (h : 0 < (shape1 n).rank) : Shape.Idx.along (ix1 R : (shape1 n).Idx) ⟨0, h⟩ k = ix1 k := by
  funext a
  obtain rfl : a = 0 := Subsingleton.elim (α := Fin 1) _ _
  exact Function.update_self _ _ _

include hcmp in
/-- The sorted entries. -/
theorem sort_fst (x y : (shape1 n).Idx → BitVec 32) (R : Fin n) :
    (Host.sort2 (shape1 n) 0 cmp x y).1 (ix1 R) = x (ix1 (order x R)) := by
  unfold Host.sort2
  have h0 : 0 < (shape1 n).rank := Nat.one_pos
  rw [dif_pos h0]
  refine congrArg x ((along_eq R _ h0).trans ?_)
  refine congrArg ix1 ?_
  show sortedFrom _ R = sortedFrom _ R
  refine congrArg (sortedFrom · R) (funext fun k => funext fun k' => ?_)
  rw [hcmp]
  exact congrArg₂ (fun a b => IntOp.cmpi .slt (x a) (x b) == 1#1) (along_eq R k h0) (along_eq R k' h0)

include hcmp in
/-- What the sort carries along. -/
theorem sort_snd (x y : (shape1 n).Idx → BitVec 32) (R : Fin n) :
    (Host.sort2 (shape1 n) 0 cmp x y).2 (ix1 R) = y (ix1 (order x R)) := by
  unfold Host.sort2
  have h0 : 0 < (shape1 n).rank := Nat.one_pos
  rw [dif_pos h0]
  refine congrArg y ((along_eq R _ h0).trans ?_)
  refine congrArg ix1 ?_
  show sortedFrom _ R = sortedFrom _ R
  refine congrArg (sortedFrom · R) (funext fun k => funext fun k' => ?_)
  rw [hcmp]
  exact congrArg₂ (fun a b => IntOp.cmpi .slt (x a) (x b) == 1#1) (along_eq R k h0) (along_eq R k' h0)

/-- Of numbers that never fall, those below a bound come first, as many as there are. -/
theorem below_iff (k : ℕ → ℤ) (N : ℕ) (hk : ∀ i j, i < j → j < N → k i ≤ k j) (e : ℤ) {R : ℕ} (hR : R < N) :
    k R < e ↔ R < Nat.count (fun R => k R < e) N := by
  constructor
  · intro h
    have h1 : Nat.count (fun R => k R < e) (R + 1) = R + 1 := by
      rw [Nat.count_iff_forall]
      intro i hi
      by_cases hh : i = R
      · rw [hh]; exact h
      · exact lt_of_le_of_lt (hk i R (by omega) hR) h
    have h2 : Nat.count (fun R => k R < e) (R + 1) ≤ Nat.count (fun R => k R < e) N := Nat.count_monotone _ (by omega)
    omega
  · intro h
    by_contra hc
    have h1 : Nat.count (fun i => k (R + i) < e) (N - R) = 0 := by
      rw [Nat.count_iff_forall_not]
      intro i hi hlt
      rcases Nat.eq_zero_or_pos i with h0 | h0
      · subst h0; exact hc hlt
      · have := hk R (R + i) (by omega) (by omega)
        omega
    have h2 := Nat.count_add (fun R => k R < e) R (N - R)
    have h3 := Nat.count_le (p := fun R => k R < e) (n := R)
    rw [show R + (N - R) = N by omega] at h2
    omega

theorem count_none (k : ℕ → ℤ) (N : ℕ) (e : ℤ) (h : ∀ R, R < N → ¬ k R < e) : Nat.count (fun R => k R < e) N = 0 :=
  Nat.count_iff_forall_not.mpr fun R hR => h R hR
theorem count_all (k : ℕ → ℤ) (N : ℕ) (e : ℤ) (h : ∀ R, R < N → k R < e) : Nat.count (fun R => k R < e) N = N :=
  Nat.count_iff_forall.mpr fun R hR => h R hR

/-- A table of matrices taken at the numbers of a list. -/
theorem gather_slab {α : Type} {nb A B : ℕ} (d : GatherDims ⟨3, ![nb, A, B]⟩ (shape2 n 1) ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![nb, A, B]⟩ : Shape).Idx → α) (idx : IVec (shape2 n 1) 32) (c : Fin n) (y : Fin A) (z : Fin B) (b : Fin nb)
    (hb : idx (ix2 c (0 : Fin 1)) = BitVec.ofNat 32 b.val) (hnb : nb < 2 ^ 31) :
    Host.gather d x idx (ix3 c y z) = x (ix3 b y z) := by
  obtain ⟨o, co, ob, sb, si, iv, ss, wf⟩ := d
  dsimp only at hoff hcoll hob hsim hivd
  subst hoff hcoll hob hsim hivd
  unfold Host.gather
  refine congrArg x (funext fun a => Fin.ext ?_)
  match a with
  | ⟨0, _⟩ =>
    have h1 : ss 0 = 1 := GatherDims.slice_collapsed ⟨_, _, _, sb, _, _, ss, wf⟩ 0 (List.mem_singleton.2 rfl)
    have hbl := b.isLt
    show min (idx _).toInt.toNat (nb - ss 0) + 0 + 0 = b.val
    rw [h1]
    have e : ∀ q : (shape2 n 1).Idx, q = ix2 c (0 : Fin 1) → min (idx q).toInt.toNat (nb - 1) + 0 + 0 = b.val := by
      rintro q rfl
      rw [hb, toInt_ofNat_of_lt (w := 32) (by omega : b.val < 2 ^ 31)]
      omega
    refine e _ (funext fun q => Fin.ext ?_)
    match q with
    | ⟨0, _⟩ => rfl
    | ⟨1, _⟩ => rfl
  | ⟨1, _⟩ => show 0 + 0 + y.val = y.val; omega
  | ⟨2, _⟩ => show 0 + 0 + z.val = z.val; omega

end Cert.Experts.Sorted
end
-- ==== Proof.Experts.Spec.lean ====
module
public import proofs.«01_k».proof.Proof.Dense.Norm
public import proofs.«01_k».proof.Proof.Experts.Sorted
public import proofs.«01_k».proof.Proof.Experts.Arith
/-!
# What the routed experts' rows are

The choices of all tokens, eight to a token, are laid in one list and put in the order of their experts, those of one expert
in the order of the list. Row `R` of the result is the network of the `R`-th choice's expert, of its token's row.
-/
@[expose] public section
noncomputable section
namespace Cert.Experts.Spec
open Idealize.ShloMosaic Idealize.ShloMosaic.ValueIdx Idealize.ShloMosaic.WordCmp Idealize.ShloMosaic.Routing
open Cert.Experts.Sorted

variable (h : (shape2 66048 8).ShapeCasts (shape1 528384)) (idx : (shape2 66048 8).Idx → BitVec 32)

/-- The choices in one list. -/
def flat : (shape1 528384).Idx → BitVec 32 := shapeCast (shape1 528384) idx h
/-- The choice at row `R`. -/
def choice (R : Fin 528384) : Fin 528384 := order (flat h idx) R
/-- The token of row `R`. -/
def token (R : Fin 528384) : Fin 66048 := ⟨(choice h idx R).val / 8, by have := (choice h idx R).isLt; omega⟩
/-- The expert of row `R`. -/
def num (R : Fin 528384) : Fin 256 := ⟨min (flat h idx (ix1 (choice h idx R))).toNat 255, by omega⟩

/-- Every choice names an expert. -/
def Named : Prop := ∀ i : (shape2 66048 8).Idx, (idx i).toNat < 256

theorem flat_lt (hI : Named idx) (p : Fin 528384) : (flat h idx (ix1 p)).toNat < 256 := by
  have e := cast21 idx h (⟨p.val / 8, by have := p.isLt; omega⟩ : Fin 66048) (⟨p.val % 8, by omega⟩ : Fin 8) p
    (by show p.val = p.val / 8 * 8 + p.val % 8; omega)
  unfold flat
  rw [e]
  exact hI _

theorem num_val (hI : Named idx) (R : Fin 528384) : (num h idx R).val = (flat h idx (ix1 (choice h idx R))).toNat :=
  Nat.min_eq_left (Nat.le_of_lt_succ (flat_lt h idx hI _))
theorem num_word (hI : Named idx) (R : Fin 528384) : flat h idx (ix1 (choice h idx R)) = BitVec.ofNat 32 (num h idx R).val := by
  rw [num_val h idx hI]
  refine BitVec.eq_of_toNat_eq ?_
  rw [toNat_ofNat_of_lt (BitVec.isLt _)]
theorem num_int (hI : Named idx) (R : Fin 528384) : (flat h idx (ix1 (choice h idx R))).toInt = ((num h idx R).val : ℤ) := by
  rw [num_word h idx hI]
  exact toInt_ofNat_of_lt (w := 32) (lt_trans (num h idx R).isLt (by norm_num))

/-- Every row's network. -/
def result (x : (shape2 66048 1024).Idx → EReal) (wg : (⟨3, ![256, 1024, 512]⟩ : Shape).Idx → EReal)
    (wd : (⟨3, ![256, 256, 1024]⟩ : Shape).Idx → EReal) : (shape2 528384 1024).Idx → EReal := fun i =>
  Dense.expert (fun k => x (ix2 (token h idx (i (0 : Fin 2))) k)) (fun e f => wg (ix3 (num h idx (i (0 : Fin 2))) e f))
    (fun f k => wd (ix3 (num h idx (i (0 : Fin 2))) f k)) (i (1 : Fin 2))

end Cert.Experts.Spec
end
-- ==== Proof.Experts.Rows.lean ====
module
public import proofs.«01_k».proof.Proof.Experts.Entries
public import proofs.«01_k».proof.Proof.Experts.Spec
/-!
# The routed experts' call: the sorted rows

The kernel's rows in the sorted order, and how the experts' numbers count them.
-/
@[expose] public section
set_option maxRecDepth 16384
noncomputable section
namespace Cert.ExpertsIdeal.Hand
open Cert.ExpertsIdeal Cert.ExpertsIdeal.Gen
open Idealize.ShloMosaic Idealize.ShloMosaic.TcCoe
open Idealize.ShloMosaic.ValueIdx Idealize.ShloMosaic.WordCmp
open Cert.Experts.Plan Cert.Experts.Sorted Cert.Experts.Spec

variable (m : (ℓ : Loc nD τ sig) → Buf (Elt Ideal) ℓ) (c : Dev nD)

/-- The arguments. -/
abbrev argX : S66048x1024.Idx → EReal := m ((c.tc : Thread nD τ).loc main_arg0)
abbrev argI : S66048x8.Idx → BitVec 32 := m ((c.tc : Thread nD τ).loc main_arg1)
abbrev argG : S256x1024x512.Idx → EReal := m ((c.tc : Thread nD τ).loc main_arg2)
abbrev argD : S256x256x1024.Idx → EReal := m ((c.tc : Thread nD τ).loc main_arg3)

theorem arg0_eq : w_arg0 m c = argX m c := V_main_arg0 m c
theorem arg1_eq : w_arg1 m c = argI m c := V_main_arg1 m c
theorem arg2_eq : w_arg2 m c = argG m c := V_main_arg2 m c
theorem arg3_eq : w_arg3 m c = argD m c := V_main_arg3 m c

/-- The choices in one list. -/
abbrev flatI : S528384.Idx → BitVec 32 := flat shapeCasts_S66048x8_S528384 (argI m c)
abbrev numI (R : Fin 528384) : Fin 256 := num shapeCasts_S66048x8_S528384 (argI m c) R

theorem v0_eq : w_v0 m c = flatI m c := (w_v0_eq m c).trans (congrArg (fun x => shapeCast S528384 x shapeCasts_S66048x8_S528384) (arg1_eq m c))

theorem sorted_key (R : Fin 528384) : w_v2_0 m c (ix1 R) = flatI m c (ix1 (choice shapeCasts_S66048x8_S528384 (argI m c) R)) := by
  rw [w_v2_0_eq, v0_eq]
  exact sort_fst _ (fun _ _ => rfl) (flatI m c) (w_v1 m c) R
theorem sorted_pos (R : Fin 528384) : w_v2_1 m c (ix1 R) = BitVec.ofNat 32 (choice shapeCasts_S66048x8_S528384 (argI m c) R).val := by
  rw [w_v2_1_eq, v0_eq]
  refine (sort_snd _ (fun _ _ => rfl) (flatI m c) (w_v1 m c) R).trans ?_
  rw [w_v1_eq]
  rfl

theorem key_eq (hI : Named (argI m c)) (R : Fin 528384) : key m c R.val = ((numI m c R).val : ℤ) :=
  (dif_pos R.isLt).trans ((congrArg BitVec.toInt (sorted_key m c R)).trans (num_int shapeCasts_S66048x8_S528384 (argI m c) hI R))

theorem key_mono (i j : ℕ) (hij : i < j) (hj : j < 528384) : key m c i ≤ key m c j := by
  have e1 : key m c i = (w_v2_0 m c (ix1 ⟨i, hij.trans hj⟩)).toInt := dif_pos (hij.trans hj)
  have e2 : key m c j = (w_v2_0 m c (ix1 ⟨j, hj⟩)).toInt := dif_pos hj
  rw [e1, e2, sorted_key, sorted_key]
  exact order_sorted (flatI m c) ⟨i, hij.trans hj⟩ ⟨j, hj⟩ hij

theorem s_zero (hI : Named (argI m c)) : sN m c 0 = 0 :=
  count_none _ _ _ fun R hR => by
    have := key_eq m c hI ⟨R, hR⟩
    simp only at this
    rw [this]
    omega
theorem s_last (hI : Named (argI m c)) : sN m c 256 = 528384 :=
  count_all _ _ _ fun R hR => by
    have := key_eq m c hI ⟨R, hR⟩
    simp only at this
    rw [this]
    have := (numI m c ⟨R, hR⟩).isLt
    push_cast
    omega
/-- Where the rows of a row's expert begin and end. -/
theorem s_row (hI : Named (argI m c)) (R : Fin 528384) : sN m c (numI m c R).val ≤ R.val ∧ R.val < sN m c ((numI m c R).val + 1) := by
  have e := key_eq m c hI R
  constructor
  · by_contra hc
    have := (below_iff (key m c) 528384 (key_mono m c) ((numI m c R).val : ℤ) R.isLt).mpr (lt_of_not_ge hc)
    omega
  · exact (below_iff (key m c) 528384 (key_mono m c) (((numI m c R).val + 1 : ℕ) : ℤ) R.isLt).mp (by push_cast; omega)

theorem h100 : w_v100 m c = Routing.pyDiv bcast_S_S528384 (w_v2_1 m c) (constantI S_ 32 8#32) := by
  simp only [w_v100_eq, w_call7_v11_eq, w_call7_v13_eq, w_call7_v6_eq, w_call7_v10_eq, w_call7_v3_eq, w_call7_v5_eq,
    w_call7_v4_eq, w_call7_v8_eq, w_call7_v9_eq, w_call7_c_eq, w_call7_v12_eq, w_call7_c_0_eq, w_call7_v2_eq,
    w_call7_v1_eq, w_call7_v7_eq, w_call7_v0_eq, w_c_24_eq] <;> rfl
theorem t100 (R : Fin 528384) : w_v100 m c (ix1 R) = BitVec.ofNat 32 (token shapeCasts_S66048x8_S528384 (argI m c) R).val := by
  rw [h100]
  exact Routing.pyDiv_ap _ _ _ _ (sorted_pos m c R) rfl (lt_trans (Fin.isLt _) (by norm_num)) (by norm_num) (by norm_num)
theorem t105 (R : Fin 528384) : w_v105 m c (ix1 R) = BitVec.ofNat 32 (token shapeCasts_S66048x8_S528384 (argI m c) R).val := by
  rw [w_v105_eq, w_v102_eq, w_v101_eq, w_c_25_eq, w_v104_eq, w_v103_eq]
  exact wrap_at _ _ _ _ (lt_trans (Fin.isLt _) (by norm_num)) (t100 m c R)

/-- The gathered rows. -/
theorem t107 (R : Fin 528384) (k : Fin 1024) :
    (w_v107 m c : S528384x1024.Idx → EReal) (ix2 R k) = argX m c (ix2 (token shapeCasts_S66048x8_S528384 (argI m c) R) k) := by
  have hl := (token shapeCasts_S66048x8_S528384 (argI m c) R).isLt
  rw [w_v107_eq]
  refine (Routing.gather_row gather_S66049x1024_S528384x1_S528384x1024_1_0_n_n_0_1_11024 rfl rfl rfl rfl rfl (w_v99 m c) (w_v106 m c) R k
    (⟨(token shapeCasts_S66048x8_S528384 (argI m c) R).val, by omega⟩ : Fin 66049)
    (by rw [w_v106_eq]; exact (Routing.bcCol _ _ R).trans (t105 m c R)) (by norm_num)).trans ?_
  rw [w_v99_eq]
  refine (concatenate_pair_apply_left (t := S66049x1024) (0 : Fin 2) (w_v97 m c) (w_v98 m c) concatenates_S66048x1024_S1x1024_S66049x1024_d0
    (ix2 (⟨(token shapeCasts_S66048x8_S528384 (argI m c) R).val, by omega⟩ : Fin 66049) k) rfl (ix2 (token shapeCasts_S66048x8_S528384 (argI m c) R) k) (fun b => by
    match b with | ⟨0, _⟩ => rfl | ⟨1, _⟩ => rfl)).trans ?_
  rw [w_v97_eq]
  exact congrFun (arg0_eq m c) _
theorem t108 (i : S256x1024x512.Idx) : (w_v108 m c : S256x1024x512.Idx → EReal) i = argG m c i := by
  rw [w_v108_eq]
  exact congrFun (arg2_eq m c) _
theorem t109 (i : S256x256x1024.Idx) : (w_v109 m c : S256x256x1024.Idx → EReal) i = argD m c i := by
  rw [w_v109_eq]
  exact congrFun (arg3_eq m c) _

end Cert.ExpertsIdeal.Hand
end
-- ==== Proof.Experts.Point.lean ====
module
public import proofs.«01_k».proof.Proof.Gen.ExpertsIdeal.Skeleton
public import proofs.«01_k».proof.Proof.Dense.Norm
public import Idealize.ShloMosaic.Lib.WordCmp
/-!
# The routed experts' call: what the body stores

At a point with rows `a ≤ r < b` of its block, those rows hold the gated network of the input's rows; the others hold
zero at the block's first point and what they held before at the later ones.
-/
@[expose] public section
noncomputable section
namespace Cert.ExpertsIdeal.Hand
open Cert.ExpertsIdeal Cert.ExpertsIdeal.Gen Idealize.ShloMosaic Idealize.ShloMosaic.TcCoe
open Idealize.ShloMosaic.ValueIdx Idealize.ShloMosaic.WordCmp

/-- The gate and the up projection of a block of rows, side by side. -/
def both (x : Vec Ideal S512x1024 .bf16) (u : Vec Ideal S1x1024x512 .bf16) : FVec Ideal S512x512 .f32 :=
  matmul dot_S512x1024_S1024x512_S512x512_1_0_0_1_n_n none (shapeCast S512x1024 x shapeCasts_S512x1024_S512x1024 : FVec Ideal S512x1024 .bf16)
    (shapeCast S1024x512 u shapeCasts_S1x1024x512_S1024x512 : FVec Ideal S1024x512 .bf16) (constant S512x512 .f32 0x00000000#32)
/-- The gated middle of a block of rows. -/
def mid (x : Vec Ideal S512x1024 .bf16) (u : Vec Ideal S1x1024x512 .bf16) : FVec Ideal S512x256 .f32 :=
  mulf (mulf (extractStridedSlice S512x256 ![0, 0] (both x u) slices_S512x512_o0_0_S512x256) (logistic (extractStridedSlice S512x256 ![0, 0] (both x u) slices_S512x512_o0_0_S512x256)))
    (extractStridedSlice S512x256 ![0, 256] (both x u) slices_S512x512_o0_256_S512x256)
/-- The network of a block of rows. -/
def net (x : Vec Ideal S512x1024 .bf16) (u : Vec Ideal S1x1024x512 .bf16) (d : Vec Ideal S1x256x1024 .bf16) : FVec Ideal S512x1024 .bf16 :=
  truncf .bf16 (matmul dot_S512x256_S256x1024_S512x1024_1_0_0_1_n_n none (truncf .bf16 (mid x u) bitsLt_bf16_f32)
    (shapeCast S256x1024 d shapeCasts_S1x256x1024_S256x1024 : FVec Ideal S256x1024 .bf16) (constant S512x1024 .f32 0x00000000#32)) bitsLt_bf16_f32

theorem slab (x : Vec Ideal S1x1024x512 .bf16) (e : Fin 1024) (f : Fin 512) :
    shapeCast S1024x512 x shapeCasts_S1x1024x512_S1024x512 (ix2 e f) = x (ix3 (0 : Fin 1) e f) := by
  refine shapeCast_apply x _ _ _ ?_
  rw [Shape.rowMajor_val_three, Shape.rowMajor_val_two]
  show (0 * 1024 + e.val) * 512 + f.val = e.val * 512 + f.val
  omega
theorem slab' (x : Vec Ideal S1x256x1024 .bf16) (e : Fin 256) (f : Fin 1024) :
    shapeCast S256x1024 x shapeCasts_S1x256x1024_S256x1024 (ix2 e f) = x (ix3 (0 : Fin 1) e f) := by
  refine shapeCast_apply x _ _ _ ?_
  rw [Shape.rowMajor_val_three, Shape.rowMajor_val_two]
  show (0 * 256 + e.val) * 1024 + f.val = e.val * 1024 + f.val
  omega

theorem both_apply (x : Vec Ideal S512x1024 .bf16) (u : Vec Ideal S1x1024x512 .bf16) (r f : Fin 512) :
    both x u (ix2 r f) = ∑ e : Fin 1024, x (ix2 r e) * u (ix3 (0 : Fin 1) e f) := by
  unfold both
  simp only [shapeCast_self]
  refine (Ideal.matmul_plain_apply none _ _ _ r f).trans ((congrArg (· + _) Ideal.ofBits_zero_f32).trans ((zero_add _).trans ?_))
  exact Finset.sum_congr rfl fun e _ => congrArg (x (ix2 r e) * ·) (slab u e f)

theorem mid_apply (x : Vec Ideal S512x1024 .bf16) (u : Vec Ideal S1x1024x512 .bf16) (r : Fin 512) (f : Fin 256) :
    mid x u (ix2 r f) = Dense.middle (fun k => x (ix2 r k)) (fun e f => u (ix3 (0 : Fin 1) e f)) f := by
  have h0 : extractStridedSlice S512x256 ![0, 0] (both x u) slices_S512x512_o0_0_S512x256 (ix2 r f)
      = ∑ e : Fin 1024, x (ix2 r e) * u (ix3 (0 : Fin 1) e (⟨0 + f.val, by omega⟩ : Fin 512)) :=
    (extractStridedSlice_apply _ _ _ _ (ix2 r (⟨0 + f.val, by omega⟩ : Fin 512)) (fun a => by
      match a with | ⟨0, _⟩ => exact (Nat.zero_add _).symm | ⟨1, _⟩ => rfl)).trans (both_apply x u r _)
  have h1 : extractStridedSlice S512x256 ![0, 256] (both x u) slices_S512x512_o0_256_S512x256 (ix2 r f)
      = ∑ e : Fin 1024, x (ix2 r e) * u (ix3 (0 : Fin 1) e (⟨256 + f.val, by omega⟩ : Fin 512)) :=
    (extractStridedSlice_apply _ _ _ _ (ix2 r (⟨256 + f.val, by omega⟩ : Fin 512)) (fun a => by
      match a with | ⟨0, _⟩ => exact (Nat.zero_add _).symm | ⟨1, _⟩ => rfl)).trans (both_apply x u r _)
  unfold mid Dense.middle
  rw [mulf_apply, mulf_apply, h1]
  show _ * Ideal.logistic (extractStridedSlice S512x256 ![0, 0] (both x u) slices_S512x512_o0_0_S512x256 (ix2 r f)) * _ = _
  rw [h0]

theorem net_apply (x : Vec Ideal S512x1024 .bf16) (u : Vec Ideal S1x1024x512 .bf16) (d : Vec Ideal S1x256x1024 .bf16) (r : Fin 512) (k : Fin 1024) :
    net x u d (ix2 r k) = Dense.expert (fun k => x (ix2 r k)) (fun e f => u (ix3 (0 : Fin 1) e f)) (fun f k => d (ix3 (0 : Fin 1) f k)) k := by
  have h : ∀ (p : FVec Ideal S512x256 .bf16) (q : FVec Ideal S256x1024 .bf16),
      matmul dot_S512x256_S256x1024_S512x1024_1_0_0_1_n_n none p q (constant S512x1024 .f32 0x00000000#32) (ix2 r k)
        = ∑ e : Fin 256, p (ix2 r e) * q (ix2 e k) := fun p q =>
    (Ideal.matmul_plain_apply none _ _ _ r k).trans ((congrArg (· + _) Ideal.ofBits_zero_f32).trans (zero_add _))
  unfold net Dense.expert
  refine (h _ _).trans (Finset.sum_congr rfl fun f _ => ?_)
  exact congrArg₂ (· * ·) (mid_apply x u r f) (slab' d f k)

/-- Choosing the rows from `a` up to `b`. -/
theorem pick_apply {a b : ℕ} (ha : a < 2 ^ 31) (hb : b < 2 ^ 31) (y z : Vec Ideal S512x1024 .bf16) (r : Fin 512) (k : Fin 1024) :
    select (cmpi .sge (iota .tc S512x1024 32 [0] iota_S512x1024_d0_w32) (broadcast S512x1024 (BitVec.ofNat 32 a)))
      (select (cmpi .slt (iota .tc S512x1024 32 [0] iota_S512x1024_d0_w32) (broadcast S512x1024 (BitVec.ofNat 32 b))) y z) z (ix2 r k)
      = if a ≤ r.val ∧ r.val < b then y (ix2 r k) else z (ix2 r k) := by
  have hi : iota .tc S512x1024 32 [0] iota_S512x1024_d0_w32 (ix2 r k) = BitVec.ofNat 32 r.val := by
    simp [iota, ix2]
  have hr : r.val < 2 ^ 31 := lt_trans r.isLt (by norm_num)
  rw [select_at, cmpi_at, select_at, cmpi_at, hi]
  show Scalar.select (IntOp.cmpi .sge (BitVec.ofNat 32 r.val) (BitVec.ofNat 32 a)) (Scalar.select (IntOp.cmpi .slt (BitVec.ofNat 32 r.val) (BitVec.ofNat 32 b)) _ _) _ = _
  by_cases h1 : a ≤ r.val
  · rw [select_of_eq_one ((cmpi_sge_ofNat_eq_one_iff (w := 32) hr ha).mpr h1)]
    by_cases h2 : r.val < b
    · rw [select_of_eq_one ((cmpi_slt_ofNat_eq_one_iff (w := 32) hr hb).mpr h2), if_pos ⟨h1, h2⟩]
    · rw [select_of_eq_zero ((cmpi_slt_ofNat_eq_zero_iff (w := 32) hr hb).mpr h2), if_neg (fun h => h2 h.2)]
  · rw [select_of_eq_zero ((cmpi_sge_ofNat_eq_zero_iff (w := 32) hr ha).mpr (by omega)), if_neg (fun h => h1 h.1)]

theorem first_apply {a b : ℕ} (ha : a < 2 ^ 31) (hb : b < 2 ^ 31) (x : Vec Ideal S512x1024 .bf16) (u : Vec Ideal S1x1024x512 .bf16)
    (d : Vec Ideal S1x256x1024 .bf16) (r : Fin 512) (k : Fin 1024) (h : a ≤ r.val ∧ r.val < b) :
    k0_pay1 (F := Ideal) (BitVec.ofNat 32 a) (BitVec.ofNat 32 b) x u d (ix2 r k) = net x u d (ix2 r k) :=
  (pick_apply ha hb (net x u d) (broadcast S512x1024 (FloatOps.ofBits (F := Ideal) .bf16 0x0000#16)) r k).trans (if_pos h)

theorem later_apply {a b : ℕ} (ha : a < 2 ^ 31) (hb : b < 2 ^ 31) (x : Vec Ideal S512x1024 .bf16) (u : Vec Ideal S1x1024x512 .bf16)
    (d : Vec Ideal S1x256x1024 .bf16) (X : Vec Ideal S512x1024 .bf16) (r : Fin 512) (k : Fin 1024) :
    k0_pay2 (F := Ideal) (BitVec.ofNat 32 a) (BitVec.ofNat 32 b) x u d X (ix2 r k)
      = if a ≤ r.val ∧ r.val < b then net x u d (ix2 r k) else X (ix2 r k) := by
  refine (pick_apply ha hb (net x u d) (shapeCast S512x1024 X shapeCasts_S512x1024_S512x1024) r k).trans ?_
  rw [shapeCast_self]

/-- The first point of a block stores if it has rows. -/
theorem cond1_one {a b : ℕ} (ha : a < 2 ^ 31) (hb : b < 2 ^ 31) (h : a < b) : k0_cond1 (BitVec.ofNat 32 a) (BitVec.ofNat 32 b) 1#32 = 1#1 := by
  have e : Scalar.cmpi .sgt (BitVec.ofNat 32 b) (BitVec.ofNat 32 a) = 1#1 := (cmpi_sgt_ofNat_eq_one_iff (w := 32) hb ha).mpr h
  unfold k0_cond1
  simp only [e]
  decide
theorem cond1_zero (a b : BitVec 32) : k0_cond1 a b 0#32 ≠ 1#1 := by
  unfold k0_cond1
  generalize Scalar.cmpi .sgt b a = q
  revert q
  decide
theorem cond2_one {a b : ℕ} (ha : a < 2 ^ 31) (hb : b < 2 ^ 31) (h : a < b) : k0_cond2 (BitVec.ofNat 32 a) (BitVec.ofNat 32 b) 0#32 = 1#1 := by
  have e : Scalar.cmpi .sgt (BitVec.ofNat 32 b) (BitVec.ofNat 32 a) = 1#1 := (cmpi_sgt_ofNat_eq_one_iff (w := 32) hb ha).mpr h
  unfold k0_cond2
  simp only [e]
  decide
theorem cond2_zero (a b : BitVec 32) : k0_cond2 a b 1#32 ≠ 1#1 := by
  unfold k0_cond2
  generalize Scalar.cmpi .sgt b a = q
  revert q
  decide

end Cert.ExpertsIdeal.Hand
end
-- ==== Proof.Experts.Fill.lean ====
module
public import proofs.«01_k».proof.Proof.Experts.Exact
public import proofs.«01_k».proof.Proof.Experts.Rows
public import proofs.«01_k».proof.Proof.Experts.Point
/-!
# The routed experts' call: every row filled

A row is filled at the point of its expert and its block, and no later point of the block touches it again; so when the block
is written back, the row holds its network.
-/
@[expose] public section
set_option maxRecDepth 4096
set_option maxHeartbeats 60000
noncomputable section
namespace Cert.ExpertsIdeal.Hand
open Cert.ExpertsIdeal Cert.ExpertsIdeal.Gen
open Idealize.ShloMosaic Idealize.ShloMosaic.TcCoe Idealize.SL.Sem
open Idealize.ShloMosaic.Pipeline (Window)
open Idealize.ShloMosaic.ValueIdx Idealize.ShloMosaic.WordCmp
open Cert.Experts.Plan Cert.Experts.Sorted Cert.Experts.Spec

/-- The blocks of a point. -/
abbrev inX (VV : (c : Dev nD) → (b : Ref sig .tc) → Buf (Elt Ideal) ((c : Thread nD τ).loc b)) (a : (pcfg0 (F := Ideal)).Adm) (t : Fin (cfg0 a).N) : Vec Ideal S512x1024 .bf16 := blkOf VV a 0 0 t
abbrev inG (VV : (c : Dev nD) → (b : Ref sig .tc) → Buf (Elt Ideal) ((c : Thread nD τ).loc b)) (a : (pcfg0 (F := Ideal)).Adm) (t : Fin (cfg0 a).N) : Vec Ideal S1x1024x512 .bf16 := blkOf VV a 0 1 t
abbrev inD (VV : (c : Dev nD) → (b : Ref sig .tc) → Buf (Elt Ideal) ((c : Thread nD τ).loc b)) (a : (pcfg0 (F := Ideal)).Adm) (t : Fin (cfg0 a).N) : Vec Ideal S1x256x1024 .bf16 := blkOf VV a 0 2 t
abbrev out (VV : (c : Dev nD) → (b : Ref sig .tc) → Buf (Elt Ideal) ((c : Thread nD τ).loc b)) (a : (pcfg0 (F := Ideal)).Adm) (n : ℕ) : Vec Ideal S512x1024 .bf16 := outv VV a 0 n

/-- The call's array. -/
abbrev res (m : (ℓ : Loc nD τ sig) → Buf (Elt Ideal) ℓ) (c : Dev nD) : S528384x1024.Idx → EReal :=
  result shapeCasts_S66048x8_S528384 (argI m c) (argX m c) (argG m c) (argD m c)

section Words
variable {F : FTy → Type} [FloatOps F] (m : (ℓ : Loc nD τ sig) → Buf (Elt F) ℓ)

/-- How many sorted rows lie below an expert. -/
abbrev sm : ℕ → ℕ := sN m 0
theorem lo_small (p : ℕ) : lo (sm m) p < 2 ^ 31 := lt_of_le_of_lt (lo_le (sN_mono m 0) (sN_le m 0 256) p) (by norm_num)
theorem hi_small (p : ℕ) : hi (sm m) p < 2 ^ 31 := lt_of_le_of_lt (hi_le (sN_mono m 0) (sN_le m 0 256) p) (by norm_num)
variable {a : (pcfg0 (F := F)).Adm} (ha : a.1 = tbl m)
include ha

theorem t_lt (t : Fin (cfg0 a).N) : t.val < 1287 := by
  have h : t.val < grid0.N := t.isLt
  rw [N_0] at h
  exact h

theorem coords0 (t : Fin (cfg0 a).N) : (grid0.coords t (0 : Fin 1)).val = t.val := by
  have h := t_lt m ha t
  refine (Pipeline.Grid.coords_val (G := grid0) t (0 : Fin 1) (S := 1) (B := 1287) (by decide) (by decide)).trans ?_
  rw [Nat.div_one, Nat.mod_eq_of_lt h]

theorem ent_at (f : S1287.Idx → BitVec 32) (t : Fin (cfg0 a).N) : ent f (grid0.coords t) = f (ix1 (⟨t.val, t_lt m ha t⟩ : Fin 1287)) := by
  rw [ent_eq]
  exact congrArg (fun p : Fin 1287 => f (ix1 p)) (Fin.ext (coords0 m ha t))

theorem tLo_eq : tLo a = w_v70 m 0 := (congrFun ha 2).trans (tbl_2 m).symm
theorem tHi_eq : tHi a = w_v90 m 0 := (congrFun ha 3).trans (tbl_3 m).symm
theorem tFi_eq : tFi a = w_v96 m 0 := (congrFun ha 4).trans (tbl_4 m).symm
theorem tBlk_eq : a.1 1 = w_v58 m 0 := (congrFun ha 1).trans (tbl_1 m).symm
theorem tEp_eq : a.1 0 = w_v37 m 0 := (congrFun ha 0).trans (tbl_0 m).symm
theorem lo_at (t : Fin (cfg0 a).N) : ent (tLo a) (grid0.coords t) = BitVec.ofNat 32 (lo (sm m) t.val) := by
  rw [tLo_eq m ha, ent_at m ha]
  exact t70 m 0 _
theorem hi_at (t : Fin (cfg0 a).N) : ent (tHi a) (grid0.coords t) = BitVec.ofNat 32 (hi (sm m) t.val) := by
  rw [tHi_eq m ha, ent_at m ha]
  exact t90 m 0 _
theorem blk_at (t : Fin (cfg0 a).N) : blkWord a t = BitVec.ofNat 32 (blk (sm m) t.val) := by
  refine (congrArg (fun T => ent T (grid0.coords t)) (tBlk_eq m ha)).trans ?_
  rw [ent_at m ha]
  exact t58 m 0 _
theorem fi_at (t : Fin (cfg0 a).N) : fiWord a t = w_v96 m 0 (ix1 (⟨t.val, t_lt m ha t⟩ : Fin 1287)) := by
  refine (congrArg (fun T => ent T (grid0.coords t)) (tFi_eq m ha)).trans ?_
  exact ent_at m ha (w_v96 m 0) t
theorem ep_word (t : Fin (cfg0 a).N) : ent (a.1 0) (grid0.coords t) = ent (w_v37 m 0) (grid0.coords t) :=
  congrArg (fun T => ent T (grid0.coords t)) (tEp_eq m ha)
theorem ep_at (t : Fin (cfg0 a).N) : ent (w_v37 m 0) (grid0.coords t) = BitVec.ofNat 32 (ep (sm m) t.val) :=
  (ent_at m ha (w_v37 m 0) t).trans (t37 m 0 _)
theorem fi_one (t : Fin (cfg0 a).N) : fiWord a t = 1#32 ↔ first (sm m) t.val := by
  rw [fi_at m ha]
  exact t96 m 0 _
theorem fi_zero (t : Fin (cfg0 a).N) (h : ¬ first (sm m) t.val) : fiWord a t = 0#32 := by
  rw [fi_at m ha]
  exact t96' m 0 _ h

theorem blk_nat (t : Fin (cfg0 a).N) : (blkWord a t).toNat = blk (sm m) t.val := by
  rw [blk_at m ha]
  refine toNat_ofNat_of_lt ?_
  have := blk_le' m 0 t.val
  show blk (sN m 0) t.val < 2 ^ 32
  omega

end Words

variable (m : (ℓ : Loc nD τ sig) → Buf (Elt Ideal) ℓ) {a : (pcfg0 (F := Ideal)).Adm} (ha : a.1 = tbl m)
include ha
variable (hI : Named (argI m 0))

include hI in
theorem hfirst_at (t : Fin (cfg0 a).N) (h : fiWord a t = 1#32) :
    k0_cond1 (ent (tLo a) (grid0.coords t)) (ent (tHi a) (grid0.coords t)) (ent (tFi a) (grid0.coords t)) = 1#1 := by
  have hv := valid_of_first (sN_mono m 0) (s_zero m 0 hI) (s_last m 0 hI) ((fi_one m ha t).mp h)
  have h' : ent (tFi a) (grid0.coords t) = 1#32 := h
  rw [lo_at m ha, hi_at m ha, h']
  exact cond1_one (lo_small m _) (hi_small m _) (lo_lt_hi (sN_mono m 0) (sN_le m 0 256) hv)

theorem hrest_at (t : Fin (cfg0 a).N) (h : fiWord a t ≠ 1#32) :
    t.val ≠ 0 ∧ ∀ h : t.val - 1 < (cfg0 a).N, blkWord a ⟨t.val - 1, h⟩ = blkWord a t := by
  have hf : ¬ first (sm m) t.val := fun hc => h ((fi_one m ha t).mpr hc)
  refine ⟨fun h0 => hf (Or.inl h0), fun h1 => ?_⟩
  rw [blk_at m ha, blk_at m ha]
  by_contra hne
  exact hf (Or.inr fun e => hne (congrArg (BitVec.ofNat 32) e.symm))

include hI in
/-- The point of a row's expert and block. -/
theorem point_of (R : Fin 528384) : ∃ t : Fin (cfg0 a).N, t.val < P (sm m) 256 ∧ ep (sm m) t.val = (numI m 0 R).val
    ∧ blk (sm m) t.val = R.val / 512 ∧ lo (sm m) t.val ≤ R.val % 512 ∧ R.val % 512 < hi (sm m) t.val := by
  obtain ⟨h1, h2⟩ := s_row m 0 hI R
  obtain ⟨p, hp, he, hb, hl, hh⟩ := pair_of_row (sN_mono m 0) (s_zero m 0 hI) (s_last m 0 hI) (numI m 0 R).isLt h1 h2
  have hN : p < 1287 := lt_of_lt_of_le hp (P_le_points (sN_mono m 0) (s_zero m 0 hI) (s_last m 0 hI))
  exact ⟨⟨p, by show p < grid0.N; rw [N_0]; exact hN⟩, hp, he, hb, hl, hh⟩

include hI in
theorem hcov_at (β : ℕ) (hβ : β < 1032) : ∃ t : Fin (cfg0 a).N, (blkWord a t).toNat = β := by
  obtain ⟨t, -, -, hb, -⟩ := point_of m ha hI ⟨512 * β, by omega⟩
  refine ⟨t, (blk_nat m ha t).trans (hb.trans ?_)⟩
  show 512 * β / 512 = β
  omega

variable {VV : (c : Dev nD) → (b : Ref sig .tc) → Buf (Elt Ideal) ((c : Thread nD τ).loc b)} (hV : VV = V m)

include hI in
/-- A point's own rows hold their network after it. -/
theorem out_in (t : Fin (cfg0 a).N) (r : Fin 512) (k : Fin 1024) (h : lo (sm m) t.val ≤ r.val ∧ r.val < hi (sm m) t.val) :
    out VV a t.val (ix2 r k) = net (inX VV a t) (inG VV a t) (inD VV a t) (ix2 r k) := by
  have hlh : lo (sm m) t.val < hi (sm m) t.val := by omega
  unfold out
  rw [outv, dif_pos t.isLt]
  generalize (if t.val = 0 then blkOf VV a 0 0 ⟨t.val, t.isLt⟩ else outv VV a 0 (t.val - 1)) = X
  unfold stepAt step
  by_cases hf : first (sm m) t.val
  · have h' : ent (tFi a) (grid0.coords t) = 1#32 := (fi_one m ha t).mpr hf
    rw [lo_at m ha, hi_at m ha, h', if_neg (cond2_zero _ _), if_pos (cond1_one (lo_small m _) (hi_small m _) hlh)]
    exact first_apply (lo_small m _) (hi_small m _) _ _ _ r k h
  · have h' : ent (tFi a) (grid0.coords t) = 0#32 := fi_zero m ha t hf
    rw [lo_at m ha, hi_at m ha, h', if_pos (cond2_one (lo_small m _) (hi_small m _) hlh)]
    exact (later_apply (lo_small m _) (hi_small m _) _ _ _ _ r k).trans (if_pos h)

/-- A later point of the block leaves the rows that are not its own. -/
theorem out_keep (t : Fin (cfg0 a).N) (r : Fin 512) (k : Fin 1024) (hf : ¬ first (sm m) t.val)
    (h : ¬ (lo (sm m) t.val ≤ r.val ∧ r.val < hi (sm m) t.val)) : out VV a t.val (ix2 r k) = out VV a (t.val - 1) (ix2 r k) := by
  have h0 : t.val ≠ 0 := fun e => hf (Or.inl e)
  have h' : ent (tFi a) (grid0.coords t) = 0#32 := fi_zero m ha t hf
  unfold out
  rw [outv, dif_pos t.isLt, if_neg h0]
  unfold stepAt step
  rw [lo_at m ha, hi_at m ha, h', if_neg (cond1_zero _ _)]
  by_cases hc : k0_cond2 (BitVec.ofNat 32 (lo (sm m) t.val)) (BitVec.ofNat 32 (hi (sm m) t.val)) 0#32 = 1#1
  · rw [if_pos hc]
    exact (later_apply (lo_small m _) (hi_small m _) _ _ _ _ r k).trans (if_neg h)
  · rw [if_neg hc]

include hI in
/-- From a row's point on, as long as the block is the same, the row holds its network. -/
theorem out_from (R : Fin 528384) (p : Fin (cfg0 a).N) (hv : p.val < P (sm m) 256) (he : ep (sm m) p.val = (numI m 0 R).val)
    (hb : blk (sm m) p.val = R.val / 512) (r : Fin 512) (hr : r.val = R.val % 512) (hl : lo (sm m) p.val ≤ r.val ∧ r.val < hi (sm m) p.val) (k : Fin 1024) :
    ∀ (d : ℕ) (t : Fin (cfg0 a).N), t.val = p.val + d → blk (sm m) t.val = R.val / 512 →
      out VV a t.val (ix2 r k) = net (inX VV a p) (inG VV a p) (inD VV a p) (ix2 r k) := by
  intro d
  induction d with
  | zero =>
    intro t ht _
    rw [show t = p from Fin.ext ht]
    exact out_in m ha hI p r k hl
  | succ d ih =>
    intro t ht hbt
    obtain ⟨hnf, hno⟩ := later (sN_mono m 0) (s_zero m 0 hI) (s_last m 0 hI) (numI m 0 R).isLt (s_row m 0 hI R).2 hv he hb
      (show p.val < t.val by omega) hbt
    have hlt : t.val - 1 < (cfg0 a).N := lt_of_le_of_lt (Nat.sub_le _ _) t.isLt
    rw [out_keep m ha t r k hnf (by rw [hr]; exact hno)]
    refine ih ⟨t.val - 1, hlt⟩ (by show t.val - 1 = p.val + d; omega) ?_
    have h1 := blk_mono (sN_mono m 0) (s_zero m 0 hI) (s_last m 0 hI) (show p.val ≤ t.val - 1 by omega)
    have h2 := blk_mono (sN_mono m 0) (s_zero m 0 hI) (s_last m 0 hI) (show t.val - 1 ≤ t.val by omega)
    show blk (sm m) (t.val - 1) = _
    exact le_antisymm (h2.trans_eq hbt) (hb.symm.trans_le h1)

omit ha in
include hV in
theorem V_v107 : (VV 0 main_v107 : S528384x1024.Idx → EReal) = w_v107 m 0 := congrFun (congrFun hV 0) main_v107
omit ha in
include hV in
theorem V_v108 : (VV 0 main_v108 : S256x1024x512.Idx → EReal) = w_v108 m 0 := congrFun (congrFun hV 0) main_v108
omit ha in
include hV in
theorem V_v109 : (VV 0 main_v109 : S256x256x1024.Idx → EReal) = w_v109 m 0 := congrFun (congrFun hV 0) main_v109

omit ha in
theorem index0 (a : (pcfg0 (F := Ideal)).Adm) (t : Fin (cfg0 a).N) : ((cfg0 a).win 0).index t = ![(blkWord a t).toNat, 0] := rfl
omit ha in
theorem index1 (a : (pcfg0 (F := Ideal)).Adm) (t : Fin (cfg0 a).N) : ((cfg0 a).win 1).index t = ![(ent (a.1 0) (grid0.coords t)).toNat, 0, 0] := rfl
omit ha in
theorem index2 (a : (pcfg0 (F := Ideal)).Adm) (t : Fin (cfg0 a).N) : ((cfg0 a).win 2).index t = ![(ent (a.1 0) (grid0.coords t)).toNat, 0, 0] := rfl

include hV in
theorem inX_apply (t : Fin (cfg0 a).N) (r : Fin 512) (k : Fin 1024) (R : Fin 528384) (h : R.val = blk (sm m) t.val * 512 + r.val) :
    (inX VV a t : S512x1024.Idx → EReal) (ix2 r k) = argX m 0 (ix2 (token shapeCasts_S66048x8_S528384 (argI m 0) R) k) := by
  unfold inX blkOf
  rw [View.read_apply]
  show (VV 0 main_v107 : S528384x1024.Idx → EReal) _ = _
  rw [V_v107 m hV]
  refine (congrArg (w_v107 m 0 : S528384x1024.Idx → EReal) (?_ : _ = ix2 R k)).trans (t107 m 0 R k)
  funext j; apply Fin.ext
  match j with
  | ⟨0, _⟩ =>
    refine (Window.rect_emb_val ((cfg0 a).win 0) t (ix2 r k) (0 : Fin 2)).trans ?_
    rw [index0]
    show (blkWord a t).toNat * 512 + r.val = R.val
    rw [blk_nat m ha, h]
  | ⟨1, _⟩ =>
    refine (Window.rect_emb_val ((cfg0 a).win 0) t (ix2 r k) (1 : Fin 2)).trans ?_
    rw [index0]
    show 0 * 1024 + k.val = k.val
    omega

theorem ep_nat (t : Fin (cfg0 a).N) : (ent (a.1 0) (grid0.coords t)).toNat = ep (sm m) t.val := by
  rw [ep_word m ha, ep_at m ha]
  exact toNat_ofNat_of_lt (lt_trans (ep_lt _) (by norm_num))

include hV in
theorem inG_apply (t : Fin (cfg0 a).N) (e : Fin 1024) (f : Fin 512) (q : Fin 256) (h : ep (sm m) t.val = q.val) :
    (inG VV a t : S1x1024x512.Idx → EReal) (ix3 (0 : Fin 1) e f) = argG m 0 (ix3 q e f) := by
  unfold inG blkOf
  rw [View.read_apply]
  show (VV 0 main_v108 : S256x1024x512.Idx → EReal) _ = _
  rw [V_v108 m hV]
  refine (congrArg (w_v108 m 0 : S256x1024x512.Idx → EReal) (?_ : _ = ix3 q e f)).trans (t108 m 0 (ix3 q e f))
  funext j; apply Fin.ext
  match j with
  | ⟨0, _⟩ =>
    refine (Window.rect_emb_val ((cfg0 a).win 1) t (ix3 (0 : Fin 1) e f) (0 : Fin 3)).trans ?_
    rw [index1]
    show (ent (a.1 0) (grid0.coords t)).toNat * 1 + 0 = q.val
    rw [ep_nat m ha, h, Nat.mul_one, Nat.add_zero]
  | ⟨1, _⟩ =>
    refine (Window.rect_emb_val ((cfg0 a).win 1) t (ix3 (0 : Fin 1) e f) (1 : Fin 3)).trans ?_
    rw [index1]
    show 0 * 1024 + e.val = e.val
    omega
  | ⟨2, _⟩ =>
    refine (Window.rect_emb_val ((cfg0 a).win 1) t (ix3 (0 : Fin 1) e f) (2 : Fin 3)).trans ?_
    rw [index1]
    show 0 * 512 + f.val = f.val
    omega

include hV in
theorem inD_apply (t : Fin (cfg0 a).N) (f : Fin 256) (k : Fin 1024) (q : Fin 256) (h : ep (sm m) t.val = q.val) :
    (inD VV a t : S1x256x1024.Idx → EReal) (ix3 (0 : Fin 1) f k) = argD m 0 (ix3 q f k) := by
  unfold inD blkOf
  rw [View.read_apply]
  show (VV 0 main_v109 : S256x256x1024.Idx → EReal) _ = _
  rw [V_v109 m hV]
  refine (congrArg (w_v109 m 0 : S256x256x1024.Idx → EReal) (?_ : _ = ix3 q f k)).trans (t109 m 0 (ix3 q f k))
  funext j; apply Fin.ext
  match j with
  | ⟨0, _⟩ =>
    refine (Window.rect_emb_val ((cfg0 a).win 2) t (ix3 (0 : Fin 1) f k) (0 : Fin 3)).trans ?_
    rw [index2]
    show (ent (a.1 0) (grid0.coords t)).toNat * 1 + 0 = q.val
    rw [ep_nat m ha, h, Nat.mul_one, Nat.add_zero]
  | ⟨1, _⟩ =>
    refine (Window.rect_emb_val ((cfg0 a).win 2) t (ix3 (0 : Fin 1) f k) (1 : Fin 3)).trans ?_
    rw [index2]
    show 0 * 256 + f.val = f.val
    omega
  | ⟨2, _⟩ =>
    refine (Window.rect_emb_val ((cfg0 a).win 2) t (ix3 (0 : Fin 1) f k) (2 : Fin 3)).trans ?_
    rw [index2]
    show 0 * 1024 + k.val = k.val
    omega

include hI hV in
/-- When a block is written back, its rows hold their networks. -/
theorem hG_at (t : Fin (cfg0 a).N) (hfl : ((cfg0 a).win 3).flush t = true) (y : S512x1024.Idx) (i : S528384x1024.Idx)
    (h0 : (i 0).val = (blkWord a t).toNat * 512 + (y 0).val) (h1 : (i 1).val = (y 1).val) :
    outv VV a 0 t.val y = res m 0 i := by
  obtain ⟨r, k, rfl⟩ : ∃ r : Fin 512, ∃ k : Fin 1024, y = ix2 r k := ⟨y 0, y 1, by
    funext j; match j with | ⟨0, _⟩ => rfl | ⟨1, _⟩ => rfl⟩
  obtain ⟨R, k', rfl⟩ : ∃ R : Fin 528384, ∃ k' : Fin 1024, i = ix2 R k' := ⟨i 0, i 1, by
    funext j; match j with | ⟨0, _⟩ => rfl | ⟨1, _⟩ => rfl⟩
  obtain rfl : k' = k := Fin.ext h1
  have h0' : R.val = blk (sm m) t.val * 512 + r.val := by rw [← blk_nat m ha]; exact h0
  have hr : r.val = R.val % 512 := by omega
  have hbt : blk (sm m) t.val = R.val / 512 := by omega
  obtain ⟨p, hv, he, hb, hl, hh⟩ := point_of m ha hI R
  have hpt : p.val ≤ t.val := by
    by_contra hc
    have hp := p.isLt
    unfold Window.flush at hfl
    rw [Bool.and_eq_true, Bool.or_eq_true, decide_eq_true_eq, decide_eq_true_eq] at hfl
    rcases hfl.2 with e | ⟨hn, hne⟩
    · have e' : t.val + 1 = grid0.N := e
      have hp' : p.val < grid0.N := hp
      omega
    · apply hne
      have g1 := blk_mono (sN_mono m 0) (s_zero m 0 hI) (s_last m 0 hI) (show t.val ≤ t.val + 1 by omega)
      have g2 := blk_mono (sN_mono m 0) (s_zero m 0 hI) (s_last m 0 hI) (show t.val + 1 ≤ p.val by omega)
      have e1 := blk_nat m ha ⟨t.val + 1, hn⟩
      have e2 := blk_nat m ha t
      show ![(blkWord a ⟨t.val + 1, hn⟩).toNat, 0] = ![(blkWord a t).toNat, 0]
      have e3 : (blkWord a ⟨t.val + 1, hn⟩).toNat = (blkWord a t).toNat := by
        rw [e1, e2]
        show blk (sm m) (t.val + 1) = blk (sm m) t.val
        exact le_antisymm (g2.trans_eq (hb.trans hbt.symm)) g1
      rw [e3]
  have ho := out_from (VV := VV) m ha hI R p hv he hb r hr (by rw [hr]; exact ⟨hl, hh⟩) k' (t.val - p.val) t (by omega) hbt
  refine ho.trans ((net_apply _ _ _ r k').trans ?_)
  have eX : (fun k => (inX VV a p : S512x1024.Idx → EReal) (ix2 r k)) = fun k => argX m 0 (ix2 (token shapeCasts_S66048x8_S528384 (argI m 0) R) k) :=
    funext fun k => inX_apply m ha hV p r k R (by rw [hb]; omega)
  have eG : (fun e f => (inG VV a p : S1x1024x512.Idx → EReal) (ix3 (0 : Fin 1) e f)) = fun e f => argG m 0 (ix3 (numI m 0 R) e f) :=
    funext fun e => funext fun f => inG_apply m ha hV p e f _ he
  have eD : (fun f k => (inD VV a p : S1x256x1024.Idx → EReal) (ix3 (0 : Fin 1) f k)) = fun f k => argD m 0 (ix3 (numI m 0 R) f k) :=
    funext fun f => funext fun k => inD_apply m ha hV p f k _ he
  refine (congrArg (fun z => Dense.expert z _ _ k') eX).trans ((congrArg (fun z => Dense.expert _ z _ k') eG).trans ((congrArg (fun z => Dense.expert _ _ z k') eD).trans ?_))
  rfl

include hI hV in
/-- The call's array at the end. -/
theorem arr_res : (dats VV a 0).arrAt 3 (cfg0 a).N = res m 0 :=
  arr_eq VV a 0 (res m 0) (hcov_at m ha hI) (hG_at m ha hI hV)

end Cert.ExpertsIdeal.Hand
end
-- ==== Proof.Experts.Final.lean ====
module
public import proofs.«01_k».proof.Proof.Experts.Fill
/-!
# The routed experts' run

The run of the whole program: the call's array ends as the networks' results, the arguments end unchanged.
-/
@[expose] public section
set_option maxHeartbeats 60000
noncomputable section
namespace Cert.ExpertsIdeal.Hand
open Idealize.ShloMosaic Idealize.SL.Sem Idealize.ShloMosaic.ValueIdx Cert.Experts.Spec
open Cert.ExpertsIdeal Cert.ExpertsIdeal.Gen Idealize.ShloMosaic.TcCoe Idealize.SL.BI Idealize.ShloMosaic.Rounds
open Idealize.ShloMosaic.Pipeline (Dat Cfg Window BodyObligationLoose)

section Run
variable {F : FTy → Type} [FloatOps F]
variable (m : (ℓ : Loc nD τ sig) → Buf (Elt F) ℓ) (ρ : Dev nD → PrngReg)

set_option backward.isDefEq.respectTransparency.types false in
set_option maxHeartbeats 800000 in
/-- The run, the output named. -/
theorem run_exact (hO : Ok m)
    (hbody : ∀ c, BodyObligationLoose (dats (V m) (adm m hO) c) (defs₀ (F := F)) Variants.none () Set.univ) :
    θ_run defs (onTc (τ := τ) (main (F := F))) (s₀ m ρ) (fun r => ∀ c : Dev nD,
      r.2.mem ((c.tc : Thread nD τ).loc main_v110) = (dats (V m) (adm m hO) c).arrAt 3 (cfg0 (adm m hO)).N
      ∧ ∀ b ∈ Pipeline.restRefs sig spec0, r.2.mem ((c.tc : Thread nD τ).loc b) = V m c b) :=
  Pipeline.θ_run_frameP (Q' := _) (pcfgs (F := F)) (fun _ => adm m hO) (fun _ c => dats (V m) (adm m hO) c) (0 : Fin 1) launch0 defs₀ Variants.none m ρ main
    (hbody := hbody) (hshare := fun c => (dats (V m) (adm m hO) c).share_full fun _ => rfl)
    (howed := fun _ _ => rfl) (V := V m) (hmain := hmain m Variants.none) (hA := A_eq (V m) (adm m hO)) (hpf := V_pre m) (hΦ := fun _ _ => rfl)
    (hQ' := fun r h c => ⟨(h.1 c).1 3, (h.1 c).2⟩)

theorem adm_tbl (hO : Ok m) : (adm m hO).1 = tbl m := rfl
end Run

variable (m : (ℓ : Loc nD τ sig) → Buf (Elt Ideal) ℓ) (ρ : Dev nD → PrngReg)

/-- The body's obligation at tables that are the memory's. -/
theorem body_at {a : (pcfg0 (F := Ideal)).Adm} (ha : a.1 = tbl m) (hI : Named (argI m 0))
    (VV : (c : Dev nD) → (b : Ref sig .tc) → Buf (Elt Ideal) ((c : Thread nD τ).loc b)) (c : Dev nD) :
    BodyObligationLoose (dats VV a c) (defs₀ (F := Ideal)) Variants.none () Set.univ :=
  body_exact VV a (hfirst_at m ha hI) (hrest_at m ha) c

/-- The array of a run, at tables that are the memory's. -/
theorem array_at {a : (pcfg0 (F := Ideal)).Adm} (ha : a.1 = tbl m)
    {VV : (c : Dev nD) → (b : Ref sig .tc) → Buf (Elt Ideal) ((c : Thread nD τ).loc b)} (hV : VV = V m)
    (hI : Named (argI m 0)) (c : Dev nD) (x : S528384x1024.Idx → EReal) (hx : x = (dats VV a c).arrAt 3 (cfg0 a).N) : x = res m c := by
  obtain rfl : c = 0 := Subsingleton.elim _ _
  exact hx.trans (arr_res m ha hI hV)

/-- The whole program's run. -/
theorem run_value (hO : Ok m) (hI : Named (argI m 0)) :
    θ_run defs (onTc (τ := τ) (main (F := Ideal))) ⟨m, fun _ => 0, ρ⟩ (fun r => ∀ c : Dev nD,
      r.2.mem ((c.tc : Thread nD τ).loc main_v110) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨array_at m (adm_tbl m hO) (Eq.refl (V m)) hI c _ (h c).1,
     ((h c).2 main_arg0 rest_arg0).trans (V_main_arg0 m c), ((h c).2 main_arg1 rest_arg1).trans (V_main_arg1 m c),
     ((h c).2 main_arg2 rest_arg2).trans (V_main_arg2 m c), ((h c).2 main_arg3 rest_arg3).trans (V_main_arg3 m c)⟩)
    (run_exact m ρ hO (body_at m (adm_tbl m hO) hI (V m)))

end Cert.ExpertsIdeal.Hand
end
-- ==== Proof.Experts.WordsBits.lean ====
module
public import proofs.«01_k».proof.Proof.Experts.RunBits
/-!
# The routed experts' call: the host operations' results, one by one

Every buffer the host operations write up to the table of blocks, as the operation's function of the buffers it reads.
-/
@[expose] public section
set_option maxRecDepth 16384
set_option maxHeartbeats 400000
noncomputable section
namespace Cert.Experts.Hand
open Cert.Experts Cert.Experts.Gen
open Idealize.ShloMosaic Idealize.ShloMosaic.TcCoe

variable {F : FTy → Type} [FloatOps F]
variable (m : (ℓ : Loc nD τ sig) → Buf (Elt F) ℓ)

/-- The buffers the host operations write, in order. -/
abbrev Wr : List (Ref sig .tc) :=
  [main_v0, main_v1, main_v2_0, main_v2_1, main_v3, main_v4, main_v5, main_v6, main_v7, main_v8, main_v9, main_c, main_v10, main_v11, main_v12, main_v13, main_v14, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v15, main_c_1, main_v16, main_v17, main_v18, main_c_2, main_v19, main_v20, main_c_3, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v21, main_v22, main_c_4, main_v23, main_v24, main_c_5, main_call2_v0, main_call2_v1, main_v25, main_call3_call0_c, main_call3_call0_v0, main_v26, main_v27, main_v28, main_v29, main_v30, main_v31, main_v32, main_v33, main_v34, main_c_6, main_v35, main_c_7, main_v36, main_v37, main_v38, main_v39, main_v40, main_v41, main_c_8, main_v42, main_v43, main_c_9, main_v44, main_v45, main_v46, main_v47, main_v48, main_v49, main_c_10, main_v50, main_v51, main_c_11, main_v52, main_v53, main_v54, main_v55, main_v56, main_v57, main_c_12, main_call4_v0, main_call4_v1, main_v58, main_c_13, main_v59, main_v60, main_c_14, main_v61, main_v62, main_c_15, main_v63, main_v64, main_v65, main_v66, main_v67, main_v68, main_v69, main_c_16, main_call5_v0, main_call5_v1, main_v70, main_c_17, main_v71, main_v72, main_c_18, main_v73, main_v74, main_v75, main_v76, main_v77, main_c_19, main_v78, main_v79, main_c_20, main_v80, main_v81, main_v82, main_v83, main_v84, main_v85, main_c_21, main_v86, main_v87, main_v88, main_v89, main_c_22, main_call6_v0, main_call6_v1, main_v90, main_c_23, main_v91, main_v92, main_v93, main_v94, main_v95, main_v96, main_v97, main_cst, main_v98, main_v99, main_c_24, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v100, main_c_25, main_v101, main_v102, main_c_26, main_v103, main_v104, main_v105, main_v106, main_v107, main_v108, main_v109]

theorem Wr_sub : ((opss (F := F)).flatten).map HloOp.writes = Wr.map fun r => {Proc.devRef (τ := τ) .tc r} := rfl

/-- The buffers after the first `n` host operations. -/
def X (c : Dev nD) (n : ℕ) : Valuation τ sig (Elt F) :=
  StableHlo.after ((opss (F := F)).flatten.take n) (fun b => m (c, b))

theorem sub_drop (n : ℕ) : ((opss (F := F)).flatten.drop n).Forall fun op =>
    op.writes ⊆ ((Wr.drop n).map (Proc.devRef (τ := τ) .tc)).toFinset :=
  StableHlo.forall_writes_sub_of_map (by rw [List.map_drop, Wr_sub, List.map_drop])

/-- A buffer the later operations do not write keeps its contents. -/
theorem X_at (c : Dev nD) (n : ℕ) {r : Ref sig .tc} (h : r ∉ Wr.drop n) :
    V m c r = X m c n (Proc.devRef .tc r) := by
  have e : V m c r = StableHlo.after ((opss (F := F)).flatten.drop n) (X m c n) (Proc.devRef .tc r) := by
    unfold V X
    rw [← StableHlo.after_append, List.take_append_drop]
  rw [e]
  exact StableHlo.after_of_writes_sub _ _ (sub_drop n) h

theorem X_succ (c : Dev nD) (n : ℕ) {op : HloOp τ sig (Elt F)} (hn : (opss (F := F)).flatten[n]? = some op) :
    X m c (n + 1) = op.result (X m c n) := by
  unfold X
  obtain ⟨h, rfl⟩ := List.getElem?_eq_some_iff.mp hn
  rw [List.take_succ_eq_append_getElem h, StableHlo.after_append]
  rfl

theorem V_nu (c : Dev nD) (n : ℕ) {y : Ref sig .tc} {v : y.ty.Contents (Elt F)} {hy}
    (hn : (opss (F := F)).flatten[n]? = some (StableHlo.nullary y v hy)) (h : y ∉ Wr.drop (n + 1)) : V m c y = v := by
  rw [X_at m c (n + 1) h, X_succ m c n hn]
  exact StableHlo.nullary_result' v hy _

theorem V_un (c : Dev nD) (n : ℕ) {x y : Ref sig .tc} {f : x.ty.Contents (Elt F) → y.ty.Contents (Elt F)} {hx hy}
    (hn : (opss (F := F)).flatten[n]? = some (StableHlo.unary x y f hx hy)) (h : y ∉ Wr.drop (n + 1))
    (h1 : x ∉ Wr.drop n) : V m c y = f (V m c x) := by
  rw [X_at m c (n + 1) h, X_succ m c n hn, X_at m c n h1]
  exact StableHlo.unary_result' f hx hy _

theorem V_re (c : Dev nD) (n : ℕ) {x y : Ref sig .tc} {he hn' hx hy}
    (hn : (opss (F := F)).flatten[n]? = some (StableHlo.reshape x y he hn' hx hy)) (h : y ∉ Wr.drop (n + 1))
    (h1 : x ∉ Wr.drop n) : V m c y = fun i => he ▸ shapeCast y.ty.shape (V m c x) hn' i := by
  rw [X_at m c (n + 1) h, X_succ m c n hn, X_at m c n h1]
  exact StableHlo.reshape_result' he hn' hx hy _

theorem V_bi (c : Dev nD) (n : ℕ) {a b y : Ref sig .tc}
    {f : a.ty.Contents (Elt F) → b.ty.Contents (Elt F) → y.ty.Contents (Elt F)} {ha hb hy}
    (hn : (opss (F := F)).flatten[n]? = some (StableHlo.binary a b y f ha hb hy)) (h : y ∉ Wr.drop (n + 1))
    (h1 : a ∉ Wr.drop n) (h2 : b ∉ Wr.drop n) : V m c y = f (V m c a) (V m c b) := by
  rw [X_at m c (n + 1) h, X_succ m c n hn, X_at m c n h1, X_at m c n h2]
  exact StableHlo.binary_result' f ha hb hy _

theorem V_te (c : Dev nD) (n : ℕ) {p a b y : Ref sig .tc}
    {f : p.ty.Contents (Elt F) → a.ty.Contents (Elt F) → b.ty.Contents (Elt F) → y.ty.Contents (Elt F)} {hp ha hb hy}
    (hn : (opss (F := F)).flatten[n]? = some (StableHlo.ternary p a b y f hp ha hb hy)) (h : y ∉ Wr.drop (n + 1))
    (h0 : p ∉ Wr.drop n) (h1 : a ∉ Wr.drop n) (h2 : b ∉ Wr.drop n) : V m c y = f (V m c p) (V m c a) (V m c b) := by
  rw [X_at m c (n + 1) h, X_succ m c n hn, X_at m c n h0, X_at m c n h1, X_at m c n h2]
  exact StableHlo.ternary_result' f hp ha hb hy _

def w_arg1 (c : Dev nD) : IVec S66048x8 32 := V m c main_arg1
def w_v0 (c : Dev nD) : IVec S528384 32 := V m c main_v0
def w_v1 (c : Dev nD) : IVec S528384 32 := V m c main_v1
def w_v2_0 (c : Dev nD) : IVec S528384 32 := V m c main_v2_0
def w_v2_1 (c : Dev nD) : IVec S528384 32 := V m c main_v2_1
def w_v3 (c : Dev nD) : IVec S257 32 := V m c main_v3
def w_v4 (c : Dev nD) : IVec S1x528384 32 := V m c main_v4
def w_v5 (c : Dev nD) : IVec S257x1 32 := V m c main_v5
def w_v6 (c : Dev nD) : IVec S257x528384 32 := V m c main_v6
def w_v7 (c : Dev nD) : IVec S257x528384 32 := V m c main_v7
def w_v8 (c : Dev nD) : IVec S257x528384 1 := V m c main_v8
def w_v9 (c : Dev nD) : IVec S257x528384 32 := V m c main_v9
def w_c (c : Dev nD) : IVec S_ 32 := V m c main_c
def w_v10 (c : Dev nD) : IVec S257 32 := V m c main_v10
def w_v11 (c : Dev nD) : IVec S256 32 := V m c main_v11
def w_v12 (c : Dev nD) : IVec S256 32 := V m c main_v12
def w_v13 (c : Dev nD) : IVec S256 32 := V m c main_v13
def w_v14 (c : Dev nD) : IVec S256 32 := V m c main_v14
def w_c_0 (c : Dev nD) : IVec S_ 32 := V m c main_c_0
def w_call0_v0 (c : Dev nD) : IVec S_ 32 := V m c main_call0_v0
def w_call0_v1 (c : Dev nD) : IVec S256 32 := V m c main_call0_v1
def w_call0_v2 (c : Dev nD) : IVec S256 32 := V m c main_call0_v2
def w_call0_v3 (c : Dev nD) : IVec S256 32 := V m c main_call0_v3
def w_call0_v4 (c : Dev nD) : IVec S_ 32 := V m c main_call0_v4
def w_call0_v5 (c : Dev nD) : IVec S256 32 := V m c main_call0_v5
def w_call0_v6 (c : Dev nD) : IVec S256 1 := V m c main_call0_v6
def w_call0_v7 (c : Dev nD) : IVec S256 32 := V m c main_call0_v7
def w_call0_v8 (c : Dev nD) : IVec S256 32 := V m c main_call0_v8
def w_call0_c (c : Dev nD) : IVec S_ 32 := V m c main_call0_c
def w_call0_v9 (c : Dev nD) : IVec S256 32 := V m c main_call0_v9
def w_call0_v10 (c : Dev nD) : IVec S256 1 := V m c main_call0_v10
def w_call0_v11 (c : Dev nD) : IVec S256 1 := V m c main_call0_v11
def w_call0_c_0 (c : Dev nD) : IVec S_ 32 := V m c main_call0_c_0
def w_call0_v12 (c : Dev nD) : IVec S256 32 := V m c main_call0_v12
def w_call0_v13 (c : Dev nD) : IVec S256 32 := V m c main_call0_v13
def w_v15 (c : Dev nD) : IVec S256 32 := V m c main_v15
def w_c_1 (c : Dev nD) : IVec S_ 32 := V m c main_c_1
def w_v16 (c : Dev nD) : IVec S256 32 := V m c main_v16
def w_v17 (c : Dev nD) : IVec S256 1 := V m c main_v17
def w_v18 (c : Dev nD) : IVec S256 32 := V m c main_v18
def w_c_2 (c : Dev nD) : IVec S_ 32 := V m c main_c_2
def w_v19 (c : Dev nD) : IVec S256 32 := V m c main_v19
def w_v20 (c : Dev nD) : IVec S256 32 := V m c main_v20
def w_c_3 (c : Dev nD) : IVec S_ 32 := V m c main_c_3
def w_call1_v0 (c : Dev nD) : IVec S_ 32 := V m c main_call1_v0
def w_call1_v1 (c : Dev nD) : IVec S256 32 := V m c main_call1_v1
def w_call1_v2 (c : Dev nD) : IVec S256 32 := V m c main_call1_v2
def w_call1_v3 (c : Dev nD) : IVec S256 32 := V m c main_call1_v3
def w_call1_v4 (c : Dev nD) : IVec S_ 32 := V m c main_call1_v4
def w_call1_v5 (c : Dev nD) : IVec S256 32 := V m c main_call1_v5
def w_call1_v6 (c : Dev nD) : IVec S256 1 := V m c main_call1_v6
def w_call1_v7 (c : Dev nD) : IVec S256 32 := V m c main_call1_v7
def w_call1_v8 (c : Dev nD) : IVec S256 32 := V m c main_call1_v8
def w_call1_c (c : Dev nD) : IVec S_ 32 := V m c main_call1_c
def w_call1_v9 (c : Dev nD) : IVec S256 32 := V m c main_call1_v9
def w_call1_v10 (c : Dev nD) : IVec S256 1 := V m c main_call1_v10
def w_call1_v11 (c : Dev nD) : IVec S256 1 := V m c main_call1_v11
def w_call1_c_0 (c : Dev nD) : IVec S_ 32 := V m c main_call1_c_0
def w_call1_v12 (c : Dev nD) : IVec S256 32 := V m c main_call1_v12
def w_call1_v13 (c : Dev nD) : IVec S256 32 := V m c main_call1_v13
def w_v21 (c : Dev nD) : IVec S256 32 := V m c main_v21
def w_v22 (c : Dev nD) : IVec S256 32 := V m c main_v22
def w_c_4 (c : Dev nD) : IVec S_ 32 := V m c main_c_4
def w_v23 (c : Dev nD) : IVec S256 32 := V m c main_v23
def w_v24 (c : Dev nD) : IVec S256 32 := V m c main_v24
def w_c_5 (c : Dev nD) : IVec S_ 32 := V m c main_c_5
def w_call2_v0 (c : Dev nD) : IVec S_ 32 := V m c main_call2_v0
def w_call2_v1 (c : Dev nD) : IVec S256 32 := V m c main_call2_v1
def w_v25 (c : Dev nD) : IVec S256 32 := V m c main_v25
def w_call3_call0_c (c : Dev nD) : IVec S_ 32 := V m c main_call3_call0_c
def w_call3_call0_v0 (c : Dev nD) : IVec S_ 32 := V m c main_call3_call0_v0
def w_v26 (c : Dev nD) : IVec S256 32 := V m c main_v26
def w_v27 (c : Dev nD) : IVec S256 32 := V m c main_v27
def w_v28 (c : Dev nD) : IVec S1287 32 := V m c main_v28
def w_v29 (c : Dev nD) : IVec S1x256 32 := V m c main_v29
def w_v30 (c : Dev nD) : IVec S1287x1 32 := V m c main_v30
def w_v31 (c : Dev nD) : IVec S1287x256 32 := V m c main_v31
def w_v32 (c : Dev nD) : IVec S1287x256 32 := V m c main_v32
def w_v33 (c : Dev nD) : IVec S1287x256 1 := V m c main_v33
def w_v34 (c : Dev nD) : IVec S1287x256 32 := V m c main_v34
def w_c_6 (c : Dev nD) : IVec S_ 32 := V m c main_c_6
def w_v35 (c : Dev nD) : IVec S1287 32 := V m c main_v35
def w_c_7 (c : Dev nD) : IVec S_ 32 := V m c main_c_7
def w_v36 (c : Dev nD) : IVec S1287 32 := V m c main_v36
def w_v37 (c : Dev nD) : IVec S1287 32 := V m c main_v37
def w_v38 (c : Dev nD) : IVec S1 32 := V m c main_v38
def w_v39 (c : Dev nD) : IVec S_ 32 := V m c main_v39
def w_v40 (c : Dev nD) : IVec S1287 32 := V m c main_v40
def w_v41 (c : Dev nD) : IVec S1287 1 := V m c main_v41
def w_c_8 (c : Dev nD) : IVec S_ 32 := V m c main_c_8
def w_v42 (c : Dev nD) : IVec S1287 32 := V m c main_v42
def w_v43 (c : Dev nD) : IVec S1287 1 := V m c main_v43
def w_c_9 (c : Dev nD) : IVec S_ 32 := V m c main_c_9
def w_v44 (c : Dev nD) : IVec S1287 32 := V m c main_v44
def w_v45 (c : Dev nD) : IVec S1287 32 := V m c main_v45
def w_v46 (c : Dev nD) : IVec S1287 32 := V m c main_v46
def w_v47 (c : Dev nD) : IVec S1287x1 32 := V m c main_v47
def w_v48 (c : Dev nD) : IVec S1287 32 := V m c main_v48
def w_v49 (c : Dev nD) : IVec S1287 32 := V m c main_v49
def w_c_10 (c : Dev nD) : IVec S_ 32 := V m c main_c_10
def w_v50 (c : Dev nD) : IVec S1287 32 := V m c main_v50
def w_v51 (c : Dev nD) : IVec S1287 1 := V m c main_v51
def w_c_11 (c : Dev nD) : IVec S_ 32 := V m c main_c_11
def w_v52 (c : Dev nD) : IVec S1287 32 := V m c main_v52
def w_v53 (c : Dev nD) : IVec S1287 32 := V m c main_v53
def w_v54 (c : Dev nD) : IVec S1287 32 := V m c main_v54
def w_v55 (c : Dev nD) : IVec S1287x1 32 := V m c main_v55
def w_v56 (c : Dev nD) : IVec S1287 32 := V m c main_v56
def w_v57 (c : Dev nD) : IVec S1287 32 := V m c main_v57
def w_c_12 (c : Dev nD) : IVec S_ 32 := V m c main_c_12
def w_call4_v0 (c : Dev nD) : IVec S_ 32 := V m c main_call4_v0
def w_call4_v1 (c : Dev nD) : IVec S1287 32 := V m c main_call4_v1
def w_v58 (c : Dev nD) : IVec S1287 32 := V m c main_v58
set_option maxHeartbeats 2000000 in
theorem w_v0_eq (c : Dev nD) : w_v0 m c = shapeCast S528384 (w_arg1 m c) shapeCasts_S66048x8_S528384 :=
  V_re m c 0 rfl (by decide) (by decide)
theorem w_v1_eq (c : Dev nD) : w_v1 m c = ((iotaInDim S528384 32 0)) :=
  V_nu m c 1 rfl (by decide)
theorem w_v2_0_eq (c : Dev nD) : w_v2_0 m c = ((fun x y => (Host.sort2 S528384 0 comparator_i32_i32_d0 x y).1)) (w_v0 m c) (w_v1 m c) :=
  V_bi m c 2 rfl (by decide) (by decide) (by decide)
theorem w_v2_1_eq (c : Dev nD) : w_v2_1 m c = ((fun x y => (Host.sort2 S528384 0 comparator_i32_i32_d0 x y).2)) (w_v0 m c) (w_v1 m c) :=
  V_bi m c 3 rfl (by decide) (by decide) (by decide)
theorem w_v3_eq (c : Dev nD) : w_v3 m c = ((iotaInDim S257 32 0)) :=
  V_nu m c 4 rfl (by decide)
theorem w_v4_eq (c : Dev nD) : w_v4 m c = (broadcastInDim S1x528384 ![1] bcast_S528384_S1x528384_1) (w_v2_0 m c) :=
  V_un m c 5 rfl (by decide) (by decide)
theorem w_v5_eq (c : Dev nD) : w_v5 m c = (broadcastInDim S257x1 ![0] bcast_S257_S257x1_0) (w_v3 m c) :=
  V_un m c 6 rfl (by decide) (by decide)
theorem w_v6_eq (c : Dev nD) : w_v6 m c = (broadcastInDim S257x528384 ![0, 1] bcast_S1x528384_S257x528384_0_1) (w_v4 m c) :=
  V_un m c 7 rfl (by decide) (by decide)
theorem w_v7_eq (c : Dev nD) : w_v7 m c = (broadcastInDim S257x528384 ![0, 1] bcast_S257x1_S257x528384_0_1) (w_v5 m c) :=
  V_un m c 8 rfl (by decide) (by decide)
theorem w_v8_eq (c : Dev nD) : w_v8 m c = (cmpi .slt) (w_v6 m c) (w_v7 m c) :=
  V_bi m c 9 rfl (by decide) (by decide) (by decide)
theorem w_v9_eq (c : Dev nD) : w_v9 m c = ((extui 32 · natLt_1_32)) (w_v8 m c) :=
  V_un m c 10 rfl (by decide) (by decide)
theorem w_c_eq (c : Dev nD) : w_c m c = ((constantI S_ 32 0#32)) :=
  V_nu m c 11 rfl (by decide)
theorem w_v10_eq (c : Dev nD) : w_v10 m c = ((fun x v => Host.reduce IntOp.addi x v reducesTo_S257x528384_S257_d1 h_S_)) (w_v9 m c) (w_c m c) :=
  V_bi m c 12 rfl (by decide) (by decide) (by decide)
theorem w_v11_eq (c : Dev nD) : w_v11 m c = ((extractStridedSlice S256 ![0] · slices_S257_S256_0)) (w_v10 m c) :=
  V_un m c 13 rfl (by decide) (by decide)
theorem w_v12_eq (c : Dev nD) : w_v12 m c = ((extractStridedSlice S256 ![1] · slices_S257_S256_1)) (w_v10 m c) :=
  V_un m c 14 rfl (by decide) (by decide)
theorem w_v13_eq (c : Dev nD) : w_v13 m c = ((extractStridedSlice S256 ![0] · slices_S257_S256_0)) (w_v10 m c) :=
  V_un m c 15 rfl (by decide) (by decide)
theorem w_v14_eq (c : Dev nD) : w_v14 m c = (subi) (w_v12 m c) (w_v13 m c) :=
  V_bi m c 16 rfl (by decide) (by decide) (by decide)
theorem w_c_0_eq (c : Dev nD) : w_c_0 m c = ((constantI S_ 32 512#32)) :=
  V_nu m c 17 rfl (by decide)
theorem w_call0_v0_eq (c : Dev nD) : w_call0_v0 m c = (id) (w_c_0 m c) :=
  V_un m c 18 rfl (by decide) (by decide)
theorem w_call0_v1_eq (c : Dev nD) : w_call0_v1 m c = ((broadcastInDim S256 ![] bcast_S_S256)) (w_call0_v0 m c) :=
  V_un m c 19 rfl (by decide) (by decide)
theorem w_call0_v2_eq (c : Dev nD) : w_call0_v2 m c = (Host.divsi) (w_v11 m c) (w_call0_v1 m c) :=
  V_bi m c 20 rfl (by decide) (by decide) (by decide)
theorem w_call0_v3_eq (c : Dev nD) : w_call0_v3 m c = (signi) (w_v11 m c) :=
  V_un m c 21 rfl (by decide) (by decide)
theorem w_call0_v4_eq (c : Dev nD) : w_call0_v4 m c = (signi) (w_call0_v0 m c) :=
  V_un m c 22 rfl (by decide) (by decide)
theorem w_call0_v5_eq (c : Dev nD) : w_call0_v5 m c = ((broadcastInDim S256 ![] bcast_S_S256)) (w_call0_v4 m c) :=
  V_un m c 23 rfl (by decide) (by decide)
theorem w_call0_v6_eq (c : Dev nD) : w_call0_v6 m c = ((cmpi .ne)) (w_call0_v3 m c) (w_call0_v5 m c) :=
  V_bi m c 24 rfl (by decide) (by decide) (by decide)
theorem w_call0_v7_eq (c : Dev nD) : w_call0_v7 m c = ((broadcastInDim S256 ![] bcast_S_S256)) (w_call0_v0 m c) :=
  V_un m c 25 rfl (by decide) (by decide)
theorem w_call0_v8_eq (c : Dev nD) : w_call0_v8 m c = (Host.remsi) (w_v11 m c) (w_call0_v7 m c) :=
  V_bi m c 26 rfl (by decide) (by decide) (by decide)
theorem w_call0_c_eq (c : Dev nD) : w_call0_c m c = ((constantI S_ 32 0#32)) :=
  V_nu m c 27 rfl (by decide)
theorem w_call0_v9_eq (c : Dev nD) : w_call0_v9 m c = ((broadcastInDim S256 ![] bcast_S_S256)) (w_call0_c m c) :=
  V_un m c 28 rfl (by decide) (by decide)
theorem w_call0_v10_eq (c : Dev nD) : w_call0_v10 m c = ((cmpi .ne)) (w_call0_v8 m c) (w_call0_v9 m c) :=
  V_bi m c 29 rfl (by decide) (by decide) (by decide)
theorem w_call0_v11_eq (c : Dev nD) : w_call0_v11 m c = (andi) (w_call0_v6 m c) (w_call0_v10 m c) :=
  V_bi m c 30 rfl (by decide) (by decide) (by decide)
theorem w_call0_c_0_eq (c : Dev nD) : w_call0_c_0 m c = ((constantI S_ 32 1#32)) :=
  V_nu m c 31 rfl (by decide)
theorem w_call0_v12_eq (c : Dev nD) : w_call0_v12 m c = ((broadcastInDim S256 ![] bcast_S_S256)) (w_call0_c_0 m c) :=
  V_un m c 32 rfl (by decide) (by decide)
theorem w_call0_v13_eq (c : Dev nD) : w_call0_v13 m c = (subi) (w_call0_v2 m c) (w_call0_v12 m c) :=
  V_bi m c 33 rfl (by decide) (by decide) (by decide)
theorem w_v15_eq (c : Dev nD) : w_v15 m c = (select) (w_call0_v11 m c) (w_call0_v13 m c) (w_call0_v2 m c) :=
  V_te m c 34 rfl (by decide) (by decide) (by decide) (by decide)
theorem w_c_1_eq (c : Dev nD) : w_c_1 m c = ((constantI S_ 32 0#32)) :=
  V_nu m c 35 rfl (by decide)
theorem w_v16_eq (c : Dev nD) : w_v16 m c = (broadcastInDim S256 ![] bcast_S_S256) (w_c_1 m c) :=
  V_un m c 36 rfl (by decide) (by decide)
theorem w_v17_eq (c : Dev nD) : w_v17 m c = (cmpi .sgt) (w_v14 m c) (w_v16 m c) :=
  V_bi m c 37 rfl (by decide) (by decide) (by decide)
theorem w_v18_eq (c : Dev nD) : w_v18 m c = (addi) (w_v11 m c) (w_v14 m c) :=
  V_bi m c 38 rfl (by decide) (by decide) (by decide)
theorem w_c_2_eq (c : Dev nD) : w_c_2 m c = ((constantI S_ 32 1#32)) :=
  V_nu m c 39 rfl (by decide)
theorem w_v19_eq (c : Dev nD) : w_v19 m c = (broadcastInDim S256 ![] bcast_S_S256) (w_c_2 m c) :=
  V_un m c 40 rfl (by decide) (by decide)
theorem w_v20_eq (c : Dev nD) : w_v20 m c = (subi) (w_v18 m c) (w_v19 m c) :=
  V_bi m c 41 rfl (by decide) (by decide) (by decide)
theorem w_c_3_eq (c : Dev nD) : w_c_3 m c = ((constantI S_ 32 512#32)) :=
  V_nu m c 42 rfl (by decide)
theorem w_call1_v0_eq (c : Dev nD) : w_call1_v0 m c = (id) (w_c_3 m c) :=
  V_un m c 43 rfl (by decide) (by decide)
theorem w_call1_v1_eq (c : Dev nD) : w_call1_v1 m c = ((broadcastInDim S256 ![] bcast_S_S256)) (w_call1_v0 m c) :=
  V_un m c 44 rfl (by decide) (by decide)
theorem w_call1_v2_eq (c : Dev nD) : w_call1_v2 m c = (Host.divsi) (w_v20 m c) (w_call1_v1 m c) :=
  V_bi m c 45 rfl (by decide) (by decide) (by decide)
theorem w_call1_v3_eq (c : Dev nD) : w_call1_v3 m c = (signi) (w_v20 m c) :=
  V_un m c 46 rfl (by decide) (by decide)
theorem w_call1_v4_eq (c : Dev nD) : w_call1_v4 m c = (signi) (w_call1_v0 m c) :=
  V_un m c 47 rfl (by decide) (by decide)
theorem w_call1_v5_eq (c : Dev nD) : w_call1_v5 m c = ((broadcastInDim S256 ![] bcast_S_S256)) (w_call1_v4 m c) :=
  V_un m c 48 rfl (by decide) (by decide)
theorem w_call1_v6_eq (c : Dev nD) : w_call1_v6 m c = ((cmpi .ne)) (w_call1_v3 m c) (w_call1_v5 m c) :=
  V_bi m c 49 rfl (by decide) (by decide) (by decide)
theorem w_call1_v7_eq (c : Dev nD) : w_call1_v7 m c = ((broadcastInDim S256 ![] bcast_S_S256)) (w_call1_v0 m c) :=
  V_un m c 50 rfl (by decide) (by decide)
theorem w_call1_v8_eq (c : Dev nD) : w_call1_v8 m c = (Host.remsi) (w_v20 m c) (w_call1_v7 m c) :=
  V_bi m c 51 rfl (by decide) (by decide) (by decide)
theorem w_call1_c_eq (c : Dev nD) : w_call1_c m c = ((constantI S_ 32 0#32)) :=
  V_nu m c 52 rfl (by decide)
theorem w_call1_v9_eq (c : Dev nD) : w_call1_v9 m c = ((broadcastInDim S256 ![] bcast_S_S256)) (w_call1_c m c) :=
  V_un m c 53 rfl (by decide) (by decide)
theorem w_call1_v10_eq (c : Dev nD) : w_call1_v10 m c = ((cmpi .ne)) (w_call1_v8 m c) (w_call1_v9 m c) :=
  V_bi m c 54 rfl (by decide) (by decide) (by decide)
theorem w_call1_v11_eq (c : Dev nD) : w_call1_v11 m c = (andi) (w_call1_v6 m c) (w_call1_v10 m c) :=
  V_bi m c 55 rfl (by decide) (by decide) (by decide)
theorem w_call1_c_0_eq (c : Dev nD) : w_call1_c_0 m c = ((constantI S_ 32 1#32)) :=
  V_nu m c 56 rfl (by decide)
theorem w_call1_v12_eq (c : Dev nD) : w_call1_v12 m c = ((broadcastInDim S256 ![] bcast_S_S256)) (w_call1_c_0 m c) :=
  V_un m c 57 rfl (by decide) (by decide)
theorem w_call1_v13_eq (c : Dev nD) : w_call1_v13 m c = (subi) (w_call1_v2 m c) (w_call1_v12 m c) :=
  V_bi m c 58 rfl (by decide) (by decide) (by decide)
theorem w_v21_eq (c : Dev nD) : w_v21 m c = (select) (w_call1_v11 m c) (w_call1_v13 m c) (w_call1_v2 m c) :=
  V_te m c 59 rfl (by decide) (by decide) (by decide) (by decide)
theorem w_v22_eq (c : Dev nD) : w_v22 m c = (subi) (w_v21 m c) (w_v15 m c) :=
  V_bi m c 60 rfl (by decide) (by decide) (by decide)
theorem w_c_4_eq (c : Dev nD) : w_c_4 m c = ((constantI S_ 32 1#32)) :=
  V_nu m c 61 rfl (by decide)
theorem w_v23_eq (c : Dev nD) : w_v23 m c = (broadcastInDim S256 ![] bcast_S_S256) (w_c_4 m c) :=
  V_un m c 62 rfl (by decide) (by decide)
theorem w_v24_eq (c : Dev nD) : w_v24 m c = (addi) (w_v22 m c) (w_v23 m c) :=
  V_bi m c 63 rfl (by decide) (by decide) (by decide)
theorem w_c_5_eq (c : Dev nD) : w_c_5 m c = ((constantI S_ 32 0#32)) :=
  V_nu m c 64 rfl (by decide)
theorem w_call2_v0_eq (c : Dev nD) : w_call2_v0 m c = (id) (w_c_5 m c) :=
  V_un m c 65 rfl (by decide) (by decide)
theorem w_call2_v1_eq (c : Dev nD) : w_call2_v1 m c = ((broadcastInDim S256 ![] bcast_S_S256)) (w_call2_v0 m c) :=
  V_un m c 66 rfl (by decide) (by decide)
theorem w_v25_eq (c : Dev nD) : w_v25 m c = (select) (w_v17 m c) (w_v24 m c) (w_call2_v1 m c) :=
  V_te m c 67 rfl (by decide) (by decide) (by decide) (by decide)
theorem w_call3_call0_c_eq (c : Dev nD) : w_call3_call0_c m c = ((constantI S_ 32 0#32)) :=
  V_nu m c 68 rfl (by decide)
theorem w_call3_call0_v0_eq (c : Dev nD) : w_call3_call0_v0 m c = ((broadcastInDim S_ ![] bcast_S_S_)) (w_call3_call0_c m c) :=
  V_un m c 69 rfl (by decide) (by decide)
attribute [local irreducible] Host.reduceWindow
/-- The running sum. -/
def cumF (x : IVec S256 32) (v : IVec S_ 32) : IVec S256 32 :=
  Host.reduceWindow IntOp.addi ![256] ![1] ![255] ![0] x v reduceWindows_S256_S256_w256s1p255_0 h_S_
theorem w_v26_eq (c : Dev nD) : w_v26 m c = cumF (w_v25 m c) (w_call3_call0_v0 m c) :=
  V_bi m c 70 (a := main_v25) (b := main_call3_call0_v0) (y := main_v26) (f := ((cumF))) rfl (by decide) (by decide) (by decide)
theorem w_v27_eq (c : Dev nD) : w_v27 m c = (subi) (w_v26 m c) (w_v25 m c) :=
  V_bi m c 71 rfl (by decide) (by decide) (by decide)
theorem w_v28_eq (c : Dev nD) : w_v28 m c = ((iotaInDim S1287 32 0)) :=
  V_nu m c 72 rfl (by decide)
theorem w_v29_eq (c : Dev nD) : w_v29 m c = (broadcastInDim S1x256 ![1] bcast_S256_S1x256_1) (w_v26 m c) :=
  V_un m c 73 rfl (by decide) (by decide)
theorem w_v30_eq (c : Dev nD) : w_v30 m c = (broadcastInDim S1287x1 ![0] bcast_S1287_S1287x1_0) (w_v28 m c) :=
  V_un m c 74 rfl (by decide) (by decide)
theorem w_v31_eq (c : Dev nD) : w_v31 m c = (broadcastInDim S1287x256 ![0, 1] bcast_S1x256_S1287x256_0_1) (w_v29 m c) :=
  V_un m c 75 rfl (by decide) (by decide)
theorem w_v32_eq (c : Dev nD) : w_v32 m c = (broadcastInDim S1287x256 ![0, 1] bcast_S1287x1_S1287x256_0_1) (w_v30 m c) :=
  V_un m c 76 rfl (by decide) (by decide)
theorem w_v33_eq (c : Dev nD) : w_v33 m c = (cmpi .sle) (w_v31 m c) (w_v32 m c) :=
  V_bi m c 77 rfl (by decide) (by decide) (by decide)
theorem w_v34_eq (c : Dev nD) : w_v34 m c = ((extui 32 · natLt_1_32)) (w_v33 m c) :=
  V_un m c 78 rfl (by decide) (by decide)
theorem w_c_6_eq (c : Dev nD) : w_c_6 m c = ((constantI S_ 32 0#32)) :=
  V_nu m c 79 rfl (by decide)
theorem w_v35_eq (c : Dev nD) : w_v35 m c = ((fun x v => Host.reduce IntOp.addi x v reducesTo_S1287x256_S1287_d1 h_S_)) (w_v34 m c) (w_c_6 m c) :=
  V_bi m c 80 rfl (by decide) (by decide) (by decide)
theorem w_c_7_eq (c : Dev nD) : w_c_7 m c = ((constantI S_ 32 255#32)) :=
  V_nu m c 81 rfl (by decide)
theorem w_v36_eq (c : Dev nD) : w_v36 m c = (broadcastInDim S1287 ![] bcast_S_S1287) (w_c_7 m c) :=
  V_un m c 82 rfl (by decide) (by decide)
theorem w_v37_eq (c : Dev nD) : w_v37 m c = (minsi) (w_v35 m c) (w_v36 m c) :=
  V_bi m c 83 rfl (by decide) (by decide) (by decide)
theorem w_v38_eq (c : Dev nD) : w_v38 m c = ((extractStridedSlice S1 ![255] · slices_S256_S1_255)) (w_v26 m c) :=
  V_un m c 84 rfl (by decide) (by decide)
set_option maxHeartbeats 2000000 in
theorem w_v39_eq (c : Dev nD) : w_v39 m c = shapeCast S_ (w_v38 m c) shapeCasts_S1_S_ :=
  V_re m c 85 rfl (by decide) (by decide)
theorem w_v40_eq (c : Dev nD) : w_v40 m c = (broadcastInDim S1287 ![] bcast_S_S1287) (w_v39 m c) :=
  V_un m c 86 rfl (by decide) (by decide)
theorem w_v41_eq (c : Dev nD) : w_v41 m c = (cmpi .slt) (w_v28 m c) (w_v40 m c) :=
  V_bi m c 87 rfl (by decide) (by decide) (by decide)
theorem w_c_8_eq (c : Dev nD) : w_c_8 m c = ((constantI S_ 32 0#32)) :=
  V_nu m c 88 rfl (by decide)
theorem w_v42_eq (c : Dev nD) : w_v42 m c = (broadcastInDim S1287 ![] bcast_S_S1287) (w_c_8 m c) :=
  V_un m c 89 rfl (by decide) (by decide)
theorem w_v43_eq (c : Dev nD) : w_v43 m c = (cmpi .slt) (w_v37 m c) (w_v42 m c) :=
  V_bi m c 90 rfl (by decide) (by decide) (by decide)
theorem w_c_9_eq (c : Dev nD) : w_c_9 m c = ((constantI S_ 32 256#32)) :=
  V_nu m c 91 rfl (by decide)
theorem w_v44_eq (c : Dev nD) : w_v44 m c = (broadcastInDim S1287 ![] bcast_S_S1287) (w_c_9 m c) :=
  V_un m c 92 rfl (by decide) (by decide)
theorem w_v45_eq (c : Dev nD) : w_v45 m c = (addi) (w_v37 m c) (w_v44 m c) :=
  V_bi m c 93 rfl (by decide) (by decide) (by decide)
theorem w_v46_eq (c : Dev nD) : w_v46 m c = (select) (w_v43 m c) (w_v45 m c) (w_v37 m c) :=
  V_te m c 94 rfl (by decide) (by decide) (by decide) (by decide)
theorem w_v47_eq (c : Dev nD) : w_v47 m c = (broadcastInDim S1287x1 ![0] bcast_S1287_S1287x1_0) (w_v46 m c) :=
  V_un m c 95 rfl (by decide) (by decide)
theorem w_v48_eq (c : Dev nD) : w_v48 m c = ((fun x i => Host.gather gather_S256_S1287x1_S1287_n_0_n_n_0_1_1 x i)) (w_v15 m c) (w_v47 m c) :=
  V_bi m c 96 rfl (by decide) (by decide) (by decide)
theorem w_v49_eq (c : Dev nD) : w_v49 m c = (addi) (w_v48 m c) (w_v28 m c) :=
  V_bi m c 97 rfl (by decide) (by decide) (by decide)
theorem w_c_10_eq (c : Dev nD) : w_c_10 m c = ((constantI S_ 32 0#32)) :=
  V_nu m c 98 rfl (by decide)
theorem w_v50_eq (c : Dev nD) : w_v50 m c = (broadcastInDim S1287 ![] bcast_S_S1287) (w_c_10 m c) :=
  V_un m c 99 rfl (by decide) (by decide)
theorem w_v51_eq (c : Dev nD) : w_v51 m c = (cmpi .slt) (w_v37 m c) (w_v50 m c) :=
  V_bi m c 100 rfl (by decide) (by decide) (by decide)
theorem w_c_11_eq (c : Dev nD) : w_c_11 m c = ((constantI S_ 32 256#32)) :=
  V_nu m c 101 rfl (by decide)
theorem w_v52_eq (c : Dev nD) : w_v52 m c = (broadcastInDim S1287 ![] bcast_S_S1287) (w_c_11 m c) :=
  V_un m c 102 rfl (by decide) (by decide)
theorem w_v53_eq (c : Dev nD) : w_v53 m c = (addi) (w_v37 m c) (w_v52 m c) :=
  V_bi m c 103 rfl (by decide) (by decide) (by decide)
theorem w_v54_eq (c : Dev nD) : w_v54 m c = (select) (w_v51 m c) (w_v53 m c) (w_v37 m c) :=
  V_te m c 104 rfl (by decide) (by decide) (by decide) (by decide)
theorem w_v55_eq (c : Dev nD) : w_v55 m c = (broadcastInDim S1287x1 ![0] bcast_S1287_S1287x1_0) (w_v54 m c) :=
  V_un m c 105 rfl (by decide) (by decide)
theorem w_v56_eq (c : Dev nD) : w_v56 m c = ((fun x i => Host.gather gather_S256_S1287x1_S1287_n_0_n_n_0_1_1 x i)) (w_v27 m c) (w_v55 m c) :=
  V_bi m c 106 rfl (by decide) (by decide) (by decide)
theorem w_v57_eq (c : Dev nD) : w_v57 m c = (subi) (w_v49 m c) (w_v56 m c) :=
  V_bi m c 107 rfl (by decide) (by decide) (by decide)
theorem w_c_12_eq (c : Dev nD) : w_c_12 m c = ((constantI S_ 32 1031#32)) :=
  V_nu m c 108 rfl (by decide)
theorem w_call4_v0_eq (c : Dev nD) : w_call4_v0 m c = (id) (w_c_12 m c) :=
  V_un m c 109 rfl (by decide) (by decide)
theorem w_call4_v1_eq (c : Dev nD) : w_call4_v1 m c = ((broadcastInDim S1287 ![] bcast_S_S1287)) (w_call4_v0 m c) :=
  V_un m c 110 rfl (by decide) (by decide)
theorem w_v58_eq (c : Dev nD) : w_v58 m c = (select) (w_v41 m c) (w_v57 m c) (w_call4_v1 m c) :=
  V_te m c 111 rfl (by decide) (by decide) (by decide) (by decide)

end Cert.Experts.Hand
end
-- ==== Proof.Experts.TablesBits.lean ====
module
public import proofs.«01_k».proof.Proof.Experts.WordsBits
public import proofs.«01_k».proof.Proof.Experts.Arith
/-!
# The routed experts' call: the tables

What the host operations leave in the tables of experts and blocks, as the plan in natural numbers. `sN e` is the number of rows, in
the sorted order, whose expert's number is below `e`.
-/
@[expose] public section
set_option maxRecDepth 16384
noncomputable section
namespace Cert.Experts.Hand
open Cert.Experts Cert.Experts.Gen
open Idealize.ShloMosaic Idealize.ShloMosaic.TcCoe
open Idealize.ShloMosaic.ValueIdx Idealize.ShloMosaic.WordCmp
open Cert.Experts.Plan

variable {F : FTy → Type} [FloatOps F]
variable (m : (ℓ : Loc nD τ sig) → Buf (Elt F) ℓ) (c : Dev nD)

/-- The expert's number in row `R` of the sorted order. -/
def key (R : ℕ) : ℤ := if h : R < 528384 then (w_v2_0 m c (ix1 ⟨R, h⟩)).toInt else 0
/-- How many rows have an expert's number below `e`. -/
def sN (e : ℕ) : ℕ := Nat.count (fun R => key m c R < (e : ℤ)) 528384

theorem sN_mono (e : ℕ) : sN m c e ≤ sN m c (e + 1) :=
  Nat.count_mono_left fun R h => by push_cast; omega
theorem sN_le (e : ℕ) : sN m c e ≤ 528384 := Nat.count_le _
theorem sN_lt (e : ℕ) : sN m c e < 2 ^ 31 := lt_of_le_of_lt (sN_le m c e) (by norm_num)
theorem P_lt {e : ℕ} (he : e ≤ 256) : P (sN m c) e < 2 ^ 31 :=
  lt_of_le_of_lt (P_le (sN_mono m c) (sN_le m c 256) e he) (by omega)

theorem t10 (e : Fin 257) : w_v10 m c (ix1 e) = BitVec.ofNat 32 (sN m c e.val) := by
  rw [w_v10_eq, w_v9_eq, w_c_eq]
  refine Routing.reduce_count (n := 257) (m := 528384) (by norm_num) (w_v8 m c) natLt_1_32 _ _ e
    (fun R => key m c R < (e.val : ℤ)) fun R => ?_
  have e1 : w_v6 m c (ix2 e R) = w_v2_0 m c (ix1 R) := by
    rw [w_v6_eq, w_v4_eq]
    exact Routing.bcCols _ _ _ e R
  have e2 : w_v7 m c (ix2 e R) = BitVec.ofNat 32 e.val := by
    rw [w_v7_eq, w_v5_eq, w_v3_eq]
    exact Routing.bcRows _ _ _ e R
  have e3 : key m c R.val = (w_v2_0 m c (ix1 R)).toInt := dif_pos R.isLt
  have e4 : (BitVec.ofNat 32 e.val).toInt = (e.val : ℤ) :=
    toInt_ofNat_of_lt (w := 32) (lt_trans e.isLt (by norm_num))
  rw [w_v8_eq, cmpi_at, e1, e2, cmpi_slt_eq, e4, e3, ofBool_decide_eq_ite]
  split <;> simp_all

theorem t11 (e : Fin 256) : w_v11 m c (ix1 e) = BitVec.ofNat 32 (sN m c e.val) := by
  rw [w_v11_eq]
  refine (Routing.slice1 (m := 257) (n := 256) 0 (w_v10 m c) _ e (by have := e.isLt; omega)).trans ((t10 m c _).trans ?_)
  show BitVec.ofNat 32 (sN m c (0 + e.val)) = _
  rw [Nat.zero_add]
theorem t12 (e : Fin 256) : w_v12 m c (ix1 e) = BitVec.ofNat 32 (sN m c (e.val + 1)) := by
  rw [w_v12_eq]
  refine (Routing.slice1 (m := 257) (n := 256) 1 (w_v10 m c) _ e (by have := e.isLt; omega)).trans ((t10 m c _).trans ?_)
  show BitVec.ofNat 32 (sN m c (1 + e.val)) = _
  rw [Nat.add_comm]
theorem t13 (e : Fin 256) : w_v13 m c (ix1 e) = BitVec.ofNat 32 (sN m c e.val) := by
  rw [w_v13_eq]
  refine (Routing.slice1 (m := 257) (n := 256) 0 (w_v10 m c) _ e (by have := e.isLt; omega)).trans ((t10 m c _).trans ?_)
  show BitVec.ofNat 32 (sN m c (0 + e.val)) = _
  rw [Nat.zero_add]
theorem t14 (e : Fin 256) : w_v14 m c (ix1 e) = BitVec.ofNat 32 (sN m c (e.val + 1) - sN m c e.val) := by
  rw [w_v14_eq, subi_apply, t12, t13]
  exact subi_word (sN_mono m c e.val)

theorem h15 : w_v15 m c = Routing.pyDiv bcast_S_S256 (w_v11 m c) (constantI S_ 32 512#32) := by
  simp only [w_v15_eq, w_call0_v11_eq, w_call0_v13_eq, w_call0_v6_eq, w_call0_v10_eq, w_call0_v3_eq, w_call0_v5_eq,
    w_call0_v4_eq, w_call0_v8_eq, w_call0_v9_eq, w_call0_c_eq, w_call0_v12_eq, w_call0_c_0_eq, w_call0_v2_eq,
    w_call0_v1_eq, w_call0_v7_eq, w_call0_v0_eq, w_c_0_eq] <;> rfl
theorem t15 (e : Fin 256) : w_v15 m c (ix1 e) = BitVec.ofNat 32 (sN m c e.val / 512) := by
  rw [h15]
  exact Routing.pyDiv_ap _ _ _ _ (t11 m c e) rfl (sN_lt m c _) (by norm_num) (by norm_num)

theorem t18 (e : Fin 256) : w_v18 m c (ix1 e) = BitVec.ofNat 32 (sN m c (e.val + 1)) := by
  rw [w_v18_eq, addi_apply, t11, t14, addi_word, Nat.add_sub_cancel' (sN_mono m c e.val)]
theorem t20 (e : Fin 256) (h : 1 ≤ sN m c (e.val + 1)) :
    w_v20 m c (ix1 e) = BitVec.ofNat 32 (sN m c (e.val + 1) - 1) := by
  have e1 : w_v19 m c (ix1 e) = BitVec.ofNat 32 1 := by
    rw [w_v19_eq, w_c_2_eq]
    exact Routing.bc0 _ _ _
  rw [w_v20_eq, subi_apply, t18, e1]
  exact subi_word h
theorem h21 : w_v21 m c = Routing.pyDiv bcast_S_S256 (w_v20 m c) (constantI S_ 32 512#32) := by
  simp only [w_v21_eq, w_call1_v11_eq, w_call1_v13_eq, w_call1_v6_eq, w_call1_v10_eq, w_call1_v3_eq, w_call1_v5_eq,
    w_call1_v4_eq, w_call1_v8_eq, w_call1_v9_eq, w_call1_c_eq, w_call1_v12_eq, w_call1_c_0_eq, w_call1_v2_eq,
    w_call1_v1_eq, w_call1_v7_eq, w_call1_v0_eq, w_c_3_eq] <;> rfl
theorem t21 (e : Fin 256) (h : 1 ≤ sN m c (e.val + 1)) :
    w_v21 m c (ix1 e) = BitVec.ofNat 32 ((sN m c (e.val + 1) - 1) / 512) := by
  rw [h21]
  exact Routing.pyDiv_ap _ _ _ _ (t20 m c e h) rfl (by have := sN_lt m c (e.val + 1); omega) (by norm_num) (by norm_num)

theorem t25 (e : Fin 256) : w_v25 m c (ix1 e) = BitVec.ofNat 32 (nb (sN m c) e.val) := by
  have e16 : w_v16 m c (ix1 e) = BitVec.ofNat 32 0 := by
    rw [w_v16_eq, w_c_1_eq]
    exact Routing.bc0 _ _ _
  have e23 : w_v23 m c (ix1 e) = BitVec.ofNat 32 1 := by
    rw [w_v23_eq, w_c_4_eq]
    exact Routing.bc0 _ _ _
  have e0 : w_call2_v1 m c (ix1 e) = BitVec.ofNat 32 0 := by
    rw [w_call2_v1_eq, w_call2_v0_eq, w_c_5_eq]
    exact Routing.bc0 _ _ _
  have hl : sN m c (e.val + 1) - sN m c e.val < 2 ^ 31 := by have := sN_lt m c (e.val + 1); omega
  rw [w_v25_eq, select_at, w_v17_eq, cmpi_at, t14, e16]
  by_cases h : sN m c e.val < sN m c (e.val + 1)
  · rw [select_of_eq_one ((cmpi_sgt_ofNat_eq_one_iff (w := 32) hl (by norm_num)).mpr (by omega)), w_v24_eq, addi_apply,
      w_v22_eq, subi_apply, t21 m c e (by omega), t15, e23, subi_word (Nat.div_le_div_right (by omega)), addi_word, nb,
      if_pos h]
  · rw [select_of_eq_zero ((cmpi_sgt_ofNat_eq_zero_iff (w := 32) hl (by norm_num)).mpr (by omega)), e0, nb, if_neg h]

theorem t26 (e : Fin 256) : w_v26 m c (ix1 e) = BitVec.ofNat 32 (P (sN m c) (e.val + 1)) := by
  have hi : w_call3_call0_v0 m c ValueIdx.ix0 = 0#32 := by
    rw [w_call3_call0_v0_eq, w_call3_call0_c_eq]
    exact Routing.bc0 _ _ _
  rw [w_v26_eq]
  unfold cumF
  exact (Routing.cumsum1 (N := 256) (Nm1 := 255) rfl (w_v25 m c) (nb (sN m c)) (t25 m c) _ hi _ _ e).trans
    (by rw [P_eq_sum])
theorem t27 (e : Fin 256) : w_v27 m c (ix1 e) = BitVec.ofNat 32 (P (sN m c) e.val) := by
  rw [w_v27_eq, subi_apply, t26, t25]
  refine (subi_word (show nb (sN m c) e.val ≤ P (sN m c) e.val + nb (sN m c) e.val from Nat.le_add_left _ _)).trans ?_
  rw [Nat.add_sub_cancel]
theorem t28 (p : Fin 1287) : w_v28 m c (ix1 p) = BitVec.ofNat 32 p.val := by
  rw [w_v28_eq]
  rfl
theorem t37 (p : Fin 1287) : w_v37 m c (ix1 p) = BitVec.ofNat 32 (ep (sN m c) p.val) := by
  have t35 : w_v35 m c (ix1 p) = BitVec.ofNat 32 (Nat.count (fun e => P (sN m c) (e + 1) ≤ p.val) 256) := by
    rw [w_v35_eq, w_v34_eq, w_c_6_eq]
    refine Routing.reduce_count (n := 1287) (m := 256) (by norm_num) (w_v33 m c) natLt_1_32 _ _ p
      (fun e => P (sN m c) (e + 1) ≤ p.val) fun e => ?_
    have e31 : w_v31 m c (ix2 p e) = BitVec.ofNat 32 (P (sN m c) (e.val + 1)) := by
      rw [w_v31_eq, w_v29_eq, ← t26]
      exact Routing.bcCols _ _ _ p e
    have e32 : w_v32 m c (ix2 p e) = BitVec.ofNat 32 p.val := by
      rw [w_v32_eq, w_v30_eq, ← t28 m c]
      exact Routing.bcRows _ _ _ p e
    rw [w_v33_eq, cmpi_at, e31, e32]
    exact cmpi_sle_ofNat_eq_one_iff (w := 32) (P_lt m c (by have := e.isLt; omega)) (lt_trans p.isLt (by norm_num))
  have e36 : w_v36 m c (ix1 p) = BitVec.ofNat 32 255 := by
    rw [w_v36_eq, w_c_7_eq]
    exact Routing.bc0 _ _ _
  rw [w_v37_eq, minsi_apply, t35, e36, ep_eq_count]
  exact minsi_word (lt_of_le_of_lt (Nat.count_le _) (by norm_num)) (by norm_num)

theorem e40 (p : Fin 1287) : w_v40 m c (ix1 p) = BitVec.ofNat 32 (P (sN m c) 256) := by
  have e38 : w_v38 m c (ix1 (0 : Fin 1)) = BitVec.ofNat 32 (P (sN m c) 256) := by
    rw [w_v38_eq]
    exact (Routing.slice1 (m := 256) (n := 1) 255 (w_v26 m c) _ 0 (by norm_num)).trans (t26 m c ⟨255, by norm_num⟩)
  have e39 : w_v39 m c ValueIdx.ix0 = BitVec.ofNat 32 (P (sN m c) 256) := by
    rw [w_v39_eq, ← e38]
    exact congrArg (w_v38 m c) (funext fun a => match a with | ⟨0, _⟩ => Subsingleton.elim (α := Fin 1) _ _)
  rw [w_v40_eq, ← e39]
  exact Routing.bc0 _ _ _
theorem t41 (p : Fin 1287) (h : p.val < P (sN m c) 256) : w_v41 m c (ix1 p) = 1#1 := by
  rw [w_v41_eq, cmpi_at, t28, e40]
  exact (cmpi_slt_ofNat_eq_one_iff (w := 32) (lt_trans p.isLt (by norm_num)) (P_lt m c le_rfl)).mpr h
theorem t41' (p : Fin 1287) (h : ¬p.val < P (sN m c) 256) : w_v41 m c (ix1 p) = 0#1 := by
  rw [w_v41_eq, cmpi_at, t28, e40]
  exact (cmpi_slt_ofNat_eq_zero_iff (w := 32) (lt_trans p.isLt (by norm_num)) (P_lt m c le_rfl)).mpr (by omega)

/-- The expert of point `p`. -/
abbrev epF (p : Fin 1287) : Fin 256 := ⟨ep (sN m c) p.val, ep_lt _⟩
theorem epF_lt (p : Fin 1287) : ep (sN m c) p.val < 2 ^ 31 := lt_trans (ep_lt _) (by norm_num)

/-- A table taken at the points' experts. -/
theorem take {α : Type} (x : S256.Idx → α) (idx : IVec S1287x1 32) (v : IVec S1287 32) (p : Fin 1287)
    (hi : idx = broadcastInDim S1287x1 ![0] bcast_S1287_S1287x1_0 v)
    (hv : v (ix1 p) = BitVec.ofNat 32 (ep (sN m c) p.val)) :
    Host.gather gather_S256_S1287x1_S1287_n_0_n_n_0_1_1 x idx (ix1 p) = x (ix1 (epF m c p)) :=
  Routing.gather_take1 gather_S256_S1287x1_S1287_n_0_n_n_0_1_1 rfl rfl rfl rfl x idx p (epF m c p)
    (by rw [hi]; exact (Routing.bcCol _ _ p).trans hv) (by norm_num)

theorem t46 (p : Fin 1287) : w_v46 m c (ix1 p) = BitVec.ofNat 32 (ep (sN m c) p.val) := by
  rw [w_v46_eq, w_v43_eq, w_v42_eq, w_c_8_eq, w_v45_eq, w_v44_eq]
  exact wrap_at _ _ _ _ (epF_lt m c p) (t37 m c p)
theorem t54 (p : Fin 1287) : w_v54 m c (ix1 p) = BitVec.ofNat 32 (ep (sN m c) p.val) := by
  rw [w_v54_eq, w_v51_eq, w_v50_eq, w_c_10_eq, w_v53_eq, w_v52_eq]
  exact wrap_at _ _ _ _ (epF_lt m c p) (t37 m c p)

theorem t48 (p : Fin 1287) : w_v48 m c (ix1 p) = BitVec.ofNat 32 (sN m c (ep (sN m c) p.val) / 512) := by
  rw [w_v48_eq]
  exact (take m c (w_v15 m c) _ _ p (w_v47_eq m c) (t46 m c p)).trans (t15 m c _)
theorem t56 (p : Fin 1287) : w_v56 m c (ix1 p) = BitVec.ofNat 32 (P (sN m c) (ep (sN m c) p.val)) := by
  rw [w_v56_eq]
  exact (take m c (w_v27 m c) _ _ p (w_v55_eq m c) (t54 m c p)).trans (t27 m c _)

theorem t58 (p : Fin 1287) : w_v58 m c (ix1 p) = BitVec.ofNat 32 (blk (sN m c) p.val) := by
  have e1 : w_call4_v1 m c (ix1 p) = BitVec.ofNat 32 1031 := by
    rw [w_call4_v1_eq, w_call4_v0_eq, w_c_12_eq]
    exact Routing.bc0 _ _ _
  rw [w_v58_eq, select_at]
  by_cases h : p.val < P (sN m c) 256
  · obtain ⟨e, he, h0, h1, h2, h3, h4, h5⟩ := valid_spec h
    rw [t41 m c p h, select_of_eq_one rfl, w_v57_eq, subi_apply, w_v49_eq, addi_apply, t48, t28, t56, addi_word, h0, h5]
    exact subi_word (by omega)
  · rw [t41' m c p h, select_of_eq_zero rfl, e1, blk, if_neg h]

theorem blk_le' (p : ℕ) : blk (sN m c) p ≤ 1031 := blk_le (sN_mono m c) (sN_le m c 256) p

end Cert.Experts.Hand
end
-- ==== Proof.Experts.Reference.lean ====
module
public import proofs.«01_k».proof.Proof.Gen.ExpertsReferenceIdeal.Read
public import proofs.«01_k».proof.Proof.Experts.Spec
public import Idealize.ShloMosaic.Lib.IdealHost
/-!
# The routed experts' reference at a row
-/
@[expose] public section
set_option maxRecDepth 16384
noncomputable section
namespace Cert.ExpertsReferenceIdeal.Rows
open Cert.ExpertsReferenceIdeal Cert.ExpertsReferenceIdeal.Gen Cert.ExpertsReferenceIdeal.Read
open Idealize.ShloMosaic Idealize.ShloMosaic.TcCoe
open Idealize.ShloMosaic.ValueIdx Idealize.ShloMosaic.WordCmp
open Cert.Experts.Plan Cert.Experts.Sorted Cert.Experts.Spec

variable (x0 : S66048x1024.Idx → EReal) (x1 : S66048x8.Idx → BitVec 32) (x2 : S256x1024x512.Idx → EReal) (x3 : S256x256x1024.Idx → EReal)
variable (hI : Named x1)

abbrev tok (R : Fin 528384) : Fin 66048 := token shapeCasts_S66048x8_S528384 x1 R
abbrev nm (R : Fin 528384) : Fin 256 := num shapeCasts_S66048x8_S528384 x1 R

theorem v1_at (R : Fin 528384) : val_main_v1 (F := Ideal) x1 (ix1 R) = BitVec.ofNat 32 (choice shapeCasts_S66048x8_S528384 x1 R).val :=
  (sort_snd comparator_i32_i32_d0 (fun _ _ => rfl) (flat shapeCasts_S66048x8_S528384 x1) (val_main_call0_v0 (F := Ideal)) R).trans rfl
theorem v6_at (R : Fin 528384) : val_main_v6 (F := Ideal) x1 (ix1 R) = BitVec.ofNat 32 (choice shapeCasts_S66048x8_S528384 x1 R).val :=
  wrap_at bcast_S_S528384 (val_main_v1 (F := Ideal) x1) (val_main_c_0 (F := Ideal)) (ix1 R) (lt_trans (Fin.isLt _) (by norm_num)) (v1_at x1 R)

include hI in
theorem v8_at (R : Fin 528384) : val_main_v8 (F := Ideal) x1 (ix1 R) = BitVec.ofNat 32 (nm x1 R).val :=
  (Routing.gather_take1 gather_S528384_S528384x1_S528384_n_0_n_n_0_1_1 rfl rfl rfl rfl (val_main_v0 (F := Ideal) x1) (val_main_v7 (F := Ideal) x1) R
    (choice shapeCasts_S66048x8_S528384 x1 R) ((Routing.bcCol bcast_S528384_S528384x1_0 (val_main_v6 (F := Ideal) x1) R).trans (v6_at x1 R)) (by norm_num)).trans
    (num_word shapeCasts_S66048x8_S528384 x1 hI R)

theorem v9_eq : val_main_v9 (F := Ideal) x1 = Routing.pyDiv bcast_S_S528384 (val_main_v1 (F := Ideal) x1) (constantI S_ 32 8#32) := by
  simp only [val_main_v9, val_main_call1_v11, val_main_call1_v13, val_main_call1_v6, val_main_call1_v10, val_main_call1_v3, val_main_call1_v5,
    val_main_call1_v4, val_main_call1_v8, val_main_call1_v9, val_main_call1_c, val_main_call1_v12, val_main_call1_c_0, val_main_call1_v2,
    val_main_call1_v1, val_main_call1_v7, val_main_call1_v0, val_main_c_1] <;> rfl
theorem v9_at (R : Fin 528384) : val_main_v9 (F := Ideal) x1 (ix1 R) = BitVec.ofNat 32 (tok x1 R).val := by
  rw [v9_eq]
  exact Routing.pyDiv_ap _ _ _ _ (v1_at x1 R) rfl (lt_trans (Fin.isLt _) (by norm_num)) (by norm_num) (by norm_num)
theorem v14_at (R : Fin 528384) : val_main_v14 (F := Ideal) x1 (ix1 R) = BitVec.ofNat 32 (tok x1 R).val :=
  wrap_at bcast_S_S528384 (val_main_v9 (F := Ideal) x1) (val_main_c_3 (F := Ideal)) (ix1 R) (lt_trans (Fin.isLt _) (by norm_num)) (v9_at x1 R)
theorem v16_at (R : Fin 528384) (k : Fin 1024) : val_main_v16 (F := Ideal) x0 x1 (ix2 R k) = x0 (ix2 (tok x1 R) k) :=
  Routing.gather_row gather_S66048x1024_S528384x1_S528384x1024_1_0_n_n_0_1_11024 rfl rfl rfl rfl rfl x0 (val_main_v15 (F := Ideal) x1) R k
    (tok x1 R) ((Routing.bcCol bcast_S528384_S528384x1_0 (val_main_v14 (F := Ideal) x1) R).trans (v14_at x1 R)) (by norm_num)

include hI in
theorem v21_at (R : Fin 528384) : val_main_v21 (F := Ideal) x1 (ix1 R) = BitVec.ofNat 32 (nm x1 R).val :=
  wrap_at bcast_S_S528384 (val_main_v8 (F := Ideal) x1) (val_main_c_5 (F := Ideal)) (ix1 R) (lt_trans (Fin.isLt _) (by norm_num)) (v8_at x1 hI R)
include hI in
theorem v33_at (R : Fin 528384) : val_main_v33 (F := Ideal) x1 (ix1 R) = BitVec.ofNat 32 (nm x1 R).val :=
  wrap_at bcast_S_S528384 (val_main_v8 (F := Ideal) x1) (val_main_c_7 (F := Ideal)) (ix1 R) (lt_trans (Fin.isLt _) (by norm_num)) (v8_at x1 hI R)
include hI in
theorem v23_at (R : Fin 528384) (e : Fin 1024) (f : Fin 512) : val_main_v23 (F := Ideal) x1 x2 (ix3 R e f) = x2 (ix3 (nm x1 R) e f) :=
  gather_slab gather_S256x1024x512_S528384x1_S528384x1024x512_12_0_n_n_0_1_11024512 rfl rfl rfl rfl rfl x2 (val_main_v22 (F := Ideal) x1) R e f
    (nm x1 R) ((Routing.bcCol bcast_S528384_S528384x1_0 (val_main_v21 (F := Ideal) x1) R).trans (v21_at x1 hI R)) (by norm_num)
include hI in
theorem v35_at (R : Fin 528384) (f : Fin 256) (k : Fin 1024) : val_main_v35 (F := Ideal) x1 x3 (ix3 R f k) = x3 (ix3 (nm x1 R) f k) :=
  gather_slab gather_S256x256x1024_S528384x1_S528384x256x1024_12_0_n_n_0_1_12561024 rfl rfl rfl rfl rfl x3 (val_main_v34 (F := Ideal) x1) R f k
    (nm x1 R) ((Routing.bcCol bcast_S528384_S528384x1_0 (val_main_v33 (F := Ideal) x1) R).trans (v33_at x1 hI R)) (by norm_num)

include hI in
theorem both_apply (R : Fin 528384) (f : Fin 512) :
    val_main_v24 (F := Ideal) x0 x1 x2 (ix2 R f) = ∑ e : Fin 1024, x0 (ix2 (tok x1 R) e) * x2 (ix3 (nm x1 R) e f) := by
  rw [val_main_v24_apply]
  refine Finset.sum_congr rfl fun q _ => ?_
  have el : lidx_main_v24 (ix2 R f) q = ix2 R q := by
    funext c; apply Fin.ext; match c with | ⟨0, _⟩ => rfl | ⟨1, _⟩ => rfl
  have er : ridx_main_v24 (ix2 R f) q = ix3 R q f := by
    funext c; apply Fin.ext; match c with | ⟨0, _⟩ => rfl | ⟨1, _⟩ => rfl | ⟨2, _⟩ => rfl
  rw [el, er, v16_at, v23_at x1 x2 hI]

include hI in
theorem middle_apply (R : Fin 528384) (f : Fin 256) :
    val_main_v28 (F := Ideal) x0 x1 x2 (ix2 R f) = Dense.middle (fun e => x0 (ix2 (tok x1 R) e)) (fun e f => x2 (ix3 (nm x1 R) e f)) f := by
  rw [val_main_v28_apply, val_main_v27_apply, val_main_call2_v5_apply, val_main_call2_v4_apply, val_main_call2_v3_apply, val_main_call2_v2_apply,
    val_main_call2_v1_apply, val_main_call2_v0_apply, val_main_v26_apply, val_main_v25_apply]
  have e1 : idx_main_v25 (ix2 R f) = ix2 R (⟨0 + f.val, by omega⟩ : Fin 512) := by
    funext c; apply Fin.ext; match c with | ⟨0, _⟩ => rfl | ⟨1, _⟩ => exact (Nat.zero_add _).symm
  have e2 : idx_main_v26 (ix2 R f) = ix2 R (⟨256 + f.val, by omega⟩ : Fin 512) := by
    funext c; apply Fin.ext; match c with | ⟨0, _⟩ => rfl | ⟨1, _⟩ => rfl
  rw [e1, e2, both_apply x0 x1 x2 hI, both_apply x0 x1 x2 hI]
  show _ * Ideal.div (Ideal.ofBits .f32 0x3F800000#32) (Ideal.ofBits .f32 0x3F800000#32 + _) * _ = _
  rw [Ideal.ofBits_one_f32]
  rfl

include hI in
theorem out_apply (R : Fin 528384) (k : Fin 1024) :
    val_main_v37 (F := Ideal) x0 x1 x2 x3 (ix2 R k)
      = Dense.expert (fun e => x0 (ix2 (tok x1 R) e)) (fun e f => x2 (ix3 (nm x1 R) e f)) (fun f k => x3 (ix3 (nm x1 R) f k)) k := by
  rw [val_main_v37_apply]
  show val_main_v36 (F := Ideal) x0 x1 x2 x3 (ix2 R k) = _
  rw [val_main_v36_apply]
  refine Finset.sum_congr rfl fun q _ => ?_
  have el : lidx_main_v36 (ix2 R k) q = ix2 R q := by
    funext c; apply Fin.ext; match c with | ⟨0, _⟩ => rfl | ⟨1, _⟩ => rfl
  have er : ridx_main_v36 (ix2 R k) q = ix3 R q k := by
    funext c; apply Fin.ext; match c with | ⟨0, _⟩ => rfl | ⟨1, _⟩ => rfl | ⟨2, _⟩ => rfl
  rw [el, er, middle_apply x0 x1 x2 hI, v35_at x1 x3 hI]

include hI in
/-- The reference's array. -/
theorem result_eq : (val_main_v37 (F := Ideal) x0 x1 x2 x3 : S528384x1024.Idx → EReal) = result shapeCasts_S66048x8_S528384 x1 x0 x2 x3 := by
  funext i
  have e : i = ix2 (i (0 : Fin 2)) (i (1 : Fin 2)) := by funext a; match a with | ⟨0, _⟩ => rfl | ⟨1, _⟩ => rfl
  exact (congrArg (val_main_v37 (F := Ideal) x0 x1 x2 x3 : S528384x1024.Idx → EReal) e).trans (out_apply x0 x1 x2 x3 hI (i (0 : Fin 2)) (i (1 : Fin 2)))

end Cert.ExpertsReferenceIdeal.Rows
end
-- ==== Proof.Experts.Equal.lean ====
module
public import proofs.«01_k».proof.Defs
public import proofs.«01_k».proof.Proof.Experts.Final
public import proofs.«01_k».proof.Proof.Experts.EntriesBits
public import proofs.«01_k».proof.Proof.Experts.Reference
public import Idealize.ShloMosaic.Lib.Quiescent
/-!
# The routed experts' claims

The kernel's array and the reference's are the same function of the arguments, provided that every choice names one of the experts.
-/
@[expose] public section
set_option maxHeartbeats 60000
noncomputable section
namespace Cert.Proof
open Idealize.ShloMosaic Idealize.SL.Sem Idealize.ShloMosaic.ValueIdx
open Cert.Experts.Spec

theorem facts_named : Cert.Pre_experts_named.Facts where
  bcast_S_S66048x8 := by decide

instance expertsPre : Cert.Pre_experts_named.Facts := facts_named

/-- A word that is at least 0 and below 256, read with its sign, names an expert. -/
theorem lt_of_named (b : BitVec 32) (h : IntOp.andi (IntOp.cmpi .sge b 0#32) (IntOp.cmpi .slt b 256#32) = 1#1) : b.toNat < 256 := by
  have h1 : (0 : Int) ≤ b.toInt ∧ b.toInt < 256 := by
    by_contra hn
    revert h
    unfold IntOp.andi IntOp.cmpi
    have e0 : (0#32 : BitVec 32).toInt = 0 := by decide
    have e1 : (256#32 : BitVec 32).toInt = 256 := by decide
    by_cases ha : (0 : Int) ≤ b.toInt
    · have hb : ¬ b.toInt < 256 := fun hb => hn ⟨ha, hb⟩
      simp [BitVec.sle, BitVec.slt, e0, e1, ha, hb]
    · simp [BitVec.sle, BitVec.slt, e0, e1, ha]
  have h2 := BitVec.toInt_eq_toNat_cond b
  have h3 := b.isLt
  split at h2 <;> omega

/-- What the precondition says of the choices on a device. -/
theorem named_of {m : (ℓ : Loc Cert.ExpertsIdeal.nD Cert.ExpertsIdeal.τ Cert.ExpertsIdeal.sig) → Buf (Elt Ideal) ℓ}
    (h : Cert.Pre_ExpertsIdeal_experts_named m) (c : Dev Cert.ExpertsIdeal.nD) : Named (Cert.ExpertsIdeal.Hand.argI m c) := by
  intro i
  exact lt_of_named _ (congrFun (h c) i)

theorem experts_frame_bits : Cert.quiescent_Experts := fun m ρ _ => Cert.Experts.Hand.frame m ρ (Cert.Experts.Hand.ok m)
theorem experts_frame : Cert.quiescent_ExpertsIdeal := fun m ρ _ => Cert.ExpertsIdeal.Hand.frame m ρ (Cert.ExpertsIdeal.Hand.ok m)
theorem experts_frame_named : Cert.quiescent_ExpertsIdeal_pre_experts_named := fun m ρ _ => Cert.ExpertsIdeal.Hand.frame m ρ (Cert.ExpertsIdeal.Hand.ok m)

/-- The reference's run leaves its arguments and, declaring no semaphore, every counter at zero. -/
theorem experts_ref_frame : Cert.quiescent_ExpertsReferenceIdeal := by
  intro m ρ _
  exact (θ_run Cert.ExpertsReferenceIdeal.defs _ _).mono (fun r h => ⟨fun c => (h c).2, sem_eq_zero_of_no_sems (by decide) r.2⟩)
    (Cert.ExpertsReferenceIdeal.Value.run (F := Ideal) m ρ)
theorem experts_ref_frame_named : Cert.quiescent_ExpertsReferenceIdeal_pre_experts_named := fun m ρ _ => experts_ref_frame m ρ trivial

theorem experts_preserves : Cert.preserves_Experts_ExpertsIdeal := trivial

theorem experts_equal : Cert.algebraic_ExpertsIdeal_ExpertsReferenceIdeal_pre_experts_named := by
  intro m ρ m' ρ' hpre hagree
  refine ⟨fun c => Cert.ExpertsIdeal.Hand.res m c, ?_, ?_⟩
  · exact Cert.ExpertsIdeal.Hand.run_value m ρ (Cert.ExpertsIdeal.Hand.ok m) (named_of hpre 0)
  · refine (θ_run Cert.ExpertsReferenceIdeal.defs _ _).mono (fun r h c => ⟨(h c).1.trans ?_, (h c).2⟩) (Cert.ExpertsReferenceIdeal.Value.run (F := Ideal) m' ρ')
    have hI := named_of hpre c
    obtain ⟨a0, a1, a2, a3⟩ := hagree c
    refine (Cert.ExpertsReferenceIdeal.Read.val_main_v37_eq m' c).trans ?_
    rw [a0, a1, a2, a3]
    exact Cert.ExpertsReferenceIdeal.Rows.result_eq _ _ _ _ hI

end Cert.Proof
end
-- ==== Proof.CrossQ.Array.lean ====
module
public import proofs.«01_k».proof.Proof.Gen.CrossQIdeal.Value
public import proofs.«01_k».proof.Proof.Dense.Norm
/-!
# The queries of the cross-attention

128 blocks of 512 rows of the stream, each multiplied by the weights: the array is the product, row by row.
-/
@[expose] public section
noncomputable section
namespace Cert.CrossQIdeal.Query
open Cert.CrossQIdeal Cert.CrossQIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argX : S16x4096x1024.Idx → EReal := m ((c : Thread nD τ).loc main_arg0)
abbrev argW : S1024x512.Idx → EReal := m ((c : Thread nD τ).loc main_arg1)

theorem V_v1 : (V m c main_v1 : S65536x1024.Idx → EReal) = fun i => shapeCast S65536x1024 (argX m c) shapeCasts_S16x4096x1024_S65536x1024 i := by
  unfold V; after_results; rfl
theorem V_v2 : (V m c main_v2 : S1024x512.Idx → EReal) = argW m c := by
  unfold V; after_results; rfl

theorem index_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel
theorem N_lt (t : Fin cfg0.N) : t.val < 128 := by have := t.isLt; have h : cfg0.N = 128 := N_0; omega
abbrev row (t : Fin cfg0.N) (r : Fin 512) : Fin 65536 := ⟨512 * t.val + r.val, by have := N_lt t; omega⟩

theorem block0 (t : Fin cfg0.N) (r : Fin 512) (k : Fin 1024) :
    (iblk m c 0 t : S512x1024.Idx → EReal) (ix2 r k) = Dense.line (A := 16) (T := 4096) rfl (argX m c) (row t r) k := by
  obtain ⟨i0, i1, -⟩ := index_facts t
  unfold iblk
  rw [View.read_apply]
  show (V m c main_v1 : S65536x1024.Idx → EReal) _ = _
  rw [V_v1]
  refine (congrArg (shapeCast S65536x1024 (argX m c) shapeCasts_S16x4096x1024_S65536x1024) (?_ : _ = ix2 (row t r) k)).trans (Dense.cast_lines rfl (argX m c) _ (row t r) k)
  funext a; apply Fin.ext
  match a with
  | ⟨0, _⟩ => show win0_0.index t 0 * 512 + 1 * r.val = 512 * t.val + r.val; rw [i0]; omega
  | ⟨1, _⟩ => show win0_0.index t 1 * 1024 + 1 * k.val = k.val; rw [i1]; omega

theorem block1 (t : Fin cfg0.N) (k : Fin 1024) (j : Fin 512) :
    (iblk m c 1 t : S1024x512.Idx → EReal) (ix2 k j) = argW m c (ix2 k j) := by
  obtain ⟨-, -, i0, i1, -⟩ := index_facts t
  unfold iblk
  rw [View.read_apply]
  show (V m c main_v2 : S1024x512.Idx → EReal) _ = _
  rw [V_v2]
  congr 1
  funext a; apply Fin.ext
  match a with
  | ⟨0, _⟩ => show win0_1.index t 0 * 1024 + 1 * k.val = k.val; rw [i0]; omega
  | ⟨1, _⟩ => show win0_1.index t 1 * 512 + 1 * j.val = j.val; rw [i1]; omega

/-- The product of row `R` of the stream with column `j` of the weights. -/
def product (x : S16x4096x1024.Idx → EReal) (w : S1024x512.Idx → EReal) : S65536x512.Idx → EReal := fun i =>
  ∑ k : Fin 1024, Dense.line (A := 16) (T := 4096) rfl x (i 0) k * w (ix2 k (i 1))

theorem hz2 : (![0, 0] : Fin 2 → Nat) = fun _ => 0 := funext fun a => by fin_cases a <;> rfl

theorem point2 (x0 : Vec Ideal S512x1024 .bf16) (x1 : Vec Ideal S1024x512 .bf16) (r : Fin 512) (j : Fin 512) :
    out0_2 (F := Ideal) x0 x1 (ix2 r j) = ∑ k : Fin 1024, x0 (ix2 r k) * x1 (ix2 k j) := by
  unfold out0_2
  rw [View.canon_unit_zero hz2]
  simp only [View.ld_unit_zero (S := S512x1024) hz2, View.ld_unit_zero (S := S1024x512) hz2]
  unfold k0_pay1
  refine (Ideal.matmul_plain_apply none _ _ _ r j).trans ?_
  rw [shapeCast_self, shapeCast_self]
  refine (congrArg (· + _) Ideal.ofBits_zero_f32).trans (zero_add _)

theorem flushed2_eq (t : Fin cfg0.N) :
    (dats m 0 c).flushed 2 t = ((cfg0.win 2).blk t).view.read (Elt Ideal) (product (argX m c) (argW m c)) := by
  obtain ⟨-, -, -, -, i0, i1⟩ := index_facts t
  rw [Value.flushed2]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (point2 _ _ r d).trans ?_
  simp only [block0, block1]
  have e : (win0_2.blk t).view.emb (ix2 r d) = (ix2 (row t r) d : S65536x512.Idx) := by
    funext a; apply Fin.ext
    match a with
    | ⟨0, _⟩ => show win0_2.index t 0 * 512 + 1 * r.val = 512 * t.val + r.val; rw [i0]; omega
    | ⟨1, _⟩ => show win0_2.index t 1 * 512 + 1 * d.val = d.val; rw [i1]; omega
  show _ = (product (argX m c) (argW m c)) ((win0_2.blk t).view.emb (ix2 r d))
  rw [e]
  rfl

theorem array2_eq : (dats m 0 c).arrAt 2 cfg0.N = product (argX m c) (argW m c) :=
  (dats m 0 c).arrAt_eq_of_cover 2 (product (argX m c) (argW m c)) (fun t _ => flushed2_eq m c t) fun (i : S65536x512.Idx) => by
    have h0 : (i 0 : Nat) < 65536 := (i 0).isLt
    have h1 : (i 1 : Nat) < 512 := (i 1).isLt
    have hN : cfg0.N = 128 := N_0
    let t : Fin cfg0.N := ⟨(i 0 : Nat) / 512, by rw [hN]; omega⟩
    obtain ⟨-, -, -, -, i0, i1⟩ := index_facts t
    have tv : t.val = (i 0 : Nat) / 512 := rfl
    refine ⟨t, flush0_2 t, ?_⟩
    show i ∈ ((View.whole main_v3).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [i0, tv]; omega
    | ⟨1, _⟩ => show win0_2.index t 1 * 512 ≤ (i 1 : Nat) ∧ (i 1 : Nat) < win0_2.index t 1 * 512 + 512; rw [i1]; omega

end Cert.CrossQIdeal.Query
end
-- ==== Proof.CrossQ.Reference.lean ====
module
public import proofs.«01_k».proof.Proof.Gen.CrossQReferenceIdeal.Read
public import proofs.«01_k».proof.Proof.CrossQ.Array
/-!
# The reference of the cross-attention's queries, read at an index
-/
@[expose] public section
noncomputable section
namespace Cert.CrossQReferenceIdeal.Query
open Cert.CrossQReferenceIdeal Cert.CrossQReferenceIdeal.Read Idealize.ShloMosaic Idealize.ShloMosaic.ValueIdx Finset

theorem result_eq (x : S16x4096x1024.Idx → EReal) (w : S1024x512.Idx → EReal) :
    (val_main_v1 (F := Ideal) x w : S65536x512.Idx → EReal) = Cert.CrossQIdeal.Query.product x w := by
  refine funext fun (i : S65536x512.Idx) => ?_
  have h0 : (i 0).val < 65536 := (i 0).isLt
  have h1 : (i 1).val < 512 := (i 1).isLt
  rw [val_main_v1_apply, val_main_v0_apply]
  refine sum_congr rfl fun k _ => congrArg₂ (· * ·) (congrArg x ?_) (congrArg w ?_)
  · funext a; apply Fin.ext
    match a with
    | ⟨0, _⟩ => show ((i 0).val * 512 + (i 1).val) / 2097152 = (i 0).val / 4096; omega
    | ⟨1, _⟩ => show ((i 0).val * 512 + (i 1).val) / 512 % 4096 = (i 0).val % 4096; omega
    | ⟨2, _⟩ => rfl
  · funext a; apply Fin.ext
    match a with
    | ⟨0, _⟩ => rfl
    | ⟨1, _⟩ => show ((i 0).val * 512 + (i 1).val) % 512 = (i 1).val; omega

end Cert.CrossQReferenceIdeal.Query
end
-- ==== Proof.CrossQ.Equal.lean ====
module
public import proofs.«01_k».proof.Defs
public import proofs.«01_k».proof.Proof.Gen.CrossQ.Frame
public import proofs.«01_k».proof.Proof.Gen.CrossQReferenceIdeal.Run
public import proofs.«01_k».proof.Proof.CrossQ.Reference
public import Idealize.ShloMosaic.Lib.Quiescent
/-!
# The claims of the queries of the cross-attention
-/
@[expose] public section
noncomputable section
namespace Cert.Proof
open Idealize.ShloMosaic Idealize.SL.Sem
open Cert.CrossQIdeal.Query Cert.CrossQReferenceIdeal.Query Cert.CrossQReferenceIdeal.Read

theorem query_frame_bits : Cert.quiescent_CrossQ := fun m ρ _ => Cert.CrossQ.Gen.frame m ρ
theorem query_frame : Cert.quiescent_CrossQIdeal := fun m ρ _ => Cert.CrossQIdeal.Gen.frame m ρ
theorem query_ref_frame : Cert.quiescent_CrossQReferenceIdeal := by
  intro m ρ _
  exact (θ_run Cert.CrossQReferenceIdeal.defs _ _).mono (fun r h => ⟨fun c => (h c).2, sem_eq_zero_of_no_sems (by decide) r.2⟩)
    (Cert.CrossQReferenceIdeal.Value.run (F := Ideal) m ρ)
theorem query_preserves : Cert.preserves_CrossQ_CrossQIdeal := trivial

theorem query_equal : Cert.algebraic_CrossQIdeal_CrossQReferenceIdeal := by
  intro m ρ m' ρ' _ hagree
  refine ⟨fun c => product (argX m c) (argW m c), ?_, ?_⟩
  · refine (θ_run Cert.CrossQIdeal.defs _ _).mono (fun r h c => ?_) (Cert.CrossQIdeal.Value.run_blocks m ρ)
    obtain ⟨h0, ha⟩ := h c
    exact ⟨h0.trans (Cert.CrossQIdeal.Query.array2_eq m c), ha⟩
  · refine (θ_run Cert.CrossQReferenceIdeal.defs _ _).mono (fun r h c => ?_) (Cert.CrossQReferenceIdeal.Value.run (F := Ideal) m' ρ')
    obtain ⟨h0, ha⟩ := h c
    obtain ⟨a0, a1⟩ := hagree c
    refine ⟨h0.trans ((val_main_v1_eq _ _).trans ?_), ha⟩
    all_goals rw [a0, a1]
    · exact result_eq (argX m c) (argW m c)

end Cert.Proof
end
-- ==== Proof.CrossOut.Point.lean ====
module
public import proofs.«01_k».proof.Proof.Gen.CrossOutIdeal.Value
public import proofs.«01_k».proof.Proof.Dense.Norm
/-!
# One block of the cross-attention's output

512 rows: the attention's rows times the weights, added to the scaled residual, the layer norm over each row, and the norm's row times the
router's weights.
-/
@[expose] public section
noncomputable section
namespace Cert.CrossOutIdeal.Out
open Cert.CrossOutIdeal Cert.CrossOutIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl

/-- The rows before the norm, as the kernel computes a block of them. -/
def pre (x : Vec Ideal S512x1024 .f32) (a : Vec Ideal S512x512 .bf16) (u : Vec Ideal S512x1024 .bf16) : FVec Ideal S512x1024 .f32 :=
  addf (mulf (broadcast S512x1024 (Scalar.ofBits .f32 0x3F9837F0#32)) (shapeCast S512x1024 x shapeCasts_S512x1024_S512x1024))
    (matmul dot_S512x512_S512x1024_S512x1024_1_0_0_1_n_n none (shapeCast S512x512 a shapeCasts_S512x512_S512x512 : FVec Ideal S512x512 .bf16)
      (shapeCast S512x1024 u shapeCasts_S512x1024_S512x1024 : FVec Ideal S512x1024 .bf16) (constant S512x1024 .f32 0x00000000#32))

theorem pre_apply (x : Vec Ideal S512x1024 .f32) (a : Vec Ideal S512x512 .bf16) (u : Vec Ideal S512x1024 .bf16) (r : Fin 512) (k : Fin 1024) :
    pre x a u (ix2 r k) = Ideal.ofBits .f32 0x3F9837F0#32 * x (ix2 r k) + ∑ e : Fin 512, a (ix2 r e) * u (ix2 e k) := by
  have h : ∀ (p : FVec Ideal S512x512 .bf16) (q : FVec Ideal S512x1024 .bf16),
      matmul dot_S512x512_S512x1024_S512x1024_1_0_0_1_n_n none p q (constant S512x1024 .f32 0x00000000#32) (ix2 r k)
        = ∑ e : Fin 512, p (ix2 r e) * q (ix2 e k) := fun p q =>
    (Ideal.matmul_plain_apply none _ _ _ r k).trans ((congrArg (· + _) Ideal.ofBits_zero_f32).trans (zero_add _))
  unfold pre
  simp only [shapeCast_self]
  rw [addf_apply, h, mulf_apply, broadcast_apply]
  rfl

theorem normed_apply (x : Vec Ideal S512x1024 .f32) (a : Vec Ideal S512x512 .bf16) (u : Vec Ideal S512x1024 .bf16) (g b : Vec Ideal S1x1024 .f32) (r : Fin 512) (j : Fin 1024) :
    k0_pay2 x a u g b (ix2 r j)
      = Dense.norm (fun k => Ideal.ofBits .f32 0x3F9837F0#32 * x (ix2 r k) + ∑ e : Fin 512, a (ix2 r e) * u (ix2 e k))
        (fun k => g (ix2 (0 : Fin 1) k)) (fun k => b (ix2 (0 : Fin 1) k)) j := by
  refine (Dense.norm_block (pre x a u) reduces_S512x1024_S512 shapeCasts_S512_S512x1 broadcasts_S512x1_S512x1024
    (shapeCast S1x1024 g shapeCasts_S1x1024_S1x1024) (shapeCast S1x1024 b shapeCasts_S1x1024_S1x1024) broadcasts_S1x1024_S512x1024 r j).trans ?_
  simp only [shapeCast_self, pre_apply]

variable (x0 : Vec Ideal S512x512 .bf16) (x1 : Vec Ideal S512x1024 .bf16) (x2 : Vec Ideal S512x1024 .f32) (x3 x4 : Vec Ideal S1x1024 .f32) (x5 : Vec Ideal S1024x256 .bf16)

theorem point6 (r : Fin 512) (j : Fin 1024) : out0_6 (F := Ideal) x0 x1 x2 x3 x4 x5 (ix2 r j)
    = Dense.norm (fun k => Ideal.ofBits .f32 0x3F9837F0#32 * x2 (ix2 r k) + ∑ e : Fin 512, x0 (ix2 r e) * x1 (ix2 e k))
        (fun k => x3 (ix2 (0 : Fin 1) k)) (fun k => x4 (ix2 (0 : Fin 1) k)) j := by
  unfold_out out0_6
  rw [View.canon_unit_zero hz2]
  simp only [View.ld_unit_zero (S := S512x1024) hz2, View.ld_unit_zero (S := S512x512) hz2, View.ld_unit_zero (S := S1x1024) hz2]
  exact normed_apply x2 x0 x1 x3 x4 r j

theorem point7 (r : Fin 512) (j : Fin 1024) : out0_7 (F := Ideal) x0 x1 x2 x3 x4 x5 (ix2 r j)
    = Dense.norm (fun k => Ideal.ofBits .f32 0x3F9837F0#32 * x2 (ix2 r k) + ∑ e : Fin 512, x0 (ix2 r e) * x1 (ix2 e k))
        (fun k => x3 (ix2 (0 : Fin 1) k)) (fun k => x4 (ix2 (0 : Fin 1) k)) j := by
  unfold_out out0_7
  rw [View.canon_unit_zero hz2]
  simp only [View.ld_unit_zero (S := S512x1024) hz2, View.ld_unit_zero (S := S512x512) hz2, View.ld_unit_zero (S := S1x1024) hz2]
  exact normed_apply x2 x0 x1 x3 x4 r j

theorem point8 (r : Fin 512) (j : Fin 256) : out0_8 (F := Ideal) x0 x1 x2 x3 x4 x5 (ix2 r j)
    = ∑ q : Fin 1024, Dense.norm (fun k => Ideal.ofBits .f32 0x3F9837F0#32 * x2 (ix2 r k) + ∑ e : Fin 512, x0 (ix2 r e) * x1 (ix2 e k))
        (fun k => x3 (ix2 (0 : Fin 1) k)) (fun k => x4 (ix2 (0 : Fin 1) k)) q * x5 (ix2 q j) := by
  unfold_out out0_8
  rw [View.canon_unit_zero hz2]
  simp only [View.ld_unit_zero (S := S512x1024) hz2, View.ld_unit_zero (S := S512x512) hz2, View.ld_unit_zero (S := S1x1024) hz2, View.ld_unit_zero (S := S1024x256) hz2]
  unfold k0_pay1
  refine (Ideal.matmul_plain_apply none _ _ _ r j).trans ((congrArg (· + _) Ideal.ofBits_zero_f32).trans ((zero_add _).trans ?_))
  refine Finset.sum_congr rfl fun q _ => ?_
  rw [shapeCast_self]
  exact congrArg (· * _) (normed_apply x2 x0 x1 x3 x4 r q)

end Cert.CrossOutIdeal.Out
end
-- ==== Proof.CrossOut.Array.lean ====
module
public import proofs.«01_k».proof.Proof.CrossOut.Point
/-!
# The cross-attention's output, row by row

128 blocks of 512 rows: the layer norm of the scaled residual plus the projected attention, and the router's scores of that row.
-/
@[expose] public section
noncomputable section
namespace Cert.CrossOutIdeal.Out
open Cert.CrossOutIdeal Cert.CrossOutIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argO : S16x4096x512.Idx → EReal := m ((c : Thread nD τ).loc main_arg0)
abbrev argX : S16x4096x1024.Idx → EReal := m ((c : Thread nD τ).loc main_arg1)
abbrev argW : S512x1024.Idx → EReal := m ((c : Thread nD τ).loc main_arg2)
abbrev argG : S1024.Idx → EReal := m ((c : Thread nD τ).loc main_arg3)
abbrev argB : S1024.Idx → EReal := m ((c : Thread nD τ).loc main_arg4)
abbrev argR : S1024x256.Idx → EReal := m ((c : Thread nD τ).loc main_arg5)

theorem V_v1 : (V m c main_v1 : S65536x512.Idx → EReal) = fun i => shapeCast S65536x512 (argO m c) shapeCasts_S16x4096x512_S65536x512 i := by
  unfold V; after_results; rfl
theorem V_v2 : (V m c main_v2 : S512x1024.Idx → EReal) = argW m c := by
  unfold V; after_results; rfl
theorem V_v3 : (V m c main_v3 : S65536x1024.Idx → EReal) = fun i => shapeCast S65536x1024 (argX m c) shapeCasts_S16x4096x1024_S65536x1024 i := by
  unfold V; after_results; rfl
theorem V_v5 : (V m c main_v5 : S1x1024.Idx → EReal) = fun i => shapeCast S1x1024 (argG m c) shapeCasts_S1024_S1x1024 i := by
  unfold V; after_results; rfl
theorem V_v6 : (V m c main_v6 : S1x1024.Idx → EReal) = fun i => shapeCast S1x1024 (argB m c) shapeCasts_S1024_S1x1024 i := by
  unfold V; after_results; rfl
theorem V_v4 : (V m c main_v4 : S1024x256.Idx → EReal) = argR m c := by
  unfold V; after_results; rfl

theorem index_facts : ∀ t : Fin grid0.N, win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 := by decide +kernel
theorem N_lt (t : Fin cfg0.N) : t.val < 128 := by have := t.isLt; have h : cfg0.N = 128 := N_0; omega
abbrev row (t : Fin cfg0.N) (r : Fin 512) : Fin 65536 := ⟨512 * t.val + r.val, by have := N_lt t; omega⟩

theorem block0 (t : Fin cfg0.N) (r : Fin 512) (k : Fin 512) :
    (iblk m c 0 t : S512x512.Idx → EReal) (ix2 r k) = Dense.line (A := 16) (T := 4096) rfl (argO m c) (row t r) k := by
  obtain ⟨i0, i1, -⟩ := index_facts t
  unfold iblk
  rw [View.read_apply]
  show (V m c main_v1 : S65536x512.Idx → EReal) _ = _
  rw [V_v1]
  refine (congrArg (shapeCast S65536x512 (argO m c) shapeCasts_S16x4096x512_S65536x512) (?_ : _ = ix2 (row t r) k)).trans (Dense.cast_lines rfl (argO m c) _ (row t r) k)
  funext a; apply Fin.ext
  match a with
  | ⟨0, _⟩ => show win0_0.index t 0 * 512 + 1 * r.val = 512 * t.val + r.val; rw [i0]; omega
  | ⟨1, _⟩ => show win0_0.index t 1 * 512 + 1 * k.val = k.val; rw [i1]; omega

theorem block1 (t : Fin cfg0.N) (k : Fin 512) (j : Fin 1024) :
    (iblk m c 1 t : S512x1024.Idx → EReal) (ix2 k j) = argW m c (ix2 k j) := by
  obtain ⟨-, -, i0, i1, -⟩ := index_facts t
  unfold iblk
  rw [View.read_apply]
  show (V m c main_v2 : S512x1024.Idx → EReal) _ = _
  rw [V_v2]
  congr 1
  funext a; apply Fin.ext
  match a with
  | ⟨0, _⟩ => show win0_1.index t 0 * 512 + 1 * k.val = k.val; rw [i0]; omega
  | ⟨1, _⟩ => show win0_1.index t 1 * 1024 + 1 * j.val = j.val; rw [i1]; omega

theorem block2 (t : Fin cfg0.N) (r : Fin 512) (k : Fin 1024) :
    (iblk m c 2 t : S512x1024.Idx → EReal) (ix2 r k) = Dense.line (A := 16) (T := 4096) rfl (argX m c) (row t r) k := by
  obtain ⟨-, -, -, -, i0, i1, -⟩ := index_facts t
  unfold iblk
  rw [View.read_apply]
  show (V m c main_v3 : S65536x1024.Idx → EReal) _ = _
  rw [V_v3]
  refine (congrArg (shapeCast S65536x1024 (argX m c) shapeCasts_S16x4096x1024_S65536x1024) (?_ : _ = ix2 (row t r) k)).trans (Dense.cast_lines rfl (argX m c) _ (row t r) k)
  funext a; apply Fin.ext
  match a with
  | ⟨0, _⟩ => show win0_2.index t 0 * 512 + 1 * r.val = 512 * t.val + r.val; rw [i0]; omega
  | ⟨1, _⟩ => show win0_2.index t 1 * 1024 + 1 * k.val = k.val; rw [i1]; omega

theorem block3 (t : Fin cfg0.N) (k : Fin 1024) : (iblk m c 3 t : S1x1024.Idx → EReal) (ix2 (0 : Fin 1) k) = argG m c (ix1 k) := by
  obtain ⟨-, -, -, -, -, -, i0, i1, -⟩ := index_facts t
  unfold iblk
  rw [View.read_apply]
  show (V m c main_v5 : S1x1024.Idx → EReal) _ = _
  rw [V_v5]
  refine (congrArg (shapeCast S1x1024 (argG m c) shapeCasts_S1024_S1x1024) (?_ : _ = ix2 (0 : Fin 1) k)).trans (Dense.cast_vec (argG m c) _ k)
  funext a; apply Fin.ext
  match a with
  | ⟨0, _⟩ => show win0_3.index t 0 * 1 + 1 * 0 = 0; rw [i0]
  | ⟨1, _⟩ => show win0_3.index t 1 * 1024 + 1 * k.val = k.val; rw [i1]; omega

theorem block4 (t : Fin cfg0.N) (k : Fin 1024) : (iblk m c 4 t : S1x1024.Idx → EReal) (ix2 (0 : Fin 1) k) = argB m c (ix1 k) := by
  obtain ⟨-, -, -, -, -, -, -, -, i0, i1, -⟩ := index_facts t
  unfold iblk
  rw [View.read_apply]
  show (V m c main_v6 : S1x1024.Idx → EReal) _ = _
  rw [V_v6]
  refine (congrArg (shapeCast S1x1024 (argB m c) shapeCasts_S1024_S1x1024) (?_ : _ = ix2 (0 : Fin 1) k)).trans (Dense.cast_vec (argB m c) _ k)
  funext a; apply Fin.ext
  match a with
  | ⟨0, _⟩ => show win0_4.index t 0 * 1 + 1 * 0 = 0; rw [i0]
  | ⟨1, _⟩ => show win0_4.index t 1 * 1024 + 1 * k.val = k.val; rw [i1]; omega

theorem block5 (t : Fin cfg0.N) (k : Fin 1024) (j : Fin 256) :
    (iblk m c 5 t : S1024x256.Idx → EReal) (ix2 k j) = argR m c (ix2 k j) := by
  obtain ⟨-, -, -, -, -, -, -, -, -, -, i0, i1, -⟩ := index_facts t
  unfold iblk
  rw [View.read_apply]
  show (V m c main_v4 : S1024x256.Idx → EReal) _ = _
  rw [V_v4]
  congr 1
  funext a; apply Fin.ext
  match a with
  | ⟨0, _⟩ => show win0_5.index t 0 * 1024 + 1 * k.val = k.val; rw [i0]; omega
  | ⟨1, _⟩ => show win0_5.index t 1 * 256 + 1 * j.val = j.val; rw [i1]; omega

/-- Row `R` before the norm: the residual scaled, plus the attention's row times the weights. -/
def sums (o : S16x4096x512.Idx → EReal) (x : S16x4096x1024.Idx → EReal) (w : S512x1024.Idx → EReal) (R : Fin 65536) (k : Fin 1024) : EReal :=
  Ideal.ofBits .f32 0x3F9837F0#32 * Dense.line (A := 16) (T := 4096) rfl x R k
    + ∑ e : Fin 512, Dense.line (A := 16) (T := 4096) rfl o R e * w (ix2 e k)

/-- The output rows. -/
def projected (o : S16x4096x512.Idx → EReal) (x : S16x4096x1024.Idx → EReal) (w : S512x1024.Idx → EReal) (g b : S1024.Idx → EReal) : S65536x1024.Idx → EReal := fun i =>
  Dense.norm (sums o x w (i 0)) (fun k => g (ix1 k)) (fun k => b (ix1 k)) (i 1)

/-- The router's scores: the output rows times the router's weights. -/
def scores (o : S16x4096x512.Idx → EReal) (x : S16x4096x1024.Idx → EReal) (w : S512x1024.Idx → EReal) (g b : S1024.Idx → EReal) (u : S1024x256.Idx → EReal) : S65536x256.Idx → EReal := fun i =>
  ∑ k : Fin 1024, projected o x w g b (ix2 (i 0) k) * u (ix2 k (i 1))

theorem flushed6_eq (t : Fin cfg0.N) :
    (dats m 0 c).flushed 6 t = ((cfg0.win 6).blk t).view.read (Elt Ideal) (projected (argO m c) (argX m c) (argW m c) (argG m c) (argB m c)) := by
  obtain ⟨-, -, -, -, -, -, -, -, -, -, -, -, i0, i1, -⟩ := index_facts t
  rw [Value.flushed6]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point6 _ _ _ _ _ _ r d).trans ?_
  simp only [block0, block1, block2, block3, block4, block5]
  have e : (win0_6.blk t).view.emb (ix2 r d) = (ix2 (row t r) d : S65536x1024.Idx) := by
    funext a; apply Fin.ext
    match a with
    | ⟨0, _⟩ => show win0_6.index t 0 * 512 + 1 * r.val = 512 * t.val + r.val; rw [i0]; omega
    | ⟨1, _⟩ => show win0_6.index t 1 * 1024 + 1 * d.val = d.val; rw [i1]; omega
  show _ = (projected (argO m c) (argX m c) (argW m c) (argG m c) (argB m c)) ((win0_6.blk t).view.emb (ix2 r d))
  rw [e]
  rfl

theorem array6_eq : (dats m 0 c).arrAt 6 cfg0.N = projected (argO m c) (argX m c) (argW m c) (argG m c) (argB m c) :=
  (dats m 0 c).arrAt_eq_of_cover 6 (projected (argO m c) (argX m c) (argW m c) (argG m c) (argB m c)) (fun t _ => flushed6_eq m c t) fun (i : S65536x1024.Idx) => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    obtain ⟨-, -, -, -, -, -, -, -, -, -, -, -, i0, i1, -⟩ := index_facts t
    have tv : t.val = (i 0 : Nat) / 512 := rfl
    refine ⟨t, flush0_6 t, ?_⟩
    show i ∈ ((View.whole main_v7_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [i0, tv]; omega
    | ⟨1, _⟩ => show win0_6.index t 1 * 1024 ≤ (i 1 : Nat) ∧ (i 1 : Nat) < win0_6.index t 1 * 1024 + 1024; rw [i1]; omega

theorem flushed7_eq (t : Fin cfg0.N) :
    (dats m 0 c).flushed 7 t = ((cfg0.win 7).blk t).view.read (Elt Ideal) (projected (argO m c) (argX m c) (argW m c) (argG m c) (argB m c)) := by
  obtain ⟨-, -, -, -, -, -, -, -, -, -, -, -, -, -, i0, i1, -⟩ := index_facts t
  rw [Value.flushed7]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point7 _ _ _ _ _ _ r d).trans ?_
  simp only [block0, block1, block2, block3, block4, block5]
  have e : (win0_7.blk t).view.emb (ix2 r d) = (ix2 (row t r) d : S65536x1024.Idx) := by
    funext a; apply Fin.ext
    match a with
    | ⟨0, _⟩ => show win0_7.index t 0 * 512 + 1 * r.val = 512 * t.val + r.val; rw [i0]; omega
    | ⟨1, _⟩ => show win0_7.index t 1 * 1024 + 1 * d.val = d.val; rw [i1]; omega
  show _ = (projected (argO m c) (argX m c) (argW m c) (argG m c) (argB m c)) ((win0_7.blk t).view.emb (ix2 r d))
  rw [e]
  rfl

theorem array7_eq : (dats m 0 c).arrAt 7 cfg0.N = projected (argO m c) (argX m c) (argW m c) (argG m c) (argB m c) :=
  (dats m 0 c).arrAt_eq_of_cover 7 (projected (argO m c) (argX m c) (argW m c) (argG m c) (argB m c)) (fun t _ => flushed7_eq m c t) fun (i : S65536x1024.Idx) => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    obtain ⟨-, -, -, -, -, -, -, -, -, -, -, -, -, -, i0, i1, -⟩ := index_facts t
    have tv : t.val = (i 0 : Nat) / 512 := rfl
    refine ⟨t, flush0_7 t, ?_⟩
    show i ∈ ((View.whole main_v7_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [i0, tv]; omega
    | ⟨1, _⟩ => show win0_7.index t 1 * 1024 ≤ (i 1 : Nat) ∧ (i 1 : Nat) < win0_7.index t 1 * 1024 + 1024; rw [i1]; omega

theorem flushed8_eq (t : Fin cfg0.N) :
    (dats m 0 c).flushed 8 t = ((cfg0.win 8).blk t).view.read (Elt Ideal) (scores (argO m c) (argX m c) (argW m c) (argG m c) (argB m c) (argR m c)) := by
  obtain ⟨-, -, -, -, -, -, -, -, -, -, -, -, -, -, -, -, i0, i1⟩ := index_facts t
  rw [Value.flushed8]
  refine funext fun (j : S512x256.Idx) => ?_
  rw [View.read_apply]
  obtain ⟨r, d, rfl⟩ : ∃ r : Fin 512, ∃ d : Fin 256, j = ix2 r d := ⟨j 0, j 1, by
    funext a; match a with | ⟨0, _⟩ => rfl | ⟨1, _⟩ => rfl⟩
  refine (point8 _ _ _ _ _ _ r d).trans ?_
  simp only [block0, block1, block2, block3, block4, block5]
  have e : (win0_8.blk t).view.emb (ix2 r d) = (ix2 (row t r) d : S65536x256.Idx) := by
    funext a; apply Fin.ext
    match a with
    | ⟨0, _⟩ => show win0_8.index t 0 * 512 + 1 * r.val = 512 * t.val + r.val; rw [i0]; omega
    | ⟨1, _⟩ => show win0_8.index t 1 * 256 + 1 * d.val = d.val; rw [i1]; omega
  show _ = (scores (argO m c) (argX m c) (argW m c) (argG m c) (argB m c) (argR m c)) ((win0_8.blk t).view.emb (ix2 r d))
  rw [e]
  rfl

theorem array8_eq : (dats m 0 c).arrAt 8 cfg0.N = scores (argO m c) (argX m c) (argW m c) (argG m c) (argB m c) (argR m c) :=
  (dats m 0 c).arrAt_eq_of_cover 8 (scores (argO m c) (argX m c) (argW m c) (argG m c) (argB m c) (argR m c)) (fun t _ => flushed8_eq m c t) fun (i : S65536x256.Idx) => by
    have h0 : (i 0 : Nat) < 65536 := (i 0).isLt
    have h1 : (i 1 : Nat) < 256 := (i 1).isLt
    have hN : cfg0.N = 128 := N_0
    let t : Fin cfg0.N := ⟨(i 0 : Nat) / 512, by rw [hN]; omega⟩
    obtain ⟨-, -, -, -, -, -, -, -, -, -, -, -, -, -, -, -, i0, i1⟩ := index_facts t
    have tv : t.val = (i 0 : Nat) / 512 := rfl
    refine ⟨t, flush0_8 t, ?_⟩
    show i ∈ ((View.whole main_v7_2).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [i0, tv]; omega
    | ⟨1, _⟩ => show win0_8.index t 1 * 256 ≤ (i 1 : Nat) ∧ (i 1 : Nat) < win0_8.index t 1 * 256 + 256; rw [i1]; omega

end Cert.CrossOutIdeal.Out
end
-- ==== Proof.CrossOut.Reference.lean ====
module
public import proofs.«01_k».proof.Proof.Gen.CrossOutReferenceIdeal.Read
public import proofs.«01_k».proof.Proof.CrossOut.Array
public import Idealize.ShloMosaic.Lib.IdealHost
/-!
# The reference of the cross-attention's output, read at an index

The norm row by row, and the router's scores of the normed rows.
-/
@[expose] public section
noncomputable section
namespace Cert.CrossOutReferenceIdeal.Out
open Cert.CrossOutReferenceIdeal Cert.CrossOutReferenceIdeal.Read Idealize.ShloMosaic Idealize.ShloMosaic.ValueIdx Finset
variable (x0 : S16x4096x512.Idx → EReal) (x1 : S16x4096x1024.Idx → EReal) (x2 : S512x1024.Idx → EReal) (x3 x4 : S1024.Idx → EReal) (x5 : S1024x256.Idx → EReal)

theorem mean_apply (a : Fin 16) (t : Fin 4096) :
    val_main_v7 (F := Ideal) x0 x1 x2 (ix3 a t (0 : Fin 1)) = Ideal.div (∑ k, (fun k : Fin 1024 => val_main_v3 (F := Ideal) x0 x1 x2 (ix3 a t k)) k) (Ideal.ofBits .f32 0x44800000#32) := by
  rw [val_main_v7_apply, val_main_v5_apply, val_main_v4_apply, val_main_v6_apply]
  have e : ∀ k : Fin 1024, idx_main_v4 (idx_main_v5 (ix3 a t (0 : Fin 1))) k = ix3 a t k := fun k => by
    funext c; apply Fin.ext; match c with | ⟨0, _⟩ => rfl | ⟨1, _⟩ => rfl | ⟨2, _⟩ => rfl
  simp only [e]
  show Ideal.div (Ideal.ofBits .f32 0x00000000#32 + _) _ = _
  rw [Ideal.ofBits_zero_f32, zero_add]
  rfl

theorem centred_apply (a : Fin 16) (t : Fin 4096) (j : Fin 1024) :
    val_main_v9 (F := Ideal) x0 x1 x2 (ix3 a t j) = Dense.centred (fun k : Fin 1024 => val_main_v3 (F := Ideal) x0 x1 x2 (ix3 a t k)) j := by
  rw [val_main_v9_apply, val_main_v8_apply]
  have e : idx_main_v8 (ix3 a t j) = ix3 a t (0 : Fin 1) := by
    funext c; apply Fin.ext; match c with | ⟨0, _⟩ => rfl | ⟨1, _⟩ => rfl | ⟨2, _⟩ => rfl
  rw [e, mean_apply]
  rfl

theorem centred_apply' (a : Fin 16) (t : Fin 4096) (j : Fin 1024) :
    val_main_v16 (F := Ideal) x0 x1 x2 (ix3 a t j) = Dense.centred (fun k : Fin 1024 => val_main_v3 (F := Ideal) x0 x1 x2 (ix3 a t k)) j := by
  rw [val_main_v16_apply, val_main_v15_apply]
  have e : idx_main_v15 (ix3 a t j) = ix3 a t (0 : Fin 1) := by
    funext c; apply Fin.ext; match c with | ⟨0, _⟩ => rfl | ⟨1, _⟩ => rfl | ⟨2, _⟩ => rfl
  rw [e, mean_apply]
  rfl

theorem scale_apply (a : Fin 16) (t : Fin 4096) :
    val_main_v19 (F := Ideal) x0 x1 x2 (ix3 a t (0 : Fin 1)) = Ideal.rsqrt (Ideal.div (∑ k, Dense.centred (fun k : Fin 1024 => val_main_v3 (F := Ideal) x0 x1 x2 (ix3 a t k)) k * Dense.centred (fun k : Fin 1024 => val_main_v3 (F := Ideal) x0 x1 x2 (ix3 a t k)) k) (Ideal.ofBits .f32 0x44800000#32)
      + Ideal.ofBits .f32 0x3727C5AC#32) := by
  rw [val_main_v19_apply, val_main_v18_apply, val_main_v14_apply, val_main_v12_apply, val_main_v11_apply, val_main_v13_apply, val_main_v17_apply]
  have e : ∀ k : Fin 1024, idx_main_v11 (idx_main_v12 (ix3 a t (0 : Fin 1))) k = ix3 a t k := fun k => by
    funext c; apply Fin.ext; match c with | ⟨0, _⟩ => rfl | ⟨1, _⟩ => rfl | ⟨2, _⟩ => rfl
  simp only [e, val_main_v10_apply, centred_apply]
  show Ideal.rsqrt (Ideal.div (Ideal.ofBits .f32 0x00000000#32 + _) _ + _) = _
  rw [Ideal.ofBits_zero_f32, zero_add]
  rfl

theorem norm_apply (a : Fin 16) (t : Fin 4096) (j : Fin 1024) :
    val_main_v27 (F := Ideal) x0 x1 x2 x3 x4 (ix3 a t j)
      = Dense.norm (fun k : Fin 1024 => val_main_v3 (F := Ideal) x0 x1 x2 (ix3 a t k)) (fun k => x3 (ix1 k)) (fun k => x4 (ix1 k)) j := by
  rw [val_main_v27_apply, val_main_v24_apply, val_main_v21_apply, val_main_v20_apply, val_main_v23_apply, val_main_v22_apply, val_main_v26_apply, val_main_v25_apply, centred_apply']
  have e : idx_main_v20 (ix3 a t j) = ix3 a t (0 : Fin 1) := by
    funext c; apply Fin.ext; match c with | ⟨0, _⟩ => rfl | ⟨1, _⟩ => rfl | ⟨2, _⟩ => rfl
  have eg : idx_main_v22 (idx_main_v23 (ix3 a t j)) = ix1 j := by funext c; apply Fin.ext; match c with | ⟨0, _⟩ => rfl
  have eb : idx_main_v25 (idx_main_v26 (ix3 a t j)) = ix1 j := by funext c; apply Fin.ext; match c with | ⟨0, _⟩ => rfl
  rw [e, eg, eb, scale_apply]
  rfl

theorem sums_apply (a : Fin 16) (t : Fin 4096) (k : Fin 1024) :
    val_main_v3 (F := Ideal) x0 x1 x2 (ix3 a t k)
      = Ideal.ofBits .f32 0x3F9837F0#32 * x1 (ix3 a t k) + ∑ e : Fin 512, x0 (ix3 a t e) * x2 (ix2 e k) := by
  rw [val_main_v3_apply, val_main_v2_apply, val_main_v1_apply, val_main_v0_apply]
  have el : ∀ q : Fin 512, lidx_main_v2 (ix3 a t k) q = ix3 a t q := fun q => by
    funext c; apply Fin.ext; match c with | ⟨0, _⟩ => rfl | ⟨1, _⟩ => rfl | ⟨2, _⟩ => rfl
  have er : ∀ q : Fin 512, ridx_main_v2 (ix3 a t k) q = ix2 q k := fun q => by
    funext c; apply Fin.ext; match c with | ⟨0, _⟩ => rfl | ⟨1, _⟩ => rfl
  simp only [el, er]
  rfl

theorem lines_apply (R : Fin 65536) (j : Fin 1024) : idx_main_v28 (ix2 R j) = ix3 (⟨R.val / 4096, by omega⟩ : Fin 16) (⟨R.val % 4096, Nat.mod_lt _ (by norm_num)⟩ : Fin 4096) j := by
  funext c; apply Fin.ext
  have h0 := R.isLt
  have h1 := j.isLt
  match c with
  | ⟨0, _⟩ => show (R.val * 1024 + j.val) / 4194304 = R.val / 4096; omega
  | ⟨1, _⟩ => show (R.val * 1024 + j.val) / 1024 % 4096 = R.val % 4096; omega
  | ⟨2, _⟩ => show (R.val * 1024 + j.val) % 1024 = j.val; omega

theorem row_apply (R : Fin 65536) (k : Fin 1024) :
    val_main_v3 (F := Ideal) x0 x1 x2 (ix3 (⟨R.val / 4096, by omega⟩ : Fin 16) (⟨R.val % 4096, Nat.mod_lt _ (by norm_num)⟩ : Fin 4096) k)
      = Cert.CrossOutIdeal.Out.sums x0 x1 x2 R k :=
  sums_apply x0 x1 x2 _ _ k

theorem result_eq : (val_main_v28 (F := Ideal) x0 x1 x2 x3 x4 : S65536x1024.Idx → EReal) = Cert.CrossOutIdeal.Out.projected x0 x1 x2 x3 x4 := by
  refine funext fun (i : S65536x1024.Idx) => ?_
  obtain ⟨R, j, rfl⟩ : ∃ R : Fin 65536, ∃ j : Fin 1024, i = ix2 R j := ⟨i 0, i 1, by
    funext a; match a with | ⟨0, _⟩ => rfl | ⟨1, _⟩ => rfl⟩
  rw [val_main_v28_apply]
  refine (congrArg _ (lines_apply R j)).trans ((norm_apply x0 x1 x2 x3 x4 _ _ j).trans ?_)
  simp only [row_apply]
  rfl

theorem scores_eq : (val_main_v30 (F := Ideal) x0 x1 x2 x3 x4 x5 : S65536x256.Idx → EReal) = Cert.CrossOutIdeal.Out.scores x0 x1 x2 x3 x4 x5 := by
  refine funext fun (i : S65536x256.Idx) => ?_
  rw [val_main_v30_apply, result_eq]
  refine sum_congr rfl fun k _ => congrArg₂ (· * ·) (congrArg _ ?_) (congrArg _ ?_)
  · funext c; apply Fin.ext; match c with | ⟨0, _⟩ => rfl | ⟨1, _⟩ => rfl
  · funext c; apply Fin.ext; match c with | ⟨0, _⟩ => rfl | ⟨1, _⟩ => rfl

end Cert.CrossOutReferenceIdeal.Out
end
-- ==== Proof.CrossOut.Equal.lean ====
module
public import proofs.«01_k».proof.Defs
public import proofs.«01_k».proof.Proof.Gen.CrossOut.Frame
public import proofs.«01_k».proof.Proof.Gen.CrossOutReferenceIdeal.Run
public import proofs.«01_k».proof.Proof.CrossOut.Reference
public import Idealize.ShloMosaic.Lib.Quiescent
/-!
# The claims of the cross-attention's output
-/
@[expose] public section
noncomputable section
namespace Cert.Proof
open Idealize.ShloMosaic Idealize.SL.Sem
open Cert.CrossOutIdeal.Out Cert.CrossOutReferenceIdeal.Out Cert.CrossOutReferenceIdeal.Read

theorem cross_frame_bits : Cert.quiescent_CrossOut := fun m ρ _ => Cert.CrossOut.Gen.frame m ρ
theorem cross_frame : Cert.quiescent_CrossOutIdeal := fun m ρ _ => Cert.CrossOutIdeal.Gen.frame m ρ
theorem cross_ref_frame : Cert.quiescent_CrossOutReferenceIdeal := by
  intro m ρ _
  exact (θ_run Cert.CrossOutReferenceIdeal.defs _ _).mono (fun r h => ⟨fun c => (h c).2.2.2, sem_eq_zero_of_no_sems (by decide) r.2⟩)
    (Cert.CrossOutReferenceIdeal.Value.run (F := Ideal) m ρ)
theorem cross_preserves : Cert.preserves_CrossOut_CrossOutIdeal := trivial

theorem cross_equal : Cert.algebraic_CrossOutIdeal_CrossOutReferenceIdeal := by
  intro m ρ m' ρ' _ hagree
  refine ⟨fun c => projected (argO m c) (argX m c) (argW m c) (argG m c) (argB m c), fun c => projected (argO m c) (argX m c) (argW m c) (argG m c) (argB m c), fun c => scores (argO m c) (argX m c) (argW m c) (argG m c) (argB m c) (argR m c), ?_, ?_⟩
  · refine (θ_run Cert.CrossOutIdeal.defs _ _).mono (fun r h c => ?_) (Cert.CrossOutIdeal.Value.run_blocks m ρ)
    obtain ⟨h0, h1, h2, ha⟩ := h c
    exact ⟨h0.trans (Cert.CrossOutIdeal.Out.array6_eq m c), h1.trans (Cert.CrossOutIdeal.Out.array7_eq m c), h2.trans (Cert.CrossOutIdeal.Out.array8_eq m c), ha⟩
  · refine (θ_run Cert.CrossOutReferenceIdeal.defs _ _).mono (fun r h c => ?_) (Cert.CrossOutReferenceIdeal.Value.run (F := Ideal) m' ρ')
    obtain ⟨h0, h1, h2, ha⟩ := h c
    obtain ⟨a0, a1, a2, a3, a4, a5⟩ := hagree c
    refine ⟨h0.trans ((val_main_v28_eq _ _ _ _ _).trans ?_), h1.trans ((val_main_v29_eq _ _ _ _ _).trans ?_), h2.trans ((val_main_v30_eq _ _ _ _ _ _).trans ?_), ha⟩
    · rw [a0, a1, a2, a3, a4]; exact result_eq (argO m c) (argX m c) (argW m c) (argG m c) (argB m c)
    · rw [a0, a1, a2, a3, a4]; exact result_eq (argO m c) (argX m c) (argW m c) (argG m c) (argB m c)
    · rw [a0, a1, a2, a3, a4, a5]; exact scores_eq (argO m c) (argX m c) (argW m c) (argG m c) (argB m c) (argR m c)

end Cert.Proof
end
-- ==== Proof.SharedExpert.Point.lean ====
module
public import proofs.«01_k».proof.Proof.Gen.SharedExpertIdeal.Value
public import proofs.«01_k».proof.Proof.Dense.Norm
/-!
# One block of the shared expert and the last norm

512 rows of the stream: the shared expert of each row, added to the scaled row and the routed experts' sum, and the layer norm over it.
-/
@[expose] public section
noncomputable section
namespace Cert.SharedExpertIdeal.Expert
open Cert.SharedExpertIdeal Cert.SharedExpertIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl

/-- The gate and the up projection of a block of rows, side by side. -/
def both (x : Vec Ideal S512x1024 .f32) (u : Vec Ideal S1024x512 .bf16) : FVec Ideal S512x512 .f32 :=
  matmul dot_S512x1024_S1024x512_S512x512_1_0_0_1_n_n none (truncf .bf16 (shapeCast S512x1024 x shapeCasts_S512x1024_S512x1024 : FVec Ideal S512x1024 .f32) bitsLt_bf16_f32)
    (shapeCast S1024x512 u shapeCasts_S1024x512_S1024x512 : FVec Ideal S1024x512 .bf16) (constant S512x512 .f32 0x00000000#32)
/-- The gated middle of a block of rows. -/
def mid (x : Vec Ideal S512x1024 .f32) (u : Vec Ideal S1024x512 .bf16) : FVec Ideal S512x256 .f32 :=
  mulf (mulf (extractStridedSlice S512x256 ![0, 0] (both x u) slices_S512x512_o0_0_S512x256) (logistic (extractStridedSlice S512x256 ![0, 0] (both x u) slices_S512x512_o0_0_S512x256)))
    (extractStridedSlice S512x256 ![0, 256] (both x u) slices_S512x512_o0_256_S512x256)
/-- The rows before the norm, as the kernel computes a block of them. -/
def pre (x y : Vec Ideal S512x1024 .f32) (u : Vec Ideal S1024x512 .bf16) (d : Vec Ideal S256x1024 .bf16) : FVec Ideal S512x1024 .f32 :=
  addf (mulf (broadcast S512x1024 (Scalar.ofBits .f32 0x3F9837F0#32)) (shapeCast S512x1024 x shapeCasts_S512x1024_S512x1024))
    (addf (shapeCast S512x1024 y shapeCasts_S512x1024_S512x1024)
      (matmul dot_S512x256_S256x1024_S512x1024_1_0_0_1_n_n none (truncf .bf16 (mid x u) bitsLt_bf16_f32)
        (shapeCast S256x1024 d shapeCasts_S256x1024_S256x1024 : FVec Ideal S256x1024 .bf16) (constant S512x1024 .f32 0x00000000#32)))

theorem both_apply (x : Vec Ideal S512x1024 .f32) (u : Vec Ideal S1024x512 .bf16) (r f : Fin 512) :
    both x u (ix2 r f) = ∑ e : Fin 1024, x (ix2 r e) * u (ix2 e f) := by
  unfold both
  simp only [shapeCast_self]
  exact (Ideal.matmul_plain_apply none _ _ _ r f).trans ((congrArg (· + _) Ideal.ofBits_zero_f32).trans (zero_add _))

theorem mid_apply (x : Vec Ideal S512x1024 .f32) (u : Vec Ideal S1024x512 .bf16) (r : Fin 512) (f : Fin 256) :
    mid x u (ix2 r f) = Dense.middle (fun k => x (ix2 r k)) (fun e f => u (ix2 e f)) f := by
  have h0 : extractStridedSlice S512x256 ![0, 0] (both x u) slices_S512x512_o0_0_S512x256 (ix2 r f)
      = ∑ e : Fin 1024, x (ix2 r e) * u (ix2 e (⟨0 + f.val, by omega⟩ : Fin 512)) :=
    (extractStridedSlice_apply _ _ _ _ (ix2 r (⟨0 + f.val, by omega⟩ : Fin 512)) (fun a => by
      match a with | ⟨0, _⟩ => exact (Nat.zero_add _).symm | ⟨1, _⟩ => rfl)).trans (both_apply x u r _)
  have h1 : extractStridedSlice S512x256 ![0, 256] (both x u) slices_S512x512_o0_256_S512x256 (ix2 r f)
      = ∑ e : Fin 1024, x (ix2 r e) * u (ix2 e (⟨256 + f.val, by omega⟩ : Fin 512)) :=
    (extractStridedSlice_apply _ _ _ _ (ix2 r (⟨256 + f.val, by omega⟩ : Fin 512)) (fun a => by
      match a with | ⟨0, _⟩ => exact (Nat.zero_add _).symm | ⟨1, _⟩ => rfl)).trans (both_apply x u r _)
  unfold mid Dense.middle
  rw [mulf_apply, mulf_apply, h1]
  show _ * Ideal.logistic (extractStridedSlice S512x256 ![0, 0] (both x u) slices_S512x512_o0_0_S512x256 (ix2 r f)) * _ = _
  rw [h0]

theorem pre_apply (x y : Vec Ideal S512x1024 .f32) (u : Vec Ideal S1024x512 .bf16) (d : Vec Ideal S256x1024 .bf16) (r : Fin 512) (k : Fin 1024) :
    pre x y u d (ix2 r k) = Ideal.ofBits .f32 0x3F9837F0#32 * x (ix2 r k)
      + (y (ix2 r k) + Dense.expert (fun k => x (ix2 r k)) (fun e f => u (ix2 e f)) (fun f k => d (ix2 f k)) k) := by
  have h : ∀ (p : FVec Ideal S512x256 .bf16) (q : FVec Ideal S256x1024 .bf16),
      matmul dot_S512x256_S256x1024_S512x1024_1_0_0_1_n_n none p q (constant S512x1024 .f32 0x00000000#32) (ix2 r k)
        = ∑ e : Fin 256, p (ix2 r e) * q (ix2 e k) := fun p q =>
    (Ideal.matmul_plain_apply none _ _ _ r k).trans ((congrArg (· + _) Ideal.ofBits_zero_f32).trans (zero_add _))
  unfold pre Dense.expert
  simp only [shapeCast_self]
  rw [addf_apply, addf_apply, h, mulf_apply, broadcast_apply]
  refine congrArg (fun z => _ + (_ + z)) (Finset.sum_congr rfl fun f _ => ?_)
  exact congrArg (· * _) (mid_apply x u r f)

theorem point6 (x0 x1 : Vec Ideal S512x1024 .f32) (x2 : Vec Ideal S1024x512 .bf16) (x3 : Vec Ideal S256x1024 .bf16) (x4 x5 : Vec Ideal S1x1024 .f32) (r : Fin 512) (j : Fin 1024) :
    out0_6 (F := Ideal) x0 x1 x2 x3 x4 x5 (ix2 r j)
      = Dense.norm (fun k => Ideal.ofBits .f32 0x3F9837F0#32 * x0 (ix2 r k)
          + (x1 (ix2 r k) + Dense.expert (fun k => x0 (ix2 r k)) (fun e f => x2 (ix2 e f)) (fun f k => x3 (ix2 f k)) k))
        (fun k => x4 (ix2 (0 : Fin 1) k)) (fun k => x5 (ix2 (0 : Fin 1) k)) j := by
  unfold out0_6
  rw [View.canon_unit_zero hz2]
  simp only [View.ld_unit_zero (S := S512x1024) hz2, View.ld_unit_zero (S := S1024x512) hz2, View.ld_unit_zero (S := S1x1024) hz2, View.ld_unit_zero (S := S256x1024) hz2]
  refine (Dense.norm_block (pre x0 x1 x2 x3) reduces_S512x1024_S512 shapeCasts_S512_S512x1 broadcasts_S512x1_S512x1024
    (shapeCast S1x1024 x4 shapeCasts_S1x1024_S1x1024) (shapeCast S1x1024 x5 shapeCasts_S1x1024_S1x1024) broadcasts_S1x1024_S512x1024 r j).trans ?_
  simp only [shapeCast_self, pre_apply]

end Cert.SharedExpertIdeal.Expert
end
-- ==== Proof.SharedExpert.Array.lean ====
module
public import proofs.«01_k».proof.Proof.SharedExpert.Point
/-!
# The shared expert and the last norm, row by row

128 blocks of 512 rows: the layer norm of the scaled stream plus the routed experts' sum and the shared expert.
-/
@[expose] public section
noncomputable section
namespace Cert.SharedExpertIdeal.Expert
open Cert.SharedExpertIdeal Cert.SharedExpertIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argX : S16x4096x1024.Idx → EReal := m ((c : Thread nD τ).loc main_arg0)
abbrev argY : S16x4096x1024.Idx → EReal := m ((c : Thread nD τ).loc main_arg1)
abbrev argU : S1024x512.Idx → EReal := m ((c : Thread nD τ).loc main_arg2)
abbrev argD : S256x1024.Idx → EReal := m ((c : Thread nD τ).loc main_arg3)
abbrev argG : S1024.Idx → EReal := m ((c : Thread nD τ).loc main_arg4)
abbrev argB : S1024.Idx → EReal := m ((c : Thread nD τ).loc main_arg5)

theorem V_v0 : (V m c main_v0 : S65536x1024.Idx → EReal) = fun i => shapeCast S65536x1024 (argX m c) shapeCasts_S16x4096x1024_S65536x1024 i := by
  unfold V; after_results; rfl
theorem V_v1 : (V m c main_v1 : S65536x1024.Idx → EReal) = fun i => shapeCast S65536x1024 (argY m c) shapeCasts_S16x4096x1024_S65536x1024 i := by
  unfold V; after_results; rfl
theorem V_v2 : (V m c main_v2 : S1024x512.Idx → EReal) = argU m c := by
  unfold V; after_results; rfl
theorem V_v3 : (V m c main_v3 : S256x1024.Idx → EReal) = argD m c := by
  unfold V; after_results; rfl
theorem V_v4 : (V m c main_v4 : S1x1024.Idx → EReal) = fun i => shapeCast S1x1024 (argG m c) shapeCasts_S1024_S1x1024 i := by
  unfold V; after_results; rfl
theorem V_v5 : (V m c main_v5 : S1x1024.Idx → EReal) = fun i => shapeCast S1x1024 (argB m c) shapeCasts_S1024_S1x1024 i := by
  unfold V; after_results; rfl

theorem index_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = t.val ∧ win0_6.index t 1 = 0 := by decide +kernel
theorem N_lt (t : Fin cfg0.N) : t.val < 128 := by have := t.isLt; have h : cfg0.N = 128 := N_0; omega
abbrev row (t : Fin cfg0.N) (r : Fin 512) : Fin 65536 := ⟨512 * t.val + r.val, by have := N_lt t; omega⟩

theorem block0 (t : Fin cfg0.N) (r : Fin 512) (k : Fin 1024) :
    (iblk m c 0 t : S512x1024.Idx → EReal) (ix2 r k) = Dense.line (A := 16) (T := 4096) rfl (argX m c) (row t r) k := by
  obtain ⟨i0, i1, -⟩ := index_facts t
  unfold iblk
  rw [View.read_apply]
  show (V m c main_v0 : S65536x1024.Idx → EReal) _ = _
  rw [V_v0]
  refine (congrArg (shapeCast S65536x1024 (argX m c) shapeCasts_S16x4096x1024_S65536x1024) (?_ : _ = ix2 (row t r) k)).trans (Dense.cast_lines rfl (argX m c) _ (row t r) k)
  funext a; apply Fin.ext
  match a with
  | ⟨0, _⟩ => show win0_0.index t 0 * 512 + 1 * r.val = 512 * t.val + r.val; rw [i0]; omega
  | ⟨1, _⟩ => show win0_0.index t 1 * 1024 + 1 * k.val = k.val; rw [i1]; omega

theorem block1 (t : Fin cfg0.N) (r : Fin 512) (k : Fin 1024) :
    (iblk m c 1 t : S512x1024.Idx → EReal) (ix2 r k) = Dense.line (A := 16) (T := 4096) rfl (argY m c) (row t r) k := by
  obtain ⟨-, -, i0, i1, -⟩ := index_facts t
  unfold iblk
  rw [View.read_apply]
  show (V m c main_v1 : S65536x1024.Idx → EReal) _ = _
  rw [V_v1]
  refine (congrArg (shapeCast S65536x1024 (argY m c) shapeCasts_S16x4096x1024_S65536x1024) (?_ : _ = ix2 (row t r) k)).trans (Dense.cast_lines rfl (argY m c) _ (row t r) k)
  funext a; apply Fin.ext
  match a with
  | ⟨0, _⟩ => show win0_1.index t 0 * 512 + 1 * r.val = 512 * t.val + r.val; rw [i0]; omega
  | ⟨1, _⟩ => show win0_1.index t 1 * 1024 + 1 * k.val = k.val; rw [i1]; omega

theorem block2 (t : Fin cfg0.N) (k : Fin 1024) (j : Fin 512) :
    (iblk m c 2 t : S1024x512.Idx → EReal) (ix2 k j) = argU m c (ix2 k j) := by
  obtain ⟨-, -, -, -, i0, i1, -⟩ := index_facts t
  unfold iblk
  rw [View.read_apply]
  show (V m c main_v2 : S1024x512.Idx → EReal) _ = _
  rw [V_v2]
  congr 1
  funext a; apply Fin.ext
  match a with
  | ⟨0, _⟩ => show win0_2.index t 0 * 1024 + 1 * k.val = k.val; rw [i0]; omega
  | ⟨1, _⟩ => show win0_2.index t 1 * 512 + 1 * j.val = j.val; rw [i1]; omega

theorem block3 (t : Fin cfg0.N) (k : Fin 256) (j : Fin 1024) :
    (iblk m c 3 t : S256x1024.Idx → EReal) (ix2 k j) = argD m c (ix2 k j) := by
  obtain ⟨-, -, -, -, -, -, i0, i1, -⟩ := index_facts t
  unfold iblk
  rw [View.read_apply]
  show (V m c main_v3 : S256x1024.Idx → EReal) _ = _
  rw [V_v3]
  congr 1
  funext a; apply Fin.ext
  match a with
  | ⟨0, _⟩ => show win0_3.index t 0 * 256 + 1 * k.val = k.val; rw [i0]; omega
  | ⟨1, _⟩ => show win0_3.index t 1 * 1024 + 1 * j.val = j.val; rw [i1]; omega

theorem block4 (t : Fin cfg0.N) (k : Fin 1024) : (iblk m c 4 t : S1x1024.Idx → EReal) (ix2 (0 : Fin 1) k) = argG m c (ix1 k) := by
  obtain ⟨-, -, -, -, -, -, -, -, i0, i1, -⟩ := index_facts t
  unfold iblk
  rw [View.read_apply]
  show (V m c main_v4 : S1x1024.Idx → EReal) _ = _
  rw [V_v4]
  refine (congrArg (shapeCast S1x1024 (argG m c) shapeCasts_S1024_S1x1024) (?_ : _ = ix2 (0 : Fin 1) k)).trans (Dense.cast_vec (argG m c) _ k)
  funext a; apply Fin.ext
  match a with
  | ⟨0, _⟩ => show win0_4.index t 0 * 1 + 1 * 0 = 0; rw [i0]
  | ⟨1, _⟩ => show win0_4.index t 1 * 1024 + 1 * k.val = k.val; rw [i1]; omega

theorem block5 (t : Fin cfg0.N) (k : Fin 1024) : (iblk m c 5 t : S1x1024.Idx → EReal) (ix2 (0 : Fin 1) k) = argB m c (ix1 k) := by
  obtain ⟨-, -, -, -, -, -, -, -, -, -, i0, i1, -⟩ := index_facts t
  unfold iblk
  rw [View.read_apply]
  show (V m c main_v5 : S1x1024.Idx → EReal) _ = _
  rw [V_v5]
  refine (congrArg (shapeCast S1x1024 (argB m c) shapeCasts_S1024_S1x1024) (?_ : _ = ix2 (0 : Fin 1) k)).trans (Dense.cast_vec (argB m c) _ k)
  funext a; apply Fin.ext
  match a with
  | ⟨0, _⟩ => show win0_5.index t 0 * 1 + 1 * 0 = 0; rw [i0]
  | ⟨1, _⟩ => show win0_5.index t 1 * 1024 + 1 * k.val = k.val; rw [i1]; omega

/-- The output rows: the layer norm of the stream scaled, plus the routed experts' sum and the shared expert of the row. -/
def result (x y : S16x4096x1024.Idx → EReal) (u : S1024x512.Idx → EReal) (d : S256x1024.Idx → EReal) (g b : S1024.Idx → EReal) : S65536x1024.Idx → EReal := fun i =>
  Dense.norm (fun k => Ideal.ofBits .f32 0x3F9837F0#32 * Dense.line (A := 16) (T := 4096) rfl x (i 0) k
      + (Dense.line (A := 16) (T := 4096) rfl y (i 0) k + Dense.expert (Dense.line (A := 16) (T := 4096) rfl x (i 0)) (fun e f => u (ix2 e f)) (fun f k => d (ix2 f k)) k))
    (fun k => g (ix1 k)) (fun k => b (ix1 k)) (i 1)

theorem flushed6_eq (t : Fin cfg0.N) :
    (dats m 0 c).flushed 6 t = ((cfg0.win 6).blk t).view.read (Elt Ideal) (result (argX m c) (argY m c) (argU m c) (argD m c) (argG m c) (argB m c)) := by
  obtain ⟨-, -, -, -, -, -, -, -, -, -, -, -, i0, i1⟩ := index_facts t
  rw [Value.flushed6]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point6 _ _ _ _ _ _ r d).trans ?_
  simp only [block0, block1, block2, block3, block4, block5]
  have e : (win0_6.blk t).view.emb (ix2 r d) = (ix2 (row t r) d : S65536x1024.Idx) := by
    funext a; apply Fin.ext
    match a with
    | ⟨0, _⟩ => show win0_6.index t 0 * 512 + 1 * r.val = 512 * t.val + r.val; rw [i0]; omega
    | ⟨1, _⟩ => show win0_6.index t 1 * 1024 + 1 * d.val = d.val; rw [i1]; omega
  show _ = (result (argX m c) (argY m c) (argU m c) (argD m c) (argG m c) (argB m c)) ((win0_6.blk t).view.emb (ix2 r d))
  rw [e]
  rfl

theorem array6_eq : (dats m 0 c).arrAt 6 cfg0.N = result (argX m c) (argY m c) (argU m c) (argD m c) (argG m c) (argB m c) :=
  (dats m 0 c).arrAt_eq_of_cover 6 (result (argX m c) (argY m c) (argU m c) (argD m c) (argG m c) (argB m c)) (fun t _ => flushed6_eq m c t) fun (i : S65536x1024.Idx) => by
    have h0 : (i 0 : Nat) < 65536 := (i 0).isLt
    have h1 : (i 1 : Nat) < 1024 := (i 1).isLt
    have hN : cfg0.N = 128 := N_0
    let t : Fin cfg0.N := ⟨(i 0 : Nat) / 512, by rw [hN]; omega⟩
    obtain ⟨-, -, -, -, -, -, -, -, -, -, -, -, i0, i1⟩ := index_facts t
    have tv : t.val = (i 0 : Nat) / 512 := rfl
    refine ⟨t, flush0_6 t, ?_⟩
    show i ∈ ((View.whole main_v6).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [i0, tv]; omega
    | ⟨1, _⟩ => show win0_6.index t 1 * 1024 ≤ (i 1 : Nat) ∧ (i 1 : Nat) < win0_6.index t 1 * 1024 + 1024; rw [i1]; omega

end Cert.SharedExpertIdeal.Expert
end
-- ==== Proof.SharedExpert.Reference.lean ====
module
public import proofs.«01_k».proof.Proof.Gen.SharedExpertReferenceIdeal.Read
public import proofs.«01_k».proof.Proof.SharedExpert.Array
public import Idealize.ShloMosaic.Lib.IdealHost
/-!
# The shared expert's reference, read at an index

The gated middle, its projection, and the norm of the sum, row by row.
-/
@[expose] public section
noncomputable section
namespace Cert.SharedExpertReferenceIdeal.Expert
open Cert.SharedExpertReferenceIdeal Cert.SharedExpertReferenceIdeal.Read Idealize.ShloMosaic Idealize.ShloMosaic.ValueIdx Finset
variable (x0 x1 : S16x4096x1024.Idx → EReal) (x2 : S1024x512.Idx → EReal) (x3 : S256x1024.Idx → EReal) (x4 x5 : S1024.Idx → EReal)

theorem mean_apply (a : Fin 16) (t : Fin 4096) :
    val_main_v13 (F := Ideal) x0 x1 x2 x3 (ix3 a t (0 : Fin 1)) = Ideal.div (∑ k, (fun k : Fin 1024 => val_main_v9 (F := Ideal) x0 x1 x2 x3 (ix3 a t k)) k) (Ideal.ofBits .f32 0x44800000#32) := by
  rw [val_main_v13_apply, val_main_v11_apply, val_main_v10_apply, val_main_v12_apply]
  have e : ∀ k : Fin 1024, idx_main_v10 (idx_main_v11 (ix3 a t (0 : Fin 1))) k = ix3 a t k := fun k => by
    funext c; apply Fin.ext; match c with | ⟨0, _⟩ => rfl | ⟨1, _⟩ => rfl | ⟨2, _⟩ => rfl
  simp only [e]
  show Ideal.div (Ideal.ofBits .f32 0x00000000#32 + _) _ = _
  rw [Ideal.ofBits_zero_f32, zero_add]
  rfl

theorem centred_apply (a : Fin 16) (t : Fin 4096) (j : Fin 1024) :
    val_main_v15 (F := Ideal) x0 x1 x2 x3 (ix3 a t j) = Dense.centred (fun k : Fin 1024 => val_main_v9 (F := Ideal) x0 x1 x2 x3 (ix3 a t k)) j := by
  rw [val_main_v15_apply, val_main_v14_apply]
  have e : idx_main_v14 (ix3 a t j) = ix3 a t (0 : Fin 1) := by
    funext c; apply Fin.ext; match c with | ⟨0, _⟩ => rfl | ⟨1, _⟩ => rfl | ⟨2, _⟩ => rfl
  rw [e, mean_apply]
  rfl

theorem centred_apply' (a : Fin 16) (t : Fin 4096) (j : Fin 1024) :
    val_main_v22 (F := Ideal) x0 x1 x2 x3 (ix3 a t j) = Dense.centred (fun k : Fin 1024 => val_main_v9 (F := Ideal) x0 x1 x2 x3 (ix3 a t k)) j := by
  rw [val_main_v22_apply, val_main_v21_apply]
  have e : idx_main_v21 (ix3 a t j) = ix3 a t (0 : Fin 1) := by
    funext c; apply Fin.ext; match c with | ⟨0, _⟩ => rfl | ⟨1, _⟩ => rfl | ⟨2, _⟩ => rfl
  rw [e, mean_apply]
  rfl

theorem scale_apply (a : Fin 16) (t : Fin 4096) :
    val_main_v25 (F := Ideal) x0 x1 x2 x3 (ix3 a t (0 : Fin 1)) = Ideal.rsqrt (Ideal.div (∑ k, Dense.centred (fun k : Fin 1024 => val_main_v9 (F := Ideal) x0 x1 x2 x3 (ix3 a t k)) k * Dense.centred (fun k : Fin 1024 => val_main_v9 (F := Ideal) x0 x1 x2 x3 (ix3 a t k)) k) (Ideal.ofBits .f32 0x44800000#32)
      + Ideal.ofBits .f32 0x3727C5AC#32) := by
  rw [val_main_v25_apply, val_main_v24_apply, val_main_v20_apply, val_main_v18_apply, val_main_v17_apply, val_main_v19_apply, val_main_v23_apply]
  have e : ∀ k : Fin 1024, idx_main_v17 (idx_main_v18 (ix3 a t (0 : Fin 1))) k = ix3 a t k := fun k => by
    funext c; apply Fin.ext; match c with | ⟨0, _⟩ => rfl | ⟨1, _⟩ => rfl | ⟨2, _⟩ => rfl
  simp only [e, val_main_v16_apply, centred_apply]
  show Ideal.rsqrt (Ideal.div (Ideal.ofBits .f32 0x00000000#32 + _) _ + _) = _
  rw [Ideal.ofBits_zero_f32, zero_add]
  rfl

theorem norm_apply (a : Fin 16) (t : Fin 4096) (j : Fin 1024) :
    val_main_v33 (F := Ideal) x0 x1 x2 x3 x4 x5 (ix3 a t j)
      = Dense.norm (fun k : Fin 1024 => val_main_v9 (F := Ideal) x0 x1 x2 x3 (ix3 a t k)) (fun k => x4 (ix1 k)) (fun k => x5 (ix1 k)) j := by
  rw [val_main_v33_apply, val_main_v30_apply, val_main_v27_apply, val_main_v26_apply, val_main_v29_apply, val_main_v28_apply, val_main_v32_apply, val_main_v31_apply, centred_apply']
  have e : idx_main_v26 (ix3 a t j) = ix3 a t (0 : Fin 1) := by
    funext c; apply Fin.ext; match c with | ⟨0, _⟩ => rfl | ⟨1, _⟩ => rfl | ⟨2, _⟩ => rfl
  have eg : idx_main_v28 (idx_main_v29 (ix3 a t j)) = ix1 j := by funext c; apply Fin.ext; match c with | ⟨0, _⟩ => rfl
  have eb : idx_main_v31 (idx_main_v32 (ix3 a t j)) = ix1 j := by funext c; apply Fin.ext; match c with | ⟨0, _⟩ => rfl
  rw [e, eg, eb, scale_apply]
  rfl

theorem both_apply (a : Fin 16) (t : Fin 4096) (f : Fin 512) :
    val_main_v0 (F := Ideal) x0 x2 (ix3 a t f) = ∑ e : Fin 1024, x0 (ix3 a t e) * x2 (ix2 e f) := by
  rw [val_main_v0_apply]
  have el : ∀ q : Fin 1024, lidx_main_v0 (ix3 a t f) q = ix3 a t q := fun q => by
    funext c; apply Fin.ext; match c with | ⟨0, _⟩ => rfl | ⟨1, _⟩ => rfl | ⟨2, _⟩ => rfl
  have er : ∀ q : Fin 1024, ridx_main_v0 (ix3 a t f) q = ix2 q f := fun q => by
    funext c; apply Fin.ext; match c with | ⟨0, _⟩ => rfl | ⟨1, _⟩ => rfl
  simp only [el, er]

theorem middle_apply (a : Fin 16) (t : Fin 4096) (f : Fin 256) :
    val_main_v4 (F := Ideal) x0 x2 (ix3 a t f) = Dense.middle (fun e => x0 (ix3 a t e)) (fun e f => x2 (ix2 e f)) f := by
  rw [val_main_v4_apply, val_main_v3_apply, val_main_call0_v5_apply, val_main_call0_v4_apply, val_main_call0_v3_apply, val_main_call0_v2_apply,
    val_main_call0_v1_apply, val_main_call0_v0_apply, val_main_v2_apply, val_main_v1_apply]
  have e1 : idx_main_v1 (ix3 a t f) = ix3 a t (⟨0 + f.val, by omega⟩ : Fin 512) := by
    funext c; apply Fin.ext; match c with | ⟨0, _⟩ => rfl | ⟨1, _⟩ => rfl | ⟨2, _⟩ => exact (Nat.zero_add _).symm
  have e2 : idx_main_v2 (ix3 a t f) = ix3 a t (⟨256 + f.val, by omega⟩ : Fin 512) := by
    funext c; apply Fin.ext; match c with | ⟨0, _⟩ => rfl | ⟨1, _⟩ => rfl | ⟨2, _⟩ => rfl
  rw [e1, e2, both_apply, both_apply]
  show _ * Ideal.div (Ideal.ofBits .f32 0x3F800000#32) (Ideal.ofBits .f32 0x3F800000#32 + _) * _ = _
  rw [Ideal.ofBits_one_f32]
  rfl

theorem sums_apply (a : Fin 16) (t : Fin 4096) (k : Fin 1024) :
    val_main_v9 (F := Ideal) x0 x1 x2 x3 (ix3 a t k)
      = Ideal.ofBits .f32 0x3F9837F0#32 * x0 (ix3 a t k)
        + (x1 (ix3 a t k) + Dense.expert (fun e => x0 (ix3 a t e)) (fun e f => x2 (ix2 e f)) (fun f k => x3 (ix2 f k)) k) := by
  rw [val_main_v9_apply, val_main_v8_apply, val_main_v7_apply, val_main_v6_apply, val_main_v5_apply]
  have el : ∀ q : Fin 256, lidx_main_v5 (ix3 a t k) q = ix3 a t q := fun q => by
    funext c; apply Fin.ext; match c with | ⟨0, _⟩ => rfl | ⟨1, _⟩ => rfl | ⟨2, _⟩ => rfl
  have er : ∀ q : Fin 256, ridx_main_v5 (ix3 a t k) q = ix2 q k := fun q => by
    funext c; apply Fin.ext; match c with | ⟨0, _⟩ => rfl | ⟨1, _⟩ => rfl
  simp only [el, er, middle_apply]
  rfl

theorem lines_apply (R : Fin 65536) (j : Fin 1024) : idx_main_v34 (ix2 R j) = ix3 (⟨R.val / 4096, by omega⟩ : Fin 16) (⟨R.val % 4096, Nat.mod_lt _ (by norm_num)⟩ : Fin 4096) j := by
  funext c; apply Fin.ext
  have h0 := R.isLt
  have h1 := j.isLt
  match c with
  | ⟨0, _⟩ => show (R.val * 1024 + j.val) / 4194304 = R.val / 4096; omega
  | ⟨1, _⟩ => show (R.val * 1024 + j.val) / 1024 % 4096 = R.val % 4096; omega
  | ⟨2, _⟩ => show (R.val * 1024 + j.val) % 1024 = j.val; omega

theorem row_apply (R : Fin 65536) (k : Fin 1024) :
    val_main_v9 (F := Ideal) x0 x1 x2 x3 (ix3 (⟨R.val / 4096, by omega⟩ : Fin 16) (⟨R.val % 4096, Nat.mod_lt _ (by norm_num)⟩ : Fin 4096) k)
      = Ideal.ofBits .f32 0x3F9837F0#32 * Dense.line (A := 16) (T := 4096) rfl x0 R k
        + (Dense.line (A := 16) (T := 4096) rfl x1 R k + Dense.expert (Dense.line (A := 16) (T := 4096) rfl x0 R) (fun e f => x2 (ix2 e f)) (fun f k => x3 (ix2 f k)) k) :=
  sums_apply x0 x1 x2 x3 _ _ k

theorem result_eq : (val_main_v34 (F := Ideal) x0 x1 x2 x3 x4 x5 : S65536x1024.Idx → EReal) = Cert.SharedExpertIdeal.Expert.result x0 x1 x2 x3 x4 x5 := by
  refine funext fun (i : S65536x1024.Idx) => ?_
  obtain ⟨R, j, rfl⟩ : ∃ R : Fin 65536, ∃ j : Fin 1024, i = ix2 R j := ⟨i 0, i 1, by
    funext a; match a with | ⟨0, _⟩ => rfl | ⟨1, _⟩ => rfl⟩
  rw [val_main_v34_apply]
  refine (congrArg _ (lines_apply R j)).trans ((norm_apply x0 x1 x2 x3 x4 x5 _ _ j).trans ?_)
  simp only [row_apply]
  rfl

end Cert.SharedExpertReferenceIdeal.Expert
end
-- ==== Proof.SharedExpert.Equal.lean ====
module
public import proofs.«01_k».proof.Defs
public import proofs.«01_k».proof.Proof.Gen.SharedExpert.Frame
public import proofs.«01_k».proof.Proof.Gen.SharedExpertReferenceIdeal.Run
public import proofs.«01_k».proof.Proof.SharedExpert.Reference
public import Idealize.ShloMosaic.Lib.Quiescent
/-!
# The claims of the shared expert and the last norm
-/
@[expose] public section
noncomputable section
namespace Cert.Proof
open Idealize.ShloMosaic Idealize.SL.Sem
open Cert.SharedExpertIdeal.Expert Cert.SharedExpertReferenceIdeal.Expert Cert.SharedExpertReferenceIdeal.Read

theorem expert_frame_bits : Cert.quiescent_SharedExpert := fun m ρ _ => Cert.SharedExpert.Gen.frame m ρ
theorem expert_frame : Cert.quiescent_SharedExpertIdeal := fun m ρ _ => Cert.SharedExpertIdeal.Gen.frame m ρ
theorem expert_ref_frame : Cert.quiescent_SharedExpertReferenceIdeal := by
  intro m ρ _
  exact (θ_run Cert.SharedExpertReferenceIdeal.defs _ _).mono (fun r h => ⟨fun c => (h c).2, sem_eq_zero_of_no_sems (by decide) r.2⟩)
    (Cert.SharedExpertReferenceIdeal.Value.run (F := Ideal) m ρ)
theorem expert_preserves : Cert.preserves_SharedExpert_SharedExpertIdeal := trivial

theorem expert_equal : Cert.algebraic_SharedExpertIdeal_SharedExpertReferenceIdeal := by
  intro m ρ m' ρ' _ hagree
  refine ⟨fun c => result (argX m c) (argY m c) (argU m c) (argD m c) (argG m c) (argB m c), ?_, ?_⟩
  · refine (θ_run Cert.SharedExpertIdeal.defs _ _).mono (fun r h c => ?_) (Cert.SharedExpertIdeal.Value.run_blocks m ρ)
    obtain ⟨h0, ha⟩ := h c
    exact ⟨h0.trans (Cert.SharedExpertIdeal.Expert.array6_eq m c), ha⟩
  · refine (θ_run Cert.SharedExpertReferenceIdeal.defs _ _).mono (fun r h c => ?_) (Cert.SharedExpertReferenceIdeal.Value.run (F := Ideal) m' ρ')
    obtain ⟨h0, ha⟩ := h c
    obtain ⟨a0, a1, a2, a3, a4, a5⟩ := hagree c
    refine ⟨h0.trans ((val_main_v34_eq m' c).trans ?_), ha⟩
    all_goals rw [a0, a1, a2, a3, a4, a5]
    · exact result_eq (argX m c) (argY m c) (argU m c) (argD m c) (argG m c) (argB m c)

end Cert.Proof
end
-- ==== Proof.SharedExpertSample.Point.lean ====
module
public import proofs.«01_k».proof.Proof.Gen.SharedExpertSampleIdeal.Value
public import proofs.«01_k».proof.Proof.SharedExpert.Point
/-!
# One block of the shared expert and the last norm, at the sample stream

The call's body is the one of the prompt group's call, so what it computes from its block is what is proved there.
-/
@[expose] public section
noncomputable section
namespace Cert.SharedExpertSampleIdeal.Expert
open Cert.SharedExpertSampleIdeal Cert.SharedExpertSampleIdeal.Gen Idealize.ShloMosaic Idealize.ShloMosaic.TcCoe Idealize.SL.Sem
open Idealize.ShloMosaic.ValueIdx

theorem point6 (x0 x1 : Vec Ideal S512x1024 .f32) (x2 : Vec Ideal S1024x512 .bf16) (x3 : Vec Ideal S256x1024 .bf16) (x4 x5 : Vec Ideal S1x1024 .f32) (r : Fin 512) (j : Fin 1024) :
    out0_6 (F := Ideal) x0 x1 x2 x3 x4 x5 (ix2 r j)
      = Dense.norm (fun k => Ideal.ofBits .f32 0x3F9837F0#32 * x0 (ix2 r k)
          + (x1 (ix2 r k) + Dense.expert (fun k => x0 (ix2 r k)) (fun e f => x2 (ix2 e f)) (fun f k => x3 (ix2 f k)) k))
        (fun k => x4 (ix2 (0 : Fin 1) k)) (fun k => x5 (ix2 (0 : Fin 1) k)) j :=
  Cert.SharedExpertIdeal.Expert.point6 x0 x1 x2 x3 x4 x5 r j

end Cert.SharedExpertSampleIdeal.Expert
end
-- ==== Proof.SharedExpertSample.Array.lean ====
module
public import proofs.«01_k».proof.Proof.SharedExpertSample.Point
/-!
# The shared expert and the last norm, row by row, at the sample stream

One block of 512 rows: the layer norm of the scaled stream plus the routed experts' sum and the shared expert.
-/
@[expose] public section
noncomputable section
namespace Cert.SharedExpertSampleIdeal.Expert
open Cert.SharedExpertSampleIdeal Cert.SharedExpertSampleIdeal.Gen Idealize.ShloMosaic Idealize.ShloMosaic.TcCoe Idealize.SL.Sem
open Idealize.ShloMosaic.ValueIdx
variable (m : (ℓ : Loc nD τ sig) → Buf (Elt Ideal) ℓ) (c : Dev nD)

abbrev argX : S128x4x1024.Idx → EReal := m ((c : Thread nD τ).loc main_arg0)
abbrev argY : S128x4x1024.Idx → EReal := m ((c : Thread nD τ).loc main_arg1)
abbrev argU : S1024x512.Idx → EReal := m ((c : Thread nD τ).loc main_arg2)
abbrev argD : S256x1024.Idx → EReal := m ((c : Thread nD τ).loc main_arg3)
abbrev argG : S1024.Idx → EReal := m ((c : Thread nD τ).loc main_arg4)
abbrev argB : S1024.Idx → EReal := m ((c : Thread nD τ).loc main_arg5)

theorem V_v0 : (V m c main_v0 : S512x1024.Idx → EReal) = fun i => shapeCast S512x1024 (argX m c) shapeCasts_S128x4x1024_S512x1024 i := by
  unfold V; after_results; rfl
theorem V_v1 : (V m c main_v1 : S512x1024.Idx → EReal) = fun i => shapeCast S512x1024 (argY m c) shapeCasts_S128x4x1024_S512x1024 i := by
  unfold V; after_results; rfl
theorem V_v2 : (V m c main_v2 : S1024x512.Idx → EReal) = argU m c := by
  unfold V; after_results; rfl
theorem V_v3 : (V m c main_v3 : S256x1024.Idx → EReal) = argD m c := by
  unfold V; after_results; rfl
theorem V_v4 : (V m c main_v4 : S1x1024.Idx → EReal) = fun i => shapeCast S1x1024 (argG m c) shapeCasts_S1024_S1x1024 i := by
  unfold V; after_results; rfl
theorem V_v5 : (V m c main_v5 : S1x1024.Idx → EReal) = fun i => shapeCast S1x1024 (argB m c) shapeCasts_S1024_S1x1024 i := by
  unfold V; after_results; rfl

theorem index_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = t.val ∧ win0_6.index t 1 = 0 := by decide +kernel
theorem N_lt (t : Fin cfg0.N) : t.val < 1 := by have := t.isLt; have h : cfg0.N = 1 := N_0; omega
abbrev row (t : Fin cfg0.N) (r : Fin 512) : Fin 512 := ⟨512 * t.val + r.val, by have := N_lt t; omega⟩

theorem block0 (t : Fin cfg0.N) (r : Fin 512) (k : Fin 1024) :
    (iblk m c 0 t : S512x1024.Idx → EReal) (ix2 r k) = Dense.line (A := 128) (T := 4) rfl (argX m c) (row t r) k := by
  obtain ⟨i0, i1, -⟩ := index_facts t
  unfold iblk
  rw [View.read_apply]
  show (V m c main_v0 : S512x1024.Idx → EReal) _ = _
  rw [V_v0]
  refine (congrArg (shapeCast S512x1024 (argX m c) shapeCasts_S128x4x1024_S512x1024) (?_ : _ = ix2 (row t r) k)).trans (Dense.cast_lines rfl (argX m c) _ (row t r) k)
  funext a; apply Fin.ext
  match a with
  | ⟨0, _⟩ => show win0_0.index t 0 * 512 + 1 * r.val = 512 * t.val + r.val; rw [i0]; omega
  | ⟨1, _⟩ => show win0_0.index t 1 * 1024 + 1 * k.val = k.val; rw [i1]; omega

theorem block1 (t : Fin cfg0.N) (r : Fin 512) (k : Fin 1024) :
    (iblk m c 1 t : S512x1024.Idx → EReal) (ix2 r k) = Dense.line (A := 128) (T := 4) rfl (argY m c) (row t r) k := by
  obtain ⟨-, -, i0, i1, -⟩ := index_facts t
  unfold iblk
  rw [View.read_apply]
  show (V m c main_v1 : S512x1024.Idx → EReal) _ = _
  rw [V_v1]
  refine (congrArg (shapeCast S512x1024 (argY m c) shapeCasts_S128x4x1024_S512x1024) (?_ : _ = ix2 (row t r) k)).trans (Dense.cast_lines rfl (argY m c) _ (row t r) k)
  funext a; apply Fin.ext
  match a with
  | ⟨0, _⟩ => show win0_1.index t 0 * 512 + 1 * r.val = 512 * t.val + r.val; rw [i0]; omega
  | ⟨1, _⟩ => show win0_1.index t 1 * 1024 + 1 * k.val = k.val; rw [i1]; omega

theorem block2 (t : Fin cfg0.N) (k : Fin 1024) (j : Fin 512) :
    (iblk m c 2 t : S1024x512.Idx → EReal) (ix2 k j) = argU m c (ix2 k j) := by
  obtain ⟨-, -, -, -, i0, i1, -⟩ := index_facts t
  unfold iblk
  rw [View.read_apply]
  show (V m c main_v2 : S1024x512.Idx → EReal) _ = _
  rw [V_v2]
  congr 1
  funext a; apply Fin.ext
  match a with
  | ⟨0, _⟩ => show win0_2.index t 0 * 1024 + 1 * k.val = k.val; rw [i0]; omega
  | ⟨1, _⟩ => show win0_2.index t 1 * 512 + 1 * j.val = j.val; rw [i1]; omega

theorem block3 (t : Fin cfg0.N) (k : Fin 256) (j : Fin 1024) :
    (iblk m c 3 t : S256x1024.Idx → EReal) (ix2 k j) = argD m c (ix2 k j) := by
  obtain ⟨-, -, -, -, -, -, i0, i1, -⟩ := index_facts t
  unfold iblk
  rw [View.read_apply]
  show (V m c main_v3 : S256x1024.Idx → EReal) _ = _
  rw [V_v3]
  congr 1
  funext a; apply Fin.ext
  match a with
  | ⟨0, _⟩ => show win0_3.index t 0 * 256 + 1 * k.val = k.val; rw [i0]; omega
  | ⟨1, _⟩ => show win0_3.index t 1 * 1024 + 1 * j.val = j.val; rw [i1]; omega

theorem block4 (t : Fin cfg0.N) (k : Fin 1024) : (iblk m c 4 t : S1x1024.Idx → EReal) (ix2 (0 : Fin 1) k) = argG m c (ix1 k) := by
  obtain ⟨-, -, -, -, -, -, -, -, i0, i1, -⟩ := index_facts t
  unfold iblk
  rw [View.read_apply]
  show (V m c main_v4 : S1x1024.Idx → EReal) _ = _
  rw [V_v4]
  refine (congrArg (shapeCast S1x1024 (argG m c) shapeCasts_S1024_S1x1024) (?_ : _ = ix2 (0 : Fin 1) k)).trans (Dense.cast_vec (argG m c) _ k)
  funext a; apply Fin.ext
  match a with
  | ⟨0, _⟩ => show win0_4.index t 0 * 1 + 1 * 0 = 0; rw [i0]
  | ⟨1, _⟩ => show win0_4.index t 1 * 1024 + 1 * k.val = k.val; rw [i1]; omega

theorem block5 (t : Fin cfg0.N) (k : Fin 1024) : (iblk m c 5 t : S1x1024.Idx → EReal) (ix2 (0 : Fin 1) k) = argB m c (ix1 k) := by
  obtain ⟨-, -, -, -, -, -, -, -, -, -, i0, i1, -⟩ := index_facts t
  unfold iblk
  rw [View.read_apply]
  show (V m c main_v5 : S1x1024.Idx → EReal) _ = _
  rw [V_v5]
  refine (congrArg (shapeCast S1x1024 (argB m c) shapeCasts_S1024_S1x1024) (?_ : _ = ix2 (0 : Fin 1) k)).trans (Dense.cast_vec (argB m c) _ k)
  funext a; apply Fin.ext
  match a with
  | ⟨0, _⟩ => show win0_5.index t 0 * 1 + 1 * 0 = 0; rw [i0]
  | ⟨1, _⟩ => show win0_5.index t 1 * 1024 + 1 * k.val = k.val; rw [i1]; omega

/-- The output rows: the layer norm of the stream scaled, plus the routed experts' sum and the shared expert of the row. -/
def result (x y : S128x4x1024.Idx → EReal) (u : S1024x512.Idx → EReal) (d : S256x1024.Idx → EReal) (g b : S1024.Idx → EReal) : S512x1024.Idx → EReal := fun i =>
  Dense.norm (fun k => Ideal.ofBits .f32 0x3F9837F0#32 * Dense.line (A := 128) (T := 4) rfl x (i 0) k
      + (Dense.line (A := 128) (T := 4) rfl y (i 0) k + Dense.expert (Dense.line (A := 128) (T := 4) rfl x (i 0)) (fun e f => u (ix2 e f)) (fun f k => d (ix2 f k)) k))
    (fun k => g (ix1 k)) (fun k => b (ix1 k)) (i 1)

theorem flushed6_eq (t : Fin cfg0.N) :
    (dats m 0 c).flushed 6 t = ((cfg0.win 6).blk t).view.read (Elt Ideal) (result (argX m c) (argY m c) (argU m c) (argD m c) (argG m c) (argB m c)) := by
  obtain ⟨-, -, -, -, -, -, -, -, -, -, -, -, i0, i1⟩ := index_facts t
  rw [Value.flushed6]
  refine funext fun (j : S512x1024.Idx) => ?_
  rw [View.read_apply]
  obtain ⟨r, d, rfl⟩ : ∃ r : Fin 512, ∃ d : Fin 1024, j = ix2 r d := ⟨j 0, j 1, by
    funext a; match a with | ⟨0, _⟩ => rfl | ⟨1, _⟩ => rfl⟩
  refine (point6 _ _ _ _ _ _ r d).trans ?_
  simp only [block0, block1, block2, block3, block4, block5]
  have e : (win0_6.blk t).view.emb (ix2 r d) = (ix2 (row t r) d : S512x1024.Idx) := by
    funext a; apply Fin.ext
    match a with
    | ⟨0, _⟩ => show win0_6.index t 0 * 512 + 1 * r.val = 512 * t.val + r.val; rw [i0]; omega
    | ⟨1, _⟩ => show win0_6.index t 1 * 1024 + 1 * d.val = d.val; rw [i1]; omega
  show _ = (result (argX m c) (argY m c) (argU m c) (argD m c) (argG m c) (argB m c)) ((win0_6.blk t).view.emb (ix2 r d))
  rw [e]
  rfl

theorem array6_eq : (dats m 0 c).arrAt 6 cfg0.N = result (argX m c) (argY m c) (argU m c) (argD m c) (argG m c) (argB m c) :=
  (dats m 0 c).arrAt_eq_of_cover 6 (result (argX m c) (argY m c) (argU m c) (argD m c) (argG m c) (argB m c)) (fun t _ => flushed6_eq m c t) fun (i : S512x1024.Idx) => by
    have h0 : (i 0 : Nat) < 512 := (i 0).isLt
    have h1 : (i 1 : Nat) < 1024 := (i 1).isLt
    have hN : cfg0.N = 1 := N_0
    let t : Fin cfg0.N := ⟨(i 0 : Nat) / 512, by rw [hN]; omega⟩
    obtain ⟨-, -, -, -, -, -, -, -, -, -, -, -, i0, i1⟩ := index_facts t
    have tv : t.val = (i 0 : Nat) / 512 := rfl
    refine ⟨t, flush0_6 t, ?_⟩
    show i ∈ ((View.whole main_v6).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [i0, tv]; omega
    | ⟨1, _⟩ => show win0_6.index t 1 * 1024 ≤ (i 1 : Nat) ∧ (i 1 : Nat) < win0_6.index t 1 * 1024 + 1024; rw [i1]; omega

end Cert.SharedExpertSampleIdeal.Expert
end
-- ==== Proof.SharedExpertSample.Reference.lean ====
module
public import proofs.«01_k».proof.Proof.Gen.SharedExpertSampleReferenceIdeal.Read
public import proofs.«01_k».proof.Proof.SharedExpertSample.Array
public import Idealize.ShloMosaic.Lib.IdealHost
/-!
# The shared expert's reference, read at an index, at the sample stream

The gated middle, its projection, and the norm of the sum, row by row.
-/
@[expose] public section
noncomputable section
namespace Cert.SharedExpertSampleReferenceIdeal.Expert
open Cert.SharedExpertSampleReferenceIdeal Cert.SharedExpertSampleReferenceIdeal.Read Idealize.ShloMosaic Idealize.ShloMosaic.ValueIdx Finset
variable (x0 x1 : S128x4x1024.Idx → EReal) (x2 : S1024x512.Idx → EReal) (x3 : S256x1024.Idx → EReal) (x4 x5 : S1024.Idx → EReal)

theorem mean_apply (a : Fin 128) (t : Fin 4) :
    val_main_v13 (F := Ideal) x0 x1 x2 x3 (ix3 a t (0 : Fin 1)) = Ideal.div (∑ k, (fun k : Fin 1024 => val_main_v9 (F := Ideal) x0 x1 x2 x3 (ix3 a t k)) k) (Ideal.ofBits .f32 0x44800000#32) := by
  rw [val_main_v13_apply, val_main_v11_apply, val_main_v10_apply, val_main_v12_apply]
  have e : ∀ k : Fin 1024, idx_main_v10 (idx_main_v11 (ix3 a t (0 : Fin 1))) k = ix3 a t k := fun k => by
    funext c; apply Fin.ext; match c with | ⟨0, _⟩ => rfl | ⟨1, _⟩ => rfl | ⟨2, _⟩ => rfl
  simp only [e]
  show Ideal.div (Ideal.ofBits .f32 0x00000000#32 + _) _ = _
  rw [Ideal.ofBits_zero_f32, zero_add]
  rfl

theorem centred_apply (a : Fin 128) (t : Fin 4) (j : Fin 1024) :
    val_main_v15 (F := Ideal) x0 x1 x2 x3 (ix3 a t j) = Dense.centred (fun k : Fin 1024 => val_main_v9 (F := Ideal) x0 x1 x2 x3 (ix3 a t k)) j := by
  rw [val_main_v15_apply, val_main_v14_apply]
  have e : idx_main_v14 (ix3 a t j) = ix3 a t (0 : Fin 1) := by
    funext c; apply Fin.ext; match c with | ⟨0, _⟩ => rfl | ⟨1, _⟩ => rfl | ⟨2, _⟩ => rfl
  rw [e, mean_apply]
  rfl

theorem centred_apply' (a : Fin 128) (t : Fin 4) (j : Fin 1024) :
    val_main_v22 (F := Ideal) x0 x1 x2 x3 (ix3 a t j) = Dense.centred (fun k : Fin 1024 => val_main_v9 (F := Ideal) x0 x1 x2 x3 (ix3 a t k)) j := by
  rw [val_main_v22_apply, val_main_v21_apply]
  have e : idx_main_v21 (ix3 a t j) = ix3 a t (0 : Fin 1) := by
    funext c; apply Fin.ext; match c with | ⟨0, _⟩ => rfl | ⟨1, _⟩ => rfl | ⟨2, _⟩ => rfl
  rw [e, mean_apply]
  rfl

theorem scale_apply (a : Fin 128) (t : Fin 4) :
    val_main_v25 (F := Ideal) x0 x1 x2 x3 (ix3 a t (0 : Fin 1)) = Ideal.rsqrt (Ideal.div (∑ k, Dense.centred (fun k : Fin 1024 => val_main_v9 (F := Ideal) x0 x1 x2 x3 (ix3 a t k)) k * Dense.centred (fun k : Fin 1024 => val_main_v9 (F := Ideal) x0 x1 x2 x3 (ix3 a t k)) k) (Ideal.ofBits .f32 0x44800000#32)
      + Ideal.ofBits .f32 0x3727C5AC#32) := by
  rw [val_main_v25_apply, val_main_v24_apply, val_main_v20_apply, val_main_v18_apply, val_main_v17_apply, val_main_v19_apply, val_main_v23_apply]
  have e : ∀ k : Fin 1024, idx_main_v17 (idx_main_v18 (ix3 a t (0 : Fin 1))) k = ix3 a t k := fun k => by
    funext c; apply Fin.ext; match c with | ⟨0, _⟩ => rfl | ⟨1, _⟩ => rfl | ⟨2, _⟩ => rfl
  simp only [e, val_main_v16_apply, centred_apply]
  show Ideal.rsqrt (Ideal.div (Ideal.ofBits .f32 0x00000000#32 + _) _ + _) = _
  rw [Ideal.ofBits_zero_f32, zero_add]
  rfl

theorem norm_apply (a : Fin 128) (t : Fin 4) (j : Fin 1024) :
    val_main_v33 (F := Ideal) x0 x1 x2 x3 x4 x5 (ix3 a t j)
      = Dense.norm (fun k : Fin 1024 => val_main_v9 (F := Ideal) x0 x1 x2 x3 (ix3 a t k)) (fun k => x4 (ix1 k)) (fun k => x5 (ix1 k)) j := by
  rw [val_main_v33_apply, val_main_v30_apply, val_main_v27_apply, val_main_v26_apply, val_main_v29_apply, val_main_v28_apply, val_main_v32_apply, val_main_v31_apply, centred_apply']
  have e : idx_main_v26 (ix3 a t j) = ix3 a t (0 : Fin 1) := by
    funext c; apply Fin.ext; match c with | ⟨0, _⟩ => rfl | ⟨1, _⟩ => rfl | ⟨2, _⟩ => rfl
  have eg : idx_main_v28 (idx_main_v29 (ix3 a t j)) = ix1 j := by funext c; apply Fin.ext; match c with | ⟨0, _⟩ => rfl
  have eb : idx_main_v31 (idx_main_v32 (ix3 a t j)) = ix1 j := by funext c; apply Fin.ext; match c with | ⟨0, _⟩ => rfl
  rw [e, eg, eb, scale_apply]
  rfl

theorem both_apply (a : Fin 128) (t : Fin 4) (f : Fin 512) :
    val_main_v0 (F := Ideal) x0 x2 (ix3 a t f) = ∑ e : Fin 1024, x0 (ix3 a t e) * x2 (ix2 e f) := by
  rw [val_main_v0_apply]
  have el : ∀ q : Fin 1024, lidx_main_v0 (ix3 a t f) q = ix3 a t q := fun q => by
    funext c; apply Fin.ext; match c with | ⟨0, _⟩ => rfl | ⟨1, _⟩ => rfl | ⟨2, _⟩ => rfl
  have er : ∀ q : Fin 1024, ridx_main_v0 (ix3 a t f) q = ix2 q f := fun q => by
    funext c; apply Fin.ext; match c with | ⟨0, _⟩ => rfl | ⟨1, _⟩ => rfl
  simp only [el, er]

theorem middle_apply (a : Fin 128) (t : Fin 4) (f : Fin 256) :
    val_main_v4 (F := Ideal) x0 x2 (ix3 a t f) = Dense.middle (fun e => x0 (ix3 a t e)) (fun e f => x2 (ix2 e f)) f := by
  rw [val_main_v4_apply, val_main_v3_apply, val_main_call0_v5_apply, val_main_call0_v4_apply, val_main_call0_v3_apply, val_main_call0_v2_apply,
    val_main_call0_v1_apply, val_main_call0_v0_apply, val_main_v2_apply, val_main_v1_apply]
  have e1 : idx_main_v1 (ix3 a t f) = ix3 a t (⟨0 + f.val, by omega⟩ : Fin 512) := by
    funext c; apply Fin.ext; match c with | ⟨0, _⟩ => rfl | ⟨1, _⟩ => rfl | ⟨2, _⟩ => exact (Nat.zero_add _).symm
  have e2 : idx_main_v2 (ix3 a t f) = ix3 a t (⟨256 + f.val, by omega⟩ : Fin 512) := by
    funext c; apply Fin.ext; match c with | ⟨0, _⟩ => rfl | ⟨1, _⟩ => rfl | ⟨2, _⟩ => rfl
  rw [e1, e2, both_apply, both_apply]
  show _ * Ideal.div (Ideal.ofBits .f32 0x3F800000#32) (Ideal.ofBits .f32 0x3F800000#32 + _) * _ = _
  rw [Ideal.ofBits_one_f32]
  rfl

theorem sums_apply (a : Fin 128) (t : Fin 4) (k : Fin 1024) :
    val_main_v9 (F := Ideal) x0 x1 x2 x3 (ix3 a t k)
      = Ideal.ofBits .f32 0x3F9837F0#32 * x0 (ix3 a t k)
        + (x1 (ix3 a t k) + Dense.expert (fun e => x0 (ix3 a t e)) (fun e f => x2 (ix2 e f)) (fun f k => x3 (ix2 f k)) k) := by
  rw [val_main_v9_apply, val_main_v8_apply, val_main_v7_apply, val_main_v6_apply, val_main_v5_apply]
  have el : ∀ q : Fin 256, lidx_main_v5 (ix3 a t k) q = ix3 a t q := fun q => by
    funext c; apply Fin.ext; match c with | ⟨0, _⟩ => rfl | ⟨1, _⟩ => rfl | ⟨2, _⟩ => rfl
  have er : ∀ q : Fin 256, ridx_main_v5 (ix3 a t k) q = ix2 q k := fun q => by
    funext c; apply Fin.ext; match c with | ⟨0, _⟩ => rfl | ⟨1, _⟩ => rfl
  simp only [el, er, middle_apply]
  rfl

theorem lines_apply (R : Fin 512) (j : Fin 1024) : idx_main_v34 (ix2 R j) = ix3 (⟨R.val / 4, by omega⟩ : Fin 128) (⟨R.val % 4, Nat.mod_lt _ (by norm_num)⟩ : Fin 4) j := by
  funext c; apply Fin.ext
  have h0 := R.isLt
  have h1 := j.isLt
  match c with
  | ⟨0, _⟩ => show (R.val * 1024 + j.val) / 4096 = R.val / 4; omega
  | ⟨1, _⟩ => show (R.val * 1024 + j.val) / 1024 % 4 = R.val % 4; omega
  | ⟨2, _⟩ => show (R.val * 1024 + j.val) % 1024 = j.val; omega

theorem row_apply (R : Fin 512) (k : Fin 1024) :
    val_main_v9 (F := Ideal) x0 x1 x2 x3 (ix3 (⟨R.val / 4, by omega⟩ : Fin 128) (⟨R.val % 4, Nat.mod_lt _ (by norm_num)⟩ : Fin 4) k)
      = Ideal.ofBits .f32 0x3F9837F0#32 * Dense.line (A := 128) (T := 4) rfl x0 R k
        + (Dense.line (A := 128) (T := 4) rfl x1 R k + Dense.expert (Dense.line (A := 128) (T := 4) rfl x0 R) (fun e f => x2 (ix2 e f)) (fun f k => x3 (ix2 f k)) k) :=
  sums_apply x0 x1 x2 x3 _ _ k

theorem result_eq : (val_main_v34 (F := Ideal) x0 x1 x2 x3 x4 x5 : S512x1024.Idx → EReal) = Cert.SharedExpertSampleIdeal.Expert.result x0 x1 x2 x3 x4 x5 := by
  refine funext fun (i : S512x1024.Idx) => ?_
  obtain ⟨R, j, rfl⟩ : ∃ R : Fin 512, ∃ j : Fin 1024, i = ix2 R j := ⟨i 0, i 1, by
    funext a; match a with | ⟨0, _⟩ => rfl | ⟨1, _⟩ => rfl⟩
  rw [val_main_v34_apply]
  refine (congrArg _ (lines_apply R j)).trans ((norm_apply x0 x1 x2 x3 x4 x5 _ _ j).trans ?_)
  simp only [row_apply]
  rfl

end Cert.SharedExpertSampleReferenceIdeal.Expert
end
-- ==== Proof.SharedExpertSample.Equal.lean ====
module
public import proofs.«01_k».proof.Defs
public import proofs.«01_k».proof.Proof.Gen.SharedExpertSample.Frame
public import proofs.«01_k».proof.Proof.Gen.SharedExpertSampleReferenceIdeal.Run
public import proofs.«01_k».proof.Proof.SharedExpertSample.Reference
public import Idealize.ShloMosaic.Lib.Quiescent
/-!
# The claims of the shared expert and the last norm, at the sample stream
-/
@[expose] public section
noncomputable section
namespace Cert.Proof
open Idealize.ShloMosaic Idealize.SL.Sem
open Cert.SharedExpertSampleIdeal.Expert Cert.SharedExpertSampleReferenceIdeal.Expert Cert.SharedExpertSampleReferenceIdeal.Read

theorem expert_sample_frame_bits : Cert.quiescent_SharedExpertSample := fun m ρ _ => Cert.SharedExpertSample.Gen.frame m ρ
theorem expert_sample_frame : Cert.quiescent_SharedExpertSampleIdeal := fun m ρ _ => Cert.SharedExpertSampleIdeal.Gen.frame m ρ
theorem expert_sample_ref_frame : Cert.quiescent_SharedExpertSampleReferenceIdeal := by
  intro m ρ _
  exact (θ_run Cert.SharedExpertSampleReferenceIdeal.defs _ _).mono (fun r h => ⟨fun c => (h c).2, sem_eq_zero_of_no_sems (by decide) r.2⟩)
    (Cert.SharedExpertSampleReferenceIdeal.Value.run (F := Ideal) m ρ)
theorem expert_sample_preserves : Cert.preserves_SharedExpertSample_SharedExpertSampleIdeal := trivial

theorem expert_sample_equal : Cert.algebraic_SharedExpertSampleIdeal_SharedExpertSampleReferenceIdeal := by
  intro m ρ m' ρ' _ hagree
  refine ⟨fun c => result (argX m c) (argY m c) (argU m c) (argD m c) (argG m c) (argB m c), ?_, ?_⟩
  · refine (θ_run Cert.SharedExpertSampleIdeal.defs _ _).mono (fun r h c => ?_) (Cert.SharedExpertSampleIdeal.Value.run_blocks m ρ)
    obtain ⟨h0, ha⟩ := h c
    exact ⟨h0.trans (Cert.SharedExpertSampleIdeal.Expert.array6_eq m c), ha⟩
  · refine (θ_run Cert.SharedExpertSampleReferenceIdeal.defs _ _).mono (fun r h c => ?_) (Cert.SharedExpertSampleReferenceIdeal.Value.run (F := Ideal) m' ρ')
    obtain ⟨h0, ha⟩ := h c
    obtain ⟨a0, a1, a2, a3, a4, a5⟩ := hagree c
    refine ⟨h0.trans ((val_main_v34_eq m' c).trans ?_), ha⟩
    all_goals rw [a0, a1, a2, a3, a4, a5]
    · exact result_eq (argX m c) (argY m c) (argU m c) (argD m c) (argG m c) (argB m c)

end Cert.Proof
end
-- ==== Proof.InProjSample.Point.lean ====
module
public import proofs.«01_k».proof.Proof.InProj.Tables
public import proofs.«01_k».proof.Proof.Gen.InProjSampleIdeal.Value
/-!
# The input projection of the sample: one block of the call

The call's body is the one of the prompt group's call, so what it computes from its block is what is proved there.
-/
@[expose] public section
noncomputable section
namespace Cert.InProjSampleIdeal.Proj
open Cert.InProjSampleIdeal Cert.InProjSampleIdeal.Gen Idealize.ShloMosaic Idealize.ShloMosaic.TcCoe Idealize.SL.Sem
open Idealize.ShloMosaic.ValueIdx
open Cert.InProjIdeal.Proj (rot tabC tabA tabB cols)

variable (x0 : Vec Ideal S512x1024 .f32) (x1 : Vec Ideal S1024x3712 .bf16) (x2 x3 x4 : Vec Ideal S512x128 .f32)
variable (cs sn : Fin 8 → EReal) (r : Fin 512)

theorem out5 (hc : ∀ L, x2 (ix2 r L) = tabC cs L) (ha : ∀ L, x3 (ix2 r L) = tabA sn L) (hb : ∀ L, x4 (ix2 r L) = tabB sn L) (j : Fin 512) : out0_5 (F := Ideal) x0 x1 x2 x3 x4 (ix2 r j) = rot cs sn (cols x0 x1 r 512 0 (by norm_num)) j * Ideal.ofBits .f32 0x3E000000#32 :=
  Cert.InProjIdeal.Proj.out5 x0 x1 x2 x3 x4 cs sn r hc ha hb j
theorem out6 (hc : ∀ L, x2 (ix2 r L) = tabC cs L) (ha : ∀ L, x3 (ix2 r L) = tabA sn L) (hb : ∀ L, x4 (ix2 r L) = tabB sn L) (j : Fin 512) : out0_6 (F := Ideal) x0 x1 x2 x3 x4 (ix2 r j) = rot cs sn (cols x0 x1 r 512 512 (by norm_num)) j :=
  Cert.InProjIdeal.Proj.out6 x0 x1 x2 x3 x4 cs sn r hc ha hb j
theorem out8 (hc : ∀ L, x2 (ix2 r L) = tabC cs L) (ha : ∀ L, x3 (ix2 r L) = tabA sn L) (hb : ∀ L, x4 (ix2 r L) = tabB sn L) (j : Fin 512) : out0_8 (F := Ideal) x0 x1 x2 x3 x4 (ix2 r j) = rot cs sn (cols x0 x1 r 512 512 (by norm_num)) j :=
  Cert.InProjIdeal.Proj.out8 x0 x1 x2 x3 x4 cs sn r hc ha hb j
theorem out7 (j : Fin 512) : out0_7 (F := Ideal) x0 x1 x2 x3 x4 (ix2 r j) = cols x0 x1 r 512 1024 (by norm_num) j :=
  Cert.InProjIdeal.Proj.out7 x0 x1 x2 x3 x4 r j
theorem out9 (j : Fin 512) : out0_9 (F := Ideal) x0 x1 x2 x3 x4 (ix2 r j) = cols x0 x1 r 512 1024 (by norm_num) j :=
  Cert.InProjIdeal.Proj.out9 x0 x1 x2 x3 x4 r j
theorem out10 (j : Fin 1536) : out0_10 (F := Ideal) x0 x1 x2 x3 x4 (ix2 r j) = cols x0 x1 r 1536 1536 (by norm_num) j :=
  Cert.InProjIdeal.Proj.out10 x0 x1 x2 x3 x4 r j
theorem out11 (j : Fin 512) : out0_11 (F := Ideal) x0 x1 x2 x3 x4 (ix2 r j) = cols x0 x1 r 512 3072 (by norm_num) j :=
  Cert.InProjIdeal.Proj.out11 x0 x1 x2 x3 x4 r j
theorem out12 (j : Fin 128) : out0_12 (F := Ideal) x0 x1 x2 x3 x4 (ix2 r j) = cols x0 x1 r 128 3584 (by norm_num) j :=
  Cert.InProjIdeal.Proj.out12 x0 x1 x2 x3 x4 r j

end Cert.InProjSampleIdeal.Proj
end
-- ==== Proof.InProjSample.Tables.lean ====
module
public import proofs.«01_k».proof.Proof.InProjSample.Point
public import Idealize.ShloMosaic.Lib.StableHlo.Run
public import Idealize.ShloMosaic.Lib.Tactic
/-!
# The input projection of the sample: the arrays the call is given

The four rows of each of the 128 sequences one under another; the weights arranged as for the prompt group; the rotation tables, which
hold a row for each of the 512 rows: the cosines and sines of its position, 8192 and the row's place in its sequence, times frequency.
-/
@[expose] public section
noncomputable section
namespace Cert.InProjSampleIdeal.Proj
open Cert.InProjSampleIdeal Cert.InProjSampleIdeal.Gen Idealize.ShloMosaic Idealize.ShloMosaic.TcCoe Idealize.SL.Sem
open Idealize.ShloMosaic.ValueIdx
open Cert.InProjIdeal.Proj (tabC tabA tabB freq weights one_f32)

/-- The positions of the 512 rows: 8192 to 8195, sequence after sequence. -/
def places : S512.Idx → BitVec 32 :=
  shapeCast S512 (broadcastInDim S128x4 ![0, 1] bcast_S1x4_S128x4_0_1
    (shapeCast S1x4 (addi (broadcastInDim S4 ![] bcast_S_S4 (constantI S_ 32 8192#32)) (iotaInDim S4 32 0)) shapeCasts_S4_S1x4))
    shapeCasts_S128x4_S512
/-- Position times frequency. -/
def angle : FVec Ideal S512x8 .f32 :=
  mulf (broadcastInDim S512x8 ![0, 1] bcast_S512x1_S512x8_0_1 (broadcastInDim S512x1 ![0] bcast_S512_S512x1_0 (sitofp .f32 places)))
    (broadcastInDim S512x8 ![0, 1] bcast_S1x8_S512x8_0_1 (broadcastInDim S1x8 ![1] bcast_S8_S1x8_1 freq))
def cosT : FVec Ideal S512x8 .f32 := Host.cos angle
def sinT : FVec Ideal S512x8 .f32 := Host.sin angle

/-- Position 8192 + `n` times frequency `e`. -/
def theta (n : Fin 4) (e : Fin 8) : EReal :=
  FloatOps.mulf (F := Ideal) (φ := .f32) (FloatOps.sitofp (F := Ideal) .f32 (IntOp.addi 8192#32 (BitVec.ofNat 32 n.val))) (freq (ix1 e))
/-- The cosines and the sines of a position. -/
def cosRow (n : Fin 4) (e : Fin 8) : EReal := FloatOps.hostUnary (F := Ideal) (φ := .f32) .cos (theta n e)
def sinRow (n : Fin 4) (e : Fin 8) : EReal := FloatOps.hostUnary (F := Ideal) (φ := .f32) .sin (theta n e)
/-- The place of row `R` in its sequence. -/
def at4 (R : Fin 512) : Fin 4 := ⟨R.val % 4, Nat.mod_lt _ (by norm_num)⟩

theorem places_apply (n : Fin 512) : places (ix1 n) = IntOp.addi 8192#32 (BitVec.ofNat 32 (at4 n).val) := by
  unfold places
  refine (shapeCast_apply _ _ (ix1 n) (ix2 (⟨n.val / 4, by omega⟩ : Fin 128) (at4 n)) ?_).trans ?_
  · rw [Shape.rowMajor_val_two, Shape.rowMajor_val_one]
    show n.val / 4 * 4 + n.val % 4 = n.val
    omega
  refine (broadcastInDim_apply _ bcast_S1x4_S128x4_0_1 _ _ (ix2 (0 : Fin 1) (at4 n)) (fun a => by
    match a with
    | ⟨0, _⟩ => rfl
    | ⟨1, _⟩ => rfl)).trans ?_
  refine (shapeCast_apply _ _ _ (ix1 (at4 n)) ?_).trans rfl
  rw [Shape.rowMajor_val_two, Shape.rowMajor_val_one]
  show n.val % 4 = 0 * 4 + n.val % 4
  omega

theorem angle_apply (n : Fin 512) (e : Fin 8) : angle (ix2 n e) = theta (at4 n) e := by
  unfold theta
  rw [← places_apply]
  show FloatOps.mulf (F := Ideal) (φ := .f32) _ _ = _
  congr 1
theorem cosT_apply (n : Fin 512) (e : Fin 8) : cosT (ix2 n e) = cosRow (at4 n) e :=
  congrArg (FloatOps.hostUnary (F := Ideal) (φ := .f32) .cos) (angle_apply n e)
theorem sinT_apply (n : Fin 512) (e : Fin 8) : sinT (ix2 n e) = sinRow (at4 n) e :=
  congrArg (FloatOps.hostUnary (F := Ideal) (φ := .f32) .sin) (angle_apply n e)

/-- 64 lanes: two groups of eight and the rest. -/
def lanes (a b : FVec Ideal S512x8 .f32) (d : FVec Ideal S512x48 .f32) : FVec Ideal S512x64 .f32 :=
  concatenate S512x64 1 [⟨S512x8, a⟩, ⟨S512x8, b⟩, ⟨S512x48, d⟩] concatenates_S512x8_S512x8_S512x48_S512x64_d1
def twice (a : FVec Ideal S512x64 .f32) : FVec Ideal S512x128 .f32 :=
  concatenate S512x128 1 [⟨S512x64, a⟩, ⟨S512x64, a⟩] concatenates_S512x64_S512x64_S512x128_d1

theorem lanes_apply (a b : FVec Ideal S512x8 .f32) (d : FVec Ideal S512x48 .f32) (n : Fin 512) (e : Fin 64) :
    lanes a b d (ix2 n e) = if h : e.val < 8 then a (ix2 n ⟨e.val, h⟩) else if h' : e.val < 16 then b (ix2 n ⟨e.val - 8, by omega⟩)
      else d (ix2 n ⟨e.val - 16, by omega⟩) := by
  have he := e.isLt
  unfold lanes
  by_cases h : e.val < 8
  · rw [dif_pos h]
    exact concatenate_apply_piece (t := S512x64) (1 : Fin 2) _ _ (ix2 n e) 0 (by simp) S512x8 a rfl rfl 0 rfl (ix2 n ⟨e.val, h⟩)
      (fun c hc => by match c with | ⟨0, _⟩ => rfl | ⟨1, _⟩ => exact absurd rfl hc) (Nat.zero_add _)
  · rw [dif_neg h]
    by_cases h' : e.val < 16
    · rw [dif_pos h']
      exact concatenate_apply_piece (t := S512x64) (1 : Fin 2) _ _ (ix2 n e) 1 (by simp) S512x8 b rfl rfl 8 rfl (ix2 n ⟨e.val - 8, by omega⟩)
        (fun c hc => by match c with | ⟨0, _⟩ => rfl | ⟨1, _⟩ => exact absurd rfl hc) (show 8 + (e.val - 8) = e.val by omega)
    · rw [dif_neg h']
      exact concatenate_apply_piece (t := S512x64) (1 : Fin 2) _ _ (ix2 n e) 2 (by simp) S512x48 d rfl rfl 16 rfl (ix2 n ⟨e.val - 16, by omega⟩)
        (fun c hc => by match c with | ⟨0, _⟩ => rfl | ⟨1, _⟩ => exact absurd rfl hc) (show 16 + (e.val - 16) = e.val by omega)

theorem twice_apply (a : FVec Ideal S512x64 .f32) (n : Fin 512) (L : Fin 128) :
    twice a (ix2 n L) = a (ix2 n (⟨L.val % 64, Nat.mod_lt _ (by norm_num)⟩ : Fin 64)) :=
  concatenate_replicate_apply (t := S512x128) (s₁ := S512x64) (1 : Fin 2) 2 a _ rfl (ix2 n L)
    (ix2 n (⟨L.val % 64, Nat.mod_lt _ (by norm_num)⟩ : Fin 64)) rfl (fun b hb => by
      match b with
      | ⟨0, _⟩ => rfl
      | ⟨1, _⟩ => exact absurd rfl hb)

def ones48 : FVec Ideal S512x48 .f32 := broadcastInDim S512x48 ![] bcast_S_S512x48 (constant S_ .f32 0x3F800000#32)
def zeros48 : FVec Ideal S512x48 .f32 := broadcastInDim S512x48 ![] bcast_S_S512x48 (constant S_ .f32 0x00000000#32)
def zeros8 : FVec Ideal S512x8 .f32 := broadcastInDim S512x8 ![] bcast_S_S512x8 (constant S_ .f32 0x00000000#32)

theorem tableC (n : Fin 512) (L : Fin 128) : twice (lanes cosT cosT ones48) (ix2 n L) = tabC (cosRow (at4 n)) L := by
  rw [twice_apply, lanes_apply]
  unfold tabC
  split
  · exact cosT_apply _ _
  · split
    · exact cosT_apply _ _
    · exact one_f32
theorem tableA (n : Fin 512) (L : Fin 128) : twice (lanes (Host.negf sinT) zeros8 zeros48) (ix2 n L) = tabA (sinRow (at4 n)) L := by
  rw [twice_apply, lanes_apply]
  unfold tabA
  split
  · exact congrArg Neg.neg (sinT_apply _ _)
  · split
    · exact Ideal.ofBits_zero_f32
    · exact Ideal.ofBits_zero_f32
theorem tableB (n : Fin 512) (L : Fin 128) : twice (lanes zeros8 sinT zeros48) (ix2 n L) = tabB (sinRow (at4 n)) L := by
  rw [twice_apply, lanes_apply]
  unfold tabB
  by_cases h : L.val % 64 < 8
  · rw [dif_pos h, if_pos h]; exact Ideal.ofBits_zero_f32
  · rw [dif_neg h, if_neg h]
    split
    · exact sinT_apply _ _
    · exact Ideal.ofBits_zero_f32

variable (m : (ℓ : Loc nD τ sig) → Buf (Elt Ideal) ℓ) (c : Dev nD)

abbrev argX : S128x4x1024.Idx → EReal := m ((c : Thread nD τ).loc main_arg0)
abbrev argW : S1024x3592.Idx → EReal := m ((c : Thread nD τ).loc main_arg1)

theorem V_v6 : (V m c main_v6 : S512x1024.Idx → EReal) = fun i => shapeCast S512x1024 (argX m c) shapeCasts_S128x4x1024_S512x1024 i := by
  unfold V; after_results; rfl
theorem V_v5 : (V m c main_v5 : S1024x3712.Idx → EReal) = weights (argW m c) := by
  unfold V; after_results; rfl
theorem V_v38 : (V m c main_v38 : S512x128.Idx → EReal) = twice (lanes cosT cosT ones48) := by
  unfold V; after_results; rfl
theorem V_v39 : (V m c main_v39 : S512x128.Idx → EReal) = twice (lanes (Host.negf sinT) zeros8 zeros48) := by
  unfold V; after_results; rfl
theorem V_v40 : (V m c main_v40 : S512x128.Idx → EReal) = twice (lanes zeros8 sinT zeros48) := by
  unfold V; after_results; rfl

end Cert.InProjSampleIdeal.Proj
end
-- ==== Proof.InProjSample.Array.lean ====
module
public import proofs.«01_k».proof.Proof.InProjSample.Tables
/-!
# The input projection of the sample: the arrays after the call

The one block holds the 512 rows of all sequences, and the rotation tables a row for each.
-/
@[expose] public section
noncomputable section
namespace Cert.InProjSampleIdeal.Proj
open Cert.InProjSampleIdeal Cert.InProjSampleIdeal.Gen Idealize.ShloMosaic Idealize.ShloMosaic.TcCoe Idealize.SL.Sem
open Idealize.ShloMosaic.ValueIdx
open Cert.InProjIdeal.Proj (rot tabC tabA tabB cols weights weights_apply)

/-- Row `R` (4 rows a sequence) times column `j` of the weights. -/
def dot (x : S128x4x1024.Idx → EReal) (w : S1024x3592.Idx → EReal) (R : Fin 512) (j : Fin 3592) : EReal :=
  ∑ k : Fin 1024, x (ix3 (⟨R.val / 4, by omega⟩ : Fin 128) (⟨R.val % 4, Nat.mod_lt _ (by norm_num)⟩ : Fin 4) k) * w (ix2 k j)
/-- The position of row `R` in its sequence. -/
def pos (R : Fin 512) : Fin 4 := ⟨R.val % 4, Nat.mod_lt _ (by norm_num)⟩
/-- 512 columns from column `o`, rotated by the row's position. -/
def rotated (x : S128x4x1024.Idx → EReal) (w : S1024x3592.Idx → EReal) (o : ℕ) (ho : o + 512 ≤ 3592) (R : Fin 512) (j : Fin 512) : EReal :=
  rot (cosRow (pos R)) (sinRow (pos R)) (fun j => dot x w R ⟨o + j.val, by omega⟩) j

/-- The queries, rotated and scaled. -/
def resQ (x : S128x4x1024.Idx → EReal) (w : S1024x3592.Idx → EReal) : S512x512.Idx → EReal := fun i =>
  rotated x w 0 (by norm_num) (i 0) (i 1) * Ideal.ofBits .f32 0x3E000000#32
/-- The keys, rotated. -/
def resK (x : S128x4x1024.Idx → EReal) (w : S1024x3592.Idx → EReal) : S512x512.Idx → EReal := fun i => rotated x w 512 (by norm_num) (i 0) (i 1)
/-- The values. -/
def resV (x : S128x4x1024.Idx → EReal) (w : S1024x3592.Idx → EReal) : S512x512.Idx → EReal := fun i =>
  dot x w (i 0) ⟨1024 + (i 1).val, by have : (i 1).val < 512 := (i 1).isLt; omega⟩
/-- The recurrence's queries, keys and values before their convolution. -/
def resN (x : S128x4x1024.Idx → EReal) (w : S1024x3592.Idx → EReal) : S512x1536.Idx → EReal := fun i =>
  dot x w (i 0) ⟨1536 + (i 1).val, by have : (i 1).val < 1536 := (i 1).isLt; omega⟩
/-- The recurrence's gate. -/
def resZ (x : S128x4x1024.Idx → EReal) (w : S1024x3592.Idx → EReal) : S512x512.Idx → EReal := fun i =>
  dot x w (i 0) ⟨3080 + (i 1).val, by have : (i 1).val < 512 := (i 1).isLt; omega⟩
/-- The recurrence's eight decay and write logits, and zeros. -/
def resA (x : S128x4x1024.Idx → EReal) (w : S1024x3592.Idx → EReal) : S512x128.Idx → EReal := fun i =>
  if h : (i 1).val < 8 then dot x w (i 0) ⟨3072 + (i 1).val, by omega⟩ else 0

variable (m : (ℓ : Loc nD τ sig) → Buf (Elt Ideal) ℓ) (c : Dev nD)

theorem index_facts : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by decide +kernel
theorem N_lt (t : Fin cfg0.N) : t.val < 1 := by have := t.isLt; have h : cfg0.N = 1 := N_0; omega

/-- Row `r` of block `t`. -/
def row (t : Fin cfg0.N) (r : Fin 512) : Fin 512 := ⟨512 * t.val + r.val, by have := N_lt t; omega⟩

theorem block0 (t : Fin cfg0.N) (r : Fin 512) (k : Fin 1024) :
    (iblk m c 0 t : S512x1024.Idx → EReal) (ix2 r k)
      = argX m c (ix3 (⟨(row t r).val / 4, by have := (row t r).isLt; omega⟩ : Fin 128) (⟨(row t r).val % 4, Nat.mod_lt _ (by norm_num)⟩ : Fin 4) k) := by
  have ht := N_lt t
  obtain ⟨⟨i0, i1⟩, -⟩ := index_facts t
  unfold iblk
  rw [View.read_apply]
  show (V m c main_v6 : S512x1024.Idx → EReal) _ = _
  rw [V_v6]
  refine shapeCast_apply _ _ _ _ ?_
  rw [Shape.rowMajor_val_three, Shape.rowMajor_val_two]
  show ((512 * t.val + r.val) / 4 * 4 + (512 * t.val + r.val) % 4) * 1024 + k.val = (win0_0.index t 0 * 512 + 1 * r.val) * 1024 + (win0_0.index t 1 * 1024 + 1 * k.val)
  rw [i0, i1]; omega

theorem block1 (t : Fin cfg0.N) (k : Fin 1024) (j : Fin 3712) : (iblk m c 1 t : S1024x3712.Idx → EReal) (ix2 k j) = weights (argW m c) (ix2 k j) := by
  obtain ⟨-, ⟨i0, i1⟩, -⟩ := index_facts t
  unfold iblk
  rw [View.read_apply]
  show (V m c main_v5 : S1024x3712.Idx → EReal) _ = _
  rw [V_v5]
  congr 1
  funext a
  apply Fin.ext
  match a with
  | ⟨0, _⟩ => show win0_1.index t 0 * 1024 + 1 * k.val = k.val; rw [i0]; omega
  | ⟨1, _⟩ => show win0_1.index t 1 * 3712 + 1 * j.val = j.val; rw [i1]; omega

theorem block2 (t : Fin cfg0.N) (r : Fin 512) (L : Fin 128) :
    (iblk m c 2 t : S512x128.Idx → EReal) (ix2 r L) = tabC (cosRow (pos (row t r))) L := by
  have ht := N_lt t
  obtain ⟨-, -, ⟨i0, i1⟩, -⟩ := index_facts t
  unfold iblk
  rw [View.read_apply]
  show (V m c main_v38 : S512x128.Idx → EReal) _ = _
  rw [V_v38, show pos (row t r) = at4 (row t r) from rfl, ← tableC]
  congr 1
  funext a
  apply Fin.ext
  match a with
  | ⟨0, _⟩ => show win0_2.index t 0 * 512 + 1 * r.val = 512 * t.val + r.val; rw [i0]; omega
  | ⟨1, _⟩ => show win0_2.index t 1 * 128 + 1 * L.val = L.val; rw [i1]; omega

theorem block3 (t : Fin cfg0.N) (r : Fin 512) (L : Fin 128) :
    (iblk m c 3 t : S512x128.Idx → EReal) (ix2 r L) = tabA (sinRow (pos (row t r))) L := by
  have ht := N_lt t
  obtain ⟨-, -, -, ⟨i0, i1⟩, -⟩ := index_facts t
  unfold iblk
  rw [View.read_apply]
  show (V m c main_v39 : S512x128.Idx → EReal) _ = _
  rw [V_v39, show pos (row t r) = at4 (row t r) from rfl, ← tableA]
  congr 1
  funext a
  apply Fin.ext
  match a with
  | ⟨0, _⟩ => show win0_3.index t 0 * 512 + 1 * r.val = 512 * t.val + r.val; rw [i0]; omega
  | ⟨1, _⟩ => show win0_3.index t 1 * 128 + 1 * L.val = L.val; rw [i1]; omega

theorem block4 (t : Fin cfg0.N) (r : Fin 512) (L : Fin 128) :
    (iblk m c 4 t : S512x128.Idx → EReal) (ix2 r L) = tabB (sinRow (pos (row t r))) L := by
  have ht := N_lt t
  obtain ⟨-, -, -, -, i0, i1⟩ := index_facts t
  unfold iblk
  rw [View.read_apply]
  show (V m c main_v40 : S512x128.Idx → EReal) _ = _
  rw [V_v40, show pos (row t r) = at4 (row t r) from rfl, ← tableB]
  congr 1
  funext a
  apply Fin.ext
  match a with
  | ⟨0, _⟩ => show win0_4.index t 0 * 512 + 1 * r.val = 512 * t.val + r.val; rw [i0]; omega
  | ⟨1, _⟩ => show win0_4.index t 1 * 128 + 1 * L.val = L.val; rw [i1]; omega

/-- The columns of the call's product, as columns of the weights given. -/
theorem cols_low (t : Fin cfg0.N) (r : Fin 512) (n o : ℕ) (ho : o + n ≤ 3712) (hl : o + n ≤ 3072) (j : Fin n) :
    cols (iblk m c 0 t) (iblk m c 1 t) r n o ho j = dot (argX m c) (argW m c) (row t r) ⟨o + j.val, by omega⟩ := by
  unfold cols dot
  refine Finset.sum_congr rfl fun k _ => ?_
  rw [block0, block1, weights_apply, dif_pos (show o + j.val < 3072 by omega)]
theorem cols_gate (t : Fin cfg0.N) (r : Fin 512) (j : Fin 512) :
    cols (iblk m c 0 t) (iblk m c 1 t) r 512 3072 (by norm_num) j = dot (argX m c) (argW m c) (row t r) ⟨3080 + j.val, by omega⟩ := by
  unfold cols dot
  refine Finset.sum_congr rfl fun k _ => ?_
  rw [block0, block1, weights_apply, dif_neg (show ¬ 3072 + j.val < 3072 by omega), dif_pos (show 3072 + j.val < 3584 by omega)]
  congr 3
  apply Fin.ext
  show 3072 + j.val + 8 = 3080 + j.val
  omega
theorem cols_logits (t : Fin cfg0.N) (r : Fin 512) (j : Fin 128) :
    cols (iblk m c 0 t) (iblk m c 1 t) r 128 3584 (by norm_num) j
      = if h : j.val < 8 then dot (argX m c) (argW m c) (row t r) ⟨3072 + j.val, by omega⟩ else 0 := by
  unfold cols dot
  by_cases h : j.val < 8
  · rw [dif_pos h]
    refine Finset.sum_congr rfl fun k _ => ?_
    rw [block0, block1, weights_apply, dif_neg (show ¬ 3584 + j.val < 3072 by omega), dif_neg (show ¬ 3584 + j.val < 3584 by omega),
      dif_pos (show 3584 + j.val < 3592 by omega)]
    congr 3
    apply Fin.ext
    show 3584 + j.val - 512 = 3072 + j.val
    omega
  · rw [dif_neg h]
    refine Finset.sum_eq_zero fun k _ => ?_
    rw [block1, weights_apply, dif_neg (show ¬ 3584 + j.val < 3072 by omega), dif_neg (show ¬ 3584 + j.val < 3584 by omega),
      dif_neg (show ¬ 3584 + j.val < 3592 by omega), mul_zero]

theorem index5 : ∀ t : Fin grid0.N, win0_5.index t 0 = t.val ∧ win0_5.index t 1 = 0 := by decide +kernel
theorem flushed5 (t : Fin cfg0.N) :
    (dats m 0 c).flushed 5 t = ((cfg0.win 5).blk t).view.read (Elt Ideal) (resQ (argX m c) (argW m c)) := by
  obtain ⟨i0, i1⟩ := index5 t
  rw [Value.flushed5]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out5 _ _ _ _ _ (cosRow (pos (row t r))) (sinRow (pos (row t r))) r (block2 m c t r) (block3 m c t r) (block4 m c t r) d).trans ?_
  rw [show (cols (iblk m c 0 t) (iblk m c 1 t) r 512 0 (by norm_num)) = fun j => dot (argX m c) (argW m c) (row t r) ⟨0 + j.val, by omega⟩ from
    funext fun j => cols_low m c t r 512 0 (by norm_num) (by norm_num) j]
  have e : (win0_5.blk t).view.emb (ix2 r d) = (ix2 (row t r) d : S512x512.Idx) := by
    funext a; apply Fin.ext
    match a with
    | ⟨0, _⟩ => show win0_5.index t 0 * 512 + 1 * r.val = 512 * t.val + r.val; rw [i0]; omega
    | ⟨1, _⟩ => show win0_5.index t 1 * 512 + 1 * d.val = d.val; rw [i1]; omega
  show _ = resQ (argX m c) (argW m c) ((win0_5.blk t).view.emb (ix2 r d))
  rw [e]
  rfl
theorem array5 : (dats m 0 c).arrAt 5 cfg0.N = resQ (argX m c) (argW m c) :=
  (dats m 0 c).arrAt_eq_of_cover 5 (resQ (argX m c) (argW m c)) (fun t _ => flushed5 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index5 t
    have tv : t.val = (i 0 : Nat) / 512 := rfl
    refine ⟨t, flush0_5 t, ?_⟩
    show i ∈ ((View.whole main_v41_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [j0, tv]; omega
    | ⟨1, _⟩ => show win0_5.index t 1 * 512 ≤ (i 1 : Nat) ∧ (i 1 : Nat) < win0_5.index t 1 * 512 + 512; rw [j1]; omega

theorem index6 : ∀ t : Fin grid0.N, win0_6.index t 0 = t.val ∧ win0_6.index t 1 = 0 := by decide +kernel
theorem flushed6 (t : Fin cfg0.N) :
    (dats m 0 c).flushed 6 t = ((cfg0.win 6).blk t).view.read (Elt Ideal) (resK (argX m c) (argW m c)) := by
  obtain ⟨i0, i1⟩ := index6 t
  rw [Value.flushed6]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out6 _ _ _ _ _ (cosRow (pos (row t r))) (sinRow (pos (row t r))) r (block2 m c t r) (block3 m c t r) (block4 m c t r) d).trans ?_
  rw [show (cols (iblk m c 0 t) (iblk m c 1 t) r 512 512 (by norm_num)) = fun j => dot (argX m c) (argW m c) (row t r) ⟨512 + j.val, by omega⟩ from
    funext fun j => cols_low m c t r 512 512 (by norm_num) (by norm_num) j]
  have e : (win0_6.blk t).view.emb (ix2 r d) = (ix2 (row t r) d : S512x512.Idx) := by
    funext a; apply Fin.ext
    match a with
    | ⟨0, _⟩ => show win0_6.index t 0 * 512 + 1 * r.val = 512 * t.val + r.val; rw [i0]; omega
    | ⟨1, _⟩ => show win0_6.index t 1 * 512 + 1 * d.val = d.val; rw [i1]; omega
  show _ = resK (argX m c) (argW m c) ((win0_6.blk t).view.emb (ix2 r d))
  rw [e]
  rfl
theorem array6 : (dats m 0 c).arrAt 6 cfg0.N = resK (argX m c) (argW m c) :=
  (dats m 0 c).arrAt_eq_of_cover 6 (resK (argX m c) (argW m c)) (fun t _ => flushed6 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index6 t
    have tv : t.val = (i 0 : Nat) / 512 := rfl
    refine ⟨t, flush0_6 t, ?_⟩
    show i ∈ ((View.whole main_v41_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [j0, tv]; omega
    | ⟨1, _⟩ => show win0_6.index t 1 * 512 ≤ (i 1 : Nat) ∧ (i 1 : Nat) < win0_6.index t 1 * 512 + 512; rw [j1]; omega

theorem index7 : ∀ t : Fin grid0.N, win0_7.index t 0 = t.val ∧ win0_7.index t 1 = 0 := by decide +kernel
theorem flushed7 (t : Fin cfg0.N) :
    (dats m 0 c).flushed 7 t = ((cfg0.win 7).blk t).view.read (Elt Ideal) (resV (argX m c) (argW m c)) := by
  obtain ⟨i0, i1⟩ := index7 t
  rw [Value.flushed7]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out7 _ _ _ _ _ r d).trans ?_
  rw [cols_low m c t r 512 1024 (by norm_num) (by norm_num) d]
  have e : (win0_7.blk t).view.emb (ix2 r d) = (ix2 (row t r) d : S512x512.Idx) := by
    funext a; apply Fin.ext
    match a with
    | ⟨0, _⟩ => show win0_7.index t 0 * 512 + 1 * r.val = 512 * t.val + r.val; rw [i0]; omega
    | ⟨1, _⟩ => show win0_7.index t 1 * 512 + 1 * d.val = d.val; rw [i1]; omega
  show _ = resV (argX m c) (argW m c) ((win0_7.blk t).view.emb (ix2 r d))
  rw [e]
  rfl
theorem array7 : (dats m 0 c).arrAt 7 cfg0.N = resV (argX m c) (argW m c) :=
  (dats m 0 c).arrAt_eq_of_cover 7 (resV (argX m c) (argW m c)) (fun t _ => flushed7 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index7 t
    have tv : t.val = (i 0 : Nat) / 512 := rfl
    refine ⟨t, flush0_7 t, ?_⟩
    show i ∈ ((View.whole main_v41_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [j0, tv]; omega
    | ⟨1, _⟩ => show win0_7.index t 1 * 512 ≤ (i 1 : Nat) ∧ (i 1 : Nat) < win0_7.index t 1 * 512 + 512; rw [j1]; omega

theorem index8 : ∀ t : Fin grid0.N, win0_8.index t 0 = t.val ∧ win0_8.index t 1 = 0 := by decide +kernel
theorem flushed8 (t : Fin cfg0.N) :
    (dats m 0 c).flushed 8 t = ((cfg0.win 8).blk t).view.read (Elt Ideal) (resK (argX m c) (argW m c)) := by
  obtain ⟨i0, i1⟩ := index8 t
  rw [Value.flushed8]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out8 _ _ _ _ _ (cosRow (pos (row t r))) (sinRow (pos (row t r))) r (block2 m c t r) (block3 m c t r) (block4 m c t r) d).trans ?_
  rw [show (cols (iblk m c 0 t) (iblk m c 1 t) r 512 512 (by norm_num)) = fun j => dot (argX m c) (argW m c) (row t r) ⟨512 + j.val, by omega⟩ from
    funext fun j => cols_low m c t r 512 512 (by norm_num) (by norm_num) j]
  have e : (win0_8.blk t).view.emb (ix2 r d) = (ix2 (row t r) d : S512x512.Idx) := by
    funext a; apply Fin.ext
    match a with
    | ⟨0, _⟩ => show win0_8.index t 0 * 512 + 1 * r.val = 512 * t.val + r.val; rw [i0]; omega
    | ⟨1, _⟩ => show win0_8.index t 1 * 512 + 1 * d.val = d.val; rw [i1]; omega
  show _ = resK (argX m c) (argW m c) ((win0_8.blk t).view.emb (ix2 r d))
  rw [e]
  rfl
theorem array8 : (dats m 0 c).arrAt 8 cfg0.N = resK (argX m c) (argW m c) :=
  (dats m 0 c).arrAt_eq_of_cover 8 (resK (argX m c) (argW m c)) (fun t _ => flushed8 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index8 t
    have tv : t.val = (i 0 : Nat) / 512 := rfl
    refine ⟨t, flush0_8 t, ?_⟩
    show i ∈ ((View.whole main_v41_3).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512; rw [j0, tv]; omega
    | ⟨1, _⟩ => show win0_8.index t 1 * 512 ≤ (i 1 : Nat) ∧ (i 1 : Nat) < win0_8.index t 1 * 512 + 512; rw [j1]; omega

theorem index9 : ∀ t : Fin grid0.N, win0_9.index t 0 = t.val ∧ win0_9.index t 1 = 0 := by decide +kernel
theorem flushed9 (t : Fin cfg0.N) :
    (dats m 0 c).flushed 9 t = ((cfg0.win 9).blk t).view.read (Elt Ideal) (resV (argX m c) (argW m c)) := by
  obtain ⟨i0, i1⟩ := index9 t
  rw [Value.flushed9]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out9 _ _ _ _ _ r d).trans ?_
  rw [cols_low m c t r 512 1024 (by norm_num) (by norm_num) d]
  have e : (win0_9.blk t).view.emb (ix2 r d) = (ix2 (row t r) d : S512x512.Idx) := by
    funext a; apply Fin.ext
    match a with
    | ⟨0, _⟩ => show win0_9.index t 0 * 512 + 1 * r.val = 512 * t.val + r.val; rw [i0]; omega
    | ⟨1, _⟩ => show win0_9.index t 1 * 512 + 1 * d.val = d.val; rw [i1]; omega
  show _ = resV (argX m c) (argW m c) ((win0_9.blk t).view.emb (ix2 r d))
  rw [e]
  rfl
theorem array9 : (dats m 0 c).arrAt 9 cfg0.N = resV (argX m c) (argW m c) :=
  (dats m 0 c).arrAt_eq_of_cover 9 (resV (argX m c) (argW m c)) (fun t _ => flushed9 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index9 t
    have tv : t.val = (i 0 : Nat) / 512 := rfl
    refine ⟨t, flush0_9 t, ?_⟩
    show i ∈ ((View.whole main_v41_4).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512; rw [j0, tv]; omega
    | ⟨1, _⟩ => show win0_9.index t 1 * 512 ≤ (i 1 : Nat) ∧ (i 1 : Nat) < win0_9.index t 1 * 512 + 512; rw [j1]; omega

theorem index10 : ∀ t : Fin grid0.N, win0_10.index t 0 = t.val ∧ win0_10.index t 1 = 0 := by decide +kernel
theorem flushed10 (t : Fin cfg0.N) :
    (dats m 0 c).flushed 10 t = ((cfg0.win 10).blk t).view.read (Elt Ideal) (resN (argX m c) (argW m c)) := by
  obtain ⟨i0, i1⟩ := index10 t
  rw [Value.flushed10]
  refine funext fun (j : S512x1536.Idx) => ?_
  rw [View.read_apply]
  obtain ⟨r, d, rfl⟩ : ∃ r : Fin 512, ∃ d : Fin 1536, j = ix2 r d := ⟨j 0, j 1, by
    funext a; match a with | ⟨0, _⟩ => rfl | ⟨1, _⟩ => rfl⟩
  refine (out10 _ _ _ _ _ r d).trans ?_
  rw [cols_low m c t r 1536 1536 (by norm_num) (by norm_num) d]
  have e : (win0_10.blk t).view.emb (ix2 r d) = (ix2 (row t r) d : S512x1536.Idx) := by
    funext a; apply Fin.ext
    match a with
    | ⟨0, _⟩ => show win0_10.index t 0 * 512 + 1 * r.val = 512 * t.val + r.val; rw [i0]; omega
    | ⟨1, _⟩ => show win0_10.index t 1 * 1536 + 1 * d.val = d.val; rw [i1]; omega
  show _ = resN (argX m c) (argW m c) ((win0_10.blk t).view.emb (ix2 r d))
  rw [e]
  rfl
theorem array10 : (dats m 0 c).arrAt 10 cfg0.N = resN (argX m c) (argW m c) :=
  (dats m 0 c).arrAt_eq_of_cover 10 (resN (argX m c) (argW m c)) (fun t _ => flushed10 m c t) fun (i : S512x1536.Idx) => by
    have h0 : (i 0 : Nat) < 512 := (i 0).isLt
    have h1 : (i 1 : Nat) < 1536 := (i 1).isLt
    have hN : cfg0.N = 1 := N_0
    let t : Fin cfg0.N := ⟨(i 0 : Nat) / 512, by rw [hN]; omega⟩
    obtain ⟨j0, j1⟩ := index10 t
    have tv : t.val = (i 0 : Nat) / 512 := rfl
    refine ⟨t, flush0_10 t, ?_⟩
    show i ∈ ((View.whole main_v41_5).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; rw [j0, tv]; omega
    | ⟨1, _⟩ => show win0_10.index t 1 * 1536 ≤ (i 1 : Nat) ∧ (i 1 : Nat) < win0_10.index t 1 * 1536 + 1536; rw [j1]; omega

theorem index11 : ∀ t : Fin grid0.N, win0_11.index t 0 = t.val ∧ win0_11.index t 1 = 0 := by decide +kernel
theorem flushed11 (t : Fin cfg0.N) :
    (dats m 0 c).flushed 11 t = ((cfg0.win 11).blk t).view.read (Elt Ideal) (resZ (argX m c) (argW m c)) := by
  obtain ⟨i0, i1⟩ := index11 t
  rw [Value.flushed11]
  refine funext fun (j : S512x512.Idx) => ?_
  rw [View.read_apply]
  obtain ⟨r, d, rfl⟩ : ∃ r : Fin 512, ∃ d : Fin 512, j = ix2 r d := ⟨j 0, j 1, by
    funext a; match a with | ⟨0, _⟩ => rfl | ⟨1, _⟩ => rfl⟩
  refine (out11 _ _ _ _ _ r d).trans ?_
  rw [cols_gate m c t r d]
  have e : (win0_11.blk t).view.emb (ix2 r d) = (ix2 (row t r) d : S512x512.Idx) := by
    funext a; apply Fin.ext
    match a with
    | ⟨0, _⟩ => show win0_11.index t 0 * 512 + 1 * r.val = 512 * t.val + r.val; rw [i0]; omega
    | ⟨1, _⟩ => show win0_11.index t 1 * 512 + 1 * d.val = d.val; rw [i1]; omega
  show _ = resZ (argX m c) (argW m c) ((win0_11.blk t).view.emb (ix2 r d))
  rw [e]
  rfl
theorem array11 : (dats m 0 c).arrAt 11 cfg0.N = resZ (argX m c) (argW m c) :=
  (dats m 0 c).arrAt_eq_of_cover 11 (resZ (argX m c) (argW m c)) (fun t _ => flushed11 m c t) fun (i : S512x512.Idx) => by
    have h0 : (i 0 : Nat) < 512 := (i 0).isLt
    have h1 : (i 1 : Nat) < 512 := (i 1).isLt
    have hN : cfg0.N = 1 := N_0
    let t : Fin cfg0.N := ⟨(i 0 : Nat) / 512, by rw [hN]; omega⟩
    obtain ⟨j0, j1⟩ := index11 t
    have tv : t.val = (i 0 : Nat) / 512 := rfl
    refine ⟨t, flush0_11 t, ?_⟩
    show i ∈ ((View.whole main_v41_6).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512; rw [j0, tv]; omega
    | ⟨1, _⟩ => show win0_11.index t 1 * 512 ≤ (i 1 : Nat) ∧ (i 1 : Nat) < win0_11.index t 1 * 512 + 512; rw [j1]; omega

theorem index12 : ∀ t : Fin grid0.N, win0_12.index t 0 = t.val ∧ win0_12.index t 1 = 0 := by decide +kernel
theorem flushed12 (t : Fin cfg0.N) :
    (dats m 0 c).flushed 12 t = ((cfg0.win 12).blk t).view.read (Elt Ideal) (resA (argX m c) (argW m c)) := by
  obtain ⟨i0, i1⟩ := index12 t
  rw [Value.flushed12]
  refine funext fun (j : S512x128.Idx) => ?_
  rw [View.read_apply]
  obtain ⟨r, d, rfl⟩ : ∃ r : Fin 512, ∃ d : Fin 128, j = ix2 r d := ⟨j 0, j 1, by
    funext a; match a with | ⟨0, _⟩ => rfl | ⟨1, _⟩ => rfl⟩
  refine (out12 _ _ _ _ _ r d).trans ?_
  rw [cols_logits m c t r d]
  have e : (win0_12.blk t).view.emb (ix2 r d) = (ix2 (row t r) d : S512x128.Idx) := by
    funext a; apply Fin.ext
    match a with
    | ⟨0, _⟩ => show win0_12.index t 0 * 512 + 1 * r.val = 512 * t.val + r.val; rw [i0]; omega
    | ⟨1, _⟩ => show win0_12.index t 1 * 128 + 1 * d.val = d.val; rw [i1]; omega
  show _ = resA (argX m c) (argW m c) ((win0_12.blk t).view.emb (ix2 r d))
  rw [e]
  rfl
theorem array12 : (dats m 0 c).arrAt 12 cfg0.N = resA (argX m c) (argW m c) :=
  (dats m 0 c).arrAt_eq_of_cover 12 (resA (argX m c) (argW m c)) (fun t _ => flushed12 m c t) fun (i : S512x128.Idx) => by
    have h0 : (i 0 : Nat) < 512 := (i 0).isLt
    have h1 : (i 1 : Nat) < 128 := (i 1).isLt
    have hN : cfg0.N = 1 := N_0
    let t : Fin cfg0.N := ⟨(i 0 : Nat) / 512, by rw [hN]; omega⟩
    obtain ⟨j0, j1⟩ := index12 t
    have tv : t.val = (i 0 : Nat) / 512 := rfl
    refine ⟨t, flush0_12 t, ?_⟩
    show i ∈ ((View.whole main_v41_7).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512; rw [j0, tv]; omega
    | ⟨1, _⟩ => show win0_12.index t 1 * 128 ≤ (i 1 : Nat) ∧ (i 1 : Nat) < win0_12.index t 1 * 128 + 128; rw [j1]; omega

end Cert.InProjSampleIdeal.Proj
end
-- ==== Proof.InProjSample.Reference.lean ====
module
public import proofs.«01_k».proof.Proof.InProjSample.Array
public import proofs.«01_k».proof.Proof.Gen.InProjSampleReferenceIdeal.Run
public import proofs.«01_k».proof.Proof.Gen.InProjSampleReferenceIdeal.Read
/-!
# The input projection of the sample: what the reference computes

One product with the weights, its columns split, heads and maps reshaped, the first sixteen lanes of each map rotated as pairs.
Read at a row and a column it is what the blocks hold.
-/
@[expose] public section
noncomputable section
namespace Cert.InProjSampleReferenceIdeal.Proj
open Cert.InProjSampleReferenceIdeal Cert.InProjSampleReferenceIdeal.Gen Cert.InProjSampleReferenceIdeal.Read Idealize.ShloMosaic Idealize.ShloMosaic.TcCoe Idealize.SL.Sem
open Idealize.ShloMosaic.ValueIdx
open Cert.InProjIdeal.Proj (rot)
open Cert.InProjSampleIdeal.Proj (dot pos cosRow sinRow theta rotated resQ resK resV resN resZ resA)

variable (x : S128x4x1024.Idx → EReal) (w : S1024x3592.Idx → EReal)

/-- The product at row `R`, column `j`. -/
theorem at_row (i : S128x4x3592.Idx) (R : Fin 512) (j : Fin 3592) (h0 : (i 0).val = R.val / 4) (h1 : (i 1).val = R.val % 4)
    (h2 : (i 2).val = j.val) : val_main_v3 (F := Ideal) x w i = dot x w R j := by
  rw [val_main_v3_apply]
  unfold dot
  refine Finset.sum_congr rfl fun k _ => ?_
  congr 2
  · funext a; apply Fin.ext
    match a with
    | ⟨0, _⟩ => exact h0
    | ⟨1, _⟩ => exact h1
    | ⟨2, _⟩ => rfl
  · funext a; apply Fin.ext
    match a with
    | ⟨0, _⟩ => rfl
    | ⟨1, _⟩ => exact h2

theorem cos_apply (i : S128x4x4x2x8.Idx) : val_main_v35 (F := Ideal) i = cosRow (i 1) (i 4) := by
  rw [val_main_v35_apply, val_main_v34_apply, val_main_v29_apply, val_main_v28_apply]
  show FloatOps.hostUnary (F := Ideal) (φ := .f32) .cos _ = FloatOps.hostUnary (F := Ideal) (φ := .f32) .cos _
  congr 1
theorem sin_apply (i : S128x4x4x2x8.Idx) : val_main_v38 (F := Ideal) i = sinRow (i 1) (i 4) := by
  rw [val_main_v38_apply, val_main_v37_apply, val_main_v31_apply, val_main_v30_apply]
  show FloatOps.hostUnary (F := Ideal) (φ := .f32) .sin _ = FloatOps.hostUnary (F := Ideal) (φ := .f32) .sin _
  congr 1

/-- The eight lanes from lane `o`. -/
def first (y : FVec Ideal S128x4x4x2x64 .f32) : FVec Ideal S128x4x4x2x8 .f32 :=
  extractStridedSlice S128x4x4x2x8 ![0, 0, 0, 0, 0] y slices_S128x4x4x2x64_S128x4x4x2x8_0_0_0_0_0
def second (y : FVec Ideal S128x4x4x2x64 .f32) : FVec Ideal S128x4x4x2x8 .f32 :=
  extractStridedSlice S128x4x4x2x8 ![0, 0, 0, 0, 8] y slices_S128x4x4x2x64_S128x4x4x2x8_0_0_0_0_8
def rest (y : FVec Ideal S128x4x4x2x64 .f32) : FVec Ideal S128x4x4x2x48 .f32 :=
  extractStridedSlice S128x4x4x2x48 ![0, 0, 0, 0, 16] y slices_S128x4x4x2x64_S128x4x4x2x48_0_0_0_0_16
def turned (y : FVec Ideal S128x4x4x2x64 .f32) : FVec Ideal S128x4x4x2x16 .f32 :=
  concatenate S128x4x4x2x16 4 [⟨S128x4x4x2x8, subf (mulf (first y) (val_main_v35 (F := Ideal))) (mulf (second y) (val_main_v38 (F := Ideal)))⟩,
    ⟨S128x4x4x2x8, addf (mulf (second y) (val_main_v35 (F := Ideal))) (mulf (first y) (val_main_v38 (F := Ideal)))⟩]
    concatenates_S128x4x4x2x8_S128x4x4x2x8_S128x4x4x2x16_d4
/-- The reference's rotation of an array of heads. -/
def rotOf (y : FVec Ideal S128x4x4x2x64 .f32) : FVec Ideal S128x4x4x2x64 .f32 :=
  concatenate S128x4x4x2x64 4 [⟨S128x4x4x2x16, turned y⟩, ⟨S128x4x4x2x48, rest y⟩]
    concatenates_S128x4x4x2x16_S128x4x4x2x48_S128x4x4x2x64_d4

theorem v50_eq : val_main_v50 (F := Ideal) x w = rotOf (val_main_v11 (F := Ideal) x w) := rfl
theorem v90_eq : val_main_v90 (F := Ideal) x w = rotOf (val_main_v51 (F := Ideal) x w) := rfl

section
variable (y : FVec Ideal S128x4x4x2x64 .f32) (b : Fin 128) (n : Fin 4) (h : Fin 4) (c : Fin 2)

theorem first_apply (e : Fin 8) : first y (ix5 b n h c e) = y (ix5 b n h c (⟨e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm)
theorem second_apply (e : Fin 8) : second y (ix5 b n h c e) = y (ix5 b n h c (⟨8 + e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)
theorem rest_apply (e : Fin 48) : rest y (ix5 b n h c e) = y (ix5 b n h c (⟨16 + e.val, by omega⟩ : Fin 64)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl)

theorem turned_low (e : Fin 8) : turned y (ix5 b n h c (⟨e.val, by omega⟩ : Fin 16))
    = y (ix5 b n h c (⟨e.val, by omega⟩ : Fin 64)) * cosRow n e - y (ix5 b n h c (⟨8 + e.val, by omega⟩ : Fin 64)) * sinRow n e := by
  unfold turned
  refine (concatenate_pair_apply_left (t := S128x4x4x2x16) (s₁ := S128x4x4x2x8) (s₂ := S128x4x4x2x8) (4 : Fin 5) _ _ _ _ rfl (ix5 b n h c e)
    (fun a => by
      match a with
      | ⟨0, _⟩ => rfl
      | ⟨1, _⟩ => rfl
      | ⟨2, _⟩ => rfl
      | ⟨3, _⟩ => rfl
      | ⟨4, _⟩ => rfl)).trans ?_
  show first y (ix5 b n h c e) * val_main_v35 (F := Ideal) (ix5 b n h c e) - second y (ix5 b n h c e) * val_main_v38 (F := Ideal) (ix5 b n h c e) = _
  rw [first_apply, second_apply, cos_apply, sin_apply]
theorem turned_high (e : Fin 8) : turned y (ix5 b n h c (⟨8 + e.val, by omega⟩ : Fin 16))
    = y (ix5 b n h c (⟨8 + e.val, by omega⟩ : Fin 64)) * cosRow n e + y (ix5 b n h c (⟨e.val, by omega⟩ : Fin 64)) * sinRow n e := by
  unfold turned
  refine (concatenate_pair_apply_right (t := S128x4x4x2x16) (s₁ := S128x4x4x2x8) (s₂ := S128x4x4x2x8) (4 : Fin 5) _ _ _ _ rfl rfl (ix5 b n h c e)
    (fun a ha => by
      match a with
      | ⟨0, _⟩ => rfl
      | ⟨1, _⟩ => rfl
      | ⟨2, _⟩ => rfl
      | ⟨3, _⟩ => rfl
      | ⟨4, _⟩ => exact absurd rfl ha) (Nat.add_comm _ _)).trans ?_
  show second y (ix5 b n h c e) * val_main_v35 (F := Ideal) (ix5 b n h c e) + first y (ix5 b n h c e) * val_main_v38 (F := Ideal) (ix5 b n h c e) = _
  rw [first_apply, second_apply, cos_apply, sin_apply]
theorem rotOf_low (e : Fin 16) : rotOf y (ix5 b n h c (⟨e.val, by omega⟩ : Fin 64)) = turned y (ix5 b n h c e) := by
  unfold rotOf
  exact concatenate_pair_apply_left (t := S128x4x4x2x64) (s₁ := S128x4x4x2x16) (s₂ := S128x4x4x2x48) (4 : Fin 5) _ _ _ _ rfl (ix5 b n h c e)
    (fun a => by
      match a with
      | ⟨0, _⟩ => rfl
      | ⟨1, _⟩ => rfl
      | ⟨2, _⟩ => rfl
      | ⟨3, _⟩ => rfl
      | ⟨4, _⟩ => rfl)
theorem rotOf_high (e : Fin 48) : rotOf y (ix5 b n h c (⟨16 + e.val, by omega⟩ : Fin 64)) = y (ix5 b n h c (⟨16 + e.val, by omega⟩ : Fin 64)) := by
  rw [← rest_apply y b n h c e]
  unfold rotOf
  exact concatenate_pair_apply_right (t := S128x4x4x2x64) (s₁ := S128x4x4x2x16) (s₂ := S128x4x4x2x48) (4 : Fin 5) _ _ _ _ rfl rfl (ix5 b n h c e)
    (fun a ha => by
      match a with
      | ⟨0, _⟩ => rfl
      | ⟨1, _⟩ => rfl
      | ⟨2, _⟩ => rfl
      | ⟨3, _⟩ => rfl
      | ⟨4, _⟩ => exact absurd rfl ha) (Nat.add_comm _ _)

/-- Where the array's heads and maps are the lanes of a flat row, the reference's rotation is the row's. -/
theorem rotOf_row (T : Fin 512 → EReal) (hT : ∀ e : Fin 64, y (ix5 b n h c e) = T ⟨128 * h.val + 64 * c.val + e.val, by omega⟩) (e : Fin 64) :
    rotOf y (ix5 b n h c e) = rot (cosRow n) (sinRow n) T ⟨128 * h.val + 64 * c.val + e.val, by omega⟩ := by
  have he := e.isLt
  have hm : (128 * h.val + 64 * c.val + e.val) % 64 = e.val := by omega
  unfold rot
  by_cases h8 : e.val < 8
  · rw [dif_pos (show (128 * h.val + 64 * c.val + e.val) % 64 < 8 by omega)]
    refine (rotOf_low y b n h c ⟨e.val, by omega⟩).trans ((turned_low y b n h c ⟨e.val, h8⟩).trans ?_)
    rw [hT, hT]
    simp only [hm]
    congr 4
    show 128 * h.val + 64 * c.val + (8 + e.val) = 128 * h.val + 64 * c.val + e.val + 8
    omega
  rw [dif_neg (show ¬ (128 * h.val + 64 * c.val + e.val) % 64 < 8 by omega)]
  by_cases h16 : e.val < 16
  · rw [dif_pos (show (128 * h.val + 64 * c.val + e.val) % 64 < 16 by omega)]
    have ee : e.val = 8 + (e.val - 8) := by omega
    have e1 : (⟨8 + (e.val - 8), by omega⟩ : Fin 64) = e := Fin.ext (by show 8 + (e.val - 8) = e.val; omega)
    have k1 := turned_high y b n h c ⟨e.val - 8, by omega⟩
    have k2 := rotOf_low y b n h c ⟨8 + (e.val - 8), by omega⟩
    simp only [e1] at k1 k2
    rw [k2, k1, hT, hT]
    simp only [hm]
    congr 3
    apply Fin.ext
    show 128 * h.val + 64 * c.val + (e.val - 8) = 128 * h.val + 64 * c.val + e.val - 8
    omega
  · rw [dif_neg (show ¬ (128 * h.val + 64 * c.val + e.val) % 64 < 16 by omega)]
    have e1 : (⟨16 + (e.val - 16), by omega⟩ : Fin 64) = e := Fin.ext (by show 16 + (e.val - 16) = e.val; omega)
    have k := rotOf_high y b n h c ⟨e.val - 16, by omega⟩
    simp only [e1] at k
    rw [k, hT]
end

/-- The queries of the product, head by head, are its first 512 columns; the keys the next. -/
theorem v11_row (R : Fin 512) (b : Fin 128) (n : Fin 4) (hb : b.val = R.val / 4) (hn : n.val = R.val % 4) (h : Fin 4) (c : Fin 2) (e : Fin 64) :
    val_main_v11 (F := Ideal) x w (ix5 b n h c e) = dot x w R ⟨0 + (128 * h.val + 64 * c.val + e.val), by omega⟩ := by
  rw [val_main_v11_apply, val_main_v4_apply]
  refine at_row x w _ R _ ?_ ?_ ?_
  · show ((((b.val * 4 + n.val) * 4 + h.val) * 2 + c.val) * 64 + e.val) / 2048 = R.val / 4; omega
  · show ((((b.val * 4 + n.val) * 4 + h.val) * 2 + c.val) * 64 + e.val) / 512 % 4 = R.val % 4; omega
  · show ((((b.val * 4 + n.val) * 4 + h.val) * 2 + c.val) * 64 + e.val) % 512 = 0 + (128 * h.val + 64 * c.val + e.val); omega
theorem v51_row (R : Fin 512) (b : Fin 128) (n : Fin 4) (hb : b.val = R.val / 4) (hn : n.val = R.val % 4) (h : Fin 4) (c : Fin 2) (e : Fin 64) :
    val_main_v51 (F := Ideal) x w (ix5 b n h c e) = dot x w R ⟨512 + (128 * h.val + 64 * c.val + e.val), by omega⟩ := by
  rw [val_main_v51_apply, val_main_v5_apply]
  refine at_row x w _ R _ ?_ ?_ ?_
  · show ((((b.val * 4 + n.val) * 4 + h.val) * 2 + c.val) * 64 + e.val) / 2048 = R.val / 4; omega
  · show ((((b.val * 4 + n.val) * 4 + h.val) * 2 + c.val) * 64 + e.val) / 512 % 4 = R.val % 4; omega
  · show 512 + ((((b.val * 4 + n.val) * 4 + h.val) * 2 + c.val) * 64 + e.val) % 512 = 512 + (128 * h.val + 64 * c.val + e.val); omega

/-- Row `R`, column `j` as sequence, position, head, map and lane. -/
def split (R : Fin 512) (j : Fin 512) : S128x4x4x2x64.Idx :=
  ix5 (⟨R.val / 4, by omega⟩ : Fin 128) (pos R) (⟨j.val / 128, by omega⟩ : Fin 4) (⟨j.val / 64 % 2, by omega⟩ : Fin 2) (⟨j.val % 64, by omega⟩ : Fin 64)

theorem rotOf_split (y : FVec Ideal S128x4x4x2x64 .f32) (T : Fin 512 → EReal) (R : Fin 512)
    (hT : ∀ (h : Fin 4) (c : Fin 2) (e : Fin 64), y (ix5 (⟨R.val / 4, by omega⟩ : Fin 128) (pos R) h c e) = T ⟨128 * h.val + 64 * c.val + e.val, by omega⟩) (j : Fin 512) :
    rotOf y (split R j) = rot (cosRow (pos R)) (sinRow (pos R)) T j := by
  refine (rotOf_row y _ _ _ _ T (hT _ _) _).trans ?_
  congr 1
  apply Fin.ext
  show 128 * (j.val / 128) + 64 * (j.val / 64 % 2) + j.val % 64 = j.val
  omega

theorem queries (R : Fin 512) (j : Fin 512) : val_main_v50 (F := Ideal) x w (split R j) = rotated x w 0 (by norm_num) R j := by
  rw [v50_eq]
  exact rotOf_split _ (fun j => dot x w R ⟨0 + j.val, by omega⟩) R (fun h c e => v11_row x w R _ _ rfl rfl h c e) j
theorem keys (R : Fin 512) (j : Fin 512) : val_main_v90 (F := Ideal) x w (split R j) = rotated x w 512 (by norm_num) R j := by
  rw [v90_eq]
  exact rotOf_split _ (fun j => dot x w R ⟨512 + j.val, by omega⟩) R (fun h c e => v51_row x w R _ _ rfl rfl h c e) j

theorem split_eq (R : Fin 512) (j : Fin 512) (i : S128x4x4x2x64.Idx) (h0 : (i 0).val = (R.val * 512 + j.val) / 2048)
    (h1 : (i 1).val = (R.val * 512 + j.val) / 512 % 4) (h2 : (i 2).val = (R.val * 512 + j.val) / 128 % 4)
    (h3 : (i 3).val = (R.val * 512 + j.val) / 64 % 2) (h4 : (i 4).val = (R.val * 512 + j.val) % 64) : i = split R j := by
  funext a; apply Fin.ext
  match a with
  | ⟨0, _⟩ => refine h0.trans ?_; show _ = R.val / 4; omega
  | ⟨1, _⟩ => refine h1.trans ?_; show _ = R.val % 4; omega
  | ⟨2, _⟩ => refine h2.trans ?_; show _ = j.val / 128; omega
  | ⟨3, _⟩ => refine h3.trans ?_; show _ = j.val / 64 % 2; omega
  | ⟨4, _⟩ => refine h4.trans ?_; show _ = j.val % 64; omega

theorem ref_q : val_main_v98 (F := Ideal) x w = resQ x w := by
  refine funext fun (i : S512x512.Idx) => ?_
  rw [val_main_v98_apply, split_eq (i 0) (i 1) (idx_main_v98 i) rfl rfl rfl rfl rfl]
  show val_main_v50 (F := Ideal) x w (split (i 0) (i 1)) * val_main_v95 (F := Ideal) (split (i 0) (i 1)) = _
  refine (congrArg (· * val_main_v95 (F := Ideal) (split (i 0) (i 1))) (queries x w (i 0) (i 1))).trans ?_
  show _ * val_main_v95 (F := Ideal) _ = _
  rw [val_main_v95_apply]
  rfl
theorem ref_k : val_main_v99 (F := Ideal) x w = resK x w := by
  refine funext fun (i : S512x512.Idx) => ?_
  rw [val_main_v99_apply, split_eq (i 0) (i 1) (idx_main_v99 i) rfl rfl rfl rfl rfl]
  exact keys x w (i 0) (i 1)
theorem ref_kb : val_main_v102 (F := Ideal) x w = resK x w := by
  refine funext fun (i : S512x512.Idx) => ?_
  rw [val_main_v102_apply, split_eq (i 0) (i 1) (idx_main_v102 i) rfl rfl rfl rfl rfl]
  exact keys x w (i 0) (i 1)
theorem ref_v : val_main_v100 (F := Ideal) x w = resV x w := by
  refine funext fun (i : S512x512.Idx) => ?_
  have h0 : (i 0).val < 512 := (i 0).isLt
  have h1 : (i 1).val < 512 := (i 1).isLt
  rw [val_main_v100_apply, val_main_v6_apply]
  refine at_row x w _ (i 0) _ ?_ ?_ ?_
  · show ((i 0).val * 512 + (i 1).val) / 2048 = (i 0).val / 4; omega
  · show ((i 0).val * 512 + (i 1).val) / 512 % 4 = (i 0).val % 4; omega
  · show 1024 + ((i 0).val * 512 + (i 1).val) % 512 = 1024 + (i 1).val; omega
theorem ref_vb : val_main_v104 (F := Ideal) x w = resV x w := ref_v x w
theorem ref_n : val_main_v105 (F := Ideal) x w = resN x w := by
  refine funext fun (i : S512x1536.Idx) => ?_
  have h0 : (i 0).val < 512 := (i 0).isLt
  have h1 : (i 1).val < 1536 := (i 1).isLt
  rw [val_main_v105_apply, val_main_v7_apply]
  refine at_row x w _ (i 0) _ ?_ ?_ ?_
  · show ((i 0).val * 1536 + (i 1).val) / 6144 = (i 0).val / 4; omega
  · show ((i 0).val * 1536 + (i 1).val) / 1536 % 4 = (i 0).val % 4; omega
  · show 1536 + ((i 0).val * 1536 + (i 1).val) % 1536 = 1536 + (i 1).val; omega
theorem ref_z : val_main_v106 (F := Ideal) x w = resZ x w := by
  refine funext fun (i : S512x512.Idx) => ?_
  have h0 : (i 0).val < 512 := (i 0).isLt
  have h1 : (i 1).val < 512 := (i 1).isLt
  rw [val_main_v106_apply, val_main_v10_apply]
  refine at_row x w _ (i 0) _ ?_ ?_ ?_
  · show ((i 0).val * 512 + (i 1).val) / 2048 = (i 0).val / 4; omega
  · show ((i 0).val * 512 + (i 1).val) / 512 % 4 = (i 0).val % 4; omega
  · show 3080 + ((i 0).val * 512 + (i 1).val) % 512 = 3080 + (i 1).val; omega

theorem ref_a : val_main_v94 (F := Ideal) x w = resA x w := by
  refine funext fun (i : S512x128.Idx) => ?_
  obtain ⟨R, L, rfl⟩ : ∃ R : Fin 512, ∃ L : Fin 128, i = ix2 R L := ⟨i 0, i 1, by
    funext a; match a with | ⟨0, _⟩ => rfl | ⟨1, _⟩ => rfl⟩
  have hR := R.isLt
  have hL := L.isLt
  unfold val_main_v94 resA
  show _ = if h : L.val < 8 then dot x w R ⟨3072 + L.val, by omega⟩ else 0
  by_cases h4 : L.val < 4
  · rw [dif_pos (show L.val < 8 by omega)]
    refine (concatenate_apply_piece (t := S512x128) (1 : Fin 2) _ _ (ix2 R L) 0 (by simp) S512x4 _ rfl rfl 0 rfl (ix2 R ⟨L.val, h4⟩)
      (fun c hc => by match c with | ⟨0, _⟩ => rfl | ⟨1, _⟩ => exact absurd rfl hc) (Nat.zero_add _)).trans ?_
    rw [val_main_v91_apply, val_main_v8_apply]
    refine at_row x w _ R _ ?_ ?_ ?_
    · show (R.val * 4 + L.val) / 16 = R.val / 4; omega
    · show (R.val * 4 + L.val) / 4 % 4 = R.val % 4; omega
    · show 3072 + (R.val * 4 + L.val) % 4 = 3072 + L.val; omega
  by_cases h8 : L.val < 8
  · rw [dif_pos h8]
    refine (concatenate_apply_piece (t := S512x128) (1 : Fin 2) _ _ (ix2 R L) 1 (by simp) S512x4 _ rfl rfl 4 rfl (ix2 R ⟨L.val - 4, by omega⟩)
      (fun c hc => by match c with | ⟨0, _⟩ => rfl | ⟨1, _⟩ => exact absurd rfl hc) (show 4 + (L.val - 4) = L.val by omega)).trans ?_
    rw [val_main_v92_apply, val_main_v9_apply]
    refine at_row x w _ R _ ?_ ?_ ?_
    · show (R.val * 4 + (L.val - 4)) / 16 = R.val / 4; omega
    · show (R.val * 4 + (L.val - 4)) / 4 % 4 = R.val % 4; omega
    · show 3076 + (R.val * 4 + (L.val - 4)) % 4 = 3072 + L.val; omega
  · rw [dif_neg h8]
    refine (concatenate_apply_piece (t := S512x128) (1 : Fin 2) _ _ (ix2 R L) 2 (by simp) S512x120 _ rfl rfl 8 rfl (ix2 R ⟨L.val - 8, by omega⟩)
      (fun c hc => by match c with | ⟨0, _⟩ => rfl | ⟨1, _⟩ => exact absurd rfl hc) (show 8 + (L.val - 8) = L.val by omega)).trans ?_
    rw [val_main_v93_apply]
    exact Ideal.ofBits_zero_f32

end Cert.InProjSampleReferenceIdeal.Proj
end
-- ==== Proof.InProjSample.Equal.lean ====
module
public import proofs.«01_k».proof.Defs
public import proofs.«01_k».proof.Proof.Gen.InProjSample.Frame
public import proofs.«01_k».proof.Proof.Gen.InProjSampleIdeal.Value
public import proofs.«01_k».proof.Proof.Gen.InProjSampleReferenceIdeal.Run
public import proofs.«01_k».proof.Proof.Gen.InProjSampleReferenceIdeal.Read
public import proofs.«01_k».proof.Proof.InProjSample.Reference
public import Idealize.ShloMosaic.Lib.Quiescent
/-!
# The claims of the input projection of the sample
-/
@[expose] public section
noncomputable section
namespace Cert.Proof
open Idealize.ShloMosaic Idealize.SL.Sem
open Cert.InProjSampleIdeal.Proj Cert.InProjSampleReferenceIdeal.Proj Cert.InProjSampleReferenceIdeal.Read

theorem proj_sample_frame_bits : Cert.quiescent_InProjSample := fun m ρ _ => Cert.InProjSample.Gen.frame m ρ
theorem proj_sample_frame : Cert.quiescent_InProjSampleIdeal := fun m ρ _ => Cert.InProjSampleIdeal.Gen.frame m ρ
theorem proj_sample_ref_frame : Cert.quiescent_InProjSampleReferenceIdeal := by
  intro m ρ _
  exact (θ_run Cert.InProjSampleReferenceIdeal.defs _ _).mono
    (fun r h => ⟨fun c => (h c).2.2.2.2.2.2.2.2, sem_eq_zero_of_no_sems (by decide) r.2⟩)
    (Cert.InProjSampleReferenceIdeal.Value.run (F := Ideal) m ρ)
theorem proj_sample_preserves : Cert.preserves_InProjSample_InProjSampleIdeal := trivial

theorem proj_sample_equal : Cert.algebraic_InProjSampleIdeal_InProjSampleReferenceIdeal := by
  intro m ρ m' ρ' _ hagree
  refine ⟨fun c => resQ (argX m c) (argW m c), fun c => resK (argX m c) (argW m c), fun c => resV (argX m c) (argW m c),
    fun c => resK (argX m c) (argW m c), fun c => resV (argX m c) (argW m c), fun c => resN (argX m c) (argW m c),
    fun c => resZ (argX m c) (argW m c), fun c => resA (argX m c) (argW m c), ?_, ?_⟩
  · refine (θ_run Cert.InProjSampleIdeal.defs _ _).mono (fun r h c => ?_) (Cert.InProjSampleIdeal.Value.run_blocks m ρ)
    obtain ⟨h0, h1, h2, h3, h4, h5, h6, h7, ha⟩ := h c
    exact ⟨h0.trans (array5 m c), h1.trans (array6 m c), h2.trans (array7 m c), h3.trans (array8 m c), h4.trans (array9 m c),
      h5.trans (array10 m c), h6.trans (array11 m c), h7.trans (array12 m c), ha⟩
  · refine (θ_run Cert.InProjSampleReferenceIdeal.defs _ _).mono (fun r h c => ?_) (Cert.InProjSampleReferenceIdeal.Value.run (F := Ideal) m' ρ')
    obtain ⟨h0, h1, h2, h3, h4, h5, h6, h7, ha⟩ := h c
    obtain ⟨a0, a1⟩ := hagree c
    refine ⟨h0.trans ((val_main_v98_eq m' c).trans ?_), h1.trans ((val_main_v99_eq m' c).trans ?_), h2.trans ((val_main_v100_eq _ _).trans ?_),
      h3.trans ((val_main_v102_eq m' c).trans ?_), h4.trans ((val_main_v104_eq _ _).trans ?_), h5.trans ((val_main_v105_eq _ _).trans ?_),
      h6.trans ((val_main_v106_eq _ _).trans ?_), h7.trans ((val_main_v94_eq _ _).trans ?_), ha⟩
    all_goals rw [a0, a1]
    · exact ref_q (argX m c) (argW m c)
    · exact ref_k (argX m c) (argW m c)
    · exact ref_v (argX m c) (argW m c)
    · exact ref_kb (argX m c) (argW m c)
    · exact ref_vb (argX m c) (argW m c)
    · exact ref_n (argX m c) (argW m c)
    · exact ref_z (argX m c) (argW m c)
    · exact ref_a (argX m c) (argW m c)

end Cert.Proof
end
-- ==== Proof.lean ====
/- The certificate: the claims of Defs.lean, each proved in its own module and put together here.

   Proof/Attn: the differential attention of the prompt. `Softmax` and `Rows` are the arithmetic (a running softmax over
   blocks of keys is the softmax over all of them); `Block`, `Last` and `Point` read what one grid point computes; `Spec` writes
   the attention once; `Array` reads the kernel's whole array and `RefValue` the reference's; `Finite` is the precondition;
   `Equal` states the claims.

   Proof/InProj: the product of the prompt with the input weights and the rotation of its queries and keys. `Point` is one block of
   rows, `Tables` what the call is given, `Array` the eight arrays, `Reference` what the reference computes.

   Proof/MemKv: the memory's keys and values.

   Proof/OutProj, CrossQ, CrossOut, SharedExpert: the mixers' output product with the first norm, the queries of the cross-attention,
   its output product with the second norm and the router's product, the shared expert with the last norm. `Dense/Norm` is the norm of
   a row; the modules of a call have the names they have under InProj.

   Proof/InProjSample, SharedExpertSample: the same two calls at the sample's tokens.

   Proof/Experts: the routed experts' call, whose grid points are pairs of an expert and a block of 512 sorted rows. `Plan`, `Sorted`
   and `Arith` are the arithmetic of the pairs; `Words`, `Tables` and `Entries` the five tables the call prefetches; `Run`, `Data` and
   `Exact` its run, block by block; `Point` what one point computes; `Spec` writes the result once; `Rows` what the call is given;
   `Fill` the whole array, `Final` the run with it, `Reference` what the reference computes. The modules named `Bits` are the run and
   the tables of the program before the rewrites. -/
module

public import proofs.«01_k».proof.Defs
public import proofs.«01_k».proof.Proof.Attn.Equal
public import proofs.«01_k».proof.Proof.InProj.Equal
public import proofs.«01_k».proof.Proof.MemKv.Equal
public import proofs.«01_k».proof.Proof.OutProj.Equal
public import proofs.«01_k».proof.Proof.Experts.Equal
public import proofs.«01_k».proof.Proof.CrossQ.Equal
public import proofs.«01_k».proof.Proof.CrossOut.Equal
public import proofs.«01_k».proof.Proof.SharedExpert.Equal
public import proofs.«01_k».proof.Proof.SharedExpertSample.Equal
public import proofs.«01_k».proof.Proof.InProjSample.Equal

@[expose] public section

noncomputable section

namespace Cert.Proof

open Idealize.ShloMosaic Idealize.SL.Sem

/-- The kernel's masking value is rewritten to minus infinity, and nothing else. -/
theorem attn_preserves : Cert.preserves_Kernel_KernelIdeal := IdealRules.named_const.statement _ _ _ _ _ rfl

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.MemKv.Gen.facts, Cert.MemKvIdeal.Gen.facts, Cert.MemKvReferenceIdeal.Gen.facts,
    Cert.OutProj.Gen.facts, Cert.OutProjIdeal.Gen.facts, Cert.OutProjReferenceIdeal.Gen.facts,
    Cert.CrossQ.Gen.facts, Cert.CrossQIdeal.Gen.facts, Cert.CrossQReferenceIdeal.Gen.facts,
    Cert.CrossOut.Gen.facts, Cert.CrossOutIdeal.Gen.facts, Cert.CrossOutReferenceIdeal.Gen.facts,
    Cert.SharedExpert.Gen.facts, Cert.SharedExpertIdeal.Gen.facts, Cert.SharedExpertReferenceIdeal.Gen.facts,
    Cert.SharedExpertSample.Gen.facts, Cert.SharedExpertSampleIdeal.Gen.facts, Cert.SharedExpertSampleReferenceIdeal.Gen.facts,
    Cert.InProjSample.Gen.facts, Cert.InProjSampleIdeal.Gen.facts, Cert.InProjSampleReferenceIdeal.Gen.facts,
    Cert.Experts.Gen.facts, Cert.ExpertsIdeal.Gen.facts, Cert.ExpertsReferenceIdeal.Gen.facts,
    attnPre, expertsPre,
    attn_frame_bits, attn_frame, attn_frame_finite, attn_ref_frame, attn_ref_frame_finite,
    proj_frame_bits, proj_frame, proj_ref_frame, mem_frame_bits, mem_frame, mem_ref_frame,
    out_frame_bits, out_frame, out_ref_frame,
    query_frame_bits, query_frame, query_ref_frame,
    cross_frame_bits, cross_frame, cross_ref_frame,
    expert_frame_bits, expert_frame, expert_ref_frame,
    expert_sample_frame_bits, expert_sample_frame, expert_sample_ref_frame,
    proj_sample_frame_bits, proj_sample_frame, proj_sample_ref_frame,
    experts_frame_bits, experts_frame, experts_frame_named, experts_ref_frame, experts_ref_frame_named,
    attn_preserves, attn_equal, proj_preserves, proj_equal, mem_preserves, mem_equal,
    out_preserves, out_equal,
    query_preserves, query_equal,
    cross_preserves, cross_equal,
    expert_preserves, expert_equal,
    expert_sample_preserves, expert_sample_equal,
    proj_sample_preserves, proj_sample_equal,
    experts_preserves, experts_equal⟩

end Cert.Proof

end
